-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Kernel12Ideal_finite [hPre_finite : Cert.Pre_finite.Facts] (m : (ℓ : Loc Cert.Kernel12Ideal.nD Cert.Kernel12Ideal.τ Cert.Kernel12Ideal.sig) → Buf (Elt Ideal) ℓ) : Prop :=
  ∀ c : Dev Cert.Kernel12Ideal.nD,
    (Cert.Pre_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).1 = (fun _ => 1#1)
    ∧ (Cert.Pre_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.1 = (fun _ => 1#1)
    ∧ (Cert.Pre_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2.1 = (fun _ => 1#1)
    ∧ (Cert.Pre_finite.fn (F := Ideal) (m ((c.tc : Thread Cert.Kernel12Ideal.nD Cert.Kernel12Ideal.τ).loc Cert.Kernel12Ideal.main_arg0)) (m ((c.tc : Thread Cert.Kernel12Ideal.nD Cert.Kernel12Ideal.τ).loc Cert.Kernel12Ideal.main_arg1)) (m ((c.tc : Thread Cert.Kernel12Ideal.nD Cert.Kernel12Ideal.τ).loc Cert.Kernel12Ideal.main_arg2)) (m ((c.tc : Thread Cert.Kernel12Ideal.nD Cert.Kernel12Ideal.τ).loc Cert.Kernel12Ideal.main_arg3))).2.2.2 = (fun _ => 1#1)

def Pre_Reference12Ideal (m : (ℓ : Loc Cert.Reference12Ideal.nD Cert.Reference12Ideal.τ Cert.Reference12Ideal.sig) → Buf (Elt Ideal) ℓ) : Prop :=
  True

def Pre_Reference12Ideal_finite [hPre_finite : Cert.Pre_finite.Facts] (m : (ℓ : Loc Cert.Reference12Ideal.nD Cert.Reference12Ideal.τ Cert.Reference12Ideal.sig) → Buf (Elt Ideal) ℓ) : Prop :=
  ∀ c : Dev Cert.Reference12Ideal.nD,
    (Cert.Pre_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).1 = (fun _ => 1#1)
    ∧ (Cert.Pre_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.1 = (fun _ => 1#1)
    ∧ (Cert.Pre_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2.1 = (fun _ => 1#1)
    ∧ (Cert.Pre_finite.fn (F := Ideal) (m ((c.tc : Thread Cert.Reference12Ideal.nD Cert.Reference12Ideal.τ).loc Cert.Reference12Ideal.main_arg0)) (m ((c.tc : Thread Cert.Reference12Ideal.nD Cert.Reference12Ideal.τ).loc Cert.Reference12Ideal.main_arg1)) (m ((c.tc : Thread Cert.Reference12Ideal.nD Cert.Reference12Ideal.τ).loc Cert.Reference12Ideal.main_arg2)) (m ((c.tc : Thread Cert.Reference12Ideal.nD Cert.Reference12Ideal.τ).loc Cert.Reference12Ideal.main_arg3))).2.2.2 = (fun _ => 1#1)

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4)
      ∧ r.2.mem ((c.tc : Thread Cert.Kernel9.nD Cert.Kernel9.τ).loc Cert.Kernel9.main_arg5) = m ((c.tc : Thread Cert.Kernel9.nD Cert.Kernel9.τ).loc Cert.Kernel9.main_arg5)
      ∧ r.2.mem ((c.tc : Thread Cert.Kernel9.nD Cert.Kernel9.τ).loc Cert.Kernel9.main_arg6) = m ((c.tc : Thread Cert.Kernel9.nD Cert.Kernel9.τ).loc Cert.Kernel9.main_arg6)
      ∧ r.2.mem ((c.tc : Thread Cert.Kernel9.nD Cert.Kernel9.τ).loc Cert.Kernel9.main_arg7) = m ((c.tc : Thread Cert.Kernel9.nD Cert.Kernel9.τ).loc Cert.Kernel9.main_arg7))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
      ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
      ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
      ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4)
      ∧ r.2.mem ((c.tc : Thread Cert.Reference9Ideal.nD Cert.Reference9Ideal.τ).loc Cert.Reference9Ideal.main_arg5) = m ((c.tc : Thread Cert.Reference9Ideal.nD Cert.Reference9Ideal.τ).loc Cert.Reference9Ideal.main_arg5)
      ∧ r.2.mem ((c.tc : Thread Cert.Reference9Ideal.nD Cert.Reference9Ideal.τ).loc Cert.Reference9Ideal.main_arg6) = m ((c.tc : Thread Cert.Reference9Ideal.nD Cert.Reference9Ideal.τ).loc Cert.Reference9Ideal.main_arg6)
      ∧ r.2.mem ((c.tc : Thread Cert.Reference9Ideal.nD Cert.Reference9Ideal.τ).loc Cert.Reference9Ideal.main_arg7) = m ((c.tc : Thread Cert.Reference9Ideal.nD Cert.Reference9Ideal.τ).loc Cert.Reference9Ideal.main_arg7))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Kernel12Ideal_pre_finite [hKernel12Ideal : Cert.Kernel12Ideal.Facts] [hPre_finite : Cert.Pre_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal_finite m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Reference12Ideal_pre_finite [hReference12Ideal : Cert.Reference12Ideal.Facts] [hPre_finite : Cert.Pre_finite.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal_finite m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4)
      ∧ r.2.mem ((c.tc : Thread Cert.Kernel15.nD Cert.Kernel15.τ).loc Cert.Kernel15.main_arg5) = m ((c.tc : Thread Cert.Kernel15.nD Cert.Kernel15.τ).loc Cert.Kernel15.main_arg5)
      ∧ r.2.mem ((c.tc : Thread Cert.Kernel15.nD Cert.Kernel15.τ).loc Cert.Kernel15.main_arg6) = m ((c.tc : Thread Cert.Kernel15.nD Cert.Kernel15.τ).loc Cert.Kernel15.main_arg6))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
      ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
      ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4)
      ∧ r.2.mem ((c.tc : Thread Cert.Reference15Ideal.nD Cert.Reference15Ideal.τ).loc Cert.Reference15Ideal.main_arg5) = m ((c.tc : Thread Cert.Reference15Ideal.nD Cert.Reference15Ideal.τ).loc Cert.Reference15Ideal.main_arg5)
      ∧ r.2.mem ((c.tc : Thread Cert.Reference15Ideal.nD Cert.Reference15Ideal.τ).loc Cert.Reference15Ideal.main_arg6) = m ((c.tc : Thread Cert.Reference15Ideal.nD Cert.Reference15Ideal.τ).loc Cert.Reference15Ideal.main_arg6))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3)
      ∧ r.2.mem ((c.tc : Thread Cert.Kernel16.nD Cert.Kernel16.τ).loc Cert.Kernel16.main_arg4) = m ((c.tc : Thread Cert.Kernel16.nD Cert.Kernel16.τ).loc Cert.Kernel16.main_arg4)
      ∧ r.2.mem ((c.tc : Thread Cert.Kernel16.nD Cert.Kernel16.τ).loc Cert.Kernel16.main_arg5) = m ((c.tc : Thread Cert.Kernel16.nD Cert.Kernel16.τ).loc Cert.Kernel16.main_arg5)
      ∧ r.2.mem ((c.tc : Thread Cert.Kernel16.nD Cert.Kernel16.τ).loc Cert.Kernel16.main_arg6) = m ((c.tc : Thread Cert.Kernel16.nD Cert.Kernel16.τ).loc Cert.Kernel16.main_arg6))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
      ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
      ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
      ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3)
      ∧ r.2.mem ((c.tc : Thread Cert.Reference16Ideal.nD Cert.Reference16Ideal.τ).loc Cert.Reference16Ideal.main_arg4) = m ((c.tc : Thread Cert.Reference16Ideal.nD Cert.Reference16Ideal.τ).loc Cert.Reference16Ideal.main_arg4)
      ∧ r.2.mem ((c.tc : Thread Cert.Reference16Ideal.nD Cert.Reference16Ideal.τ).loc Cert.Reference16Ideal.main_arg5) = m ((c.tc : Thread Cert.Reference16Ideal.nD Cert.Reference16Ideal.τ).loc Cert.Reference16Ideal.main_arg5)
      ∧ r.2.mem ((c.tc : Thread Cert.Reference16Ideal.nD Cert.Reference16Ideal.τ).loc Cert.Reference16Ideal.main_arg6) = m ((c.tc : Thread Cert.Reference16Ideal.nD Cert.Reference16Ideal.τ).loc Cert.Reference16Ideal.main_arg6))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5)
      ∧ r.2.mem ((c.tc : Thread Cert.Kernel17.nD Cert.Kernel17.τ).loc Cert.Kernel17.main_arg6) = m ((c.tc : Thread Cert.Kernel17.nD Cert.Kernel17.τ).loc Cert.Kernel17.main_arg6))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
      ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5)
      ∧ r.2.mem ((c.tc : Thread Cert.Reference17Ideal.nD Cert.Reference17Ideal.τ).loc Cert.Reference17Ideal.main_arg6) = m ((c.tc : Thread Cert.Reference17Ideal.nD Cert.Reference17Ideal.τ).loc Cert.Reference17Ideal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)) (v5 : (c : Dev Cert.KernelIdeal.nD) → Buf (Elt Ideal) ((c.tc : Thread Cert.KernelIdeal.nD Cert.KernelIdeal.τ).loc Cert.KernelIdeal.main_v7_5)) (v6 : (c : Dev Cert.KernelIdeal.nD) → Buf (Elt Ideal) ((c.tc : Thread Cert.KernelIdeal.nD Cert.KernelIdeal.τ).loc Cert.KernelIdeal.main_v7_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_v7_5) = v5 c
          ∧ r.2.mem ((c.tc : Thread Cert.KernelIdeal.nD Cert.KernelIdeal.τ).loc Cert.KernelIdeal.main_v7_6) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v57) = v0 c
          ∧ r.2.mem ((c.tc : Thread Cert.ReferenceIdeal.nD Cert.ReferenceIdeal.τ).loc Cert.ReferenceIdeal.main_v32) = v1 c
          ∧ r.2.mem ((c.tc : Thread Cert.ReferenceIdeal.nD Cert.ReferenceIdeal.τ).loc Cert.ReferenceIdeal.main_v35) = v2 c
          ∧ r.2.mem ((c.tc : Thread Cert.ReferenceIdeal.nD Cert.ReferenceIdeal.τ).loc Cert.ReferenceIdeal.main_v40) = v3 c
          ∧ r.2.mem ((c.tc : Thread Cert.ReferenceIdeal.nD Cert.ReferenceIdeal.τ).loc Cert.ReferenceIdeal.main_v65) = v4 c
          ∧ r.2.mem ((c.tc : Thread Cert.ReferenceIdeal.nD Cert.ReferenceIdeal.τ).loc Cert.ReferenceIdeal.main_v63) = v5 c
          ∧ r.2.mem ((c.tc : Thread Cert.ReferenceIdeal.nD Cert.ReferenceIdeal.τ).loc Cert.ReferenceIdeal.main_v66) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)) (v2 : (c : Dev Cert.Kernel2Ideal.nD) → Buf (Elt Ideal) ((c.tc : Thread Cert.Kernel2Ideal.nD Cert.Kernel2Ideal.τ).loc Cert.Kernel2Ideal.main_v8_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_v8_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v16) = v1 c
          ∧ r.2.mem ((c.tc : Thread Cert.Reference2Ideal.nD Cert.Reference2Ideal.τ).loc Cert.Reference2Ideal.main_v22) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)) (v2 : (c : Dev Cert.Kernel3Ideal.nD) → Buf (Elt Ideal) ((c.tc : Thread Cert.Kernel3Ideal.nD Cert.Kernel3Ideal.τ).loc Cert.Kernel3Ideal.main_v0_2)) (v3 : (c : Dev Cert.Kernel3Ideal.nD) → Buf (Elt Ideal) ((c.tc : Thread Cert.Kernel3Ideal.nD Cert.Kernel3Ideal.τ).loc Cert.Kernel3Ideal.main_v0_3)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_v0_2) = v2 c
          ∧ r.2.mem ((c.tc : Thread Cert.Kernel3Ideal.nD Cert.Kernel3Ideal.τ).loc Cert.Kernel3Ideal.main_v0_3) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v51) = v0 c
          ∧ r.2.mem ((c.tc : Thread Cert.Reference3Ideal.nD Cert.Reference3Ideal.τ).loc Cert.Reference3Ideal.main_v26) = v1 c
          ∧ r.2.mem ((c.tc : Thread Cert.Reference3Ideal.nD Cert.Reference3Ideal.τ).loc Cert.Reference3Ideal.main_v29) = v2 c
          ∧ r.2.mem ((c.tc : Thread Cert.Reference3Ideal.nD Cert.Reference3Ideal.τ).loc Cert.Reference3Ideal.main_v34) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v8) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v19)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v19) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v24) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v19)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v19) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v24) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v6) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v20) = v0 c
          ∧ r.2.mem ((c.tc : Thread Cert.Reference8Ideal.nD Cert.Reference8Ideal.τ).loc Cert.Reference8Ideal.main_v21) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)
      ∧ m' ((c.tc : Thread Cert.Reference9Ideal.nD Cert.Reference9Ideal.τ).loc Cert.Reference9Ideal.main_arg5) = m ((c.tc : Thread Cert.Kernel9Ideal.nD Cert.Kernel9Ideal.τ).loc Cert.Kernel9Ideal.main_arg5)
      ∧ m' ((c.tc : Thread Cert.Reference9Ideal.nD Cert.Reference9Ideal.τ).loc Cert.Reference9Ideal.main_arg6) = m ((c.tc : Thread Cert.Kernel9Ideal.nD Cert.Kernel9Ideal.τ).loc Cert.Kernel9Ideal.main_arg6)
      ∧ m' ((c.tc : Thread Cert.Reference9Ideal.nD Cert.Reference9Ideal.τ).loc Cert.Reference9Ideal.main_arg7) = m ((c.tc : Thread Cert.Kernel9Ideal.nD Cert.Kernel9Ideal.τ).loc Cert.Kernel9Ideal.main_arg7)) →
    ∃ (v0 : (c : Dev Cert.Kernel9Ideal.nD) → Buf (Elt Ideal) ((c.tc : Thread Cert.Kernel9Ideal.nD Cert.Kernel9Ideal.τ).loc Cert.Kernel9Ideal.main_v0_0)) (v1 : (c : Dev Cert.Kernel9Ideal.nD) → Buf (Elt Ideal) ((c.tc : Thread Cert.Kernel9Ideal.nD Cert.Kernel9Ideal.τ).loc Cert.Kernel9Ideal.main_v0_1)) (v2 : (c : Dev Cert.Kernel9Ideal.nD) → Buf (Elt Ideal) ((c.tc : Thread Cert.Kernel9Ideal.nD Cert.Kernel9Ideal.τ).loc Cert.Kernel9Ideal.main_v0_2)) (v3 : (c : Dev Cert.Kernel9Ideal.nD) → Buf (Elt Ideal) ((c.tc : Thread Cert.Kernel9Ideal.nD Cert.Kernel9Ideal.τ).loc Cert.Kernel9Ideal.main_v0_3)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0_0) = v0 c
          ∧ r.2.mem ((c.tc : Thread Cert.Kernel9Ideal.nD Cert.Kernel9Ideal.τ).loc Cert.Kernel9Ideal.main_v0_1) = v1 c
          ∧ r.2.mem ((c.tc : Thread Cert.Kernel9Ideal.nD Cert.Kernel9Ideal.τ).loc Cert.Kernel9Ideal.main_v0_2) = v2 c
          ∧ r.2.mem ((c.tc : Thread Cert.Kernel9Ideal.nD Cert.Kernel9Ideal.τ).loc Cert.Kernel9Ideal.main_v0_3) = v3 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4)
          ∧ r.2.mem ((c.tc : Thread Cert.Kernel9Ideal.nD Cert.Kernel9Ideal.τ).loc Cert.Kernel9Ideal.main_arg5) = m ((c.tc : Thread Cert.Kernel9Ideal.nD Cert.Kernel9Ideal.τ).loc Cert.Kernel9Ideal.main_arg5)
          ∧ r.2.mem ((c.tc : Thread Cert.Kernel9Ideal.nD Cert.Kernel9Ideal.τ).loc Cert.Kernel9Ideal.main_arg6) = m ((c.tc : Thread Cert.Kernel9Ideal.nD Cert.Kernel9Ideal.τ).loc Cert.Kernel9Ideal.main_arg6)
          ∧ r.2.mem ((c.tc : Thread Cert.Kernel9Ideal.nD Cert.Kernel9Ideal.τ).loc Cert.Kernel9Ideal.main_arg7) = m ((c.tc : Thread Cert.Kernel9Ideal.nD Cert.Kernel9Ideal.τ).loc Cert.Kernel9Ideal.main_arg7))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_v24) = v1 c
          ∧ r.2.mem ((c.tc : Thread Cert.Reference9Ideal.nD Cert.Reference9Ideal.τ).loc Cert.Reference9Ideal.main_v27) = v2 c
          ∧ r.2.mem ((c.tc : Thread Cert.Reference9Ideal.nD Cert.Reference9Ideal.τ).loc Cert.Reference9Ideal.main_v28) = v3 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4)
          ∧ r.2.mem ((c.tc : Thread Cert.Reference9Ideal.nD Cert.Reference9Ideal.τ).loc Cert.Reference9Ideal.main_arg5) = m' ((c.tc : Thread Cert.Reference9Ideal.nD Cert.Reference9Ideal.τ).loc Cert.Reference9Ideal.main_arg5)
          ∧ r.2.mem ((c.tc : Thread Cert.Reference9Ideal.nD Cert.Reference9Ideal.τ).loc Cert.Reference9Ideal.main_arg6) = m' ((c.tc : Thread Cert.Reference9Ideal.nD Cert.Reference9Ideal.τ).loc Cert.Reference9Ideal.main_arg6)
          ∧ r.2.mem ((c.tc : Thread Cert.Reference9Ideal.nD Cert.Reference9Ideal.τ).loc Cert.Reference9Ideal.main_arg7) = m' ((c.tc : Thread Cert.Reference9Ideal.nD Cert.Reference9Ideal.τ).loc Cert.Reference9Ideal.main_arg7))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0_0)) (v1 : (c : Dev Cert.Kernel10Ideal.nD) → Buf (Elt Ideal) ((c.tc : Thread Cert.Kernel10Ideal.nD Cert.Kernel10Ideal.τ).loc Cert.Kernel10Ideal.main_v0_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0_0) = v0 c
          ∧ r.2.mem ((c.tc : Thread Cert.Kernel10Ideal.nD Cert.Kernel10Ideal.τ).loc Cert.Kernel10Ideal.main_v0_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v7) = v0 c
          ∧ r.2.mem ((c.tc : Thread Cert.Reference10Ideal.nD Cert.Reference10Ideal.τ).loc Cert.Reference10Ideal.main_v8) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v0_0)) (v1 : (c : Dev Cert.Kernel11Ideal.nD) → Buf (Elt Ideal) ((c.tc : Thread Cert.Kernel11Ideal.nD Cert.Kernel11Ideal.τ).loc Cert.Kernel11Ideal.main_v0_1)) (v2 : (c : Dev Cert.Kernel11Ideal.nD) → Buf (Elt Ideal) ((c.tc : Thread Cert.Kernel11Ideal.nD Cert.Kernel11Ideal.τ).loc Cert.Kernel11Ideal.main_v0_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0_0) = v0 c
          ∧ r.2.mem ((c.tc : Thread Cert.Kernel11Ideal.nD Cert.Kernel11Ideal.τ).loc Cert.Kernel11Ideal.main_v0_1) = v1 c
          ∧ r.2.mem ((c.tc : Thread Cert.Kernel11Ideal.nD Cert.Kernel11Ideal.τ).loc Cert.Kernel11Ideal.main_v0_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v22) = v0 c
          ∧ r.2.mem ((c.tc : Thread Cert.Reference11Ideal.nD Cert.Reference11Ideal.τ).loc Cert.Reference11Ideal.main_v23) = v1 c
          ∧ r.2.mem ((c.tc : Thread Cert.Reference11Ideal.nD Cert.Reference11Ideal.τ).loc Cert.Reference11Ideal.main_v24) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  IdealRules.named_const.Statement Cert.Kernel12Ideal.κ "mask" .f32 0xF149F2CA#32 ⊥

def algebraic_Kernel12Ideal_Reference12Ideal_pre_finite [hKernel12Ideal : Cert.Kernel12Ideal.Facts] [hReference12Ideal : Cert.Reference12Ideal.Facts] [hPre_finite : Cert.Pre_finite.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal_finite m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)) →
    ∃ (v0 : (c : Dev Cert.Kernel12Ideal.nD) → Buf (Elt Ideal) ((c.tc : Thread Cert.Kernel12Ideal.nD Cert.Kernel12Ideal.τ).loc Cert.Kernel12Ideal.main_v24)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v24) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v94) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)) (v2 : (c : Dev Cert.Kernel13Ideal.nD) → Buf (Elt Ideal) ((c.tc : Thread Cert.Kernel13Ideal.nD Cert.Kernel13Ideal.τ).loc Cert.Kernel13Ideal.main_v0_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_v0_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v23) = v0 c
          ∧ r.2.mem ((c.tc : Thread Cert.Reference13Ideal.nD Cert.Reference13Ideal.τ).loc Cert.Reference13Ideal.main_v4) = v1 c
          ∧ r.2.mem ((c.tc : Thread Cert.Reference13Ideal.nD Cert.Reference13Ideal.τ).loc Cert.Reference13Ideal.main_v10) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v8) = v0 c
          ∧ r.2.mem ((c.tc : Thread Cert.Reference14Ideal.nD Cert.Reference14Ideal.τ).loc Cert.Reference14Ideal.main_v32) = v1 c
          ∧ r.2.mem ((c.tc : Thread Cert.Reference14Ideal.nD Cert.Reference14Ideal.τ).loc Cert.Reference14Ideal.main_v13) = v2 c
          ∧ r.2.mem ((c.tc : Thread Cert.Reference14Ideal.nD Cert.Reference14Ideal.τ).loc Cert.Reference14Ideal.main_v19) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)
      ∧ m' ((c.tc : Thread Cert.Reference15Ideal.nD Cert.Reference15Ideal.τ).loc Cert.Reference15Ideal.main_arg5) = m ((c.tc : Thread Cert.Kernel15Ideal.nD Cert.Kernel15Ideal.τ).loc Cert.Kernel15Ideal.main_arg5)
      ∧ m' ((c.tc : Thread Cert.Reference15Ideal.nD Cert.Reference15Ideal.τ).loc Cert.Reference15Ideal.main_arg6) = m ((c.tc : Thread Cert.Kernel15Ideal.nD Cert.Kernel15Ideal.τ).loc Cert.Kernel15Ideal.main_arg6)) →
    ∃ (v0 : (c : Dev Cert.Kernel15Ideal.nD) → Buf (Elt Ideal) ((c.tc : Thread Cert.Kernel15Ideal.nD Cert.Kernel15Ideal.τ).loc Cert.Kernel15Ideal.main_v0_0)) (v1 : (c : Dev Cert.Kernel15Ideal.nD) → Buf (Elt Ideal) ((c.tc : Thread Cert.Kernel15Ideal.nD Cert.Kernel15Ideal.τ).loc Cert.Kernel15Ideal.main_v0_1)) (v2 : (c : Dev Cert.Kernel15Ideal.nD) → Buf (Elt Ideal) ((c.tc : Thread Cert.Kernel15Ideal.nD Cert.Kernel15Ideal.τ).loc Cert.Kernel15Ideal.main_v0_2)) (v3 : (c : Dev Cert.Kernel15Ideal.nD) → Buf (Elt Ideal) ((c.tc : Thread Cert.Kernel15Ideal.nD Cert.Kernel15Ideal.τ).loc Cert.Kernel15Ideal.main_v0_3)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0_0) = v0 c
          ∧ r.2.mem ((c.tc : Thread Cert.Kernel15Ideal.nD Cert.Kernel15Ideal.τ).loc Cert.Kernel15Ideal.main_v0_1) = v1 c
          ∧ r.2.mem ((c.tc : Thread Cert.Kernel15Ideal.nD Cert.Kernel15Ideal.τ).loc Cert.Kernel15Ideal.main_v0_2) = v2 c
          ∧ r.2.mem ((c.tc : Thread Cert.Kernel15Ideal.nD Cert.Kernel15Ideal.τ).loc Cert.Kernel15Ideal.main_v0_3) = v3 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4)
          ∧ r.2.mem ((c.tc : Thread Cert.Kernel15Ideal.nD Cert.Kernel15Ideal.τ).loc Cert.Kernel15Ideal.main_arg5) = m ((c.tc : Thread Cert.Kernel15Ideal.nD Cert.Kernel15Ideal.τ).loc Cert.Kernel15Ideal.main_arg5)
          ∧ r.2.mem ((c.tc : Thread Cert.Kernel15Ideal.nD Cert.Kernel15Ideal.τ).loc Cert.Kernel15Ideal.main_arg6) = m ((c.tc : Thread Cert.Kernel15Ideal.nD Cert.Kernel15Ideal.τ).loc Cert.Kernel15Ideal.main_arg6))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v8) = v0 c
          ∧ r.2.mem ((c.tc : Thread Cert.Reference15Ideal.nD Cert.Reference15Ideal.τ).loc Cert.Reference15Ideal.main_v32) = v1 c
          ∧ r.2.mem ((c.tc : Thread Cert.Reference15Ideal.nD Cert.Reference15Ideal.τ).loc Cert.Reference15Ideal.main_v13) = v2 c
          ∧ r.2.mem ((c.tc : Thread Cert.Reference15Ideal.nD Cert.Reference15Ideal.τ).loc Cert.Reference15Ideal.main_v19) = v3 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4)
          ∧ r.2.mem ((c.tc : Thread Cert.Reference15Ideal.nD Cert.Reference15Ideal.τ).loc Cert.Reference15Ideal.main_arg5) = m' ((c.tc : Thread Cert.Reference15Ideal.nD Cert.Reference15Ideal.τ).loc Cert.Reference15Ideal.main_arg5)
          ∧ r.2.mem ((c.tc : Thread Cert.Reference15Ideal.nD Cert.Reference15Ideal.τ).loc Cert.Reference15Ideal.main_arg6) = m' ((c.tc : Thread Cert.Reference15Ideal.nD Cert.Reference15Ideal.τ).loc Cert.Reference15Ideal.main_arg6))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)
      ∧ m' ((c.tc : Thread Cert.Reference16Ideal.nD Cert.Reference16Ideal.τ).loc Cert.Reference16Ideal.main_arg4) = m ((c.tc : Thread Cert.Kernel16Ideal.nD Cert.Kernel16Ideal.τ).loc Cert.Kernel16Ideal.main_arg4)
      ∧ m' ((c.tc : Thread Cert.Reference16Ideal.nD Cert.Reference16Ideal.τ).loc Cert.Reference16Ideal.main_arg5) = m ((c.tc : Thread Cert.Kernel16Ideal.nD Cert.Kernel16Ideal.τ).loc Cert.Kernel16Ideal.main_arg5)
      ∧ m' ((c.tc : Thread Cert.Reference16Ideal.nD Cert.Reference16Ideal.τ).loc Cert.Reference16Ideal.main_arg6) = m ((c.tc : Thread Cert.Kernel16Ideal.nD Cert.Kernel16Ideal.τ).loc Cert.Kernel16Ideal.main_arg6)) →
    ∃ (v0 : (c : Dev Cert.Kernel16Ideal.nD) → Buf (Elt Ideal) ((c.tc : Thread Cert.Kernel16Ideal.nD Cert.Kernel16Ideal.τ).loc Cert.Kernel16Ideal.main_v0_0)) (v1 : (c : Dev Cert.Kernel16Ideal.nD) → Buf (Elt Ideal) ((c.tc : Thread Cert.Kernel16Ideal.nD Cert.Kernel16Ideal.τ).loc Cert.Kernel16Ideal.main_v0_1)) (v2 : (c : Dev Cert.Kernel16Ideal.nD) → Buf (Elt Ideal) ((c.tc : Thread Cert.Kernel16Ideal.nD Cert.Kernel16Ideal.τ).loc Cert.Kernel16Ideal.main_v0_2)) (v3 : (c : Dev Cert.Kernel16Ideal.nD) → Buf (Elt Ideal) ((c.tc : Thread Cert.Kernel16Ideal.nD Cert.Kernel16Ideal.τ).loc Cert.Kernel16Ideal.main_v0_3)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0_0) = v0 c
          ∧ r.2.mem ((c.tc : Thread Cert.Kernel16Ideal.nD Cert.Kernel16Ideal.τ).loc Cert.Kernel16Ideal.main_v0_1) = v1 c
          ∧ r.2.mem ((c.tc : Thread Cert.Kernel16Ideal.nD Cert.Kernel16Ideal.τ).loc Cert.Kernel16Ideal.main_v0_2) = v2 c
          ∧ r.2.mem ((c.tc : Thread Cert.Kernel16Ideal.nD Cert.Kernel16Ideal.τ).loc Cert.Kernel16Ideal.main_v0_3) = v3 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3)
          ∧ r.2.mem ((c.tc : Thread Cert.Kernel16Ideal.nD Cert.Kernel16Ideal.τ).loc Cert.Kernel16Ideal.main_arg4) = m ((c.tc : Thread Cert.Kernel16Ideal.nD Cert.Kernel16Ideal.τ).loc Cert.Kernel16Ideal.main_arg4)
          ∧ r.2.mem ((c.tc : Thread Cert.Kernel16Ideal.nD Cert.Kernel16Ideal.τ).loc Cert.Kernel16Ideal.main_arg5) = m ((c.tc : Thread Cert.Kernel16Ideal.nD Cert.Kernel16Ideal.τ).loc Cert.Kernel16Ideal.main_arg5)
          ∧ r.2.mem ((c.tc : Thread Cert.Kernel16Ideal.nD Cert.Kernel16Ideal.τ).loc Cert.Kernel16Ideal.main_arg6) = m ((c.tc : Thread Cert.Kernel16Ideal.nD Cert.Kernel16Ideal.τ).loc Cert.Kernel16Ideal.main_arg6))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v8) = v0 c
          ∧ r.2.mem ((c.tc : Thread Cert.Reference16Ideal.nD Cert.Reference16Ideal.τ).loc Cert.Reference16Ideal.main_v32) = v1 c
          ∧ r.2.mem ((c.tc : Thread Cert.Reference16Ideal.nD Cert.Reference16Ideal.τ).loc Cert.Reference16Ideal.main_v13) = v2 c
          ∧ r.2.mem ((c.tc : Thread Cert.Reference16Ideal.nD Cert.Reference16Ideal.τ).loc Cert.Reference16Ideal.main_v19) = v3 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3)
          ∧ r.2.mem ((c.tc : Thread Cert.Reference16Ideal.nD Cert.Reference16Ideal.τ).loc Cert.Reference16Ideal.main_arg4) = m' ((c.tc : Thread Cert.Reference16Ideal.nD Cert.Reference16Ideal.τ).loc Cert.Reference16Ideal.main_arg4)
          ∧ r.2.mem ((c.tc : Thread Cert.Reference16Ideal.nD Cert.Reference16Ideal.τ).loc Cert.Reference16Ideal.main_arg5) = m' ((c.tc : Thread Cert.Reference16Ideal.nD Cert.Reference16Ideal.τ).loc Cert.Reference16Ideal.main_arg5)
          ∧ r.2.mem ((c.tc : Thread Cert.Reference16Ideal.nD Cert.Reference16Ideal.τ).loc Cert.Reference16Ideal.main_arg6) = m' ((c.tc : Thread Cert.Reference16Ideal.nD Cert.Reference16Ideal.τ).loc Cert.Reference16Ideal.main_arg6))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)
      ∧ m' ((c.tc : Thread Cert.Reference17Ideal.nD Cert.Reference17Ideal.τ).loc Cert.Reference17Ideal.main_arg6) = m ((c.tc : Thread Cert.Kernel17Ideal.nD Cert.Kernel17Ideal.τ).loc Cert.Kernel17Ideal.main_arg6)) →
    ∃ (v0 : (c : Dev Cert.Kernel17Ideal.nD) → Buf (Elt Ideal) ((c.tc : Thread Cert.Kernel17Ideal.nD Cert.Kernel17Ideal.τ).loc Cert.Kernel17Ideal.main_v0_0)) (v1 : (c : Dev Cert.Kernel17Ideal.nD) → Buf (Elt Ideal) ((c.tc : Thread Cert.Kernel17Ideal.nD Cert.Kernel17Ideal.τ).loc Cert.Kernel17Ideal.main_v0_1)) (v2 : (c : Dev Cert.Kernel17Ideal.nD) → Buf (Elt Ideal) ((c.tc : Thread Cert.Kernel17Ideal.nD Cert.Kernel17Ideal.τ).loc Cert.Kernel17Ideal.main_v0_2)) (v3 : (c : Dev Cert.Kernel17Ideal.nD) → Buf (Elt Ideal) ((c.tc : Thread Cert.Kernel17Ideal.nD Cert.Kernel17Ideal.τ).loc Cert.Kernel17Ideal.main_v0_3)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0_0) = v0 c
          ∧ r.2.mem ((c.tc : Thread Cert.Kernel17Ideal.nD Cert.Kernel17Ideal.τ).loc Cert.Kernel17Ideal.main_v0_1) = v1 c
          ∧ r.2.mem ((c.tc : Thread Cert.Kernel17Ideal.nD Cert.Kernel17Ideal.τ).loc Cert.Kernel17Ideal.main_v0_2) = v2 c
          ∧ r.2.mem ((c.tc : Thread Cert.Kernel17Ideal.nD Cert.Kernel17Ideal.τ).loc Cert.Kernel17Ideal.main_v0_3) = v3 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5)
          ∧ r.2.mem ((c.tc : Thread Cert.Kernel17Ideal.nD Cert.Kernel17Ideal.τ).loc Cert.Kernel17Ideal.main_arg6) = m ((c.tc : Thread Cert.Kernel17Ideal.nD Cert.Kernel17Ideal.τ).loc Cert.Kernel17Ideal.main_arg6))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v8) = v0 c
          ∧ r.2.mem ((c.tc : Thread Cert.Reference17Ideal.nD Cert.Reference17Ideal.τ).loc Cert.Reference17Ideal.main_v32) = v1 c
          ∧ r.2.mem ((c.tc : Thread Cert.Reference17Ideal.nD Cert.Reference17Ideal.τ).loc Cert.Reference17Ideal.main_v13) = v2 c
          ∧ r.2.mem ((c.tc : Thread Cert.Reference17Ideal.nD Cert.Reference17Ideal.τ).loc Cert.Reference17Ideal.main_v19) = v3 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5)
          ∧ r.2.mem ((c.tc : Thread Cert.Reference17Ideal.nD Cert.Reference17Ideal.τ).loc Cert.Reference17Ideal.main_arg6) = m' ((c.tc : Thread Cert.Reference17Ideal.nD Cert.Reference17Ideal.τ).loc Cert.Reference17Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hPre_finite : Cert.Pre_finite.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Kernel12Ideal_pre_finite (hKernel12Ideal := hKernel12Ideal) (hPre_finite := hPre_finite)
    ∧ quiescent_Reference12Ideal (hReference12Ideal := hReference12Ideal)
    ∧ quiescent_Reference12Ideal_pre_finite (hReference12Ideal := hReference12Ideal) (hPre_finite := hPre_finite)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal_pre_finite (hKernel12Ideal := hKernel12Ideal) (hReference12Ideal := hReference12Ideal) (hPre_finite := hPre_finite)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
-- ==== Pre_finite.lean ====
abbrev S4096x3072 : Shape := ⟨2, ![4096, 3072]⟩
abbrev S8x257 : Shape := ⟨2, ![8, 257]⟩
abbrev S1x64 : Shape := ⟨2, ![1, 64]⟩
abbrev S_ : Shape := ⟨0, ![]⟩

class Facts : Prop where
  bitsLt_bf16_f32 : FTy.bits .bf16 < FTy.bits .f32
  bcast_S_S4096x3072 : S_.BroadcastsInDim S4096x3072 (![] : Fin 0 → Fin S4096x3072.rank)
  bcast_S_S8x257 : S_.BroadcastsInDim S8x257 (![] : Fin 0 → Fin S8x257.rank)
  bcast_S_S1x64 : S_.BroadcastsInDim S1x64 (![] : Fin 0 → Fin S1x64.rank)

variable [Facts]

def fn {F : FTy → Type} [FloatOps F] (main_arg0 : FVec F S4096x3072 .bf16) (main_arg1 : FVec F S8x257 .f32) (main_arg2 : FVec F S1x64 .f32) (main_arg3 : FVec F S1x64 .f32) : IVec S4096x3072 1 × IVec S8x257 1 × IVec S1x64 1 × IVec S1x64 1 :=
  let main_v0 : FVec F S4096x3072 .f32 := (extf .f32 · bitsLt_bf16_f32) main_arg0
  let main_v1 : FVec F S4096x3072 .f32 := Host.absf main_v0
  let main_cst : FVec F S_ .f32 := constant S_ .f32 0x7F800000#32
  let main_v2 : FVec F S4096x3072 .f32 := broadcastInDim S4096x3072 ![] bcast_S_S4096x3072 main_cst
  let main_v3 : IVec S4096x3072 1 := cmpf .olt main_v1 main_v2
  let main_v4 : FVec F S8x257 .f32 := Host.absf main_arg1
  let main_cst_0 : FVec F S_ .f32 := constant S_ .f32 0x7F800000#32
  let main_v5 : FVec F S8x257 .f32 := broadcastInDim S8x257 ![] bcast_S_S8x257 main_cst_0
  let main_v6 : IVec S8x257 1 := cmpf .olt main_v4 main_v5
  let main_v7 : FVec F S1x64 .f32 := Host.absf main_arg2
  let main_cst_1 : FVec F S_ .f32 := constant S_ .f32 0x7F800000#32
  let main_v8 : FVec F S1x64 .f32 := broadcastInDim S1x64 ![] bcast_S_S1x64 main_cst_1
  let main_v9 : IVec S1x64 1 := cmpf .olt main_v7 main_v8
  let main_v10 : FVec F S1x64 .f32 := Host.absf main_arg3
  let main_cst_2 : FVec F S_ .f32 := constant S_ .f32 0x7F800000#32
  let main_v11 : FVec F S1x64 .f32 := broadcastInDim S1x64 ![] bcast_S_S1x64 main_cst_2
  let main_v12 : IVec S1x64 1 := cmpf .olt main_v10 main_v11
  (main_v3, main_v6, main_v9, main_v12)
-- ==== Kernel.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4096x4096 : Shape := ⟨2, ![4096, 4096]⟩
abbrev S512x4096 : Shape := ⟨2, ![512, 4096]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 24
  | .vmem => 24
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .f32⟩
  | .hbm, ⟨9, _⟩ => ⟨S4096x4096, .bf16⟩
  | .hbm, ⟨10, _⟩ => ⟨S4096x1024, .f32⟩
  | .hbm, ⟨11, _⟩ => ⟨S1024x1024, .f32⟩
  | .hbm, ⟨12, _⟩ => ⟨S4096x1024, .f32⟩
  | .hbm, ⟨13, _⟩ => ⟨S4096x1024, .bf16⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S4096x1024, .bf16⟩
  | .hbm, ⟨22, _⟩ => ⟨S1x1024, .f32⟩
  | .hbm, ⟨23, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S1024x4096, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S1024x1024, .bf16⟩
  | .local _ .vmem, ⟨14, _⟩ => ⟨S512x1024, .f32⟩
  | .local _ .vmem, ⟨15, _⟩ => ⟨S512x1024, .f32⟩
  | .local _ .vmem, ⟨16, _⟩ => ⟨S1x1024, .f32⟩
  | .local _ .vmem, ⟨17, _⟩ => ⟨S1x1024, .f32⟩
  | .local _ .vmem, ⟨18, _⟩ => ⟨S1x1024, .f32⟩
  | .local _ .vmem, ⟨19, _⟩ => ⟨S512x1024, .bf16⟩
  | .local _ .vmem, ⟨20, _⟩ => ⟨S512x1024, .bf16⟩
  | .local _ .vmem, ⟨21, _⟩ => ⟨S1x1024, .f32⟩
  | .local _ .vmem, ⟨22, _⟩ => ⟨S512x1024, .bf16⟩
  | .local _ .vmem, ⟨23, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v7_5 : Ref sig .tc := ⟨.hbm, 22, rfl⟩
abbrev main_v7_6 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg12_0 : Ref sig .tc := ⟨.vmem, 17, rfl⟩
abbrev cc0_stg13_0 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14
abbrev cc0_sem10_1 : DmaSem sig := 15
abbrev cc0_sem11_0 : DmaSem sig := 16
abbrev cc0_sem12_0 : DmaSem sig := 17
abbrev cc0_sem13_0 : DmaSem sig := 18
abbrev cc0_sem14_0 : DmaSem sig := 19
abbrev cc0_sem14_1 : DmaSem sig := 20
abbrev cc0_sem15_0 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v36 : BitVec 1 := Scalar.cmpi .eq arg0 c0_i32
  let v39 : BitVec 32 := Scalar.extui v36
  let c0_i32_20 : BitVec 32 := 0#32
  let v40 : BitVec 1 := Scalar.cmpi .ne v39 c0_i32_20
  v40

def k0_cond2 (i : grid0.Coords) : BitVec 1 :=
  let arg0 : BitVec 32 := BitVec.ofNat 32 (i 0).val
  let c0_i32 : BitVec 32 := 0#32
  let v36 : BitVec 1 := Scalar.cmpi .eq arg0 c0_i32
  let v_true : BitVec 1 := 1#1
  let v41 : BitVec 1 := Scalar.xori v36 v_true
  let v42 : BitVec 32 := Scalar.extui v41
  let c0_i32_21 : BitVec 32 := 0#32
  let v43 : BitVec 1 := Scalar.cmpi .ne v42 c0_i32_21
  v43

def k0_cond3 (i : grid0.Coords) : BitVec 1 :=
  let arg0 : BitVec 32 := BitVec.ofNat 32 (i 0).val
  let c0_i32 : BitVec 32 := 0#32
  let v36 : BitVec 1 := Scalar.cmpi .eq arg0 c0_i32
  let v49 : BitVec 32 := Scalar.extui v36
  let c0_i32_23 : BitVec 32 := 0#32
  let v50 : BitVec 1 := Scalar.cmpi .ne v49 c0_i32_23
  v50

def k0_cond4 (i : grid0.Coords) : BitVec 1 :=
  let arg0 : BitVec 32 := BitVec.ofNat 32 (i 0).val
  let c0_i32 : BitVec 32 := 0#32
  let v36 : BitVec 1 := Scalar.cmpi .eq arg0 c0_i32
  let true_24 : BitVec 1 := 1#1
  let v51 : BitVec 1 := Scalar.xori v36 true_24
  let v52 : BitVec 32 := Scalar.extui v51
  let c0_i32_25 : BitVec 32 := 0#32
  let v53 : BitVec 1 := Scalar.cmpi .ne v52 c0_i32_25
  v53

def k0_cond5 (i : grid0.Coords) : BitVec 1 :=
  let arg0 : BitVec 32 := BitVec.ofNat 32 (i 0).val
  let c0_i32 : BitVec 32 := 0#32
  let v36 : BitVec 1 := Scalar.cmpi .eq arg0 c0_i32
  let v57 : BitVec 32 := Scalar.extui v36
  let c0_i32_27 : BitVec 32 := 0#32
  let v58 : BitVec 1 := Scalar.cmpi .ne v57 c0_i32_27
  v58

def k0_cond6 (i : grid0.Coords) : BitVec 1 :=
  let arg0 : BitVec 32 := BitVec.ofNat 32 (i 0).val
  let c0_i32 : BitVec 32 := 0#32
  let v36 : BitVec 1 := Scalar.cmpi .eq arg0 c0_i32
  let true_28 : BitVec 1 := 1#1
  let v59 : BitVec 1 := Scalar.xori v36 true_28
  let v60 : BitVec 32 := Scalar.extui v59
  let c0_i32_29 : BitVec 32 := 0#32
  let v61 : BitVec 1 := Scalar.cmpi .ne v60 c0_i32_29
  v61

def k0_cond7 (i : grid0.Coords) : BitVec 1 :=
  let arg0 : BitVec 32 := BitVec.ofNat 32 (i 0).val
  let c0_i32 : BitVec 32 := 0#32
  let v36 : BitVec 1 := Scalar.cmpi .eq arg0 c0_i32
  let v73 : BitVec 32 := Scalar.extui v36
  let c0_i32_37 : BitVec 32 := 0#32
  let v74 : BitVec 1 := Scalar.cmpi .ne v73 c0_i32_37
  v74

def k0_cond8 (i : grid0.Coords) : BitVec 1 :=
  let arg0 : BitVec 32 := BitVec.ofNat 32 (i 0).val
  let c0_i32 : BitVec 32 := 0#32
  let v36 : BitVec 1 := Scalar.cmpi .eq arg0 c0_i32
  let true_38 : BitVec 1 := 1#1
  let v75 : BitVec 1 := Scalar.xori v36 true_38
  let v76 : BitVec 32 := Scalar.extui v75
  let c0_i32_39 : BitVec 32 := 0#32
  let v77 : BitVec 1 := Scalar.cmpi .ne v76 c0_i32_39
  v77

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x1024 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== ReferenceIdeal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 89
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .f32⟩
  | .hbm, ⟨9, _⟩ => ⟨S4096x4096, .bf16⟩
  | .hbm, ⟨10, _⟩ => ⟨S1024x1024, .f32⟩
  | .hbm, ⟨11, _⟩ => ⟨S1024x4096, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S4096x1024, .f32⟩
  | .hbm, ⟨18, _⟩ => ⟨S_, .f32⟩
  | .hbm, ⟨19, _⟩ => ⟨S4096, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S_, .f32⟩
  | .hbm, ⟨25, _⟩ => ⟨S4096x1, .f32⟩
  | .hbm, ⟨26, _⟩ => ⟨S4096x1, .f32⟩
  | .hbm, ⟨27, _⟩ => ⟨S4096x1, .f32⟩
  | .hbm, ⟨28, _⟩ => ⟨S4096x1, .f32⟩
  | .hbm, ⟨29, _⟩ => ⟨S_, .f32⟩
  | .hbm, ⟨30, _⟩ => ⟨S4096x1, .f32⟩
  | .hbm, ⟨31, _⟩ => ⟨S4096x1, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S4096x1024, .f32⟩
  | .hbm, ⟨40, _⟩ => ⟨S4096x1024, .f32⟩
  | .hbm, ⟨41, _⟩ => ⟨S4096x1024, .f32⟩
  | .hbm, ⟨42, _⟩ => ⟨S4096x1024, .f32⟩
  | .hbm, ⟨43, _⟩ => ⟨S4096x4096, .f32⟩
  | .hbm, ⟨44, _⟩ => ⟨S4096x4096, .f32⟩
  | .hbm, ⟨45, _⟩ => ⟨S4096x1024, .f32⟩
  | .hbm, ⟨46, _⟩ => ⟨S_, .f32⟩
  | .hbm, ⟨47, _⟩ => ⟨S1024, .f32⟩
  | .hbm, ⟨48, _⟩ => ⟨S1x1024, .f32⟩
  | .hbm, ⟨49, _⟩ => ⟨S4096x1024, .f32⟩
  | .hbm, ⟨50, _⟩ => ⟨S_, .f32⟩
  | .hbm, ⟨51, _⟩ => ⟨S1024, .f32⟩
  | .hbm, ⟨52, _⟩ => ⟨S1x1024, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S_, .f32⟩
  | .hbm, ⟨57, _⟩ => ⟨S1024, .f32⟩
  | .hbm, ⟨58, _⟩ => ⟨S1x1024, .f32⟩
  | .hbm, ⟨59, _⟩ => ⟨S4096x1024, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096, .f32⟩
  | .hbm, ⟨64, _⟩ => ⟨S4096x1, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1, .f32⟩
  | .hbm, ⟨69, _⟩ => ⟨S_, .f32⟩
  | .hbm, ⟨70, _⟩ => ⟨S4096x1, .f32⟩
  | .hbm, ⟨71, _⟩ => ⟨S4096x1, .f32⟩
  | .hbm, ⟨72, _⟩ => ⟨S_, .f32⟩
  | .hbm, ⟨73, _⟩ => ⟨S4096, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S4096x1024, .f32⟩
  | .hbm, ⟨81, _⟩ => ⟨S4096x1024, .f32⟩
  | .hbm, ⟨82, _⟩ => ⟨S4096x1024, .f32⟩
  | .hbm, ⟨83, _⟩ => ⟨S_, .f32⟩
  | .hbm, ⟨84, _⟩ => ⟨S1024, .f32⟩
  | .hbm, ⟨85, _⟩ => ⟨S1x1024, .f32⟩
  | .hbm, ⟨86, _⟩ => ⟨S4096x1024, .f32⟩
  | .hbm, ⟨87, _⟩ => ⟨S4096x1024, .bf16⟩
  | .hbm, ⟨88, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_2 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_4 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_cst_7 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_cst_8 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_10 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== Kernel2.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S512x1024 : Shape := ⟨2, ![512, 1024]⟩
abbrev S512x4096 : Shape := ⟨2, ![512, 4096]⟩
abbrev S1024 : Shape := ⟨1, ![1024]⟩

abbrev nBuf : Space → Nat
  | .hbm => 17
  | .vmem => 13
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x4096, .bf16⟩
  | .hbm, ⟨10, _⟩ => ⟨S4096x4096, .f32⟩
  | .hbm, ⟨11, _⟩ => ⟨S4096x1024, .f32⟩
  | .hbm, ⟨12, _⟩ => ⟨S4096x1024, .f32⟩
  | .hbm, ⟨13, _⟩ => ⟨S4096x1024, .bf16⟩
  | .hbm, ⟨14, _⟩ => ⟨S4096x1024, .bf16⟩
  | .hbm, ⟨15, _⟩ => ⟨S1x1024, .f32⟩
  | .hbm, ⟨16, _⟩ => ⟨S4096x4096, .bf16⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S1x1024, .f32⟩
  | .local _ .vmem, ⟨5, _⟩ => ⟨S4096x1024, .bf16⟩
  | .local _ .vmem, ⟨6, _⟩ => ⟨S512x4096, .bf16⟩
  | .local _ .vmem, ⟨7, _⟩ => ⟨S512x4096, .bf16⟩
  | .local _ .vmem, ⟨8, _⟩ => ⟨S512x1024, .bf16⟩
  | .local _ .vmem, ⟨9, _⟩ => ⟨S512x1024, .bf16⟩
  | .local _ .vmem, ⟨10, _⟩ => ⟨S1x1024, .f32⟩
  | .local _ .vmem, ⟨11, _⟩ => ⟨S512x4096, .bf16⟩
  | .local _ .vmem, ⟨12, _⟩ => ⟨S512x4096, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v12 : BitVec 1 := Scalar.cmpi .eq arg0 c0_i32
  let v13 : BitVec 32 := Scalar.extui v12
  let c0_i32_7 : BitVec 32 := 0#32
  let v14 : BitVec 1 := Scalar.cmpi .ne v13 c0_i32_7
  v14

def k0_cond2 (i : grid0.Coords) : BitVec 1 :=
  let arg0 : BitVec 32 := BitVec.ofNat 32 (i 0).val
  let c0_i32 : BitVec 32 := 0#32
  let v12 : BitVec 1 := Scalar.cmpi .eq arg0 c0_i32
  let v_true : BitVec 1 := 1#1
  let v15 : BitVec 1 := Scalar.xori v12 v_true
  let v16 : BitVec 32 := Scalar.extui v15
  let c0_i32_8 : BitVec 32 := 0#32
  let v17 : BitVec 1 := Scalar.cmpi .ne v16 c0_i32_8
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S1024 : Shape := ⟨1, ![1024]⟩

abbrev nBuf : Space → Nat
  | .hbm => 34
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S1x1024, .f32⟩
  | .hbm, ⟨3, _⟩ => ⟨S4096x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S_, .f32⟩
  | .hbm, ⟨10, _⟩ => ⟨S4096x4096, .f32⟩
  | .hbm, ⟨11, _⟩ => ⟨S4096x4096, .i1⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S4096x4096, .f32⟩
  | .hbm, ⟨28, _⟩ => ⟨S4096x4096, .f32⟩
  | .hbm, ⟨29, _⟩ => ⟨S_, .f32⟩
  | .hbm, ⟨30, _⟩ => ⟨S4096x4096, .f32⟩
  | .hbm, ⟨31, _⟩ => ⟨S4096x4096, .f32⟩
  | .hbm, ⟨32, _⟩ => ⟨S4096x1024, .bf16⟩
  | .hbm, ⟨33, _⟩ => ⟨S4096x4096, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_cst : Ref sig .tc := ⟨.hbm, 6, rfl⟩
abbrev main_call0_v0 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩

abbrev nD : Nat := 1
abbrev τ : Topo := Topo.v7x

variable {F : FTy → Type} [FloatOps F]
-- ==== Kernel3.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S512x3072 : Shape := ⟨2, ![512, 3072]⟩
abbrev S512x1024 : Shape := ⟨2, ![512, 1024]⟩
abbrev S512 : Shape := ⟨1, ![512]⟩
abbrev S512x1 : Shape := ⟨2, ![512, 1]⟩
abbrev S1024 : Shape := ⟨1, ![1024]⟩

abbrev nBuf : Space → Nat
  | .hbm => 11
  | .vmem => 15
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S4096x1024, .f32⟩
  | .hbm, ⟨8, _⟩ => ⟨S1x1024, .f32⟩
  | .hbm, ⟨9, _⟩ => ⟨S1x1024, .f32⟩
  | .hbm, ⟨10, _⟩ => ⟨S1x1024, .f32⟩
  | .local _ .vmem, ⟨0, _⟩ => ⟨S512x3072, .bf16⟩
  | .local _ .vmem, ⟨1, _⟩ => ⟨S512x3072, .bf16⟩
  | .local _ .vmem, ⟨2, _⟩ => ⟨S1024x3072, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem9_0 : DmaSem sig := 13
abbrev cc0_sem10_0 : DmaSem sig := 14

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v35 : BitVec 1 := Scalar.cmpi .eq arg0 c0_i32
  let v38 : BitVec 32 := Scalar.extui v35
  let c0_i32_20 : BitVec 32 := 0#32
  let v39 : BitVec 1 := Scalar.cmpi .ne v38 c0_i32_20
  v39

def k0_cond2 (i : grid0.Coords) : BitVec 1 :=
  let arg0 : BitVec 32 := BitVec.ofNat 32 (i 0).val
  let c0_i32 : BitVec 32 := 0#32
  let v35 : BitVec 1 := Scalar.cmpi .eq arg0 c0_i32
  let v_true : BitVec 1 := 1#1
  let v40 : BitVec 1 := Scalar.xori v35 v_true
  let v41 : BitVec 32 := Scalar.extui v40
  let c0_i32_21 : BitVec 32 := 0#32
  let v42 : BitVec 1 := Scalar.cmpi .ne v41 c0_i32_21
  v42

def k0_cond3 (i : grid0.Coords) : BitVec 1 :=
  let arg0 : BitVec 32 := BitVec.ofNat 32 (i 0).val
  let c0_i32 : BitVec 32 := 0#32
  let v35 : BitVec 1 := Scalar.cmpi .eq arg0 c0_i32
  let v48 : BitVec 32 := Scalar.extui v35
  let c0_i32_23 : BitVec 32 := 0#32
  let v49 : BitVec 1 := Scalar.cmpi .ne v48 c0_i32_23
  v49

def k0_cond4 (i : grid0.Coords) : BitVec 1 :=
  let arg0 : BitVec 32 := BitVec.ofNat 32 (i 0).val
  let c0_i32 : BitVec 32 := 0#32
  let v35 : BitVec 1 := Scalar.cmpi .eq arg0 c0_i32
  let true_24 : BitVec 1 := 1#1
  let v50 : BitVec 1 := Scalar.xori v35 true_24
  let v51 : BitVec 32 := Scalar.extui v50
  let c0_i32_25 : BitVec 32 := 0#32
  let v52 : BitVec 1 := Scalar.cmpi .ne v51 c0_i32_25
  v52

def k0_cond5 (i : grid0.Coords) : BitVec 1 :=
  let arg0 : BitVec 32 := BitVec.ofNat 32 (i 0).val
  let c0_i32 : BitVec 32 := 0#32
  let v35 : BitVec 1 := Scalar.cmpi .eq arg0 c0_i32
  let v56 : BitVec 32 := Scalar.extui v35
  let c0_i32_27 : BitVec 32 := 0#32
  let v57 : BitVec 1 := Scalar.cmpi .ne v56 c0_i32_27
  v57

def k0_cond6 (i : grid0.Coords) : BitVec 1 :=
  let arg0 : BitVec 32 := BitVec.ofNat 32 (i 0).val
  let c0_i32 : BitVec 32 := 0#32
  let v35 : BitVec 1 := Scalar.cmpi .eq arg0 c0_i32
  let true_28 : BitVec 1 := 1#1
  let v58 : BitVec 1 := Scalar.xori v35 true_28
  let v59 : BitVec 32 := Scalar.extui v58
  let c0_i32_29 : BitVec 32 := 0#32
  let v60 : BitVec 1 := Scalar.cmpi .ne v59 c0_i32_29
  v60

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S4096x3072 : Shape := ⟨2, ![4096, 3072]⟩
abbrev S1024x3072 : Shape := ⟨2, ![1024, 3072]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S4096x1 : Shape := ⟨2, ![4096, 1]⟩
abbrev S1024 : Shape := ⟨1, ![1024]⟩

abbrev nBuf : Space → Nat
  | .hbm => 70
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S1024x3072, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S4096x1024, .f32⟩
  | .hbm, ⟨7, _⟩ => ⟨S1024x3072, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S4096x1024, .f32⟩
  | .hbm, ⟨31, _⟩ => ⟨S4096x1024, .f32⟩
  | .hbm, ⟨32, _⟩ => ⟨S4096x1024, .f32⟩
  | .hbm, ⟨33, _⟩ => ⟨S4096x1024, .f32⟩
  | .hbm, ⟨34, _⟩ => ⟨S4096x3072, .f32⟩
  | .hbm, ⟨35, _⟩ => ⟨S4096x3072, .f32⟩
  | .hbm, ⟨36, _⟩ => ⟨S4096x1024, .f32⟩
  | .hbm, ⟨37, _⟩ => ⟨S_, .f32⟩
  | .hbm, ⟨38, _⟩ => ⟨S1024, .f32⟩
  | .hbm, ⟨39, _⟩ => ⟨S1x1024, .f32⟩
  | .hbm, ⟨40, _⟩ => ⟨S4096x1024, .f32⟩
  | .hbm, ⟨41, _⟩ => ⟨S_, .f32⟩
  | .hbm, ⟨42, _⟩ => ⟨S1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S4096x1024, .f32⟩
  | .hbm, ⟨51, _⟩ => ⟨S4096x1024, .f32⟩
  | .hbm, ⟨52, _⟩ => ⟨S4096x1024, .f32⟩
  | .hbm, ⟨53, _⟩ => ⟨S_, .f32⟩
  | .hbm, ⟨54, _⟩ => ⟨S4096, .f32⟩
  | .hbm, ⟨55, _⟩ => ⟨S4096x1, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S4096x1, .f32⟩
  | .hbm, ⟨60, _⟩ => ⟨S_, .f32⟩
  | .hbm, ⟨61, _⟩ => ⟨S4096x1, .f32⟩
  | .hbm, ⟨62, _⟩ => ⟨S4096x1, .f32⟩
  | .hbm, ⟨63, _⟩ => ⟨S_, .f32⟩
  | .hbm, ⟨64, _⟩ => ⟨S4096, .f32⟩
  | .hbm, ⟨65, _⟩ => ⟨S4096x1024, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_4 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_cst_7 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_8 : Ref sig .tc := ⟨.hbm, 60, rfl⟩
abbrev main_v44 : Ref sig .tc := ⟨.hbm, 61, rfl⟩
abbrev main_v45 : Ref sig .tc := ⟨.hbm, 62, rfl⟩
abbrev main_cst_9 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩

abbrev nD : Nat := 1
abbrev τ : Topo := Topo.v7x

variable {F : FTy → Type} [FloatOps F]
-- ==== Kernel4.lean ====
abbrev S4096x4096 : Shape := ⟨2, ![4096, 4096]⟩
abbrev S4096x1024 : Shape := ⟨2, ![4096, 1024]⟩
abbrev S8x512x1024 : Shape := ⟨3, ![8, 512, 1024]⟩
abbrev S1024x2048 : Shape := ⟨2, ![1024, 2048]⟩
abbrev S1024x1024 : Shape := ⟨2, ![1024, 1024]⟩
abbrev S4x512x1024 : Shape := ⟨3, ![4, 512, 1024]⟩
abbrev S2048x1024 : Shape := ⟨2, ![2048, 1024]⟩
abbrev S512x1024 : Shape := ⟨2, ![512, 1024]⟩
abbrev S1x512x1024 : Shape := ⟨3, ![1, 512, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S8x512x1024, .f32⟩
  | .local _ .vmem, ⟨0, _⟩ => ⟨S1024x2048, .bf16⟩
  | .local _ .vmem, ⟨1, _⟩ => ⟨S1024x2048, .bf16⟩
  | .local _ .vmem, ⟨2, _⟩ => ⟨S1024x1024, .bf16⟩
  | .local _ .vmem, ⟨3, _⟩ => ⟨S1024x1024, .bf16⟩
  | .local _ .vmem, ⟨4, _⟩ => ⟨S4x512x1024, .f32⟩
  | .local _ .vmem, ⟨5, _⟩ => ⟨S4x512x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v8 : BitVec 1 := Scalar.cmpi .eq arg1 c0_i32
  let v10 : BitVec 32 := Scalar.extui v8
  let c0_i32_5 : BitVec 32 := 0#32
  let v11 : BitVec 1 := Scalar.cmpi .ne v10 c0_i32_5
  v11

def k0_cond2 (i : grid0.Coords) : BitVec 1 :=
  let arg1 : BitVec 32 := BitVec.ofNat 32 (i 1).val
  let c0_i32 : BitVec 32 := 0#32
  let v8 : BitVec 1 := Scalar.cmpi .eq arg1 c0_i32
  let v_true : BitVec 1 := 1#1
  let v12 : BitVec 1 := Scalar.xori v8 v_true
  let v13 : BitVec 32 := Scalar.extui v12
  let c0_i32_7 : BitVec 32 := 0#32
  let v14 : BitVec 1 := Scalar.cmpi .ne v13 c0_i32_7
  v14

def k0_cond3 (i : grid0.Coords) : BitVec 1 :=
  let arg1 : BitVec 32 := BitVec.ofNat 32 (i 1).val
  let c0_i32 : BitVec 32 := 0#32
  let v8 : BitVec 1 := Scalar.cmpi .eq arg1 c0_i32
  let v16 : BitVec 32 := Scalar.extui v8
  let c0_i32_8 : BitVec 32 := 0#32
  let v17 : BitVec 1 := Scalar.cmpi .ne v16 c0_i32_8
  v17

def k0_cond4 (i : grid0.Coords) : BitVec 1 :=
  let arg1 : BitVec 32 := BitVec.ofNat 32 (i 1).val
  let c0_i32 : BitVec 32 := 0#32
  let v8 : BitVec 1 := Scalar.cmpi .eq arg1 c0_i32
  let true_9 : BitVec 1 := 1#1
  let v18 : BitVec 1 := Scalar.xori v8 true_9
  let v19 : BitVec 32 := Scalar.extui v18
  let c0_i32_11 : BitVec 32 := 0#32
  let v20 : BitVec 1 := Scalar.cmpi .ne v19 c0_i32_11
  v20

def k0_cond5 (i : grid0.Coords) : BitVec 1 :=
  let arg1 : BitVec 32 := BitVec.ofNat 32 (i 1).val
  let c0_i32 : BitVec 32 := 0#32
  let v8 : BitVec 1 := Scalar.cmpi .eq arg1 c0_i32
  let v22 : BitVec 32 := Scalar.extui v8
  let c0_i32_12 : BitVec 32 := 0#32
  let v23 : BitVec 1 := Scalar.cmpi .ne v22 c0_i32_12
  v23

def k0_cond6 (i : grid0.Coords) : BitVec 1 :=
  let arg1 : BitVec 32 := BitVec.ofNat 32 (i 1).val
  let c0_i32 : BitVec 32 := 0#32
  let v8 : BitVec 1 := Scalar.cmpi .eq arg1 c0_i32
  let true_13 : BitVec 1 := 1#1
  let v24 : BitVec 1 := Scalar.xori v8 true_13
  let v25 : BitVec 32 := Scalar.extui v24
  let c0_i32_15 : BitVec 32 := 0#32
  let v26 : BitVec 1 := Scalar.cmpi .ne v25 c0_i32_15
  v26

def k0_cond7 (i : grid0.Coords) : BitVec 1 :=
  let arg1 : BitVec 32 := BitVec.ofNat 32 (i 1).val
  let c0_i32 : BitVec 32 := 0#32
  let v8 : BitVec 1 := Scalar.cmpi .eq arg1 c0_i32
  let v28 : BitVec 32 := Scalar.extui v8
  let c0_i32_16 : BitVec 32 := 0#32
  let v29 : BitVec 1 := Scalar.cmpi .ne v28 c0_i32_16
  v29

def k0_cond8 (i : grid0.Coords) : BitVec 1 :=
  let arg1 : BitVec 32 := BitVec.ofNat 32 (i 1).val
  let c0_i32 : BitVec 32 := 0#32
  let v8 : BitVec 1 := Scalar.cmpi .eq arg1 c0_i32
  let true_17 : BitVec 1 := 1#1
  let v30 : BitVec 1 := Scalar.xori v8 true_17
  let v31 : BitVec 32 := Scalar.extui v30
  let c0_i32_19 : BitVec 32 := 0#32
  let v32 : BitVec 1 := Scalar.cmpi .ne v31 c0_i32_19
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference4Ideal.lean ====
abbrev S4096x4096 : Shape := ⟨2, ![4096, 4096]⟩
abbrev S4096x1024 : Shape := ⟨2, ![4096, 1024]⟩
abbrev S_ : Shape := ⟨0, ![]⟩
abbrev S1024x4096 : Shape := ⟨2, ![1024, 4096]⟩
abbrev S8x512x1024 : Shape := ⟨3, ![8, 512, 1024]⟩

abbrev nBuf : Space → Nat
  | .hbm => 14
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x4096, .f32⟩
  | .hbm, ⟨3, _⟩ => ⟨S_, .f32⟩
  | .hbm, ⟨4, _⟩ => ⟨S4096x4096, .f32⟩
  | .hbm, ⟨5, _⟩ => ⟨S4096x4096, .f32⟩
  | .hbm, ⟨6, _⟩ => ⟨S4096x4096, .f32⟩
  | .hbm, ⟨7, _⟩ => ⟨S_, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S1024x4096, .f32⟩
  | .hbm, ⟨12, _⟩ => ⟨S4096x1024, .f32⟩
  | .hbm, ⟨13, _⟩ => ⟨S8x512x1024, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_cst : Ref sig .tc := ⟨.hbm, 3, rfl⟩
abbrev main_call0_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩

abbrev nD : Nat := 1
abbrev τ : Topo := Topo.v7x

variable {F : FTy → Type} [FloatOps F]
-- ==== Kernel5.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S8x1024x512 : Shape := ⟨3, ![8, 1024, 512]⟩
abbrev S1024x1024 : Shape := ⟨2, ![1024, 1024]⟩
abbrev S1024x2048 : Shape := ⟨2, ![1024, 2048]⟩
abbrev S4x1024x512 : Shape := ⟨3, ![4, 1024, 512]⟩
abbrev S1024x512 : Shape := ⟨2, ![1024, 512]⟩
abbrev S1x1024x512 : Shape := ⟨3, ![1, 1024, 512]⟩

abbrev nBuf : Space → Nat
  | .hbm => 29
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x4096, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S8x1024x512, .f32⟩
  | .local _ .vmem, ⟨0, _⟩ => ⟨S1024x1024, .bf16⟩
  | .local _ .vmem, ⟨1, _⟩ => ⟨S1024x1024, .bf16⟩
  | .local _ .vmem, ⟨2, _⟩ => ⟨S1024x2048, .bf16⟩
  | .local _ .vmem, ⟨3, _⟩ => ⟨S1024x2048, .bf16⟩
  | .local _ .vmem, ⟨4, _⟩ => ⟨S4x1024x512, .f32⟩
  | .local _ .vmem, ⟨5, _⟩ => ⟨S4x1024x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v6 : BitVec 32 := Scalar.extui v4
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32 : BitVec 32 := 0#32
  let v4 : BitVec 1 := Scalar.cmpi .eq arg1 c0_i32
  let v_true : BitVec 1 := 1#1
  let v8 : BitVec 1 := Scalar.xori v4 v_true
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c0_i32 : BitVec 32 := 0#32
  let v4 : BitVec 1 := Scalar.cmpi .eq arg1 c0_i32
  let v12 : BitVec 32 := Scalar.extui v4
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c0_i32 : BitVec 32 := 0#32
  let v4 : BitVec 1 := Scalar.cmpi .eq arg1 c0_i32
  let true_8 : BitVec 1 := 1#1
  let v14 : BitVec 1 := Scalar.xori v4 true_8
  let v15 : BitVec 32 := Scalar.extui v14
  let c0_i32_10 : BitVec 32 := 0#32
  let v16 : BitVec 1 := Scalar.cmpi .ne v15 c0_i32_10
  v16

def k0_cond5 (i : grid0.Coords) : BitVec 1 :=
  let arg1 : BitVec 32 := BitVec.ofNat 32 (i 1).val
  let c0_i32 : BitVec 32 := 0#32
  let v4 : BitVec 1 := Scalar.cmpi .eq arg1 c0_i32
  let v18 : BitVec 32 := Scalar.extui v4
  let c0_i32_11 : BitVec 32 := 0#32
  let v19 : BitVec 1 := Scalar.cmpi .ne v18 c0_i32_11
  v19

def k0_cond6 (i : grid0.Coords) : BitVec 1 :=
  let arg1 : BitVec 32 := BitVec.ofNat 32 (i 1).val
  let c0_i32 : BitVec 32 := 0#32
  let v4 : BitVec 1 := Scalar.cmpi .eq arg1 c0_i32
  let true_12 : BitVec 1 := 1#1
  let v20 : BitVec 1 := Scalar.xori v4 true_12
  let v21 : BitVec 32 := Scalar.extui v20
  let c0_i32_14 : BitVec 32 := 0#32
  let v22 : BitVec 1 := Scalar.cmpi .ne v21 c0_i32_14
  v22

def k0_cond7 (i : grid0.Coords) : BitVec 1 :=
  let arg1 : BitVec 32 := BitVec.ofNat 32 (i 1).val
  let c0_i32 : BitVec 32 := 0#32
  let v4 : BitVec 1 := Scalar.cmpi .eq arg1 c0_i32
  let v24 : BitVec 32 := Scalar.extui v4
  let c0_i32_15 : BitVec 32 := 0#32
  let v25 : BitVec 1 := Scalar.cmpi .ne v24 c0_i32_15
  v25

def k0_cond8 (i : grid0.Coords) : BitVec 1 :=
  let arg1 : BitVec 32 := BitVec.ofNat 32 (i 1).val
  let c0_i32 : BitVec 32 := 0#32
  let v4 : BitVec 1 := Scalar.cmpi .eq arg1 c0_i32
  let true_16 : BitVec 1 := 1#1
  let v26 : BitVec 1 := Scalar.xori v4 true_16
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference5Ideal.lean ====
abbrev S4096x1024 : Shape := ⟨2, ![4096, 1024]⟩
abbrev S1x1024 : Shape := ⟨2, ![1, 1024]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1024x4096 : Shape := ⟨2, ![1024, 4096]⟩
abbrev S1024x8x512 : Shape := ⟨3, ![1024, 8, 512]⟩
abbrev S8x1024x512 : Shape := ⟨3, ![8, 1024, 512]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x4096, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024x4096, .f32⟩
  | .hbm, ⟨29, _⟩ => ⟨S4096x4096, .f32⟩
  | .hbm, ⟨30, _⟩ => ⟨S4096x4096, .f32⟩
  | .hbm, ⟨31, _⟩ => ⟨S4096x1024, .f32⟩
  | .hbm, ⟨32, _⟩ => ⟨S1024x4096, .f32⟩
  | .hbm, ⟨33, _⟩ => ⟨S1024x8x512, .f32⟩
  | .hbm, ⟨34, _⟩ => ⟨S8x1024x512, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel6.lean ====
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S8x1024x384 : Shape := ⟨3, ![8, 1024, 384]⟩
abbrev S1024x1024 : Shape := ⟨2, ![1024, 1024]⟩
abbrev S1024x1536 : Shape := ⟨2, ![1024, 1536]⟩
abbrev S4x1024x384 : Shape := ⟨3, ![4, 1024, 384]⟩
abbrev S1024x384 : Shape := ⟨2, ![1024, 384]⟩
abbrev S1x1024x384 : Shape := ⟨3, ![1, 1024, 384]⟩

abbrev nBuf : Space → Nat
  | .hbm => 29
  | .vmem => 6
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x3072, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x1024, .bf16⟩
  | .hbm, ⟨28, _⟩ => ⟨S8x1024x384, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S4x1024x384, .f32⟩
  | .local _ .vmem, ⟨5, _⟩ => ⟨S4x1024x384, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v4 : BitVec 1 := Scalar.cmpi .eq arg1 c0_i32
  let v6 : BitVec 32 := Scalar.extui v4
  let c0_i32_4 : BitVec 32 := 0#32
  let v7 : BitVec 1 := Scalar.cmpi .ne v6 c0_i32_4
  v7

def k0_cond2 (i : grid0.Coords) : BitVec 1 :=
  let arg1 : BitVec 32 := BitVec.ofNat 32 (i 1).val
  let c0_i32 : BitVec 32 := 0#32
  let v4 : BitVec 1 := Scalar.cmpi .eq arg1 c0_i32
  let v_true : BitVec 1 := 1#1
  let v8 : BitVec 1 := Scalar.xori v4 v_true
  let v9 : BitVec 32 := Scalar.extui v8
  let c0_i32_6 : BitVec 32 := 0#32
  let v10 : BitVec 1 := Scalar.cmpi .ne v9 c0_i32_6
  v10

def k0_cond3 (i : grid0.Coords) : BitVec 1 :=
  let arg1 : BitVec 32 := BitVec.ofNat 32 (i 1).val
  let c0_i32 : BitVec 32 := 0#32
  let v4 : BitVec 1 := Scalar.cmpi .eq arg1 c0_i32
  let v12 : BitVec 32 := Scalar.extui v4
  let c0_i32_7 : BitVec 32 := 0#32
  let v13 : BitVec 1 := Scalar.cmpi .ne v12 c0_i32_7
  v13

def k0_cond4 (i : grid0.Coords) : BitVec 1 :=
  let arg1 : BitVec 32 := BitVec.ofNat 32 (i 1).val
  let c0_i32 : BitVec 32 := 0#32
  let v4 : BitVec 1 := Scalar.cmpi .eq arg1 c0_i32
  let true_8 : BitVec 1 := 1#1
  let v14 : BitVec 1 := Scalar.xori v4 true_8
  let v15 : BitVec 32 := Scalar.extui v14
  let c0_i32_10 : BitVec 32 := 0#32
  let v16 : BitVec 1 := Scalar.cmpi .ne v15 c0_i32_10
  v16

def k0_cond5 (i : grid0.Coords) : BitVec 1 :=
  let arg1 : BitVec 32 := BitVec.ofNat 32 (i 1).val
  let c0_i32 : BitVec 32 := 0#32
  let v4 : BitVec 1 := Scalar.cmpi .eq arg1 c0_i32
  let v18 : BitVec 32 := Scalar.extui v4
  let c0_i32_11 : BitVec 32 := 0#32
  let v19 : BitVec 1 := Scalar.cmpi .ne v18 c0_i32_11
  v19

def k0_cond6 (i : grid0.Coords) : BitVec 1 :=
  let arg1 : BitVec 32 := BitVec.ofNat 32 (i 1).val
  let c0_i32 : BitVec 32 := 0#32
  let v4 : BitVec 1 := Scalar.cmpi .eq arg1 c0_i32
  let true_12 : BitVec 1 := 1#1
  let v20 : BitVec 1 := Scalar.xori v4 true_12
  let v21 : BitVec 32 := Scalar.extui v20
  let c0_i32_14 : BitVec 32 := 0#32
  let v22 : BitVec 1 := Scalar.cmpi .ne v21 c0_i32_14
  v22

def k0_cond7 (i : grid0.Coords) : BitVec 1 :=
  let arg1 : BitVec 32 := BitVec.ofNat 32 (i 1).val
  let c0_i32 : BitVec 32 := 0#32
  let v4 : BitVec 1 := Scalar.cmpi .eq arg1 c0_i32
  let v24 : BitVec 32 := Scalar.extui v4
  let c0_i32_15 : BitVec 32 := 0#32
  let v25 : BitVec 1 := Scalar.cmpi .ne v24 c0_i32_15
  v25

def k0_cond8 (i : grid0.Coords) : BitVec 1 :=
  let arg1 : BitVec 32 := BitVec.ofNat 32 (i 1).val
  let c0_i32 : BitVec 32 := 0#32
  let v4 : BitVec 1 := Scalar.cmpi .eq arg1 c0_i32
  let true_16 : BitVec 1 := 1#1
  let v26 : BitVec 1 := Scalar.xori v4 true_16
  let v27 : BitVec 32 := Scalar.extui v26
  let c0_i32_18 : BitVec 32 := 0#32
  let v28 : BitVec 1 := Scalar.cmpi .ne v27 c0_i32_18
  v28

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S4x1024x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference6Ideal.lean ====
abbrev S4096x1024 : Shape := ⟨2, ![4096, 1024]⟩
abbrev S1x1024 : Shape := ⟨2, ![1, 1024]⟩
abbrev S4096x3072 : Shape := ⟨2, ![4096, 3072]⟩
abbrev S_ : Shape := ⟨0, ![]⟩
abbrev S4096 : Shape := ⟨1, ![4096]⟩
abbrev S4096x1 : Shape := ⟨2, ![4096, 1]⟩
abbrev S1024x3072 : Shape := ⟨2, ![1024, 3072]⟩
abbrev S3072x1024 : Shape := ⟨2, ![3072, 1024]⟩
abbrev S1024x8x384 : Shape := ⟨3, ![1024, 8, 384]⟩
abbrev S8x1024x384 : Shape := ⟨3, ![8, 1024, 384]⟩

abbrev nBuf : Space → Nat
  | .hbm => 35
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S4096x3072, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S1024x3072, .f32⟩
  | .hbm, ⟨29, _⟩ => ⟨S4096x3072, .f32⟩
  | .hbm, ⟨30, _⟩ => ⟨S4096x3072, .f32⟩
  | .hbm, ⟨31, _⟩ => ⟨S3072x1024, .f32⟩
  | .hbm, ⟨32, _⟩ => ⟨S1024x3072, .f32⟩
  | .hbm, ⟨33, _⟩ => ⟨S1024x8x384, .f32⟩
  | .hbm, ⟨34, _⟩ => ⟨S8x1024x384, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩

abbrev nD : Nat := 1
abbrev τ : Topo := Topo.v7x

variable {F : FTy → Type} [FloatOps F]
-- ==== Kernel7.lean ====
abbrev S4096x1024 : Shape := ⟨2, ![4096, 1024]⟩
abbrev S8x128x1024 : Shape := ⟨3, ![8, 128, 1024]⟩
abbrev S1024x512 : Shape := ⟨2, ![1024, 512]⟩
abbrev S1024x1024 : Shape := ⟨2, ![1024, 1024]⟩
abbrev S4x128x1024 : Shape := ⟨3, ![4, 128, 1024]⟩
abbrev S512x1024 : Shape := ⟨2, ![512, 1024]⟩
abbrev S128x1024 : Shape := ⟨2, ![128, 1024]⟩
abbrev S1x128x1024 : Shape := ⟨3, ![1, 128, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S8x128x1024, .f32⟩
  | .local _ .vmem, ⟨0, _⟩ => ⟨S1024x512, .bf16⟩
  | .local _ .vmem, ⟨1, _⟩ => ⟨S1024x512, .bf16⟩
  | .local _ .vmem, ⟨2, _⟩ => ⟨S1024x1024, .bf16⟩
  | .local _ .vmem, ⟨3, _⟩ => ⟨S1024x1024, .bf16⟩
  | .local _ .vmem, ⟨4, _⟩ => ⟨S4x128x1024, .f32⟩
  | .local _ .vmem, ⟨5, _⟩ => ⟨S4x128x1024, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg1 : BitVec 32 := BitVec.ofNat 32 (i 1).val
  let c0_i32 : BitVec 32 := 0#32
  let v3 : BitVec 1 := Scalar.cmpi .eq arg1 c0_i32
  let v5 : BitVec 32 := Scalar.extui v3
  let c0_i32_4 : BitVec 32 := 0#32
  let v6 : BitVec 1 := Scalar.cmpi .ne v5 c0_i32_4
  v6

def k0_cond2 (i : grid0.Coords) : BitVec 1 :=
  let arg1 : BitVec 32 := BitVec.ofNat 32 (i 1).val
  let c0_i32 : BitVec 32 := 0#32
  let v3 : BitVec 1 := Scalar.cmpi .eq arg1 c0_i32
  let v_true : BitVec 1 := 1#1
  let v7 : BitVec 1 := Scalar.xori v3 v_true
  let v8 : BitVec 32 := Scalar.extui v7
  let c0_i32_6 : BitVec 32 := 0#32
  let v9 : BitVec 1 := Scalar.cmpi .ne v8 c0_i32_6
  v9

def k0_cond3 (i : grid0.Coords) : BitVec 1 :=
  let arg1 : BitVec 32 := BitVec.ofNat 32 (i 1).val
  let c0_i32 : BitVec 32 := 0#32
  let v3 : BitVec 1 := Scalar.cmpi .eq arg1 c0_i32
  let v11 : BitVec 32 := Scalar.extui v3
  let c0_i32_7 : BitVec 32 := 0#32
  let v12 : BitVec 1 := Scalar.cmpi .ne v11 c0_i32_7
  v12

def k0_cond4 (i : grid0.Coords) : BitVec 1 :=
  let arg1 : BitVec 32 := BitVec.ofNat 32 (i 1).val
  let c0_i32 : BitVec 32 := 0#32
  let v3 : BitVec 1 := Scalar.cmpi .eq arg1 c0_i32
  let true_8 : BitVec 1 := 1#1
  let v13 : BitVec 1 := Scalar.xori v3 true_8
  let v14 : BitVec 32 := Scalar.extui v13
  let c0_i32_10 : BitVec 32 := 0#32
  let v15 : BitVec 1 := Scalar.cmpi .ne v14 c0_i32_10
  v15

def k0_cond5 (i : grid0.Coords) : BitVec 1 :=
  let arg1 : BitVec 32 := BitVec.ofNat 32 (i 1).val
  let c0_i32 : BitVec 32 := 0#32
  let v3 : BitVec 1 := Scalar.cmpi .eq arg1 c0_i32
  let v17 : BitVec 32 := Scalar.extui v3
  let c0_i32_11 : BitVec 32 := 0#32
  let v18 : BitVec 1 := Scalar.cmpi .ne v17 c0_i32_11
  v18

def k0_cond6 (i : grid0.Coords) : BitVec 1 :=
  let arg1 : BitVec 32 := BitVec.ofNat 32 (i 1).val
  let c0_i32 : BitVec 32 := 0#32
  let v3 : BitVec 1 := Scalar.cmpi .eq arg1 c0_i32
  let true_12 : BitVec 1 := 1#1
  let v19 : BitVec 1 := Scalar.xori v3 true_12
  let v20 : BitVec 32 := Scalar.extui v19
  let c0_i32_14 : BitVec 32 := 0#32
  let v21 : BitVec 1 := Scalar.cmpi .ne v20 c0_i32_14
  v21

def k0_cond7 (i : grid0.Coords) : BitVec 1 :=
  let arg1 : BitVec 32 := BitVec.ofNat 32 (i 1).val
  let c0_i32 : BitVec 32 := 0#32
  let v3 : BitVec 1 := Scalar.cmpi .eq arg1 c0_i32
  let v23 : BitVec 32 := Scalar.extui v3
  let c0_i32_15 : BitVec 32 := 0#32
  let v24 : BitVec 1 := Scalar.cmpi .ne v23 c0_i32_15
  v24

def k0_cond8 (i : grid0.Coords) : BitVec 1 :=
  let arg1 : BitVec 32 := BitVec.ofNat 32 (i 1).val
  let c0_i32 : BitVec 32 := 0#32
  let v3 : BitVec 1 := Scalar.cmpi .eq arg1 c0_i32
  let true_16 : BitVec 1 := 1#1
  let v25 : BitVec 1 := Scalar.xori v3 true_16
  let v26 : BitVec 32 := Scalar.extui v25
  let c0_i32_18 : BitVec 32 := 0#32
  let v27 : BitVec 1 := Scalar.cmpi .ne v26 c0_i32_18
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference7Ideal.lean ====
abbrev S4096x1024 : Shape := ⟨2, ![4096, 1024]⟩
abbrev S_ : Shape := ⟨0, ![]⟩
abbrev S1024x1024 : Shape := ⟨2, ![1024, 1024]⟩
abbrev S8x128x1024 : Shape := ⟨3, ![8, 128, 1024]⟩

abbrev nBuf : Space → Nat
  | .hbm => 10
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x1024, .bf16⟩
  | .hbm, ⟨2, _⟩ => ⟨S_, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x1024, .f32⟩
  | .hbm, ⟨8, _⟩ => ⟨S1024x1024, .f32⟩
  | .hbm, ⟨9, _⟩ => ⟨S8x128x1024, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel8.lean ====
abbrev S4096x1024 : Shape := ⟨2, ![4096, 1024]⟩
abbrev S1x1024 : Shape := ⟨2, ![1, 1024]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩

abbrev nBuf : Space → Nat
  | .hbm => 7
  | .vmem => 10
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .bf16⟩
  | .hbm, ⟨5, _⟩ => ⟨S4096x3072, .bf16⟩
  | .hbm, ⟨6, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1024, .f32⟩
  | .local _ .vmem, ⟨4, _⟩ => ⟨S1x1024, .f32⟩
  | .local _ .vmem, ⟨5, _⟩ => ⟨S1024x3072, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | .local _ .vmem, ⟨9, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x3072 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference8Ideal.lean ====
abbrev S4096x1024 : Shape := ⟨2, ![4096, 1024]⟩
abbrev S1x1024 : Shape := ⟨2, ![1, 1024]⟩
abbrev S1024x3072 : Shape := ⟨2, ![1024, 3072]⟩
abbrev S_ : Shape := ⟨0, ![]⟩
abbrev S4096 : Shape := ⟨1, ![4096]⟩
abbrev S4096x1 : Shape := ⟨2, ![4096, 1]⟩
abbrev S4096x3072 : Shape := ⟨2, ![4096, 3072]⟩

abbrev nBuf : Space → Nat
  | .hbm => 31
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1x1024, .f32⟩
  | .hbm, ⟨3, _⟩ => ⟨S1x1024, .f32⟩
  | .hbm, ⟨4, _⟩ => ⟨S1024x3072, .bf16⟩
  | .hbm, ⟨5, _⟩ => ⟨S4096x1024, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1024, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S1x1024, .f32⟩
  | .hbm, ⟨22, _⟩ => ⟨S1x1024, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S1024x3072, .f32⟩
  | .hbm, ⟨28, _⟩ => ⟨S4096x3072, .f32⟩
  | .hbm, ⟨29, _⟩ => ⟨S4096x3072, .bf16⟩
  | .hbm, ⟨30, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩

abbrev nD : Nat := 1
abbrev τ : Topo := Topo.v7x

variable {F : FTy → Type} [FloatOps F]
-- ==== Kernel9.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S4096x4096 : Shape := ⟨2, ![4096, 4096]⟩
abbrev S512x1024 : Shape := ⟨2, ![512, 1024]⟩
abbrev S512x4096 : Shape := ⟨2, ![512, 4096]⟩
abbrev S512 : Shape := ⟨1, ![512]⟩
abbrev S512x1 : Shape := ⟨2, ![512, 1]⟩

abbrev nBuf : Space → Nat
  | .hbm => 12
  | .vmem => 18
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .f32⟩
  | .hbm, ⟨9, _⟩ => ⟨S4096x1024, .bf16⟩
  | .hbm, ⟨10, _⟩ => ⟨S4096x4096, .bf16⟩
  | .hbm, ⟨11, _⟩ => ⟨S4096x1024, .bf16⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1024x4096, .bf16⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x4096, .bf16⟩
  | .local _ .vmem, ⟨15, _⟩ => ⟨S512x4096, .bf16⟩
  | .local _ .vmem, ⟨16, _⟩ => ⟨S512x1024, .bf16⟩
  | .local _ .vmem, ⟨17, _⟩ => ⟨S512x1024, .bf16⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x4096 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x4096 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x1024 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference9Ideal.lean ====
abbrev S4096x1024 : Shape := ⟨2, ![4096, 1024]⟩
abbrev S1024x1024 : Shape := ⟨2, ![1024, 1024]⟩
abbrev S1x1024 : Shape := ⟨2, ![1, 1024]⟩
abbrev S1024x4096 : Shape := ⟨2, ![1024, 4096]⟩
abbrev S_ : Shape := ⟨0, ![]⟩
abbrev S4096 : Shape := ⟨1, ![4096]⟩
abbrev S4096x1 : Shape := ⟨2, ![4096, 1]⟩
abbrev S4096x4096 : Shape := ⟨2, ![4096, 4096]⟩

abbrev nBuf : Space → Nat
  | .hbm => 41
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S1024x1024, .bf16⟩
  | .hbm, ⟨2, _⟩ => ⟨S4096x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1024x4096, .bf16⟩
  | .hbm, ⟨8, _⟩ => ⟨S4096x1024, .f32⟩
  | .hbm, ⟨9, _⟩ => ⟨S1024x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S_, .f32⟩
  | .hbm, ⟨16, _⟩ => ⟨S4096, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S_, .f32⟩
  | .hbm, ⟨22, _⟩ => ⟨S4096x1, .f32⟩
  | .hbm, ⟨23, _⟩ => ⟨S4096x1, .f32⟩
  | .hbm, ⟨24, _⟩ => ⟨S4096x1, .f32⟩
  | .hbm, ⟨25, _⟩ => ⟨S4096x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S_, .f32⟩
  | .hbm, ⟨30, _⟩ => ⟨S1x1024, .f32⟩
  | .hbm, ⟨31, _⟩ => ⟨S1x1024, .f32⟩
  | .hbm, ⟨32, _⟩ => ⟨S4096x1024, .f32⟩
  | .hbm, ⟨33, _⟩ => ⟨S4096x1024, .f32⟩
  | .hbm, ⟨34, _⟩ => ⟨S4096x1024, .f32⟩
  | .hbm, ⟨35, _⟩ => ⟨S4096x1024, .f32⟩
  | .hbm, ⟨36, _⟩ => ⟨S4096x1024, .bf16⟩
  | .hbm, ⟨37, _⟩ => ⟨S1024x4096, .f32⟩
  | .hbm, ⟨38, _⟩ => ⟨S4096x4096, .f32⟩
  | .hbm, ⟨39, _⟩ => ⟨S4096x4096, .bf16⟩
  | .hbm, ⟨40, _⟩ => ⟨S4096x1024, .bf16⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_2 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel10.lean ====
abbrev S4096x4096 : Shape := ⟨2, ![4096, 4096]⟩
abbrev S4096x1024 : Shape := ⟨2, ![4096, 1024]⟩
abbrev S1x1024 : Shape := ⟨2, ![1, 1024]⟩
abbrev S512x4096 : Shape := ⟨2, ![512, 4096]⟩
abbrev S512x1024 : Shape := ⟨2, ![512, 1024]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .bf16⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference10Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x4096, .f32⟩
  | .hbm, ⟨5, _⟩ => ⟨S_, .f32⟩
  | .hbm, ⟨6, _⟩ => ⟨S4096x4096, .f32⟩
  | .hbm, ⟨7, _⟩ => ⟨S4096x4096, .f32⟩
  | .hbm, ⟨8, _⟩ => ⟨S4096x4096, .f32⟩
  | .hbm, ⟨9, _⟩ => ⟨S4096x1024, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]
-- ==== Kernel11.lean ====
abbrev S4096x4096 : Shape := ⟨2, ![4096, 4096]⟩
abbrev S4096x1024 : Shape := ⟨2, ![4096, 1024]⟩
abbrev S1x1024 : Shape := ⟨2, ![1, 1024]⟩
abbrev S1x1 : Shape := ⟨2, ![1, 1]⟩
abbrev S512x4096 : Shape := ⟨2, ![512, 4096]⟩
abbrev S512x1024 : Shape := ⟨2, ![512, 1024]⟩
abbrev S1024 : Shape := ⟨1, ![1024]⟩
abbrev S1 : Shape := ⟨1, ![1]⟩

abbrev nBuf : Space → Nat
  | .hbm => 8
  | .vmem => 14
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x1024, .f32⟩
  | .hbm, ⟨6, _⟩ => ⟨S4096x1024, .bf16⟩
  | .hbm, ⟨7, _⟩ => ⟨S1x1, .f32⟩
  | .local _ .vmem, ⟨0, _⟩ => ⟨S512x4096, .bf16⟩
  | .local _ .vmem, ⟨1, _⟩ => ⟨S512x4096, .bf16⟩
  | .local _ .vmem, ⟨2, _⟩ => ⟨S4096x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | .local _ .vmem, ⟨12, _⟩ => ⟨S1x1, .f32⟩
  | .local _ .vmem, ⟨13, _⟩ => ⟨S1x1024, .f32⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def k0_cond3 (i : grid0.Coords) : BitVec 1 :=
  let arg0 : BitVec 32 := BitVec.ofNat 32 (i 0).val
  let c7_i32 : BitVec 32 := 7#32
  let v27 : BitVec 1 := Scalar.cmpi .eq arg0 c7_i32
  let v28 : BitVec 32 := Scalar.extui v27
  let c0_i32_16 : BitVec 32 := 0#32
  let v29 : BitVec 1 := Scalar.cmpi .ne v28 c0_i32_16
  v29

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference11Ideal.lean ====
abbrev S4096x4096 : Shape := ⟨2, ![4096, 4096]⟩
abbrev S4096x1024 : Shape := ⟨2, ![4096, 1024]⟩
abbrev S1x1024 : Shape := ⟨2, ![1, 1024]⟩
abbrev S_ : Shape := ⟨0, ![]⟩
abbrev S4096 : Shape := ⟨1, ![4096]⟩
abbrev S1x1 : Shape := ⟨2, ![1, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x1024, .bf16⟩
  | .hbm, ⟨2, _⟩ => ⟨S4096x1024, .f32⟩
  | .hbm, ⟨3, _⟩ => ⟨S1x1024, .f32⟩
  | .hbm, ⟨4, _⟩ => ⟨S4096x1024, .f32⟩
  | .hbm, ⟨5, _⟩ => ⟨S4096x4096, .f32⟩
  | .hbm, ⟨6, _⟩ => ⟨S_, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096, .f32⟩
  | .hbm, ⟨22, _⟩ => ⟨S_, .f32⟩
  | .hbm, ⟨23, _⟩ => ⟨S4096, .f32⟩
  | .hbm, ⟨24, _⟩ => ⟨S4096, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S4096x1024, .f32⟩
  | .hbm, ⟨37, _⟩ => ⟨S4096x1024, .f32⟩
  | .hbm, ⟨38, _⟩ => ⟨S4096x1024, .bf16⟩
  | .hbm, ⟨39, _⟩ => ⟨S1x1, .f32⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_cst : Ref sig .tc := ⟨.hbm, 6, rfl⟩
abbrev main_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_cst_4 : Ref sig .tc := ⟨.hbm, 29, rfl⟩
abbrev main_cst_5 : Ref sig .tc := ⟨.hbm, 30, rfl⟩
abbrev main_v17 : Ref sig .tc := ⟨.hbm, 31, rfl⟩
abbrev main_v18 : Ref sig .tc := ⟨.hbm, 32, rfl⟩
abbrev main_cst_6 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩

abbrev nD : Nat := 1
abbrev τ : Topo := Topo.v7x

variable {F : FTy → Type} [FloatOps F]
-- ==== Kernel12.lean ====
abbrev S4096x3072 : Shape := ⟨2, ![4096, 3072]⟩
abbrev S8x257 : Shape := ⟨2, ![8, 257]⟩
abbrev S1x64 : Shape := ⟨2, ![1, 64]⟩
abbrev S64x576 : Shape := ⟨2, ![64, 576]⟩
abbrev S_ : Shape := ⟨0, ![]⟩
abbrev S64x576x1 : Shape := ⟨3, ![64, 576, 1]⟩
abbrev S8x64x576 : Shape := ⟨3, ![8, 64, 576]⟩
abbrev S8x64x640 : Shape := ⟨3, ![8, 64, 640]⟩
abbrev S8x128x640 : Shape := ⟨3, ![8, 128, 640]⟩
abbrev S1x1x1x64 : Shape := ⟨4, ![1, 1, 1, 64]⟩
abbrev S1x1x2x64 : Shape := ⟨4, ![1, 1, 2, 64]⟩
abbrev S1x128 : Shape := ⟨2, ![1, 128]⟩
abbrev S4096x512 : Shape := ⟨2, ![4096, 512]⟩
abbrev S128x512 : Shape := ⟨2, ![128, 512]⟩
abbrev S4x4608x128 : Shape := ⟨3, ![4, 4608, 128]⟩
abbrev S4096x128 : Shape := ⟨2, ![4096, 128]⟩
abbrev S4096 : Shape := ⟨1, ![4096]⟩
abbrev S4096x1 : Shape := ⟨2, ![4096, 1]⟩
abbrev S512x128 : Shape := ⟨2, ![512, 128]⟩
abbrev S1x512x128 : Shape := ⟨3, ![1, 512, 128]⟩
abbrev S1x4096x128 : Shape := ⟨3, ![1, 4096, 128]⟩
abbrev S128x128 : Shape := ⟨2, ![128, 128]⟩
abbrev S128 : Shape := ⟨1, ![128]⟩
abbrev S128x1 : Shape := ⟨2, ![128, 1]⟩
abbrev S128x640 : Shape := ⟨2, ![128, 640]⟩
abbrev S256x128 : Shape := ⟨2, ![256, 128]⟩
abbrev S1x640x128 : Shape := ⟨3, ![1, 640, 128]⟩
abbrev S640x128 : Shape := ⟨2, ![640, 128]⟩
abbrev S256x640 : Shape := ⟨2, ![256, 640]⟩
abbrev S1x128x640 : Shape := ⟨3, ![1, 128, 640]⟩

abbrev nBuf : Space → Nat
  | .hbm => 44
  | .vmem => 11
  | .smem => 0
  | _ => 0

abbrev bufTy : (tb : Table) → Fin (tcTables nBuf tb) → BufTy
  | .hbm, ⟨0, _⟩ => ⟨S4096x3072, .bf16⟩
  | .hbm, ⟨1, _⟩ => ⟨S8x257, .f32⟩
  | .hbm, ⟨2, _⟩ => ⟨S1x64, .f32⟩
  | .hbm, ⟨3, _⟩ => ⟨S1x64, .f32⟩
  | .hbm, ⟨4, _⟩ => ⟨S64x576, .i32⟩
  | .hbm, ⟨5, _⟩ => ⟨S_, .i32⟩
  | .hbm, ⟨6, _⟩ => ⟨S64x576, .i32⟩
  | .hbm, ⟨7, _⟩ => ⟨S64x576, .i32⟩
  | .hbm, ⟨8, _⟩ => ⟨S64x576, .i32⟩
  | .hbm, ⟨9, _⟩ => ⟨S64x576, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S64x576, .i32⟩
  | .hbm, ⟨14, _⟩ => ⟨S64x576, .i32⟩
  | .hbm, ⟨15, _⟩ => ⟨S_, .i32⟩
  | .hbm, ⟨16, _⟩ => ⟨S64x576, .i32⟩
  | .hbm, ⟨17, _⟩ => ⟨S64x576, .i32⟩
  | .hbm, ⟨18, _⟩ => ⟨S_, .i32⟩
  | .hbm, ⟨19, _⟩ => ⟨S64x576, .i32⟩
  | .hbm, ⟨20, _⟩ => ⟨S64x576, .i32⟩
  | .hbm, ⟨21, _⟩ => ⟨S_, .i32⟩
  | .hbm, ⟨22, _⟩ => ⟨S64x576, .i32⟩
  | .hbm, ⟨23, _⟩ => ⟨S64x576, .i1⟩
  | .hbm, ⟨24, _⟩ => ⟨S_, .i32⟩
  | .hbm, ⟨25, _⟩ => ⟨S64x576, .i32⟩
  | .hbm, ⟨26, _⟩ => ⟨S64x576, .i32⟩
  | .hbm, ⟨27, _⟩ => ⟨S64x576, .i32⟩
  | .hbm, ⟨28, _⟩ => ⟨S64x576x1, .i32⟩
  | .hbm, ⟨29, _⟩ => ⟨S8x64x576, .f32⟩
  | .hbm, ⟨30, _⟩ => ⟨S_, .f32⟩
  | .hbm, ⟨31, _⟩ => ⟨S_, .f32⟩
  | .hbm, ⟨32, _⟩ => ⟨S8x64x640, .f32⟩
  | .hbm, ⟨33, _⟩ => ⟨S_, .f32⟩
  | .hbm, ⟨34, _⟩ => ⟨S_, .f32⟩
  | .hbm, ⟨35, _⟩ => ⟨S8x64x640, .f32⟩
  | .hbm, ⟨36, _⟩ => ⟨S8x128x640, .f32⟩
  | .hbm, ⟨37, _⟩ => ⟨S1x1x1x64, .f32⟩
  | .hbm, ⟨38, _⟩ => ⟨S1x1x2x64, .f32⟩
  | .hbm, ⟨39, _⟩ => ⟨S1x128, .f32⟩
  | .hbm, ⟨40, _⟩ => ⟨S1x1x1x64, .f32⟩
  | .hbm, ⟨41, _⟩ => ⟨S1x1x2x64, .f32⟩
  | .hbm, ⟨42, _⟩ => ⟨S1x128, .f32⟩
  | .hbm, ⟨43, _⟩ => ⟨S4096x512, .bf16⟩
  | .local _ .vmem, ⟨0, _⟩ => ⟨S128x512, .bf16⟩
  | .local _ .vmem, ⟨1, _⟩ => ⟨S128x512, .bf16⟩
  | .local _ .vmem, ⟨2, _⟩ => ⟨S4096x512, .bf16⟩
  | .local _ .vmem, ⟨3, _⟩ => ⟨S4096x512, .bf16⟩
  | .local _ .vmem, ⟨4, _⟩ => ⟨S8x128x640, .f32⟩
  | .local _ .vmem, ⟨5, _⟩ => ⟨S1x128, .f32⟩
  | .local _ .vmem, ⟨6, _⟩ => ⟨S1x128, .f32⟩
  | .local _ .vmem, ⟨7, _⟩ => ⟨S128x512, .bf16⟩
  | .local _ .vmem, ⟨8, _⟩ => ⟨S128x512, .bf16⟩
  | .local _ .vmem, ⟨9, _⟩ => ⟨S4x4608x128, .bf16⟩
  | .local _ .vmem, ⟨10, _⟩ => ⟨S4x4608x128, .bf16⟩
  | _, _ => ⟨S4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v5 : Ref sig .tc := ⟨.hbm, 17, rfl⟩
abbrev main_c_2 : Ref sig .tc := ⟨.hbm, 18, rfl⟩
abbrev main_v6 : Ref sig .tc := ⟨.hbm, 19, rfl⟩
abbrev main_v7 : Ref sig .tc := ⟨.hbm, 20, rfl⟩
abbrev main_c_3 : Ref sig .tc := ⟨.hbm, 21, rfl⟩
abbrev main_v8 : Ref sig .tc := ⟨.hbm, 22, rfl⟩
abbrev main_v9 : Ref sig .tc := ⟨.hbm, 23, rfl⟩
abbrev main_c_4 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst : Ref sig .tc := ⟨.hbm, 30, rfl⟩
abbrev main_call1_v0 : Ref sig .tc := ⟨.hbm, 31, rfl⟩
abbrev main_v15 : Ref sig .tc := ⟨.hbm, 32, rfl⟩
abbrev main_cst_5 : Ref sig .tc := ⟨.hbm, 33, rfl⟩
abbrev main_call2_v0 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![1, 32], ![false, false]⟩

def k0_mult1 (i : grid0.Coords) : BitVec 32 :=
  let arg1 : BitVec 32 := BitVec.ofNat 32 (i 1).val
  let c128_i32 : BitVec 32 := 128#32
  let v6 : BitVec 32 := Scalar.muli arg1 c128_i32
  v6
def k0_mult2 (i : grid0.Coords) : BitVec 32 :=
  let arg1 : BitVec 32 := BitVec.ofNat 32 (i 1).val
  let c128_i32_11 : BitVec 32 := 128#32
  let v39 : BitVec 32 := Scalar.muli arg1 c128_i32_11
  v39
def k0_off1 (i : grid0.Coords) : Fin 3 → Nat :=
  let c0_17 : Index := 0#32
  let arg1 : BitVec 32 := BitVec.ofNat 32 (i 1).val
  let c128_i32_11 : BitVec 32 := 128#32
  let v39 : BitVec 32 := Scalar.muli arg1 c128_i32_11
  let v40 : BitVec 32 := v39
  let v57 : Index := Scalar.indexCast v40
  let c0_18 : Index := 0#32
  ![0, v57.toNat, 0]
def k0_mult3 (i : grid0.Coords) : BitVec 32 :=
  let arg1 : BitVec 32 := BitVec.ofNat 32 (i 1).val
  let c128_i32_40 : BitVec 32 := 128#32
  let v108 : BitVec 32 := Scalar.muli arg1 c128_i32_40
  v108
def k0_off2 (i : grid0.Coords) : Fin 3 → Nat :=
  let c1_47 : Index := 1#32
  let arg1 : BitVec 32 := BitVec.ofNat 32 (i 1).val
  let c128_i32_40 : BitVec 32 := 128#32
  let v108 : BitVec 32 := Scalar.muli arg1 c128_i32_40
  let v109 : BitVec 32 := v108
  let v126 : Index := Scalar.indexCast v109
  let c0_48 : Index := 0#32
  ![1, v126.toNat, 0]
def k0_mult4 (i : grid0.Coords) : BitVec 32 :=
  let arg1 : BitVec 32 := BitVec.ofNat 32 (i 1).val
  let c128_i32_69 : BitVec 32 := 128#32
  let v177 : BitVec 32 := Scalar.muli arg1 c128_i32_69
  v177
def k0_off3 (i : grid0.Coords) : Fin 3 → Nat :=
  let c2_76 : Index := 2#32
  let arg1 : BitVec 32 := BitVec.ofNat 32 (i 1).val
  let c128_i32_69 : BitVec 32 := 128#32
  let v177 : BitVec 32 := Scalar.muli arg1 c128_i32_69
  let v178 : BitVec 32 := v177
  let v195 : Index := Scalar.indexCast v178
  let c0_77 : Index := 0#32
  ![2, v195.toNat, 0]
def k0_mult5 (i : grid0.Coords) : BitVec 32 :=
  let arg1 : BitVec 32 := BitVec.ofNat 32 (i 1).val
  let c128_i32_98 : BitVec 32 := 128#32
  let v246 : BitVec 32 := Scalar.muli arg1 c128_i32_98
  v246
def k0_off4 (i : grid0.Coords) : Fin 3 → Nat :=
  let c3_105 : Index := 3#32
  let arg1 : BitVec 32 := BitVec.ofNat 32 (i 1).val
  let c128_i32_98 : BitVec 32 := 128#32
  let v246 : BitVec 32 := Scalar.muli arg1 c128_i32_98
  let v247 : BitVec 32 := v246
  let v264 : Index := Scalar.indexCast v247
  let c0_106 : Index := 0#32
  ![3, v264.toNat, 0]
def cc0_transform_0 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi c3_i32 arg0
  let c0_i32 : BitVec 32 := 0#32
  ![arg1.toNat, v0.toNat]

def cc0_transform_1 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg0
  let c0_i32 : BitVec 32 := 0#32
  let c0_i32_0 : BitVec 32 := 0#32
  ![c0_i32.toNat, v0.toNat]

def cc0_transform_2 (i : grid0.Coords) : Fin 2 → Nat :=
  let arg0 : BitVec 32 := BitVec.ofNat 32 (i 0).val
  let arg1 : BitVec 32 := BitVec.ofNat 32 (i 1).val
  let c5_i32 : BitVec 32 := 5#32
  let v0 : BitVec 32 := Scalar.addi c5_i32 arg0
  let c0_i32 : BitVec 32 := 0#32
  let c0_i32_0 : BitVec 32 := 0#32
  ![c0_i32.toNat, v0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S128x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S4096x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S8x128x640 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Kernel12Ideal.lean ====
variable {F : FTy → Type} [FloatOps F] [Named F]
def κ : String → Option EReal := fun
  | "mask" => some ⊥
  | _ => none
-- ==== Reference12Ideal.lean ====
abbrev S4096x3072 : Shape := ⟨2, ![4096, 3072]⟩
abbrev S8x257 : Shape := ⟨2, ![8, 257]⟩
abbrev S1x64 : Shape := ⟨2, ![1, 64]⟩
abbrev S4096x1536 : Shape := ⟨2, ![4096, 1536]⟩
abbrev S4096x512 : Shape := ⟨2, ![4096, 512]⟩
abbrev S4096x8x64 : Shape := ⟨3, ![4096, 8, 64]⟩
abbrev S_ : Shape := ⟨0, ![]⟩
abbrev S4096x8 : Shape := ⟨2, ![4096, 8]⟩
abbrev S4096x8x1 : Shape := ⟨3, ![4096, 8, 1]⟩
abbrev S1x1x64 : Shape := ⟨3, ![1, 1, 64]⟩
abbrev S4096x8x128 : Shape := ⟨3, ![4096, 8, 128]⟩
abbrev S4608x8x128 : Shape := ⟨3, ![4608, 8, 128]⟩
abbrev S72x64x8x128 : Shape := ⟨4, ![72, 64, 8, 128]⟩
abbrev S64x64x8x128 : Shape := ⟨4, ![64, 64, 8, 128]⟩
abbrev S64x576x8x128 : Shape := ⟨4, ![64, 576, 8, 128]⟩
abbrev S64x576x8x64 : Shape := ⟨4, ![64, 576, 8, 64]⟩
abbrev S64x64x8x64 : Shape := ⟨4, ![64, 64, 8, 64]⟩
abbrev S64x8x64x576 : Shape := ⟨4, ![64, 8, 64, 576]⟩
abbrev S64x576 : Shape := ⟨2, ![64, 576]⟩
abbrev S64x576x1 : Shape := ⟨3, ![64, 576, 1]⟩
abbrev S8x64x576 : Shape := ⟨3, ![8, 64, 576]⟩
abbrev S1x8x64x576 : Shape := ⟨4, ![1, 8, 64, 576]⟩
abbrev S64x1x1x576 : Shape := ⟨4, ![64, 1, 1, 576]⟩
abbrev S64x8x64 : Shape := ⟨3, ![64, 8, 64]⟩
abbrev S64x8x64x1 : Shape := ⟨4, ![64, 8, 64, 1]⟩
abbrev S64x8x64x64 : Shape := ⟨4, ![64, 8, 64, 64]⟩

abbrev nBuf : Space → Nat
  | .hbm => 127
  | .vmem => 0
  | .smem => 0
  | _ => 0

abbrev bufTy : (tb : Table) → Fin (tcTables nBuf tb) → BufTy
  | .hbm, ⟨0, _⟩ => ⟨S4096x3072, .bf16⟩
  | .hbm, ⟨1, _⟩ => ⟨S8x257, .f32⟩
  | .hbm, ⟨2, _⟩ => ⟨S1x64, .f32⟩
  | .hbm, ⟨3, _⟩ => ⟨S1x64, .f32⟩
  | .hbm, ⟨4, _⟩ => ⟨S4096x1536, .bf16⟩
  | .hbm, ⟨5, _⟩ => ⟨S4096x1536, .f32⟩
  | .hbm, ⟨6, _⟩ => ⟨S4096x512, .f32⟩
  | .hbm, ⟨7, _⟩ => ⟨S4096x512, .f32⟩
  | .hbm, ⟨8, _⟩ => ⟨S4096x512, .f32⟩
  | .hbm, ⟨9, _⟩ => ⟨S4096x8x64, .f32⟩
  | .hbm, ⟨10, _⟩ => ⟨S4096x8x64, .f32⟩
  | .hbm, ⟨11, _⟩ => ⟨S4096x8x64, .f32⟩
  | .hbm, ⟨12, _⟩ => ⟨S4096x8x64, .f32⟩
  | .hbm, ⟨13, _⟩ => ⟨S_, .f32⟩
  | .hbm, ⟨14, _⟩ => ⟨S4096x8, .f32⟩
  | .hbm, ⟨15, _⟩ => ⟨S4096x8x1, .f32⟩
  | .hbm, ⟨16, _⟩ => ⟨S_, .f32⟩
  | .hbm, ⟨17, _⟩ => ⟨S4096x8x1, .f32⟩
  | .hbm, ⟨18, _⟩ => ⟨S4096x8x1, .f32⟩
  | .hbm, ⟨19, _⟩ => ⟨S_, .f32⟩
  | .hbm, ⟨20, _⟩ => ⟨S4096x8x1, .f32⟩
  | .hbm, ⟨21, _⟩ => ⟨S4096x8x1, .f32⟩
  | .hbm, ⟨22, _⟩ => ⟨S4096x8x1, .f32⟩
  | .hbm, ⟨23, _⟩ => ⟨S4096x8x64, .f32⟩
  | .hbm, ⟨24, _⟩ => ⟨S4096x8x64, .f32⟩
  | .hbm, ⟨25, _⟩ => ⟨S1x1x64, .f32⟩
  | .hbm, ⟨26, _⟩ => ⟨S4096x8x64, .f32⟩
  | .hbm, ⟨27, _⟩ => ⟨S4096x8x64, .f32⟩
  | .hbm, ⟨28, _⟩ => ⟨S4096x8x64, .f32⟩
  | .hbm, ⟨29, _⟩ => ⟨S_, .f32⟩
  | .hbm, ⟨30, _⟩ => ⟨S4096x8, .f32⟩
  | .hbm, ⟨31, _⟩ => ⟨S4096x8x1, .f32⟩
  | .hbm, ⟨32, _⟩ => ⟨S_, .f32⟩
  | .hbm, ⟨33, _⟩ => ⟨S4096x8x1, .f32⟩
  | .hbm, ⟨34, _⟩ => ⟨S4096x8x1, .f32⟩
  | .hbm, ⟨35, _⟩ => ⟨S_, .f32⟩
  | .hbm, ⟨36, _⟩ => ⟨S4096x8x1, .f32⟩
  | .hbm, ⟨37, _⟩ => ⟨S4096x8x1, .f32⟩
  | .hbm, ⟨38, _⟩ => ⟨S4096x8x1, .f32⟩
  | .hbm, ⟨39, _⟩ => ⟨S4096x8x64, .f32⟩
  | .hbm, ⟨40, _⟩ => ⟨S4096x8x64, .f32⟩
  | .hbm, ⟨41, _⟩ => ⟨S1x1x64, .f32⟩
  | .hbm, ⟨42, _⟩ => ⟨S4096x8x64, .f32⟩
  | .hbm, ⟨43, _⟩ => ⟨S4096x8x64, .f32⟩
  | .hbm, ⟨44, _⟩ => ⟨S4096x8x128, .f32⟩
  | .hbm, ⟨45, _⟩ => ⟨S_, .f32⟩
  | .hbm, ⟨46, _⟩ => ⟨S4608x8x128, .f32⟩
  | .hbm, ⟨47, _⟩ => ⟨S72x64x8x128, .f32⟩
  | .hbm, ⟨48, _⟩ => ⟨S64x64x8x128, .f32⟩
  | .hbm, ⟨49, _⟩ => ⟨S64x64x8x128, .f32⟩
  | .hbm, ⟨50, _⟩ => ⟨S64x64x8x128, .f32⟩
  | .hbm, ⟨51, _⟩ => ⟨S64x64x8x128, .f32⟩
  | .hbm, ⟨52, _⟩ => ⟨S64x64x8x128, .f32⟩
  | .hbm, ⟨53, _⟩ => ⟨S64x64x8x128, .f32⟩
  | .hbm, ⟨54, _⟩ => ⟨S64x64x8x128, .f32⟩
  | .hbm, ⟨55, _⟩ => ⟨S64x64x8x128, .f32⟩
  | .hbm, ⟨56, _⟩ => ⟨S64x64x8x128, .f32⟩
  | .hbm, ⟨57, _⟩ => ⟨S64x576x8x128, .f32⟩
  | .hbm, ⟨58, _⟩ => ⟨S64x576x8x64, .f32⟩
  | .hbm, ⟨59, _⟩ => ⟨S64x576x8x64, .f32⟩
  | .hbm, ⟨60, _⟩ => ⟨S64x64x8x64, .f32⟩
  | .hbm, ⟨61, _⟩ => ⟨S64x8x64x576, .f32⟩
  | .hbm, ⟨62, _⟩ => ⟨S_, .f32⟩
  | .hbm, ⟨63, _⟩ => ⟨S64x8x64x576, .f32⟩
  | .hbm, ⟨64, _⟩ => ⟨S64x8x64x576, .f32⟩
  | .hbm, ⟨65, _⟩ => ⟨S64x576, .i32⟩
  | .hbm, ⟨66, _⟩ => ⟨S_, .i32⟩
  | .hbm, ⟨67, _⟩ => ⟨S64x576, .i32⟩
  | .hbm, ⟨68, _⟩ => ⟨S64x576, .i32⟩
  | .hbm, ⟨69, _⟩ => ⟨S64x576, .i32⟩
  | .hbm, ⟨70, _⟩ => ⟨S64x576, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S64x576, .i32⟩
  | .hbm, ⟨75, _⟩ => ⟨S64x576, .i32⟩
  | .hbm, ⟨76, _⟩ => ⟨S_, .i32⟩
  | .hbm, ⟨77, _⟩ => ⟨S64x576, .i32⟩
  | .hbm, ⟨78, _⟩ => ⟨S64x576, .i32⟩
  | .hbm, ⟨79, _⟩ => ⟨S_, .i32⟩
  | .hbm, ⟨80, _⟩ => ⟨S64x576, .i32⟩
  | .hbm, ⟨81, _⟩ => ⟨S64x576, .i32⟩
  | .hbm, ⟨82, _⟩ => ⟨S_, .i32⟩
  | .hbm, ⟨83, _⟩ => ⟨S64x576, .i32⟩
  | .hbm, ⟨84, _⟩ => ⟨S64x576, .i1⟩
  | .hbm, ⟨85, _⟩ => ⟨S_, .i32⟩
  | .hbm, ⟨86, _⟩ => ⟨S64x576, .i32⟩
  | .hbm, ⟨87, _⟩ => ⟨S64x576, .i32⟩
  | .hbm, ⟨88, _⟩ => ⟨S64x576, .i32⟩
  | .hbm, ⟨89, _⟩ => ⟨S64x576x1, .i32⟩
  | .hbm, ⟨90, _⟩ => ⟨S8x64x576, .f32⟩
  | .hbm, ⟨91, _⟩ => ⟨S1x8x64x576, .f32⟩
  | .hbm, ⟨92, _⟩ => ⟨S64x8x64x576, .f32⟩
  | .hbm, ⟨93, _⟩ => ⟨S64x8x64x576, .f32⟩
  | .hbm, ⟨94, _⟩ => ⟨S64x576, .i32⟩
  | .hbm, ⟨95, _⟩ => ⟨S_, .i32⟩
  | .hbm, ⟨96, _⟩ => ⟨S64x576, .i32⟩
  | .hbm, ⟨97, _⟩ => ⟨S64x576, .i32⟩
  | .hbm, ⟨98, _⟩ => ⟨S64x576, .i32⟩
  | .hbm, ⟨99, _⟩ => ⟨S64x576, .i32⟩
  | .hbm, ⟨100, _⟩ => ⟨S_, .i32⟩
  | .hbm, ⟨101, _⟩ => ⟨S64x576, .i32⟩
  | .hbm, ⟨102, _⟩ => ⟨S64x576, .i1⟩
  | .hbm, ⟨103, _⟩ => ⟨S64x1x1x576, .i1⟩
  | .hbm, ⟨104, _⟩ => ⟨S_, .f32⟩
  | .hbm, ⟨105, _⟩ => ⟨S_, .f32⟩
  | .hbm, ⟨106, _⟩ => ⟨S64x8x64x576, .i1⟩
  | .hbm, ⟨107, _⟩ => ⟨S64x8x64x576, .f32⟩
  | .hbm, ⟨108, _⟩ => ⟨S64x8x64x576, .f32⟩
  | .hbm, ⟨109, _⟩ => ⟨S_, .f32⟩
  | .hbm, ⟨110, _⟩ => ⟨S64x8x64, .f32⟩
  | .hbm, ⟨111, _⟩ => ⟨S_, .f32⟩
  | .hbm, ⟨112, _⟩ => ⟨S64x8x64, .f32⟩
  | .hbm, ⟨113, _⟩ => ⟨S64x8x64, .f32⟩
  | .hbm, ⟨114, _⟩ => ⟨S64x8x64x1, .f32⟩
  | .hbm, ⟨115, _⟩ => ⟨S64x8x64x576, .f32⟩
  | .hbm, ⟨116, _⟩ => ⟨S64x8x64x576, .f32⟩
  | .hbm, ⟨117, _⟩ => ⟨S64x8x64x576, .f32⟩
  | .hbm, ⟨118, _⟩ => ⟨S_, .f32⟩
  | .hbm, ⟨119, _⟩ => ⟨S64x8x64, .f32⟩
  | .hbm, ⟨120, _⟩ => ⟨S64x8x64x1, .f32⟩
  | .hbm, ⟨121, _⟩ => ⟨S64x8x64x576, .f32⟩
  | .hbm, ⟨122, _⟩ => ⟨S64x8x64x576, .f32⟩
  | .hbm, ⟨123, _⟩ => ⟨S64x8x64x64, .f32⟩
  | .hbm, ⟨124, _⟩ => ⟨S64x64x8x64, .f32⟩
  | .hbm, ⟨125, _⟩ => ⟨S4096x512, .f32⟩
  | .hbm, ⟨126, _⟩ => ⟨S4096x512, .bf16⟩
  | _, _ => ⟨S4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_cst_2 : Ref sig .tc := ⟨.hbm, 29, rfl⟩
abbrev main_v22 : Ref sig .tc := ⟨.hbm, 30, rfl⟩
abbrev main_v23 : Ref sig .tc := ⟨.hbm, 31, rfl⟩
abbrev main_cst_3 : Ref sig .tc := ⟨.hbm, 32, rfl⟩
abbrev main_v24 : Ref sig .tc := ⟨.hbm, 33, rfl⟩
abbrev main_v25 : Ref sig .tc := ⟨.hbm, 34, rfl⟩
abbrev main_cst_4 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_5 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_cst_6 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_c : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_c_7 : Ref sig .tc := ⟨.hbm, 71, rfl⟩
abbrev main_c_8 : Ref sig .tc := ⟨.hbm, 72, rfl⟩
abbrev main_call0_v0 : Ref sig .tc := ⟨.hbm, 73, rfl⟩
abbrev main_call0_v1 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_v58 : Ref sig .tc := ⟨.hbm, 78, rfl⟩
abbrev main_c_9 : Ref sig .tc := ⟨.hbm, 79, rfl⟩
abbrev main_v59 : Ref sig .tc := ⟨.hbm, 80, rfl⟩
abbrev main_v60 : Ref sig .tc := ⟨.hbm, 81, rfl⟩
abbrev main_c_10 : Ref sig .tc := ⟨.hbm, 82, rfl⟩
abbrev main_v61 : Ref sig .tc := ⟨.hbm, 83, rfl⟩
abbrev main_v62 : Ref sig .tc := ⟨.hbm, 84, rfl⟩
abbrev main_c_11 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_c_12 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_c_13 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_cst_14 : Ref sig .tc := ⟨.hbm, 104, rfl⟩
abbrev main_call1_v0 : Ref sig .tc := ⟨.hbm, 105, rfl⟩
abbrev main_call1_v1 : Ref sig .tc := ⟨.hbm, 106, rfl⟩
abbrev main_call1_v2 : Ref sig .tc := ⟨.hbm, 107, rfl⟩
abbrev main_v79 : Ref sig .tc := ⟨.hbm, 108, rfl⟩
abbrev main_cst_15 : Ref sig .tc := ⟨.hbm, 109, rfl⟩
abbrev main_v80 : Ref sig .tc := ⟨.hbm, 110, rfl⟩
abbrev main_cst_16 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_cst_17 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_v94 : Ref sig .tc := ⟨.hbm, 126, rfl⟩

abbrev nD : Nat := 1
abbrev τ : Topo := Topo.v7x

variable {F : FTy → Type} [FloatOps F]
-- ==== Kernel13.lean ====
abbrev S2048x768 : Shape := ⟨2, ![2048, 768]⟩
abbrev S256x768 : Shape := ⟨2, ![256, 768]⟩

abbrev nBuf : Space → Nat
  | .hbm => 7
  | .vmem => 14
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S2048x768, .f32⟩
  | .hbm, ⟨5, _⟩ => ⟨S2048x768, .f32⟩
  | .hbm, ⟨6, _⟩ => ⟨S2048x768, .f32⟩
  | .local _ .vmem, ⟨0, _⟩ => ⟨S256x768, .f32⟩
  | .local _ .vmem, ⟨1, _⟩ => ⟨S256x768, .f32⟩
  | .local _ .vmem, ⟨2, _⟩ => ⟨S256x768, .f32⟩
  | .local _ .vmem, ⟨3, _⟩ => ⟨S256x768, .f32⟩
  | .local _ .vmem, ⟨4, _⟩ => ⟨S256x768, .f32⟩
  | .local _ .vmem, ⟨5, _⟩ => ⟨S256x768, .f32⟩
  | .local _ .vmem, ⟨6, _⟩ => ⟨S256x768, .f32⟩
  | .local _ .vmem, ⟨7, _⟩ => ⟨S256x768, .f32⟩
  | .local _ .vmem, ⟨8, _⟩ => ⟨S256x768, .f32⟩
  | .local _ .vmem, ⟨9, _⟩ => ⟨S256x768, .f32⟩
  | .local _ .vmem, ⟨10, _⟩ => ⟨S256x768, .f32⟩
  | .local _ .vmem, ⟨11, _⟩ => ⟨S256x768, .f32⟩
  | .local _ .vmem, ⟨12, _⟩ => ⟨S256x768, .f32⟩
  | .local _ .vmem, ⟨13, _⟩ => ⟨S256x768, .f32⟩
  | _, _ => ⟨S2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x768 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x768 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x768 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference13Ideal.lean ====
abbrev S2048x768 : Shape := ⟨2, ![2048, 768]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x768, .f32⟩
  | .hbm, ⟨1, _⟩ => ⟨S2048x768, .f32⟩
  | .hbm, ⟨2, _⟩ => ⟨S2048x768, .f32⟩
  | .hbm, ⟨3, _⟩ => ⟨S2048x768, .f32⟩
  | .hbm, ⟨4, _⟩ => ⟨S_, .f32⟩
  | .hbm, ⟨5, _⟩ => ⟨S2048x768, .f32⟩
  | .hbm, ⟨6, _⟩ => ⟨S2048x768, .f32⟩
  | .hbm, ⟨7, _⟩ => ⟨S_, .f32⟩
  | .hbm, ⟨8, _⟩ => ⟨S2048x768, .f32⟩
  | .hbm, ⟨9, _⟩ => ⟨S2048x768, .f32⟩
  | .hbm, ⟨10, _⟩ => ⟨S2048x768, .f32⟩
  | .hbm, ⟨11, _⟩ => ⟨S_, .f32⟩
  | .hbm, ⟨12, _⟩ => ⟨S2048x768, .f32⟩
  | .hbm, ⟨13, _⟩ => ⟨S2048x768, .f32⟩
  | .hbm, ⟨14, _⟩ => ⟨S2048x768, .f32⟩
  | .hbm, ⟨15, _⟩ => ⟨S_, .f32⟩
  | .hbm, ⟨16, _⟩ => ⟨S2048x768, .f32⟩
  | .hbm, ⟨17, _⟩ => ⟨S2048x768, .f32⟩
  | .hbm, ⟨18, _⟩ => ⟨S2048x768, .f32⟩
  | .hbm, ⟨19, _⟩ => ⟨S_, .f32⟩
  | .hbm, ⟨20, _⟩ => ⟨S2048x768, .f32⟩
  | .hbm, ⟨21, _⟩ => ⟨S2048x768, .f32⟩
  | .hbm, ⟨22, _⟩ => ⟨S_, .f32⟩
  | .hbm, ⟨23, _⟩ => ⟨S2048x768, .f32⟩
  | .hbm, ⟨24, _⟩ => ⟨S2048x768, .f32⟩
  | .hbm, ⟨25, _⟩ => ⟨S2048x768, .f32⟩
  | .hbm, ⟨26, _⟩ => ⟨S_, .f32⟩
  | .hbm, ⟨27, _⟩ => ⟨S2048x768, .f32⟩
  | .hbm, ⟨28, _⟩ => ⟨S2048x768, .f32⟩
  | .hbm, ⟨29, _⟩ => ⟨S2048x768, .f32⟩
  | .hbm, ⟨30, _⟩ => ⟨S_, .f32⟩
  | .hbm, ⟨31, _⟩ => ⟨S2048x768, .f32⟩
  | .hbm, ⟨32, _⟩ => ⟨S2048x768, .f32⟩
  | .hbm, ⟨33, _⟩ => ⟨S2048x768, .f32⟩
  | .hbm, ⟨34, _⟩ => ⟨S_, .f32⟩
  | .hbm, ⟨35, _⟩ => ⟨S2048x768, .f32⟩
  | .hbm, ⟨36, _⟩ => ⟨S2048x768, .f32⟩
  | _, _ => ⟨S2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel14.lean ====
abbrev S1024x512 : Shape := ⟨2, ![1024, 512]⟩
abbrev S3x1024x512 : Shape := ⟨3, ![3, 1024, 512]⟩
abbrev S2x1024x512 : Shape := ⟨3, ![2, 1024, 512]⟩
abbrev S256x512 : Shape := ⟨2, ![256, 512]⟩
abbrev S3x256x512 : Shape := ⟨3, ![3, 256, 512]⟩
abbrev S1x256x512 : Shape := ⟨3, ![1, 256, 512]⟩

abbrev nBuf : Space → Nat
  | .hbm => 11
  | .vmem => 22
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S3x1024x512, .bf16⟩
  | .hbm, ⟨3, _⟩ => ⟨S3x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S2x1024x512, .f32⟩
  | .hbm, ⟨8, _⟩ => ⟨S2x1024x512, .f32⟩
  | .hbm, ⟨9, _⟩ => ⟨S2x1024x512, .f32⟩
  | .hbm, ⟨10, _⟩ => ⟨S2x1024x512, .f32⟩
  | .local _ .vmem, ⟨0, _⟩ => ⟨S256x512, .f32⟩
  | .local _ .vmem, ⟨1, _⟩ => ⟨S256x512, .f32⟩
  | .local _ .vmem, ⟨2, _⟩ => ⟨S256x512, .f32⟩
  | .local _ .vmem, ⟨3, _⟩ => ⟨S256x512, .f32⟩
  | .local _ .vmem, ⟨4, _⟩ => ⟨S3x256x512, .bf16⟩
  | .local _ .vmem, ⟨5, _⟩ => ⟨S3x256x512, .bf16⟩
  | .local _ .vmem, ⟨6, _⟩ => ⟨S3x256x512, .bf16⟩
  | .local _ .vmem, ⟨7, _⟩ => ⟨S3x256x512, .bf16⟩
  | .local _ .vmem, ⟨8, _⟩ => ⟨S1x256x512, .f32⟩
  | .local _ .vmem, ⟨9, _⟩ => ⟨S1x256x512, .f32⟩
  | .local _ .vmem, ⟨10, _⟩ => ⟨S1x256x512, .f32⟩
  | .local _ .vmem, ⟨11, _⟩ => ⟨S1x256x512, .f32⟩
  | .local _ .vmem, ⟨12, _⟩ => ⟨S1x256x512, .f32⟩
  | .local _ .vmem, ⟨13, _⟩ => ⟨S1x256x512, .f32⟩
  | .local _ .vmem, ⟨14, _⟩ => ⟨S1x256x512, .f32⟩
  | .local _ .vmem, ⟨15, _⟩ => ⟨S1x256x512, .f32⟩
  | .local _ .vmem, ⟨16, _⟩ => ⟨S1x256x512, .f32⟩
  | .local _ .vmem, ⟨17, _⟩ => ⟨S1x256x512, .f32⟩
  | .local _ .vmem, ⟨18, _⟩ => ⟨S1x256x512, .f32⟩
  | .local _ .vmem, ⟨19, _⟩ => ⟨S1x256x512, .f32⟩
  | .local _ .vmem, ⟨20, _⟩ => ⟨S1x256x512, .f32⟩
  | .local _ .vmem, ⟨21, _⟩ => ⟨S1x256x512, .f32⟩
  | _, _ => ⟨S1024x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference14Ideal.lean ====
abbrev S1024x512 : Shape := ⟨2, ![1024, 512]⟩
abbrev S3x1024x512 : Shape := ⟨3, ![3, 1024, 512]⟩
abbrev S2x1024x512 : Shape := ⟨3, ![2, 1024, 512]⟩
abbrev S_ : Shape := ⟨0, ![]⟩
abbrev S1x1024x512 : Shape := ⟨3, ![1, 1024, 512]⟩

abbrev nBuf : Space → Nat
  | .hbm => 51
  | .vmem => 0
  | .smem => 0
  | _ => 0

abbrev bufTy : (tb : Table) → Fin (tcTables nBuf tb) → BufTy
  | .hbm, ⟨0, _⟩ => ⟨S1024x512, .f32⟩
  | .hbm, ⟨1, _⟩ => ⟨S1024x512, .f32⟩
  | .hbm, ⟨2, _⟩ => ⟨S3x1024x512, .bf16⟩
  | .hbm, ⟨3, _⟩ => ⟨S3x1024x512, .bf16⟩
  | .hbm, ⟨4, _⟩ => ⟨S2x1024x512, .f32⟩
  | .hbm, ⟨5, _⟩ => ⟨S2x1024x512, .f32⟩
  | .hbm, ⟨6, _⟩ => ⟨S2x1024x512, .f32⟩
  | .hbm, ⟨7, _⟩ => ⟨S3x1024x512, .f32⟩
  | .hbm, ⟨8, _⟩ => ⟨S_, .f32⟩
  | .hbm, ⟨9, _⟩ => ⟨S1024x512, .f32⟩
  | .hbm, ⟨10, _⟩ => ⟨S1024x512, .f32⟩
  | .hbm, ⟨11, _⟩ => ⟨S3x1024x512, .f32⟩
  | .hbm, ⟨12, _⟩ => ⟨S_, .f32⟩
  | .hbm, ⟨13, _⟩ => ⟨S1024x512, .f32⟩
  | .hbm, ⟨14, _⟩ => ⟨S1024x512, .f32⟩
  | .hbm, ⟨15, _⟩ => ⟨S1x1024x512, .f32⟩
  | .hbm, ⟨16, _⟩ => ⟨S1x1024x512, .f32⟩
  | .hbm, ⟨17, _⟩ => ⟨S2x1024x512, .f32⟩
  | .hbm, ⟨18, _⟩ => ⟨S_, .f32⟩
  | .hbm, ⟨19, _⟩ => ⟨S2x1024x512, .f32⟩
  | .hbm, ⟨20, _⟩ => ⟨S2x1024x512, .f32⟩
  | .hbm, ⟨21, _⟩ => ⟨S_, .f32⟩
  | .hbm, ⟨22, _⟩ => ⟨S2x1024x512, .f32⟩
  | .hbm, ⟨23, _⟩ => ⟨S2x1024x512, .f32⟩
  | .hbm, ⟨24, _⟩ => ⟨S2x1024x512, .f32⟩
  | .hbm, ⟨25, _⟩ => ⟨S_, .f32⟩
  | .hbm, ⟨26, _⟩ => ⟨S2x1024x512, .f32⟩
  | .hbm, ⟨27, _⟩ => ⟨S2x1024x512, .f32⟩
  | .hbm, ⟨28, _⟩ => ⟨S2x1024x512, .f32⟩
  | .hbm, ⟨29, _⟩ => ⟨S_, .f32⟩
  | .hbm, ⟨30, _⟩ => ⟨S2x1024x512, .f32⟩
  | .hbm, ⟨31, _⟩ => ⟨S2x1024x512, .f32⟩
  | .hbm, ⟨32, _⟩ => ⟨S2x1024x512, .f32⟩
  | .hbm, ⟨33, _⟩ => ⟨S_, .f32⟩
  | .hbm, ⟨34, _⟩ => ⟨S2x1024x512, .f32⟩
  | .hbm, ⟨35, _⟩ => ⟨S2x1024x512, .f32⟩
  | .hbm, ⟨36, _⟩ => ⟨S_, .f32⟩
  | .hbm, ⟨37, _⟩ => ⟨S2x1024x512, .f32⟩
  | .hbm, ⟨38, _⟩ => ⟨S2x1024x512, .f32⟩
  | .hbm, ⟨39, _⟩ => ⟨S2x1024x512, .f32⟩
  | .hbm, ⟨40, _⟩ => ⟨S_, .f32⟩
  | .hbm, ⟨41, _⟩ => ⟨S2x1024x512, .f32⟩
  | .hbm, ⟨42, _⟩ => ⟨S2x1024x512, .f32⟩
  | .hbm, ⟨43, _⟩ => ⟨S2x1024x512, .f32⟩
  | .hbm, ⟨44, _⟩ => ⟨S_, .f32⟩
  | .hbm, ⟨45, _⟩ => ⟨S2x1024x512, .f32⟩
  | .hbm, ⟨46, _⟩ => ⟨S2x1024x512, .f32⟩
  | .hbm, ⟨47, _⟩ => ⟨S2x1024x512, .f32⟩
  | .hbm, ⟨48, _⟩ => ⟨S_, .f32⟩
  | .hbm, ⟨49, _⟩ => ⟨S2x1024x512, .f32⟩
  | .hbm, ⟨50, _⟩ => ⟨S2x1024x512, .f32⟩
  | _, _ => ⟨S1024x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel15.lean ====
abbrev S512x1024 : Shape := ⟨2, ![512, 1024]⟩
abbrev S3x512x1024 : Shape := ⟨3, ![3, 512, 1024]⟩
abbrev S2x512x1024 : Shape := ⟨3, ![2, 512, 1024]⟩
abbrev S256x1024 : Shape := ⟨2, ![256, 1024]⟩
abbrev S3x256x1024 : Shape := ⟨3, ![3, 256, 1024]⟩
abbrev S1x256x1024 : Shape := ⟨3, ![1, 256, 1024]⟩

abbrev nBuf : Space → Nat
  | .hbm => 11
  | .vmem => 22
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S3x512x1024, .bf16⟩
  | .hbm, ⟨3, _⟩ => ⟨S3x512x1024, .bf16⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S2x512x1024, .f32⟩
  | .hbm, ⟨8, _⟩ => ⟨S2x512x1024, .f32⟩
  | .hbm, ⟨9, _⟩ => ⟨S2x512x1024, .f32⟩
  | .hbm, ⟨10, _⟩ => ⟨S2x512x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S3x256x1024, .bf16⟩
  | .local _ .vmem, ⟨5, _⟩ => ⟨S3x256x1024, .bf16⟩
  | .local _ .vmem, ⟨6, _⟩ => ⟨S3x256x1024, .bf16⟩
  | .local _ .vmem, ⟨7, _⟩ => ⟨S3x256x1024, .bf16⟩
  | .local _ .vmem, ⟨8, _⟩ => ⟨S1x256x1024, .f32⟩
  | .local _ .vmem, ⟨9, _⟩ => ⟨S1x256x1024, .f32⟩
  | .local _ .vmem, ⟨10, _⟩ => ⟨S1x256x1024, .f32⟩
  | .local _ .vmem, ⟨11, _⟩ => ⟨S1x256x1024, .f32⟩
  | .local _ .vmem, ⟨12, _⟩ => ⟨S1x256x1024, .f32⟩
  | .local _ .vmem, ⟨13, _⟩ => ⟨S1x256x1024, .f32⟩
  | .local _ .vmem, ⟨14, _⟩ => ⟨S1x256x1024, .f32⟩
  | .local _ .vmem, ⟨15, _⟩ => ⟨S1x256x1024, .f32⟩
  | .local _ .vmem, ⟨16, _⟩ => ⟨S1x256x1024, .f32⟩
  | .local _ .vmem, ⟨17, _⟩ => ⟨S1x256x1024, .f32⟩
  | .local _ .vmem, ⟨18, _⟩ => ⟨S1x256x1024, .f32⟩
  | .local _ .vmem, ⟨19, _⟩ => ⟨S1x256x1024, .f32⟩
  | .local _ .vmem, ⟨20, _⟩ => ⟨S1x256x1024, .f32⟩
  | .local _ .vmem, ⟨21, _⟩ => ⟨S1x256x1024, .f32⟩
  | _, _ => ⟨S512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 2], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c1_i32_0 : BitVec 32 := 1#32
  let v2 : BitVec 32 := Scalar.muli c1_i32_0 arg0
  let v3 : BitVec 32 := Scalar.addi v1 v2
  let c0_i32 : BitVec 32 := 0#32
  let c0_i32_1 : BitVec 32 := 0#32
  let c0_i32_2 : BitVec 32 := 0#32
  ![c0_i32.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference15Ideal.lean ====
abbrev S512x1024 : Shape := ⟨2, ![512, 1024]⟩
abbrev S3x512x1024 : Shape := ⟨3, ![3, 512, 1024]⟩
abbrev S2x512x1024 : Shape := ⟨3, ![2, 512, 1024]⟩
abbrev S_ : Shape := ⟨0, ![]⟩
abbrev S1x512x1024 : Shape := ⟨3, ![1, 512, 1024]⟩

abbrev nBuf : Space → Nat
  | .hbm => 51
  | .vmem => 0
  | .smem => 0
  | _ => 0

abbrev bufTy : (tb : Table) → Fin (tcTables nBuf tb) → BufTy
  | .hbm, ⟨0, _⟩ => ⟨S512x1024, .f32⟩
  | .hbm, ⟨1, _⟩ => ⟨S512x1024, .f32⟩
  | .hbm, ⟨2, _⟩ => ⟨S3x512x1024, .bf16⟩
  | .hbm, ⟨3, _⟩ => ⟨S3x512x1024, .bf16⟩
  | .hbm, ⟨4, _⟩ => ⟨S2x512x1024, .f32⟩
  | .hbm, ⟨5, _⟩ => ⟨S2x512x1024, .f32⟩
  | .hbm, ⟨6, _⟩ => ⟨S2x512x1024, .f32⟩
  | .hbm, ⟨7, _⟩ => ⟨S3x512x1024, .f32⟩
  | .hbm, ⟨8, _⟩ => ⟨S_, .f32⟩
  | .hbm, ⟨9, _⟩ => ⟨S512x1024, .f32⟩
  | .hbm, ⟨10, _⟩ => ⟨S512x1024, .f32⟩
  | .hbm, ⟨11, _⟩ => ⟨S3x512x1024, .f32⟩
  | .hbm, ⟨12, _⟩ => ⟨S_, .f32⟩
  | .hbm, ⟨13, _⟩ => ⟨S512x1024, .f32⟩
  | .hbm, ⟨14, _⟩ => ⟨S512x1024, .f32⟩
  | .hbm, ⟨15, _⟩ => ⟨S1x512x1024, .f32⟩
  | .hbm, ⟨16, _⟩ => ⟨S1x512x1024, .f32⟩
  | .hbm, ⟨17, _⟩ => ⟨S2x512x1024, .f32⟩
  | .hbm, ⟨18, _⟩ => ⟨S_, .f32⟩
  | .hbm, ⟨19, _⟩ => ⟨S2x512x1024, .f32⟩
  | .hbm, ⟨20, _⟩ => ⟨S2x512x1024, .f32⟩
  | .hbm, ⟨21, _⟩ => ⟨S_, .f32⟩
  | .hbm, ⟨22, _⟩ => ⟨S2x512x1024, .f32⟩
  | .hbm, ⟨23, _⟩ => ⟨S2x512x1024, .f32⟩
  | .hbm, ⟨24, _⟩ => ⟨S2x512x1024, .f32⟩
  | .hbm, ⟨25, _⟩ => ⟨S_, .f32⟩
  | .hbm, ⟨26, _⟩ => ⟨S2x512x1024, .f32⟩
  | .hbm, ⟨27, _⟩ => ⟨S2x512x1024, .f32⟩
  | .hbm, ⟨28, _⟩ => ⟨S2x512x1024, .f32⟩
  | .hbm, ⟨29, _⟩ => ⟨S_, .f32⟩
  | .hbm, ⟨30, _⟩ => ⟨S2x512x1024, .f32⟩
  | .hbm, ⟨31, _⟩ => ⟨S2x512x1024, .f32⟩
  | .hbm, ⟨32, _⟩ => ⟨S2x512x1024, .f32⟩
  | .hbm, ⟨33, _⟩ => ⟨S_, .f32⟩
  | .hbm, ⟨34, _⟩ => ⟨S2x512x1024, .f32⟩
  | .hbm, ⟨35, _⟩ => ⟨S2x512x1024, .f32⟩
  | .hbm, ⟨36, _⟩ => ⟨S_, .f32⟩
  | .hbm, ⟨37, _⟩ => ⟨S2x512x1024, .f32⟩
  | .hbm, ⟨38, _⟩ => ⟨S2x512x1024, .f32⟩
  | .hbm, ⟨39, _⟩ => ⟨S2x512x1024, .f32⟩
  | .hbm, ⟨40, _⟩ => ⟨S_, .f32⟩
  | .hbm, ⟨41, _⟩ => ⟨S2x512x1024, .f32⟩
  | .hbm, ⟨42, _⟩ => ⟨S2x512x1024, .f32⟩
  | .hbm, ⟨43, _⟩ => ⟨S2x512x1024, .f32⟩
  | .hbm, ⟨44, _⟩ => ⟨S_, .f32⟩
  | .hbm, ⟨45, _⟩ => ⟨S2x512x1024, .f32⟩
  | .hbm, ⟨46, _⟩ => ⟨S2x512x1024, .f32⟩
  | .hbm, ⟨47, _⟩ => ⟨S2x512x1024, .f32⟩
  | .hbm, ⟨48, _⟩ => ⟨S_, .f32⟩
  | .hbm, ⟨49, _⟩ => ⟨S2x512x1024, .f32⟩
  | .hbm, ⟨50, _⟩ => ⟨S2x512x1024, .f32⟩
  | _, _ => ⟨S512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel16.lean ====
abbrev S1024x384 : Shape := ⟨2, ![1024, 384]⟩
abbrev S3x1024x384 : Shape := ⟨3, ![3, 1024, 384]⟩
abbrev S2x1024x384 : Shape := ⟨3, ![2, 1024, 384]⟩
abbrev S256x384 : Shape := ⟨2, ![256, 384]⟩
abbrev S3x256x384 : Shape := ⟨3, ![3, 256, 384]⟩
abbrev S1x256x384 : Shape := ⟨3, ![1, 256, 384]⟩

abbrev nBuf : Space → Nat
  | .hbm => 11
  | .vmem => 22
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S3x1024x384, .bf16⟩
  | .hbm, ⟨3, _⟩ => ⟨S3x1024x384, .bf16⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S2x1024x384, .f32⟩
  | .hbm, ⟨8, _⟩ => ⟨S2x1024x384, .f32⟩
  | .hbm, ⟨9, _⟩ => ⟨S2x1024x384, .f32⟩
  | .hbm, ⟨10, _⟩ => ⟨S2x1024x384, .f32⟩
  | .local _ .vmem, ⟨0, _⟩ => ⟨S256x384, .f32⟩
  | .local _ .vmem, ⟨1, _⟩ => ⟨S256x384, .f32⟩
  | .local _ .vmem, ⟨2, _⟩ => ⟨S256x384, .f32⟩
  | .local _ .vmem, ⟨3, _⟩ => ⟨S256x384, .f32⟩
  | .local _ .vmem, ⟨4, _⟩ => ⟨S3x256x384, .bf16⟩
  | .local _ .vmem, ⟨5, _⟩ => ⟨S3x256x384, .bf16⟩
  | .local _ .vmem, ⟨6, _⟩ => ⟨S3x256x384, .bf16⟩
  | .local _ .vmem, ⟨7, _⟩ => ⟨S3x256x384, .bf16⟩
  | .local _ .vmem, ⟨8, _⟩ => ⟨S1x256x384, .f32⟩
  | .local _ .vmem, ⟨9, _⟩ => ⟨S1x256x384, .f32⟩
  | .local _ .vmem, ⟨10, _⟩ => ⟨S1x256x384, .f32⟩
  | .local _ .vmem, ⟨11, _⟩ => ⟨S1x256x384, .f32⟩
  | .local _ .vmem, ⟨12, _⟩ => ⟨S1x256x384, .f32⟩
  | .local _ .vmem, ⟨13, _⟩ => ⟨S1x256x384, .f32⟩
  | .local _ .vmem, ⟨14, _⟩ => ⟨S1x256x384, .f32⟩
  | .local _ .vmem, ⟨15, _⟩ => ⟨S1x256x384, .f32⟩
  | .local _ .vmem, ⟨16, _⟩ => ⟨S1x256x384, .f32⟩
  | .local _ .vmem, ⟨17, _⟩ => ⟨S1x256x384, .f32⟩
  | .local _ .vmem, ⟨18, _⟩ => ⟨S1x256x384, .f32⟩
  | .local _ .vmem, ⟨19, _⟩ => ⟨S1x256x384, .f32⟩
  | .local _ .vmem, ⟨20, _⟩ => ⟨S1x256x384, .f32⟩
  | .local _ .vmem, ⟨21, _⟩ => ⟨S1x256x384, .f32⟩
  | _, _ => ⟨S1024x384, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 4], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  ![v3.toNat, c0_i32.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c3_i32 : BitVec 32 := 3#32
  let v2 : BitVec 32 := Scalar.muli c3_i32 arg0
  let v3 : BitVec 32 := Scalar.addi v1 v2
  let c0_i32 : BitVec 32 := 0#32
  let c0_i32_0 : BitVec 32 := 0#32
  let c0_i32_1 : BitVec 32 := 0#32
  ![c0_i32.toNat, v3.toNat, c0_i32_0.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x384 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x384 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x256x384 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x256x384 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x384 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x384 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x384 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x256x384 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x256x384 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x256x384 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x256x384 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference16Ideal.lean ====
abbrev S1024x384 : Shape := ⟨2, ![1024, 384]⟩
abbrev S3x1024x384 : Shape := ⟨3, ![3, 1024, 384]⟩
abbrev S2x1024x384 : Shape := ⟨3, ![2, 1024, 384]⟩
abbrev S_ : Shape := ⟨0, ![]⟩
abbrev S1x1024x384 : Shape := ⟨3, ![1, 1024, 384]⟩

abbrev nBuf : Space → Nat
  | .hbm => 51
  | .vmem => 0
  | .smem => 0
  | _ => 0

abbrev bufTy : (tb : Table) → Fin (tcTables nBuf tb) → BufTy
  | .hbm, ⟨0, _⟩ => ⟨S1024x384, .f32⟩
  | .hbm, ⟨1, _⟩ => ⟨S1024x384, .f32⟩
  | .hbm, ⟨2, _⟩ => ⟨S3x1024x384, .bf16⟩
  | .hbm, ⟨3, _⟩ => ⟨S3x1024x384, .bf16⟩
  | .hbm, ⟨4, _⟩ => ⟨S2x1024x384, .f32⟩
  | .hbm, ⟨5, _⟩ => ⟨S2x1024x384, .f32⟩
  | .hbm, ⟨6, _⟩ => ⟨S2x1024x384, .f32⟩
  | .hbm, ⟨7, _⟩ => ⟨S3x1024x384, .f32⟩
  | .hbm, ⟨8, _⟩ => ⟨S_, .f32⟩
  | .hbm, ⟨9, _⟩ => ⟨S1024x384, .f32⟩
  | .hbm, ⟨10, _⟩ => ⟨S1024x384, .f32⟩
  | .hbm, ⟨11, _⟩ => ⟨S3x1024x384, .f32⟩
  | .hbm, ⟨12, _⟩ => ⟨S_, .f32⟩
  | .hbm, ⟨13, _⟩ => ⟨S1024x384, .f32⟩
  | .hbm, ⟨14, _⟩ => ⟨S1024x384, .f32⟩
  | .hbm, ⟨15, _⟩ => ⟨S1x1024x384, .f32⟩
  | .hbm, ⟨16, _⟩ => ⟨S1x1024x384, .f32⟩
  | .hbm, ⟨17, _⟩ => ⟨S2x1024x384, .f32⟩
  | .hbm, ⟨18, _⟩ => ⟨S_, .f32⟩
  | .hbm, ⟨19, _⟩ => ⟨S2x1024x384, .f32⟩
  | .hbm, ⟨20, _⟩ => ⟨S2x1024x384, .f32⟩
  | .hbm, ⟨21, _⟩ => ⟨S_, .f32⟩
  | .hbm, ⟨22, _⟩ => ⟨S2x1024x384, .f32⟩
  | .hbm, ⟨23, _⟩ => ⟨S2x1024x384, .f32⟩
  | .hbm, ⟨24, _⟩ => ⟨S2x1024x384, .f32⟩
  | .hbm, ⟨25, _⟩ => ⟨S_, .f32⟩
  | .hbm, ⟨26, _⟩ => ⟨S2x1024x384, .f32⟩
  | .hbm, ⟨27, _⟩ => ⟨S2x1024x384, .f32⟩
  | .hbm, ⟨28, _⟩ => ⟨S2x1024x384, .f32⟩
  | .hbm, ⟨29, _⟩ => ⟨S_, .f32⟩
  | .hbm, ⟨30, _⟩ => ⟨S2x1024x384, .f32⟩
  | .hbm, ⟨31, _⟩ => ⟨S2x1024x384, .f32⟩
  | .hbm, ⟨32, _⟩ => ⟨S2x1024x384, .f32⟩
  | .hbm, ⟨33, _⟩ => ⟨S_, .f32⟩
  | .hbm, ⟨34, _⟩ => ⟨S2x1024x384, .f32⟩
  | .hbm, ⟨35, _⟩ => ⟨S2x1024x384, .f32⟩
  | .hbm, ⟨36, _⟩ => ⟨S_, .f32⟩
  | .hbm, ⟨37, _⟩ => ⟨S2x1024x384, .f32⟩
  | .hbm, ⟨38, _⟩ => ⟨S2x1024x384, .f32⟩
  | .hbm, ⟨39, _⟩ => ⟨S2x1024x384, .f32⟩
  | .hbm, ⟨40, _⟩ => ⟨S_, .f32⟩
  | .hbm, ⟨41, _⟩ => ⟨S2x1024x384, .f32⟩
  | .hbm, ⟨42, _⟩ => ⟨S2x1024x384, .f32⟩
  | .hbm, ⟨43, _⟩ => ⟨S2x1024x384, .f32⟩
  | .hbm, ⟨44, _⟩ => ⟨S_, .f32⟩
  | .hbm, ⟨45, _⟩ => ⟨S2x1024x384, .f32⟩
  | .hbm, ⟨46, _⟩ => ⟨S2x1024x384, .f32⟩
  | .hbm, ⟨47, _⟩ => ⟨S2x1024x384, .f32⟩
  | .hbm, ⟨48, _⟩ => ⟨S_, .f32⟩
  | .hbm, ⟨49, _⟩ => ⟨S2x1024x384, .f32⟩
  | .hbm, ⟨50, _⟩ => ⟨S2x1024x384, .f32⟩
  | _, _ => ⟨S1024x384, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel17.lean ====
abbrev S128x1024 : Shape := ⟨2, ![128, 1024]⟩
abbrev S3x128x1024 : Shape := ⟨3, ![3, 128, 1024]⟩
abbrev S2x128x1024 : Shape := ⟨3, ![2, 128, 1024]⟩
abbrev S1x128x1024 : Shape := ⟨3, ![1, 128, 1024]⟩

abbrev nBuf : Space → Nat
  | .hbm => 11
  | .vmem => 22
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S3x128x1024, .bf16⟩
  | .hbm, ⟨3, _⟩ => ⟨S3x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S2x128x1024, .f32⟩
  | .hbm, ⟨8, _⟩ => ⟨S2x128x1024, .f32⟩
  | .hbm, ⟨9, _⟩ => ⟨S2x128x1024, .f32⟩
  | .hbm, ⟨10, _⟩ => ⟨S2x128x1024, .f32⟩
  | .local _ .vmem, ⟨0, _⟩ => ⟨S128x1024, .f32⟩
  | .local _ .vmem, ⟨1, _⟩ => ⟨S128x1024, .f32⟩
  | .local _ .vmem, ⟨2, _⟩ => ⟨S128x1024, .f32⟩
  | .local _ .vmem, ⟨3, _⟩ => ⟨S128x1024, .f32⟩
  | .local _ .vmem, ⟨4, _⟩ => ⟨S3x128x1024, .bf16⟩
  | .local _ .vmem, ⟨5, _⟩ => ⟨S3x128x1024, .bf16⟩
  | .local _ .vmem, ⟨6, _⟩ => ⟨S3x128x1024, .bf16⟩
  | .local _ .vmem, ⟨7, _⟩ => ⟨S3x128x1024, .bf16⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1x128x1024, .f32⟩
  | .local _ .vmem, ⟨12, _⟩ => ⟨S1x128x1024, .f32⟩
  | .local _ .vmem, ⟨13, _⟩ => ⟨S1x128x1024, .f32⟩
  | .local _ .vmem, ⟨14, _⟩ => ⟨S1x128x1024, .f32⟩
  | .local _ .vmem, ⟨15, _⟩ => ⟨S1x128x1024, .f32⟩
  | .local _ .vmem, ⟨16, _⟩ => ⟨S1x128x1024, .f32⟩
  | .local _ .vmem, ⟨17, _⟩ => ⟨S1x128x1024, .f32⟩
  | .local _ .vmem, ⟨18, _⟩ => ⟨S1x128x1024, .f32⟩
  | .local _ .vmem, ⟨19, _⟩ => ⟨S1x128x1024, .f32⟩
  | .local _ .vmem, ⟨20, _⟩ => ⟨S1x128x1024, .f32⟩
  | .local _ .vmem, ⟨21, _⟩ => ⟨S1x128x1024, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![2, 1], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c1_i32 : BitVec 32 := 1#32
  let v3 : BitVec 1 := Scalar.cmpi .eq arg0 c1_i32
  let v4 : BitVec 32 := Scalar.extui v3
  let c0_i32_1 : BitVec 32 := 0#32
  let v5 : BitVec 1 := Scalar.cmpi .ne v4 c0_i32_1
  v5

def cc0_transform_0 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.muli c0_i32 arg0
  let v3 : BitVec 32 := Scalar.addi v1 v2
  let c0_i32_0 : BitVec 32 := 0#32
  let c0_i32_1 : BitVec 32 := 0#32
  ![v3.toNat, c0_i32_0.toNat]

def cc0_transform_1 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

def cc0_transform_2 (i : grid0.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.subi c1_i32 arg0
  let v1 : BitVec 32 := Scalar.muli arg1 v0
  let c0_i32 : BitVec 32 := 0#32
  let v2 : BitVec 32 := Scalar.muli c0_i32 arg0
  let v3 : BitVec 32 := Scalar.addi v1 v2
  let c0_i32_0 : BitVec 32 := 0#32
  let c0_i32_1 : BitVec 32 := 0#32
  let c0_i32_2 : BitVec 32 := 0#32
  ![c0_i32_0.toNat, v3.toNat, c0_i32_1.toNat]

def cc0_transform_3 (i : grid0.Coords) : Fin 3 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S3x128x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S3x128x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x128x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x128x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x128x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x128x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x128x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x128x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Reference17Ideal.lean ====
abbrev S128x1024 : Shape := ⟨2, ![128, 1024]⟩
abbrev S3x128x1024 : Shape := ⟨3, ![3, 128, 1024]⟩
abbrev S2x128x1024 : Shape := ⟨3, ![2, 128, 1024]⟩
abbrev S_ : Shape := ⟨0, ![]⟩
abbrev S1x128x1024 : Shape := ⟨3, ![1, 128, 1024]⟩

abbrev nBuf : Space → Nat
  | .hbm => 51
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S128x1024, .f32⟩
  | .hbm, ⟨2, _⟩ => ⟨S3x128x1024, .bf16⟩
  | .hbm, ⟨3, _⟩ => ⟨S3x128x1024, .bf16⟩
  | .hbm, ⟨4, _⟩ => ⟨S2x128x1024, .f32⟩
  | .hbm, ⟨5, _⟩ => ⟨S2x128x1024, .f32⟩
  | .hbm, ⟨6, _⟩ => ⟨S2x128x1024, .f32⟩
  | .hbm, ⟨7, _⟩ => ⟨S3x128x1024, .f32⟩
  | .hbm, ⟨8, _⟩ => ⟨S_, .f32⟩
  | .hbm, ⟨9, _⟩ => ⟨S128x1024, .f32⟩
  | .hbm, ⟨10, _⟩ => ⟨S128x1024, .f32⟩
  | .hbm, ⟨11, _⟩ => ⟨S3x128x1024, .f32⟩
  | .hbm, ⟨12, _⟩ => ⟨S_, .f32⟩
  | .hbm, ⟨13, _⟩ => ⟨S128x1024, .f32⟩
  | .hbm, ⟨14, _⟩ => ⟨S128x1024, .f32⟩
  | .hbm, ⟨15, _⟩ => ⟨S1x128x1024, .f32⟩
  | .hbm, ⟨16, _⟩ => ⟨S1x128x1024, .f32⟩
  | .hbm, ⟨17, _⟩ => ⟨S2x128x1024, .f32⟩
  | .hbm, ⟨18, _⟩ => ⟨S_, .f32⟩
  | .hbm, ⟨19, _⟩ => ⟨S2x128x1024, .f32⟩
  | .hbm, ⟨20, _⟩ => ⟨S2x128x1024, .f32⟩
  | .hbm, ⟨21, _⟩ => ⟨S_, .f32⟩
  | .hbm, ⟨22, _⟩ => ⟨S2x128x1024, .f32⟩
  | .hbm, ⟨23, _⟩ => ⟨S2x128x1024, .f32⟩
  | .hbm, ⟨24, _⟩ => ⟨S2x128x1024, .f32⟩
  | .hbm, ⟨25, _⟩ => ⟨S_, .f32⟩
  | .hbm, ⟨26, _⟩ => ⟨S2x128x1024, .f32⟩
  | .hbm, ⟨27, _⟩ => ⟨S2x128x1024, .f32⟩
  | .hbm, ⟨28, _⟩ => ⟨S2x128x1024, .f32⟩
  | .hbm, ⟨29, _⟩ => ⟨S_, .f32⟩
  | .hbm, ⟨30, _⟩ => ⟨S2x128x1024, .f32⟩
  | .hbm, ⟨31, _⟩ => ⟨S2x128x1024, .f32⟩
  | .hbm, ⟨32, _⟩ => ⟨S2x128x1024, .f32⟩
  | .hbm, ⟨33, _⟩ => ⟨S_, .f32⟩
  | .hbm, ⟨34, _⟩ => ⟨S2x128x1024, .f32⟩
  | .hbm, ⟨35, _⟩ => ⟨S2x128x1024, .f32⟩
  | .hbm, ⟨36, _⟩ => ⟨S_, .f32⟩
  | .hbm, ⟨37, _⟩ => ⟨S2x128x1024, .f32⟩
  | .hbm, ⟨38, _⟩ => ⟨S2x128x1024, .f32⟩
  | .hbm, ⟨39, _⟩ => ⟨S2x128x1024, .f32⟩
  | .hbm, ⟨40, _⟩ => ⟨S_, .f32⟩
  | .hbm, ⟨41, _⟩ => ⟨S2x128x1024, .f32⟩
  | .hbm, ⟨42, _⟩ => ⟨S2x128x1024, .f32⟩
  | .hbm, ⟨43, _⟩ => ⟨S2x128x1024, .f32⟩
  | .hbm, ⟨44, _⟩ => ⟨S_, .f32⟩
  | .hbm, ⟨45, _⟩ => ⟨S2x128x1024, .f32⟩
  | .hbm, ⟨46, _⟩ => ⟨S2x128x1024, .f32⟩
  | .hbm, ⟨47, _⟩ => ⟨S2x128x1024, .f32⟩
  | .hbm, ⟨48, _⟩ => ⟨S_, .f32⟩
  | .hbm, ⟨49, _⟩ => ⟨S2x128x1024, .f32⟩
  | .hbm, ⟨50, _⟩ => ⟨S2x128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_4 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_cst_6 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_7 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_8 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_9 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Proof.AttnBwdBlocks.lean ====
/-
  What the body of the fused backward call (`mlp_in_attn_out_bwd`) leaves in each of its seven output windows at a grid
  point, as the named payloads of the point's input blocks, over any float values.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Blocks

open Cert.KernelIdeal Cert.KernelIdeal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

/-- What output 10 holds after a point: this point's block. -/
theorem outs_10 (c : Dev nD) (t : Fin cfg0.N) : (outsAt0 m c t.val t.isLt).1 = k0_pay9 (iblk m c 0 t) (iblk m c 1 t) (iblk m c 2 t) (iblk m c 3 t) (iblk m c 4 t) (iblk m c 6 t) := by
  have hN : cfg0.N = 8 := N_0
  have ht := t.isLt
  by_cases h : t.val % 8 = 0
  · have h1 : ¬1 ≤ t.val := by omega
    rw [outsAt0_A m c t h h1 h h1 h h1 h h1]
    dsimp only
    unfold out0_A_10
    refine (View.read_writes_eq_canon _ _ _ (fun y => cover0_A_10 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [outsAt0_B m c t h h1 h h1 h h1 h h1]
    dsimp only
    unfold out0_B_10
    refine (View.read_writes_eq_canon _ _ _ (fun y => cover0_B_10 (F := F) (y := y) ..)).trans ?_
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

/-- What output 11 holds after a point: at the first point of a run this point's part, at a later one the
    part added to what the point before left. -/
theorem outs_11 (c : Dev nD) (t : Fin cfg0.N) :
    (outsAt0 m c t.val t.isLt).2.1 = if t.val % 8 = 0 then k0_pay10 (k0_pay4 (iblk m c 0 t) (iblk m c 1 t))
      else addf (outsAt0 m c (t.val - 1) (Nat.lt_of_le_of_lt (Nat.sub_le _ _) t.isLt)).2.1 (k0_pay10 (k0_pay4 (iblk m c 0 t) (iblk m c 1 t))) := by
  have hN : cfg0.N = 8 := N_0
  have ht := t.isLt
  by_cases h : t.val % 8 = 0
  · have h1 : ¬1 ≤ t.val := by omega
    rw [if_pos h, outsAt0_A m c t h h1 h h1 h h1 h h1]
    dsimp only
    unfold out0_A_11
    refine (View.read_writes_eq_canon _ _ _ (fun y => cover0_A_11 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [if_neg h, outsAt0_B m c t h h1 h h1 h h1 h h1]
    dsimp only
    unfold out0_B_11
    refine (View.read_writes_eq_canon _ _ _ (fun y => cover0_B_11 (F := F) (y := y) ..)).trans ?_
    unfold kernelRun0_B
    dsimp only
    sl_unfold_words
    rw [View.canon_unit_zero hz2]
    unfold k0_pay11
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

/-- What output 12 holds after a point: at the first point of a run this point's part, at a later one the
    part added to what the point before left. -/
theorem outs_12 (c : Dev nD) (t : Fin cfg0.N) :
    (outsAt0 m c t.val t.isLt).2.2.1 = if t.val % 8 = 0 then k0_pay12 (k0_pay4 (iblk m c 0 t) (iblk m c 1 t)) (k0_pay7 (iblk m c 2 t)) (iblk m c 3 t)
      else addf (outsAt0 m c (t.val - 1) (Nat.lt_of_le_of_lt (Nat.sub_le _ _) t.isLt)).2.2.1 (k0_pay12 (k0_pay4 (iblk m c 0 t) (iblk m c 1 t)) (k0_pay7 (iblk m c 2 t)) (iblk m c 3 t)) := by
  have hN : cfg0.N = 8 := N_0
  have ht := t.isLt
  by_cases h : t.val % 8 = 0
  · have h1 : ¬1 ≤ t.val := by omega
    rw [if_pos h, outsAt0_A m c t h h1 h h1 h h1 h h1]
    dsimp only
    unfold out0_A_12
    refine (View.read_writes_eq_canon _ _ _ (fun y => cover0_A_12 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [if_neg h, outsAt0_B m c t h h1 h h1 h h1 h h1]
    dsimp only
    unfold out0_B_12
    refine (View.read_writes_eq_canon _ _ _ (fun y => cover0_B_12 (F := F) (y := y) ..)).trans ?_
    unfold kernelRun0_B
    dsimp only
    sl_unfold_words
    rw [View.canon_unit_zero hz2]
    unfold k0_pay13
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

/-- What output 13 holds after a point: at the first point of a run this point's part, at a later one the
    part added to what the point before left. -/
theorem outs_13 (c : Dev nD) (t : Fin cfg0.N) :
    (outsAt0 m c t.val t.isLt).2.2.2.1 = if t.val % 8 = 0 then k0_pay14 (k0_pay7 (iblk m c 2 t)) (k0_pay8 (iblk m c 0 t) (iblk m c 1 t) (iblk m c 4 t))
      else addf (outsAt0 m c (t.val - 1) (Nat.lt_of_le_of_lt (Nat.sub_le _ _) t.isLt)).2.2.2.1 (k0_pay14 (k0_pay7 (iblk m c 2 t)) (k0_pay8 (iblk m c 0 t) (iblk m c 1 t) (iblk m c 4 t))) := by
  have hN : cfg0.N = 8 := N_0
  have ht := t.isLt
  by_cases h : t.val % 8 = 0
  · have h1 : ¬1 ≤ t.val := by omega
    rw [if_pos h, outsAt0_A m c t h h1 h h1 h h1 h h1]
    dsimp only
    unfold out0_A_13
    refine (View.read_writes_eq_canon _ _ _ (fun y => cover0_A_13 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [if_neg h, outsAt0_B m c t h h1 h h1 h h1 h h1]
    dsimp only
    unfold out0_B_13
    refine (View.read_writes_eq_canon _ _ _ (fun y => cover0_B_13 (F := F) (y := y) ..)).trans ?_
    unfold kernelRun0_B
    dsimp only
    sl_unfold_words
    rw [View.canon_unit_zero hz2]
    unfold k0_pay15
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

/-- What output 14 holds after a point: this point's block. -/
theorem outs_14 (c : Dev nD) (t : Fin cfg0.N) : (outsAt0 m c t.val t.isLt).2.2.2.2.1 = k0_pay16 (k0_pay9 (iblk m c 0 t) (iblk m c 1 t) (iblk m c 2 t) (iblk m c 3 t) (iblk m c 4 t) (iblk m c 6 t)) (iblk m c 8 t) := by
  have hN : cfg0.N = 8 := N_0
  have ht := t.isLt
  by_cases h : t.val % 8 = 0
  · have h1 : ¬1 ≤ t.val := by omega
    rw [outsAt0_A m c t h h1 h h1 h h1 h h1]
    dsimp only
    unfold out0_A_14
    refine (View.read_writes_eq_canon _ _ _ (fun y => cover0_A_14 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [outsAt0_B m c t h h1 h h1 h h1 h h1]
    dsimp only
    unfold out0_B_14
    refine (View.read_writes_eq_canon _ _ _ (fun y => cover0_B_14 (F := F) (y := y) ..)).trans ?_
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

/-- What output 15 holds after a point: at the first point of a run this point's part, at a later one the
    part added to what the point before left. -/
theorem outs_15 (c : Dev nD) (t : Fin cfg0.N) :
    (outsAt0 m c t.val t.isLt).2.2.2.2.2.1 = if t.val % 8 = 0 then k0_pay1 (k0_pay17 (k0_pay9 (iblk m c 0 t) (iblk m c 1 t) (iblk m c 2 t) (iblk m c 3 t) (iblk m c 4 t) (iblk m c 6 t)) (iblk m c 7 t))
      else addf (outsAt0 m c (t.val - 1) (Nat.lt_of_le_of_lt (Nat.sub_le _ _) t.isLt)).2.2.2.2.2.1 (k0_pay1 (k0_pay17 (k0_pay9 (iblk m c 0 t) (iblk m c 1 t) (iblk m c 2 t) (iblk m c 3 t) (iblk m c 4 t) (iblk m c 6 t)) (iblk m c 7 t))) := by
  have hN : cfg0.N = 8 := N_0
  have ht := t.isLt
  by_cases h : t.val % 8 = 0
  · have h1 : ¬1 ≤ t.val := by omega
    rw [if_pos h, outsAt0_A m c t h h1 h h1 h h1 h h1]
    dsimp only
    unfold out0_A_15
    refine (View.read_writes_eq_canon _ _ _ (fun y => cover0_A_15 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [if_neg h, outsAt0_B m c t h h1 h h1 h h1 h h1]
    dsimp only
    unfold out0_B_15
    refine (View.read_writes_eq_canon _ _ _ (fun y => cover0_B_15 (F := F) (y := y) ..)).trans ?_
    unfold kernelRun0_B
    dsimp only
    sl_unfold_words
    rw [View.canon_unit_zero hz2]
    unfold k0_pay2
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

/-- What output 16 holds after a point: this point's block. -/
theorem outs_16 (c : Dev nD) (t : Fin cfg0.N) : (outsAt0 m c t.val t.isLt).2.2.2.2.2.2 = k0_pay3 (k0_pay16 (k0_pay9 (iblk m c 0 t) (iblk m c 1 t) (iblk m c 2 t) (iblk m c 3 t) (iblk m c 4 t) (iblk m c 6 t)) (iblk m c 8 t)) (iblk m c 9 t) := by
  have hN : cfg0.N = 8 := N_0
  have ht := t.isLt
  by_cases h : t.val % 8 = 0
  · have h1 : ¬1 ≤ t.val := by omega
    rw [outsAt0_A m c t h h1 h h1 h h1 h h1]
    dsimp only
    unfold out0_A_16
    refine (View.read_writes_eq_canon _ _ _ (fun y => cover0_A_16 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]
  · have h1 : 1 ≤ t.val := by omega
    rw [outsAt0_B m c t h h1 h h1 h h1 h h1]
    dsimp only
    unfold out0_B_16
    refine (View.read_writes_eq_canon _ _ _ (fun y => cover0_B_16 (F := F) (y := y) ..)).trans ?_
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, (hs0_11 t).read_unread, (hs0_12 t).read_unread, (hs0_13 t).read_unread, (hs0_14 t).read_unread, (hs0_15 t).read_unread, (hs0_16 t).read_unread, View.ld_unit_zero (S := S1x1024) hz2, View.ld_unit_zero (S := S512x4096) hz2, View.ld_unit_zero (S := S1024x4096) hz2, View.ld_unit_zero (S := S512x1024) hz2, View.ld_unit_zero (S := S1024x1024) hz2, shapeCast_self]

end Cert.KernelIdeal.Blocks

end
-- ==== Proof.Rows.lean ====
/-
  One row of the normalised, modulated sublayer over the extended reals: the reciprocal root mean square of a row, and the
  gradient of the row through it. The kernels write that gradient around the normalised row; differentiating the plain
  formula writes it around the row itself. Both are equal for every row, infinite entries included.
-/
module

public import Idealize.ShloMosaic.PureOps.Ideal
public import Idealize.ShloMosaic.Lib.IdealHost
public import Idealize.ShloMosaic.Lib.Tactic
public import Mathlib.Data.EReal.Operations
public import Mathlib.Data.EReal.Inv

@[expose] public section

noncomputable section

namespace Cert.Rows

open Idealize.ShloMosaic

/-- The width of a row, 1024, as the programs spell it. -/
abbrev cWidth : EReal := Ideal.ofBits .f32 0x44800000#32
/-- The stabiliser added to the mean square. -/
abbrev cEps : EReal := Ideal.ofBits .f32 0x358637BD#32
/-- Minus one half, the exponent of the derivative of the reciprocal root. -/
abbrev cMinusHalf : EReal := Ideal.ofBits .f32 0xBF000000#32

theorem cWidth_eq : cWidth = ((1024 : ℝ) : EReal) := by
  simp [cWidth, Ideal.ofBits, Ideal.ieee, -EReal.coe_mul]; norm_num

theorem cMinusHalf_eq : cMinusHalf = ((-(1 / 2) : ℝ) : EReal) := by
  simp [cMinusHalf, Ideal.ofBits, Ideal.ieee, -EReal.coe_mul, -EReal.coe_neg]; norm_num

theorem cEps_pos : ∃ e : ℝ, 0 < e ∧ cEps = (e : EReal) := by
  refine ⟨_, ?_, by simp [cEps, Ideal.ofBits, Ideal.ieee, -EReal.coe_mul]; rfl⟩
  positivity

theorem div_width (x : EReal) : Ideal.div x cWidth = x * ((1024⁻¹ : ℝ) : EReal) := by
  have h : ((1024 : ℝ) : EReal) ≠ 0 := by norm_cast
  rw [cWidth_eq, Ideal.div, if_neg h, EReal.coe_inv]

theorem square_nonneg (x : EReal) : 0 ≤ x * x := by
  induction x with
  | bot => simp
  | top => simp
  | coe r => rw [← EReal.coe_mul]; exact EReal.coe_nonneg.mpr (mul_self_nonneg r)

/-- A real factor that is not negative distributes over an extended sum. -/
theorem mul_add_real {r : ℝ} (hr : 0 ≤ r) (a b : EReal) : (r : EReal) * (a + b) = r * a + r * b :=
  EReal.left_distrib_of_nonneg_of_ne_top (EReal.coe_nonneg.mpr hr) (EReal.coe_ne_top r) a b

theorem mul_sum_real {r : ℝ} (hr : 0 ≤ r) {ι : Type} (s : Finset ι) (f : ι → EReal) :
    (r : EReal) * ∑ k ∈ s, f k = ∑ k ∈ s, (r : EReal) * f k := by
  classical
  induction s using Finset.induction_on with
  | empty => simp
  | insert a s ha ih => rw [Finset.sum_insert ha, Finset.sum_insert ha, mul_add_real hr, ih]

variable {n : Nat}

/-- The stabilised mean square of a row. -/
def ms (x : Fin n → EReal) : EReal := Ideal.div (∑ k, x k * x k) cWidth + cEps
/-- Its reciprocal root. -/
def inv (x : Fin n → EReal) : EReal := Ideal.rsqrt (ms x)

/-- The mean square is infinite, and then the reciprocal root is zero; or it is a positive real. -/
theorem ms_cases (x : Fin n → EReal) : ms x = ⊤ ∨ ∃ s : ℝ, 0 < s ∧ ms x = (s : EReal) := by
  obtain ⟨e, he, hE⟩ := cEps_pos
  have h0 : (0 : EReal) ≤ ∑ k, x k * x k := Finset.sum_nonneg fun k _ => square_nonneg (x k)
  have h1 : (0 : EReal) ≤ Ideal.div (∑ k, x k * x k) cWidth := by
    rw [div_width]; exact mul_nonneg h0 (EReal.coe_nonneg.mpr (by norm_num))
  unfold ms
  rw [hE]
  generalize Ideal.div (∑ k, x k * x k) cWidth = d at h1 ⊢
  induction d with
  | bot => simp at h1
  | top => left; exact EReal.top_add_coe e
  | coe r =>
    right
    have hr : 0 ≤ r := EReal.coe_nonneg.mp h1
    exact ⟨r + e, by linarith, (EReal.coe_add r e).symm⟩

/-- The reciprocal root is a real number that is not negative; over the mean square it is its own cube. -/
theorem inv_cases (x : Fin n → EReal) :
    ∃ r : ℝ, 0 ≤ r ∧ inv x = (r : EReal) ∧ Ideal.div (inv x) (ms x) = ((r * r * r : ℝ) : EReal) := by
  unfold inv
  rcases ms_cases x with h | ⟨s, hs, h⟩
  · refine ⟨0, le_refl _, ?_, ?_⟩ <;> rw [h] <;> simp [Ideal.div]
  · have hs' : ((s : ℝ) : EReal) ≠ 0 := by exact_mod_cast hs.ne'
    have hrs : Ideal.rsqrt (s : EReal) = (((Real.sqrt s)⁻¹ : ℝ) : EReal) := by
      rw [Ideal.rsqrt_coe, if_neg (not_lt.mpr hs.le), if_neg hs.ne']
    refine ⟨(Real.sqrt s)⁻¹, by positivity, by rw [h, hrs], ?_⟩
    rw [h, hrs, Ideal.div, if_neg hs', ← EReal.coe_inv, ← EReal.coe_mul]
    congr 1
    have hq : Real.sqrt s * Real.sqrt s = s := Real.mul_self_sqrt hs.le
    have : s⁻¹ = (Real.sqrt s)⁻¹ * (Real.sqrt s)⁻¹ := by rw [← mul_inv, hq]
    rw [this]; ring

/-- The gradient of a row as the kernels write it: the cotangent `e` of the normalised row less its part along the
    normalised row, times the reciprocal root, added to the residual's cotangent `d`. -/
def back (x e : Fin n → EReal) (d : EReal) (j : Fin n) : EReal :=
  d + inv x * (e j - x j * inv x * Ideal.div (∑ k, e k * (x k * inv x)) cWidth)

/-- The common factor of the gradient through the mean square. -/
def msBack (x e : Fin n → EReal) : EReal :=
  Ideal.div ((∑ k, x k * e k) * (cMinusHalf * Ideal.div (inv x) (ms x))) cWidth

/-- Differentiating `x * rsqrt (mean (x * x) + eps)` factor by factor gives the same row. -/
theorem back_eq (x e : Fin n → EReal) (d : EReal) (j : Fin n) :
    back x e d j = d + e j * inv x + x j * msBack x e + msBack x e * x j := by
  obtain ⟨r, hr, hi, hd⟩ := inv_cases x
  unfold back msBack
  rw [hd, hi, div_width, div_width, cMinusHalf_eq]
  have hG : ∑ k, e k * (x k * (r : EReal)) = (r : EReal) * ∑ k, x k * e k := by
    rw [mul_sum_real hr]; exact Finset.sum_congr rfl fun k _ => by rw [← mul_assoc, mul_comm (e k), mul_comm]
  rw [hG]
  generalize ∑ k, x k * e k = G
  have hneg : (r : EReal) * (e j - x j * r * (r * G * ((1024⁻¹ : ℝ) : EReal)))
      = e j * r + -(x j * G * ((r * r * r * 1024⁻¹ : ℝ) : EReal)) := by
    rw [sub_eq_add_neg, mul_add_real hr, mul_comm (r : EReal) (e j), mul_neg]
    congr 2
    simp only [EReal.coe_mul]
    ac_rfl
  have hC : x j * (G * (((-(1 / 2) : ℝ) : EReal) * ((r * r * r : ℝ) : EReal)) * ((1024⁻¹ : ℝ) : EReal))
      = ((1 / 2 : ℝ) : EReal) * -(x j * G * ((r * r * r * 1024⁻¹ : ℝ) : EReal)) := by
    rw [EReal.coe_neg, EReal.neg_mul]
    simp only [EReal.coe_mul, mul_neg, EReal.neg_mul]
    congr 1
    ac_rfl
  rw [hneg, mul_comm (G * _ * _) (x j), hC, ← add_assoc, add_assoc (d + _)]
  congr 1
  have h2 : ∀ y : EReal, y = ((1 / 2 : ℝ) : EReal) * y + ((1 / 2 : ℝ) : EReal) * y := fun y => by
    rw [← mul_add_real (by norm_num)]
    induction y with
    | bot => simp [EReal.coe_mul_bot_of_pos]
    | top => simp [EReal.coe_mul_top_of_pos]
    | coe y => rw [← EReal.coe_add, ← EReal.coe_mul]; congr 1; ring
  exact h2 _

end Cert.Rows

end
-- ==== Proof.AttnBwdPay.lean ====
/-
  The payloads of the fused backward call (`mlp_in_attn_out_bwd`) over the extended reals, read at an index of a block.
-/
module

public import proofs.«01_k».proof.Proof.Gen.KernelIdeal.Skeleton
public import proofs.«01_k».proof.Proof.Rows
public import Idealize.ShloMosaic.Lib.Pointwise

@[expose] public section

set_option maxRecDepth 16384

noncomputable section

namespace Cert.KernelIdeal.Pay

open Cert.KernelIdeal Cert.KernelIdeal.Gen Idealize.ShloMosaic

/-- The cotangent of the modulated row: a product against the transposed weight. -/
theorem dh_apply (du : Vec Ideal S512x4096 .bf16) (w1 : Vec Ideal S1024x4096 .bf16) (p : Fin 512) (j : Fin 1024) :
    k0_pay4 (F := Ideal) du w1 (ix2 p j) = ∑ k : Fin 4096, du (ix2 p k) * w1 (ix2 j k) := by
  pointwise [k0_pay4]

theorem inv_apply (x : Vec Ideal S512x1024 .f32) (p : Fin 512) :
    k0_pay6 (F := Ideal) x (ix2 p 0) = Rows.inv fun k => x (ix2 p k) := by
  pointwise [k0_pay6, k0_pay5]
  rfl

theorem xhat_apply (x : Vec Ideal S512x1024 .f32) (p : Fin 512) (j : Fin 1024) :
    k0_pay7 (F := Ideal) x (ix2 p j) = x (ix2 p j) * Rows.inv fun k => x (ix2 p k) := by
  rw [← inv_apply]
  pointwise [k0_pay7, k0_pay5]

theorem dn_apply (du : Vec Ideal S512x4096 .bf16) (w1 : Vec Ideal S1024x4096 .bf16) (sc : Vec Ideal S1x1024 .f32)
    (p : Fin 512) (j : Fin 1024) :
    k0_pay8 (F := Ideal) du w1 sc (ix2 p j)
      = (∑ k : Fin 4096, du (ix2 p k) * w1 (ix2 j k)) * (1 + sc (ix2 0 j)) := by
  rw [← dh_apply]
  pointwise [k0_pay8]

theorem dx_apply (du : Vec Ideal S512x4096 .bf16) (w1 : Vec Ideal S1024x4096 .bf16) (x : Vec Ideal S512x1024 .f32)
    (g sc : Vec Ideal S1x1024 .f32) (d : Vec Ideal S512x1024 .f32) (p : Fin 512) (j : Fin 1024) :
    k0_pay9 (F := Ideal) du w1 x g sc d (ix2 p j)
      = Rows.back (fun k => x (ix2 p k))
          (fun k => (∑ q : Fin 4096, du (ix2 p q) * w1 (ix2 k q)) * (1 + sc (ix2 0 k)) * g (ix2 0 k))
          (d (ix2 p j)) j := by
  pointwise [k0_pay9]
  simp only [dn_apply, inv_apply, xhat_apply]
  rfl

theorem dsh_apply (dh : FVec Ideal S512x1024 .f32) (j : Fin 1024) :
    k0_pay10 (F := Ideal) dh (ix2 0 j) = ∑ p : Fin 512, dh (ix2 p j) := by
  pointwise [k0_pay10]

theorem dsc_apply (dh xh : FVec Ideal S512x1024 .f32) (g : Vec Ideal S1x1024 .f32) (j : Fin 1024) :
    k0_pay12 (F := Ideal) dh xh g (ix2 0 j) = ∑ p : Fin 512, dh (ix2 p j) * (xh (ix2 p j) * g (ix2 0 j)) := by
  pointwise [k0_pay12]

theorem dg_apply (xh dn : FVec Ideal S512x1024 .f32) (j : Fin 1024) :
    k0_pay14 (F := Ideal) xh dn (ix2 0 j) = ∑ p : Fin 512, dn (ix2 p j) * xh (ix2 p j) := by
  pointwise [k0_pay14]

theorem dz_apply (dx : FVec Ideal S512x1024 .f32) (gt : Vec Ideal S1x1024 .f32) (p : Fin 512) (j : Fin 1024) :
    k0_pay16 (F := Ideal) dx gt (ix2 p j) = dx (ix2 p j) * gt (ix2 0 j) := by
  pointwise [k0_pay16]

theorem dgt_apply (dx : FVec Ideal S512x1024 .f32) (f : Vec Ideal S512x1024 .bf16) (j : Fin 1024) :
    k0_pay1 (F := Ideal) (k0_pay17 dx f) (ix2 0 j) = ∑ p : Fin 512, dx (ix2 p j) * f (ix2 p j) := by
  pointwise [k0_pay1, k0_pay17]

theorem dm_apply (dz : FVec Ideal S512x1024 .bf16) (wo : Vec Ideal S1024x1024 .bf16) (p : Fin 512) (i : Fin 1024) :
    k0_pay3 (F := Ideal) dz wo (ix2 p i) = ∑ k : Fin 1024, dz (ix2 p k) * wo (ix2 i k) := by
  pointwise [k0_pay3]

end Cert.KernelIdeal.Pay

end
-- ==== Proof.Layer.lean ====
/-
  The products, sums and gradients of the training step's layer as functions of plain matrices over the extended reals,
  and the lemmas on sums by which a sum taken block after block is the sum over all rows.
-/
module

public import proofs.«01_k».proof.Proof.Rows
public import Mathlib.Algebra.BigOperators.Fin
public import Mathlib.Logic.Equiv.Fin.Basic
public import Mathlib.Algebra.BigOperators.Group.Finset.Sigma

@[expose] public section

noncomputable section

namespace Cert.Layer

open Idealize.ShloMosaic

/-- A matrix over the extended reals. -/
abbrev Mat (a b : Nat) := Fin a → Fin b → EReal

variable {s d n k : Nat}

/-- `a @ b`. -/
def nn (a : Mat s k) (b : Mat k n) : Mat s n := fun r j => ∑ q, a r q * b q j
/-- `a @ bᵀ`. -/
def nt (a : Mat s k) (b : Mat n k) : Mat s n := fun r j => ∑ q, a r q * b j q
/-- `aᵀ @ b`. -/
def tn (a : Mat s k) (b : Mat s n) : Mat k n := fun i j => ∑ r, a r i * b r j
/-- The sum over the rows. -/
def rows (a : Mat s n) : Fin n → EReal := fun j => ∑ r, a r j

/-- The normalised rows. -/
def hat (x : Mat s d) : Mat s d := fun r j => x r j * Rows.inv (x r)
/-- Normalised, scaled, modulated: `rmsnorm (x, g) * (1 + sc) + sh`. -/
def adaln (x : Mat s d) (g sc sh : Fin d → EReal) : Mat s d := fun r j => hat x r j * g j * (1 + sc j) + sh j
/-- The cotangent of the scaled rows, from that of the modulated ones. -/
def dn (dh : Mat s d) (sc : Fin d → EReal) : Mat s d := fun r j => dh r j * (1 + sc j)
/-- The gradient of the rows themselves, the residual's cotangent `dres` added. -/
def dx (x dh : Mat s d) (g sc : Fin d → EReal) (dres : Mat s d) : Mat s d := fun r j =>
  Rows.back (x r) (fun q => dn dh sc r q * g q) (dres r j) j
/-- The gradient of the modulating scale. -/
def dsc (x dh : Mat s d) (g : Fin d → EReal) : Fin d → EReal := rows fun r j => dh r j * (hat x r j * g j)
/-- The gradient of the norm's own scale. -/
def dg (x dh : Mat s d) (sc : Fin d → EReal) : Fin d → EReal := rows fun r j => dn dh sc r j * hat x r j
/-- Each row times a vector, element by element. -/
def gate (x : Mat s d) (gt : Fin d → EReal) : Mat s d := fun r j => x r j * gt j
/-- The gated residual sum. -/
def resid (x : Mat s d) (gt : Fin d → EReal) (f : Mat s d) : Mat s d := fun r j => x r j + gt j * f r j
/-- The squared ReLU. -/
def sq (u : Mat s d) : Mat s d := fun r j => max (u r j) 0 * max (u r j) 0
/-- The cotangent of the squared ReLU's argument. -/
def sqBack (u dy : Mat s d) : Mat s d := fun r j => dy r j * (2 * max (u r j) 0)
/-- The gradient of the gate. -/
def dgate (dx f : Mat s d) : Fin d → EReal := rows fun r j => dx r j * f r j

/-- The loss of an error: half the sum over the rows of the mean of its squares. -/
def loss (e : Mat s d) : EReal := ((2048⁻¹ : ℝ) : EReal) * ∑ j, rows (fun r j => e r j * e r j) j

/-- One over the width, as the kernel spells it. -/
theorem perWidth_eq : Ideal.ofBits .f32 981467136#32 = ((1024⁻¹ : ℝ) : EReal) := by
  simp [Ideal.ofBits, Ideal.ieee, -EReal.coe_mul]; norm_num
/-- Half of one over the width, as the kernel spells it. -/
theorem halfPerWidth_eq : Ideal.ofBits .f32 973078528#32 = ((2048⁻¹ : ℝ) : EReal) := by
  simp [Ideal.ofBits, Ideal.ieee, -EReal.coe_mul]; norm_num
/-- One half, as the programs spell it. -/
theorem half_eq : Ideal.ofBits .f32 1056964608#32 = ((1 / 2 : ℝ) : EReal) := by
  simp [Ideal.ofBits, Ideal.ieee, -EReal.coe_mul]; norm_num

/-- Half the sum of the rows' means is the loss. -/
theorem half_means (e : Mat s d) :
    ((1 / 2 : ℝ) : EReal) * ∑ r, Ideal.div (∑ j, e r j * e r j) Rows.cWidth = loss e := by
  simp only [Rows.div_width, loss, rows]
  rw [Finset.sum_comm, ← Finset.sum_congr rfl fun r _ => mul_comm (((1024⁻¹ : ℝ) : EReal)) _,
    ← Rows.mul_sum_real (by norm_num), ← mul_assoc, ← EReal.coe_mul]
  norm_num

/-- Two, as the programs spell it. -/
theorem two_eq : Ideal.ofBits .f32 1073741824#32 = (2 : EReal) := by
  have h : Ideal.ofBits .f32 1073741824#32 = ((2 : ℝ) : EReal) := by
    simp [Ideal.ofBits, Ideal.ieee, -EReal.coe_mul]; norm_num
  rw [h]; rfl

/-- Where the argument is not positive its cotangent is zero, whatever the other factor. -/
theorem sqBack_if (u dy : EReal) : (if 0 < u then dy * (2 * max u 0) else 0) = dy * (2 * max u 0) := by
  split
  · rfl
  · rename_i h
    rw [max_eq_right (not_lt.mp h)]
    simp

/-- A value that is `g` at the first point of each run of `P` points and to which each later point adds its own `g` is, at
    point `i` of a run that begins at `b`, the sum over the run's points so far. -/
theorem run_sum {M : Type} [AddCommMonoid M] {N : Nat} (P : Nat) (f : (t : ℕ) → t < N → M) (g : Fin N → M)
    (hf : ∀ t (h : t < N), f t h = if t % P = 0 then g ⟨t, h⟩ else f (t - 1) (Nat.lt_of_le_of_lt (Nat.sub_le _ _) h) + g ⟨t, h⟩)
    (b : ℕ) (hb : b % P = 0) :
    ∀ i (h : b + i < N), i < P → f (b + i) h = ∑ q : Fin (i + 1), g ⟨b + q.val, by have := q.isLt; omega⟩
  | 0, h, _ => by
    rw [hf, if_pos (by simpa using hb)]
    simp
  | i + 1, h, hi => by
    have hP : ¬(b + (i + 1)) % P = 0 := by
      rw [Nat.add_mod, hb, Nat.zero_add, Nat.mod_mod, Nat.mod_eq_of_lt hi]; omega
    rw [hf, if_neg hP, Fin.sum_univ_castSucc]
    have e : ∀ t h', t = b + i → f t h' = f (b + i) (by omega) := fun t h' ht => by subst ht; rfl
    rw [e _ _ (by omega), run_sum P f g hf b hb i (by omega) (by omega)]
    rfl

/-- A sum over blocks of rows is the sum over the rows. -/
theorem sum_blocks {M : Type} [AddCommMonoid M] (A B C : Nat) (hC : A * B = C) (F : Fin C → M) :
    ∑ t : Fin A, ∑ p : Fin B, F ⟨t.val * B + p.val, by
        have := Nat.mul_le_mul_right B (Nat.succ_le_of_lt t.isLt); have := p.isLt; rw [Nat.succ_mul] at *; omega⟩ = ∑ r, F r := by
  subst hC
  rw [← (finProdFinEquiv (m := A) (n := B)).sum_comp F, Fintype.sum_prod_type]
  refine Finset.sum_congr rfl fun t _ => Finset.sum_congr rfl fun p _ => ?_
  congr 1
  apply Fin.ext
  show t.val * B + p.val = p.val + B * t.val
  rw [Nat.mul_comm, Nat.add_comm]

/-- So a value that adds, point after point, the sum over a block of rows is after the last point the sum over all rows. -/
theorem run_total {M : Type} [AddCommMonoid M] {N : Nat} (A B C : Nat) (hN : N = A) (hC : A * B = C) (F : Fin C → M)
    (f : (t : ℕ) → t < N → M) (g : Fin N → M)
    (hg : ∀ (t : Fin N) (h : ∀ p : Fin B, t.val * B + p.val < C), g t = ∑ p : Fin B, F ⟨t.val * B + p.val, h p⟩)
    (hf : ∀ t (h : t < N), f t h = if t % A = 0 then g ⟨t, h⟩ else f (t - 1) (Nat.lt_of_le_of_lt (Nat.sub_le _ _) h) + g ⟨t, h⟩)
    (t : ℕ) (h : t < N) (ht : t + 1 = A) : f t h = ∑ r, F r := by
  subst hN
  have e := run_sum N f g hf 0 (Nat.zero_mod _) t (by omega) (by omega)
  have e0 : ∀ s h', s = t → f s h' = f t h := fun s h' hs => by subst hs; rfl
  rw [← e0 (0 + t) (by omega) (Nat.zero_add t), e]
  subst ht
  rw [← sum_blocks (t + 1) B C hC F]
  refine Finset.sum_congr rfl fun q _ => ?_
  have hq : (⟨0 + q.val, by have := q.isLt; omega⟩ : Fin (t + 1)) = q := Fin.ext (Nat.zero_add _)
  rw [hq]
  exact hg q _

end Cert.Layer

end
-- ==== Proof.AttnBwdValue.lean ====
/-
  The arrays that the fused backward call (`mlp_in_attn_out_bwd`) leaves, over the extended reals: each is the gradient of the
  layer as a function of the matrices the call reads.
-/
module

public import proofs.«01_k».proof.Proof.AttnBwdBlocks
public import proofs.«01_k».proof.Proof.AttnBwdPay
public import proofs.«01_k».proof.Proof.Layer
public import proofs.«01_k».proof.Proof.Gen.KernelIdeal.Value

@[expose] public section

set_option maxRecDepth 16384

noncomputable section

namespace Cert.KernelIdeal.Final

open Cert.KernelIdeal Cert.KernelIdeal.Gen Cert.KernelIdeal.Blocks Cert.KernelIdeal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev du : Layer.Mat 4096 4096 := fun r k => V m c main_arg9 (ix2 r k)
abbrev w1 : Layer.Mat 1024 4096 := fun r k => V m c main_arg7 (ix2 r k)
abbrev x1 : Layer.Mat 4096 1024 := fun r k => V m c main_v6 (ix2 r k)
abbrev g : Fin 1024 → EReal := fun k => V m c main_arg4 (ix2 0 k)
abbrev sc : Fin 1024 → EReal := fun k => V m c main_arg5 (ix2 0 k)
abbrev dres : Layer.Mat 4096 1024 := fun r k => V m c main_arg8 (ix2 r k)
abbrev f1 : Layer.Mat 4096 1024 := fun r k => V m c main_v3 (ix2 r k)
abbrev gt : Fin 1024 → EReal := fun k => V m c main_arg3 (ix2 0 k)
abbrev wo : Layer.Mat 1024 1024 := fun r k => V m c main_arg1 (ix2 r k)
abbrev dh : Layer.Mat 4096 1024 := Layer.nt (du m c) (w1 m c)
abbrev dx : Layer.Mat 4096 1024 := Layer.dx (x1 m c) (dh m c) (g m c) (sc m c) (dres m c)
abbrev dz : Layer.Mat 4096 1024 := Layer.gate (dx m c) (gt m c)
abbrev dm : Layer.Mat 4096 1024 := Layer.nt (dz m c) (wo m c)

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 4096) : iblk m c 0 t (ix2 p k) = du m c (row t p) k := by
  have hi := idx_0 t
  unfold iblk
  rw [View.read_apply]
  show V m c main_arg9 _ = V m c main_arg9 _
  congr 1; funext a; apply Fin.ext
  match a with
  | ⟨0, _⟩ => show win0_0.index t 0 * 512 + 1 * p.val = (t.val) * 512 + p.val; rw [hi.1]; omega
  | ⟨1, _⟩ => show win0_0.index t 1 * 4096 + 1 * k.val = k.val; rw [hi.2]; omega

theorem idx_1 (t : Fin cfg0.N) : win0_1.index t 0 = 0 ∧ win0_1.index t 1 = 0 :=
  (by decide +kernel : ∀ t : Fin grid0.N, win0_1.index t 0 = 0 ∧ win0_1.index t 1 = 0) t

theorem blk_1 (t : Fin cfg0.N) (p : Fin 1024) (k : Fin 4096) : iblk m c 1 t (ix2 p k) = w1 m c p k := by
  have hi := idx_1 t
  unfold iblk
  rw [View.read_apply]
  show V m c main_arg7 _ = V m c main_arg7 _
  congr 1; funext a; apply Fin.ext
  match a with
  | ⟨0, _⟩ => show win0_1.index t 0 * 1024 + 1 * p.val = p.val; rw [hi.1]; omega
  | ⟨1, _⟩ => show win0_1.index t 1 * 4096 + 1 * k.val = k.val; rw [hi.2]; omega

theorem idx_2 (t : Fin cfg0.N) : win0_2.index t 0 = t.val ∧ win0_2.index t 1 = 0 :=
  (by decide +kernel : ∀ t : Fin grid0.N, win0_2.index t 0 = t.val ∧ win0_2.index t 1 = 0) t

theorem blk_2 (t : Fin cfg0.N) (p : Fin 512) (k : Fin 1024) : iblk m c 2 t (ix2 p k) = x1 m c (row t p) k := by
  have hi := idx_2 t
  unfold iblk
  rw [View.read_apply]
  show V m c main_v6 _ = V m c main_v6 _
  congr 1; funext a; apply Fin.ext
  match a with
  | ⟨0, _⟩ => show win0_2.index t 0 * 512 + 1 * p.val = (t.val) * 512 + p.val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (k : Fin 1024) : iblk m c 3 t (ix2 0 k) = g m c k := by
  have hi := idx_3 t
  unfold iblk
  rw [View.read_apply]
  show V m c main_arg4 _ = V m c main_arg4 _
  congr 1; funext a; apply Fin.ext
  match a with
  | ⟨0, _⟩ => show win0_3.index t 0 * 1 + 1 * (0 : Fin 1).val = (0 : Fin 1).val; rw [hi.1]; omega
  | ⟨1, _⟩ => show win0_3.index t 1 * 1024 + 1 * k.val = k.val; rw [hi.2]; omega

theorem idx_4 (t : Fin cfg0.N) : win0_4.index t 0 = 0 ∧ win0_4.index t 1 = 0 :=
  (by decide +kernel : ∀ t : Fin grid0.N, win0_4.index t 0 = 0 ∧ win0_4.index t 1 = 0) t

theorem blk_4 (t : Fin cfg0.N) (k : Fin 1024) : iblk m c 4 t (ix2 0 k) = sc m c k := by
  have hi := idx_4 t
  unfold iblk
  rw [View.read_apply]
  show V m c main_arg5 _ = V m c main_arg5 _
  congr 1; funext a; apply Fin.ext
  match a with
  | ⟨0, _⟩ => show win0_4.index t 0 * 1 + 1 * (0 : Fin 1).val = (0 : Fin 1).val; rw [hi.1]; omega
  | ⟨1, _⟩ => show win0_4.index t 1 * 1024 + 1 * k.val = k.val; rw [hi.2]; omega

theorem idx_6 (t : Fin cfg0.N) : win0_6.index t 0 = t.val ∧ win0_6.index t 1 = 0 :=
  (by decide +kernel : ∀ t : Fin grid0.N, win0_6.index t 0 = t.val ∧ win0_6.index t 1 = 0) t

theorem blk_6 (t : Fin cfg0.N) (p : Fin 512) (k : Fin 1024) : iblk m c 6 t (ix2 p k) = dres m c (row t p) k := by
  have hi := idx_6 t
  unfold iblk
  rw [View.read_apply]
  show V m c main_arg8 _ = V m c main_arg8 _
  congr 1; funext a; apply Fin.ext
  match a with
  | ⟨0, _⟩ => show win0_6.index t 0 * 512 + 1 * p.val = (t.val) * 512 + p.val; rw [hi.1]; omega
  | ⟨1, _⟩ => show win0_6.index t 1 * 1024 + 1 * k.val = k.val; rw [hi.2]; omega

theorem idx_7 (t : Fin cfg0.N) : win0_7.index t 0 = t.val ∧ win0_7.index t 1 = 0 :=
  (by decide +kernel : ∀ t : Fin grid0.N, win0_7.index t 0 = t.val ∧ win0_7.index t 1 = 0) t

theorem blk_7 (t : Fin cfg0.N) (p : Fin 512) (k : Fin 1024) : iblk m c 7 t (ix2 p k) = f1 m c (row t p) k := by
  have hi := idx_7 t
  unfold iblk
  rw [View.read_apply]
  show V m c main_v3 _ = V m c main_v3 _
  congr 1; funext a; apply Fin.ext
  match a with
  | ⟨0, _⟩ => show win0_7.index t 0 * 512 + 1 * p.val = (t.val) * 512 + p.val; rw [hi.1]; omega
  | ⟨1, _⟩ => show win0_7.index t 1 * 1024 + 1 * k.val = k.val; rw [hi.2]; omega

theorem idx_8 (t : Fin cfg0.N) : win0_8.index t 0 = 0 ∧ win0_8.index t 1 = 0 :=
  (by decide +kernel : ∀ t : Fin grid0.N, win0_8.index t 0 = 0 ∧ win0_8.index t 1 = 0) t

theorem blk_8 (t : Fin cfg0.N) (k : Fin 1024) : iblk m c 8 t (ix2 0 k) = gt m c k := by
  have hi := idx_8 t
  unfold iblk
  rw [View.read_apply]
  show V m c main_arg3 _ = V m c main_arg3 _
  congr 1; funext a; apply Fin.ext
  match a with
  | ⟨0, _⟩ => show win0_8.index t 0 * 1 + 1 * (0 : Fin 1).val = (0 : Fin 1).val; rw [hi.1]; omega
  | ⟨1, _⟩ => show win0_8.index t 1 * 1024 + 1 * k.val = k.val; rw [hi.2]; omega

theorem idx_9 (t : Fin cfg0.N) : win0_9.index t 0 = 0 ∧ win0_9.index t 1 = 0 :=
  (by decide +kernel : ∀ t : Fin grid0.N, win0_9.index t 0 = 0 ∧ win0_9.index t 1 = 0) t

theorem blk_9 (t : Fin cfg0.N) (p : Fin 1024) (k : Fin 1024) : iblk m c 9 t (ix2 p k) = wo m c p k := by
  have hi := idx_9 t
  unfold iblk
  rw [View.read_apply]
  show V m c main_arg1 _ = V m c main_arg1 _
  congr 1; funext a; apply Fin.ext
  match a with
  | ⟨0, _⟩ => show win0_9.index t 0 * 1024 + 1 * p.val = p.val; rw [hi.1]; omega
  | ⟨1, _⟩ => show win0_9.index t 1 * 1024 + 1 * k.val = k.val; rw [hi.2]; omega

/-! ## The arrays left -/

theorem idx_10 (t : Fin cfg0.N) : win0_10.index t 0 = t.val ∧ win0_10.index t 1 = 0 :=
  (by decide +kernel : ∀ t : Fin grid0.N, win0_10.index t 0 = t.val ∧ win0_10.index t 1 = 0) t

theorem pay_10 (t : Fin cfg0.N) (p : Fin 512) (j : Fin 1024) :
    (k0_pay9 (F := Ideal) (iblk m c 0 t) (iblk m c 1 t) (iblk m c 2 t) (iblk m c 3 t) (iblk m c 4 t) (iblk m c 6 t)) (ix2 p j) = dx m c (row t p) j := by
  simp only [dh_apply, xhat_apply, dn_apply, dx_apply, blk_0, blk_1, blk_2, blk_3, blk_4, blk_6, blk_7, blk_8, blk_9]
  rfl

theorem final_10 : (dats m 0 c).arrAt 10 cfg0.N = fun i => dx m c (i 0) (i 1) := by
  refine (dats m 0 c).arrAt_eq_of_cover 10 _ (fun t _ => ?_) (fun i => ?_)
  · have hi := idx_10 t
    rw [Value.flushed10, Blocks.outs_10]
    funext y
    rw [View.read_apply]
    refine (congrArg ((k0_pay9 (F := Ideal) (iblk m c 0 t) (iblk m c 1 t) (iblk m c 2 t) (iblk m c 3 t) (iblk m c 4 t) (iblk m c 6 t))) (eq_ix2 (show Shape.Idx S512x1024 from y))).trans ((pay_10 m c t (y 0) (y 1)).trans ?_)
    exact congrArg₂ (dx m c)
      (Fin.ext (by show (t.val) * 512 + (y 0).val = win0_10.index t 0 * 512 + 1 * (y 0).val; rw [hi.1]; omega))
      (Fin.ext (by show (y 1).val = win0_10.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_10 t
    have hv : t.val = (i 0).val / 512 := rfl
    refine ⟨t, flush0_10 t, ?_⟩
    show i ∈ ((View.whole main_v7_0).slice (win0_10.rect t)).set
    rw [View.set_slice_whole, Rect.mem_set_unit]
    intro a
    match a with
    | ⟨0, _⟩ => show win0_10.index t 0 * 512 ≤ (i 0).val ∧ (i 0).val < win0_10.index t 0 * 512 + 512; rw [hi.1]; omega
    | ⟨1, _⟩ => show win0_10.index t 1 * 1024 ≤ (i 1).val ∧ (i 1).val < win0_10.index t 1 * 1024 + 1024; rw [hi.2]; omega

theorem idx_11 (t : Fin cfg0.N) : win0_11.index t 0 = 0 ∧ win0_11.index t 1 = 0 :=
  (by decide +kernel : ∀ t : Fin grid0.N, win0_11.index t 0 = 0 ∧ win0_11.index t 1 = 0) t

theorem pay_11 (t : Fin cfg0.N) (j : Fin 1024) :
    (k0_pay10 (F := Ideal) (k0_pay4 (F := Ideal) (iblk m c 0 t) (iblk m c 1 t))) (ix2 0 j) = ∑ p : Fin 512, dh m c (row t p) j := by
  rw [dsh_apply]
  simp only [dh_apply, xhat_apply, dn_apply, dx_apply, blk_0, blk_1, blk_2, blk_3, blk_4, blk_6, blk_7, blk_8, blk_9]
  rfl

theorem sum_11 (t : Fin cfg0.N) (ht : t.val = 7) (j : Fin 1024) :
    (outsAt0 m c t.val t.isLt).2.1 (ix2 0 j) = Layer.rows (fun r j => dh m c r j) j := by
  have hN : cfg0.N = 8 := N_0
  exact Layer.run_total 8 512 4096 hN rfl (fun r => dh m c r j) (fun t h => (outsAt0 m c t h).2.1 (ix2 0 j))
    (fun t => (k0_pay10 (F := Ideal) (k0_pay4 (F := Ideal) (iblk m c 0 t) (iblk m c 1 t))) (ix2 0 j))
    (fun t _ => pay_11 m c t j)
    (fun t h => by
      have h' := congrFun (Blocks.outs_11 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_11 : (dats m 0 c).arrAt 11 cfg0.N = fun i => Layer.rows (fun r j => dh m c r j) (i 1) := by
  have hN : cfg0.N = 8 := N_0
  refine (dats m 0 c).arrAt_eq_of_cover 11 _ (fun t ht => ?_) (fun i => ?_)
  · have hi := idx_11 t
    have hl := lt_N t
    have ht' : t.val = 7 := by have := (flush0_11 t).mp ht; omega
    rw [Value.flushed11]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.1) hy).trans ((sum_11 m c t ht' (y 1)).trans ?_)
    exact congrArg (Layer.rows (fun r j => dh m c r j))
      (Fin.ext (by show (y 1).val = win0_11.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_11 t
    refine ⟨t, (flush0_11 t).mpr rfl, ?_⟩
    show i ∈ ((View.whole main_v7_1).slice (win0_11.rect t)).set
    rw [View.set_slice_whole, Rect.mem_set_unit]
    intro a
    match a with
    | ⟨0, _⟩ => show win0_11.index t 0 * 1 ≤ (i 0).val ∧ (i 0).val < win0_11.index t 0 * 1 + 1; rw [hi.1]; omega
    | ⟨1, _⟩ => show win0_11.index t 1 * 1024 ≤ (i 1).val ∧ (i 1).val < win0_11.index t 1 * 1024 + 1024; rw [hi.2]; omega

theorem idx_12 (t : Fin cfg0.N) : win0_12.index t 0 = 0 ∧ win0_12.index t 1 = 0 :=
  (by decide +kernel : ∀ t : Fin grid0.N, win0_12.index t 0 = 0 ∧ win0_12.index t 1 = 0) t

theorem pay_12 (t : Fin cfg0.N) (j : Fin 1024) :
    (k0_pay12 (F := Ideal) (k0_pay4 (F := Ideal) (iblk m c 0 t) (iblk m c 1 t)) (k0_pay7 (F := Ideal) (iblk m c 2 t)) (iblk m c 3 t)) (ix2 0 j) = ∑ p : Fin 512, (fun r j => dh m c r j * (Layer.hat (x1 m c) r j * g m c j)) (row t p) j := by
  rw [dsc_apply]
  simp only [dh_apply, xhat_apply, dn_apply, dx_apply, blk_0, blk_1, blk_2, blk_3, blk_4, blk_6, blk_7, blk_8, blk_9]
  rfl

theorem sum_12 (t : Fin cfg0.N) (ht : t.val = 7) (j : Fin 1024) :
    (outsAt0 m c t.val t.isLt).2.2.1 (ix2 0 j) = Layer.rows (fun r j => (fun r j => dh m c r j * (Layer.hat (x1 m c) r j * g m c j)) r j) j := by
  have hN : cfg0.N = 8 := N_0
  exact Layer.run_total 8 512 4096 hN rfl (fun r => (fun r j => dh m c r j * (Layer.hat (x1 m c) r j * g m c j)) r j) (fun t h => (outsAt0 m c t h).2.2.1 (ix2 0 j))
    (fun t => (k0_pay12 (F := Ideal) (k0_pay4 (F := Ideal) (iblk m c 0 t) (iblk m c 1 t)) (k0_pay7 (F := Ideal) (iblk m c 2 t)) (iblk m c 3 t)) (ix2 0 j))
    (fun t _ => pay_12 m c t j)
    (fun t h => by
      have h' := congrFun (Blocks.outs_12 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_12 : (dats m 0 c).arrAt 12 cfg0.N = fun i => Layer.rows (fun r j => (fun r j => dh m c r j * (Layer.hat (x1 m c) r j * g m c j)) r j) (i 1) := by
  have hN : cfg0.N = 8 := N_0
  refine (dats m 0 c).arrAt_eq_of_cover 12 _ (fun t ht => ?_) (fun i => ?_)
  · have hi := idx_12 t
    have hl := lt_N t
    have ht' : t.val = 7 := by have := (flush0_12 t).mp ht; omega
    rw [Value.flushed12]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.2.1) hy).trans ((sum_12 m c t ht' (y 1)).trans ?_)
    exact congrArg (Layer.rows (fun r j => (fun r j => dh m c r j * (Layer.hat (x1 m c) r j * g m c j)) r j))
      (Fin.ext (by show (y 1).val = win0_12.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_12 t
    refine ⟨t, (flush0_12 t).mpr rfl, ?_⟩
    show i ∈ ((View.whole main_v7_2).slice (win0_12.rect t)).set
    rw [View.set_slice_whole, Rect.mem_set_unit]
    intro a
    match a with
    | ⟨0, _⟩ => show win0_12.index t 0 * 1 ≤ (i 0).val ∧ (i 0).val < win0_12.index t 0 * 1 + 1; rw [hi.1]; omega
    | ⟨1, _⟩ => show win0_12.index t 1 * 1024 ≤ (i 1).val ∧ (i 1).val < win0_12.index t 1 * 1024 + 1024; rw [hi.2]; omega

theorem idx_13 (t : Fin cfg0.N) : win0_13.index t 0 = 0 ∧ win0_13.index t 1 = 0 :=
  (by decide +kernel : ∀ t : Fin grid0.N, win0_13.index t 0 = 0 ∧ win0_13.index t 1 = 0) t

theorem pay_13 (t : Fin cfg0.N) (j : Fin 1024) :
    (k0_pay14 (F := Ideal) (k0_pay7 (F := Ideal) (iblk m c 2 t)) (k0_pay8 (F := Ideal) (iblk m c 0 t) (iblk m c 1 t) (iblk m c 4 t))) (ix2 0 j) = ∑ p : Fin 512, (fun r j => Layer.dn (dh m c) (sc m c) r j * Layer.hat (x1 m c) r j) (row t p) j := by
  rw [dg_apply]
  simp only [dh_apply, xhat_apply, dn_apply, dx_apply, blk_0, blk_1, blk_2, blk_3, blk_4, blk_6, blk_7, blk_8, blk_9]
  rfl

theorem sum_13 (t : Fin cfg0.N) (ht : t.val = 7) (j : Fin 1024) :
    (outsAt0 m c t.val t.isLt).2.2.2.1 (ix2 0 j) = Layer.rows (fun r j => (fun r j => Layer.dn (dh m c) (sc m c) r j * Layer.hat (x1 m c) r j) r j) j := by
  have hN : cfg0.N = 8 := N_0
  exact Layer.run_total 8 512 4096 hN rfl (fun r => (fun r j => Layer.dn (dh m c) (sc m c) r j * Layer.hat (x1 m c) r j) r j) (fun t h => (outsAt0 m c t h).2.2.2.1 (ix2 0 j))
    (fun t => (k0_pay14 (F := Ideal) (k0_pay7 (F := Ideal) (iblk m c 2 t)) (k0_pay8 (F := Ideal) (iblk m c 0 t) (iblk m c 1 t) (iblk m c 4 t))) (ix2 0 j))
    (fun t _ => pay_13 m c t j)
    (fun t h => by
      have h' := congrFun (Blocks.outs_13 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_13 : (dats m 0 c).arrAt 13 cfg0.N = fun i => Layer.rows (fun r j => (fun r j => Layer.dn (dh m c) (sc m c) r j * Layer.hat (x1 m c) r j) r j) (i 1) := by
  have hN : cfg0.N = 8 := N_0
  refine (dats m 0 c).arrAt_eq_of_cover 13 _ (fun t ht => ?_) (fun i => ?_)
  · have hi := idx_13 t
    have hl := lt_N t
    have ht' : t.val = 7 := by have := (flush0_13 t).mp ht; omega
    rw [Value.flushed13]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.2.2.1) hy).trans ((sum_13 m c t ht' (y 1)).trans ?_)
    exact congrArg (Layer.rows (fun r j => (fun r j => Layer.dn (dh m c) (sc m c) r j * Layer.hat (x1 m c) r j) r j))
      (Fin.ext (by show (y 1).val = win0_13.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_13 t
    refine ⟨t, (flush0_13 t).mpr rfl, ?_⟩
    show i ∈ ((View.whole main_v7_3).slice (win0_13.rect t)).set
    rw [View.set_slice_whole, Rect.mem_set_unit]
    intro a
    match a with
    | ⟨0, _⟩ => show win0_13.index t 0 * 1 ≤ (i 0).val ∧ (i 0).val < win0_13.index t 0 * 1 + 1; rw [hi.1]; omega
    | ⟨1, _⟩ => show win0_13.index t 1 * 1024 ≤ (i 1).val ∧ (i 1).val < win0_13.index t 1 * 1024 + 1024; rw [hi.2]; omega

theorem idx_14 (t : Fin cfg0.N) : win0_14.index t 0 = t.val ∧ win0_14.index t 1 = 0 :=
  (by decide +kernel : ∀ t : Fin grid0.N, win0_14.index t 0 = t.val ∧ win0_14.index t 1 = 0) t

theorem pay_14 (t : Fin cfg0.N) (p : Fin 512) (j : Fin 1024) :
    (k0_pay16 (F := Ideal) (k0_pay9 (F := Ideal) (iblk m c 0 t) (iblk m c 1 t) (iblk m c 2 t) (iblk m c 3 t) (iblk m c 4 t) (iblk m c 6 t)) (iblk m c 8 t)) (ix2 p j) = dz m c (row t p) j := by
  rw [dz_apply]
  simp only [dh_apply, xhat_apply, dn_apply, dx_apply, blk_0, blk_1, blk_2, blk_3, blk_4, blk_6, blk_7, blk_8, blk_9]
  rfl

theorem final_14 : (dats m 0 c).arrAt 14 cfg0.N = fun i => dz m c (i 0) (i 1) := by
  refine (dats m 0 c).arrAt_eq_of_cover 14 _ (fun t _ => ?_) (fun i => ?_)
  · have hi := idx_14 t
    rw [Value.flushed14, Blocks.outs_14]
    funext y
    rw [View.read_apply]
    refine (congrArg ((k0_pay16 (F := Ideal) (k0_pay9 (F := Ideal) (iblk m c 0 t) (iblk m c 1 t) (iblk m c 2 t) (iblk m c 3 t) (iblk m c 4 t) (iblk m c 6 t)) (iblk m c 8 t))) (eq_ix2 (show Shape.Idx S512x1024 from y))).trans ((pay_14 m c t (y 0) (y 1)).trans ?_)
    exact congrArg₂ (dz m c)
      (Fin.ext (by show (t.val) * 512 + (y 0).val = win0_14.index t 0 * 512 + 1 * (y 0).val; rw [hi.1]; omega))
      (Fin.ext (by show (y 1).val = win0_14.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_14 t
    have hv : t.val = (i 0).val / 512 := rfl
    refine ⟨t, flush0_14 t, ?_⟩
    show i ∈ ((View.whole main_v7_4).slice (win0_14.rect t)).set
    rw [View.set_slice_whole, Rect.mem_set_unit]
    intro a
    match a with
    | ⟨0, _⟩ => show win0_14.index t 0 * 512 ≤ (i 0).val ∧ (i 0).val < win0_14.index t 0 * 512 + 512; rw [hi.1]; omega
    | ⟨1, _⟩ => show win0_14.index t 1 * 1024 ≤ (i 1).val ∧ (i 1).val < win0_14.index t 1 * 1024 + 1024; rw [hi.2]; omega

theorem idx_15 (t : Fin cfg0.N) : win0_15.index t 0 = 0 ∧ win0_15.index t 1 = 0 :=
  (by decide +kernel : ∀ t : Fin grid0.N, win0_15.index t 0 = 0 ∧ win0_15.index t 1 = 0) t

theorem pay_15 (t : Fin cfg0.N) (j : Fin 1024) :
    (k0_pay1 (F := Ideal) (k0_pay17 (k0_pay9 (F := Ideal) (iblk m c 0 t) (iblk m c 1 t) (iblk m c 2 t) (iblk m c 3 t) (iblk m c 4 t) (iblk m c 6 t)) (iblk m c 7 t))) (ix2 0 j) = ∑ p : Fin 512, (fun r j => dx m c r j * f1 m c r j) (row t p) j := by
  rw [dgt_apply]
  simp only [dh_apply, xhat_apply, dn_apply, dx_apply, blk_0, blk_1, blk_2, blk_3, blk_4, blk_6, blk_7, blk_8, blk_9]
  rfl

theorem sum_15 (t : Fin cfg0.N) (ht : t.val = 7) (j : Fin 1024) :
    (outsAt0 m c t.val t.isLt).2.2.2.2.2.1 (ix2 0 j) = Layer.rows (fun r j => (fun r j => dx m c r j * f1 m c r j) r j) j := by
  have hN : cfg0.N = 8 := N_0
  exact Layer.run_total 8 512 4096 hN rfl (fun r => (fun r j => dx m c r j * f1 m c r j) r j) (fun t h => (outsAt0 m c t h).2.2.2.2.2.1 (ix2 0 j))
    (fun t => (k0_pay1 (F := Ideal) (k0_pay17 (k0_pay9 (F := Ideal) (iblk m c 0 t) (iblk m c 1 t) (iblk m c 2 t) (iblk m c 3 t) (iblk m c 4 t) (iblk m c 6 t)) (iblk m c 7 t))) (ix2 0 j))
    (fun t _ => pay_15 m c t j)
    (fun t h => by
      have h' := congrFun (Blocks.outs_15 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_15 : (dats m 0 c).arrAt 15 cfg0.N = fun i => Layer.rows (fun r j => (fun r j => dx m c r j * f1 m c r j) r j) (i 1) := by
  have hN : cfg0.N = 8 := N_0
  refine (dats m 0 c).arrAt_eq_of_cover 15 _ (fun t ht => ?_) (fun i => ?_)
  · have hi := idx_15 t
    have hl := lt_N t
    have ht' : t.val = 7 := by have := (flush0_15 t).mp ht; omega
    rw [Value.flushed15]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.2.2.2.2.1) hy).trans ((sum_15 m c t ht' (y 1)).trans ?_)
    exact congrArg (Layer.rows (fun r j => (fun r j => dx m c r j * f1 m c r j) r j))
      (Fin.ext (by show (y 1).val = win0_15.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_15 t
    refine ⟨t, (flush0_15 t).mpr rfl, ?_⟩
    show i ∈ ((View.whole main_v7_5).slice (win0_15.rect t)).set
    rw [View.set_slice_whole, Rect.mem_set_unit]
    intro a
    match a with
    | ⟨0, _⟩ => show win0_15.index t 0 * 1 ≤ (i 0).val ∧ (i 0).val < win0_15.index t 0 * 1 + 1; rw [hi.1]; omega
    | ⟨1, _⟩ => show win0_15.index t 1 * 1024 ≤ (i 1).val ∧ (i 1).val < win0_15.index t 1 * 1024 + 1024; rw [hi.2]; omega

theorem idx_16 (t : Fin cfg0.N) : win0_16.index t 0 = t.val ∧ win0_16.index t 1 = 0 :=
  (by decide +kernel : ∀ t : Fin grid0.N, win0_16.index t 0 = t.val ∧ win0_16.index t 1 = 0) t

theorem pay_16 (t : Fin cfg0.N) (p : Fin 512) (j : Fin 1024) :
    (k0_pay3 (F := Ideal) (k0_pay16 (F := Ideal) (k0_pay9 (F := Ideal) (iblk m c 0 t) (iblk m c 1 t) (iblk m c 2 t) (iblk m c 3 t) (iblk m c 4 t) (iblk m c 6 t)) (iblk m c 8 t)) (iblk m c 9 t)) (ix2 p j) = dm m c (row t p) j := by
  rw [dm_apply]
  simp only [dz_apply]
  simp only [dh_apply, xhat_apply, dn_apply, dx_apply, blk_0, blk_1, blk_2, blk_3, blk_4, blk_6, blk_7, blk_8, blk_9]
  rfl

theorem final_16 : (dats m 0 c).arrAt 16 cfg0.N = fun i => dm m c (i 0) (i 1) := by
  refine (dats m 0 c).arrAt_eq_of_cover 16 _ (fun t _ => ?_) (fun i => ?_)
  · have hi := idx_16 t
    rw [Value.flushed16, Blocks.outs_16]
    funext y
    rw [View.read_apply]
    refine (congrArg ((k0_pay3 (F := Ideal) (k0_pay16 (F := Ideal) (k0_pay9 (F := Ideal) (iblk m c 0 t) (iblk m c 1 t) (iblk m c 2 t) (iblk m c 3 t) (iblk m c 4 t) (iblk m c 6 t)) (iblk m c 8 t)) (iblk m c 9 t))) (eq_ix2 (show Shape.Idx S512x1024 from y))).trans ((pay_16 m c t (y 0) (y 1)).trans ?_)
    exact congrArg₂ (dm m c)
      (Fin.ext (by show (t.val) * 512 + (y 0).val = win0_16.index t 0 * 512 + 1 * (y 0).val; rw [hi.1]; omega))
      (Fin.ext (by show (y 1).val = win0_16.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_16 t
    have hv : t.val = (i 0).val / 512 := rfl
    refine ⟨t, flush0_16 t, ?_⟩
    show i ∈ ((View.whole main_v7_6).slice (win0_16.rect t)).set
    rw [View.set_slice_whole, Rect.mem_set_unit]
    intro a
    match a with
    | ⟨0, _⟩ => show win0_16.index t 0 * 512 ≤ (i 0).val ∧ (i 0).val < win0_16.index t 0 * 512 + 512; rw [hi.1]; omega
    | ⟨1, _⟩ => show win0_16.index t 1 * 1024 ≤ (i 1).val ∧ (i 1).val < win0_16.index t 1 * 1024 + 1024; rw [hi.2]; omega

end Cert.KernelIdeal.Final

end
-- ==== Proof.AttnBwdRef.lean ====
/-
  The reference of the fused backward call, over the extended reals: its gradients, as the host computes them, are the
  gradients of the layer (`Layer`) as functions of plain matrices.
-/
module

public import proofs.«01_k».proof.Proof.Layer
public import proofs.«01_k».proof.Proof.Gen.ReferenceIdeal.Read
public import Idealize.ShloMosaic.Lib.Pointwise

@[expose] public section

set_option maxRecDepth 16384

noncomputable section

namespace Cert.ReferenceIdeal.Grad

open Cert.ReferenceIdeal Cert.ReferenceIdeal.Read Idealize.ShloMosaic

variable (x0 : FVec Ideal S4096x1024 .bf16) (x1 : FVec Ideal S1024x1024 .bf16) (x2 : FVec Ideal S4096x1024 .f32)
  (x3 x4 x5 : FVec Ideal S1x1024 .f32) (x7 : FVec Ideal S1024x4096 .bf16) (x8 : FVec Ideal S4096x1024 .f32)
  (x9 : FVec Ideal S4096x4096 .bf16)

abbrev X : Layer.Mat 4096 1024 := fun r k => val_main_v6 (F := Ideal) x0 x1 x2 x3 (ix2 r k)
abbrev dh : Layer.Mat 4096 1024 := Layer.nt (fun r k => x9 (ix2 r k)) fun r k => x7 (ix2 r k)
abbrev G : Fin 1024 → EReal := fun k => x4 (ix2 0 k)
abbrev SC : Fin 1024 → EReal := fun k => x5 (ix2 0 k)
abbrev GT : Fin 1024 → EReal := fun k => x3 (ix2 0 k)
abbrev dx : Layer.Mat 4096 1024 := Layer.dx (X x0 x1 x2 x3) (dh x7 x9) (G x4) (SC x5) fun r k => x8 (ix2 r k)

theorem dh_at (r : Fin 4096) (j : Fin 1024) : val_main_v30 (F := Ideal) x7 x9 (ix2 r j) = dh x7 x9 r j := by
  pointwise [val_main_v30, val_main_v29, val_main_v1]
  rfl

theorem ms_at (r : Fin 4096) : val_main_v13 (F := Ideal) x0 x1 x2 x3 (ix2 r 0) = Rows.ms (X x0 x1 x2 x3 r) := by
  pointwise [val_main_v13, val_main_v12, val_main_v11, val_main_v10, val_main_v9, val_main_v8, val_main_v7, val_main_cst,
    val_main_cst_0, val_main_cst_1]
  rfl

theorem inv_at (r : Fin 4096) : val_main_v14 (F := Ideal) x0 x1 x2 x3 (ix2 r 0) = Rows.inv (X x0 x1 x2 x3 r) := by
  pointwise [val_main_v14]
  rw [ms_at]
  rfl

theorem hat_at (r : Fin 4096) (j : Fin 1024) :
    val_main_v19 (F := Ideal) x0 x1 x2 x3 (ix2 r j) = Layer.hat (X x0 x1 x2 x3) r j := by
  pointwise [val_main_v19, val_main_v18]
  rw [inv_at]
  rfl

theorem dn_at (r : Fin 4096) (j : Fin 1024) :
    val_main_v37 (F := Ideal) x5 x7 x9 (ix2 r j) = Layer.dn (dh x7 x9) (SC x5) r j := by
  pointwise [val_main_v37, val_main_v36, val_main_v23, val_main_v22, val_main_cst_3]
  rw [dh_at]
  rfl

theorem dsh_eq : val_main_v32 (F := Ideal) x7 x9 = fun i => Layer.rows (dh x7 x9) (i 1) := by
  funext i
  idx_vars i
  pointwise [val_main_v32, val_main_v31, val_main_cst_4]
  simp only [dh_at]
  rfl

theorem dsc_eq : val_main_v35 (F := Ideal) x0 x1 x2 x3 x4 x7 x9
    = fun i => Layer.rows (fun r j => dh x7 x9 r j * (Layer.hat (X x0 x1 x2 x3) r j * G x4 j)) (i 1) := by
  funext i
  idx_vars i
  pointwise [val_main_v35, val_main_v34, val_main_v33, val_main_v21, val_main_v20, val_main_cst_5]
  simp only [dh_at, hat_at]
  refine Finset.sum_congr rfl fun r _ => ?_
  exact mul_comm _ _

theorem dg_eq : val_main_v40 (F := Ideal) x0 x1 x2 x3 x5 x7 x9
    = fun i => Layer.rows (fun r j => Layer.dn (dh x7 x9) (SC x5) r j * Layer.hat (X x0 x1 x2 x3) r j) (i 1) := by
  funext i
  idx_vars i
  pointwise [val_main_v40, val_main_v39, val_main_v38, val_main_cst_6]
  simp only [dn_at, hat_at]
  refine Finset.sum_congr rfl fun r _ => ?_
  exact mul_comm _ _

theorem cot_at (r : Fin 4096) (j : Fin 1024) :
    val_main_v42 (F := Ideal) x4 x5 x7 x9 (ix2 r j) = Layer.dn (dh x7 x9) (SC x5) r j * G x4 j := by
  pointwise [val_main_v42, val_main_v41]
  rw [dn_at]

theorem msBack_at (r : Fin 4096) :
    val_main_v52 (F := Ideal) x0 x1 x2 x3 x4 x5 x7 x9 (ix1 r)
      = Rows.msBack (X x0 x1 x2 x3 r) fun q => Layer.dn (dh x7 x9) (SC x5) r q * G x4 q := by
  pointwise [val_main_v52, val_main_cst_9]
  refine (Fin.sum_univ_one _).trans ?_
  show val_main_v51 (F := Ideal) x0 x1 x2 x3 x4 x5 x7 x9 (ix2 r 0) = _
  pointwise [val_main_v51, val_main_v50, val_main_v49, val_main_v45, val_main_v44, val_main_v43, val_main_v17,
    val_main_v16, val_main_v15, val_main_cst_2, val_main_cst_7, val_main_cst_8]
  simp only [cot_at, inv_at, ms_at]
  rfl

theorem dx_at (r : Fin 4096) (j : Fin 1024) :
    val_main_v57 (F := Ideal) x0 x1 x2 x3 x4 x5 x7 x8 x9 (ix2 r j) = dx x0 x1 x2 x3 x4 x5 x7 x8 x9 r j := by
  pointwise [val_main_v57, val_main_v56, val_main_v55, val_main_v54, val_main_v53, val_main_v48, val_main_v47, val_main_v46]
  simp only [cot_at, inv_at, msBack_at]
  exact (Rows.back_eq (X x0 x1 x2 x3 r) (fun q => Layer.dn (dh x7 x9) (SC x5) r q * G x4 q) (x8 (ix2 r j)) j).symm

theorem dz_at (r : Fin 4096) (j : Fin 1024) :
    val_main_v60 (F := Ideal) x0 x1 x2 x3 x4 x5 x7 x8 x9 (ix2 r j)
      = Layer.gate (dx x0 x1 x2 x3 x4 x5 x7 x8 x9) (GT x3) r j := by
  pointwise [val_main_v60, val_main_v59, val_main_v58]
  rw [dx_at]
  exact mul_comm _ _

theorem dx_eq : val_main_v57 (F := Ideal) x0 x1 x2 x3 x4 x5 x7 x8 x9
    = fun i => dx x0 x1 x2 x3 x4 x5 x7 x8 x9 (i 0) (i 1) := by
  funext i
  idx_vars i
  exact dx_at ..

theorem dz_eq : val_main_v65 (F := Ideal) x0 x1 x2 x3 x4 x5 x7 x8 x9
    = fun i => Layer.gate (dx x0 x1 x2 x3 x4 x5 x7 x8 x9) (GT x3) (i 0) (i 1) := by
  funext i
  idx_vars i
  pointwise [val_main_v65]
  exact dz_at ..

theorem dgt_eq : val_main_v63 (F := Ideal) x0 x1 x2 x3 x4 x5 x7 x8 x9
    = fun i => Layer.rows (fun r j => dx x0 x1 x2 x3 x4 x5 x7 x8 x9 r j * val_main_v3 (F := Ideal) x0 x1 (ix2 r j)) (i 1) := by
  funext i
  idx_vars i
  pointwise [val_main_v63, val_main_v62, val_main_v61, val_main_v58, val_main_cst_10]
  simp only [dx_at]
  rfl

theorem dm_eq : val_main_v66 (F := Ideal) x0 x1 x2 x3 x4 x5 x7 x8 x9
    = fun i => Layer.nt (Layer.gate (dx x0 x1 x2 x3 x4 x5 x7 x8 x9) (GT x3)) (fun r k => x1 (ix2 r k)) (i 0) (i 1) := by
  funext i
  idx_vars i
  pointwise [val_main_v66, val_main_v64, val_main_v0]
  simp only [dz_at]
  rfl

end Cert.ReferenceIdeal.Grad

end
-- ==== Proof.AttnBwdClaims.lean ====
/-
  The claims about the fused backward call (`mlp_in_attn_out_bwd`): the reference's run, and the equality of the call's seven
  arrays with the reference's gradients over the extended reals.
-/
module

public import proofs.«01_k».proof.Defs
public import proofs.«01_k».proof.Proof.AttnBwdValue
public import proofs.«01_k».proof.Proof.AttnBwdRef
public import proofs.«01_k».proof.Proof.Gen.Kernel.Frame
public import proofs.«01_k».proof.Proof.Gen.ReferenceIdeal.Run
public import proofs.«01_k».proof.Proof.Gen.ReferenceIdeal.Read
public import Idealize.ShloMosaic.Adequacy
public import Idealize.ShloMosaic.Lib.Quiescent

@[expose] public section

set_option maxRecDepth 16384

noncomputable section

namespace Cert.AttnBwd

open Idealize.ShloMosaic Idealize.ShloMosaic.TcCoe Idealize.SL.Sem

/-- What the host leaves in `v6` before the region, as the reference's own value. -/
theorem host_v6 (m : (ℓ : Loc KernelIdeal.nD KernelIdeal.τ KernelIdeal.sig) → Buf (Elt Ideal) ℓ) (c : Dev KernelIdeal.nD) :
    KernelIdeal.Gen.V m c KernelIdeal.main_v6 = ReferenceIdeal.Read.val_main_v6 (F := Ideal) (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) := by
  show StableHlo.after KernelIdeal.Gen.hostOps0 (fun b => m (c, b)) (Proc.devRef .tc KernelIdeal.main_v6) = _
  after_results_simp <;> rfl

/-- What the host leaves in `v3` before the region, as the reference's own value. -/
theorem host_v3 (m : (ℓ : Loc KernelIdeal.nD KernelIdeal.τ KernelIdeal.sig) → Buf (Elt Ideal) ℓ) (c : Dev KernelIdeal.nD) :
    KernelIdeal.Gen.V m c KernelIdeal.main_v3 = ReferenceIdeal.Read.val_main_v3 (F := Ideal) (m ((c.tc : Thread KernelIdeal.nD KernelIdeal.τ).loc KernelIdeal.main_arg0)) (m ((c.tc : Thread KernelIdeal.nD KernelIdeal.τ).loc KernelIdeal.main_arg1)) := by
  show StableHlo.after KernelIdeal.Gen.hostOps0 (fun b => m (c, b)) (Proc.devRef .tc KernelIdeal.main_v3) = _
  after_results_simp <;> rfl

theorem mat_10 (m : (ℓ : Loc KernelIdeal.nD KernelIdeal.τ KernelIdeal.sig) → Buf (Elt Ideal) ℓ) (c : Dev KernelIdeal.nD) :
    ReferenceIdeal.Grad.dx (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) = KernelIdeal.Final.dx m c := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_10 (m : (ℓ : Loc KernelIdeal.nD KernelIdeal.τ KernelIdeal.sig) → Buf (Elt Ideal) ℓ) (c : Dev KernelIdeal.nD)
    {x0 x1 x2 x3 x4 x5 x7 x8 x9} (h0 : x0 = m ((c.tc : Thread KernelIdeal.nD KernelIdeal.τ).loc KernelIdeal.main_arg0)) (h1 : x1 = m ((c.tc : Thread KernelIdeal.nD KernelIdeal.τ).loc KernelIdeal.main_arg1)) (h2 : x2 = m ((c.tc : Thread KernelIdeal.nD KernelIdeal.τ).loc KernelIdeal.main_arg2)) (h3 : x3 = m ((c.tc : Thread KernelIdeal.nD KernelIdeal.τ).loc KernelIdeal.main_arg3)) (h4 : x4 = m ((c.tc : Thread KernelIdeal.nD KernelIdeal.τ).loc KernelIdeal.main_arg4)) (h5 : x5 = m ((c.tc : Thread KernelIdeal.nD KernelIdeal.τ).loc KernelIdeal.main_arg5)) (h7 : x7 = m ((c.tc : Thread KernelIdeal.nD KernelIdeal.τ).loc KernelIdeal.main_arg7)) (h8 : x8 = m ((c.tc : Thread KernelIdeal.nD KernelIdeal.τ).loc KernelIdeal.main_arg8)) (h9 : x9 = m ((c.tc : Thread KernelIdeal.nD KernelIdeal.τ).loc KernelIdeal.main_arg9)) :
    ReferenceIdeal.Read.val_main_v57 (F := Ideal) x0 x1 x2 x3 x4 x5 x7 x8 x9 = (KernelIdeal.Gen.dats m 0 c).arrAt 10 KernelIdeal.cfg0.N := by
  subst h0 h1 h2 h3 h4 h5 h7 h8 h9
  refine (ReferenceIdeal.Grad.dx_eq _ _ _ _ _ _ _ _ _).trans (Eq.trans ?_ (KernelIdeal.Final.final_10 m c).symm)
  exact congrArg (fun M (i : Shape.Idx KernelIdeal.S4096x1024) => M (i 0) (i 1)) (mat_10 m c)

theorem mat_11 (m : (ℓ : Loc KernelIdeal.nD KernelIdeal.τ KernelIdeal.sig) → Buf (Elt Ideal) ℓ) (c : Dev KernelIdeal.nD) :
    Layer.rows (fun r j => ReferenceIdeal.Grad.dh (m ((c.tc : Thread KernelIdeal.nD KernelIdeal.τ).loc KernelIdeal.main_arg7)) (m ((c.tc : Thread KernelIdeal.nD KernelIdeal.τ).loc KernelIdeal.main_arg9)) r j) = Layer.rows (fun r j => KernelIdeal.Final.dh m c r j) := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_11 (m : (ℓ : Loc KernelIdeal.nD KernelIdeal.τ KernelIdeal.sig) → Buf (Elt Ideal) ℓ) (c : Dev KernelIdeal.nD)
    {x7 x9} (h7 : x7 = m ((c.tc : Thread KernelIdeal.nD KernelIdeal.τ).loc KernelIdeal.main_arg7)) (h9 : x9 = m ((c.tc : Thread KernelIdeal.nD KernelIdeal.τ).loc KernelIdeal.main_arg9)) :
    ReferenceIdeal.Read.val_main_v32 (F := Ideal) x7 x9 = (KernelIdeal.Gen.dats m 0 c).arrAt 11 KernelIdeal.cfg0.N := by
  subst h7 h9
  refine (ReferenceIdeal.Grad.dsh_eq _ _).trans (Eq.trans ?_ (KernelIdeal.Final.final_11 m c).symm)
  exact congrArg (fun M (i : Shape.Idx KernelIdeal.S1x1024) => M (i 1)) (mat_11 m c)

theorem mat_12 (m : (ℓ : Loc KernelIdeal.nD KernelIdeal.τ KernelIdeal.sig) → Buf (Elt Ideal) ℓ) (c : Dev KernelIdeal.nD) :
    Layer.rows (fun r j => ReferenceIdeal.Grad.dh (m ((c.tc : Thread KernelIdeal.nD KernelIdeal.τ).loc KernelIdeal.main_arg7)) (m ((c.tc : Thread KernelIdeal.nD KernelIdeal.τ).loc KernelIdeal.main_arg9)) r j * (Layer.hat (ReferenceIdeal.Grad.X (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3))) r j * ReferenceIdeal.Grad.G (m ((c.tc : Thread KernelIdeal.nD KernelIdeal.τ).loc KernelIdeal.main_arg4)) j)) = Layer.rows (fun r j => KernelIdeal.Final.dh m c r j * (Layer.hat (KernelIdeal.Final.x1 m c) r j * KernelIdeal.Final.g m c j)) := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_12 (m : (ℓ : Loc KernelIdeal.nD KernelIdeal.τ KernelIdeal.sig) → Buf (Elt Ideal) ℓ) (c : Dev KernelIdeal.nD)
    {x0 x1 x2 x3 x4 x7 x9} (h0 : x0 = m ((c.tc : Thread KernelIdeal.nD KernelIdeal.τ).loc KernelIdeal.main_arg0)) (h1 : x1 = m ((c.tc : Thread KernelIdeal.nD KernelIdeal.τ).loc KernelIdeal.main_arg1)) (h2 : x2 = m ((c.tc : Thread KernelIdeal.nD KernelIdeal.τ).loc KernelIdeal.main_arg2)) (h3 : x3 = m ((c.tc : Thread KernelIdeal.nD KernelIdeal.τ).loc KernelIdeal.main_arg3)) (h4 : x4 = m ((c.tc : Thread KernelIdeal.nD KernelIdeal.τ).loc KernelIdeal.main_arg4)) (h7 : x7 = m ((c.tc : Thread KernelIdeal.nD KernelIdeal.τ).loc KernelIdeal.main_arg7)) (h9 : x9 = m ((c.tc : Thread KernelIdeal.nD KernelIdeal.τ).loc KernelIdeal.main_arg9)) :
    ReferenceIdeal.Read.val_main_v35 (F := Ideal) x0 x1 x2 x3 x4 x7 x9 = (KernelIdeal.Gen.dats m 0 c).arrAt 12 KernelIdeal.cfg0.N := by
  subst h0 h1 h2 h3 h4 h7 h9
  refine (ReferenceIdeal.Grad.dsc_eq _ _ _ _ _ _ _).trans (Eq.trans ?_ (KernelIdeal.Final.final_12 m c).symm)
  exact congrArg (fun M (i : Shape.Idx KernelIdeal.S1x1024) => M (i 1)) (mat_12 m c)

theorem mat_13 (m : (ℓ : Loc KernelIdeal.nD KernelIdeal.τ KernelIdeal.sig) → Buf (Elt Ideal) ℓ) (c : Dev KernelIdeal.nD) :
    Layer.rows (fun r j => Layer.dn (ReferenceIdeal.Grad.dh (m ((c.tc : Thread KernelIdeal.nD KernelIdeal.τ).loc KernelIdeal.main_arg7)) (m ((c.tc : Thread KernelIdeal.nD KernelIdeal.τ).loc KernelIdeal.main_arg9))) (ReferenceIdeal.Grad.SC (m ((c.tc : Thread KernelIdeal.nD KernelIdeal.τ).loc KernelIdeal.main_arg5))) r j * Layer.hat (ReferenceIdeal.Grad.X (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3))) r j) = Layer.rows (fun r j => Layer.dn (KernelIdeal.Final.dh m c) (KernelIdeal.Final.sc m c) r j * Layer.hat (KernelIdeal.Final.x1 m c) r j) := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_13 (m : (ℓ : Loc KernelIdeal.nD KernelIdeal.τ KernelIdeal.sig) → Buf (Elt Ideal) ℓ) (c : Dev KernelIdeal.nD)
    {x0 x1 x2 x3 x5 x7 x9} (h0 : x0 = m ((c.tc : Thread KernelIdeal.nD KernelIdeal.τ).loc KernelIdeal.main_arg0)) (h1 : x1 = m ((c.tc : Thread KernelIdeal.nD KernelIdeal.τ).loc KernelIdeal.main_arg1)) (h2 : x2 = m ((c.tc : Thread KernelIdeal.nD KernelIdeal.τ).loc KernelIdeal.main_arg2)) (h3 : x3 = m ((c.tc : Thread KernelIdeal.nD KernelIdeal.τ).loc KernelIdeal.main_arg3)) (h5 : x5 = m ((c.tc : Thread KernelIdeal.nD KernelIdeal.τ).loc KernelIdeal.main_arg5)) (h7 : x7 = m ((c.tc : Thread KernelIdeal.nD KernelIdeal.τ).loc KernelIdeal.main_arg7)) (h9 : x9 = m ((c.tc : Thread KernelIdeal.nD KernelIdeal.τ).loc KernelIdeal.main_arg9)) :
    ReferenceIdeal.Read.val_main_v40 (F := Ideal) x0 x1 x2 x3 x5 x7 x9 = (KernelIdeal.Gen.dats m 0 c).arrAt 13 KernelIdeal.cfg0.N := by
  subst h0 h1 h2 h3 h5 h7 h9
  refine (ReferenceIdeal.Grad.dg_eq _ _ _ _ _ _ _).trans (Eq.trans ?_ (KernelIdeal.Final.final_13 m c).symm)
  exact congrArg (fun M (i : Shape.Idx KernelIdeal.S1x1024) => M (i 1)) (mat_13 m c)

theorem mat_14 (m : (ℓ : Loc KernelIdeal.nD KernelIdeal.τ KernelIdeal.sig) → Buf (Elt Ideal) ℓ) (c : Dev KernelIdeal.nD) :
    Layer.gate (ReferenceIdeal.Grad.dx (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9))) (ReferenceIdeal.Grad.GT (m ((c.tc : Thread KernelIdeal.nD KernelIdeal.τ).loc KernelIdeal.main_arg3))) = KernelIdeal.Final.dz m c := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_14 (m : (ℓ : Loc KernelIdeal.nD KernelIdeal.τ KernelIdeal.sig) → Buf (Elt Ideal) ℓ) (c : Dev KernelIdeal.nD)
    {x0 x1 x2 x3 x4 x5 x7 x8 x9} (h0 : x0 = m ((c.tc : Thread KernelIdeal.nD KernelIdeal.τ).loc KernelIdeal.main_arg0)) (h1 : x1 = m ((c.tc : Thread KernelIdeal.nD KernelIdeal.τ).loc KernelIdeal.main_arg1)) (h2 : x2 = m ((c.tc : Thread KernelIdeal.nD KernelIdeal.τ).loc KernelIdeal.main_arg2)) (h3 : x3 = m ((c.tc : Thread KernelIdeal.nD KernelIdeal.τ).loc KernelIdeal.main_arg3)) (h4 : x4 = m ((c.tc : Thread KernelIdeal.nD KernelIdeal.τ).loc KernelIdeal.main_arg4)) (h5 : x5 = m ((c.tc : Thread KernelIdeal.nD KernelIdeal.τ).loc KernelIdeal.main_arg5)) (h7 : x7 = m ((c.tc : Thread KernelIdeal.nD KernelIdeal.τ).loc KernelIdeal.main_arg7)) (h8 : x8 = m ((c.tc : Thread KernelIdeal.nD KernelIdeal.τ).loc KernelIdeal.main_arg8)) (h9 : x9 = m ((c.tc : Thread KernelIdeal.nD KernelIdeal.τ).loc KernelIdeal.main_arg9)) :
    ReferenceIdeal.Read.val_main_v65 (F := Ideal) x0 x1 x2 x3 x4 x5 x7 x8 x9 = (KernelIdeal.Gen.dats m 0 c).arrAt 14 KernelIdeal.cfg0.N := by
  subst h0 h1 h2 h3 h4 h5 h7 h8 h9
  refine (ReferenceIdeal.Grad.dz_eq _ _ _ _ _ _ _ _ _).trans (Eq.trans ?_ (KernelIdeal.Final.final_14 m c).symm)
  exact congrArg (fun M (i : Shape.Idx KernelIdeal.S4096x1024) => M (i 0) (i 1)) (mat_14 m c)

theorem mat_15 (m : (ℓ : Loc KernelIdeal.nD KernelIdeal.τ KernelIdeal.sig) → Buf (Elt Ideal) ℓ) (c : Dev KernelIdeal.nD) :
    Layer.rows (fun r j => ReferenceIdeal.Grad.dx (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9)) r j * ReferenceIdeal.Read.val_main_v3 (F := Ideal) (m ((c.tc : Thread KernelIdeal.nD KernelIdeal.τ).loc KernelIdeal.main_arg0)) (m ((c.tc : Thread KernelIdeal.nD KernelIdeal.τ).loc KernelIdeal.main_arg1)) (ix2 r j)) = Layer.rows (fun r j => KernelIdeal.Final.dx m c r j * KernelIdeal.Final.f1 m c r j) := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_15 (m : (ℓ : Loc KernelIdeal.nD KernelIdeal.τ KernelIdeal.sig) → Buf (Elt Ideal) ℓ) (c : Dev KernelIdeal.nD)
    {x0 x1 x2 x3 x4 x5 x7 x8 x9} (h0 : x0 = m ((c.tc : Thread KernelIdeal.nD KernelIdeal.τ).loc KernelIdeal.main_arg0)) (h1 : x1 = m ((c.tc : Thread KernelIdeal.nD KernelIdeal.τ).loc KernelIdeal.main_arg1)) (h2 : x2 = m ((c.tc : Thread KernelIdeal.nD KernelIdeal.τ).loc KernelIdeal.main_arg2)) (h3 : x3 = m ((c.tc : Thread KernelIdeal.nD KernelIdeal.τ).loc KernelIdeal.main_arg3)) (h4 : x4 = m ((c.tc : Thread KernelIdeal.nD KernelIdeal.τ).loc KernelIdeal.main_arg4)) (h5 : x5 = m ((c.tc : Thread KernelIdeal.nD KernelIdeal.τ).loc KernelIdeal.main_arg5)) (h7 : x7 = m ((c.tc : Thread KernelIdeal.nD KernelIdeal.τ).loc KernelIdeal.main_arg7)) (h8 : x8 = m ((c.tc : Thread KernelIdeal.nD KernelIdeal.τ).loc KernelIdeal.main_arg8)) (h9 : x9 = m ((c.tc : Thread KernelIdeal.nD KernelIdeal.τ).loc KernelIdeal.main_arg9)) :
    ReferenceIdeal.Read.val_main_v63 (F := Ideal) x0 x1 x2 x3 x4 x5 x7 x8 x9 = (KernelIdeal.Gen.dats m 0 c).arrAt 15 KernelIdeal.cfg0.N := by
  subst h0 h1 h2 h3 h4 h5 h7 h8 h9
  refine (ReferenceIdeal.Grad.dgt_eq _ _ _ _ _ _ _ _ _).trans (Eq.trans ?_ (KernelIdeal.Final.final_15 m c).symm)
  exact congrArg (fun M (i : Shape.Idx KernelIdeal.S1x1024) => M (i 1)) (mat_15 m c)

theorem mat_16 (m : (ℓ : Loc KernelIdeal.nD KernelIdeal.τ KernelIdeal.sig) → Buf (Elt Ideal) ℓ) (c : Dev KernelIdeal.nD) :
    Layer.nt (Layer.gate (ReferenceIdeal.Grad.dx (m ((c.tc : Thread KernelIdeal.nD KernelIdeal.τ).loc KernelIdeal.main_arg0)) (m ((c.tc : Thread KernelIdeal.nD KernelIdeal.τ).loc KernelIdeal.main_arg1)) (m ((c.tc : Thread KernelIdeal.nD KernelIdeal.τ).loc KernelIdeal.main_arg2)) (m ((c.tc : Thread KernelIdeal.nD KernelIdeal.τ).loc KernelIdeal.main_arg3)) (m ((c.tc : Thread KernelIdeal.nD KernelIdeal.τ).loc KernelIdeal.main_arg4)) (m ((c.tc : Thread KernelIdeal.nD KernelIdeal.τ).loc KernelIdeal.main_arg5)) (m ((c.tc : Thread KernelIdeal.nD KernelIdeal.τ).loc KernelIdeal.main_arg7)) (m ((c.tc : Thread KernelIdeal.nD KernelIdeal.τ).loc KernelIdeal.main_arg8)) (m ((c.tc : Thread KernelIdeal.nD KernelIdeal.τ).loc KernelIdeal.main_arg9))) (ReferenceIdeal.Grad.GT (m ((c.tc : Thread KernelIdeal.nD KernelIdeal.τ).loc KernelIdeal.main_arg3)))) (fun r k => (m ((c.tc : Thread KernelIdeal.nD KernelIdeal.τ).loc KernelIdeal.main_arg1)) (ix2 r k)) = KernelIdeal.Final.dm m c := by
  simp only [KernelIdeal.Gen.V_main_arg1, KernelIdeal.Gen.V_main_arg3, KernelIdeal.Gen.V_main_arg4, KernelIdeal.Gen.V_main_arg5, KernelIdeal.Gen.V_main_arg7, KernelIdeal.Gen.V_main_arg8, KernelIdeal.Gen.V_main_arg9, host_v6, host_v3, KernelIdeal.Final.du, KernelIdeal.Final.w1, KernelIdeal.Final.x1, KernelIdeal.Final.g, KernelIdeal.Final.sc, KernelIdeal.Final.dres, KernelIdeal.Final.f1, KernelIdeal.Final.gt, KernelIdeal.Final.wo, KernelIdeal.Final.dh, KernelIdeal.Final.dx, KernelIdeal.Final.dz, KernelIdeal.Final.dm, Layer.rows]
  try rfl

theorem out_16 (m : (ℓ : Loc KernelIdeal.nD KernelIdeal.τ KernelIdeal.sig) → Buf (Elt Ideal) ℓ) (c : Dev KernelIdeal.nD)
    {x0 x1 x2 x3 x4 x5 x7 x8 x9} (h0 : x0 = m ((c.tc : Thread KernelIdeal.nD KernelIdeal.τ).loc KernelIdeal.main_arg0)) (h1 : x1 = m ((c.tc : Thread KernelIdeal.nD KernelIdeal.τ).loc KernelIdeal.main_arg1)) (h2 : x2 = m ((c.tc : Thread KernelIdeal.nD KernelIdeal.τ).loc KernelIdeal.main_arg2)) (h3 : x3 = m ((c.tc : Thread KernelIdeal.nD KernelIdeal.τ).loc KernelIdeal.main_arg3)) (h4 : x4 = m ((c.tc : Thread KernelIdeal.nD KernelIdeal.τ).loc KernelIdeal.main_arg4)) (h5 : x5 = m ((c.tc : Thread KernelIdeal.nD KernelIdeal.τ).loc KernelIdeal.main_arg5)) (h7 : x7 = m ((c.tc : Thread KernelIdeal.nD KernelIdeal.τ).loc KernelIdeal.main_arg7)) (h8 : x8 = m ((c.tc : Thread KernelIdeal.nD KernelIdeal.τ).loc KernelIdeal.main_arg8)) (h9 : x9 = m ((c.tc : Thread KernelIdeal.nD KernelIdeal.τ).loc KernelIdeal.main_arg9)) :
    ReferenceIdeal.Read.val_main_v66 (F := Ideal) x0 x1 x2 x3 x4 x5 x7 x8 x9 = (KernelIdeal.Gen.dats m 0 c).arrAt 16 KernelIdeal.cfg0.N := by
  subst h0 h1 h2 h3 h4 h5 h7 h8 h9
  refine (ReferenceIdeal.Grad.dm_eq _ _ _ _ _ _ _ _ _).trans (Eq.trans ?_ (KernelIdeal.Final.final_16 m c).symm)
  exact congrArg (fun M (i : Shape.Idx KernelIdeal.S4096x1024) => M (i 0) (i 1)) (mat_16 m c)

/-- The reference runs and leaves its arguments alone. -/
theorem frame_reference : Cert.quiescent_ReferenceIdeal := fun m g _ =>
  (θ_run ReferenceIdeal.defs _ _).mono (fun r h => ⟨fun c => (h c).2.2.2.2.2.2.2, sem_eq_zero_of_no_sems (by decide) r.2⟩)
    (ReferenceIdeal.Value.run m g)

/-- The call's arrays and the reference's are equal, element by element, over the extended reals. -/
theorem algebraic : Cert.algebraic_KernelIdeal_ReferenceIdeal := by
  intro m g m' g' _ hargs
  refine ⟨fun c => (KernelIdeal.Gen.dats m 0 c).arrAt 10 KernelIdeal.cfg0.N, fun c => (KernelIdeal.Gen.dats m 0 c).arrAt 11 KernelIdeal.cfg0.N, fun c => (KernelIdeal.Gen.dats m 0 c).arrAt 12 KernelIdeal.cfg0.N, fun c => (KernelIdeal.Gen.dats m 0 c).arrAt 13 KernelIdeal.cfg0.N, fun c => (KernelIdeal.Gen.dats m 0 c).arrAt 14 KernelIdeal.cfg0.N, fun c => (KernelIdeal.Gen.dats m 0 c).arrAt 15 KernelIdeal.cfg0.N, fun c => (KernelIdeal.Gen.dats m 0 c).arrAt 16 KernelIdeal.cfg0.N,
    KernelIdeal.Value.run_blocks m g,
    (θ_run ReferenceIdeal.defs _ _).mono (fun r h c => ?_) (ReferenceIdeal.Value.run m' g')⟩
  obtain ⟨a0, a1, a2, a3, a4, a5, a6, a7, a8, a9⟩ := hargs c
  have hc := h c
  exact ⟨hc.1.trans ((ReferenceIdeal.Read.val_main_v57_eq m' c).trans (out_10 m c a0 a1 a2 a3 a4 a5 a7 a8 a9)),
    hc.2.1.trans ((ReferenceIdeal.Read.val_main_v32_eq _ _).trans (out_11 m c a7 a9)),
    hc.2.2.1.trans ((ReferenceIdeal.Read.val_main_v35_eq _ _ _ _ _ _ _).trans (out_12 m c a0 a1 a2 a3 a4 a7 a9)),
    hc.2.2.2.1.trans ((ReferenceIdeal.Read.val_main_v40_eq _ _ _ _ _ _ _).trans (out_13 m c a0 a1 a2 a3 a5 a7 a9)),
    hc.2.2.2.2.1.trans ((ReferenceIdeal.Read.val_main_v65_eq m' c).trans (out_14 m c a0 a1 a2 a3 a4 a5 a7 a8 a9)),
    hc.2.2.2.2.2.1.trans ((ReferenceIdeal.Read.val_main_v63_eq m' c).trans (out_15 m c a0 a1 a2 a3 a4 a5 a7 a8 a9)),
    hc.2.2.2.2.2.2.1.trans ((ReferenceIdeal.Read.val_main_v66_eq m' c).trans (out_16 m c a0 a1 a2 a3 a4 a5 a7 a8 a9)),
    hc.2.2.2.2.2.2.2⟩

end Cert.AttnBwd

end
-- ==== Proof.GateBwdBlocks.lean ====
/-
  What the body of the gate's backward call (`gate_nt_matmul`) leaves in each of its three output windows at a grid point, as
  the named payloads of the point's input blocks, over any float values.
-/
module

public import proofs.«01_k».proof.Proof.Gen.Kernel2Ideal.Frame
public import Idealize.ShloMosaic.Lib.Pipeline.Value
public import Idealize.ShloMosaic.Lib.Tactic

@[expose] public section

set_option maxRecDepth 16384

noncomputable section

namespace Cert.Kernel2Ideal.Blocks

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

/-- What output 5 holds after a point: this point's block. -/
theorem outs_5 (c : Dev nD) (t : Fin cfg0.N) : (outsAt0 m c t.val t.isLt).1 = k0_pay1 (iblk m c 0 t) (iblk m c 2 t) := by
  have hN : cfg0.N = 8 := N_0
  have ht := t.isLt
  by_cases h : t.val % 8 = 0
  · have h1 : ¬1 ≤ t.val := by omega
    rw [outsAt0_A m c t h h1]
    dsimp only
    unfold out0_A_5
    refine (View.read_writes_eq_canon _ _ _ (fun y => cover0_A_5 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x1024) hz2, View.ld_unit_zero (S := S512x1024) hz2, View.ld_unit_zero (S := S4096x1024) hz2, View.ld_unit_zero (S := S512x4096) hz2, shapeCast_self]
  · have h1 : 1 ≤ t.val := by omega
    rw [outsAt0_B m c t h h1]
    dsimp only
    unfold out0_B_5
    refine (View.read_writes_eq_canon _ _ _ (fun y => cover0_B_5 (F := F) (y := y) ..)).trans ?_
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x1024) hz2, View.ld_unit_zero (S := S512x1024) hz2, View.ld_unit_zero (S := S4096x1024) hz2, View.ld_unit_zero (S := S512x4096) hz2, shapeCast_self]

/-- What output 6 holds after a point: at the first point of a run this point's part, at a later one the
    part added to what the point before left. -/
theorem outs_6 (c : Dev nD) (t : Fin cfg0.N) :
    (outsAt0 m c t.val t.isLt).2.1 = if t.val % 8 = 0 then k0_pay2 (iblk m c 0 t) (iblk m c 1 t)
      else addf (outsAt0 m c (t.val - 1) (Nat.lt_of_le_of_lt (Nat.sub_le _ _) t.isLt)).2.1 (k0_pay2 (iblk m c 0 t) (iblk m c 1 t)) := by
  have hN : cfg0.N = 8 := N_0
  have ht := t.isLt
  by_cases h : t.val % 8 = 0
  · have h1 : ¬1 ≤ t.val := by omega
    rw [if_pos h, outsAt0_A m c t h h1]
    dsimp only
    unfold out0_A_6
    refine (View.read_writes_eq_canon _ _ _ (fun y => cover0_A_6 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x1024) hz2, View.ld_unit_zero (S := S512x1024) hz2, View.ld_unit_zero (S := S4096x1024) hz2, View.ld_unit_zero (S := S512x4096) hz2, shapeCast_self]
  · have h1 : 1 ≤ t.val := by omega
    rw [if_neg h, outsAt0_B m c t h h1]
    dsimp only
    unfold out0_B_6
    refine (View.read_writes_eq_canon _ _ _ (fun y => cover0_B_6 (F := F) (y := y) ..)).trans ?_
    unfold kernelRun0_B
    dsimp only
    sl_unfold_words
    rw [View.canon_unit_zero hz2]
    unfold k0_pay3
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x1024) hz2, View.ld_unit_zero (S := S512x1024) hz2, View.ld_unit_zero (S := S4096x1024) hz2, View.ld_unit_zero (S := S512x4096) hz2, shapeCast_self]

/-- What output 7 holds after a point: this point's block. -/
theorem outs_7 (c : Dev nD) (t : Fin cfg0.N) : (outsAt0 m c t.val t.isLt).2.2 = k0_pay4 (iblk m c 0 t) (iblk m c 2 t) (iblk m c 3 t) (iblk m c 4 t) := by
  have hN : cfg0.N = 8 := N_0
  have ht := t.isLt
  by_cases h : t.val % 8 = 0
  · have h1 : ¬1 ≤ t.val := by omega
    rw [outsAt0_A m c t h h1]
    dsimp only
    unfold out0_A_7
    refine (View.read_writes_eq_canon _ _ _ (fun y => cover0_A_7 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x1024) hz2, View.ld_unit_zero (S := S512x1024) hz2, View.ld_unit_zero (S := S4096x1024) hz2, View.ld_unit_zero (S := S512x4096) hz2, shapeCast_self]
  · have h1 : 1 ≤ t.val := by omega
    rw [outsAt0_B m c t h h1]
    dsimp only
    unfold out0_B_7
    refine (View.read_writes_eq_canon _ _ _ (fun y => cover0_B_7 (F := F) (y := y) ..)).trans ?_
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S1x1024) hz2, View.ld_unit_zero (S := S512x1024) hz2, View.ld_unit_zero (S := S4096x1024) hz2, View.ld_unit_zero (S := S512x4096) hz2, shapeCast_self]

end Cert.Kernel2Ideal.Blocks

end
-- ==== Proof.GateBwdPay.lean ====
/-
  The payloads of the gate's backward call (`gate_nt_matmul`) over the extended reals, read at an index of a block.
-/
module

public import proofs.«01_k».proof.Proof.Gen.Kernel2Ideal.Skeleton
public import proofs.«01_k».proof.Proof.Layer
public import Idealize.ShloMosaic.Lib.Pointwise

@[expose] public section

set_option maxRecDepth 16384

noncomputable section

namespace Cert.Kernel2Ideal.Pay

open Cert.Kernel2Ideal Cert.Kernel2Ideal.Gen Idealize.ShloMosaic

theorem dz_apply (dx : Vec Ideal S512x1024 .f32) (gt : Vec Ideal S1x1024 .f32) (p : Fin 512) (j : Fin 1024) :
    k0_pay1 (F := Ideal) dx gt (ix2 p j) = dx (ix2 p j) * gt (ix2 0 j) := by
  pointwise [k0_pay1]

theorem dgt_apply (dx : Vec Ideal S512x1024 .f32) (f : Vec Ideal S512x1024 .bf16) (j : Fin 1024) :
    k0_pay2 (F := Ideal) dx f (ix2 0 j) = ∑ p : Fin 512, dx (ix2 p j) * f (ix2 p j) := by
  pointwise [k0_pay2]

theorem du_apply (dx : Vec Ideal S512x1024 .f32) (gt : Vec Ideal S1x1024 .f32) (w : Vec Ideal S4096x1024 .bf16)
    (u : Vec Ideal S512x4096 .bf16) (p : Fin 512) (i : Fin 4096) :
    k0_pay4 (F := Ideal) dx gt w u (ix2 p i)
      = (∑ k : Fin 1024, dx (ix2 p k) * gt (ix2 0 k) * w (ix2 i k)) * (2 * max (u (ix2 p i)) 0) := by
  pointwise [k0_pay4, k0_pay1]
  rw [Layer.two_eq]

end Cert.Kernel2Ideal.Pay

end
-- ==== Proof.GateBwdValue.lean ====
/-
  The arrays that the gate's backward call (`gate_nt_matmul`) leaves, over the extended reals: each is a gradient of the
  layer's squared-ReLU half as a function of the matrices the call reads.
-/
module

public import proofs.«01_k».proof.Proof.GateBwdBlocks
public import proofs.«01_k».proof.Proof.GateBwdPay
public import proofs.«01_k».proof.Proof.Layer
public import proofs.«01_k».proof.Proof.Gen.Kernel2Ideal.Value

@[expose] public section

set_option maxRecDepth 16384

noncomputable section

namespace Cert.Kernel2Ideal.Final

open Cert.Kernel2Ideal Cert.Kernel2Ideal.Gen Cert.Kernel2Ideal.Blocks Cert.Kernel2Ideal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev dx : Layer.Mat 4096 1024 := fun r k => V m c main_arg3 (ix2 r k)
abbrev f : Layer.Mat 4096 1024 := fun r k => V m c main_v7 (ix2 r k)
abbrev gt : Fin 1024 → EReal := fun k => V m c main_arg2 (ix2 0 k)
abbrev w : Layer.Mat 4096 1024 := fun r k => V m c main_arg1 (ix2 r k)
abbrev u : Layer.Mat 4096 4096 := fun r k => V m c main_arg0 (ix2 r k)
abbrev dz : Layer.Mat 4096 1024 := Layer.gate (dx m c) (gt m c)
abbrev du : Layer.Mat 4096 4096 := Layer.sqBack (u m c) (Layer.nt (dz m c) (w m c))

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 1024) : iblk m c 0 t (ix2 p k) = dx m c (row t p) k := by
  have hi := idx_0 t
  unfold iblk
  rw [View.read_apply]
  show V m c main_arg3 _ = V m c main_arg3 _
  congr 1; funext a; apply Fin.ext
  match a with
  | ⟨0, _⟩ => show win0_0.index t 0 * 512 + 1 * p.val = (t.val) * 512 + p.val; rw [hi.1]; omega
  | ⟨1, _⟩ => show win0_0.index t 1 * 1024 + 1 * k.val = k.val; rw [hi.2]; omega

theorem idx_1 (t : Fin cfg0.N) : win0_1.index t 0 = t.val ∧ win0_1.index t 1 = 0 :=
  (by decide +kernel : ∀ t : Fin grid0.N, win0_1.index t 0 = t.val ∧ win0_1.index t 1 = 0) t

theorem blk_1 (t : Fin cfg0.N) (p : Fin 512) (k : Fin 1024) : iblk m c 1 t (ix2 p k) = f m c (row t p) k := by
  have hi := idx_1 t
  unfold iblk
  rw [View.read_apply]
  show V m c main_v7 _ = V m c main_v7 _
  congr 1; funext a; apply Fin.ext
  match a with
  | ⟨0, _⟩ => show win0_1.index t 0 * 512 + 1 * p.val = (t.val) * 512 + p.val; rw [hi.1]; omega
  | ⟨1, _⟩ => show win0_1.index t 1 * 1024 + 1 * k.val = k.val; rw [hi.2]; omega

theorem idx_2 (t : Fin cfg0.N) : win0_2.index t 0 = 0 ∧ win0_2.index t 1 = 0 :=
  (by decide +kernel : ∀ t : Fin grid0.N, win0_2.index t 0 = 0 ∧ win0_2.index t 1 = 0) t

theorem blk_2 (t : Fin cfg0.N) (k : Fin 1024) : iblk m c 2 t (ix2 0 k) = gt m c k := by
  have hi := idx_2 t
  unfold iblk
  rw [View.read_apply]
  show V m c main_arg2 _ = V m c main_arg2 _
  congr 1; funext a; apply Fin.ext
  match a with
  | ⟨0, _⟩ => show win0_2.index t 0 * 1 + 1 * (0 : Fin 1).val = (0 : Fin 1).val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (p : Fin 4096) (k : Fin 1024) : iblk m c 3 t (ix2 p k) = w m c p k := by
  have hi := idx_3 t
  unfold iblk
  rw [View.read_apply]
  show V m c main_arg1 _ = V m c main_arg1 _
  congr 1; funext a; apply Fin.ext
  match a with
  | ⟨0, _⟩ => show win0_3.index t 0 * 4096 + 1 * p.val = p.val; rw [hi.1]; omega
  | ⟨1, _⟩ => show win0_3.index t 1 * 1024 + 1 * k.val = k.val; rw [hi.2]; omega

theorem idx_4 (t : Fin cfg0.N) : win0_4.index t 0 = t.val ∧ win0_4.index t 1 = 0 :=
  (by decide +kernel : ∀ t : Fin grid0.N, win0_4.index t 0 = t.val ∧ win0_4.index t 1 = 0) t

theorem blk_4 (t : Fin cfg0.N) (p : Fin 512) (k : Fin 4096) : iblk m c 4 t (ix2 p k) = u m c (row t p) k := by
  have hi := idx_4 t
  unfold iblk
  rw [View.read_apply]
  show V m c main_arg0 _ = V m c main_arg0 _
  congr 1; funext a; apply Fin.ext
  match a with
  | ⟨0, _⟩ => show win0_4.index t 0 * 512 + 1 * p.val = (t.val) * 512 + p.val; rw [hi.1]; omega
  | ⟨1, _⟩ => show win0_4.index t 1 * 4096 + 1 * k.val = k.val; rw [hi.2]; omega

/-! ## The arrays left -/

theorem idx_5 (t : Fin cfg0.N) : win0_5.index t 0 = t.val ∧ win0_5.index t 1 = 0 :=
  (by decide +kernel : ∀ t : Fin grid0.N, win0_5.index t 0 = t.val ∧ win0_5.index t 1 = 0) t

theorem pay_5 (t : Fin cfg0.N) (p : Fin 512) (j : Fin 1024) :
    (k0_pay1 (F := Ideal) (iblk m c 0 t) (iblk m c 2 t)) (ix2 p j) = dz m c (row t p) j := by
  rw [dz_apply]
  simp only [blk_0, blk_1, blk_2, blk_3, blk_4]
  rfl

theorem final_5 : (dats m 0 c).arrAt 5 cfg0.N = fun i => dz m c (i 0) (i 1) := by
  refine (dats m 0 c).arrAt_eq_of_cover 5 _ (fun t _ => ?_) (fun i => ?_)
  · have hi := idx_5 t
    rw [Value.flushed5, Blocks.outs_5]
    funext y
    rw [View.read_apply]
    refine (congrArg ((k0_pay1 (F := Ideal) (iblk m c 0 t) (iblk m c 2 t))) (eq_ix2 (show Shape.Idx S512x1024 from y))).trans ((pay_5 m c t (y 0) (y 1)).trans ?_)
    exact congrArg₂ (dz m c)
      (Fin.ext (by show (t.val) * 512 + (y 0).val = win0_5.index t 0 * 512 + 1 * (y 0).val; rw [hi.1]; omega))
      (Fin.ext (by show (y 1).val = win0_5.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_5 t
    have hv : t.val = (i 0).val / 512 := rfl
    refine ⟨t, flush0_5 t, ?_⟩
    show i ∈ ((View.whole main_v8_0).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 1024 ≤ (i 1).val ∧ (i 1).val < win0_5.index t 1 * 1024 + 1024; rw [hi.2]; omega

theorem idx_6 (t : Fin cfg0.N) : win0_6.index t 0 = 0 ∧ win0_6.index t 1 = 0 :=
  (by decide +kernel : ∀ t : Fin grid0.N, win0_6.index t 0 = 0 ∧ win0_6.index t 1 = 0) t

theorem pay_6 (t : Fin cfg0.N) (j : Fin 1024) :
    (k0_pay2 (F := Ideal) (iblk m c 0 t) (iblk m c 1 t)) (ix2 0 j) = ∑ p : Fin 512, (fun r j => dx m c r j * f m c r j) (row t p) j := by
  rw [dgt_apply]
  simp only [blk_0, blk_1, blk_2, blk_3, blk_4]

theorem sum_6 (t : Fin cfg0.N) (ht : t.val = 7) (j : Fin 1024) :
    (outsAt0 m c t.val t.isLt).2.1 (ix2 0 j) = Layer.rows (fun r j => (fun r j => dx m c r j * f m c r j) r j) j := by
  have hN : cfg0.N = 8 := N_0
  exact Layer.run_total 8 512 4096 hN rfl (fun r => (fun r j => dx m c r j * f m c r j) r j) (fun t h => (outsAt0 m c t h).2.1 (ix2 0 j))
    (fun t => (k0_pay2 (F := Ideal) (iblk m c 0 t) (iblk m c 1 t)) (ix2 0 j))
    (fun t _ => pay_6 m c t j)
    (fun t h => by
      have h' := congrFun (Blocks.outs_6 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_6 : (dats m 0 c).arrAt 6 cfg0.N = fun i => Layer.rows (fun r j => (fun r j => dx m c r j * f m c r j) r j) (i 1) := by
  have hN : cfg0.N = 8 := N_0
  refine (dats m 0 c).arrAt_eq_of_cover 6 _ (fun t ht => ?_) (fun i => ?_)
  · have hi := idx_6 t
    have hl := lt_N t
    have ht' : t.val = 7 := by have := (flush0_6 t).mp ht; omega
    rw [Value.flushed6]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.1) hy).trans ((sum_6 m c t ht' (y 1)).trans ?_)
    exact congrArg (Layer.rows (fun r j => (fun r j => dx m c r j * f m c r j) r j))
      (Fin.ext (by show (y 1).val = win0_6.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_6 t
    refine ⟨t, (flush0_6 t).mpr rfl, ?_⟩
    show i ∈ ((View.whole main_v8_1).slice (win0_6.rect t)).set
    rw [View.set_slice_whole, Rect.mem_set_unit]
    intro a
    match a with
    | ⟨0, _⟩ => show win0_6.index t 0 * 1 ≤ (i 0).val ∧ (i 0).val < win0_6.index t 0 * 1 + 1; rw [hi.1]; omega
    | ⟨1, _⟩ => show win0_6.index t 1 * 1024 ≤ (i 1).val ∧ (i 1).val < win0_6.index t 1 * 1024 + 1024; rw [hi.2]; omega

theorem idx_7 (t : Fin cfg0.N) : win0_7.index t 0 = t.val ∧ win0_7.index t 1 = 0 :=
  (by decide +kernel : ∀ t : Fin grid0.N, win0_7.index t 0 = t.val ∧ win0_7.index t 1 = 0) t

theorem pay_7 (t : Fin cfg0.N) (p : Fin 512) (j : Fin 4096) :
    (k0_pay4 (F := Ideal) (iblk m c 0 t) (iblk m c 2 t) (iblk m c 3 t) (iblk m c 4 t)) (ix2 p j) = du m c (row t p) j := by
  rw [du_apply]
  simp only [blk_0, blk_1, blk_2, blk_3, blk_4]
  rfl

theorem final_7 : (dats m 0 c).arrAt 7 cfg0.N = fun i => du m c (i 0) (i 1) := by
  refine (dats m 0 c).arrAt_eq_of_cover 7 _ (fun t _ => ?_) (fun i => ?_)
  · have hi := idx_7 t
    rw [Value.flushed7, Blocks.outs_7]
    funext y
    rw [View.read_apply]
    refine (congrArg ((k0_pay4 (F := Ideal) (iblk m c 0 t) (iblk m c 2 t) (iblk m c 3 t) (iblk m c 4 t))) (eq_ix2 (show Shape.Idx S512x4096 from y))).trans ((pay_7 m c t (y 0) (y 1)).trans ?_)
    exact congrArg₂ (du m c)
      (Fin.ext (by show (t.val) * 512 + (y 0).val = win0_7.index t 0 * 512 + 1 * (y 0).val; rw [hi.1]; omega))
      (Fin.ext (by show (y 1).val = win0_7.index t 1 * 4096 + 1 * (y 1).val; rw [hi.2]; omega))
  · have h0 : (i 0).val < 4096 := (i 0).isLt
    have h1 : (i 1).val < 4096 := (i 1).isLt
    have hN : cfg0.N = 8 := N_0
    let t : Fin cfg0.N := ⟨(i 0).val / 512, by omega⟩
    have hi := idx_7 t
    have hv : t.val = (i 0).val / 512 := rfl
    refine ⟨t, flush0_7 t, ?_⟩
    show i ∈ ((View.whole main_v8_2).slice (win0_7.rect t)).set
    rw [View.set_slice_whole, Rect.mem_set_unit]
    intro a
    match a with
    | ⟨0, _⟩ => show win0_7.index t 0 * 512 ≤ (i 0).val ∧ (i 0).val < win0_7.index t 0 * 512 + 512; rw [hi.1]; omega
    | ⟨1, _⟩ => show win0_7.index t 1 * 4096 ≤ (i 1).val ∧ (i 1).val < win0_7.index t 1 * 4096 + 4096; rw [hi.2]; omega

end Cert.Kernel2Ideal.Final

end
-- ==== Proof.GateBwdRef.lean ====
/-
  The reference of the gate's backward call, over the extended reals: its gradients, as the host computes them, are the
  gradients of the layer (`Layer`) as functions of plain matrices.
-/
module

public import proofs.«01_k».proof.Proof.Layer
public import proofs.«01_k».proof.Proof.Gen.Reference2Ideal.Read
public import Idealize.ShloMosaic.Lib.Pointwise

@[expose] public section

set_option maxRecDepth 16384

noncomputable section

namespace Cert.Reference2Ideal.Grad

open Cert.Reference2Ideal Cert.Reference2Ideal.Read Idealize.ShloMosaic

variable (x0 : FVec Ideal S4096x4096 .bf16) (x1 : FVec Ideal S4096x1024 .bf16) (x2 : FVec Ideal S1x1024 .f32)
  (x3 : FVec Ideal S4096x1024 .f32)

abbrev DX : Layer.Mat 4096 1024 := fun r k => x3 (ix2 r k)
abbrev GT : Fin 1024 → EReal := fun k => x2 (ix2 0 k)
abbrev W : Layer.Mat 4096 1024 := fun r k => x1 (ix2 r k)
abbrev U : Layer.Mat 4096 4096 := fun r k => x0 (ix2 r k)

theorem dz_at (r : Fin 4096) (j : Fin 1024) :
    val_main_v13 (F := Ideal) x2 x3 (ix2 r j) = Layer.gate (DX x3) (GT x2) r j := by
  pointwise [val_main_v13, val_main_v12]
  exact mul_comm _ _

theorem dz_eq : val_main_v21 (F := Ideal) x2 x3 = fun i => Layer.gate (DX x3) (GT x2) (i 0) (i 1) := by
  funext i
  idx_vars i
  pointwise [val_main_v21]
  exact dz_at ..

theorem dgt_eq : val_main_v16 (F := Ideal) x0 x1 x3
    = fun i => Layer.rows (fun r j => DX x3 r j * val_main_v9 (F := Ideal) x0 x1 (ix2 r j)) (i 1) := by
  funext i
  idx_vars i
  pointwise [val_main_v16, val_main_v15, val_main_v14, val_main_cst_2]
  rfl

theorem dsq_at (r : Fin 4096) (i : Fin 4096) :
    val_main_v17 (F := Ideal) x1 x2 x3 (ix2 r i) = Layer.nt (Layer.gate (DX x3) (GT x2)) (W x1) r i := by
  pointwise [val_main_v17, val_main_v0]
  simp only [dz_at]
  rfl

theorem du_eq : val_main_v22 (F := Ideal) x0 x1 x2 x3
    = fun i => Layer.sqBack (U x0) (Layer.nt (Layer.gate (DX x3) (GT x2)) (W x1)) (i 0) (i 1) := by
  funext i
  idx_vars i
  pointwise [val_main_v22, val_main_v20, val_main_v19, val_main_v18, val_main_v8, val_main_v7, val_main_v4, val_main_v3, val_main_v2, val_main_v1, val_main_call0_v0,
    val_main_call0_cst, val_main_cst, val_main_cst_1, val_main_cst_3]
  rw [dsq_at, Layer.two_eq]
  exact Layer.sqBack_if _ _

end Cert.Reference2Ideal.Grad

end
-- ==== Proof.GateBwdClaims.lean ====
/-
  The claims about the gate's backward call (`gate_nt_matmul`): the reference's run, and the equality of the call's three
  arrays with the reference's gradients over the extended reals.
-/
module

public import proofs.«01_k».proof.Defs
public import proofs.«01_k».proof.Proof.GateBwdValue
public import proofs.«01_k».proof.Proof.GateBwdRef
public import proofs.«01_k».proof.Proof.Gen.Kernel2.Frame
public import proofs.«01_k».proof.Proof.Gen.Reference2Ideal.Run
public import proofs.«01_k».proof.Proof.Gen.Reference2Ideal.Read
public import Idealize.ShloMosaic.Adequacy
public import Idealize.ShloMosaic.Lib.Quiescent

@[expose] public section

set_option maxRecDepth 16384

noncomputable section

namespace Cert.GateBwd

open Idealize.ShloMosaic Idealize.ShloMosaic.TcCoe Idealize.SL.Sem

/-- What the host leaves in `v7` before the region, as the reference's own value: the product, its cast no change over the
    extended reals. -/
theorem host_v7 (m : (ℓ : Loc Kernel2Ideal.nD Kernel2Ideal.τ Kernel2Ideal.sig) → Buf (Elt Ideal) ℓ) (c : Dev Kernel2Ideal.nD) :
    Kernel2Ideal.Gen.V m c Kernel2Ideal.main_v7 = (fun i => Reference2Ideal.Read.val_main_v9 (F := Ideal) (m ((c.tc : Thread Kernel2Ideal.nD Kernel2Ideal.τ).loc Kernel2Ideal.main_arg0)) (m ((c.tc : Thread Kernel2Ideal.nD Kernel2Ideal.τ).loc Kernel2Ideal.main_arg1)) i) := by
  show StableHlo.after (List.flatten [Kernel2Ideal.Gen.hostOps0, Kernel2Ideal.Gen.hostOps0_1, Kernel2Ideal.Gen.hostOps0_2]) (fun b => m (c, b)) (Proc.devRef .tc Kernel2Ideal.main_v7) = _
  simp only [List.flatten_cons, List.flatten_nil, List.append_nil, List.cons_append, List.nil_append]
  after_results_simp <;> rfl

theorem mat_5 (m : (ℓ : Loc Kernel2Ideal.nD Kernel2Ideal.τ Kernel2Ideal.sig) → Buf (Elt Ideal) ℓ) (c : Dev Kernel2Ideal.nD) :
    Layer.gate (Reference2Ideal.Grad.DX (m ((c.tc : Thread Kernel2Ideal.nD Kernel2Ideal.τ).loc Kernel2Ideal.main_arg3))) (Reference2Ideal.Grad.GT (m ((c.tc : Thread Kernel2Ideal.nD Kernel2Ideal.τ).loc Kernel2Ideal.main_arg2))) = Kernel2Ideal.Final.dz m c := by
  simp only [Kernel2Ideal.Gen.V_main_arg0, Kernel2Ideal.Gen.V_main_arg1, Kernel2Ideal.Gen.V_main_arg2, Kernel2Ideal.Gen.V_main_arg3, host_v7, Kernel2Ideal.Final.dx, Kernel2Ideal.Final.f, Kernel2Ideal.Final.gt, Kernel2Ideal.Final.w, Kernel2Ideal.Final.u, Kernel2Ideal.Final.dz, Kernel2Ideal.Final.du, Layer.rows]
  try rfl

theorem out_5 (m : (ℓ : Loc Kernel2Ideal.nD Kernel2Ideal.τ Kernel2Ideal.sig) → Buf (Elt Ideal) ℓ) (c : Dev Kernel2Ideal.nD)
    {x2 x3} (h2 : x2 = m ((c.tc : Thread Kernel2Ideal.nD Kernel2Ideal.τ).loc Kernel2Ideal.main_arg2)) (h3 : x3 = m ((c.tc : Thread Kernel2Ideal.nD Kernel2Ideal.τ).loc Kernel2Ideal.main_arg3)) :
    Reference2Ideal.Read.val_main_v21 (F := Ideal) x2 x3 = (Kernel2Ideal.Gen.dats m 0 c).arrAt 5 Kernel2Ideal.cfg0.N := by
  subst h2 h3
  refine (Reference2Ideal.Grad.dz_eq _ _).trans (Eq.trans ?_ (Kernel2Ideal.Final.final_5 m c).symm)
  exact congrArg (fun M (i : Shape.Idx Kernel2Ideal.S4096x1024) => M (i 0) (i 1)) (mat_5 m c)

theorem mat_6 (m : (ℓ : Loc Kernel2Ideal.nD Kernel2Ideal.τ Kernel2Ideal.sig) → Buf (Elt Ideal) ℓ) (c : Dev Kernel2Ideal.nD) :
    Layer.rows (fun r j => Reference2Ideal.Grad.DX (m ((c.tc : Thread Kernel2Ideal.nD Kernel2Ideal.τ).loc Kernel2Ideal.main_arg3)) r j * Reference2Ideal.Read.val_main_v9 (F := Ideal) (m ((c.tc : Thread Kernel2Ideal.nD Kernel2Ideal.τ).loc Kernel2Ideal.main_arg0)) (m ((c.tc : Thread Kernel2Ideal.nD Kernel2Ideal.τ).loc Kernel2Ideal.main_arg1)) (ix2 r j)) = Layer.rows (fun r j => Kernel2Ideal.Final.dx m c r j * Kernel2Ideal.Final.f m c r j) := by
  simp only [Kernel2Ideal.Gen.V_main_arg0, Kernel2Ideal.Gen.V_main_arg1, Kernel2Ideal.Gen.V_main_arg2, Kernel2Ideal.Gen.V_main_arg3, host_v7, Kernel2Ideal.Final.dx, Kernel2Ideal.Final.f, Kernel2Ideal.Final.gt, Kernel2Ideal.Final.w, Kernel2Ideal.Final.u, Kernel2Ideal.Final.dz, Kernel2Ideal.Final.du, Layer.rows]
  try rfl

theorem out_6 (m : (ℓ : Loc Kernel2Ideal.nD Kernel2Ideal.τ Kernel2Ideal.sig) → Buf (Elt Ideal) ℓ) (c : Dev Kernel2Ideal.nD)
    {x0 x1 x3} (h0 : x0 = m ((c.tc : Thread Kernel2Ideal.nD Kernel2Ideal.τ).loc Kernel2Ideal.main_arg0)) (h1 : x1 = m ((c.tc : Thread Kernel2Ideal.nD Kernel2Ideal.τ).loc Kernel2Ideal.main_arg1)) (h3 : x3 = m ((c.tc : Thread Kernel2Ideal.nD Kernel2Ideal.τ).loc Kernel2Ideal.main_arg3)) :
    Reference2Ideal.Read.val_main_v16 (F := Ideal) x0 x1 x3 = (Kernel2Ideal.Gen.dats m 0 c).arrAt 6 Kernel2Ideal.cfg0.N := by
  subst h0 h1 h3
  refine (Reference2Ideal.Grad.dgt_eq _ _ _).trans (Eq.trans ?_ (Kernel2Ideal.Final.final_6 m c).symm)
  exact congrArg (fun M (i : Shape.Idx Kernel2Ideal.S1x1024) => M (i 1)) (mat_6 m c)

theorem mat_7 (m : (ℓ : Loc Kernel2Ideal.nD Kernel2Ideal.τ Kernel2Ideal.sig) → Buf (Elt Ideal) ℓ) (c : Dev Kernel2Ideal.nD) :
    Layer.sqBack (Reference2Ideal.Grad.U (m ((c.tc : Thread Kernel2Ideal.nD Kernel2Ideal.τ).loc Kernel2Ideal.main_arg0))) (Layer.nt (Layer.gate (Reference2Ideal.Grad.DX (m ((c.tc : Thread Kernel2Ideal.nD Kernel2Ideal.τ).loc Kernel2Ideal.main_arg3))) (Reference2Ideal.Grad.GT (m ((c.tc : Thread Kernel2Ideal.nD Kernel2Ideal.τ).loc Kernel2Ideal.main_arg2)))) (Reference2Ideal.Grad.W (m ((c.tc : Thread Kernel2Ideal.nD Kernel2Ideal.τ).loc Kernel2Ideal.main_arg1)))) = Kernel2Ideal.Final.du m c := by
  simp only [Kernel2Ideal.Gen.V_main_arg0, Kernel2Ideal.Gen.V_main_arg1, Kernel2Ideal.Gen.V_main_arg2, Kernel2Ideal.Gen.V_main_arg3, host_v7, Kernel2Ideal.Final.dx, Kernel2Ideal.Final.f, Kernel2Ideal.Final.gt, Kernel2Ideal.Final.w, Kernel2Ideal.Final.u, Kernel2Ideal.Final.dz, Kernel2Ideal.Final.du, Layer.rows]
  try rfl

theorem out_7 (m : (ℓ : Loc Kernel2Ideal.nD Kernel2Ideal.τ Kernel2Ideal.sig) → Buf (Elt Ideal) ℓ) (c : Dev Kernel2Ideal.nD)
    {x0 x1 x2 x3} (h0 : x0 = m ((c.tc : Thread Kernel2Ideal.nD Kernel2Ideal.τ).loc Kernel2Ideal.main_arg0)) (h1 : x1 = m ((c.tc : Thread Kernel2Ideal.nD Kernel2Ideal.τ).loc Kernel2Ideal.main_arg1)) (h2 : x2 = m ((c.tc : Thread Kernel2Ideal.nD Kernel2Ideal.τ).loc Kernel2Ideal.main_arg2)) (h3 : x3 = m ((c.tc : Thread Kernel2Ideal.nD Kernel2Ideal.τ).loc Kernel2Ideal.main_arg3)) :
    Reference2Ideal.Read.val_main_v22 (F := Ideal) x0 x1 x2 x3 = (Kernel2Ideal.Gen.dats m 0 c).arrAt 7 Kernel2Ideal.cfg0.N := by
  subst h0 h1 h2 h3
  refine (Reference2Ideal.Grad.du_eq _ _ _ _).trans (Eq.trans ?_ (Kernel2Ideal.Final.final_7 m c).symm)
  exact congrArg (fun M (i : Shape.Idx Kernel2Ideal.S4096x4096) => M (i 0) (i 1)) (mat_7 m c)

/-- The reference runs and leaves its arguments alone. -/
theorem frame_reference : Cert.quiescent_Reference2Ideal := fun m g _ =>
  (θ_run Reference2Ideal.defs _ _).mono (fun r h => ⟨fun c => (h c).2.2.2, sem_eq_zero_of_no_sems (by decide) r.2⟩)
    (Reference2Ideal.Value.run m g)

/-- The call's arrays and the reference's are equal, element by element, over the extended reals. -/
theorem algebraic : Cert.algebraic_Kernel2Ideal_Reference2Ideal := by
  intro m g m' g' _ hargs
  refine ⟨fun c => (Kernel2Ideal.Gen.dats m 0 c).arrAt 5 Kernel2Ideal.cfg0.N, fun c => (Kernel2Ideal.Gen.dats m 0 c).arrAt 6 Kernel2Ideal.cfg0.N, fun c => (Kernel2Ideal.Gen.dats m 0 c).arrAt 7 Kernel2Ideal.cfg0.N,
    Kernel2Ideal.Value.run_blocks m g,
    (θ_run Reference2Ideal.defs _ _).mono (fun r h c => ?_) (Reference2Ideal.Value.run m' g')⟩
  obtain ⟨a0, a1, a2, a3⟩ := hargs c
  have hc := h c
  exact ⟨hc.1.trans ((Reference2Ideal.Read.val_main_v21_eq _ _).trans (out_5 m c a2 a3)),
    hc.2.1.trans ((Reference2Ideal.Read.val_main_v16_eq _ _ _).trans (out_6 m c a0 a1 a3)),
    hc.2.2.1.trans ((Reference2Ideal.Read.val_main_v22_eq _ _ _ _).trans (out_7 m c a0 a1 a2 a3)),
    hc.2.2.2⟩

end Cert.GateBwd

end
-- ==== Proof.NormBwdBlocks.lean ====
/-
  What the body of the norm's backward call (`nt_ln_bwd`) leaves in each of its four output windows at a grid point, as the
  named payloads of the point's input blocks, over any float values.
-/
module

public import proofs.«01_k».proof.Proof.Gen.Kernel3Ideal.Frame
public import Idealize.ShloMosaic.Lib.Pipeline.Value
public import Idealize.ShloMosaic.Lib.Tactic

@[expose] public section

set_option maxRecDepth 16384

noncomputable section

namespace Cert.Kernel3Ideal.Blocks

open Cert.Kernel3Ideal Cert.Kernel3Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

/-- What output 7 holds after a point: this point's block. -/
theorem outs_7 (c : Dev nD) (t : Fin cfg0.N) : (outsAt0 m c t.val t.isLt).1 = k0_pay11 (iblk m c 0 t) (iblk m c 1 t) (iblk m c 2 t) (iblk m c 3 t) (iblk m c 4 t) (iblk m c 6 t) := by
  have hN : cfg0.N = 8 := N_0
  have ht := t.isLt
  by_cases h : t.val % 8 = 0
  · have h1 : ¬1 ≤ t.val := by omega
    rw [outsAt0_A m c t h h1 h h1 h h1]
    dsimp only
    unfold out0_A_7
    refine (View.read_writes_eq_canon _ _ _ (fun y => cover0_A_7 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]
  · have h1 : 1 ≤ t.val := by omega
    rw [outsAt0_B m c t h h1 h h1 h h1]
    dsimp only
    unfold out0_B_7
    refine (View.read_writes_eq_canon _ _ _ (fun y => cover0_B_7 (F := F) (y := y) ..)).trans ?_
    unfold kernelRun0_B
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]

/-- What output 8 holds after a point: at the first point of a run this point's part, at a later one the
    part added to what the point before left. -/
theorem outs_8 (c : Dev nD) (t : Fin cfg0.N) :
    (outsAt0 m c t.val t.isLt).2.1 = if t.val % 8 = 0 then k0_pay1 (k0_pay7 (iblk m c 0 t) (iblk m c 1 t))
      else addf (outsAt0 m c (t.val - 1) (Nat.lt_of_le_of_lt (Nat.sub_le _ _) t.isLt)).2.1 (k0_pay1 (k0_pay7 (iblk m c 0 t) (iblk m c 1 t))) := by
  have hN : cfg0.N = 8 := N_0
  have ht := t.isLt
  by_cases h : t.val % 8 = 0
  · have h1 : ¬1 ≤ t.val := by omega
    rw [if_pos h, outsAt0_A m c t h h1 h h1 h h1]
    dsimp only
    unfold out0_A_8
    refine (View.read_writes_eq_canon _ _ _ (fun y => cover0_A_8 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]
  · have h1 : 1 ≤ t.val := by omega
    rw [if_neg h, outsAt0_B m c t h h1 h h1 h h1]
    dsimp only
    unfold out0_B_8
    refine (View.read_writes_eq_canon _ _ _ (fun y => cover0_B_8 (F := F) (y := y) ..)).trans ?_
    unfold kernelRun0_B
    dsimp only
    sl_unfold_words
    rw [View.canon_unit_zero hz2]
    unfold k0_pay2
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]

/-- What output 9 holds after a point: at the first point of a run this point's part, at a later one the
    part added to what the point before left. -/
theorem outs_9 (c : Dev nD) (t : Fin cfg0.N) :
    (outsAt0 m c t.val t.isLt).2.2.1 = if t.val % 8 = 0 then k0_pay3 (k0_pay7 (iblk m c 0 t) (iblk m c 1 t)) (k0_pay9 (iblk m c 2 t)) (iblk m c 3 t)
      else addf (outsAt0 m c (t.val - 1) (Nat.lt_of_le_of_lt (Nat.sub_le _ _) t.isLt)).2.2.1 (k0_pay3 (k0_pay7 (iblk m c 0 t) (iblk m c 1 t)) (k0_pay9 (iblk m c 2 t)) (iblk m c 3 t)) := by
  have hN : cfg0.N = 8 := N_0
  have ht := t.isLt
  by_cases h : t.val % 8 = 0
  · have h1 : ¬1 ≤ t.val := by omega
    rw [if_pos h, outsAt0_A m c t h h1 h h1 h h1]
    dsimp only
    unfold out0_A_9
    refine (View.read_writes_eq_canon _ _ _ (fun y => cover0_A_9 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]
  · have h1 : 1 ≤ t.val := by omega
    rw [if_neg h, outsAt0_B m c t h h1 h h1 h h1]
    dsimp only
    unfold out0_B_9
    refine (View.read_writes_eq_canon _ _ _ (fun y => cover0_B_9 (F := F) (y := y) ..)).trans ?_
    unfold kernelRun0_B
    dsimp only
    sl_unfold_words
    rw [View.canon_unit_zero hz2]
    unfold k0_pay4
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]

/-- What output 10 holds after a point: at the first point of a run this point's part, at a later one the
    part added to what the point before left. -/
theorem outs_10 (c : Dev nD) (t : Fin cfg0.N) :
    (outsAt0 m c t.val t.isLt).2.2.2 = if t.val % 8 = 0 then k0_pay5 (k0_pay9 (iblk m c 2 t)) (k0_pay10 (iblk m c 0 t) (iblk m c 1 t) (iblk m c 4 t))
      else addf (outsAt0 m c (t.val - 1) (Nat.lt_of_le_of_lt (Nat.sub_le _ _) t.isLt)).2.2.2 (k0_pay5 (k0_pay9 (iblk m c 2 t)) (k0_pay10 (iblk m c 0 t) (iblk m c 1 t) (iblk m c 4 t))) := by
  have hN : cfg0.N = 8 := N_0
  have ht := t.isLt
  by_cases h : t.val % 8 = 0
  · have h1 : ¬1 ≤ t.val := by omega
    rw [if_pos h, outsAt0_A m c t h h1 h h1 h h1]
    dsimp only
    unfold out0_A_10
    refine (View.read_writes_eq_canon _ _ _ (fun y => cover0_A_10 (F := F) (y := y) ..)).trans ?_
    unfold kernelRun0_A
    dsimp only
    sl_unfold_words
    rw [View.canon_unit_zero hz2]
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]
  · have h1 : 1 ≤ t.val := by omega
    rw [if_neg h, outsAt0_B m c t h h1 h h1 h h1]
    dsimp only
    unfold out0_B_10
    refine (View.read_writes_eq_canon _ _ _ (fun y => cover0_B_10 (F := F) (y := y) ..)).trans ?_
    unfold kernelRun0_B
    dsimp only
    sl_unfold_words
    rw [View.canon_unit_zero hz2]
    unfold k0_pay6
    simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, (hs0_8 t).read_unread, (hs0_9 t).read_unread, (hs0_10 t).read_unread, View.ld_unit_zero (S := S1x1024) hz2, View.ld_unit_zero (S := S512x3072) hz2, View.ld_unit_zero (S := S1024x3072) hz2, View.ld_unit_zero (S := S512x1024) hz2, shapeCast_self]

end Cert.Kernel3Ideal.Blocks

end
-- ==== Proof.NormBwdPay.lean ====
/-
  The payloads of the norm's backward call (`nt_ln_bwd`) over the extended reals, read at an index of a block.
-/
module

public import proofs.«01_k».proof.Proof.Gen.Kernel3Ideal.Skeleton
public import proofs.«01_k».proof.Proof.Rows
public import Idealize.ShloMosaic.Lib.Pointwise

@[expose] public section

set_option maxRecDepth 16384

noncomputable section

namespace Cert.Kernel3Ideal.Pay

open Cert.Kernel3Ideal Cert.Kernel3Ideal.Gen Idealize.ShloMosaic

/-- The cotangent of the modulated row: a product against the transposed weight. -/
theorem dh_apply (dy : Vec Ideal S512x3072 .bf16) (w : Vec Ideal S1024x3072 .bf16) (p : Fin 512) (j : Fin 1024) :
    k0_pay7 (F := Ideal) dy w (ix2 p j) = ∑ k : Fin 3072, dy (ix2 p k) * w (ix2 j k) := by
  pointwise [k0_pay7]

theorem inv_apply (x : Vec Ideal S512x1024 .f32) (p : Fin 512) :
    k0_pay8 (F := Ideal) x (ix2 p 0) = Rows.inv fun k => x (ix2 p k) := by
  pointwise [k0_pay8]
  rfl

theorem xhat_apply (x : Vec Ideal S512x1024 .f32) (p : Fin 512) (j : Fin 1024) :
    k0_pay9 (F := Ideal) x (ix2 p j) = x (ix2 p j) * Rows.inv fun k => x (ix2 p k) := by
  rw [← inv_apply]
  pointwise [k0_pay9]

theorem dn_apply (dy : Vec Ideal S512x3072 .bf16) (w : Vec Ideal S1024x3072 .bf16) (sc : Vec Ideal S1x1024 .f32)
    (p : Fin 512) (j : Fin 1024) :
    k0_pay10 (F := Ideal) dy w sc (ix2 p j)
      = (∑ k : Fin 3072, dy (ix2 p k) * w (ix2 j k)) * (1 + sc (ix2 0 j)) := by
  rw [← dh_apply]
  pointwise [k0_pay10]

theorem dx_apply (dy : Vec Ideal S512x3072 .bf16) (w : Vec Ideal S1024x3072 .bf16) (x : Vec Ideal S512x1024 .f32)
    (g sc : Vec Ideal S1x1024 .f32) (d : Vec Ideal S512x1024 .f32) (p : Fin 512) (j : Fin 1024) :
    k0_pay11 (F := Ideal) dy w x g sc d (ix2 p j)
      = Rows.back (fun k => x (ix2 p k))
          (fun k => (∑ q : Fin 3072, dy (ix2 p q) * w (ix2 k q)) * (1 + sc (ix2 0 k)) * g (ix2 0 k))
          (d (ix2 p j)) j := by
  pointwise [k0_pay11]
  simp only [dn_apply, inv_apply, xhat_apply]
  rfl

theorem dsh_apply (dh : FVec Ideal S512x1024 .f32) (j : Fin 1024) :
    k0_pay1 (F := Ideal) dh (ix2 0 j) = ∑ p : Fin 512, dh (ix2 p j) := by
  pointwise [k0_pay1]

theorem dsc_apply (dh xh : FVec Ideal S512x1024 .f32) (g : Vec Ideal S1x1024 .f32) (j : Fin 1024) :
    k0_pay3 (F := Ideal) dh xh g (ix2 0 j) = ∑ p : Fin 512, dh (ix2 p j) * (xh (ix2 p j) * g (ix2 0 j)) := by
  pointwise [k0_pay3]

theorem dg_apply (xh dn : FVec Ideal S512x1024 .f32) (j : Fin 1024) :
    k0_pay5 (F := Ideal) xh dn (ix2 0 j) = ∑ p : Fin 512, dn (ix2 p j) * xh (ix2 p j) := by
  pointwise [k0_pay5]

end Cert.Kernel3Ideal.Pay

end
-- ==== Proof.NormBwdValue.lean ====
/-
  The arrays that the norm's backward call (`nt_ln_bwd`) leaves, over the extended reals: each is a gradient of the layer's
  mixing half as a function of the matrices the call reads.
-/
module

public import proofs.«01_k».proof.Proof.NormBwdBlocks
public import proofs.«01_k».proof.Proof.NormBwdPay
public import proofs.«01_k».proof.Proof.Layer
public import proofs.«01_k».proof.Proof.Gen.Kernel3Ideal.Value

@[expose] public section

set_option maxRecDepth 16384

noncomputable section

namespace Cert.Kernel3Ideal.Final

open Cert.Kernel3Ideal Cert.Kernel3Ideal.Gen Cert.Kernel3Ideal.Blocks Cert.Kernel3Ideal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev dy : Layer.Mat 4096 3072 := fun r k => V m c main_arg0 (ix2 r k)
abbrev w : Layer.Mat 1024 3072 := fun r k => V m c main_arg1 (ix2 r k)
abbrev x : Layer.Mat 4096 1024 := fun r k => V m c main_arg2 (ix2 r k)
abbrev g : Fin 1024 → EReal := fun k => V m c main_arg3 (ix2 0 k)
abbrev sc : Fin 1024 → EReal := fun k => V m c main_arg4 (ix2 0 k)
abbrev dres : Layer.Mat 4096 1024 := fun r k => V m c main_arg6 (ix2 r k)
abbrev dh : Layer.Mat 4096 1024 := Layer.nt (dy m c) (w m c)
abbrev dx : Layer.Mat 4096 1024 := Layer.dx (x m c) (dh m c) (g m c) (sc m c) (dres m c)

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 3072) : iblk m c 0 t (ix2 p k) = dy m c (row t p) k := by
  have hi := idx_0 t
  unfold iblk
  rw [View.read_apply]
  show V m c main_arg0 _ = V m c main_arg0 _
  congr 1; funext a; apply Fin.ext
  match a with
  | ⟨0, _⟩ => show win0_0.index t 0 * 512 + 1 * p.val = (t.val) * 512 + p.val; rw [hi.1]; omega
  | ⟨1, _⟩ => show win0_0.index t 1 * 3072 + 1 * k.val = k.val; rw [hi.2]; omega

theorem idx_1 (t : Fin cfg0.N) : win0_1.index t 0 = 0 ∧ win0_1.index t 1 = 0 :=
  (by decide +kernel : ∀ t : Fin grid0.N, win0_1.index t 0 = 0 ∧ win0_1.index t 1 = 0) t

theorem blk_1 (t : Fin cfg0.N) (p : Fin 1024) (k : Fin 3072) : iblk m c 1 t (ix2 p k) = w m c p k := by
  have hi := idx_1 t
  unfold iblk
  rw [View.read_apply]
  show V m c main_arg1 _ = V m c main_arg1 _
  congr 1; funext a; apply Fin.ext
  match a with
  | ⟨0, _⟩ => show win0_1.index t 0 * 1024 + 1 * p.val = p.val; rw [hi.1]; omega
  | ⟨1, _⟩ => show win0_1.index t 1 * 3072 + 1 * k.val = k.val; rw [hi.2]; omega

theorem idx_2 (t : Fin cfg0.N) : win0_2.index t 0 = t.val ∧ win0_2.index t 1 = 0 :=
  (by decide +kernel : ∀ t : Fin grid0.N, win0_2.index t 0 = t.val ∧ win0_2.index t 1 = 0) t

theorem blk_2 (t : Fin cfg0.N) (p : Fin 512) (k : Fin 1024) : iblk m c 2 t (ix2 p k) = x m c (row t p) k := by
  have hi := idx_2 t
  unfold iblk
  rw [View.read_apply]
  show V m c main_arg2 _ = V m c main_arg2 _
  congr 1; funext a; apply Fin.ext
  match a with
  | ⟨0, _⟩ => show win0_2.index t 0 * 512 + 1 * p.val = (t.val) * 512 + p.val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (k : Fin 1024) : iblk m c 3 t (ix2 0 k) = g m c k := by
  have hi := idx_3 t
  unfold iblk
  rw [View.read_apply]
  show V m c main_arg3 _ = V m c main_arg3 _
  congr 1; funext a; apply Fin.ext
  match a with
  | ⟨0, _⟩ => show win0_3.index t 0 * 1 + 1 * (0 : Fin 1).val = (0 : Fin 1).val; rw [hi.1]; omega
  | ⟨1, _⟩ => show win0_3.index t 1 * 1024 + 1 * k.val = k.val; rw [hi.2]; omega

theorem idx_4 (t : Fin cfg0.N) : win0_4.index t 0 = 0 ∧ win0_4.index t 1 = 0 :=
  (by decide +kernel : ∀ t : Fin grid0.N, win0_4.index t 0 = 0 ∧ win0_4.index t 1 = 0) t

theorem blk_4 (t : Fin cfg0.N) (k : Fin 1024) : iblk m c 4 t (ix2 0 k) = sc m c k := by
  have hi := idx_4 t
  unfold iblk
  rw [View.read_apply]
  show V m c main_arg4 _ = V m c main_arg4 _
  congr 1; funext a; apply Fin.ext
  match a with
  | ⟨0, _⟩ => show win0_4.index t 0 * 1 + 1 * (0 : Fin 1).val = (0 : Fin 1).val; rw [hi.1]; omega
  | ⟨1, _⟩ => show win0_4.index t 1 * 1024 + 1 * k.val = k.val; rw [hi.2]; omega

theorem idx_6 (t : Fin cfg0.N) : win0_6.index t 0 = t.val ∧ win0_6.index t 1 = 0 :=
  (by decide +kernel : ∀ t : Fin grid0.N, win0_6.index t 0 = t.val ∧ win0_6.index t 1 = 0) t

theorem blk_6 (t : Fin cfg0.N) (p : Fin 512) (k : Fin 1024) : iblk m c 6 t (ix2 p k) = dres m c (row t p) k := by
  have hi := idx_6 t
  unfold iblk
  rw [View.read_apply]
  show V m c main_arg6 _ = V m c main_arg6 _
  congr 1; funext a; apply Fin.ext
  match a with
  | ⟨0, _⟩ => show win0_6.index t 0 * 512 + 1 * p.val = (t.val) * 512 + p.val; rw [hi.1]; omega
  | ⟨1, _⟩ => show win0_6.index t 1 * 1024 + 1 * k.val = k.val; rw [hi.2]; omega

/-! ## The arrays left -/

theorem idx_7 (t : Fin cfg0.N) : win0_7.index t 0 = t.val ∧ win0_7.index t 1 = 0 :=
  (by decide +kernel : ∀ t : Fin grid0.N, win0_7.index t 0 = t.val ∧ win0_7.index t 1 = 0) t

theorem pay_7 (t : Fin cfg0.N) (p : Fin 512) (j : Fin 1024) :
    (k0_pay11 (F := Ideal) (iblk m c 0 t) (iblk m c 1 t) (iblk m c 2 t) (iblk m c 3 t) (iblk m c 4 t) (iblk m c 6 t)) (ix2 p j) = dx m c (row t p) j := by
  simp only [dh_apply, xhat_apply, dn_apply, dx_apply, blk_0, blk_1, blk_2, blk_3, blk_4, blk_6]
  rfl

theorem final_7 : (dats m 0 c).arrAt 7 cfg0.N = fun i => dx m c (i 0) (i 1) := by
  refine (dats m 0 c).arrAt_eq_of_cover 7 _ (fun t _ => ?_) (fun i => ?_)
  · have hi := idx_7 t
    rw [Value.flushed7, Blocks.outs_7]
    funext y
    rw [View.read_apply]
    refine (congrArg ((k0_pay11 (F := Ideal) (iblk m c 0 t) (iblk m c 1 t) (iblk m c 2 t) (iblk m c 3 t) (iblk m c 4 t) (iblk m c 6 t))) (eq_ix2 (show Shape.Idx S512x1024 from y))).trans ((pay_7 m c t (y 0) (y 1)).trans ?_)
    exact congrArg₂ (dx m c)
      (Fin.ext (by show (t.val) * 512 + (y 0).val = win0_7.index t 0 * 512 + 1 * (y 0).val; rw [hi.1]; omega))
      (Fin.ext (by show (y 1).val = win0_7.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_7 t
    have hv : t.val = (i 0).val / 512 := rfl
    refine ⟨t, flush0_7 t, ?_⟩
    show i ∈ ((View.whole main_v0_0).slice (win0_7.rect t)).set
    rw [View.set_slice_whole, Rect.mem_set_unit]
    intro a
    match a with
    | ⟨0, _⟩ => show win0_7.index t 0 * 512 ≤ (i 0).val ∧ (i 0).val < win0_7.index t 0 * 512 + 512; rw [hi.1]; omega
    | ⟨1, _⟩ => show win0_7.index t 1 * 1024 ≤ (i 1).val ∧ (i 1).val < win0_7.index t 1 * 1024 + 1024; rw [hi.2]; omega

theorem idx_8 (t : Fin cfg0.N) : win0_8.index t 0 = 0 ∧ win0_8.index t 1 = 0 :=
  (by decide +kernel : ∀ t : Fin grid0.N, win0_8.index t 0 = 0 ∧ win0_8.index t 1 = 0) t

theorem pay_8 (t : Fin cfg0.N) (j : Fin 1024) :
    (k0_pay1 (F := Ideal) (k0_pay7 (F := Ideal) (iblk m c 0 t) (iblk m c 1 t))) (ix2 0 j) = ∑ p : Fin 512, dh m c (row t p) j := by
  rw [dsh_apply]
  simp only [dh_apply, xhat_apply, dn_apply, dx_apply, blk_0, blk_1, blk_2, blk_3, blk_4, blk_6]
  rfl

theorem sum_8 (t : Fin cfg0.N) (ht : t.val = 7) (j : Fin 1024) :
    (outsAt0 m c t.val t.isLt).2.1 (ix2 0 j) = Layer.rows (fun r j => dh m c r j) j := by
  have hN : cfg0.N = 8 := N_0
  exact Layer.run_total 8 512 4096 hN rfl (fun r => dh m c r j) (fun t h => (outsAt0 m c t h).2.1 (ix2 0 j))
    (fun t => (k0_pay1 (F := Ideal) (k0_pay7 (F := Ideal) (iblk m c 0 t) (iblk m c 1 t))) (ix2 0 j))
    (fun t _ => pay_8 m c t j)
    (fun t h => by
      have h' := congrFun (Blocks.outs_8 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_8 : (dats m 0 c).arrAt 8 cfg0.N = fun i => Layer.rows (fun r j => dh m c r j) (i 1) := by
  have hN : cfg0.N = 8 := N_0
  refine (dats m 0 c).arrAt_eq_of_cover 8 _ (fun t ht => ?_) (fun i => ?_)
  · have hi := idx_8 t
    have hl := lt_N t
    have ht' : t.val = 7 := by have := (flush0_8 t).mp ht; omega
    rw [Value.flushed8]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.1) hy).trans ((sum_8 m c t ht' (y 1)).trans ?_)
    exact congrArg (Layer.rows (fun r j => dh m c r j))
      (Fin.ext (by show (y 1).val = win0_8.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_8 t
    refine ⟨t, (flush0_8 t).mpr rfl, ?_⟩
    show i ∈ ((View.whole main_v0_1).slice (win0_8.rect t)).set
    rw [View.set_slice_whole, Rect.mem_set_unit]
    intro a
    match a with
    | ⟨0, _⟩ => show win0_8.index t 0 * 1 ≤ (i 0).val ∧ (i 0).val < win0_8.index t 0 * 1 + 1; rw [hi.1]; omega
    | ⟨1, _⟩ => show win0_8.index t 1 * 1024 ≤ (i 1).val ∧ (i 1).val < win0_8.index t 1 * 1024 + 1024; rw [hi.2]; omega

theorem idx_9 (t : Fin cfg0.N) : win0_9.index t 0 = 0 ∧ win0_9.index t 1 = 0 :=
  (by decide +kernel : ∀ t : Fin grid0.N, win0_9.index t 0 = 0 ∧ win0_9.index t 1 = 0) t

theorem pay_9 (t : Fin cfg0.N) (j : Fin 1024) :
    (k0_pay3 (F := Ideal) (k0_pay7 (F := Ideal) (iblk m c 0 t) (iblk m c 1 t)) (k0_pay9 (F := Ideal) (iblk m c 2 t)) (iblk m c 3 t)) (ix2 0 j) = ∑ p : Fin 512, (fun r j => dh m c r j * (Layer.hat (x m c) r j * g m c j)) (row t p) j := by
  rw [dsc_apply]
  simp only [dh_apply, xhat_apply, dn_apply, dx_apply, blk_0, blk_1, blk_2, blk_3, blk_4, blk_6]
  rfl

theorem sum_9 (t : Fin cfg0.N) (ht : t.val = 7) (j : Fin 1024) :
    (outsAt0 m c t.val t.isLt).2.2.1 (ix2 0 j) = Layer.rows (fun r j => (fun r j => dh m c r j * (Layer.hat (x m c) r j * g m c j)) r j) j := by
  have hN : cfg0.N = 8 := N_0
  exact Layer.run_total 8 512 4096 hN rfl (fun r => (fun r j => dh m c r j * (Layer.hat (x m c) r j * g m c j)) r j) (fun t h => (outsAt0 m c t h).2.2.1 (ix2 0 j))
    (fun t => (k0_pay3 (F := Ideal) (k0_pay7 (F := Ideal) (iblk m c 0 t) (iblk m c 1 t)) (k0_pay9 (F := Ideal) (iblk m c 2 t)) (iblk m c 3 t)) (ix2 0 j))
    (fun t _ => pay_9 m c t j)
    (fun t h => by
      have h' := congrFun (Blocks.outs_9 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_9 : (dats m 0 c).arrAt 9 cfg0.N = fun i => Layer.rows (fun r j => (fun r j => dh m c r j * (Layer.hat (x m c) r j * g m c j)) r j) (i 1) := by
  have hN : cfg0.N = 8 := N_0
  refine (dats m 0 c).arrAt_eq_of_cover 9 _ (fun t ht => ?_) (fun i => ?_)
  · have hi := idx_9 t
    have hl := lt_N t
    have ht' : t.val = 7 := by have := (flush0_9 t).mp ht; omega
    rw [Value.flushed9]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.2.1) hy).trans ((sum_9 m c t ht' (y 1)).trans ?_)
    exact congrArg (Layer.rows (fun r j => (fun r j => dh m c r j * (Layer.hat (x m c) r j * g m c j)) r j))
      (Fin.ext (by show (y 1).val = win0_9.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_9 t
    refine ⟨t, (flush0_9 t).mpr rfl, ?_⟩
    show i ∈ ((View.whole main_v0_2).slice (win0_9.rect t)).set
    rw [View.set_slice_whole, Rect.mem_set_unit]
    intro a
    match a with
    | ⟨0, _⟩ => show win0_9.index t 0 * 1 ≤ (i 0).val ∧ (i 0).val < win0_9.index t 0 * 1 + 1; rw [hi.1]; omega
    | ⟨1, _⟩ => show win0_9.index t 1 * 1024 ≤ (i 1).val ∧ (i 1).val < win0_9.index t 1 * 1024 + 1024; rw [hi.2]; omega

theorem idx_10 (t : Fin cfg0.N) : win0_10.index t 0 = 0 ∧ win0_10.index t 1 = 0 :=
  (by decide +kernel : ∀ t : Fin grid0.N, win0_10.index t 0 = 0 ∧ win0_10.index t 1 = 0) t

theorem pay_10 (t : Fin cfg0.N) (j : Fin 1024) :
    (k0_pay5 (F := Ideal) (k0_pay9 (F := Ideal) (iblk m c 2 t)) (k0_pay10 (F := Ideal) (iblk m c 0 t) (iblk m c 1 t) (iblk m c 4 t))) (ix2 0 j) = ∑ p : Fin 512, (fun r j => Layer.dn (dh m c) (sc m c) r j * Layer.hat (x m c) r j) (row t p) j := by
  rw [dg_apply]
  simp only [dh_apply, xhat_apply, dn_apply, dx_apply, blk_0, blk_1, blk_2, blk_3, blk_4, blk_6]
  rfl

theorem sum_10 (t : Fin cfg0.N) (ht : t.val = 7) (j : Fin 1024) :
    (outsAt0 m c t.val t.isLt).2.2.2 (ix2 0 j) = Layer.rows (fun r j => (fun r j => Layer.dn (dh m c) (sc m c) r j * Layer.hat (x m c) r j) r j) j := by
  have hN : cfg0.N = 8 := N_0
  exact Layer.run_total 8 512 4096 hN rfl (fun r => (fun r j => Layer.dn (dh m c) (sc m c) r j * Layer.hat (x m c) r j) r j) (fun t h => (outsAt0 m c t h).2.2.2 (ix2 0 j))
    (fun t => (k0_pay5 (F := Ideal) (k0_pay9 (F := Ideal) (iblk m c 2 t)) (k0_pay10 (F := Ideal) (iblk m c 0 t) (iblk m c 1 t) (iblk m c 4 t))) (ix2 0 j))
    (fun t _ => pay_10 m c t j)
    (fun t h => by
      have h' := congrFun (Blocks.outs_10 m c ⟨t, h⟩) (ix2 0 j)
      by_cases hp : t % 8 = 0
      · rw [if_pos hp]
        rw [if_pos hp] at h'
        exact h'
      · rw [if_neg hp]
        rw [if_neg hp] at h'
        exact h')
    t.val t.isLt (by omega)

theorem final_10 : (dats m 0 c).arrAt 10 cfg0.N = fun i => Layer.rows (fun r j => (fun r j => Layer.dn (dh m c) (sc m c) r j * Layer.hat (x m c) r j) r j) (i 1) := by
  have hN : cfg0.N = 8 := N_0
  refine (dats m 0 c).arrAt_eq_of_cover 10 _ (fun t ht => ?_) (fun i => ?_)
  · have hi := idx_10 t
    have hl := lt_N t
    have ht' : t.val = 7 := by have := (flush0_10 t).mp ht; omega
    rw [Value.flushed10]
    funext y
    rw [View.read_apply]
    have hy : (show Shape.Idx S1x1024 from y) = ix2 0 (y 1) := (eq_ix2 _).trans (congrArg (fun z => ix2 z _) (Subsingleton.elim (α := Fin 1) _ _))
    refine (congrArg ((outsAt0 m c t.val t.isLt).2.2.2) hy).trans ((sum_10 m c t ht' (y 1)).trans ?_)
    exact congrArg (Layer.rows (fun r j => (fun r j => Layer.dn (dh m c) (sc m c) r j * Layer.hat (x m c) r j) r j))
      (Fin.ext (by show (y 1).val = win0_10.index t 1 * 1024 + 1 * (y 1).val; rw [hi.2]; omega))
  · have h0 : (i 0).val < 1 := (i 0).isLt
    have h1 : (i 1).val < 1024 := (i 1).isLt
    let t : Fin cfg0.N := ⟨7, by omega⟩
    have hi := idx_10 t
    refine ⟨t, (flush0_10 t).mpr rfl, ?_⟩
    show i ∈ ((View.whole main_v0_3).slice (win0_10.rect t)).set
    rw [View.set_slice_whole, Rect.mem_set_unit]
    intro a
    match a with
    | ⟨0, _⟩ => show win0_10.index t 0 * 1 ≤ (i 0).val ∧ (i 0).val < win0_10.index t 0 * 1 + 1; rw [hi.1]; omega
    | ⟨1, _⟩ => show win0_10.index t 1 * 1024 ≤ (i 1).val ∧ (i 1).val < win0_10.index t 1 * 1024 + 1024; rw [hi.2]; omega

end Cert.Kernel3Ideal.Final

end
-- ==== Proof.NormBwdRef.lean ====
/-
  The reference of the norm's backward call, over the extended reals: its gradients, as the host computes them, are the
  gradients of the layer (`Layer`) as functions of plain matrices.
-/
module

public import proofs.«01_k».proof.Proof.Layer
public import proofs.«01_k».proof.Proof.Gen.Reference3Ideal.Read
public import Idealize.ShloMosaic.Lib.Pointwise

@[expose] public section

set_option maxRecDepth 16384

noncomputable section

namespace Cert.Reference3Ideal.Grad

open Cert.Reference3Ideal Cert.Reference3Ideal.Read Idealize.ShloMosaic

variable (x0 : FVec Ideal S4096x3072 .bf16) (x1 : FVec Ideal S1024x3072 .bf16) (x2 : FVec Ideal S4096x1024 .f32)
  (x3 x4 : FVec Ideal S1x1024 .f32) (x6 : FVec Ideal S4096x1024 .f32)

abbrev X : Layer.Mat 4096 1024 := fun r k => x2 (ix2 r k)
abbrev dh : Layer.Mat 4096 1024 := Layer.nt (fun r k => x0 (ix2 r k)) fun r k => x1 (ix2 r k)
abbrev G : Fin 1024 → EReal := fun k => x3 (ix2 0 k)
abbrev SC : Fin 1024 → EReal := fun k => x4 (ix2 0 k)
abbrev dx : Layer.Mat 4096 1024 := Layer.dx (X x2) (dh x0 x1) (G x3) (SC x4) fun r k => x6 (ix2 r k)

theorem dh_at (r : Fin 4096) (j : Fin 1024) : val_main_v24 (F := Ideal) x0 x1 (ix2 r j) = dh x0 x1 r j := by
  pointwise [val_main_v24, val_main_v23, val_main_v0]
  rfl

theorem ms_at (r : Fin 4096) : val_main_v7 (F := Ideal) x2 (ix2 r 0) = Rows.ms (X x2 r) := by
  pointwise [val_main_v7, val_main_v6, val_main_v5, val_main_v4, val_main_v3, val_main_v2, val_main_v1, val_main_cst,
    val_main_cst_0, val_main_cst_1]
  rfl

theorem inv_at (r : Fin 4096) : val_main_v8 (F := Ideal) x2 (ix2 r 0) = Rows.inv (X x2 r) := by
  pointwise [val_main_v8]
  rw [ms_at]
  rfl

theorem hat_at (r : Fin 4096) (j : Fin 1024) :
    val_main_v13 (F := Ideal) x2 (ix2 r j) = Layer.hat (X x2) r j := by
  pointwise [val_main_v13, val_main_v12]
  rw [inv_at]
  rfl

theorem dn_at (r : Fin 4096) (j : Fin 1024) :
    val_main_v31 (F := Ideal) x0 x1 x4 (ix2 r j) = Layer.dn (dh x0 x1) (SC x4) r j := by
  pointwise [val_main_v31, val_main_v30, val_main_v17, val_main_v16, val_main_cst_3]
  rw [dh_at]
  rfl

theorem dsh_eq : val_main_v26 (F := Ideal) x0 x1 = fun i => Layer.rows (dh x0 x1) (i 1) := by
  funext i
  idx_vars i
  pointwise [val_main_v26, val_main_v25, val_main_cst_4]
  simp only [dh_at]
  rfl

theorem dsc_eq : val_main_v29 (F := Ideal) x0 x1 x2 x3
    = fun i => Layer.rows (fun r j => dh x0 x1 r j * (Layer.hat (X x2) r j * G x3 j)) (i 1) := by
  funext i
  idx_vars i
  pointwise [val_main_v29, val_main_v28, val_main_v27, val_main_v15, val_main_v14, val_main_cst_5]
  simp only [dh_at, hat_at]
  refine Finset.sum_congr rfl fun r _ => ?_
  exact mul_comm _ _

theorem dg_eq : val_main_v34 (F := Ideal) x0 x1 x2 x4
    = fun i => Layer.rows (fun r j => Layer.dn (dh x0 x1) (SC x4) r j * Layer.hat (X x2) r j) (i 1) := by
  funext i
  idx_vars i
  pointwise [val_main_v34, val_main_v33, val_main_v32, val_main_cst_6]
  simp only [dn_at, hat_at]
  refine Finset.sum_congr rfl fun r _ => ?_
  exact mul_comm _ _

theorem cot_at (r : Fin 4096) (j : Fin 1024) :
    val_main_v36 (F := Ideal) x0 x1 x3 x4 (ix2 r j) = Layer.dn (dh x0 x1) (SC x4) r j * G x3 j := by
  pointwise [val_main_v36, val_main_v35]
  rw [dn_at]

theorem msBack_at (r : Fin 4096) :
    val_main_v46 (F := Ideal) x0 x1 x2 x3 x4 (ix1 r)
      = Rows.msBack (X x2 r) fun q => Layer.dn (dh x0 x1) (SC x4) r q * G x3 q := by
  pointwise [val_main_v46, val_main_cst_9]
  refine (Fin.sum_univ_one _).trans ?_
  show val_main_v45 (F := Ideal) x0 x1 x2 x3 x4 (ix2 r 0) = _
  pointwise [val_main_v45, val_main_v44, val_main_v43, val_main_v39, val_main_v38, val_main_v37, val_main_v11,
    val_main_v10, val_main_v9, val_main_cst_2, val_main_cst_7, val_main_cst_8]
  simp only [cot_at, inv_at, ms_at]
  rfl

theorem dx_at (r : Fin 4096) (j : Fin 1024) :
    val_main_v51 (F := Ideal) x0 x1 x2 x3 x4 x6 (ix2 r j) = dx x0 x1 x2 x3 x4 x6 r j := by
  pointwise [val_main_v51, val_main_v50, val_main_v49, val_main_v48, val_main_v47, val_main_v42, val_main_v41, val_main_v40]
  simp only [cot_at, inv_at, msBack_at]
  exact (Rows.back_eq (X x2 r) (fun q => Layer.dn (dh x0 x1) (SC x4) r q * G x3 q) (x6 (ix2 r j)) j).symm

theorem dx_eq : val_main_v51 (F := Ideal) x0 x1 x2 x3 x4 x6
    = fun i => dx x0 x1 x2 x3 x4 x6 (i 0) (i 1) := by
  funext i
  idx_vars i
  exact dx_at ..

end Cert.Reference3Ideal.Grad

end
-- ==== Proof.NormBwdClaims.lean ====
/-
  The claims about the norm's backward call (`nt_ln_bwd`): the reference's run, and the equality of the call's four arrays
  with the reference's gradients over the extended reals.
-/
module

public import proofs.«01_k».proof.Defs
public import proofs.«01_k».proof.Proof.NormBwdValue
public import proofs.«01_k».proof.Proof.NormBwdRef
public import proofs.«01_k».proof.Proof.Gen.Kernel3.Frame
public import proofs.«01_k».proof.Proof.Gen.Reference3Ideal.Run
public import proofs.«01_k».proof.Proof.Gen.Reference3Ideal.Read
public import Idealize.ShloMosaic.Adequacy
public import Idealize.ShloMosaic.Lib.Quiescent

@[expose] public section

set_option maxRecDepth 16384

noncomputable section

namespace Cert.NormBwd

open Idealize.ShloMosaic Idealize.ShloMosaic.TcCoe Idealize.SL.Sem

theorem mat_7 (m : (ℓ : Loc Kernel3Ideal.nD Kernel3Ideal.τ Kernel3Ideal.sig) → Buf (Elt Ideal) ℓ) (c : Dev Kernel3Ideal.nD) :
    Reference3Ideal.Grad.dx (m ((c.tc : Thread Kernel3Ideal.nD Kernel3Ideal.τ).loc Kernel3Ideal.main_arg0)) (m ((c.tc : Thread Kernel3Ideal.nD Kernel3Ideal.τ).loc Kernel3Ideal.main_arg1)) (m ((c.tc : Thread Kernel3Ideal.nD Kernel3Ideal.τ).loc Kernel3Ideal.main_arg2)) (m ((c.tc : Thread Kernel3Ideal.nD Kernel3Ideal.τ).loc Kernel3Ideal.main_arg3)) (m ((c.tc : Thread Kernel3Ideal.nD Kernel3Ideal.τ).loc Kernel3Ideal.main_arg4)) (m ((c.tc : Thread Kernel3Ideal.nD Kernel3Ideal.τ).loc Kernel3Ideal.main_arg6)) = Kernel3Ideal.Final.dx m c := by
  simp only [Kernel3Ideal.Gen.V_main_arg0, Kernel3Ideal.Gen.V_main_arg1, Kernel3Ideal.Gen.V_main_arg2, Kernel3Ideal.Gen.V_main_arg3, Kernel3Ideal.Gen.V_main_arg4, Kernel3Ideal.Gen.V_main_arg6, Kernel3Ideal.Final.dy, Kernel3Ideal.Final.w, Kernel3Ideal.Final.x, Kernel3Ideal.Final.g, Kernel3Ideal.Final.sc, Kernel3Ideal.Final.dres, Kernel3Ideal.Final.dh, Kernel3Ideal.Final.dx, Layer.rows]
  try rfl

theorem out_7 (m : (ℓ : Loc Kernel3Ideal.nD Kernel3Ideal.τ Kernel3Ideal.sig) → Buf (Elt Ideal) ℓ) (c : Dev Kernel3Ideal.nD)
    {x0 x1 x2 x3 x4 x6} (h0 : x0 = m ((c.tc : Thread Kernel3Ideal.nD Kernel3Ideal.τ).loc Kernel3Ideal.main_arg0)) (h1 : x1 = m ((c.tc : Thread Kernel3Ideal.nD Kernel3Ideal.τ).loc Kernel3Ideal.main_arg1)) (h2 : x2 = m ((c.tc : Thread Kernel3Ideal.nD Kernel3Ideal.τ).loc Kernel3Ideal.main_arg2)) (h3 : x3 = m ((c.tc : Thread Kernel3Ideal.nD Kernel3Ideal.τ).loc Kernel3Ideal.main_arg3)) (h4 : x4 = m ((c.tc : Thread Kernel3Ideal.nD Kernel3Ideal.τ).loc Kernel3Ideal.main_arg4)) (h6 : x6 = m ((c.tc : Thread Kernel3Ideal.nD Kernel3Ideal.τ).loc Kernel3Ideal.main_arg6)) :
    Reference3Ideal.Read.val_main_v51 (F := Ideal) x0 x1 x2 x3 x4 x6 = (Kernel3Ideal.Gen.dats m 0 c).arrAt 7 Kernel3Ideal.cfg0.N := by
  subst h0 h1 h2 h3 h4 h6
  refine (Reference3Ideal.Grad.dx_eq _ _ _ _ _ _).trans (Eq.trans ?_ (Kernel3Ideal.Final.final_7 m c).symm)
  exact congrArg (fun M (i : Shape.Idx Kernel3Ideal.S4096x1024) => M (i 0) (i 1)) (mat_7 m c)

theorem mat_8 (m : (ℓ : Loc Kernel3Ideal.nD Kernel3Ideal.τ Kernel3Ideal.sig) → Buf (Elt Ideal) ℓ) (c : Dev Kernel3Ideal.nD) :
    Layer.rows (fun r j => Reference3Ideal.Grad.dh (m ((c.tc : Thread Kernel3Ideal.nD Kernel3Ideal.τ).loc Kernel3Ideal.main_arg0)) (m ((c.tc : Thread Kernel3Ideal.nD Kernel3Ideal.τ).loc Kernel3Ideal.main_arg1)) r j) = Layer.rows (fun r j => Kernel3Ideal.Final.dh m c r j) := by
  simp only [Kernel3Ideal.Gen.V_main_arg0, Kernel3Ideal.Gen.V_main_arg1, Kernel3Ideal.Gen.V_main_arg2, Kernel3Ideal.Gen.V_main_arg3, Kernel3Ideal.Gen.V_main_arg4, Kernel3Ideal.Gen.V_main_arg6, Kernel3Ideal.Final.dy, Kernel3Ideal.Final.w, Kernel3Ideal.Final.x, Kernel3Ideal.Final.g, Kernel3Ideal.Final.sc, Kernel3Ideal.Final.dres, Kernel3Ideal.Final.dh, Kernel3Ideal.Final.dx, Layer.rows]
  try rfl

theorem out_8 (m : (ℓ : Loc Kernel3Ideal.nD Kernel3Ideal.τ Kernel3Ideal.sig) → Buf (Elt Ideal) ℓ) (c : Dev Kernel3Ideal.nD)
    {x0 x1} (h0 : x0 = m ((c.tc : Thread Kernel3Ideal.nD Kernel3Ideal.τ).loc Kernel3Ideal.main_arg0)) (h1 : x1 = m ((c.tc : Thread Kernel3Ideal.nD Kernel3Ideal.τ).loc Kernel3Ideal.main_arg1)) :
    Reference3Ideal.Read.val_main_v26 (F := Ideal) x0 x1 = (Kernel3Ideal.Gen.dats m 0 c).arrAt 8 Kernel3Ideal.cfg0.N := by
  subst h0 h1
  refine (Reference3Ideal.Grad.dsh_eq _ _).trans (Eq.trans ?_ (Kernel3Ideal.Final.final_8 m c).symm)
  exact congrArg (fun M (i : Shape.Idx Kernel3Ideal.S1x1024) => M (i 1)) (mat_8 m c)

theorem mat_9 (m : (ℓ : Loc Kernel3Ideal.nD Kernel3Ideal.τ Kernel3Ideal.sig) → Buf (Elt Ideal) ℓ) (c : Dev Kernel3Ideal.nD) :
    Layer.rows (fun r j => Reference3Ideal.Grad.dh (m ((c.tc : Thread Kernel3Ideal.nD Kernel3Ideal.τ).loc Kernel3Ideal.main_arg0)) (m ((c.tc : Thread Kernel3Ideal.nD Kernel3Ideal.τ).loc Kernel3Ideal.main_arg1)) r j * (Layer.hat (Reference3Ideal.Grad.X (m ((c.tc : Thread Kernel3Ideal.nD Kernel3Ideal.τ).loc Kernel3Ideal.main_arg2))) r j * Reference3Ideal.Grad.G (m ((c.tc : Thread Kernel3Ideal.nD Kernel3Ideal.τ).loc Kernel3Ideal.main_arg3)) j)) = Layer.rows (fun r j => Kernel3Ideal.Final.dh m c r j * (Layer.hat (Kernel3Ideal.Final.x m c) r j * Kernel3Ideal.Final.g m c j)) := by
  simp only [Kernel3Ideal.Gen.V_main_arg0, Kernel3Ideal.Gen.V_main_arg1, Kernel3Ideal.Gen.V_main_arg2, Kernel3Ideal.Gen.V_main_arg3, Kernel3Ideal.Gen.V_main_arg4, Kernel3Ideal.Gen.V_main_arg6, Kernel3Ideal.Final.dy, Kernel3Ideal.Final.w, Kernel3Ideal.Final.x, Kernel3Ideal.Final.g, Kernel3Ideal.Final.sc, Kernel3Ideal.Final.dres, Kernel3Ideal.Final.dh, Kernel3Ideal.Final.dx, Layer.rows]
  try rfl

theorem out_9 (m : (ℓ : Loc Kernel3Ideal.nD Kernel3Ideal.τ Kernel3Ideal.sig) → Buf (Elt Ideal) ℓ) (c : Dev Kernel3Ideal.nD)
    {x0 x1 x2 x3} (h0 : x0 = m ((c.tc : Thread Kernel3Ideal.nD Kernel3Ideal.τ).loc Kernel3Ideal.main_arg0)) (h1 : x1 = m ((c.tc : Thread Kernel3Ideal.nD Kernel3Ideal.τ).loc Kernel3Ideal.main_arg1)) (h2 : x2 = m ((c.tc : Thread Kernel3Ideal.nD Kernel3Ideal.τ).loc Kernel3Ideal.main_arg2)) (h3 : x3 = m ((c.tc : Thread Kernel3Ideal.nD Kernel3Ideal.τ).loc Kernel3Ideal.main_arg3)) :
    Reference3Ideal.Read.val_main_v29 (F := Ideal) x0 x1 x2 x3 = (Kernel3Ideal.Gen.dats m 0 c).arrAt 9 Kernel3Ideal.cfg0.N := by
  subst h0 h1 h2 h3
  refine (Reference3Ideal.Grad.dsc_eq _ _ _ _).trans (Eq.trans ?_ (Kernel3Ideal.Final.final_9 m c).symm)
  exact congrArg (fun M (i : Shape.Idx Kernel3Ideal.S1x1024) => M (i 1)) (mat_9 m c)

theorem mat_10 (m : (ℓ : Loc Kernel3Ideal.nD Kernel3Ideal.τ Kernel3Ideal.sig) → Buf (Elt Ideal) ℓ) (c : Dev Kernel3Ideal.nD) :
    Layer.rows (fun r j => Layer.dn (Reference3Ideal.Grad.dh (m ((c.tc : Thread Kernel3Ideal.nD Kernel3Ideal.τ).loc Kernel3Ideal.main_arg0)) (m ((c.tc : Thread Kernel3Ideal.nD Kernel3Ideal.τ).loc Kernel3Ideal.main_arg1))) (Reference3Ideal.Grad.SC (m ((c.tc : Thread Kernel3Ideal.nD Kernel3Ideal.τ).loc Kernel3Ideal.main_arg4))) r j * Layer.hat (Reference3Ideal.Grad.X (m ((c.tc : Thread Kernel3Ideal.nD Kernel3Ideal.τ).loc Kernel3Ideal.main_arg2))) r j) = Layer.rows (fun r j => Layer.dn (Kernel3Ideal.Final.dh m c) (Kernel3Ideal.Final.sc m c) r j * Layer.hat (Kernel3Ideal.Final.x m c) r j) := by
  simp only [Kernel3Ideal.Gen.V_main_arg0, Kernel3Ideal.Gen.V_main_arg1, Kernel3Ideal.Gen.V_main_arg2, Kernel3Ideal.Gen.V_main_arg3, Kernel3Ideal.Gen.V_main_arg4, Kernel3Ideal.Gen.V_main_arg6, Kernel3Ideal.Final.dy, Kernel3Ideal.Final.w, Kernel3Ideal.Final.x, Kernel3Ideal.Final.g, Kernel3Ideal.Final.sc, Kernel3Ideal.Final.dres, Kernel3Ideal.Final.dh, Kernel3Ideal.Final.dx, Layer.rows]
  try rfl

theorem out_10 (m : (ℓ : Loc Kernel3Ideal.nD Kernel3Ideal.τ Kernel3Ideal.sig) → Buf (Elt Ideal) ℓ) (c : Dev Kernel3Ideal.nD)
    {x0 x1 x2 x4} (h0 : x0 = m ((c.tc : Thread Kernel3Ideal.nD Kernel3Ideal.τ).loc Kernel3Ideal.main_arg0)) (h1 : x1 = m ((c.tc : Thread Kernel3Ideal.nD Kernel3Ideal.τ).loc Kernel3Ideal.main_arg1)) (h2 : x2 = m ((c.tc : Thread Kernel3Ideal.nD Kernel3Ideal.τ).loc Kernel3Ideal.main_arg2)) (h4 : x4 = m ((c.tc : Thread Kernel3Ideal.nD Kernel3Ideal.τ).loc Kernel3Ideal.main_arg4)) :
    Reference3Ideal.Read.val_main_v34 (F := Ideal) x0 x1 x2 x4 = (Kernel3Ideal.Gen.dats m 0 c).arrAt 10 Kernel3Ideal.cfg0.N := by
  subst h0 h1 h2 h4
  refine (Reference3Ideal.Grad.dg_eq _ _ _ _).trans (Eq.trans ?_ (Kernel3Ideal.Final.final_10 m c).symm)
  exact congrArg (fun M (i : Shape.Idx Kernel3Ideal.S1x1024) => M (i 1)) (mat_10 m c)

/-- The reference runs and leaves its arguments alone. -/
theorem frame_reference : Cert.quiescent_Reference3Ideal := fun m g _ =>
  (θ_run Reference3Ideal.defs _ _).mono (fun r h => ⟨fun c => (h c).2.2.2.2, sem_eq_zero_of_no_sems (by decide) r.2⟩)
    (Reference3Ideal.Value.run m g)

/-- The call's arrays and the reference's are equal, element by element, over the extended reals. -/
theorem algebraic : Cert.algebraic_Kernel3Ideal_Reference3Ideal := by
  intro m g m' g' _ hargs
  refine ⟨fun c => (Kernel3Ideal.Gen.dats m 0 c).arrAt 7 Kernel3Ideal.cfg0.N, fun c => (Kernel3Ideal.Gen.dats m 0 c).arrAt 8 Kernel3Ideal.cfg0.N, fun c => (Kernel3Ideal.Gen.dats m 0 c).arrAt 9 Kernel3Ideal.cfg0.N, fun c => (Kernel3Ideal.Gen.dats m 0 c).arrAt 10 Kernel3Ideal.cfg0.N,
    Kernel3Ideal.Value.run_blocks m g,
    (θ_run Reference3Ideal.defs _ _).mono (fun r h c => ?_) (Reference3Ideal.Value.run m' g')⟩
  obtain ⟨a0, a1, a2, a3, a4, a5, a6⟩ := hargs c
  have hc := h c
  exact ⟨hc.1.trans ((Reference3Ideal.Read.val_main_v51_eq m' c).trans (out_7 m c a0 a1 a2 a3 a4 a6)),
    hc.2.1.trans ((Reference3Ideal.Read.val_main_v26_eq _ _).trans (out_8 m c a0 a1)),
    hc.2.2.1.trans ((Reference3Ideal.Read.val_main_v29_eq _ _ _ _).trans (out_9 m c a0 a1 a2 a3)),
    hc.2.2.2.1.trans ((Reference3Ideal.Read.val_main_v34_eq _ _ _ _).trans (out_10 m c a0 a1 a2 a4)),
    hc.2.2.2.2⟩

end Cert.NormBwd

end
-- ==== Proof.GradW2Value.lean ====
/-
  The array that the weight gradient call `gw2` leaves, over the extended reals: the product of the transposed activations
  and the cotangent, the activations the squared ReLU of the stored rows, summed over four blocks of rows, cut into the eight devices' slices.
-/
module

public import proofs.«01_k».proof.Proof.Layer
public import proofs.«01_k».proof.Proof.Gen.Kernel4Ideal.Frame
public import proofs.«01_k».proof.Proof.Gen.Kernel4Ideal.Value
public import Idealize.ShloMosaic.Lib.Pipeline.Value
public import Idealize.ShloMosaic.Lib.Pipeline.ValueKit.Acc
public import Idealize.ShloMosaic.Lib.Pipeline.ValueKit.Tiles
public import Idealize.ShloMosaic.Lib.Pointwise
public import Idealize.ShloMosaic.Lib.Tactic

@[expose] public section

set_option maxRecDepth 16384

noncomputable section

namespace Cert.Kernel4Ideal.Final

open Cert.Kernel4Ideal Cert.Kernel4Ideal.Gen
open Idealize.ShloMosaic Idealize.ShloMosaic.TcCoe Idealize.SL.Sem

/-! ## The payloads at an index -/

/-- The product of two blocks. -/
theorem prod_apply (a : Vec Ideal S1024x2048 .bf16) (b : Vec Ideal S1024x1024 .bf16) (i : Fin 2048) (j : Fin 1024) :
    k0_pay3 (F := Ideal) a b (ix2 i j) = ∑ p : Fin 1024, max (a (ix2 p i)) 0 * max (a (ix2 p i)) 0 * b (ix2 p j) := by
  pointwise [k0_pay3]

theorem new_0 (a : Vec Ideal S1024x2048 .bf16) (b : Vec Ideal S1024x1024 .bf16) (x : S1x512x1024.Idx) (i : Fin 2048) (j : Fin 1024) (hi : i.val = (x 1).val) (hj : j.val = (x 2).val) :
    k0_pay5 (F := Ideal) a b x = k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨p.val, lt_of_lt_of_le p.isLt (by decide)⟩ := Fin.ext hi
  pointwise [k0_pay5, k0_pay4]

theorem add_0 (a : Vec Ideal S1024x2048 .bf16) (b : Vec Ideal S1024x1024 .bf16) (o : Vec Ideal S1x512x1024 .f32) (x : S1x512x1024.Idx) (i : Fin 2048) (j : Fin 1024) (hi : i.val = (x 1).val) (hj : j.val = (x 2).val) :
    k0_pay6 (F := Ideal) a b o x = o x + k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨p.val, lt_of_lt_of_le p.isLt (by decide)⟩ := Fin.ext hi
  pointwise [k0_pay6, k0_pay4]

theorem new_1 (a : Vec Ideal S1024x2048 .bf16) (b : Vec Ideal S1024x1024 .bf16) (x : S1x512x1024.Idx) (i : Fin 2048) (j : Fin 1024) (hi : i.val = 512 + (x 1).val) (hj : j.val = (x 2).val) :
    k0_pay8 (F := Ideal) a b x = k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨512 + p.val, lt_of_lt_of_le (Nat.add_lt_add_left p.isLt _) (by decide)⟩ := Fin.ext hi
  pointwise [k0_pay8, k0_pay7]

theorem add_1 (a : Vec Ideal S1024x2048 .bf16) (b : Vec Ideal S1024x1024 .bf16) (o : Vec Ideal S1x512x1024 .f32) (x : S1x512x1024.Idx) (i : Fin 2048) (j : Fin 1024) (hi : i.val = 512 + (x 1).val) (hj : j.val = (x 2).val) :
    k0_pay9 (F := Ideal) a b o x = o x + k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨512 + p.val, lt_of_lt_of_le (Nat.add_lt_add_left p.isLt _) (by decide)⟩ := Fin.ext hi
  pointwise [k0_pay9, k0_pay7]

theorem new_2 (a : Vec Ideal S1024x2048 .bf16) (b : Vec Ideal S1024x1024 .bf16) (x : S1x512x1024.Idx) (i : Fin 2048) (j : Fin 1024) (hi : i.val = 1024 + (x 1).val) (hj : j.val = (x 2).val) :
    k0_pay11 (F := Ideal) a b x = k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨1024 + p.val, lt_of_lt_of_le (Nat.add_lt_add_left p.isLt _) (by decide)⟩ := Fin.ext hi
  pointwise [k0_pay11, k0_pay10]

theorem add_2 (a : Vec Ideal S1024x2048 .bf16) (b : Vec Ideal S1024x1024 .bf16) (o : Vec Ideal S1x512x1024 .f32) (x : S1x512x1024.Idx) (i : Fin 2048) (j : Fin 1024) (hi : i.val = 1024 + (x 1).val) (hj : j.val = (x 2).val) :
    k0_pay12 (F := Ideal) a b o x = o x + k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨1024 + p.val, lt_of_lt_of_le (Nat.add_lt_add_left p.isLt _) (by decide)⟩ := Fin.ext hi
  pointwise [k0_pay12, k0_pay10]

theorem new_3 (a : Vec Ideal S1024x2048 .bf16) (b : Vec Ideal S1024x1024 .bf16) (x : S1x512x1024.Idx) (i : Fin 2048) (j : Fin 1024) (hi : i.val = 1536 + (x 1).val) (hj : j.val = (x 2).val) :
    k0_pay1 (F := Ideal) (k0_pay13 (F := Ideal) a b) x = k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨1536 + p.val, lt_of_lt_of_le (Nat.add_lt_add_left p.isLt _) (by decide)⟩ := Fin.ext hi
  pointwise [k0_pay1, k0_pay13]

theorem add_3 (a : Vec Ideal S1024x2048 .bf16) (b : Vec Ideal S1024x1024 .bf16) (o : Vec Ideal S1x512x1024 .f32) (x : S1x512x1024.Idx) (i : Fin 2048) (j : Fin 1024) (hi : i.val = 1536 + (x 1).val) (hj : j.val = (x 2).val) :
    k0_pay2 (F := Ideal) (k0_pay13 (F := Ideal) a b) o x = o x + k0_pay3 (F := Ideal) a b (ix2 i j) := by
  obtain ⟨z, p, r, rfl⟩ : ∃ (z : Fin 1) (p : Fin 512) (r : Fin 1024), x = ix3 z p r := ⟨_, _, _, eq_ix3 x⟩
  obtain rfl : z = 0 := Subsingleton.elim _ _
  obtain rfl : j = r := Fin.ext hj
  obtain rfl : i = ⟨1536 + p.val, lt_of_lt_of_le (Nat.add_lt_add_left p.isLt _) (by decide)⟩ := Fin.ext hi
  pointwise [k0_pay2, k0_pay13]

/-! ## What the output window holds after a point -/

variable (m : (ℓ : Loc nD τ sig) → Buf (Elt Ideal) ℓ) (c : Dev nD)

theorem lt_N (t : Fin cfg0.N) : t.val < 8 := by
  have h := t.isLt
  have hN : cfg0.N = 8 := N_0
  omega

/-- The point's own part of slot `d`, row `i`, column `j`: the product of its two blocks. -/
def part (t : Fin cfg0.N) (d : Fin 4) (i : Fin 512) (j : Fin 1024) : EReal :=
  k0_pay3 (F := Ideal) (iblk m c 0 t) (iblk m c 1 t) (ix2 ⟨d.val * 512 + i.val, by have := d.isLt; have := i.isLt; omega⟩ j)

theorem outs_first (t : Fin cfg0.N) (h : t.val % 4 = 0) (d : Fin 4) (i : Fin 512) (j : Fin 1024) :
    outsAt0 m c t.val t.isLt (ix3 d i j) = part m c t d i j := by
  have h1 : ¬1 ≤ t.val % 4 := by omega
  unfold part
  rw [outsAt0_A m c t h h1 h h1 h h1 h h1]
  frame_out
  canon_tiles x hx
  case piece0 =>
    have e0 : d.val = _ := hx0
    have e1 : i.val = _ := hx1
    have e2 : j.val = _ := hx2
    exact new_3 _ _ x _ _ (by show d.val * 512 + i.val = _; omega) (by omega)
  case piece1 =>
    have e0 : d.val = _ := hx0
    have e1 : i.val = _ := hx1
    have e2 : j.val = _ := hx2
    exact new_2 _ _ x _ _ (by show d.val * 512 + i.val = _; omega) (by omega)
  case piece2 =>
    have e0 : d.val = _ := hx0
    have e1 : i.val = _ := hx1
    have e2 : j.val = _ := hx2
    exact new_1 _ _ x _ _ (by show d.val * 512 + i.val = _; omega) (by omega)
  case piece3 =>
    have e0 : d.val = _ := hx0
    have e1 : i.val = _ := hx1
    have e2 : j.val = _ := hx2
    exact new_0 _ _ x _ _ (by show d.val * 512 + i.val = _; omega) (by omega)

theorem outs_later (t : Fin cfg0.N) (h : ¬t.val % 4 = 0) (d : Fin 4) (i : Fin 512) (j : Fin 1024) :
    outsAt0 m c t.val t.isLt (ix3 d i j)
      = outsAt0 m c (t.val - 1) (Nat.lt_of_le_of_lt (Nat.sub_le _ _) t.isLt) (ix3 d i j) + part m c t d i j := by
  have h1 : 1 ≤ t.val % 4 := by omega
  unfold part
  rw [outsAt0_B m c t h h1 h h1 h h1 h h1]
  frame_out
  canon_tiles x hx
  case piece0 =>
    have e0 : d.val = _ := hx0
    have e1 : i.val = _ := hx1
    have e2 : j.val = _ := hx2
    refine (add_3 _ _ _ x _ _ (by show d.val * 512 + i.val = _; omega) (by omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece1 =>
    have e0 : d.val = _ := hx0
    have e1 : i.val = _ := hx1
    have e2 : j.val = _ := hx2
    refine (add_2 _ _ _ x _ _ (by show d.val * 512 + i.val = _; omega) (by omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece2 =>
    have e0 : d.val = _ := hx0
    have e1 : i.val = _ := hx1
    have e2 : j.val = _ := hx2
    refine (add_1 _ _ _ x _ _ (by show d.val * 512 + i.val = _; omega) (by omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece3 =>
    have e0 : d.val = _ := hx0
    have e1 : i.val = _ := hx1
    have e2 : j.val = _ := hx2
    refine (add_0 _ _ _ x _ _ (by show d.val * 512 + i.val = _; omega) (by omega)).trans (congrArg (· + _) (View.ld_unit_apply_of _ _ _ _ x (ix3 d i j) (fun a => ?_)))
    match a with
    | ⟨0, _⟩ => exact e0.trans (Nat.zero_add _).symm
    | ⟨1, _⟩ => exact e1.trans (Nat.zero_add _).symm
    | ⟨2, _⟩ => exact e2.trans (Nat.zero_add _).symm

/-! ## The matrices the call reads, and its blocks as parts of them -/

abbrev a : Layer.Mat 4096 4096 := fun r k => V m c main_arg0 (ix2 r k)
abbrev b : Layer.Mat 4096 1024 := fun r k => V m c main_arg1 (ix2 r k)
/-- The product the call computes. -/
abbrev prod : Layer.Mat 4096 1024 := Layer.tn (Layer.sq (a m c)) (b m c)

/-- Row `p` of the point's block of rows. -/
abbrev row (t : Fin cfg0.N) (p : Fin 1024) : Fin 4096 :=
  ⟨(t.val % 4) * 1024 + p.val, by have := lt_N t; have := p.isLt; omega⟩
/-- Column `k` of the half the point's output block belongs to. -/
abbrev col (t : Fin cfg0.N) (k : Fin 2048) : Fin 4096 :=
  ⟨(t.val / 4) * 2048 + k.val, by have := lt_N t; have := k.isLt; omega⟩

theorem idx_0 (t : Fin cfg0.N) : win0_0.index t 0 = t.val % 4 ∧ win0_0.index t 1 = t.val / 4 :=
  (by decide +kernel : ∀ t : Fin grid0.N, win0_0.index t 0 = t.val % 4 ∧ win0_0.index t 1 = t.val / 4) t

theorem blk_0 (t : Fin cfg0.N) (p : Fin 1024) (k : Fin 2048) : iblk m c 0 t (ix2 p k) = a m c (row t p) (col t k) := by
  have hi := idx_0 t
  unfold iblk
  rw [View.read_apply]
  show V m c main_arg0 _ = V m c main_arg0 _
  congr 1; funext x; apply Fin.ext
  match x with
  | ⟨0, _⟩ => show win0_0.index t 0 * 1024 + 1 * p.val = (t.val % 4) * 1024 + p.val; rw [hi.1]; omega
  | ⟨1, _⟩ => show win0_0.index t 1 * 2048 + 1 * k.val = (t.val / 4) * 2048 + k.val; rw [hi.2]; omega

theorem idx_1 (t : Fin cfg0.N) : win0_1.index t 0 = t.val % 4 ∧ win0_1.index t 1 = 0 :=
  (by decide +kernel : ∀ t : Fin grid0.N, win0_1.index t 0 = t.val % 4 ∧ win0_1.index t 1 = 0) t

theorem blk_1 (t : Fin cfg0.N) (p : Fin 1024) (k : Fin 1024) : iblk m c 1 t (ix2 p k) = b m c (row t p) k := by
  have hi := idx_1 t
  unfold iblk
  rw [View.read_apply]
  show V m c main_arg1 _ = V m c main_arg1 _
  congr 1; funext x; apply Fin.ext
  match x with
  | ⟨0, _⟩ => show win0_1.index t 0 * 1024 + 1 * p.val = (t.val % 4) * 1024 + p.val; rw [hi.1]; omega
  | ⟨1, _⟩ => show win0_1.index t 1 * 1024 + 1 * k.val = k.val; rw [hi.2]; omega

/-! ## The array left -/

theorem part_eq (t : Fin cfg0.N) (d : Fin 4) (i : Fin 512) (j : Fin 1024) :
    part m c t d i j = ∑ p : Fin 1024, (Layer.sq (a m c)) (row t p) (col t ⟨d.val * 512 + i.val, by have := d.isLt; have := i.isLt; omega⟩) * b m c (row t p) j := by
  unfold part
  rw [prod_apply]
  simp only [blk_0, blk_1]
  try rfl

/-- After the last of the four points of a half, the output block holds the product over all rows. -/
theorem sum_2 (t : Fin cfg0.N) (ht : t.val % 4 = 3) (d : Fin 4) (i : Fin 512) (j : Fin 1024) :
    outsAt0 m c t.val t.isLt (ix3 d i j) = prod m c (col t ⟨d.val * 512 + i.val, by have := d.isLt; have := i.isLt; omega⟩) j := by
  have hN : cfg0.N = 8 := N_0
  have hl := lt_N t
  have key := Layer.run_sum 4 (fun s h => outsAt0 m c s h (ix3 d i j)) (fun s => part m c s d i j)
    (fun s h => by
      by_cases hp : s % 4 = 0
      · rw [if_pos hp]; exact outs_first m c ⟨s, h⟩ hp d i j
      · rw [if_neg hp]; exact outs_later m c ⟨s, h⟩ hp d i j)
    (t.val - 3) (by omega) 3 (by omega) (by omega)
  have e : ∀ s h, s = t.val → outsAt0 m c s h (ix3 d i j) = outsAt0 m c t.val t.isLt (ix3 d i j) := fun s h hs => by
    subst hs; rfl
  rw [← e (t.val - 3 + 3) (by omega) (by omega)]
  refine key.trans ?_
  refine Eq.trans ?_ (Layer.sum_blocks 4 1024 4096 rfl fun r => (Layer.sq (a m c)) r (col t ⟨d.val * 512 + i.val, by have := d.isLt; have := i.isLt; omega⟩) * b m c r j)
  refine Finset.sum_congr rfl fun q _ => ?_
  have hq := q.isLt
  rw [part_eq]
  refine Finset.sum_congr rfl fun p _ => ?_
  have hr : row ⟨t.val - 3 + q.val, by omega⟩ p = ⟨q.val * 1024 + p.val, by have := p.isLt; omega⟩ :=
    Fin.ext (by show ((t.val - 3 + q.val) % 4) * 1024 + p.val = q.val * 1024 + p.val; omega)
  have hc : ∀ k, col ⟨t.val - 3 + q.val, by omega⟩ k = col t k := fun k =>
    Fin.ext (by show ((t.val - 3 + q.val) / 4) * 2048 + k.val = (t.val / 4) * 2048 + k.val; omega)
  rw [hr, hc]

/-- Row and column of the whole product at element `(e, i, j)` of the stack of slices. -/
abbrev at_ (M : Layer.Mat 4096 1024) (i : Shape.Idx S8x512x1024) : EReal :=
  M ⟨(i 0).val * 512 + (i 1).val, by
    have h0 : (i 0).val < 8 := (i 0).isLt
    have h1 : (i 1).val < 512 := (i 1).isLt
    omega⟩ (i 2)

theorem idx_2 (t : Fin cfg0.N) : win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0) t

theorem final_2 : (dats m 0 c).arrAt 2 cfg0.N = fun i => at_ (prod m c) i := by
  have hN : cfg0.N = 8 := N_0
  refine (dats m 0 c).arrAt_eq_of_cover 2 _ (fun t ht => ?_) (fun i => ?_)
  · have hi := idx_2 t
    have ht' : t.val % 4 = 3 := (flush0_2 t).mp ht
    rw [Value.flushed2]
    funext y
    rw [View.read_apply]
    refine (congrArg (outsAt0 m c t.val t.isLt) (eq_ix3 (show Shape.Idx S4x512x1024 from y))).trans
      ((sum_2 m c t ht' (y 0) (y 1) (y 2)).trans ?_)
    exact congrArg₂ (prod m c)
      (Fin.ext (by show (t.val / 4) * 2048 + ((y 0).val * 512 + (y 1).val) = (win0_2.index t 0 * 4 + 1 * (y 0).val) * 512 + (win0_2.index t 1 * 512 + 1 * (y 1).val); rw [hi.1, hi.2.1]; omega))
      (Fin.ext (by show (y 2).val = win0_2.index t 2 * 1024 + 1 * (y 2).val; rw [hi.2.2]; omega))
  · have h0 : (i 0).val < 8 := (i 0).isLt
    have h1 : (i 1).val < 512 := (i 1).isLt
    have h2 : (i 2).val < 1024 := (i 2).isLt
    let t : Fin cfg0.N := ⟨4 * ((i 0).val / 4) + 3, by omega⟩
    have hi := idx_2 t
    have hv : t.val = 4 * ((i 0).val / 4) + 3 := rfl
    refine ⟨t, (flush0_2 t).mpr (by omega), ?_⟩
    show i ∈ ((View.whole main_v0).slice (win0_2.rect t)).set
    rw [View.set_slice_whole, Rect.mem_set_unit]
    intro x
    match x with
    | ⟨0, _⟩ => show win0_2.index t 0 * 4 ≤ (i 0).val ∧ (i 0).val < win0_2.index t 0 * 4 + 4; rw [hi.1]; omega
    | ⟨1, _⟩ => show win0_2.index t 1 * 512 ≤ (i 1).val ∧ (i 1).val < win0_2.index t 1 * 512 + 512; rw [hi.2.1]; omega
    | ⟨2, _⟩ => show win0_2.index t 2 * 1024 ≤ (i 2).val ∧ (i 2).val < win0_2.index t 2 * 1024 + 1024; rw [hi.2.2]; omega

end Cert.Kernel4Ideal.Final

end
-- ==== Proof.GradW2Ref.lean ====
/-
  The reference of the weight gradient call `gw2`, over the extended reals: its gradient, as the host computes it, is
  the product of the transposed activations and the cotangent, cut into the eight devices' slices.
-/
module

public import proofs.«01_k».proof.Proof.Layer
public import proofs.«01_k».proof.Proof.Gen.Reference4Ideal.Read
public import Idealize.ShloMosaic.Lib.Pointwise

@[expose] public section

set_option maxRecDepth 16384

noncomputable section

namespace Cert.Reference4Ideal.Grad

open Cert.Reference4Ideal Cert.Reference4Ideal.Read Idealize.ShloMosaic

variable (x0 : FVec Ideal S4096x4096 .bf16) (x1 : FVec Ideal S4096x1024 .bf16)

abbrev U : Layer.Mat 4096 4096 := fun r k => x0 (ix2 r k)
abbrev Z : Layer.Mat 4096 1024 := fun r k => x1 (ix2 r k)

theorem grad_at (i : Fin 4096) (j : Fin 1024) :
    val_main_v7 (F := Ideal) x0 x1 (ix2 i j) = Layer.tn (Layer.sq (U x0)) (Z x1) i j := by
  pointwise [val_main_v7, val_main_v6, val_main_v5, val_main_v2, val_main_v1, val_main_v0, val_main_call0_v0, val_main_call0_cst]
  exact Finset.sum_congr rfl fun r _ => mul_comm _ _

theorem grad_eq : val_main_v8 (F := Ideal) x0 x1 = fun i => Layer.tn (Layer.sq (U x0)) (Z x1) ⟨(i 0).val * 512 + (i 1).val, by
      have h0 : (i 0).val < 8 := (i 0).isLt
      have h1 : (i 1).val < 512 := (i 1).isLt
      omega⟩ (i 2) := by
  funext i
  idx_vars i
  pointwise [val_main_v8]
  exact grad_at ..

end Cert.Reference4Ideal.Grad

end
-- ==== Proof.GradW2Claims.lean ====
/-
  The claims about the weight gradient call `gw2`: the reference's run, and the equality of the call's array with the
  reference's gradient over the extended reals.
-/
module

public import proofs.«01_k».proof.Defs
public import proofs.«01_k».proof.Proof.GradW2Value
public import proofs.«01_k».proof.Proof.GradW2Ref
public import proofs.«01_k».proof.Proof.Gen.Kernel4.Frame
public import proofs.«01_k».proof.Proof.Gen.Reference4Ideal.Run
public import proofs.«01_k».proof.Proof.Gen.Reference4Ideal.Read
public import Idealize.ShloMosaic.Adequacy
public import Idealize.ShloMosaic.Lib.Quiescent

@[expose] public section

set_option maxRecDepth 16384

noncomputable section

namespace Cert.GradW2

open Idealize.ShloMosaic Idealize.ShloMosaic.TcCoe Idealize.SL.Sem

theorem mat_2 (m : (ℓ : Loc Kernel4Ideal.nD Kernel4Ideal.τ Kernel4Ideal.sig) → Buf (Elt Ideal) ℓ) (c : Dev Kernel4Ideal.nD) :
    Layer.tn (Layer.sq (Reference4Ideal.Grad.U (m ((c.tc : Thread Kernel4Ideal.nD Kernel4Ideal.τ).loc Kernel4Ideal.main_arg0)))) (Reference4Ideal.Grad.Z (m ((c.tc : Thread Kernel4Ideal.nD Kernel4Ideal.τ).loc Kernel4Ideal.main_arg1))) = Kernel4Ideal.Final.prod m c := by
  simp only [Kernel4Ideal.Gen.V_main_arg0, Kernel4Ideal.Gen.V_main_arg1, Kernel4Ideal.Final.a, Kernel4Ideal.Final.b, Kernel4Ideal.Final.prod]
  try rfl

theorem out_2 (m : (ℓ : Loc Kernel4Ideal.nD Kernel4Ideal.τ Kernel4Ideal.sig) → Buf (Elt Ideal) ℓ) (c : Dev Kernel4Ideal.nD)
    {x0 x1} (h0 : x0 = m ((c.tc : Thread Kernel4Ideal.nD Kernel4Ideal.τ).loc Kernel4Ideal.main_arg0)) (h1 : x1 = m ((c.tc : Thread Kernel4Ideal.nD Kernel4Ideal.τ).loc Kernel4Ideal.main_arg1)) :
    Reference4Ideal.Read.val_main_v8 (F := Ideal) x0 x1 = (Kernel4Ideal.Gen.dats m 0 c).arrAt 2 Kernel4Ideal.cfg0.N := by
  subst h0 h1
  refine (Reference4Ideal.Grad.grad_eq _ _).trans (Eq.trans ?_ (Kernel4Ideal.Final.final_2 m c).symm)
  exact congrArg (fun M (i : Shape.Idx Kernel4Ideal.S8x512x1024) => M ⟨(i 0).val * 512 + (i 1).val, by have h0 : (i 0).val < 8 := (i 0).isLt; have h1 : (i 1).val < 512 := (i 1).isLt; omega⟩ (i 2)) (mat_2 m c)

/-- The reference runs and leaves its arguments alone. -/
theorem frame_reference : Cert.quiescent_Reference4Ideal := fun m g _ =>
  (θ_run Reference4Ideal.defs _ _).mono (fun r h => ⟨fun c => (h c).2, sem_eq_zero_of_no_sems (by decide) r.2⟩)
    (Reference4Ideal.Value.run m g)

/-- The call's arrays and the reference's are equal, element by element, over the extended reals. -/
theorem algebraic : Cert.algebraic_Kernel4Ideal_Reference4Ideal := by
  intro m g m' g' _ hargs
  refine ⟨fun c => (Kernel4Ideal.Gen.dats m 0 c).arrAt 2 Kernel4Ideal.cfg0.N,
    Kernel4Ideal.Value.run_blocks m g,
    (θ_run Reference4Ideal.defs _ _).mono (fun r h c => ?_) (Reference4Ideal.Value.run m' g')⟩
  obtain ⟨a0, a1⟩ := hargs c
  have hc := h c
  exact ⟨hc.1.trans ((Reference4Ideal.Read.val_main_v8_eq _ _).trans (out_2 m c a0 a1)),
    hc.2⟩

end Cert.GradW2

end
-- ==== Proof.GradW1Value.lean ====
/-
  The array that the weight gradient call `gw1` leaves, over the extended reals: the product of the transposed activations
  and the cotangent, summed over four blocks of rows, cut into the eight devices' slices.
-/
module

public import proofs.«01_k».proof.Proof.Layer
public import proofs.«01_k».proof.Proof.Gen.Kernel5Ideal.Frame
public import proofs.«01_k».proof.Proof.Gen.Kernel5Ideal.Value
public import Idealize.ShloMosaic.Lib.Pipeline.Value
public import Idealize.ShloMosaic.Lib.Pipeline.ValueKit.Acc
public import Idealize.ShloMosaic.Lib.Pipeline.ValueKit.Tiles
public import Idealize.ShloMosaic.Lib.Pointwise
public import Idealize.ShloMosaic.Lib.Tactic

@[expose] public section

set_option maxRecDepth 16384

noncomputable section

namespace Cert.Kernel5Ideal.Final

open Cert.Kernel5Ideal Cert.Kernel5Ideal.Gen
open Idealize.ShloMosaic Idealize.ShloMosaic.TcCoe Idealize.SL.Sem

/-! ## The payloads at an index -/

/-- The product of two blocks. -/
theorem prod_apply (a : Vec Ideal S1024x1024 .bf16) (b : Vec Ideal S1024x2048 .bf16) (i : Fin 1024) (j : Fin 2048) :
    k0_pay2 (F := Ideal) a b (ix2 i j) = ∑ p : Fin 1024, a (ix2 p i) * b (ix2 p j) := by
  pointwise [k0_pay2]

theorem new_0 (a : Vec Ideal S1024x1024 .bf16) (b : Vec Ideal S1024x2048 .bf16) (x : S1x1024x512.Idx) (i : Fin 1024) (j : Fin 2048) (hi : i.val = (x 1).val) (hj : j.val = (x 2).val) :
    k0_pay4 (F := Ideal) a b x = k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨r.val, lt_of_lt_of_le r.isLt (by decide)⟩ := Fin.ext hj
  pointwise [k0_pay4, k0_pay3]

theorem add_0 (a : Vec Ideal S1024x1024 .bf16) (b : Vec Ideal S1024x2048 .bf16) (o : Vec Ideal S1x1024x512 .f32) (x : S1x1024x512.Idx) (i : Fin 1024) (j : Fin 2048) (hi : i.val = (x 1).val) (hj : j.val = (x 2).val) :
    k0_pay5 (F := Ideal) a b o x = o x + k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨r.val, lt_of_lt_of_le r.isLt (by decide)⟩ := Fin.ext hj
  pointwise [k0_pay5, k0_pay3]

theorem new_1 (a : Vec Ideal S1024x1024 .bf16) (b : Vec Ideal S1024x2048 .bf16) (x : S1x1024x512.Idx) (i : Fin 1024) (j : Fin 2048) (hi : i.val = (x 1).val) (hj : j.val = 512 + (x 2).val) :
    k0_pay7 (F := Ideal) a b x = k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨512 + r.val, lt_of_lt_of_le (Nat.add_lt_add_left r.isLt _) (by decide)⟩ := Fin.ext hj
  pointwise [k0_pay7, k0_pay6]

theorem add_1 (a : Vec Ideal S1024x1024 .bf16) (b : Vec Ideal S1024x2048 .bf16) (o : Vec Ideal S1x1024x512 .f32) (x : S1x1024x512.Idx) (i : Fin 1024) (j : Fin 2048) (hi : i.val = (x 1).val) (hj : j.val = 512 + (x 2).val) :
    k0_pay8 (F := Ideal) a b o x = o x + k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨512 + r.val, lt_of_lt_of_le (Nat.add_lt_add_left r.isLt _) (by decide)⟩ := Fin.ext hj
  pointwise [k0_pay8, k0_pay6]

theorem new_2 (a : Vec Ideal S1024x1024 .bf16) (b : Vec Ideal S1024x2048 .bf16) (x : S1x1024x512.Idx) (i : Fin 1024) (j : Fin 2048) (hi : i.val = (x 1).val) (hj : j.val = 1024 + (x 2).val) :
    k0_pay10 (F := Ideal) a b x = k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨1024 + r.val, lt_of_lt_of_le (Nat.add_lt_add_left r.isLt _) (by decide)⟩ := Fin.ext hj
  pointwise [k0_pay10, k0_pay9]

theorem add_2 (a : Vec Ideal S1024x1024 .bf16) (b : Vec Ideal S1024x2048 .bf16) (o : Vec Ideal S1x1024x512 .f32) (x : S1x1024x512.Idx) (i : Fin 1024) (j : Fin 2048) (hi : i.val = (x 1).val) (hj : j.val = 1024 + (x 2).val) :
    k0_pay11 (F := Ideal) a b o x = o x + k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨1024 + r.val, lt_of_lt_of_le (Nat.add_lt_add_left r.isLt _) (by decide)⟩ := Fin.ext hj
  pointwise [k0_pay11, k0_pay9]

theorem new_3 (a : Vec Ideal S1024x1024 .bf16) (b : Vec Ideal S1024x2048 .bf16) (x : S1x1024x512.Idx) (i : Fin 1024) (j : Fin 2048) (hi : i.val = (x 1).val) (hj : j.val = 1536 + (x 2).val) :
    k0_pay13 (F := Ideal) a b x = k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨1536 + r.val, lt_of_lt_of_le (Nat.add_lt_add_left r.isLt _) (by decide)⟩ := Fin.ext hj
  pointwise [k0_pay13, k0_pay12]

theorem add_3 (a : Vec Ideal S1024x1024 .bf16) (b : Vec Ideal S1024x2048 .bf16) (o : Vec Ideal S1x1024x512 .f32) (x : S1x1024x512.Idx) (i : Fin 1024) (j : Fin 2048) (hi : i.val = (x 1).val) (hj : j.val = 1536 + (x 2).val) :
    k0_pay1 (F := Ideal) (k0_pay12 (F := Ideal) a b) o x = o x + k0_pay2 (F := Ideal) a b (ix2 i j) := by
  obtain ⟨z, p, r, rfl⟩ : ∃ (z : Fin 1) (p : Fin 1024) (r : Fin 512), x = ix3 z p r := ⟨_, _, _, eq_ix3 x⟩
  obtain rfl : z = 0 := Subsingleton.elim _ _
  obtain rfl : i = p := Fin.ext hi
  obtain rfl : j = ⟨1536 + r.val, lt_of_lt_of_le (Nat.add_lt_add_left r.isLt _) (by decide)⟩ := Fin.ext hj
  pointwise [k0_pay1, k0_pay12]

/-! ## What the output window holds after a point -/

variable (m : (ℓ : Loc nD τ sig) → Buf (Elt Ideal) ℓ) (c : Dev nD)

theorem lt_N (t : Fin cfg0.N) : t.val < 8 := by
  have h := t.isLt
  have hN : cfg0.N = 8 := N_0
  omega

/-- The point's own part of slot `d`, row `i`, column `j`: the product of its two blocks. -/
def part (t : Fin cfg0.N) (d : Fin 4) (i : Fin 1024) (j : Fin 512) : EReal :=
  k0_pay2 (F := Ideal) (iblk m c 0 t) (iblk m c 1 t) (ix2 i ⟨d.val * 512 + j.val, by have := d.isLt; have := j.isLt; omega⟩)

theorem outs_first (t : Fin cfg0.N) (h : t.val % 4 = 0) (d : Fin 4) (i : Fin 1024) (j : Fin 512) :
    outsAt0 m c t.val t.isLt (ix3 d i j) = part m c t d i j := by
  have h1 : ¬1 ≤ t.val % 4 := by omega
  unfold part
  rw [outsAt0_A m c t h h1 h h1 h h1 h h1]
  frame_out
  canon_tiles x hx
  case piece0 =>
    have e0 : d.val = _ := hx0
    have e1 : i.val = _ := hx1
    have e2 : j.val = _ := hx2
    exact new_3 _ _ x _ _ (by omega) (by show d.val * 512 + j.val = _; omega)
  case piece1 =>
    have e0 : d.val = _ := hx0
    have e1 : i.val = _ := hx1
    have e2 : j.val = _ := hx2
    exact new_2 _ _ x _ _ (by omega) (by show d.val * 512 + j.val = _; omega)
  case piece2 =>
    have e0 : d.val = _ := hx0
    have e1 : i.val = _ := hx1
    have e2 : j.val = _ := hx2
    exact new_1 _ _ x _ _ (by omega) (by show d.val * 512 + j.val = _; omega)
  case piece3 =>
    have e0 : d.val = _ := hx0
    have e1 : i.val = _ := hx1
    have e2 : j.val = _ := hx2
    exact new_0 _ _ x _ _ (by omega) (by show d.val * 512 + j.val = _; omega)

theorem outs_later (t : Fin cfg0.N) (h : ¬t.val % 4 = 0) (d : Fin 4) (i : Fin 1024) (j : Fin 512) :
    outsAt0 m c t.val t.isLt (ix3 d i j)
      = outsAt0 m c (t.val - 1) (Nat.lt_of_le_of_lt (Nat.sub_le _ _) t.isLt) (ix3 d i j) + part m c t d i j := by
  have h1 : 1 ≤ t.val % 4 := by omega
  unfold part
  rw [outsAt0_B m c t h h1 h h1 h h1 h h1]
  frame_out
  canon_tiles x hx
  case piece0 =>
    have e0 : d.val = _ := hx0
    have e1 : i.val = _ := hx1
    have e2 : j.val = _ := hx2
    refine (add_3 _ _ _ x _ _ (by omega) (by show d.val * 512 + j.val = _; omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece1 =>
    have e0 : d.val = _ := hx0
    have e1 : i.val = _ := hx1
    have e2 : j.val = _ := hx2
    refine (add_2 _ _ _ x _ _ (by omega) (by show d.val * 512 + j.val = _; omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece2 =>
    have e0 : d.val = _ := hx0
    have e1 : i.val = _ := hx1
    have e2 : j.val = _ := hx2
    refine (add_1 _ _ _ x _ _ (by omega) (by show d.val * 512 + j.val = _; omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece3 =>
    have e0 : d.val = _ := hx0
    have e1 : i.val = _ := hx1
    have e2 : j.val = _ := hx2
    refine (add_0 _ _ _ x _ _ (by omega) (by show d.val * 512 + j.val = _; omega)).trans (congrArg (· + _) (View.ld_unit_apply_of _ _ _ _ x (ix3 d i j) (fun a => ?_)))
    match a with
    | ⟨0, _⟩ => exact e0.trans (Nat.zero_add _).symm
    | ⟨1, _⟩ => exact e1.trans (Nat.zero_add _).symm
    | ⟨2, _⟩ => exact e2.trans (Nat.zero_add _).symm

/-! ## The matrices the call reads, and its blocks as parts of them -/

abbrev a : Layer.Mat 4096 1024 := fun r k => V m c main_v18 (ix2 r k)
abbrev b : Layer.Mat 4096 4096 := fun r k => V m c main_arg4 (ix2 r k)
/-- The product the call computes. -/
abbrev prod : Layer.Mat 1024 4096 := Layer.tn (a m c) (b m c)

/-- Row `p` of the point's block of rows. -/
abbrev row (t : Fin cfg0.N) (p : Fin 1024) : Fin 4096 :=
  ⟨(t.val % 4) * 1024 + p.val, by have := lt_N t; have := p.isLt; omega⟩
/-- Column `k` of the half the point's output block belongs to. -/
abbrev col (t : Fin cfg0.N) (k : Fin 2048) : Fin 4096 :=
  ⟨(t.val / 4) * 2048 + k.val, by have := lt_N t; have := k.isLt; omega⟩

theorem idx_0 (t : Fin cfg0.N) : win0_0.index t 0 = t.val % 4 ∧ win0_0.index t 1 = 0 :=
  (by decide +kernel : ∀ t : Fin grid0.N, win0_0.index t 0 = t.val % 4 ∧ win0_0.index t 1 = 0) t

theorem blk_0 (t : Fin cfg0.N) (p : Fin 1024) (k : Fin 1024) : iblk m c 0 t (ix2 p k) = a m c (row t p) k := by
  have hi := idx_0 t
  unfold iblk
  rw [View.read_apply]
  show V m c main_v18 _ = V m c main_v18 _
  congr 1; funext x; apply Fin.ext
  match x with
  | ⟨0, _⟩ => show win0_0.index t 0 * 1024 + 1 * p.val = (t.val % 4) * 1024 + p.val; rw [hi.1]; omega
  | ⟨1, _⟩ => show win0_0.index t 1 * 1024 + 1 * k.val = k.val; rw [hi.2]; omega

theorem idx_1 (t : Fin cfg0.N) : win0_1.index t 0 = t.val % 4 ∧ win0_1.index t 1 = t.val / 4 :=
  (by decide +kernel : ∀ t : Fin grid0.N, win0_1.index t 0 = t.val % 4 ∧ win0_1.index t 1 = t.val / 4) t

theorem blk_1 (t : Fin cfg0.N) (p : Fin 1024) (k : Fin 2048) : iblk m c 1 t (ix2 p k) = b m c (row t p) (col t k) := by
  have hi := idx_1 t
  unfold iblk
  rw [View.read_apply]
  show V m c main_arg4 _ = V m c main_arg4 _
  congr 1; funext x; apply Fin.ext
  match x with
  | ⟨0, _⟩ => show win0_1.index t 0 * 1024 + 1 * p.val = (t.val % 4) * 1024 + p.val; rw [hi.1]; omega
  | ⟨1, _⟩ => show win0_1.index t 1 * 2048 + 1 * k.val = (t.val / 4) * 2048 + k.val; rw [hi.2]; omega

/-! ## The array left -/

theorem part_eq (t : Fin cfg0.N) (d : Fin 4) (i : Fin 1024) (j : Fin 512) :
    part m c t d i j = ∑ p : Fin 1024, (a m c) (row t p) i * b m c (row t p) (col t ⟨d.val * 512 + j.val, by have := d.isLt; have := j.isLt; omega⟩) := by
  unfold part
  rw [prod_apply]
  simp only [blk_0, blk_1]
  try rfl

/-- After the last of the four points of a half, the output block holds the product over all rows. -/
theorem sum_2 (t : Fin cfg0.N) (ht : t.val % 4 = 3) (d : Fin 4) (i : Fin 1024) (j : Fin 512) :
    outsAt0 m c t.val t.isLt (ix3 d i j) = prod m c i (col t ⟨d.val * 512 + j.val, by have := d.isLt; have := j.isLt; omega⟩) := by
  have hN : cfg0.N = 8 := N_0
  have hl := lt_N t
  have key := Layer.run_sum 4 (fun s h => outsAt0 m c s h (ix3 d i j)) (fun s => part m c s d i j)
    (fun s h => by
      by_cases hp : s % 4 = 0
      · rw [if_pos hp]; exact outs_first m c ⟨s, h⟩ hp d i j
      · rw [if_neg hp]; exact outs_later m c ⟨s, h⟩ hp d i j)
    (t.val - 3) (by omega) 3 (by omega) (by omega)
  have e : ∀ s h, s = t.val → outsAt0 m c s h (ix3 d i j) = outsAt0 m c t.val t.isLt (ix3 d i j) := fun s h hs => by
    subst hs; rfl
  rw [← e (t.val - 3 + 3) (by omega) (by omega)]
  refine key.trans ?_
  refine Eq.trans ?_ (Layer.sum_blocks 4 1024 4096 rfl fun r => (a m c) r i * b m c r (col t ⟨d.val * 512 + j.val, by have := d.isLt; have := j.isLt; omega⟩))
  refine Finset.sum_congr rfl fun q _ => ?_
  have hq := q.isLt
  rw [part_eq]
  refine Finset.sum_congr rfl fun p _ => ?_
  have hr : row ⟨t.val - 3 + q.val, by omega⟩ p = ⟨q.val * 1024 + p.val, by have := p.isLt; omega⟩ :=
    Fin.ext (by show ((t.val - 3 + q.val) % 4) * 1024 + p.val = q.val * 1024 + p.val; omega)
  have hc : ∀ k, col ⟨t.val - 3 + q.val, by omega⟩ k = col t k := fun k =>
    Fin.ext (by show ((t.val - 3 + q.val) / 4) * 2048 + k.val = (t.val / 4) * 2048 + k.val; omega)
  rw [hr, hc]

/-- Row and column of the whole product at element `(e, i, j)` of the stack of slices. -/
abbrev at_ (M : Layer.Mat 1024 4096) (i : Shape.Idx S8x1024x512) : EReal :=
  M (i 1) ⟨(i 0).val * 512 + (i 2).val, by
    have h0 : (i 0).val < 8 := (i 0).isLt
    have h2 : (i 2).val < 512 := (i 2).isLt
    omega⟩

theorem idx_2 (t : Fin cfg0.N) : win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0) t

theorem final_2 : (dats m 0 c).arrAt 2 cfg0.N = fun i => at_ (prod m c) i := by
  have hN : cfg0.N = 8 := N_0
  refine (dats m 0 c).arrAt_eq_of_cover 2 _ (fun t ht => ?_) (fun i => ?_)
  · have hi := idx_2 t
    have ht' : t.val % 4 = 3 := (flush0_2 t).mp ht
    rw [Value.flushed2]
    funext y
    rw [View.read_apply]
    refine (congrArg (outsAt0 m c t.val t.isLt) (eq_ix3 (show Shape.Idx S4x1024x512 from y))).trans
      ((sum_2 m c t ht' (y 0) (y 1) (y 2)).trans ?_)
    exact congrArg₂ (prod m c)
      (Fin.ext (by show (y 1).val = win0_2.index t 1 * 1024 + 1 * (y 1).val; rw [hi.2.1]; omega))
      (Fin.ext (by show (t.val / 4) * 2048 + ((y 0).val * 512 + (y 2).val) = (win0_2.index t 0 * 4 + 1 * (y 0).val) * 512 + (win0_2.index t 2 * 512 + 1 * (y 2).val); rw [hi.1, hi.2.2]; omega))
  · have h0 : (i 0).val < 8 := (i 0).isLt
    have h1 : (i 1).val < 1024 := (i 1).isLt
    have h2 : (i 2).val < 512 := (i 2).isLt
    let t : Fin cfg0.N := ⟨4 * ((i 0).val / 4) + 3, by omega⟩
    have hi := idx_2 t
    have hv : t.val = 4 * ((i 0).val / 4) + 3 := rfl
    refine ⟨t, (flush0_2 t).mpr (by omega), ?_⟩
    show i ∈ ((View.whole main_v19).slice (win0_2.rect t)).set
    rw [View.set_slice_whole, Rect.mem_set_unit]
    intro x
    match x with
    | ⟨0, _⟩ => show win0_2.index t 0 * 4 ≤ (i 0).val ∧ (i 0).val < win0_2.index t 0 * 4 + 4; rw [hi.1]; omega
    | ⟨1, _⟩ => show win0_2.index t 1 * 1024 ≤ (i 1).val ∧ (i 1).val < win0_2.index t 1 * 1024 + 1024; rw [hi.2.1]; omega
    | ⟨2, _⟩ => show win0_2.index t 2 * 512 ≤ (i 2).val ∧ (i 2).val < win0_2.index t 2 * 512 + 512; rw [hi.2.2]; omega

end Cert.Kernel5Ideal.Final

end
-- ==== Proof.GradW1Ref.lean ====
/-
  The reference of the weight gradient call `gw1`, over the extended reals: its gradient, as the host computes it, is
  the product of the transposed activations and the cotangent, cut into the eight devices' slices.
-/
module

public import proofs.«01_k».proof.Proof.Layer
public import proofs.«01_k».proof.Proof.Gen.Reference5Ideal.Read
public import Idealize.ShloMosaic.Lib.Pointwise

@[expose] public section

set_option maxRecDepth 16384

noncomputable section

namespace Cert.Reference5Ideal.Grad

open Cert.Reference5Ideal Cert.Reference5Ideal.Read Idealize.ShloMosaic

variable (x0 : FVec Ideal S4096x1024 .f32) (x1 x2 x3 : FVec Ideal S1x1024 .f32) (x4 : FVec Ideal S4096x4096 .bf16)

/-- The modulated rows, the values the reference itself computes. -/
abbrev H : Layer.Mat 4096 1024 := fun r k => val_main_v17 (F := Ideal) x0 x1 x2 x3 (ix2 r k)
abbrev Z : Layer.Mat 4096 4096 := fun r k => x4 (ix2 r k)

theorem grad_at (i : Fin 1024) (j : Fin 4096) :
    val_main_v22 (F := Ideal) x0 x1 x2 x3 x4 (ix2 i j) = Layer.tn (H x0 x1 x2 x3) (Z x4) i j := by
  pointwise [val_main_v22, val_main_v21, val_main_v20]
  exact Finset.sum_congr rfl fun r _ => mul_comm _ _

theorem grad_eq : val_main_v24 (F := Ideal) x0 x1 x2 x3 x4 = fun i => Layer.tn (H x0 x1 x2 x3) (Z x4) (i 1) ⟨(i 0).val * 512 + (i 2).val, by
      have h0 : (i 0).val < 8 := (i 0).isLt
      have h2 : (i 2).val < 512 := (i 2).isLt
      omega⟩ := by
  funext i
  idx_vars i
  pointwise [val_main_v24, val_main_v23]
  exact grad_at ..

end Cert.Reference5Ideal.Grad

end
-- ==== Proof.GradW1Claims.lean ====
/-
  The claims about the weight gradient call `gw1`: the reference's run, and the equality of the call's array with the
  reference's gradient over the extended reals.
-/
module

public import proofs.«01_k».proof.Defs
public import proofs.«01_k».proof.Proof.GradW1Value
public import proofs.«01_k».proof.Proof.GradW1Ref
public import proofs.«01_k».proof.Proof.Gen.Kernel5.Frame
public import proofs.«01_k».proof.Proof.Gen.Reference5Ideal.Run
public import proofs.«01_k».proof.Proof.Gen.Reference5Ideal.Read
public import Idealize.ShloMosaic.Adequacy
public import Idealize.ShloMosaic.Lib.Quiescent

@[expose] public section

set_option maxRecDepth 16384

noncomputable section

namespace Cert.GradW1

open Idealize.ShloMosaic Idealize.ShloMosaic.TcCoe Idealize.SL.Sem

/-- The modulated rows the host leaves in `v18` before the region, as the reference's own value; the cast is no change over
    the extended reals. -/
theorem host_v18 (m : (ℓ : Loc Kernel5Ideal.nD Kernel5Ideal.τ Kernel5Ideal.sig) → Buf (Elt Ideal) ℓ) (c : Dev Kernel5Ideal.nD) :
    Kernel5Ideal.Gen.V m c Kernel5Ideal.main_v18 = (fun i => Reference5Ideal.Read.val_main_v17 (F := Ideal) (m ((c.tc : Thread Kernel5Ideal.nD Kernel5Ideal.τ).loc Kernel5Ideal.main_arg0)) (m ((c.tc : Thread Kernel5Ideal.nD Kernel5Ideal.τ).loc Kernel5Ideal.main_arg1)) (m ((c.tc : Thread Kernel5Ideal.nD Kernel5Ideal.τ).loc Kernel5Ideal.main_arg2)) (m ((c.tc : Thread Kernel5Ideal.nD Kernel5Ideal.τ).loc Kernel5Ideal.main_arg3)) i) := by
  show StableHlo.after Kernel5Ideal.Gen.hostOps0 (fun b => m (c, b)) (Proc.devRef .tc Kernel5Ideal.main_v18) = _
  after_results_simp <;> rfl

theorem mat_2 (m : (ℓ : Loc Kernel5Ideal.nD Kernel5Ideal.τ Kernel5Ideal.sig) → Buf (Elt Ideal) ℓ) (c : Dev Kernel5Ideal.nD) :
    Layer.tn (Reference5Ideal.Grad.H (m ((c.tc : Thread Kernel5Ideal.nD Kernel5Ideal.τ).loc Kernel5Ideal.main_arg0)) (m ((c.tc : Thread Kernel5Ideal.nD Kernel5Ideal.τ).loc Kernel5Ideal.main_arg1)) (m ((c.tc : Thread Kernel5Ideal.nD Kernel5Ideal.τ).loc Kernel5Ideal.main_arg2)) (m ((c.tc : Thread Kernel5Ideal.nD Kernel5Ideal.τ).loc Kernel5Ideal.main_arg3))) (Reference5Ideal.Grad.Z (m ((c.tc : Thread Kernel5Ideal.nD Kernel5Ideal.τ).loc Kernel5Ideal.main_arg4))) = Kernel5Ideal.Final.prod m c := by
  simp only [Kernel5Ideal.Gen.V_main_arg4, host_v18, Kernel5Ideal.Final.a, Kernel5Ideal.Final.b, Kernel5Ideal.Final.prod]
  try rfl

theorem out_2 (m : (ℓ : Loc Kernel5Ideal.nD Kernel5Ideal.τ Kernel5Ideal.sig) → Buf (Elt Ideal) ℓ) (c : Dev Kernel5Ideal.nD)
    {x0 x1 x2 x3 x4} (h0 : x0 = m ((c.tc : Thread Kernel5Ideal.nD Kernel5Ideal.τ).loc Kernel5Ideal.main_arg0)) (h1 : x1 = m ((c.tc : Thread Kernel5Ideal.nD Kernel5Ideal.τ).loc Kernel5Ideal.main_arg1)) (h2 : x2 = m ((c.tc : Thread Kernel5Ideal.nD Kernel5Ideal.τ).loc Kernel5Ideal.main_arg2)) (h3 : x3 = m ((c.tc : Thread Kernel5Ideal.nD Kernel5Ideal.τ).loc Kernel5Ideal.main_arg3)) (h4 : x4 = m ((c.tc : Thread Kernel5Ideal.nD Kernel5Ideal.τ).loc Kernel5Ideal.main_arg4)) :
    Reference5Ideal.Read.val_main_v24 (F := Ideal) x0 x1 x2 x3 x4 = (Kernel5Ideal.Gen.dats m 0 c).arrAt 2 Kernel5Ideal.cfg0.N := by
  subst h0 h1 h2 h3 h4
  refine (Reference5Ideal.Grad.grad_eq _ _ _ _ _).trans (Eq.trans ?_ (Kernel5Ideal.Final.final_2 m c).symm)
  exact congrArg (fun M (i : Shape.Idx Kernel5Ideal.S8x1024x512) => M (i 1) ⟨(i 0).val * 512 + (i 2).val, by have h0 : (i 0).val < 8 := (i 0).isLt; have h2 : (i 2).val < 512 := (i 2).isLt; omega⟩) (mat_2 m c)

/-- The reference runs and leaves its arguments alone. -/
theorem frame_reference : Cert.quiescent_Reference5Ideal := fun m g _ =>
  (θ_run Reference5Ideal.defs _ _).mono (fun r h => ⟨fun c => (h c).2, sem_eq_zero_of_no_sems (by decide) r.2⟩)
    (Reference5Ideal.Value.run m g)

/-- The call's arrays and the reference's are equal, element by element, over the extended reals. -/
theorem algebraic : Cert.algebraic_Kernel5Ideal_Reference5Ideal := by
  intro m g m' g' _ hargs
  refine ⟨fun c => (Kernel5Ideal.Gen.dats m 0 c).arrAt 2 Kernel5Ideal.cfg0.N,
    Kernel5Ideal.Value.run_blocks m g,
    (θ_run Reference5Ideal.defs _ _).mono (fun r h c => ?_) (Reference5Ideal.Value.run m' g')⟩
  obtain ⟨a0, a1, a2, a3, a4⟩ := hargs c
  have hc := h c
  exact ⟨hc.1.trans ((Reference5Ideal.Read.val_main_v24_eq _ _ _ _ _).trans (out_2 m c a0 a1 a2 a3 a4)),
    hc.2⟩

end Cert.GradW1

end
-- ==== Proof.GradWinValue.lean ====
/-
  The array that the weight gradient call `gwin` leaves, over the extended reals: the product of the transposed activations
  and the cotangent, summed over four blocks of rows, cut into the eight devices' slices.
-/
module

public import proofs.«01_k».proof.Proof.Layer
public import proofs.«01_k».proof.Proof.Gen.Kernel6Ideal.Frame
public import proofs.«01_k».proof.Proof.Gen.Kernel6Ideal.Value
public import Idealize.ShloMosaic.Lib.Pipeline.Value
public import Idealize.ShloMosaic.Lib.Pipeline.ValueKit.Acc
public import Idealize.ShloMosaic.Lib.Pipeline.ValueKit.Tiles
public import Idealize.ShloMosaic.Lib.Pointwise
public import Idealize.ShloMosaic.Lib.Tactic

@[expose] public section

set_option maxRecDepth 16384

noncomputable section

namespace Cert.Kernel6Ideal.Final

open Cert.Kernel6Ideal Cert.Kernel6Ideal.Gen
open Idealize.ShloMosaic Idealize.ShloMosaic.TcCoe Idealize.SL.Sem

/-! ## The payloads at an index -/

/-- The product of two blocks. -/
theorem prod_apply (a : Vec Ideal S1024x1024 .bf16) (b : Vec Ideal S1024x1536 .bf16) (i : Fin 1024) (j : Fin 1536) :
    k0_pay2 (F := Ideal) a b (ix2 i j) = ∑ p : Fin 1024, a (ix2 p i) * b (ix2 p j) := by
  pointwise [k0_pay2]

theorem new_0 (a : Vec Ideal S1024x1024 .bf16) (b : Vec Ideal S1024x1536 .bf16) (x : S1x1024x384.Idx) (i : Fin 1024) (j : Fin 1536) (hi : i.val = (x 1).val) (hj : j.val = (x 2).val) :
    k0_pay4 (F := Ideal) a b x = k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨r.val, lt_of_lt_of_le r.isLt (by decide)⟩ := Fin.ext hj
  pointwise [k0_pay4, k0_pay3]

theorem add_0 (a : Vec Ideal S1024x1024 .bf16) (b : Vec Ideal S1024x1536 .bf16) (o : Vec Ideal S1x1024x384 .f32) (x : S1x1024x384.Idx) (i : Fin 1024) (j : Fin 1536) (hi : i.val = (x 1).val) (hj : j.val = (x 2).val) :
    k0_pay5 (F := Ideal) a b o x = o x + k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨r.val, lt_of_lt_of_le r.isLt (by decide)⟩ := Fin.ext hj
  pointwise [k0_pay5, k0_pay3]

theorem new_1 (a : Vec Ideal S1024x1024 .bf16) (b : Vec Ideal S1024x1536 .bf16) (x : S1x1024x384.Idx) (i : Fin 1024) (j : Fin 1536) (hi : i.val = (x 1).val) (hj : j.val = 384 + (x 2).val) :
    k0_pay7 (F := Ideal) a b x = k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨384 + r.val, lt_of_lt_of_le (Nat.add_lt_add_left r.isLt _) (by decide)⟩ := Fin.ext hj
  pointwise [k0_pay7, k0_pay6]

theorem add_1 (a : Vec Ideal S1024x1024 .bf16) (b : Vec Ideal S1024x1536 .bf16) (o : Vec Ideal S1x1024x384 .f32) (x : S1x1024x384.Idx) (i : Fin 1024) (j : Fin 1536) (hi : i.val = (x 1).val) (hj : j.val = 384 + (x 2).val) :
    k0_pay8 (F := Ideal) a b o x = o x + k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨384 + r.val, lt_of_lt_of_le (Nat.add_lt_add_left r.isLt _) (by decide)⟩ := Fin.ext hj
  pointwise [k0_pay8, k0_pay6]

theorem new_2 (a : Vec Ideal S1024x1024 .bf16) (b : Vec Ideal S1024x1536 .bf16) (x : S1x1024x384.Idx) (i : Fin 1024) (j : Fin 1536) (hi : i.val = (x 1).val) (hj : j.val = 768 + (x 2).val) :
    k0_pay10 (F := Ideal) a b x = k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨768 + r.val, lt_of_lt_of_le (Nat.add_lt_add_left r.isLt _) (by decide)⟩ := Fin.ext hj
  pointwise [k0_pay10, k0_pay9]

theorem add_2 (a : Vec Ideal S1024x1024 .bf16) (b : Vec Ideal S1024x1536 .bf16) (o : Vec Ideal S1x1024x384 .f32) (x : S1x1024x384.Idx) (i : Fin 1024) (j : Fin 1536) (hi : i.val = (x 1).val) (hj : j.val = 768 + (x 2).val) :
    k0_pay11 (F := Ideal) a b o x = o x + k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨768 + r.val, lt_of_lt_of_le (Nat.add_lt_add_left r.isLt _) (by decide)⟩ := Fin.ext hj
  pointwise [k0_pay11, k0_pay9]

theorem new_3 (a : Vec Ideal S1024x1024 .bf16) (b : Vec Ideal S1024x1536 .bf16) (x : S1x1024x384.Idx) (i : Fin 1024) (j : Fin 1536) (hi : i.val = (x 1).val) (hj : j.val = 1152 + (x 2).val) :
    k0_pay13 (F := Ideal) a b x = k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨1152 + r.val, lt_of_lt_of_le (Nat.add_lt_add_left r.isLt _) (by decide)⟩ := Fin.ext hj
  pointwise [k0_pay13, k0_pay12]

theorem add_3 (a : Vec Ideal S1024x1024 .bf16) (b : Vec Ideal S1024x1536 .bf16) (o : Vec Ideal S1x1024x384 .f32) (x : S1x1024x384.Idx) (i : Fin 1024) (j : Fin 1536) (hi : i.val = (x 1).val) (hj : j.val = 1152 + (x 2).val) :
    k0_pay1 (F := Ideal) (k0_pay12 (F := Ideal) a b) o x = o x + k0_pay2 (F := Ideal) a b (ix2 i j) := by
  obtain ⟨z, p, r, rfl⟩ : ∃ (z : Fin 1) (p : Fin 1024) (r : Fin 384), x = ix3 z p r := ⟨_, _, _, eq_ix3 x⟩
  obtain rfl : z = 0 := Subsingleton.elim _ _
  obtain rfl : i = p := Fin.ext hi
  obtain rfl : j = ⟨1152 + r.val, lt_of_lt_of_le (Nat.add_lt_add_left r.isLt _) (by decide)⟩ := Fin.ext hj
  pointwise [k0_pay1, k0_pay12]

/-! ## What the output window holds after a point -/

variable (m : (ℓ : Loc nD τ sig) → Buf (Elt Ideal) ℓ) (c : Dev nD)

theorem lt_N (t : Fin cfg0.N) : t.val < 8 := by
  have h := t.isLt
  have hN : cfg0.N = 8 := N_0
  omega

/-- The point's own part of slot `d`, row `i`, column `j`: the product of its two blocks. -/
def part (t : Fin cfg0.N) (d : Fin 4) (i : Fin 1024) (j : Fin 384) : EReal :=
  k0_pay2 (F := Ideal) (iblk m c 0 t) (iblk m c 1 t) (ix2 i ⟨d.val * 384 + j.val, by have := d.isLt; have := j.isLt; omega⟩)

theorem outs_first (t : Fin cfg0.N) (h : t.val % 4 = 0) (d : Fin 4) (i : Fin 1024) (j : Fin 384) :
    outsAt0 m c t.val t.isLt (ix3 d i j) = part m c t d i j := by
  have h1 : ¬1 ≤ t.val % 4 := by omega
  unfold part
  rw [outsAt0_A m c t h h1 h h1 h h1 h h1]
  frame_out
  canon_tiles x hx
  case piece0 =>
    have e0 : d.val = _ := hx0
    have e1 : i.val = _ := hx1
    have e2 : j.val = _ := hx2
    exact new_3 _ _ x _ _ (by omega) (by show d.val * 384 + j.val = _; omega)
  case piece1 =>
    have e0 : d.val = _ := hx0
    have e1 : i.val = _ := hx1
    have e2 : j.val = _ := hx2
    exact new_2 _ _ x _ _ (by omega) (by show d.val * 384 + j.val = _; omega)
  case piece2 =>
    have e0 : d.val = _ := hx0
    have e1 : i.val = _ := hx1
    have e2 : j.val = _ := hx2
    exact new_1 _ _ x _ _ (by omega) (by show d.val * 384 + j.val = _; omega)
  case piece3 =>
    have e0 : d.val = _ := hx0
    have e1 : i.val = _ := hx1
    have e2 : j.val = _ := hx2
    exact new_0 _ _ x _ _ (by omega) (by show d.val * 384 + j.val = _; omega)

theorem outs_later (t : Fin cfg0.N) (h : ¬t.val % 4 = 0) (d : Fin 4) (i : Fin 1024) (j : Fin 384) :
    outsAt0 m c t.val t.isLt (ix3 d i j)
      = outsAt0 m c (t.val - 1) (Nat.lt_of_le_of_lt (Nat.sub_le _ _) t.isLt) (ix3 d i j) + part m c t d i j := by
  have h1 : 1 ≤ t.val % 4 := by omega
  unfold part
  rw [outsAt0_B m c t h h1 h h1 h h1 h h1]
  frame_out
  canon_tiles x hx
  case piece0 =>
    have e0 : d.val = _ := hx0
    have e1 : i.val = _ := hx1
    have e2 : j.val = _ := hx2
    refine (add_3 _ _ _ x _ _ (by omega) (by show d.val * 384 + j.val = _; omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece1 =>
    have e0 : d.val = _ := hx0
    have e1 : i.val = _ := hx1
    have e2 : j.val = _ := hx2
    refine (add_2 _ _ _ x _ _ (by omega) (by show d.val * 384 + j.val = _; omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece2 =>
    have e0 : d.val = _ := hx0
    have e1 : i.val = _ := hx1
    have e2 : j.val = _ := hx2
    refine (add_1 _ _ _ x _ _ (by omega) (by show d.val * 384 + j.val = _; omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece3 =>
    have e0 : d.val = _ := hx0
    have e1 : i.val = _ := hx1
    have e2 : j.val = _ := hx2
    refine (add_0 _ _ _ x _ _ (by omega) (by show d.val * 384 + j.val = _; omega)).trans (congrArg (· + _) (View.ld_unit_apply_of _ _ _ _ x (ix3 d i j) (fun a => ?_)))
    match a with
    | ⟨0, _⟩ => exact e0.trans (Nat.zero_add _).symm
    | ⟨1, _⟩ => exact e1.trans (Nat.zero_add _).symm
    | ⟨2, _⟩ => exact e2.trans (Nat.zero_add _).symm

/-! ## The matrices the call reads, and its blocks as parts of them -/

abbrev a : Layer.Mat 4096 1024 := fun r k => V m c main_v18 (ix2 r k)
abbrev b : Layer.Mat 4096 3072 := fun r k => V m c main_arg4 (ix2 r k)
/-- The product the call computes. -/
abbrev prod : Layer.Mat 1024 3072 := Layer.tn (a m c) (b m c)

/-- Row `p` of the point's block of rows. -/
abbrev row (t : Fin cfg0.N) (p : Fin 1024) : Fin 4096 :=
  ⟨(t.val % 4) * 1024 + p.val, by have := lt_N t; have := p.isLt; omega⟩
/-- Column `k` of the half the point's output block belongs to. -/
abbrev col (t : Fin cfg0.N) (k : Fin 1536) : Fin 3072 :=
  ⟨(t.val / 4) * 1536 + k.val, by have := lt_N t; have := k.isLt; omega⟩

theorem idx_0 (t : Fin cfg0.N) : win0_0.index t 0 = t.val % 4 ∧ win0_0.index t 1 = 0 :=
  (by decide +kernel : ∀ t : Fin grid0.N, win0_0.index t 0 = t.val % 4 ∧ win0_0.index t 1 = 0) t

theorem blk_0 (t : Fin cfg0.N) (p : Fin 1024) (k : Fin 1024) : iblk m c 0 t (ix2 p k) = a m c (row t p) k := by
  have hi := idx_0 t
  unfold iblk
  rw [View.read_apply]
  show V m c main_v18 _ = V m c main_v18 _
  congr 1; funext x; apply Fin.ext
  match x with
  | ⟨0, _⟩ => show win0_0.index t 0 * 1024 + 1 * p.val = (t.val % 4) * 1024 + p.val; rw [hi.1]; omega
  | ⟨1, _⟩ => show win0_0.index t 1 * 1024 + 1 * k.val = k.val; rw [hi.2]; omega

theorem idx_1 (t : Fin cfg0.N) : win0_1.index t 0 = t.val % 4 ∧ win0_1.index t 1 = t.val / 4 :=
  (by decide +kernel : ∀ t : Fin grid0.N, win0_1.index t 0 = t.val % 4 ∧ win0_1.index t 1 = t.val / 4) t

theorem blk_1 (t : Fin cfg0.N) (p : Fin 1024) (k : Fin 1536) : iblk m c 1 t (ix2 p k) = b m c (row t p) (col t k) := by
  have hi := idx_1 t
  unfold iblk
  rw [View.read_apply]
  show V m c main_arg4 _ = V m c main_arg4 _
  congr 1; funext x; apply Fin.ext
  match x with
  | ⟨0, _⟩ => show win0_1.index t 0 * 1024 + 1 * p.val = (t.val % 4) * 1024 + p.val; rw [hi.1]; omega
  | ⟨1, _⟩ => show win0_1.index t 1 * 1536 + 1 * k.val = (t.val / 4) * 1536 + k.val; rw [hi.2]; omega

/-! ## The array left -/

theorem part_eq (t : Fin cfg0.N) (d : Fin 4) (i : Fin 1024) (j : Fin 384) :
    part m c t d i j = ∑ p : Fin 1024, (a m c) (row t p) i * b m c (row t p) (col t ⟨d.val * 384 + j.val, by have := d.isLt; have := j.isLt; omega⟩) := by
  unfold part
  rw [prod_apply]
  simp only [blk_0, blk_1]
  try rfl

/-- After the last of the four points of a half, the output block holds the product over all rows. -/
theorem sum_2 (t : Fin cfg0.N) (ht : t.val % 4 = 3) (d : Fin 4) (i : Fin 1024) (j : Fin 384) :
    outsAt0 m c t.val t.isLt (ix3 d i j) = prod m c i (col t ⟨d.val * 384 + j.val, by have := d.isLt; have := j.isLt; omega⟩) := by
  have hN : cfg0.N = 8 := N_0
  have hl := lt_N t
  have key := Layer.run_sum 4 (fun s h => outsAt0 m c s h (ix3 d i j)) (fun s => part m c s d i j)
    (fun s h => by
      by_cases hp : s % 4 = 0
      · rw [if_pos hp]; exact outs_first m c ⟨s, h⟩ hp d i j
      · rw [if_neg hp]; exact outs_later m c ⟨s, h⟩ hp d i j)
    (t.val - 3) (by omega) 3 (by omega) (by omega)
  have e : ∀ s h, s = t.val → outsAt0 m c s h (ix3 d i j) = outsAt0 m c t.val t.isLt (ix3 d i j) := fun s h hs => by
    subst hs; rfl
  rw [← e (t.val - 3 + 3) (by omega) (by omega)]
  refine key.trans ?_
  refine Eq.trans ?_ (Layer.sum_blocks 4 1024 4096 rfl fun r => (a m c) r i * b m c r (col t ⟨d.val * 384 + j.val, by have := d.isLt; have := j.isLt; omega⟩))
  refine Finset.sum_congr rfl fun q _ => ?_
  have hq := q.isLt
  rw [part_eq]
  refine Finset.sum_congr rfl fun p _ => ?_
  have hr : row ⟨t.val - 3 + q.val, by omega⟩ p = ⟨q.val * 1024 + p.val, by have := p.isLt; omega⟩ :=
    Fin.ext (by show ((t.val - 3 + q.val) % 4) * 1024 + p.val = q.val * 1024 + p.val; omega)
  have hc : ∀ k, col ⟨t.val - 3 + q.val, by omega⟩ k = col t k := fun k =>
    Fin.ext (by show ((t.val - 3 + q.val) / 4) * 1536 + k.val = (t.val / 4) * 1536 + k.val; omega)
  rw [hr, hc]

/-- Row and column of the whole product at element `(e, i, j)` of the stack of slices. -/
abbrev at_ (M : Layer.Mat 1024 3072) (i : Shape.Idx S8x1024x384) : EReal :=
  M (i 1) ⟨(i 0).val * 384 + (i 2).val, by
    have h0 : (i 0).val < 8 := (i 0).isLt
    have h2 : (i 2).val < 384 := (i 2).isLt
    omega⟩

theorem idx_2 (t : Fin cfg0.N) : win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0) t

theorem final_2 : (dats m 0 c).arrAt 2 cfg0.N = fun i => at_ (prod m c) i := by
  have hN : cfg0.N = 8 := N_0
  refine (dats m 0 c).arrAt_eq_of_cover 2 _ (fun t ht => ?_) (fun i => ?_)
  · have hi := idx_2 t
    have ht' : t.val % 4 = 3 := (flush0_2 t).mp ht
    rw [Value.flushed2]
    funext y
    rw [View.read_apply]
    refine (congrArg (outsAt0 m c t.val t.isLt) (eq_ix3 (show Shape.Idx S4x1024x384 from y))).trans
      ((sum_2 m c t ht' (y 0) (y 1) (y 2)).trans ?_)
    exact congrArg₂ (prod m c)
      (Fin.ext (by show (y 1).val = win0_2.index t 1 * 1024 + 1 * (y 1).val; rw [hi.2.1]; omega))
      (Fin.ext (by show (t.val / 4) * 1536 + ((y 0).val * 384 + (y 2).val) = (win0_2.index t 0 * 4 + 1 * (y 0).val) * 384 + (win0_2.index t 2 * 384 + 1 * (y 2).val); rw [hi.1, hi.2.2]; omega))
  · have h0 : (i 0).val < 8 := (i 0).isLt
    have h1 : (i 1).val < 1024 := (i 1).isLt
    have h2 : (i 2).val < 384 := (i 2).isLt
    let t : Fin cfg0.N := ⟨4 * ((i 0).val / 4) + 3, by omega⟩
    have hi := idx_2 t
    have hv : t.val = 4 * ((i 0).val / 4) + 3 := rfl
    refine ⟨t, (flush0_2 t).mpr (by omega), ?_⟩
    show i ∈ ((View.whole main_v19).slice (win0_2.rect t)).set
    rw [View.set_slice_whole, Rect.mem_set_unit]
    intro x
    match x with
    | ⟨0, _⟩ => show win0_2.index t 0 * 4 ≤ (i 0).val ∧ (i 0).val < win0_2.index t 0 * 4 + 4; rw [hi.1]; omega
    | ⟨1, _⟩ => show win0_2.index t 1 * 1024 ≤ (i 1).val ∧ (i 1).val < win0_2.index t 1 * 1024 + 1024; rw [hi.2.1]; omega
    | ⟨2, _⟩ => show win0_2.index t 2 * 384 ≤ (i 2).val ∧ (i 2).val < win0_2.index t 2 * 384 + 384; rw [hi.2.2]; omega

end Cert.Kernel6Ideal.Final

end
-- ==== Proof.GradWinRef.lean ====
/-
  The reference of the weight gradient call `gwin`, over the extended reals: its gradient, as the host computes it, is
  the product of the transposed activations and the cotangent, cut into the eight devices' slices.
-/
module

public import proofs.«01_k».proof.Proof.Layer
public import proofs.«01_k».proof.Proof.Gen.Reference6Ideal.Read
public import Idealize.ShloMosaic.Lib.Pointwise

@[expose] public section

set_option maxRecDepth 16384

noncomputable section

namespace Cert.Reference6Ideal.Grad

open Cert.Reference6Ideal Cert.Reference6Ideal.Read Idealize.ShloMosaic

variable (x0 : FVec Ideal S4096x1024 .f32) (x1 x2 x3 : FVec Ideal S1x1024 .f32) (x4 : FVec Ideal S4096x3072 .bf16)

/-- The modulated rows, the values the reference itself computes. -/
abbrev H : Layer.Mat 4096 1024 := fun r k => val_main_v17 (F := Ideal) x0 x1 x2 x3 (ix2 r k)
abbrev Z : Layer.Mat 4096 3072 := fun r k => x4 (ix2 r k)

theorem grad_at (i : Fin 1024) (j : Fin 3072) :
    val_main_v22 (F := Ideal) x0 x1 x2 x3 x4 (ix2 i j) = Layer.tn (H x0 x1 x2 x3) (Z x4) i j := by
  pointwise [val_main_v22, val_main_v21, val_main_v20]
  exact Finset.sum_congr rfl fun r _ => mul_comm _ _

theorem grad_eq : val_main_v24 (F := Ideal) x0 x1 x2 x3 x4 = fun i => Layer.tn (H x0 x1 x2 x3) (Z x4) (i 1) ⟨(i 0).val * 384 + (i 2).val, by
      have h0 : (i 0).val < 8 := (i 0).isLt
      have h2 : (i 2).val < 384 := (i 2).isLt
      omega⟩ := by
  funext i
  idx_vars i
  pointwise [val_main_v24, val_main_v23]
  exact grad_at ..

end Cert.Reference6Ideal.Grad

end
-- ==== Proof.GradWinClaims.lean ====
/-
  The claims about the weight gradient call `gwin`: the reference's run, and the equality of the call's array with the
  reference's gradient over the extended reals.
-/
module

public import proofs.«01_k».proof.Defs
public import proofs.«01_k».proof.Proof.GradWinValue
public import proofs.«01_k».proof.Proof.GradWinRef
public import proofs.«01_k».proof.Proof.Gen.Kernel6.Frame
public import proofs.«01_k».proof.Proof.Gen.Reference6Ideal.Run
public import proofs.«01_k».proof.Proof.Gen.Reference6Ideal.Read
public import Idealize.ShloMosaic.Adequacy
public import Idealize.ShloMosaic.Lib.Quiescent

@[expose] public section

set_option maxRecDepth 16384

noncomputable section

namespace Cert.GradWin

open Idealize.ShloMosaic Idealize.ShloMosaic.TcCoe Idealize.SL.Sem

/-- The modulated rows the host leaves in `v18` before the region, as the reference's own value; the cast is no change over
    the extended reals. -/
theorem host_v18 (m : (ℓ : Loc Kernel6Ideal.nD Kernel6Ideal.τ Kernel6Ideal.sig) → Buf (Elt Ideal) ℓ) (c : Dev Kernel6Ideal.nD) :
    Kernel6Ideal.Gen.V m c Kernel6Ideal.main_v18 = (fun i => Reference6Ideal.Read.val_main_v17 (F := Ideal) (m ((c.tc : Thread Kernel6Ideal.nD Kernel6Ideal.τ).loc Kernel6Ideal.main_arg0)) (m ((c.tc : Thread Kernel6Ideal.nD Kernel6Ideal.τ).loc Kernel6Ideal.main_arg1)) (m ((c.tc : Thread Kernel6Ideal.nD Kernel6Ideal.τ).loc Kernel6Ideal.main_arg2)) (m ((c.tc : Thread Kernel6Ideal.nD Kernel6Ideal.τ).loc Kernel6Ideal.main_arg3)) i) := by
  show StableHlo.after Kernel6Ideal.Gen.hostOps0 (fun b => m (c, b)) (Proc.devRef .tc Kernel6Ideal.main_v18) = _
  after_results_simp <;> rfl

theorem mat_2 (m : (ℓ : Loc Kernel6Ideal.nD Kernel6Ideal.τ Kernel6Ideal.sig) → Buf (Elt Ideal) ℓ) (c : Dev Kernel6Ideal.nD) :
    Layer.tn (Reference6Ideal.Grad.H (m ((c.tc : Thread Kernel6Ideal.nD Kernel6Ideal.τ).loc Kernel6Ideal.main_arg0)) (m ((c.tc : Thread Kernel6Ideal.nD Kernel6Ideal.τ).loc Kernel6Ideal.main_arg1)) (m ((c.tc : Thread Kernel6Ideal.nD Kernel6Ideal.τ).loc Kernel6Ideal.main_arg2)) (m ((c.tc : Thread Kernel6Ideal.nD Kernel6Ideal.τ).loc Kernel6Ideal.main_arg3))) (Reference6Ideal.Grad.Z (m ((c.tc : Thread Kernel6Ideal.nD Kernel6Ideal.τ).loc Kernel6Ideal.main_arg4))) = Kernel6Ideal.Final.prod m c := by
  simp only [Kernel6Ideal.Gen.V_main_arg4, host_v18, Kernel6Ideal.Final.a, Kernel6Ideal.Final.b, Kernel6Ideal.Final.prod]
  try rfl

theorem out_2 (m : (ℓ : Loc Kernel6Ideal.nD Kernel6Ideal.τ Kernel6Ideal.sig) → Buf (Elt Ideal) ℓ) (c : Dev Kernel6Ideal.nD)
    {x0 x1 x2 x3 x4} (h0 : x0 = m ((c.tc : Thread Kernel6Ideal.nD Kernel6Ideal.τ).loc Kernel6Ideal.main_arg0)) (h1 : x1 = m ((c.tc : Thread Kernel6Ideal.nD Kernel6Ideal.τ).loc Kernel6Ideal.main_arg1)) (h2 : x2 = m ((c.tc : Thread Kernel6Ideal.nD Kernel6Ideal.τ).loc Kernel6Ideal.main_arg2)) (h3 : x3 = m ((c.tc : Thread Kernel6Ideal.nD Kernel6Ideal.τ).loc Kernel6Ideal.main_arg3)) (h4 : x4 = m ((c.tc : Thread Kernel6Ideal.nD Kernel6Ideal.τ).loc Kernel6Ideal.main_arg4)) :
    Reference6Ideal.Read.val_main_v24 (F := Ideal) x0 x1 x2 x3 x4 = (Kernel6Ideal.Gen.dats m 0 c).arrAt 2 Kernel6Ideal.cfg0.N := by
  subst h0 h1 h2 h3 h4
  refine (Reference6Ideal.Grad.grad_eq _ _ _ _ _).trans (Eq.trans ?_ (Kernel6Ideal.Final.final_2 m c).symm)
  exact congrArg (fun M (i : Shape.Idx Kernel6Ideal.S8x1024x384) => M (i 1) ⟨(i 0).val * 384 + (i 2).val, by have h0 : (i 0).val < 8 := (i 0).isLt; have h2 : (i 2).val < 384 := (i 2).isLt; omega⟩) (mat_2 m c)

/-- The reference runs and leaves its arguments alone. -/
theorem frame_reference : Cert.quiescent_Reference6Ideal := fun m g _ =>
  (θ_run Reference6Ideal.defs _ _).mono (fun r h => ⟨fun c => (h c).2, sem_eq_zero_of_no_sems (by decide) r.2⟩)
    (Reference6Ideal.Value.run m g)

/-- The call's arrays and the reference's are equal, element by element, over the extended reals. -/
theorem algebraic : Cert.algebraic_Kernel6Ideal_Reference6Ideal := by
  intro m g m' g' _ hargs
  refine ⟨fun c => (Kernel6Ideal.Gen.dats m 0 c).arrAt 2 Kernel6Ideal.cfg0.N,
    Kernel6Ideal.Value.run_blocks m g,
    (θ_run Reference6Ideal.defs _ _).mono (fun r h c => ?_) (Reference6Ideal.Value.run m' g')⟩
  obtain ⟨a0, a1, a2, a3, a4⟩ := hargs c
  have hc := h c
  exact ⟨hc.1.trans ((Reference6Ideal.Read.val_main_v24_eq _ _ _ _ _).trans (out_2 m c a0 a1 a2 a3 a4)),
    hc.2⟩

end Cert.GradWin

end
-- ==== Proof.GradWoValue.lean ====
/-
  The array that the weight gradient call `gwo` leaves, over the extended reals: the product of the transposed activations
  and the cotangent, summed over four blocks of rows, cut into the eight devices' slices.
-/
module

public import proofs.«01_k».proof.Proof.Layer
public import proofs.«01_k».proof.Proof.Gen.Kernel7Ideal.Frame
public import proofs.«01_k».proof.Proof.Gen.Kernel7Ideal.Value
public import Idealize.ShloMosaic.Lib.Pipeline.Value
public import Idealize.ShloMosaic.Lib.Pipeline.ValueKit.Acc
public import Idealize.ShloMosaic.Lib.Pipeline.ValueKit.Tiles
public import Idealize.ShloMosaic.Lib.Pointwise
public import Idealize.ShloMosaic.Lib.Tactic

@[expose] public section

set_option maxRecDepth 16384

noncomputable section

namespace Cert.Kernel7Ideal.Final

open Cert.Kernel7Ideal Cert.Kernel7Ideal.Gen
open Idealize.ShloMosaic Idealize.ShloMosaic.TcCoe Idealize.SL.Sem

/-! ## The payloads at an index -/

/-- The product of two blocks. -/
theorem prod_apply (a : Vec Ideal S1024x512 .bf16) (b : Vec Ideal S1024x1024 .bf16) (i : Fin 512) (j : Fin 1024) :
    k0_pay2 (F := Ideal) a b (ix2 i j) = ∑ p : Fin 1024, a (ix2 p i) * b (ix2 p j) := by
  pointwise [k0_pay2]

theorem new_0 (a : Vec Ideal S1024x512 .bf16) (b : Vec Ideal S1024x1024 .bf16) (x : S1x128x1024.Idx) (i : Fin 512) (j : Fin 1024) (hi : i.val = (x 1).val) (hj : j.val = (x 2).val) :
    k0_pay4 (F := Ideal) a b x = k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨p.val, lt_of_lt_of_le p.isLt (by decide)⟩ := Fin.ext hi
  pointwise [k0_pay4, k0_pay3]

theorem add_0 (a : Vec Ideal S1024x512 .bf16) (b : Vec Ideal S1024x1024 .bf16) (o : Vec Ideal S1x128x1024 .f32) (x : S1x128x1024.Idx) (i : Fin 512) (j : Fin 1024) (hi : i.val = (x 1).val) (hj : j.val = (x 2).val) :
    k0_pay5 (F := Ideal) a b o x = o x + k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨p.val, lt_of_lt_of_le p.isLt (by decide)⟩ := Fin.ext hi
  pointwise [k0_pay5, k0_pay3]

theorem new_1 (a : Vec Ideal S1024x512 .bf16) (b : Vec Ideal S1024x1024 .bf16) (x : S1x128x1024.Idx) (i : Fin 512) (j : Fin 1024) (hi : i.val = 128 + (x 1).val) (hj : j.val = (x 2).val) :
    k0_pay7 (F := Ideal) a b x = k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨128 + p.val, lt_of_lt_of_le (Nat.add_lt_add_left p.isLt _) (by decide)⟩ := Fin.ext hi
  pointwise [k0_pay7, k0_pay6]

theorem add_1 (a : Vec Ideal S1024x512 .bf16) (b : Vec Ideal S1024x1024 .bf16) (o : Vec Ideal S1x128x1024 .f32) (x : S1x128x1024.Idx) (i : Fin 512) (j : Fin 1024) (hi : i.val = 128 + (x 1).val) (hj : j.val = (x 2).val) :
    k0_pay8 (F := Ideal) a b o x = o x + k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨128 + p.val, lt_of_lt_of_le (Nat.add_lt_add_left p.isLt _) (by decide)⟩ := Fin.ext hi
  pointwise [k0_pay8, k0_pay6]

theorem new_2 (a : Vec Ideal S1024x512 .bf16) (b : Vec Ideal S1024x1024 .bf16) (x : S1x128x1024.Idx) (i : Fin 512) (j : Fin 1024) (hi : i.val = 256 + (x 1).val) (hj : j.val = (x 2).val) :
    k0_pay10 (F := Ideal) a b x = k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨256 + p.val, lt_of_lt_of_le (Nat.add_lt_add_left p.isLt _) (by decide)⟩ := Fin.ext hi
  pointwise [k0_pay10, k0_pay9]

theorem add_2 (a : Vec Ideal S1024x512 .bf16) (b : Vec Ideal S1024x1024 .bf16) (o : Vec Ideal S1x128x1024 .f32) (x : S1x128x1024.Idx) (i : Fin 512) (j : Fin 1024) (hi : i.val = 256 + (x 1).val) (hj : j.val = (x 2).val) :
    k0_pay11 (F := Ideal) a b o x = o x + k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨256 + p.val, lt_of_lt_of_le (Nat.add_lt_add_left p.isLt _) (by decide)⟩ := Fin.ext hi
  pointwise [k0_pay11, k0_pay9]

theorem new_3 (a : Vec Ideal S1024x512 .bf16) (b : Vec Ideal S1024x1024 .bf16) (x : S1x128x1024.Idx) (i : Fin 512) (j : Fin 1024) (hi : i.val = 384 + (x 1).val) (hj : j.val = (x 2).val) :
    k0_pay13 (F := Ideal) a b x = k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨384 + p.val, lt_of_lt_of_le (Nat.add_lt_add_left p.isLt _) (by decide)⟩ := Fin.ext hi
  pointwise [k0_pay13, k0_pay12]

theorem add_3 (a : Vec Ideal S1024x512 .bf16) (b : Vec Ideal S1024x1024 .bf16) (o : Vec Ideal S1x128x1024 .f32) (x : S1x128x1024.Idx) (i : Fin 512) (j : Fin 1024) (hi : i.val = 384 + (x 1).val) (hj : j.val = (x 2).val) :
    k0_pay1 (F := Ideal) (k0_pay12 (F := Ideal) a b) o x = o x + k0_pay2 (F := Ideal) a b (ix2 i j) := by
  obtain ⟨z, p, r, rfl⟩ : ∃ (z : Fin 1) (p : Fin 128) (r : Fin 1024), x = ix3 z p r := ⟨_, _, _, eq_ix3 x⟩
  obtain rfl : z = 0 := Subsingleton.elim _ _
  obtain rfl : j = r := Fin.ext hj
  obtain rfl : i = ⟨384 + p.val, lt_of_lt_of_le (Nat.add_lt_add_left p.isLt _) (by decide)⟩ := Fin.ext hi
  pointwise [k0_pay1, k0_pay12]

/-! ## What the output window holds after a point -/

variable (m : (ℓ : Loc nD τ sig) → Buf (Elt Ideal) ℓ) (c : Dev nD)

theorem lt_N (t : Fin cfg0.N) : t.val < 8 := by
  have h := t.isLt
  have hN : cfg0.N = 8 := N_0
  omega

/-- The point's own part of slot `d`, row `i`, column `j`: the product of its two blocks. -/
def part (t : Fin cfg0.N) (d : Fin 4) (i : Fin 128) (j : Fin 1024) : EReal :=
  k0_pay2 (F := Ideal) (iblk m c 0 t) (iblk m c 1 t) (ix2 ⟨d.val * 128 + i.val, by have := d.isLt; have := i.isLt; omega⟩ j)

theorem outs_first (t : Fin cfg0.N) (h : t.val % 4 = 0) (d : Fin 4) (i : Fin 128) (j : Fin 1024) :
    outsAt0 m c t.val t.isLt (ix3 d i j) = part m c t d i j := by
  have h1 : ¬1 ≤ t.val % 4 := by omega
  unfold part
  rw [outsAt0_A m c t h h1 h h1 h h1 h h1]
  frame_out
  canon_tiles x hx
  case piece0 =>
    have e0 : d.val = _ := hx0
    have e1 : i.val = _ := hx1
    have e2 : j.val = _ := hx2
    exact new_3 _ _ x _ _ (by show d.val * 128 + i.val = _; omega) (by omega)
  case piece1 =>
    have e0 : d.val = _ := hx0
    have e1 : i.val = _ := hx1
    have e2 : j.val = _ := hx2
    exact new_2 _ _ x _ _ (by show d.val * 128 + i.val = _; omega) (by omega)
  case piece2 =>
    have e0 : d.val = _ := hx0
    have e1 : i.val = _ := hx1
    have e2 : j.val = _ := hx2
    exact new_1 _ _ x _ _ (by show d.val * 128 + i.val = _; omega) (by omega)
  case piece3 =>
    have e0 : d.val = _ := hx0
    have e1 : i.val = _ := hx1
    have e2 : j.val = _ := hx2
    exact new_0 _ _ x _ _ (by show d.val * 128 + i.val = _; omega) (by omega)

theorem outs_later (t : Fin cfg0.N) (h : ¬t.val % 4 = 0) (d : Fin 4) (i : Fin 128) (j : Fin 1024) :
    outsAt0 m c t.val t.isLt (ix3 d i j)
      = outsAt0 m c (t.val - 1) (Nat.lt_of_le_of_lt (Nat.sub_le _ _) t.isLt) (ix3 d i j) + part m c t d i j := by
  have h1 : 1 ≤ t.val % 4 := by omega
  unfold part
  rw [outsAt0_B m c t h h1 h h1 h h1 h h1]
  frame_out
  canon_tiles x hx
  case piece0 =>
    have e0 : d.val = _ := hx0
    have e1 : i.val = _ := hx1
    have e2 : j.val = _ := hx2
    refine (add_3 _ _ _ x _ _ (by show d.val * 128 + i.val = _; omega) (by omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece1 =>
    have e0 : d.val = _ := hx0
    have e1 : i.val = _ := hx1
    have e2 : j.val = _ := hx2
    refine (add_2 _ _ _ x _ _ (by show d.val * 128 + i.val = _; omega) (by omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece2 =>
    have e0 : d.val = _ := hx0
    have e1 : i.val = _ := hx1
    have e2 : j.val = _ := hx2
    refine (add_1 _ _ _ x _ _ (by show d.val * 128 + i.val = _; omega) (by omega)).trans (congrArg (· + _) (View.ld_unit_apply_of _ _ _ _ x (ix3 d i j) (fun a => ?_)))
    match a with
    | ⟨0, _⟩ => exact e0
    | ⟨1, _⟩ => exact e1.trans (Nat.zero_add _).symm
    | ⟨2, _⟩ => exact e2.trans (Nat.zero_add _).symm
  case piece3 =>
    have e0 : d.val = _ := hx0
    have e1 : i.val = _ := hx1
    have e2 : j.val = _ := hx2
    refine (add_0 _ _ _ x _ _ (by show d.val * 128 + i.val = _; omega) (by omega)).trans (congrArg (· + _) (View.ld_unit_apply_of _ _ _ _ x (ix3 d i j) (fun a => ?_)))
    match a with
    | ⟨0, _⟩ => exact e0.trans (Nat.zero_add _).symm
    | ⟨1, _⟩ => exact e1.trans (Nat.zero_add _).symm
    | ⟨2, _⟩ => exact e2.trans (Nat.zero_add _).symm

/-! ## The matrices the call reads, and its blocks as parts of them -/

abbrev a : Layer.Mat 4096 1024 := fun r k => V m c main_arg0 (ix2 r k)
abbrev b : Layer.Mat 4096 1024 := fun r k => V m c main_arg1 (ix2 r k)
/-- The product the call computes. -/
abbrev prod : Layer.Mat 1024 1024 := Layer.tn (a m c) (b m c)

/-- Row `p` of the point's block of rows. -/
abbrev row (t : Fin cfg0.N) (p : Fin 1024) : Fin 4096 :=
  ⟨(t.val % 4) * 1024 + p.val, by have := lt_N t; have := p.isLt; omega⟩
/-- Column `k` of the half the point's output block belongs to. -/
abbrev col (t : Fin cfg0.N) (k : Fin 512) : Fin 1024 :=
  ⟨(t.val / 4) * 512 + k.val, by have := lt_N t; have := k.isLt; omega⟩

theorem idx_0 (t : Fin cfg0.N) : win0_0.index t 0 = t.val % 4 ∧ win0_0.index t 1 = t.val / 4 :=
  (by decide +kernel : ∀ t : Fin grid0.N, win0_0.index t 0 = t.val % 4 ∧ win0_0.index t 1 = t.val / 4) t

theorem blk_0 (t : Fin cfg0.N) (p : Fin 1024) (k : Fin 512) : iblk m c 0 t (ix2 p k) = a m c (row t p) (col t k) := by
  have hi := idx_0 t
  unfold iblk
  rw [View.read_apply]
  show V m c main_arg0 _ = V m c main_arg0 _
  congr 1; funext x; apply Fin.ext
  match x with
  | ⟨0, _⟩ => show win0_0.index t 0 * 1024 + 1 * p.val = (t.val % 4) * 1024 + p.val; rw [hi.1]; omega
  | ⟨1, _⟩ => show win0_0.index t 1 * 512 + 1 * k.val = (t.val / 4) * 512 + k.val; rw [hi.2]; omega

theorem idx_1 (t : Fin cfg0.N) : win0_1.index t 0 = t.val % 4 ∧ win0_1.index t 1 = 0 :=
  (by decide +kernel : ∀ t : Fin grid0.N, win0_1.index t 0 = t.val % 4 ∧ win0_1.index t 1 = 0) t

theorem blk_1 (t : Fin cfg0.N) (p : Fin 1024) (k : Fin 1024) : iblk m c 1 t (ix2 p k) = b m c (row t p) k := by
  have hi := idx_1 t
  unfold iblk
  rw [View.read_apply]
  show V m c main_arg1 _ = V m c main_arg1 _
  congr 1; funext x; apply Fin.ext
  match x with
  | ⟨0, _⟩ => show win0_1.index t 0 * 1024 + 1 * p.val = (t.val % 4) * 1024 + p.val; rw [hi.1]; omega
  | ⟨1, _⟩ => show win0_1.index t 1 * 1024 + 1 * k.val = k.val; rw [hi.2]; omega

/-! ## The array left -/

theorem part_eq (t : Fin cfg0.N) (d : Fin 4) (i : Fin 128) (j : Fin 1024) :
    part m c t d i j = ∑ p : Fin 1024, (a m c) (row t p) (col t ⟨d.val * 128 + i.val, by have := d.isLt; have := i.isLt; omega⟩) * b m c (row t p) j := by
  unfold part
  rw [prod_apply]
  simp only [blk_0, blk_1]
  try rfl

/-- After the last of the four points of a half, the output block holds the product over all rows. -/
theorem sum_2 (t : Fin cfg0.N) (ht : t.val % 4 = 3) (d : Fin 4) (i : Fin 128) (j : Fin 1024) :
    outsAt0 m c t.val t.isLt (ix3 d i j) = prod m c (col t ⟨d.val * 128 + i.val, by have := d.isLt; have := i.isLt; omega⟩) j := by
  have hN : cfg0.N = 8 := N_0
  have hl := lt_N t
  have key := Layer.run_sum 4 (fun s h => outsAt0 m c s h (ix3 d i j)) (fun s => part m c s d i j)
    (fun s h => by
      by_cases hp : s % 4 = 0
      · rw [if_pos hp]; exact outs_first m c ⟨s, h⟩ hp d i j
      · rw [if_neg hp]; exact outs_later m c ⟨s, h⟩ hp d i j)
    (t.val - 3) (by omega) 3 (by omega) (by omega)
  have e : ∀ s h, s = t.val → outsAt0 m c s h (ix3 d i j) = outsAt0 m c t.val t.isLt (ix3 d i j) := fun s h hs => by
    subst hs; rfl
  rw [← e (t.val - 3 + 3) (by omega) (by omega)]
  refine key.trans ?_
  refine Eq.trans ?_ (Layer.sum_blocks 4 1024 4096 rfl fun r => (a m c) r (col t ⟨d.val * 128 + i.val, by have := d.isLt; have := i.isLt; omega⟩) * b m c r j)
  refine Finset.sum_congr rfl fun q _ => ?_
  have hq := q.isLt
  rw [part_eq]
  refine Finset.sum_congr rfl fun p _ => ?_
  have hr : row ⟨t.val - 3 + q.val, by omega⟩ p = ⟨q.val * 1024 + p.val, by have := p.isLt; omega⟩ :=
    Fin.ext (by show ((t.val - 3 + q.val) % 4) * 1024 + p.val = q.val * 1024 + p.val; omega)
  have hc : ∀ k, col ⟨t.val - 3 + q.val, by omega⟩ k = col t k := fun k =>
    Fin.ext (by show ((t.val - 3 + q.val) / 4) * 512 + k.val = (t.val / 4) * 512 + k.val; omega)
  rw [hr, hc]

/-- Row and column of the whole product at element `(e, i, j)` of the stack of slices. -/
abbrev at_ (M : Layer.Mat 1024 1024) (i : Shape.Idx S8x128x1024) : EReal :=
  M ⟨(i 0).val * 128 + (i 1).val, by
    have h0 : (i 0).val < 8 := (i 0).isLt
    have h1 : (i 1).val < 128 := (i 1).isLt
    omega⟩ (i 2)

theorem idx_2 (t : Fin cfg0.N) : win0_2.index t 0 = t.val / 4 ∧ win0_2.index t 1 = 0 ∧ win0_2.index t 2 = 0 :=
  (by decide +kernel : ∀ t : Fin grid0.N, win0_2.index t 0 = t.val / 4 ∧ win0_2.index t 1 = 0 ∧ win0_2.index t 2 = 0) t

theorem final_2 : (dats m 0 c).arrAt 2 cfg0.N = fun i => at_ (prod m c) i := by
  have hN : cfg0.N = 8 := N_0
  refine (dats m 0 c).arrAt_eq_of_cover 2 _ (fun t ht => ?_) (fun i => ?_)
  · have hi := idx_2 t
    have ht' : t.val % 4 = 3 := (flush0_2 t).mp ht
    rw [Value.flushed2]
    funext y
    rw [View.read_apply]
    refine (congrArg (outsAt0 m c t.val t.isLt) (eq_ix3 (show Shape.Idx S4x128x1024 from y))).trans
      ((sum_2 m c t ht' (y 0) (y 1) (y 2)).trans ?_)
    exact congrArg₂ (prod m c)
      (Fin.ext (by show (t.val / 4) * 512 + ((y 0).val * 128 + (y 1).val) = (win0_2.index t 0 * 4 + 1 * (y 0).val) * 128 + (win0_2.index t 1 * 128 + 1 * (y 1).val); rw [hi.1, hi.2.1]; omega))
      (Fin.ext (by show (y 2).val = win0_2.index t 2 * 1024 + 1 * (y 2).val; rw [hi.2.2]; omega))
  · have h0 : (i 0).val < 8 := (i 0).isLt
    have h1 : (i 1).val < 128 := (i 1).isLt
    have h2 : (i 2).val < 1024 := (i 2).isLt
    let t : Fin cfg0.N := ⟨4 * ((i 0).val / 4) + 3, by omega⟩
    have hi := idx_2 t
    have hv : t.val = 4 * ((i 0).val / 4) + 3 := rfl
    refine ⟨t, (flush0_2 t).mpr (by omega), ?_⟩
    show i ∈ ((View.whole main_v0).slice (win0_2.rect t)).set
    rw [View.set_slice_whole, Rect.mem_set_unit]
    intro x
    match x with
    | ⟨0, _⟩ => show win0_2.index t 0 * 4 ≤ (i 0).val ∧ (i 0).val < win0_2.index t 0 * 4 + 4; rw [hi.1]; omega
    | ⟨1, _⟩ => show win0_2.index t 1 * 128 ≤ (i 1).val ∧ (i 1).val < win0_2.index t 1 * 128 + 128; rw [hi.2.1]; omega
    | ⟨2, _⟩ => show win0_2.index t 2 * 1024 ≤ (i 2).val ∧ (i 2).val < win0_2.index t 2 * 1024 + 1024; rw [hi.2.2]; omega

end Cert.Kernel7Ideal.Final

end
-- ==== Proof.GradWoRef.lean ====
/-
  The reference of the weight gradient call `gwo`, over the extended reals: its gradient, as the host computes it, is
  the product of the transposed activations and the cotangent, cut into the eight devices' slices.
-/
module

public import proofs.«01_k».proof.Proof.Layer
public import proofs.«01_k».proof.Proof.Gen.Reference7Ideal.Read
public import Idealize.ShloMosaic.Lib.Pointwise

@[expose] public section

set_option maxRecDepth 16384

noncomputable section

namespace Cert.Reference7Ideal.Grad

open Cert.Reference7Ideal Cert.Reference7Ideal.Read Idealize.ShloMosaic

variable (x0 x1 : FVec Ideal S4096x1024 .bf16)

abbrev A : Layer.Mat 4096 1024 := fun r k => x0 (ix2 r k)
abbrev Z : Layer.Mat 4096 1024 := fun r k => x1 (ix2 r k)

theorem grad_at (i j : Fin 1024) : val_main_v5 (F := Ideal) x0 x1 (ix2 i j) = Layer.tn (A x0) (Z x1) i j := by
  pointwise [val_main_v5, val_main_v4, val_main_v3, val_main_v1]
  exact Finset.sum_congr rfl fun r _ => mul_comm _ _

theorem grad_eq : val_main_v6 (F := Ideal) x0 x1 = fun i => Layer.tn (A x0) (Z x1) ⟨(i 0).val * 128 + (i 1).val, by
      have h0 : (i 0).val < 8 := (i 0).isLt
      have h1 : (i 1).val < 128 := (i 1).isLt
      omega⟩ (i 2) := by
  funext i
  idx_vars i
  pointwise [val_main_v6]
  exact grad_at ..

end Cert.Reference7Ideal.Grad

end
-- ==== Proof.GradWoClaims.lean ====
/-
  The claims about the weight gradient call `gwo`: the reference's run, and the equality of the call's array with the
  reference's gradient over the extended reals.
-/
module

public import proofs.«01_k».proof.Defs
public import proofs.«01_k».proof.Proof.GradWoValue
public import proofs.«01_k».proof.Proof.GradWoRef
public import proofs.«01_k».proof.Proof.Gen.Kernel7.Frame
public import proofs.«01_k».proof.Proof.Gen.Reference7Ideal.Run
public import proofs.«01_k».proof.Proof.Gen.Reference7Ideal.Read
public import Idealize.ShloMosaic.Adequacy
public import Idealize.ShloMosaic.Lib.Quiescent

@[expose] public section

set_option maxRecDepth 16384

noncomputable section

namespace Cert.GradWo

open Idealize.ShloMosaic Idealize.ShloMosaic.TcCoe Idealize.SL.Sem

theorem mat_2 (m : (ℓ : Loc Kernel7Ideal.nD Kernel7Ideal.τ Kernel7Ideal.sig) → Buf (Elt Ideal) ℓ) (c : Dev Kernel7Ideal.nD) :
    Layer.tn (Reference7Ideal.Grad.A (m ((c.tc : Thread Kernel7Ideal.nD Kernel7Ideal.τ).loc Kernel7Ideal.main_arg0))) (Reference7Ideal.Grad.Z (m ((c.tc : Thread Kernel7Ideal.nD Kernel7Ideal.τ).loc Kernel7Ideal.main_arg1))) = Kernel7Ideal.Final.prod m c := by
  simp only [Kernel7Ideal.Gen.V_main_arg0, Kernel7Ideal.Gen.V_main_arg1, Kernel7Ideal.Final.a, Kernel7Ideal.Final.b, Kernel7Ideal.Final.prod]
  try rfl

theorem out_2 (m : (ℓ : Loc Kernel7Ideal.nD Kernel7Ideal.τ Kernel7Ideal.sig) → Buf (Elt Ideal) ℓ) (c : Dev Kernel7Ideal.nD)
    {x0 x1} (h0 : x0 = m ((c.tc : Thread Kernel7Ideal.nD Kernel7Ideal.τ).loc Kernel7Ideal.main_arg0)) (h1 : x1 = m ((c.tc : Thread Kernel7Ideal.nD Kernel7Ideal.τ).loc Kernel7Ideal.main_arg1)) :
    Reference7Ideal.Read.val_main_v6 (F := Ideal) x0 x1 = (Kernel7Ideal.Gen.dats m 0 c).arrAt 2 Kernel7Ideal.cfg0.N := by
  subst h0 h1
  refine (Reference7Ideal.Grad.grad_eq _ _).trans (Eq.trans ?_ (Kernel7Ideal.Final.final_2 m c).symm)
  exact congrArg (fun M (i : Shape.Idx Kernel7Ideal.S8x128x1024) => M ⟨(i 0).val * 128 + (i 1).val, by have h0 : (i 0).val < 8 := (i 0).isLt; have h1 : (i 1).val < 128 := (i 1).isLt; omega⟩ (i 2)) (mat_2 m c)

/-- The reference runs and leaves its arguments alone. -/
theorem frame_reference : Cert.quiescent_Reference7Ideal := fun m g _ =>
  (θ_run Reference7Ideal.defs _ _).mono (fun r h => ⟨fun c => (h c).2, sem_eq_zero_of_no_sems (by decide) r.2⟩)
    (Reference7Ideal.Value.run m g)

/-- The call's arrays and the reference's are equal, element by element, over the extended reals. -/
theorem algebraic : Cert.algebraic_Kernel7Ideal_Reference7Ideal := by
  intro m g m' g' _ hargs
  refine ⟨fun c => (Kernel7Ideal.Gen.dats m 0 c).arrAt 2 Kernel7Ideal.cfg0.N,
    Kernel7Ideal.Value.run_blocks m g,
    (θ_run Reference7Ideal.defs _ _).mono (fun r h c => ?_) (Reference7Ideal.Value.run m' g')⟩
  obtain ⟨a0, a1⟩ := hargs c
  have hc := h c
  exact ⟨hc.1.trans ((Reference7Ideal.Read.val_main_v6_eq _ _).trans (out_2 m c a0 a1)),
    hc.2⟩

end Cert.GradWo

end
-- ==== Proof.NormInBlocks.lean ====
/-
  What the body of the forward call `ln_mod_matmul` leaves in each of its output windows at a grid point, as the named
  payloads of the point's input blocks, over any float values.
-/
module

public import proofs.«01_k».proof.Proof.Gen.Kernel8Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel8Ideal.Blocks

open Cert.Kernel8Ideal Cert.Kernel8Ideal.Gen Idealize.ShloMosaic Idealize.ShloMosaic.TcCoe Idealize.SL.Sem

variable {F : FTy → Type} [FloatOps F]
variable (m : (ℓ : Loc nD τ sig) → Buf (Elt F) ℓ)

theorem outs_5 (c : Dev nD) (t : Fin cfg0.N) : out0_5 (iblk m c 0 t) (iblk m c 1 t) (iblk m c 2 t) (iblk m c 3 t) (iblk m c 4 t) = k0_pay2 (iblk m c 0 t) (iblk m c 1 t) (iblk m c 2 t) (iblk m c 3 t) (iblk m c 4 t) := by
  frame_out

theorem outs_6 (c : Dev nD) (t : Fin cfg0.N) : out0_6 (iblk m c 0 t) (iblk m c 1 t) (iblk m c 2 t) (iblk m c 3 t) (iblk m c 4 t) = k0_pay1 (iblk m c 0 t) (iblk m c 1 t) (iblk m c 2 t) (iblk m c 3 t) := by
  frame_out

end Cert.Kernel8Ideal.Blocks

end
-- ==== Proof.NormInPay.lean ====
/-
  The payloads of the forward call `ln_mod_matmul` at an index, over the extended reals.
-/
module

public import proofs.«01_k».proof.Proof.Layer
public import proofs.«01_k».proof.Proof.Gen.Kernel8Ideal.Skeleton
public import Idealize.ShloMosaic.Lib.Pointwise

@[expose] public section

set_option maxRecDepth 16384

noncomputable section

namespace Cert.Kernel8Ideal.Pay

open Cert.Kernel8Ideal Cert.Kernel8Ideal.Gen Idealize.ShloMosaic

theorem h_apply (x : Vec Ideal S512x1024 .f32) (g sc sh : Vec Ideal S1x1024 .f32) (p : Fin 512) (j : Fin 1024) :
    k0_pay1 (F := Ideal) x g sc sh (ix2 p j)
      = x (ix2 p j) * Rows.inv (fun k => x (ix2 p k)) * g (ix2 0 j) * (1 + sc (ix2 0 j)) + sh (ix2 0 j) := by
  pointwise [k0_pay1]
  rfl

theorem proj_apply (x : Vec Ideal S512x1024 .f32) (g sc sh : Vec Ideal S1x1024 .f32) (w : Vec Ideal S1024x3072 .bf16)
    (p : Fin 512) (j : Fin 3072) :
    k0_pay2 (F := Ideal) x g sc sh w (ix2 p j)
      = ∑ k : Fin 1024, (x (ix2 p k) * Rows.inv (fun q => x (ix2 p q)) * g (ix2 0 k) * (1 + sc (ix2 0 k)) + sh (ix2 0 k)) * w (ix2 k j) := by
  pointwise [k0_pay2]
  simp only [h_apply]

end Cert.Kernel8Ideal.Pay

end
-- ==== Proof.NormInValue.lean ====
/-
  The arrays that the forward call `ln_mod_matmul` leaves, over the extended reals: the modulated rows and their product with
  the mixer's input weight.
-/
module

public import proofs.«01_k».proof.Proof.NormInBlocks
public import proofs.«01_k».proof.Proof.NormInPay
public import proofs.«01_k».proof.Proof.Layer
public import proofs.«01_k».proof.Proof.Gen.Kernel8Ideal.Value

@[expose] public section

set_option maxRecDepth 16384

noncomputable section

namespace Cert.Kernel8Ideal.Final

open Cert.Kernel8Ideal Cert.Kernel8Ideal.Gen Cert.Kernel8Ideal.Blocks Cert.Kernel8Ideal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev x : Layer.Mat 4096 1024 := fun r k => V m c main_arg0 (ix2 r k)
abbrev g : Fin 1024 → EReal := fun k => V m c main_arg1 (ix2 0 k)
abbrev sc : Fin 1024 → EReal := fun k => V m c main_arg2 (ix2 0 k)
abbrev sh : Fin 1024 → EReal := fun k => V m c main_arg3 (ix2 0 k)
abbrev w : Layer.Mat 1024 3072 := fun r k => V m c main_arg4 (ix2 r k)
abbrev h : Layer.Mat 4096 1024 := Layer.adaln (x m c) (g m c) (sc m c) (sh m c)
abbrev proj : Layer.Mat 4096 3072 := Layer.nn (h m c) (w m c)

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 1024) : iblk m c 0 t (ix2 p k) = x m c (row t p) k := by
  have hi := idx_0 t
  unfold iblk
  rw [View.read_apply]
  show V m c main_arg0 _ = V m c main_arg0 _
  congr 1; funext a; apply Fin.ext
  match a with
  | ⟨0, _⟩ => show win0_0.index t 0 * 512 + 1 * p.val = (t.val) * 512 + p.val; rw [hi.1]; omega
  | ⟨1, _⟩ => show win0_0.index t 1 * 1024 + 1 * k.val = k.val; rw [hi.2]; omega

theorem idx_1 (t : Fin cfg0.N) : win0_1.index t 0 = 0 ∧ win0_1.index t 1 = 0 :=
  (by decide +kernel : ∀ t : Fin grid0.N, win0_1.index t 0 = 0 ∧ win0_1.index t 1 = 0) t

theorem blk_1 (t : Fin cfg0.N) (k : Fin 1024) : iblk m c 1 t (ix2 0 k) = g m c k := by
  have hi := idx_1 t
  unfold iblk
  rw [View.read_apply]
  show V m c main_arg1 _ = V m c main_arg1 _
  congr 1; funext a; apply Fin.ext
  match a with
  | ⟨0, _⟩ => show win0_1.index t 0 * 1 + 1 * (0 : Fin 1).val = (0 : Fin 1).val; rw [hi.1]; omega
  | ⟨1, _⟩ => show win0_1.index t 1 * 1024 + 1 * k.val = k.val; rw [hi.2]; omega

theorem idx_2 (t : Fin cfg0.N) : win0_2.index t 0 = 0 ∧ win0_2.index t 1 = 0 :=
  (by decide +kernel : ∀ t : Fin grid0.N, win0_2.index t 0 = 0 ∧ win0_2.index t 1 = 0) t

theorem blk_2 (t : Fin cfg0.N) (k : Fin 1024) : iblk m c 2 t (ix2 0 k) = sc m c k := by
  have hi := idx_2 t
  unfold iblk
  rw [View.read_apply]
  show V m c main_arg2 _ = V m c main_arg2 _
  congr 1; funext a; apply Fin.ext
  match a with
  | ⟨0, _⟩ => show win0_2.index t 0 * 1 + 1 * (0 : Fin 1).val = (0 : Fin 1).val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (k : Fin 1024) : iblk m c 3 t (ix2 0 k) = sh m c k := by
  have hi := idx_3 t
  unfold iblk
  rw [View.read_apply]
  show V m c main_arg3 _ = V m c main_arg3 _
  congr 1; funext a; apply Fin.ext
  match a with
  | ⟨0, _⟩ => show win0_3.index t 0 * 1 + 1 * (0 : Fin 1).val = (0 : Fin 1).val; rw [hi.1]; omega
  | ⟨1, _⟩ => show win0_3.index t 1 * 1024 + 1 * k.val = k.val; rw [hi.2]; omega

theorem idx_4 (t : Fin cfg0.N) : win0_4.index t 0 = 0 ∧ win0_4.index t 1 = 0 :=
  (by decide +kernel : ∀ t : Fin grid0.N, win0_4.index t 0 = 0 ∧ win0_4.index t 1 = 0) t

theorem blk_4 (t : Fin cfg0.N) (p : Fin 1024) (k : Fin 3072) : iblk m c 4 t (ix2 p k) = w m c p k := by
  have hi := idx_4 t
  unfold iblk
  rw [View.read_apply]
  show V m c main_arg4 _ = V m c main_arg4 _
  congr 1; funext a; apply Fin.ext
  match a with
  | ⟨0, _⟩ => show win0_4.index t 0 * 1024 + 1 * p.val = p.val; rw [hi.1]; omega
  | ⟨1, _⟩ => show win0_4.index t 1 * 3072 + 1 * k.val = k.val; rw [hi.2]; omega

/-! ## The arrays left -/

theorem idx_5 (t : Fin cfg0.N) : win0_5.index t 0 = t.val ∧ win0_5.index t 1 = 0 :=
  (by decide +kernel : ∀ t : Fin grid0.N, win0_5.index t 0 = t.val ∧ win0_5.index t 1 = 0) t

theorem pay_5 (t : Fin cfg0.N) (p : Fin 512) (j : Fin 3072) :
    (k0_pay2 (F := Ideal) (iblk m c 0 t) (iblk m c 1 t) (iblk m c 2 t) (iblk m c 3 t) (iblk m c 4 t)) (ix2 p j) = proj m c (row t p) j := by
  rw [proj_apply]
  simp only [blk_0, blk_1, blk_2, blk_3, blk_4]
  rfl

theorem final_5 : (dats m 0 c).arrAt 5 cfg0.N = fun i => proj m c (i 0) (i 1) := by
  refine (dats m 0 c).arrAt_eq_of_cover 5 _ (fun t _ => ?_) (fun i => ?_)
  · have hi := idx_5 t
    rw [Value.flushed5, Blocks.outs_5]
    funext y
    rw [View.read_apply]
    refine (congrArg ((k0_pay2 (F := Ideal) (iblk m c 0 t) (iblk m c 1 t) (iblk m c 2 t) (iblk m c 3 t) (iblk m c 4 t))) (eq_ix2 (show Shape.Idx S512x3072 from y))).trans ((pay_5 m c t (y 0) (y 1)).trans ?_)
    exact congrArg₂ (proj m c)
      (Fin.ext (by show (t.val) * 512 + (y 0).val = win0_5.index t 0 * 512 + 1 * (y 0).val; rw [hi.1]; omega))
      (Fin.ext (by show (y 1).val = win0_5.index t 1 * 3072 + 1 * (y 1).val; rw [hi.2]; omega))
  · have h0 : (i 0).val < 4096 := (i 0).isLt
    have h1 : (i 1).val < 3072 := (i 1).isLt
    have hN : cfg0.N = 8 := N_0
    let t : Fin cfg0.N := ⟨(i 0).val / 512, by omega⟩
    have hi := idx_5 t
    have hv : t.val = (i 0).val / 512 := rfl
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 3072 ≤ (i 1).val ∧ (i 1).val < win0_5.index t 1 * 3072 + 3072; rw [hi.2]; omega

theorem idx_6 (t : Fin cfg0.N) : win0_6.index t 0 = t.val ∧ win0_6.index t 1 = 0 :=
  (by decide +kernel : ∀ t : Fin grid0.N, win0_6.index t 0 = t.val ∧ win0_6.index t 1 = 0) t

theorem pay_6 (t : Fin cfg0.N) (p : Fin 512) (j : Fin 1024) :
    (k0_pay1 (F := Ideal) (iblk m c 0 t) (iblk m c 1 t) (iblk m c 2 t) (iblk m c 3 t)) (ix2 p j) = h m c (row t p) j := by
  rw [h_apply]
  simp only [blk_0, blk_1, blk_2, blk_3, blk_4]
  rfl

theorem final_6 : (dats m 0 c).arrAt 6 cfg0.N = fun i => h m c (i 0) (i 1) := by
  refine (dats m 0 c).arrAt_eq_of_cover 6 _ (fun t _ => ?_) (fun i => ?_)
  · have hi := idx_6 t
    rw [Value.flushed6, Blocks.outs_6]
    funext y
    rw [View.read_apply]
    refine (congrArg ((k0_pay1 (F := Ideal) (iblk m c 0 t) (iblk m c 1 t) (iblk m c 2 t) (iblk m c 3 t))) (eq_ix2 (show Shape.Idx S512x1024 from y))).trans ((pay_6 m c t (y 0) (y 1)).trans ?_)
    exact congrArg₂ (h m c)
      (Fin.ext (by show (t.val) * 512 + (y 0).val = win0_6.index t 0 * 512 + 1 * (y 0).val; rw [hi.1]; omega))
      (Fin.ext (by show (y 1).val = win0_6.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_6 t
    have hv : t.val = (i 0).val / 512 := rfl
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0).val ∧ (i 0).val < win0_6.index t 0 * 512 + 512; rw [hi.1]; omega
    | ⟨1, _⟩ => show win0_6.index t 1 * 1024 ≤ (i 1).val ∧ (i 1).val < win0_6.index t 1 * 1024 + 1024; rw [hi.2]; omega

end Cert.Kernel8Ideal.Final

end
-- ==== Proof.NormInRef.lean ====
/-
  The reference of the forward call `ln_mod_matmul`, over the extended reals: its arrays, as the host computes them, are the layer's
  values (`Layer`) as functions of plain matrices.
-/
module

public import proofs.«01_k».proof.Proof.Layer
public import proofs.«01_k».proof.Proof.Gen.Reference8Ideal.Read
public import Idealize.ShloMosaic.Lib.Pointwise

@[expose] public section

set_option maxRecDepth 16384

noncomputable section

namespace Cert.Reference8Ideal.Grad

open Cert.Reference8Ideal Cert.Reference8Ideal.Read Idealize.ShloMosaic

variable (x0 : FVec Ideal S4096x1024 .f32) (x1 x2 x3 : FVec Ideal S1x1024 .f32) (x4 : FVec Ideal S1024x3072 .bf16)

abbrev X : Layer.Mat 4096 1024 := fun r k => x0 (ix2 r k)
abbrev G : Fin 1024 → EReal := fun k => x1 (ix2 0 k)
abbrev SC : Fin 1024 → EReal := fun k => x2 (ix2 0 k)
abbrev SH : Fin 1024 → EReal := fun k => x3 (ix2 0 k)
abbrev W : Layer.Mat 1024 3072 := fun r k => x4 (ix2 r k)

theorem ms_at (r : Fin 4096) : val_main_v6 (F := Ideal) x0 (ix2 r 0) = Rows.ms (X x0 r) := by
  pointwise [val_main_v6, val_main_v5, val_main_v4, val_main_v3, val_main_v2, val_main_v1, val_main_v0, val_main_cst, val_main_cst_0, val_main_cst_1]
  rfl

theorem inv_at (r : Fin 4096) : val_main_v7 (F := Ideal) x0 (ix2 r 0) = Rows.inv (X x0 r) := by
  pointwise [val_main_v7]
  rw [ms_at]
  rfl

theorem hat_at (r : Fin 4096) (j : Fin 1024) :
    val_main_v9 (F := Ideal) x0 (ix2 r j) = Layer.hat (X x0) r j := by
  pointwise [val_main_v9, val_main_v8]
  rw [inv_at]
  rfl

theorem h_at (r : Fin 4096) (j : Fin 1024) :
    val_main_v17 (F := Ideal) x0 x1 x2 x3 (ix2 r j) = Layer.adaln (X x0) (G x1) (SC x2) (SH x3) r j := by
  pointwise [val_main_v17, val_main_v16, val_main_v15, val_main_v14, val_main_v13, val_main_v12, val_main_v11, val_main_v10, val_main_cst_2]
  rw [hat_at]
  rfl

theorem h_eq : val_main_v21 (F := Ideal) x0 x1 x2 x3 = fun i => Layer.adaln (X x0) (G x1) (SC x2) (SH x3) (i 0) (i 1) := by
  funext i
  idx_vars i
  pointwise [val_main_v21]
  exact h_at ..

theorem proj_eq : val_main_v20 (F := Ideal) x0 x1 x2 x3 x4
    = fun i => Layer.nn (Layer.adaln (X x0) (G x1) (SC x2) (SH x3)) (W x4) (i 0) (i 1) := by
  funext i
  idx_vars i
  pointwise [val_main_v20, val_main_v19, val_main_v18]
  simp only [h_at]
  rfl

end Cert.Reference8Ideal.Grad

end
-- ==== Proof.NormInClaims.lean ====
/-
  The claims about the forward call `ln_mod_matmul`: the reference's run, and the equality of the call's two arrays with the
  reference's over the extended reals.
-/
module

public import proofs.«01_k».proof.Defs
public import proofs.«01_k».proof.Proof.NormInValue
public import proofs.«01_k».proof.Proof.NormInRef
public import proofs.«01_k».proof.Proof.Gen.Kernel8.Frame
public import proofs.«01_k».proof.Proof.Gen.Reference8Ideal.Run
public import proofs.«01_k».proof.Proof.Gen.Reference8Ideal.Read
public import Idealize.ShloMosaic.Adequacy
public import Idealize.ShloMosaic.Lib.Quiescent

@[expose] public section

set_option maxRecDepth 16384

noncomputable section

namespace Cert.NormIn

open Idealize.ShloMosaic Idealize.ShloMosaic.TcCoe Idealize.SL.Sem

theorem mat_5 (m : (ℓ : Loc Kernel8Ideal.nD Kernel8Ideal.τ Kernel8Ideal.sig) → Buf (Elt Ideal) ℓ) (c : Dev Kernel8Ideal.nD) :
    Layer.nn (Layer.adaln (Reference8Ideal.Grad.X (m ((c.tc : Thread Kernel8Ideal.nD Kernel8Ideal.τ).loc Kernel8Ideal.main_arg0))) (Reference8Ideal.Grad.G (m ((c.tc : Thread Kernel8Ideal.nD Kernel8Ideal.τ).loc Kernel8Ideal.main_arg1))) (Reference8Ideal.Grad.SC (m ((c.tc : Thread Kernel8Ideal.nD Kernel8Ideal.τ).loc Kernel8Ideal.main_arg2))) (Reference8Ideal.Grad.SH (m ((c.tc : Thread Kernel8Ideal.nD Kernel8Ideal.τ).loc Kernel8Ideal.main_arg3)))) (Reference8Ideal.Grad.W (m ((c.tc : Thread Kernel8Ideal.nD Kernel8Ideal.τ).loc Kernel8Ideal.main_arg4))) = Kernel8Ideal.Final.proj m c := by
  simp only [Kernel8Ideal.Gen.V_main_arg0, Kernel8Ideal.Gen.V_main_arg1, Kernel8Ideal.Gen.V_main_arg2, Kernel8Ideal.Gen.V_main_arg3, Kernel8Ideal.Gen.V_main_arg4, Kernel8Ideal.Final.x, Kernel8Ideal.Final.g, Kernel8Ideal.Final.sc, Kernel8Ideal.Final.sh, Kernel8Ideal.Final.w, Kernel8Ideal.Final.h, Kernel8Ideal.Final.proj]
  try rfl

theorem out_5 (m : (ℓ : Loc Kernel8Ideal.nD Kernel8Ideal.τ Kernel8Ideal.sig) → Buf (Elt Ideal) ℓ) (c : Dev Kernel8Ideal.nD)
    {x0 x1 x2 x3 x4} (h0 : x0 = m ((c.tc : Thread Kernel8Ideal.nD Kernel8Ideal.τ).loc Kernel8Ideal.main_arg0)) (h1 : x1 = m ((c.tc : Thread Kernel8Ideal.nD Kernel8Ideal.τ).loc Kernel8Ideal.main_arg1)) (h2 : x2 = m ((c.tc : Thread Kernel8Ideal.nD Kernel8Ideal.τ).loc Kernel8Ideal.main_arg2)) (h3 : x3 = m ((c.tc : Thread Kernel8Ideal.nD Kernel8Ideal.τ).loc Kernel8Ideal.main_arg3)) (h4 : x4 = m ((c.tc : Thread Kernel8Ideal.nD Kernel8Ideal.τ).loc Kernel8Ideal.main_arg4)) :
    Reference8Ideal.Read.val_main_v20 (F := Ideal) x0 x1 x2 x3 x4 = (Kernel8Ideal.Gen.dats m 0 c).arrAt 5 Kernel8Ideal.cfg0.N := by
  subst h0 h1 h2 h3 h4
  refine (Reference8Ideal.Grad.proj_eq _ _ _ _ _).trans (Eq.trans ?_ (Kernel8Ideal.Final.final_5 m c).symm)
  exact congrArg (fun M (i : Shape.Idx Kernel8Ideal.S4096x3072) => M (i 0) (i 1)) (mat_5 m c)

theorem mat_6 (m : (ℓ : Loc Kernel8Ideal.nD Kernel8Ideal.τ Kernel8Ideal.sig) → Buf (Elt Ideal) ℓ) (c : Dev Kernel8Ideal.nD) :
    (Layer.adaln (Reference8Ideal.Grad.X (m ((c.tc : Thread Kernel8Ideal.nD Kernel8Ideal.τ).loc Kernel8Ideal.main_arg0))) (Reference8Ideal.Grad.G (m ((c.tc : Thread Kernel8Ideal.nD Kernel8Ideal.τ).loc Kernel8Ideal.main_arg1))) (Reference8Ideal.Grad.SC (m ((c.tc : Thread Kernel8Ideal.nD Kernel8Ideal.τ).loc Kernel8Ideal.main_arg2))) (Reference8Ideal.Grad.SH (m ((c.tc : Thread Kernel8Ideal.nD Kernel8Ideal.τ).loc Kernel8Ideal.main_arg3)))) = Kernel8Ideal.Final.h m c := by
  simp only [Kernel8Ideal.Gen.V_main_arg0, Kernel8Ideal.Gen.V_main_arg1, Kernel8Ideal.Gen.V_main_arg2, Kernel8Ideal.Gen.V_main_arg3, Kernel8Ideal.Gen.V_main_arg4, Kernel8Ideal.Final.x, Kernel8Ideal.Final.g, Kernel8Ideal.Final.sc, Kernel8Ideal.Final.sh, Kernel8Ideal.Final.w, Kernel8Ideal.Final.h, Kernel8Ideal.Final.proj]
  try rfl

theorem out_6 (m : (ℓ : Loc Kernel8Ideal.nD Kernel8Ideal.τ Kernel8Ideal.sig) → Buf (Elt Ideal) ℓ) (c : Dev Kernel8Ideal.nD)
    {x0 x1 x2 x3} (h0 : x0 = m ((c.tc : Thread Kernel8Ideal.nD Kernel8Ideal.τ).loc Kernel8Ideal.main_arg0)) (h1 : x1 = m ((c.tc : Thread Kernel8Ideal.nD Kernel8Ideal.τ).loc Kernel8Ideal.main_arg1)) (h2 : x2 = m ((c.tc : Thread Kernel8Ideal.nD Kernel8Ideal.τ).loc Kernel8Ideal.main_arg2)) (h3 : x3 = m ((c.tc : Thread Kernel8Ideal.nD Kernel8Ideal.τ).loc Kernel8Ideal.main_arg3)) :
    Reference8Ideal.Read.val_main_v21 (F := Ideal) x0 x1 x2 x3 = (Kernel8Ideal.Gen.dats m 0 c).arrAt 6 Kernel8Ideal.cfg0.N := by
  subst h0 h1 h2 h3
  refine (Reference8Ideal.Grad.h_eq _ _ _ _).trans (Eq.trans ?_ (Kernel8Ideal.Final.final_6 m c).symm)
  exact congrArg (fun M (i : Shape.Idx Kernel8Ideal.S4096x1024) => M (i 0) (i 1)) (mat_6 m c)

/-- The reference runs and leaves its arguments alone. -/
theorem frame_reference : Cert.quiescent_Reference8Ideal := fun m g _ =>
  (θ_run Reference8Ideal.defs _ _).mono (fun r h => ⟨fun c => (h c).2.2, sem_eq_zero_of_no_sems (by decide) r.2⟩)
    (Reference8Ideal.Value.run m g)

/-- The call's arrays and the reference's are equal, element by element, over the extended reals. -/
theorem algebraic : Cert.algebraic_Kernel8Ideal_Reference8Ideal := by
  intro m g m' g' _ hargs
  refine ⟨fun c => (Kernel8Ideal.Gen.dats m 0 c).arrAt 5 Kernel8Ideal.cfg0.N, fun c => (Kernel8Ideal.Gen.dats m 0 c).arrAt 6 Kernel8Ideal.cfg0.N,
    Kernel8Ideal.Value.run_blocks m g,
    (θ_run Reference8Ideal.defs _ _).mono (fun r h c => ?_) (Reference8Ideal.Value.run m' g')⟩
  obtain ⟨a0, a1, a2, a3, a4⟩ := hargs c
  have hc := h c
  exact ⟨hc.1.trans ((Reference8Ideal.Read.val_main_v20_eq _ _ _ _ _).trans (out_5 m c a0 a1 a2 a3 a4)),
    hc.2.1.trans ((Reference8Ideal.Read.val_main_v21_eq _ _ _ _).trans (out_6 m c a0 a1 a2 a3)),
    hc.2.2⟩

end Cert.NormIn

end
-- ==== Proof.AttnOutBlocks.lean ====
/-
  What the body of the forward call `attn_out_mlp_in` leaves in each of its output windows at a grid point, as the named
  payloads of the point's input blocks, over any float values.
-/
module

public import proofs.«01_k».proof.Proof.Gen.Kernel9Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel9Ideal.Blocks

open Cert.Kernel9Ideal Cert.Kernel9Ideal.Gen Idealize.ShloMosaic Idealize.ShloMosaic.TcCoe Idealize.SL.Sem

variable {F : FTy → Type} [FloatOps F]
variable (m : (ℓ : Loc nD τ sig) → Buf (Elt F) ℓ)

theorem outs_8 (c : Dev nD) (t : Fin cfg0.N) : out0_8 (iblk m c 0 t) (iblk m c 1 t) (iblk m c 2 t) (iblk m c 3 t) (iblk m c 4 t) (iblk m c 5 t) (iblk m c 6 t) (iblk m c 7 t) = k0_pay4 (iblk m c 0 t) (iblk m c 1 t) (iblk m c 2 t) (iblk m c 3 t) := by
  frame_out

theorem outs_9 (c : Dev nD) (t : Fin cfg0.N) : out0_9 (iblk m c 0 t) (iblk m c 1 t) (iblk m c 2 t) (iblk m c 3 t) (iblk m c 4 t) (iblk m c 5 t) (iblk m c 6 t) (iblk m c 7 t) = k0_pay3 (iblk m c 0 t) (iblk m c 1 t) := by
  frame_out

theorem outs_10 (c : Dev nD) (t : Fin cfg0.N) : out0_10 (iblk m c 0 t) (iblk m c 1 t) (iblk m c 2 t) (iblk m c 3 t) (iblk m c 4 t) (iblk m c 5 t) (iblk m c 6 t) (iblk m c 7 t) = k0_pay1 (k0_pay5 (iblk m c 0 t) (iblk m c 1 t) (iblk m c 2 t) (iblk m c 3 t) (iblk m c 4 t) (iblk m c 5 t) (iblk m c 6 t)) (iblk m c 7 t) := by
  unfold_out out0_10
  frame_out

theorem outs_11 (c : Dev nD) (t : Fin cfg0.N) : out0_11 (iblk m c 0 t) (iblk m c 1 t) (iblk m c 2 t) (iblk m c 3 t) (iblk m c 4 t) (iblk m c 5 t) (iblk m c 6 t) (iblk m c 7 t) = k0_pay5 (iblk m c 0 t) (iblk m c 1 t) (iblk m c 2 t) (iblk m c 3 t) (iblk m c 4 t) (iblk m c 5 t) (iblk m c 6 t) := by
  unfold_out out0_11
  frame_out

end Cert.Kernel9Ideal.Blocks

end
-- ==== Proof.AttnOutPay.lean ====
/-
  The payloads of the forward call `attn_out_mlp_in` at an index, over the extended reals.
-/
module

public import proofs.«01_k».proof.Proof.Layer
public import proofs.«01_k».proof.Proof.Gen.Kernel9Ideal.Skeleton
public import Idealize.ShloMosaic.Lib.Pointwise

@[expose] public section

set_option maxRecDepth 16384

noncomputable section

namespace Cert.Kernel9Ideal.Pay

open Cert.Kernel9Ideal Cert.Kernel9Ideal.Gen Idealize.ShloMosaic

theorem f_apply (a : Vec Ideal S512x1024 .bf16) (w : Vec Ideal S1024x1024 .bf16) (p : Fin 512) (j : Fin 1024) :
    k0_pay2 (F := Ideal) a w (ix2 p j) = ∑ k : Fin 1024, a (ix2 p k) * w (ix2 k j) := by
  pointwise [k0_pay2]

theorem fcast_apply (a : Vec Ideal S512x1024 .bf16) (w : Vec Ideal S1024x1024 .bf16) (p : Fin 512) (j : Fin 1024) :
    k0_pay3 (F := Ideal) a w (ix2 p j) = ∑ k : Fin 1024, a (ix2 p k) * w (ix2 k j) := by
  rw [← f_apply]
  pointwise [k0_pay3]

theorem x1_apply (a : Vec Ideal S512x1024 .bf16) (w : Vec Ideal S1024x1024 .bf16) (x : Vec Ideal S512x1024 .f32) (gt : Vec Ideal S1x1024 .f32)
    (p : Fin 512) (j : Fin 1024) :
    k0_pay4 (F := Ideal) a w x gt (ix2 p j)
      = x (ix2 p j) + gt (ix2 0 j) * ∑ k : Fin 1024, a (ix2 p k) * w (ix2 k j) := by
  rw [← f_apply]
  pointwise [k0_pay4]

theorem h_apply (a : Vec Ideal S512x1024 .bf16) (w : Vec Ideal S1024x1024 .bf16) (x : Vec Ideal S512x1024 .f32)
    (gt g sc sh : Vec Ideal S1x1024 .f32) (p : Fin 512) (j : Fin 1024) :
    k0_pay5 (F := Ideal) a w x gt g sc sh (ix2 p j)
      = k0_pay4 (F := Ideal) a w x gt (ix2 p j) * Rows.inv (fun k => k0_pay4 (F := Ideal) a w x gt (ix2 p k)) * g (ix2 0 j)
          * (1 + sc (ix2 0 j)) + sh (ix2 0 j) := by
  pointwise [k0_pay5]
  rfl

theorem u_apply (h : FVec Ideal S512x1024 .bf16) (w : Vec Ideal S1024x4096 .bf16) (p : Fin 512) (j : Fin 4096) :
    k0_pay1 (F := Ideal) h w (ix2 p j) = ∑ k : Fin 1024, h (ix2 p k) * w (ix2 k j) := by
  pointwise [k0_pay1]

end Cert.Kernel9Ideal.Pay

end
-- ==== Proof.AttnOutValue.lean ====
/-
  The arrays that the forward call `attn_out_mlp_in` leaves, over the extended reals: the mixer's output product, the gated
  residual sum, its modulated rows and their product with the first weight of the squared-ReLU half.
-/
module

public import proofs.«01_k».proof.Proof.AttnOutBlocks
public import proofs.«01_k».proof.Proof.AttnOutPay
public import proofs.«01_k».proof.Proof.Layer
public import proofs.«01_k».proof.Proof.Gen.Kernel9Ideal.Value

@[expose] public section

set_option maxRecDepth 16384

noncomputable section

namespace Cert.Kernel9Ideal.Final

open Cert.Kernel9Ideal Cert.Kernel9Ideal.Gen Cert.Kernel9Ideal.Blocks Cert.Kernel9Ideal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev a : Layer.Mat 4096 1024 := fun r k => V m c main_arg0 (ix2 r k)
abbrev wo : Layer.Mat 1024 1024 := fun r k => V m c main_arg1 (ix2 r k)
abbrev x : Layer.Mat 4096 1024 := fun r k => V m c main_arg2 (ix2 r k)
abbrev gt : Fin 1024 → EReal := fun k => V m c main_arg3 (ix2 0 k)
abbrev g : Fin 1024 → EReal := fun k => V m c main_arg4 (ix2 0 k)
abbrev sc : Fin 1024 → EReal := fun k => V m c main_arg5 (ix2 0 k)
abbrev sh : Fin 1024 → EReal := fun k => V m c main_arg6 (ix2 0 k)
abbrev w : Layer.Mat 1024 4096 := fun r k => V m c main_arg7 (ix2 r k)
abbrev f : Layer.Mat 4096 1024 := Layer.nn (a m c) (wo m c)
abbrev x1 : Layer.Mat 4096 1024 := Layer.resid (x m c) (gt m c) (f m c)
abbrev h : Layer.Mat 4096 1024 := Layer.adaln (x1 m c) (g m c) (sc m c) (sh m c)
abbrev u : Layer.Mat 4096 4096 := Layer.nn (h m c) (w m c)

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 1024) : iblk m c 0 t (ix2 p k) = a m c (row t p) k := by
  have hi := idx_0 t
  unfold iblk
  rw [View.read_apply]
  show V m c main_arg0 _ = V m c main_arg0 _
  congr 1; funext a; apply Fin.ext
  match a with
  | ⟨0, _⟩ => show win0_0.index t 0 * 512 + 1 * p.val = (t.val) * 512 + p.val; rw [hi.1]; omega
  | ⟨1, _⟩ => show win0_0.index t 1 * 1024 + 1 * k.val = k.val; rw [hi.2]; omega

theorem idx_1 (t : Fin cfg0.N) : win0_1.index t 0 = 0 ∧ win0_1.index t 1 = 0 :=
  (by decide +kernel : ∀ t : Fin grid0.N, win0_1.index t 0 = 0 ∧ win0_1.index t 1 = 0) t

theorem blk_1 (t : Fin cfg0.N) (p : Fin 1024) (k : Fin 1024) : iblk m c 1 t (ix2 p k) = wo m c p k := by
  have hi := idx_1 t
  unfold iblk
  rw [View.read_apply]
  show V m c main_arg1 _ = V m c main_arg1 _
  congr 1; funext a; apply Fin.ext
  match a with
  | ⟨0, _⟩ => show win0_1.index t 0 * 1024 + 1 * p.val = p.val; rw [hi.1]; omega
  | ⟨1, _⟩ => show win0_1.index t 1 * 1024 + 1 * k.val = k.val; rw [hi.2]; omega

theorem idx_2 (t : Fin cfg0.N) : win0_2.index t 0 = t.val ∧ win0_2.index t 1 = 0 :=
  (by decide +kernel : ∀ t : Fin grid0.N, win0_2.index t 0 = t.val ∧ win0_2.index t 1 = 0) t

theorem blk_2 (t : Fin cfg0.N) (p : Fin 512) (k : Fin 1024) : iblk m c 2 t (ix2 p k) = x m c (row t p) k := by
  have hi := idx_2 t
  unfold iblk
  rw [View.read_apply]
  show V m c main_arg2 _ = V m c main_arg2 _
  congr 1; funext a; apply Fin.ext
  match a with
  | ⟨0, _⟩ => show win0_2.index t 0 * 512 + 1 * p.val = (t.val) * 512 + p.val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (k : Fin 1024) : iblk m c 3 t (ix2 0 k) = gt m c k := by
  have hi := idx_3 t
  unfold iblk
  rw [View.read_apply]
  show V m c main_arg3 _ = V m c main_arg3 _
  congr 1; funext a; apply Fin.ext
  match a with
  | ⟨0, _⟩ => show win0_3.index t 0 * 1 + 1 * (0 : Fin 1).val = (0 : Fin 1).val; rw [hi.1]; omega
  | ⟨1, _⟩ => show win0_3.index t 1 * 1024 + 1 * k.val = k.val; rw [hi.2]; omega

theorem idx_4 (t : Fin cfg0.N) : win0_4.index t 0 = 0 ∧ win0_4.index t 1 = 0 :=
  (by decide +kernel : ∀ t : Fin grid0.N, win0_4.index t 0 = 0 ∧ win0_4.index t 1 = 0) t

theorem blk_4 (t : Fin cfg0.N) (k : Fin 1024) : iblk m c 4 t (ix2 0 k) = g m c k := by
  have hi := idx_4 t
  unfold iblk
  rw [View.read_apply]
  show V m c main_arg4 _ = V m c main_arg4 _
  congr 1; funext a; apply Fin.ext
  match a with
  | ⟨0, _⟩ => show win0_4.index t 0 * 1 + 1 * (0 : Fin 1).val = (0 : Fin 1).val; rw [hi.1]; omega
  | ⟨1, _⟩ => show win0_4.index t 1 * 1024 + 1 * k.val = k.val; rw [hi.2]; omega

theorem idx_5 (t : Fin cfg0.N) : win0_5.index t 0 = 0 ∧ win0_5.index t 1 = 0 :=
  (by decide +kernel : ∀ t : Fin grid0.N, win0_5.index t 0 = 0 ∧ win0_5.index t 1 = 0) t

theorem blk_5 (t : Fin cfg0.N) (k : Fin 1024) : iblk m c 5 t (ix2 0 k) = sc m c k := by
  have hi := idx_5 t
  unfold iblk
  rw [View.read_apply]
  show V m c main_arg5 _ = V m c main_arg5 _
  congr 1; funext a; apply Fin.ext
  match a with
  | ⟨0, _⟩ => show win0_5.index t 0 * 1 + 1 * (0 : Fin 1).val = (0 : Fin 1).val; rw [hi.1]; omega
  | ⟨1, _⟩ => show win0_5.index t 1 * 1024 + 1 * k.val = k.val; rw [hi.2]; omega

theorem idx_6 (t : Fin cfg0.N) : win0_6.index t 0 = 0 ∧ win0_6.index t 1 = 0 :=
  (by decide +kernel : ∀ t : Fin grid0.N, win0_6.index t 0 = 0 ∧ win0_6.index t 1 = 0) t

theorem blk_6 (t : Fin cfg0.N) (k : Fin 1024) : iblk m c 6 t (ix2 0 k) = sh m c k := by
  have hi := idx_6 t
  unfold iblk
  rw [View.read_apply]
  show V m c main_arg6 _ = V m c main_arg6 _
  congr 1; funext a; apply Fin.ext
  match a with
  | ⟨0, _⟩ => show win0_6.index t 0 * 1 + 1 * (0 : Fin 1).val = (0 : Fin 1).val; rw [hi.1]; omega
  | ⟨1, _⟩ => show win0_6.index t 1 * 1024 + 1 * k.val = k.val; rw [hi.2]; omega

theorem idx_7 (t : Fin cfg0.N) : win0_7.index t 0 = 0 ∧ win0_7.index t 1 = 0 :=
  (by decide +kernel : ∀ t : Fin grid0.N, win0_7.index t 0 = 0 ∧ win0_7.index t 1 = 0) t

theorem blk_7 (t : Fin cfg0.N) (p : Fin 1024) (k : Fin 4096) : iblk m c 7 t (ix2 p k) = w m c p k := by
  have hi := idx_7 t
  unfold iblk
  rw [View.read_apply]
  show V m c main_arg7 _ = V m c main_arg7 _
  congr 1; funext a; apply Fin.ext
  match a with
  | ⟨0, _⟩ => show win0_7.index t 0 * 1024 + 1 * p.val = p.val; rw [hi.1]; omega
  | ⟨1, _⟩ => show win0_7.index t 1 * 4096 + 1 * k.val = k.val; rw [hi.2]; omega

/-! ## The arrays left -/

theorem idx_8 (t : Fin cfg0.N) : win0_8.index t 0 = t.val ∧ win0_8.index t 1 = 0 :=
  (by decide +kernel : ∀ t : Fin grid0.N, win0_8.index t 0 = t.val ∧ win0_8.index t 1 = 0) t

theorem pay_8 (t : Fin cfg0.N) (p : Fin 512) (j : Fin 1024) :
    (k0_pay4 (F := Ideal) (iblk m c 0 t) (iblk m c 1 t) (iblk m c 2 t) (iblk m c 3 t)) (ix2 p j) = x1 m c (row t p) j := by
  rw [x1_apply]
  simp only [blk_0, blk_1, blk_2, blk_3, blk_4, blk_5, blk_6, blk_7]
  rfl

theorem final_8 : (dats m 0 c).arrAt 8 cfg0.N = fun i => x1 m c (i 0) (i 1) := by
  refine (dats m 0 c).arrAt_eq_of_cover 8 _ (fun t _ => ?_) (fun i => ?_)
  · have hi := idx_8 t
    rw [Value.flushed8, Blocks.outs_8]
    funext y
    rw [View.read_apply]
    refine (congrArg ((k0_pay4 (F := Ideal) (iblk m c 0 t) (iblk m c 1 t) (iblk m c 2 t) (iblk m c 3 t))) (eq_ix2 (show Shape.Idx S512x1024 from y))).trans ((pay_8 m c t (y 0) (y 1)).trans ?_)
    exact congrArg₂ (x1 m c)
      (Fin.ext (by show (t.val) * 512 + (y 0).val = win0_8.index t 0 * 512 + 1 * (y 0).val; rw [hi.1]; omega))
      (Fin.ext (by show (y 1).val = win0_8.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_8 t
    have hv : t.val = (i 0).val / 512 := rfl
    refine ⟨t, flush0_8 t, ?_⟩
    show i ∈ ((View.whole main_v0_0).slice (win0_8.rect t)).set
    rw [View.set_slice_whole, Rect.mem_set_unit]
    intro a
    match a with
    | ⟨0, _⟩ => show win0_8.index t 0 * 512 ≤ (i 0).val ∧ (i 0).val < win0_8.index t 0 * 512 + 512; rw [hi.1]; omega
    | ⟨1, _⟩ => show win0_8.index t 1 * 1024 ≤ (i 1).val ∧ (i 1).val < win0_8.index t 1 * 1024 + 1024; rw [hi.2]; omega

theorem idx_9 (t : Fin cfg0.N) : win0_9.index t 0 = t.val ∧ win0_9.index t 1 = 0 :=
  (by decide +kernel : ∀ t : Fin grid0.N, win0_9.index t 0 = t.val ∧ win0_9.index t 1 = 0) t

theorem pay_9 (t : Fin cfg0.N) (p : Fin 512) (j : Fin 1024) :
    (k0_pay3 (F := Ideal) (iblk m c 0 t) (iblk m c 1 t)) (ix2 p j) = f m c (row t p) j := by
  rw [fcast_apply]
  simp only [blk_0, blk_1, blk_2, blk_3, blk_4, blk_5, blk_6, blk_7]
  rfl

theorem final_9 : (dats m 0 c).arrAt 9 cfg0.N = fun i => f m c (i 0) (i 1) := by
  refine (dats m 0 c).arrAt_eq_of_cover 9 _ (fun t _ => ?_) (fun i => ?_)
  · have hi := idx_9 t
    rw [Value.flushed9, Blocks.outs_9]
    funext y
    rw [View.read_apply]
    refine (congrArg ((k0_pay3 (F := Ideal) (iblk m c 0 t) (iblk m c 1 t))) (eq_ix2 (show Shape.Idx S512x1024 from y))).trans ((pay_9 m c t (y 0) (y 1)).trans ?_)
    exact congrArg₂ (f m c)
      (Fin.ext (by show (t.val) * 512 + (y 0).val = win0_9.index t 0 * 512 + 1 * (y 0).val; rw [hi.1]; omega))
      (Fin.ext (by show (y 1).val = win0_9.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_9 t
    have hv : t.val = (i 0).val / 512 := rfl
    refine ⟨t, flush0_9 t, ?_⟩
    show i ∈ ((View.whole main_v0_1).slice (win0_9.rect t)).set
    rw [View.set_slice_whole, Rect.mem_set_unit]
    intro a
    match a with
    | ⟨0, _⟩ => show win0_9.index t 0 * 512 ≤ (i 0).val ∧ (i 0).val < win0_9.index t 0 * 512 + 512; rw [hi.1]; omega
    | ⟨1, _⟩ => show win0_9.index t 1 * 1024 ≤ (i 1).val ∧ (i 1).val < win0_9.index t 1 * 1024 + 1024; rw [hi.2]; omega

theorem idx_10 (t : Fin cfg0.N) : win0_10.index t 0 = t.val ∧ win0_10.index t 1 = 0 :=
  (by decide +kernel : ∀ t : Fin grid0.N, win0_10.index t 0 = t.val ∧ win0_10.index t 1 = 0) t

theorem pay_10 (t : Fin cfg0.N) (p : Fin 512) (j : Fin 4096) :
    (k0_pay1 (F := Ideal) (k0_pay5 (F := Ideal) (iblk m c 0 t) (iblk m c 1 t) (iblk m c 2 t) (iblk m c 3 t) (iblk m c 4 t) (iblk m c 5 t) (iblk m c 6 t)) (iblk m c 7 t)) (ix2 p j) = u m c (row t p) j := by
  rw [u_apply]
  simp only [h_apply, x1_apply, blk_0, blk_1, blk_2, blk_3, blk_4, blk_5, blk_6, blk_7]
  rfl

theorem final_10 : (dats m 0 c).arrAt 10 cfg0.N = fun i => u m c (i 0) (i 1) := by
  refine (dats m 0 c).arrAt_eq_of_cover 10 _ (fun t _ => ?_) (fun i => ?_)
  · have hi := idx_10 t
    rw [Value.flushed10, Blocks.outs_10]
    funext y
    rw [View.read_apply]
    refine (congrArg ((k0_pay1 (F := Ideal) (k0_pay5 (F := Ideal) (iblk m c 0 t) (iblk m c 1 t) (iblk m c 2 t) (iblk m c 3 t) (iblk m c 4 t) (iblk m c 5 t) (iblk m c 6 t)) (iblk m c 7 t))) (eq_ix2 (show Shape.Idx S512x4096 from y))).trans ((pay_10 m c t (y 0) (y 1)).trans ?_)
    exact congrArg₂ (u m c)
      (Fin.ext (by show (t.val) * 512 + (y 0).val = win0_10.index t 0 * 512 + 1 * (y 0).val; rw [hi.1]; omega))
      (Fin.ext (by show (y 1).val = win0_10.index t 1 * 4096 + 1 * (y 1).val; rw [hi.2]; omega))
  · have h0 : (i 0).val < 4096 := (i 0).isLt
    have h1 : (i 1).val < 4096 := (i 1).isLt
    have hN : cfg0.N = 8 := N_0
    let t : Fin cfg0.N := ⟨(i 0).val / 512, by omega⟩
    have hi := idx_10 t
    have hv : t.val = (i 0).val / 512 := rfl
    refine ⟨t, flush0_10 t, ?_⟩
    show i ∈ ((View.whole main_v0_2).slice (win0_10.rect t)).set
    rw [View.set_slice_whole, Rect.mem_set_unit]
    intro a
    match a with
    | ⟨0, _⟩ => show win0_10.index t 0 * 512 ≤ (i 0).val ∧ (i 0).val < win0_10.index t 0 * 512 + 512; rw [hi.1]; omega
    | ⟨1, _⟩ => show win0_10.index t 1 * 4096 ≤ (i 1).val ∧ (i 1).val < win0_10.index t 1 * 4096 + 4096; rw [hi.2]; omega

theorem idx_11 (t : Fin cfg0.N) : win0_11.index t 0 = t.val ∧ win0_11.index t 1 = 0 :=
  (by decide +kernel : ∀ t : Fin grid0.N, win0_11.index t 0 = t.val ∧ win0_11.index t 1 = 0) t

theorem pay_11 (t : Fin cfg0.N) (p : Fin 512) (j : Fin 1024) :
    (k0_pay5 (F := Ideal) (iblk m c 0 t) (iblk m c 1 t) (iblk m c 2 t) (iblk m c 3 t) (iblk m c 4 t) (iblk m c 5 t) (iblk m c 6 t)) (ix2 p j) = h m c (row t p) j := by
  rw [h_apply]
  simp only [x1_apply, blk_0, blk_1, blk_2, blk_3, blk_4, blk_5, blk_6, blk_7]
  rfl

theorem final_11 : (dats m 0 c).arrAt 11 cfg0.N = fun i => h m c (i 0) (i 1) := by
  refine (dats m 0 c).arrAt_eq_of_cover 11 _ (fun t _ => ?_) (fun i => ?_)
  · have hi := idx_11 t
    rw [Value.flushed11, Blocks.outs_11]
    funext y
    rw [View.read_apply]
    refine (congrArg ((k0_pay5 (F := Ideal) (iblk m c 0 t) (iblk m c 1 t) (iblk m c 2 t) (iblk m c 3 t) (iblk m c 4 t) (iblk m c 5 t) (iblk m c 6 t))) (eq_ix2 (show Shape.Idx S512x1024 from y))).trans ((pay_11 m c t (y 0) (y 1)).trans ?_)
    exact congrArg₂ (h m c)
      (Fin.ext (by show (t.val) * 512 + (y 0).val = win0_11.index t 0 * 512 + 1 * (y 0).val; rw [hi.1]; omega))
      (Fin.ext (by show (y 1).val = win0_11.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_11 t
    have hv : t.val = (i 0).val / 512 := rfl
    refine ⟨t, flush0_11 t, ?_⟩
    show i ∈ ((View.whole main_v0_3).slice (win0_11.rect t)).set
    rw [View.set_slice_whole, Rect.mem_set_unit]
    intro a
    match a with
    | ⟨0, _⟩ => show win0_11.index t 0 * 512 ≤ (i 0).val ∧ (i 0).val < win0_11.index t 0 * 512 + 512; rw [hi.1]; omega
    | ⟨1, _⟩ => show win0_11.index t 1 * 1024 ≤ (i 1).val ∧ (i 1).val < win0_11.index t 1 * 1024 + 1024; rw [hi.2]; omega

end Cert.Kernel9Ideal.Final

end
-- ==== Proof.AttnOutRef.lean ====
/-
  The reference of the forward call `attn_out_mlp_in`, over the extended reals: its arrays, as the host computes them, are the layer's
  values (`Layer`) as functions of plain matrices.
-/
module

public import proofs.«01_k».proof.Proof.Layer
public import proofs.«01_k».proof.Proof.Gen.Reference9Ideal.Read
public import Idealize.ShloMosaic.Lib.Pointwise

@[expose] public section

set_option maxRecDepth 16384

noncomputable section

namespace Cert.Reference9Ideal.Grad

open Cert.Reference9Ideal Cert.Reference9Ideal.Read Idealize.ShloMosaic

variable (x0 : FVec Ideal S4096x1024 .bf16) (x1 : FVec Ideal S1024x1024 .bf16) (x2 : FVec Ideal S4096x1024 .f32) (x3 x4 x5 x6 : FVec Ideal S1x1024 .f32)
  (x7 : FVec Ideal S1024x4096 .bf16)

abbrev A : Layer.Mat 4096 1024 := fun r k => x0 (ix2 r k)
abbrev WO : Layer.Mat 1024 1024 := fun r k => x1 (ix2 r k)
abbrev X : Layer.Mat 4096 1024 := fun r k => x2 (ix2 r k)
abbrev GT : Fin 1024 → EReal := fun k => x3 (ix2 0 k)
abbrev G : Fin 1024 → EReal := fun k => x4 (ix2 0 k)
abbrev SC : Fin 1024 → EReal := fun k => x5 (ix2 0 k)
abbrev SH : Fin 1024 → EReal := fun k => x6 (ix2 0 k)
abbrev W : Layer.Mat 1024 4096 := fun r k => x7 (ix2 r k)
abbrev F1 : Layer.Mat 4096 1024 := Layer.nn (A x0) (WO x1)
abbrev X1 : Layer.Mat 4096 1024 := Layer.resid (X x2) (GT x3) (F1 x0 x1)
abbrev H : Layer.Mat 4096 1024 := Layer.adaln (X1 x0 x1 x2 x3) (G x4) (SC x5) (SH x6)

theorem f_at (r : Fin 4096) (j : Fin 1024) : val_main_v2 (F := Ideal) x0 x1 (ix2 r j) = F1 x0 x1 r j := by
  pointwise [val_main_v2, val_main_v1, val_main_v0]
  rfl

theorem x1_at (r : Fin 4096) (j : Fin 1024) : val_main_v5 (F := Ideal) x0 x1 x2 x3 (ix2 r j) = X1 x0 x1 x2 x3 r j := by
  pointwise [val_main_v5, val_main_v4, val_main_v3]
  rw [f_at]
  rfl

theorem f_eq : val_main_v24 (F := Ideal) x0 x1 = fun i => F1 x0 x1 (i 0) (i 1) := by
  funext i
  idx_vars i
  pointwise [val_main_v24]
  exact f_at ..

theorem x1_eq : val_main_v5 (F := Ideal) x0 x1 x2 x3 = fun i => X1 x0 x1 x2 x3 (i 0) (i 1) := by
  funext i
  idx_vars i
  exact x1_at ..

theorem ms_at (r : Fin 4096) : val_main_v12 (F := Ideal) x0 x1 x2 x3 (ix2 r 0) = Rows.ms (X1 x0 x1 x2 x3 r) := by
  pointwise [val_main_v12, val_main_v11, val_main_v10, val_main_v9, val_main_v8, val_main_v7, val_main_v6, val_main_cst, val_main_cst_0, val_main_cst_1]
  simp only [x1_at]
  rfl

theorem inv_at (r : Fin 4096) : val_main_v13 (F := Ideal) x0 x1 x2 x3 (ix2 r 0) = Rows.inv (X1 x0 x1 x2 x3 r) := by
  pointwise [val_main_v13]
  rw [ms_at]
  rfl

theorem hat_at (r : Fin 4096) (j : Fin 1024) :
    val_main_v15 (F := Ideal) x0 x1 x2 x3 (ix2 r j) = Layer.hat (X1 x0 x1 x2 x3) r j := by
  pointwise [val_main_v15, val_main_v14]
  rw [inv_at, x1_at]
  rfl

theorem h_at (r : Fin 4096) (j : Fin 1024) :
    val_main_v23 (F := Ideal) x0 x1 x2 x3 x4 x5 x6 (ix2 r j) = H x0 x1 x2 x3 x4 x5 x6 r j := by
  pointwise [val_main_v23, val_main_v22, val_main_v21, val_main_v20, val_main_v19, val_main_v18, val_main_v17, val_main_v16, val_main_cst_2]
  rw [hat_at]
  rfl

theorem h_eq : val_main_v28 (F := Ideal) x0 x1 x2 x3 x4 x5 x6 = fun i => H x0 x1 x2 x3 x4 x5 x6 (i 0) (i 1) := by
  funext i
  idx_vars i
  pointwise [val_main_v28]
  exact h_at ..

theorem u_eq : val_main_v27 (F := Ideal) x0 x1 x2 x3 x4 x5 x6 x7
    = fun i => Layer.nn (H x0 x1 x2 x3 x4 x5 x6) (W x7) (i 0) (i 1) := by
  funext i
  idx_vars i
  pointwise [val_main_v27, val_main_v26, val_main_v25]
  simp only [h_at]
  rfl

end Cert.Reference9Ideal.Grad

end
-- ==== Proof.AttnOutClaims.lean ====
/-
  The claims about the forward call `attn_out_mlp_in`: the reference's run, and the equality of the call's four arrays with the
  reference's over the extended reals.
-/
module

public import proofs.«01_k».proof.Defs
public import proofs.«01_k».proof.Proof.AttnOutValue
public import proofs.«01_k».proof.Proof.AttnOutRef
public import proofs.«01_k».proof.Proof.Gen.Kernel9.Frame
public import proofs.«01_k».proof.Proof.Gen.Reference9Ideal.Run
public import proofs.«01_k».proof.Proof.Gen.Reference9Ideal.Read
public import Idealize.ShloMosaic.Adequacy
public import Idealize.ShloMosaic.Lib.Quiescent

@[expose] public section

set_option maxRecDepth 16384

noncomputable section

namespace Cert.AttnOut

open Idealize.ShloMosaic Idealize.ShloMosaic.TcCoe Idealize.SL.Sem

theorem mat_8 (m : (ℓ : Loc Kernel9Ideal.nD Kernel9Ideal.τ Kernel9Ideal.sig) → Buf (Elt Ideal) ℓ) (c : Dev Kernel9Ideal.nD) :
    Reference9Ideal.Grad.X1 (m ((c.tc : Thread Kernel9Ideal.nD Kernel9Ideal.τ).loc Kernel9Ideal.main_arg0)) (m ((c.tc : Thread Kernel9Ideal.nD Kernel9Ideal.τ).loc Kernel9Ideal.main_arg1)) (m ((c.tc : Thread Kernel9Ideal.nD Kernel9Ideal.τ).loc Kernel9Ideal.main_arg2)) (m ((c.tc : Thread Kernel9Ideal.nD Kernel9Ideal.τ).loc Kernel9Ideal.main_arg3)) = Kernel9Ideal.Final.x1 m c := by
  simp only [Kernel9Ideal.Gen.V_main_arg0, Kernel9Ideal.Gen.V_main_arg1, Kernel9Ideal.Gen.V_main_arg2, Kernel9Ideal.Gen.V_main_arg3, Kernel9Ideal.Gen.V_main_arg4, Kernel9Ideal.Gen.V_main_arg5, Kernel9Ideal.Gen.V_main_arg6, Kernel9Ideal.Gen.V_main_arg7, Kernel9Ideal.Final.a, Kernel9Ideal.Final.wo, Kernel9Ideal.Final.x, Kernel9Ideal.Final.gt, Kernel9Ideal.Final.g, Kernel9Ideal.Final.sc, Kernel9Ideal.Final.sh, Kernel9Ideal.Final.w, Kernel9Ideal.Final.f, Kernel9Ideal.Final.x1, Kernel9Ideal.Final.h, Kernel9Ideal.Final.u]
  try rfl

theorem out_8 (m : (ℓ : Loc Kernel9Ideal.nD Kernel9Ideal.τ Kernel9Ideal.sig) → Buf (Elt Ideal) ℓ) (c : Dev Kernel9Ideal.nD)
    {x0 x1 x2 x3} (h0 : x0 = m ((c.tc : Thread Kernel9Ideal.nD Kernel9Ideal.τ).loc Kernel9Ideal.main_arg0)) (h1 : x1 = m ((c.tc : Thread Kernel9Ideal.nD Kernel9Ideal.τ).loc Kernel9Ideal.main_arg1)) (h2 : x2 = m ((c.tc : Thread Kernel9Ideal.nD Kernel9Ideal.τ).loc Kernel9Ideal.main_arg2)) (h3 : x3 = m ((c.tc : Thread Kernel9Ideal.nD Kernel9Ideal.τ).loc Kernel9Ideal.main_arg3)) :
    Reference9Ideal.Read.val_main_v5 (F := Ideal) x0 x1 x2 x3 = (Kernel9Ideal.Gen.dats m 0 c).arrAt 8 Kernel9Ideal.cfg0.N := by
  subst h0 h1 h2 h3
  refine (Reference9Ideal.Grad.x1_eq _ _ _ _).trans (Eq.trans ?_ (Kernel9Ideal.Final.final_8 m c).symm)
  exact congrArg (fun M (i : Shape.Idx Kernel9Ideal.S4096x1024) => M (i 0) (i 1)) (mat_8 m c)

theorem mat_9 (m : (ℓ : Loc Kernel9Ideal.nD Kernel9Ideal.τ Kernel9Ideal.sig) → Buf (Elt Ideal) ℓ) (c : Dev Kernel9Ideal.nD) :
    Reference9Ideal.Grad.F1 (m ((c.tc : Thread Kernel9Ideal.nD Kernel9Ideal.τ).loc Kernel9Ideal.main_arg0)) (m ((c.tc : Thread Kernel9Ideal.nD Kernel9Ideal.τ).loc Kernel9Ideal.main_arg1)) = Kernel9Ideal.Final.f m c := by
  simp only [Kernel9Ideal.Gen.V_main_arg0, Kernel9Ideal.Gen.V_main_arg1, Kernel9Ideal.Gen.V_main_arg2, Kernel9Ideal.Gen.V_main_arg3, Kernel9Ideal.Gen.V_main_arg4, Kernel9Ideal.Gen.V_main_arg5, Kernel9Ideal.Gen.V_main_arg6, Kernel9Ideal.Gen.V_main_arg7, Kernel9Ideal.Final.a, Kernel9Ideal.Final.wo, Kernel9Ideal.Final.x, Kernel9Ideal.Final.gt, Kernel9Ideal.Final.g, Kernel9Ideal.Final.sc, Kernel9Ideal.Final.sh, Kernel9Ideal.Final.w, Kernel9Ideal.Final.f, Kernel9Ideal.Final.x1, Kernel9Ideal.Final.h, Kernel9Ideal.Final.u]
  try rfl

theorem out_9 (m : (ℓ : Loc Kernel9Ideal.nD Kernel9Ideal.τ Kernel9Ideal.sig) → Buf (Elt Ideal) ℓ) (c : Dev Kernel9Ideal.nD)
    {x0 x1} (h0 : x0 = m ((c.tc : Thread Kernel9Ideal.nD Kernel9Ideal.τ).loc Kernel9Ideal.main_arg0)) (h1 : x1 = m ((c.tc : Thread Kernel9Ideal.nD Kernel9Ideal.τ).loc Kernel9Ideal.main_arg1)) :
    Reference9Ideal.Read.val_main_v24 (F := Ideal) x0 x1 = (Kernel9Ideal.Gen.dats m 0 c).arrAt 9 Kernel9Ideal.cfg0.N := by
  subst h0 h1
  refine (Reference9Ideal.Grad.f_eq _ _).trans (Eq.trans ?_ (Kernel9Ideal.Final.final_9 m c).symm)
  exact congrArg (fun M (i : Shape.Idx Kernel9Ideal.S4096x1024) => M (i 0) (i 1)) (mat_9 m c)

theorem mat_10 (m : (ℓ : Loc Kernel9Ideal.nD Kernel9Ideal.τ Kernel9Ideal.sig) → Buf (Elt Ideal) ℓ) (c : Dev Kernel9Ideal.nD) :
    Layer.nn (Reference9Ideal.Grad.H (m ((c.tc : Thread Kernel9Ideal.nD Kernel9Ideal.τ).loc Kernel9Ideal.main_arg0)) (m ((c.tc : Thread Kernel9Ideal.nD Kernel9Ideal.τ).loc Kernel9Ideal.main_arg1)) (m ((c.tc : Thread Kernel9Ideal.nD Kernel9Ideal.τ).loc Kernel9Ideal.main_arg2)) (m ((c.tc : Thread Kernel9Ideal.nD Kernel9Ideal.τ).loc Kernel9Ideal.main_arg3)) (m ((c.tc : Thread Kernel9Ideal.nD Kernel9Ideal.τ).loc Kernel9Ideal.main_arg4)) (m ((c.tc : Thread Kernel9Ideal.nD Kernel9Ideal.τ).loc Kernel9Ideal.main_arg5)) (m ((c.tc : Thread Kernel9Ideal.nD Kernel9Ideal.τ).loc Kernel9Ideal.main_arg6))) (Reference9Ideal.Grad.W (m ((c.tc : Thread Kernel9Ideal.nD Kernel9Ideal.τ).loc Kernel9Ideal.main_arg7))) = Kernel9Ideal.Final.u m c := by
  simp only [Kernel9Ideal.Gen.V_main_arg0, Kernel9Ideal.Gen.V_main_arg1, Kernel9Ideal.Gen.V_main_arg2, Kernel9Ideal.Gen.V_main_arg3, Kernel9Ideal.Gen.V_main_arg4, Kernel9Ideal.Gen.V_main_arg5, Kernel9Ideal.Gen.V_main_arg6, Kernel9Ideal.Gen.V_main_arg7, Kernel9Ideal.Final.a, Kernel9Ideal.Final.wo, Kernel9Ideal.Final.x, Kernel9Ideal.Final.gt, Kernel9Ideal.Final.g, Kernel9Ideal.Final.sc, Kernel9Ideal.Final.sh, Kernel9Ideal.Final.w, Kernel9Ideal.Final.f, Kernel9Ideal.Final.x1, Kernel9Ideal.Final.h, Kernel9Ideal.Final.u]
  try rfl

theorem out_10 (m : (ℓ : Loc Kernel9Ideal.nD Kernel9Ideal.τ Kernel9Ideal.sig) → Buf (Elt Ideal) ℓ) (c : Dev Kernel9Ideal.nD)
    {x0 x1 x2 x3 x4 x5 x6 x7} (h0 : x0 = m ((c.tc : Thread Kernel9Ideal.nD Kernel9Ideal.τ).loc Kernel9Ideal.main_arg0)) (h1 : x1 = m ((c.tc : Thread Kernel9Ideal.nD Kernel9Ideal.τ).loc Kernel9Ideal.main_arg1)) (h2 : x2 = m ((c.tc : Thread Kernel9Ideal.nD Kernel9Ideal.τ).loc Kernel9Ideal.main_arg2)) (h3 : x3 = m ((c.tc : Thread Kernel9Ideal.nD Kernel9Ideal.τ).loc Kernel9Ideal.main_arg3)) (h4 : x4 = m ((c.tc : Thread Kernel9Ideal.nD Kernel9Ideal.τ).loc Kernel9Ideal.main_arg4)) (h5 : x5 = m ((c.tc : Thread Kernel9Ideal.nD Kernel9Ideal.τ).loc Kernel9Ideal.main_arg5)) (h6 : x6 = m ((c.tc : Thread Kernel9Ideal.nD Kernel9Ideal.τ).loc Kernel9Ideal.main_arg6)) (h7 : x7 = m ((c.tc : Thread Kernel9Ideal.nD Kernel9Ideal.τ).loc Kernel9Ideal.main_arg7)) :
    Reference9Ideal.Read.val_main_v27 (F := Ideal) x0 x1 x2 x3 x4 x5 x6 x7 = (Kernel9Ideal.Gen.dats m 0 c).arrAt 10 Kernel9Ideal.cfg0.N := by
  subst h0 h1 h2 h3 h4 h5 h6 h7
  refine (Reference9Ideal.Grad.u_eq _ _ _ _ _ _ _ _).trans (Eq.trans ?_ (Kernel9Ideal.Final.final_10 m c).symm)
  exact congrArg (fun M (i : Shape.Idx Kernel9Ideal.S4096x4096) => M (i 0) (i 1)) (mat_10 m c)

theorem mat_11 (m : (ℓ : Loc Kernel9Ideal.nD Kernel9Ideal.τ Kernel9Ideal.sig) → Buf (Elt Ideal) ℓ) (c : Dev Kernel9Ideal.nD) :
    Reference9Ideal.Grad.H (m ((c.tc : Thread Kernel9Ideal.nD Kernel9Ideal.τ).loc Kernel9Ideal.main_arg0)) (m ((c.tc : Thread Kernel9Ideal.nD Kernel9Ideal.τ).loc Kernel9Ideal.main_arg1)) (m ((c.tc : Thread Kernel9Ideal.nD Kernel9Ideal.τ).loc Kernel9Ideal.main_arg2)) (m ((c.tc : Thread Kernel9Ideal.nD Kernel9Ideal.τ).loc Kernel9Ideal.main_arg3)) (m ((c.tc : Thread Kernel9Ideal.nD Kernel9Ideal.τ).loc Kernel9Ideal.main_arg4)) (m ((c.tc : Thread Kernel9Ideal.nD Kernel9Ideal.τ).loc Kernel9Ideal.main_arg5)) (m ((c.tc : Thread Kernel9Ideal.nD Kernel9Ideal.τ).loc Kernel9Ideal.main_arg6)) = Kernel9Ideal.Final.h m c := by
  simp only [Kernel9Ideal.Gen.V_main_arg0, Kernel9Ideal.Gen.V_main_arg1, Kernel9Ideal.Gen.V_main_arg2, Kernel9Ideal.Gen.V_main_arg3, Kernel9Ideal.Gen.V_main_arg4, Kernel9Ideal.Gen.V_main_arg5, Kernel9Ideal.Gen.V_main_arg6, Kernel9Ideal.Gen.V_main_arg7, Kernel9Ideal.Final.a, Kernel9Ideal.Final.wo, Kernel9Ideal.Final.x, Kernel9Ideal.Final.gt, Kernel9Ideal.Final.g, Kernel9Ideal.Final.sc, Kernel9Ideal.Final.sh, Kernel9Ideal.Final.w, Kernel9Ideal.Final.f, Kernel9Ideal.Final.x1, Kernel9Ideal.Final.h, Kernel9Ideal.Final.u]
  try rfl

theorem out_11 (m : (ℓ : Loc Kernel9Ideal.nD Kernel9Ideal.τ Kernel9Ideal.sig) → Buf (Elt Ideal) ℓ) (c : Dev Kernel9Ideal.nD)
    {x0 x1 x2 x3 x4 x5 x6} (h0 : x0 = m ((c.tc : Thread Kernel9Ideal.nD Kernel9Ideal.τ).loc Kernel9Ideal.main_arg0)) (h1 : x1 = m ((c.tc : Thread Kernel9Ideal.nD Kernel9Ideal.τ).loc Kernel9Ideal.main_arg1)) (h2 : x2 = m ((c.tc : Thread Kernel9Ideal.nD Kernel9Ideal.τ).loc Kernel9Ideal.main_arg2)) (h3 : x3 = m ((c.tc : Thread Kernel9Ideal.nD Kernel9Ideal.τ).loc Kernel9Ideal.main_arg3)) (h4 : x4 = m ((c.tc : Thread Kernel9Ideal.nD Kernel9Ideal.τ).loc Kernel9Ideal.main_arg4)) (h5 : x5 = m ((c.tc : Thread Kernel9Ideal.nD Kernel9Ideal.τ).loc Kernel9Ideal.main_arg5)) (h6 : x6 = m ((c.tc : Thread Kernel9Ideal.nD Kernel9Ideal.τ).loc Kernel9Ideal.main_arg6)) :
    Reference9Ideal.Read.val_main_v28 (F := Ideal) x0 x1 x2 x3 x4 x5 x6 = (Kernel9Ideal.Gen.dats m 0 c).arrAt 11 Kernel9Ideal.cfg0.N := by
  subst h0 h1 h2 h3 h4 h5 h6
  refine (Reference9Ideal.Grad.h_eq _ _ _ _ _ _ _).trans (Eq.trans ?_ (Kernel9Ideal.Final.final_11 m c).symm)
  exact congrArg (fun M (i : Shape.Idx Kernel9Ideal.S4096x1024) => M (i 0) (i 1)) (mat_11 m c)

/-- The reference runs and leaves its arguments alone. -/
theorem frame_reference : Cert.quiescent_Reference9Ideal := fun m g _ =>
  (θ_run Reference9Ideal.defs _ _).mono (fun r h => ⟨fun c => (h c).2.2.2.2, sem_eq_zero_of_no_sems (by decide) r.2⟩)
    (Reference9Ideal.Value.run m g)

/-- The call's arrays and the reference's are equal, element by element, over the extended reals. -/
theorem algebraic : Cert.algebraic_Kernel9Ideal_Reference9Ideal := by
  intro m g m' g' _ hargs
  refine ⟨fun c => (Kernel9Ideal.Gen.dats m 0 c).arrAt 8 Kernel9Ideal.cfg0.N, fun c => (Kernel9Ideal.Gen.dats m 0 c).arrAt 9 Kernel9Ideal.cfg0.N, fun c => (Kernel9Ideal.Gen.dats m 0 c).arrAt 10 Kernel9Ideal.cfg0.N, fun c => (Kernel9Ideal.Gen.dats m 0 c).arrAt 11 Kernel9Ideal.cfg0.N,
    Kernel9Ideal.Value.run_blocks m g,
    (θ_run Reference9Ideal.defs _ _).mono (fun r h c => ?_) (Reference9Ideal.Value.run m' g')⟩
  obtain ⟨a0, a1, a2, a3, a4, a5, a6, a7⟩ := hargs c
  have hc := h c
  exact ⟨hc.1.trans ((Reference9Ideal.Read.val_main_v5_eq _ _ _ _).trans (out_8 m c a0 a1 a2 a3)),
    hc.2.1.trans ((Reference9Ideal.Read.val_main_v24_eq _ _).trans (out_9 m c a0 a1)),
    hc.2.2.1.trans ((Reference9Ideal.Read.val_main_v27_eq _ _ _ _ _ _ _ _).trans (out_10 m c a0 a1 a2 a3 a4 a5 a6 a7)),
    hc.2.2.2.1.trans ((Reference9Ideal.Read.val_main_v28_eq _ _ _ _ _ _ _).trans (out_11 m c a0 a1 a2 a3 a4 a5 a6)),
    hc.2.2.2.2⟩

end Cert.AttnOut

end
-- ==== Proof.MlpOutBlocks.lean ====
/-
  What the body of the forward call `matmul_res_gate` leaves in each of its output windows at a grid point, as the named
  payloads of the point's input blocks, over any float values.
-/
module

public import proofs.«01_k».proof.Proof.Gen.Kernel10Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel10Ideal.Blocks

open Cert.Kernel10Ideal Cert.Kernel10Ideal.Gen Idealize.ShloMosaic Idealize.ShloMosaic.TcCoe Idealize.SL.Sem

variable {F : FTy → Type} [FloatOps F]
variable (m : (ℓ : Loc nD τ sig) → Buf (Elt F) ℓ)

theorem outs_4 (c : Dev nD) (t : Fin cfg0.N) : out0_4 (iblk m c 0 t) (iblk m c 1 t) (iblk m c 2 t) (iblk m c 3 t) = k0_pay2 (iblk m c 0 t) (iblk m c 1 t) (iblk m c 2 t) (iblk m c 3 t) := by
  frame_out

theorem outs_5 (c : Dev nD) (t : Fin cfg0.N) : out0_5 (iblk m c 0 t) (iblk m c 1 t) (iblk m c 2 t) (iblk m c 3 t) = k0_pay3 (iblk m c 0 t) (iblk m c 1 t) := by
  frame_out

end Cert.Kernel10Ideal.Blocks

end
-- ==== Proof.MlpOutPay.lean ====
/-
  The payloads of the forward call `matmul_res_gate` at an index, over the extended reals.
-/
module

public import proofs.«01_k».proof.Proof.Layer
public import proofs.«01_k».proof.Proof.Gen.Kernel10Ideal.Skeleton
public import Idealize.ShloMosaic.Lib.Pointwise

@[expose] public section

set_option maxRecDepth 16384

noncomputable section

namespace Cert.Kernel10Ideal.Pay

open Cert.Kernel10Ideal Cert.Kernel10Ideal.Gen Idealize.ShloMosaic

theorem f_apply (u : Vec Ideal S512x4096 .bf16) (w : Vec Ideal S4096x1024 .bf16) (p : Fin 512) (j : Fin 1024) :
    k0_pay1 (F := Ideal) u w (ix2 p j) = ∑ k : Fin 4096, max (u (ix2 p k)) 0 * max (u (ix2 p k)) 0 * w (ix2 k j) := by
  pointwise [k0_pay1]

theorem fcast_apply (u : Vec Ideal S512x4096 .bf16) (w : Vec Ideal S4096x1024 .bf16) (p : Fin 512) (j : Fin 1024) :
    k0_pay3 (F := Ideal) u w (ix2 p j) = ∑ k : Fin 4096, max (u (ix2 p k)) 0 * max (u (ix2 p k)) 0 * w (ix2 k j) := by
  rw [← f_apply]
  pointwise [k0_pay3]

theorem y_apply (u : Vec Ideal S512x4096 .bf16) (w : Vec Ideal S4096x1024 .bf16) (x : Vec Ideal S512x1024 .f32) (gt : Vec Ideal S1x1024 .f32)
    (p : Fin 512) (j : Fin 1024) :
    k0_pay2 (F := Ideal) u w x gt (ix2 p j)
      = x (ix2 p j) + gt (ix2 0 j) * ∑ k : Fin 4096, max (u (ix2 p k)) 0 * max (u (ix2 p k)) 0 * w (ix2 k j) := by
  rw [← f_apply]
  pointwise [k0_pay2]

end Cert.Kernel10Ideal.Pay

end
-- ==== Proof.MlpOutValue.lean ====
/-
  The arrays that the forward call `matmul_res_gate` leaves, over the extended reals: the product of the squared ReLU with the
  second weight, and the gated residual sum.
-/
module

public import proofs.«01_k».proof.Proof.MlpOutBlocks
public import proofs.«01_k».proof.Proof.MlpOutPay
public import proofs.«01_k».proof.Proof.Layer
public import proofs.«01_k».proof.Proof.Gen.Kernel10Ideal.Value

@[expose] public section

set_option maxRecDepth 16384

noncomputable section

namespace Cert.Kernel10Ideal.Final

open Cert.Kernel10Ideal Cert.Kernel10Ideal.Gen Cert.Kernel10Ideal.Blocks Cert.Kernel10Ideal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev u : Layer.Mat 4096 4096 := fun r k => V m c main_arg0 (ix2 r k)
abbrev w : Layer.Mat 4096 1024 := fun r k => V m c main_arg1 (ix2 r k)
abbrev x : Layer.Mat 4096 1024 := fun r k => V m c main_arg2 (ix2 r k)
abbrev gt : Fin 1024 → EReal := fun k => V m c main_arg3 (ix2 0 k)
abbrev f : Layer.Mat 4096 1024 := Layer.nn (Layer.sq (u m c)) (w m c)
abbrev x2 : Layer.Mat 4096 1024 := Layer.resid (x m c) (gt m c) (f m c)

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 4096) : iblk m c 0 t (ix2 p k) = u m c (row t p) k := by
  have hi := idx_0 t
  unfold iblk
  rw [View.read_apply]
  show V m c main_arg0 _ = V m c main_arg0 _
  congr 1; funext a; apply Fin.ext
  match a with
  | ⟨0, _⟩ => show win0_0.index t 0 * 512 + 1 * p.val = (t.val) * 512 + p.val; rw [hi.1]; omega
  | ⟨1, _⟩ => show win0_0.index t 1 * 4096 + 1 * k.val = k.val; rw [hi.2]; omega

theorem idx_1 (t : Fin cfg0.N) : win0_1.index t 0 = 0 ∧ win0_1.index t 1 = 0 :=
  (by decide +kernel : ∀ t : Fin grid0.N, win0_1.index t 0 = 0 ∧ win0_1.index t 1 = 0) t

theorem blk_1 (t : Fin cfg0.N) (p : Fin 4096) (k : Fin 1024) : iblk m c 1 t (ix2 p k) = w m c p k := by
  have hi := idx_1 t
  unfold iblk
  rw [View.read_apply]
  show V m c main_arg1 _ = V m c main_arg1 _
  congr 1; funext a; apply Fin.ext
  match a with
  | ⟨0, _⟩ => show win0_1.index t 0 * 4096 + 1 * p.val = p.val; rw [hi.1]; omega
  | ⟨1, _⟩ => show win0_1.index t 1 * 1024 + 1 * k.val = k.val; rw [hi.2]; omega

theorem idx_2 (t : Fin cfg0.N) : win0_2.index t 0 = t.val ∧ win0_2.index t 1 = 0 :=
  (by decide +kernel : ∀ t : Fin grid0.N, win0_2.index t 0 = t.val ∧ win0_2.index t 1 = 0) t

theorem blk_2 (t : Fin cfg0.N) (p : Fin 512) (k : Fin 1024) : iblk m c 2 t (ix2 p k) = x m c (row t p) k := by
  have hi := idx_2 t
  unfold iblk
  rw [View.read_apply]
  show V m c main_arg2 _ = V m c main_arg2 _
  congr 1; funext a; apply Fin.ext
  match a with
  | ⟨0, _⟩ => show win0_2.index t 0 * 512 + 1 * p.val = (t.val) * 512 + p.val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (k : Fin 1024) : iblk m c 3 t (ix2 0 k) = gt m c k := by
  have hi := idx_3 t
  unfold iblk
  rw [View.read_apply]
  show V m c main_arg3 _ = V m c main_arg3 _
  congr 1; funext a; apply Fin.ext
  match a with
  | ⟨0, _⟩ => show win0_3.index t 0 * 1 + 1 * (0 : Fin 1).val = (0 : Fin 1).val; rw [hi.1]; omega
  | ⟨1, _⟩ => show win0_3.index t 1 * 1024 + 1 * k.val = k.val; rw [hi.2]; omega

/-! ## The arrays left -/

theorem idx_4 (t : Fin cfg0.N) : win0_4.index t 0 = t.val ∧ win0_4.index t 1 = 0 :=
  (by decide +kernel : ∀ t : Fin grid0.N, win0_4.index t 0 = t.val ∧ win0_4.index t 1 = 0) t

theorem pay_4 (t : Fin cfg0.N) (p : Fin 512) (j : Fin 1024) :
    (k0_pay2 (F := Ideal) (iblk m c 0 t) (iblk m c 1 t) (iblk m c 2 t) (iblk m c 3 t)) (ix2 p j) = x2 m c (row t p) j := by
  rw [y_apply]
  simp only [blk_0, blk_1, blk_2, blk_3]
  rfl

theorem final_4 : (dats m 0 c).arrAt 4 cfg0.N = fun i => x2 m c (i 0) (i 1) := by
  refine (dats m 0 c).arrAt_eq_of_cover 4 _ (fun t _ => ?_) (fun i => ?_)
  · have hi := idx_4 t
    rw [Value.flushed4, Blocks.outs_4]
    funext y
    rw [View.read_apply]
    refine (congrArg ((k0_pay2 (F := Ideal) (iblk m c 0 t) (iblk m c 1 t) (iblk m c 2 t) (iblk m c 3 t))) (eq_ix2 (show Shape.Idx S512x1024 from y))).trans ((pay_4 m c t (y 0) (y 1)).trans ?_)
    exact congrArg₂ (x2 m c)
      (Fin.ext (by show (t.val) * 512 + (y 0).val = win0_4.index t 0 * 512 + 1 * (y 0).val; rw [hi.1]; omega))
      (Fin.ext (by show (y 1).val = win0_4.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_4 t
    have hv : t.val = (i 0).val / 512 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 512 ≤ (i 0).val ∧ (i 0).val < win0_4.index t 0 * 512 + 512; rw [hi.1]; omega
    | ⟨1, _⟩ => show win0_4.index t 1 * 1024 ≤ (i 1).val ∧ (i 1).val < win0_4.index t 1 * 1024 + 1024; rw [hi.2]; omega

theorem idx_5 (t : Fin cfg0.N) : win0_5.index t 0 = t.val ∧ win0_5.index t 1 = 0 :=
  (by decide +kernel : ∀ t : Fin grid0.N, win0_5.index t 0 = t.val ∧ win0_5.index t 1 = 0) t

theorem pay_5 (t : Fin cfg0.N) (p : Fin 512) (j : Fin 1024) :
    (k0_pay3 (F := Ideal) (iblk m c 0 t) (iblk m c 1 t)) (ix2 p j) = f m c (row t p) j := by
  rw [fcast_apply]
  simp only [blk_0, blk_1, blk_2, blk_3]
  rfl

theorem final_5 : (dats m 0 c).arrAt 5 cfg0.N = fun i => f m c (i 0) (i 1) := by
  refine (dats m 0 c).arrAt_eq_of_cover 5 _ (fun t _ => ?_) (fun i => ?_)
  · have hi := idx_5 t
    rw [Value.flushed5, Blocks.outs_5]
    funext y
    rw [View.read_apply]
    refine (congrArg ((k0_pay3 (F := Ideal) (iblk m c 0 t) (iblk m c 1 t))) (eq_ix2 (show Shape.Idx S512x1024 from y))).trans ((pay_5 m c t (y 0) (y 1)).trans ?_)
    exact congrArg₂ (f m c)
      (Fin.ext (by show (t.val) * 512 + (y 0).val = win0_5.index t 0 * 512 + 1 * (y 0).val; rw [hi.1]; omega))
      (Fin.ext (by show (y 1).val = win0_5.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_5 t
    have hv : t.val = (i 0).val / 512 := rfl
    refine ⟨t, flush0_5 t, ?_⟩
    show i ∈ ((View.whole main_v0_1).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 1024 ≤ (i 1).val ∧ (i 1).val < win0_5.index t 1 * 1024 + 1024; rw [hi.2]; omega

end Cert.Kernel10Ideal.Final

end
-- ==== Proof.MlpOutRef.lean ====
/-
  The reference of the forward call `matmul_res_gate`, over the extended reals: its arrays, as the host computes them, are the layer's
  values (`Layer`) as functions of plain matrices.
-/
module

public import proofs.«01_k».proof.Proof.Layer
public import proofs.«01_k».proof.Proof.Gen.Reference10Ideal.Read
public import Idealize.ShloMosaic.Lib.Pointwise

@[expose] public section

set_option maxRecDepth 16384

noncomputable section

namespace Cert.Reference10Ideal.Grad

open Cert.Reference10Ideal Cert.Reference10Ideal.Read Idealize.ShloMosaic

variable (x0 : FVec Ideal S4096x4096 .bf16) (x1 : FVec Ideal S4096x1024 .bf16) (x2 : FVec Ideal S4096x1024 .f32) (x3 : FVec Ideal S1x1024 .f32)

abbrev U : Layer.Mat 4096 4096 := fun r k => x0 (ix2 r k)
abbrev W : Layer.Mat 4096 1024 := fun r k => x1 (ix2 r k)
abbrev X : Layer.Mat 4096 1024 := fun r k => x2 (ix2 r k)
abbrev GT : Fin 1024 → EReal := fun k => x3 (ix2 0 k)

theorem f_at (r : Fin 4096) (j : Fin 1024) :
    val_main_v4 (F := Ideal) x0 x1 (ix2 r j) = Layer.nn (Layer.sq (U x0)) (W x1) r j := by
  pointwise [val_main_v4, val_main_v3, val_main_v2, val_main_v1, val_main_v0, val_main_call0_v0, val_main_call0_cst]
  rfl

theorem f_eq : val_main_v8 (F := Ideal) x0 x1 = fun i => Layer.nn (Layer.sq (U x0)) (W x1) (i 0) (i 1) := by
  funext i
  idx_vars i
  pointwise [val_main_v8]
  exact f_at ..

theorem y_eq : val_main_v7 (F := Ideal) x0 x1 x2 x3
    = fun i => Layer.resid (X x2) (GT x3) (Layer.nn (Layer.sq (U x0)) (W x1)) (i 0) (i 1) := by
  funext i
  idx_vars i
  pointwise [val_main_v7, val_main_v6, val_main_v5]
  rw [f_at]
  rfl

end Cert.Reference10Ideal.Grad

end
-- ==== Proof.MlpOutClaims.lean ====
/-
  The claims about the forward call `matmul_res_gate`: the reference's run, and the equality of the call's two arrays with the
  reference's over the extended reals.
-/
module

public import proofs.«01_k».proof.Defs
public import proofs.«01_k».proof.Proof.MlpOutValue
public import proofs.«01_k».proof.Proof.MlpOutRef
public import proofs.«01_k».proof.Proof.Gen.Kernel10.Frame
public import proofs.«01_k».proof.Proof.Gen.Reference10Ideal.Run
public import proofs.«01_k».proof.Proof.Gen.Reference10Ideal.Read
public import Idealize.ShloMosaic.Adequacy
public import Idealize.ShloMosaic.Lib.Quiescent

@[expose] public section

set_option maxRecDepth 16384

noncomputable section

namespace Cert.MlpOut

open Idealize.ShloMosaic Idealize.ShloMosaic.TcCoe Idealize.SL.Sem

theorem mat_4 (m : (ℓ : Loc Kernel10Ideal.nD Kernel10Ideal.τ Kernel10Ideal.sig) → Buf (Elt Ideal) ℓ) (c : Dev Kernel10Ideal.nD) :
    Layer.resid (Reference10Ideal.Grad.X (m ((c.tc : Thread Kernel10Ideal.nD Kernel10Ideal.τ).loc Kernel10Ideal.main_arg2))) (Reference10Ideal.Grad.GT (m ((c.tc : Thread Kernel10Ideal.nD Kernel10Ideal.τ).loc Kernel10Ideal.main_arg3))) (Layer.nn (Layer.sq (Reference10Ideal.Grad.U (m ((c.tc : Thread Kernel10Ideal.nD Kernel10Ideal.τ).loc Kernel10Ideal.main_arg0)))) (Reference10Ideal.Grad.W (m ((c.tc : Thread Kernel10Ideal.nD Kernel10Ideal.τ).loc Kernel10Ideal.main_arg1)))) = Kernel10Ideal.Final.x2 m c := by
  simp only [Kernel10Ideal.Gen.V_main_arg0, Kernel10Ideal.Gen.V_main_arg1, Kernel10Ideal.Gen.V_main_arg2, Kernel10Ideal.Gen.V_main_arg3, Kernel10Ideal.Final.u, Kernel10Ideal.Final.w, Kernel10Ideal.Final.x, Kernel10Ideal.Final.gt, Kernel10Ideal.Final.f, Kernel10Ideal.Final.x2]
  try rfl

theorem out_4 (m : (ℓ : Loc Kernel10Ideal.nD Kernel10Ideal.τ Kernel10Ideal.sig) → Buf (Elt Ideal) ℓ) (c : Dev Kernel10Ideal.nD)
    {x0 x1 x2 x3} (h0 : x0 = m ((c.tc : Thread Kernel10Ideal.nD Kernel10Ideal.τ).loc Kernel10Ideal.main_arg0)) (h1 : x1 = m ((c.tc : Thread Kernel10Ideal.nD Kernel10Ideal.τ).loc Kernel10Ideal.main_arg1)) (h2 : x2 = m ((c.tc : Thread Kernel10Ideal.nD Kernel10Ideal.τ).loc Kernel10Ideal.main_arg2)) (h3 : x3 = m ((c.tc : Thread Kernel10Ideal.nD Kernel10Ideal.τ).loc Kernel10Ideal.main_arg3)) :
    Reference10Ideal.Read.val_main_v7 (F := Ideal) x0 x1 x2 x3 = (Kernel10Ideal.Gen.dats m 0 c).arrAt 4 Kernel10Ideal.cfg0.N := by
  subst h0 h1 h2 h3
  refine (Reference10Ideal.Grad.y_eq _ _ _ _).trans (Eq.trans ?_ (Kernel10Ideal.Final.final_4 m c).symm)
  exact congrArg (fun M (i : Shape.Idx Kernel10Ideal.S4096x1024) => M (i 0) (i 1)) (mat_4 m c)

theorem mat_5 (m : (ℓ : Loc Kernel10Ideal.nD Kernel10Ideal.τ Kernel10Ideal.sig) → Buf (Elt Ideal) ℓ) (c : Dev Kernel10Ideal.nD) :
    Layer.nn (Layer.sq (Reference10Ideal.Grad.U (m ((c.tc : Thread Kernel10Ideal.nD Kernel10Ideal.τ).loc Kernel10Ideal.main_arg0)))) (Reference10Ideal.Grad.W (m ((c.tc : Thread Kernel10Ideal.nD Kernel10Ideal.τ).loc Kernel10Ideal.main_arg1))) = Kernel10Ideal.Final.f m c := by
  simp only [Kernel10Ideal.Gen.V_main_arg0, Kernel10Ideal.Gen.V_main_arg1, Kernel10Ideal.Gen.V_main_arg2, Kernel10Ideal.Gen.V_main_arg3, Kernel10Ideal.Final.u, Kernel10Ideal.Final.w, Kernel10Ideal.Final.x, Kernel10Ideal.Final.gt, Kernel10Ideal.Final.f, Kernel10Ideal.Final.x2]
  try rfl

theorem out_5 (m : (ℓ : Loc Kernel10Ideal.nD Kernel10Ideal.τ Kernel10Ideal.sig) → Buf (Elt Ideal) ℓ) (c : Dev Kernel10Ideal.nD)
    {x0 x1} (h0 : x0 = m ((c.tc : Thread Kernel10Ideal.nD Kernel10Ideal.τ).loc Kernel10Ideal.main_arg0)) (h1 : x1 = m ((c.tc : Thread Kernel10Ideal.nD Kernel10Ideal.τ).loc Kernel10Ideal.main_arg1)) :
    Reference10Ideal.Read.val_main_v8 (F := Ideal) x0 x1 = (Kernel10Ideal.Gen.dats m 0 c).arrAt 5 Kernel10Ideal.cfg0.N := by
  subst h0 h1
  refine (Reference10Ideal.Grad.f_eq _ _).trans (Eq.trans ?_ (Kernel10Ideal.Final.final_5 m c).symm)
  exact congrArg (fun M (i : Shape.Idx Kernel10Ideal.S4096x1024) => M (i 0) (i 1)) (mat_5 m c)

/-- The reference runs and leaves its arguments alone. -/
theorem frame_reference : Cert.quiescent_Reference10Ideal := fun m g _ =>
  (θ_run Reference10Ideal.defs _ _).mono (fun r h => ⟨fun c => (h c).2.2, sem_eq_zero_of_no_sems (by decide) r.2⟩)
    (Reference10Ideal.Value.run m g)

/-- The call's arrays and the reference's are equal, element by element, over the extended reals. -/
theorem algebraic : Cert.algebraic_Kernel10Ideal_Reference10Ideal := by
  intro m g m' g' _ hargs
  refine ⟨fun c => (Kernel10Ideal.Gen.dats m 0 c).arrAt 4 Kernel10Ideal.cfg0.N, fun c => (Kernel10Ideal.Gen.dats m 0 c).arrAt 5 Kernel10Ideal.cfg0.N,
    Kernel10Ideal.Value.run_blocks m g,
    (θ_run Reference10Ideal.defs _ _).mono (fun r h c => ?_) (Reference10Ideal.Value.run m' g')⟩
  obtain ⟨a0, a1, a2, a3⟩ := hargs c
  have hc := h c
  exact ⟨hc.1.trans ((Reference10Ideal.Read.val_main_v7_eq _ _ _ _).trans (out_4 m c a0 a1 a2 a3)),
    hc.2.1.trans ((Reference10Ideal.Read.val_main_v8_eq _ _).trans (out_5 m c a0 a1)),
    hc.2.2⟩

end Cert.MlpOut

end
-- ==== Proof.MlpLossBlocks.lean ====
/-
  What the body of the forward call `mlp_out_loss` leaves in its output windows and in its running sum at a grid point, as the
  named payloads of the point's input blocks, over any float values.
-/
module

public import proofs.«01_k».proof.Proof.Gen.Kernel11Ideal.Frame
public import Idealize.ShloMosaic.Lib.Pipeline.Value
public import Idealize.ShloMosaic.Lib.Pipeline.ValueKit.Acc
public import Idealize.ShloMosaic.Lib.Pipeline.ReadBack
public import Idealize.ShloMosaic.Lib.Tactic

@[expose] public section

set_option maxRecDepth 16384

noncomputable section

namespace Cert.Kernel11Ideal.Blocks

open Cert.Kernel11Ideal Cert.Kernel11Ideal.Gen Idealize.ShloMosaic Idealize.ShloMosaic.TcCoe Idealize.SL.Sem

variable {F : FTy → Type} [FloatOps F]
variable (m : (ℓ : Loc nD τ sig) → Buf (Elt F) ℓ)

theorem outs_5 (c : Dev nD) (t : Fin cfg0.N) : (outsAt0 m c t.val t.isLt).1 = k0_pay3 (iblk m c 0 t) (iblk m c 1 t) (iblk m c 2 t) (iblk m c 3 t) (iblk m c 4 t) := by
  have hN : cfg0.N = 8 := N_0
  have ht := t.isLt
  by_cases h0 : t.val % 8 = 0
  · have h1 : ¬1 ≤ t.val := by omega
    have h2 : ¬t.val % 8 = 7 := by omega
    rw [outsAt0_A m c t h0 h1 h2]
    frame_out
  · have h1 : 1 ≤ t.val := by omega
    by_cases h2 : t.val % 8 = 7
    · rw [outsAt0_C m c t h0 h1 h2]
      frame_out
    · rw [outsAt0_B m c t h0 h1 h2]
      frame_out

theorem outs_6 (c : Dev nD) (t : Fin cfg0.N) : (outsAt0 m c t.val t.isLt).2.1 = k0_pay8 (iblk m c 0 t) (iblk m c 1 t) := by
  have hN : cfg0.N = 8 := N_0
  have ht := t.isLt
  by_cases h0 : t.val % 8 = 0
  · have h1 : ¬1 ≤ t.val := by omega
    have h2 : ¬t.val % 8 = 7 := by omega
    rw [outsAt0_A m c t h0 h1 h2]
    frame_out
  · have h1 : 1 ≤ t.val := by omega
    by_cases h2 : t.val % 8 = 7
    · rw [outsAt0_C m c t h0 h1 h2]
      frame_out
    · rw [outsAt0_B m c t h0 h1 h2]
      frame_out

/-- The running sum after a point: at the first point this point's column sums, at a later one they are added to what the
    point before left. -/
theorem outs_s (c : Dev nD) (t : Fin cfg0.N) : (outsAt0 m c t.val t.isLt).2.2.2
    = if t.val % 8 = 0 then k0_pay5 (iblk m c 0 t) (iblk m c 1 t) (iblk m c 2 t) (iblk m c 3 t) (iblk m c 4 t)
      else k0_pay6 (iblk m c 0 t) (iblk m c 1 t) (iblk m c 2 t) (iblk m c 3 t) (iblk m c 4 t) (outsAt0 m c (t.val - 1) (Nat.lt_of_le_of_lt (Nat.sub_le _ _) t.isLt)).2.2.2 := by
  have hN : cfg0.N = 8 := N_0
  have ht := t.isLt
  by_cases h0 : t.val % 8 = 0
  · have h1 : ¬1 ≤ t.val := by omega
    have h2 : ¬t.val % 8 = 7 := by omega
    rw [if_pos h0, outsAt0_A m c t h0 h1 h2]
    frame_out
  · have h1 : 1 ≤ t.val := by omega
    by_cases h2 : t.val % 8 = 7
    · rw [if_neg h0, outsAt0_C m c t h0 h1 h2]
      frame_out
      rw [read_unread_whole]
    · rw [if_neg h0, outsAt0_B m c t h0 h1 h2]
      frame_out
      rw [read_unread_whole]

/-- At the last point the loss is read off the running sum. -/
theorem outs_7 (c : Dev nD) (t : Fin cfg0.N) (h2 : t.val % 8 = 7) :
    (outsAt0 m c t.val t.isLt).2.2.1 = k0_pay7 (outsAt0 m c t.val t.isLt).2.2.2 := by
  have hN : cfg0.N = 8 := N_0
  have ht := t.isLt
  have h0 : ¬t.val % 8 = 0 := by omega
  have h1 : 1 ≤ t.val := by omega
  have e := outs_s m c t
  rw [if_neg h0] at e
  rw [e, outsAt0_C m c t h0 h1 h2]
  frame_out
  rw [read_unread_whole]

end Cert.Kernel11Ideal.Blocks

end
-- ==== Proof.MlpLossPay.lean ====
/-
  The payloads of the forward call `mlp_out_loss` at an index, over the extended reals.
-/
module

public import proofs.«01_k».proof.Proof.Layer
public import proofs.«01_k».proof.Proof.Gen.Kernel11Ideal.Skeleton
public import Idealize.ShloMosaic.Lib.Pointwise

@[expose] public section

set_option maxRecDepth 16384

noncomputable section

namespace Cert.Kernel11Ideal.Pay

open Cert.Kernel11Ideal Cert.Kernel11Ideal.Gen Idealize.ShloMosaic

theorem f_apply (u : Vec Ideal S512x4096 .bf16) (w : Vec Ideal S4096x1024 .bf16) (p : Fin 512) (j : Fin 1024) :
    k0_pay1 (F := Ideal) u w (ix2 p j) = ∑ k : Fin 4096, max (u (ix2 p k)) 0 * max (u (ix2 p k)) 0 * w (ix2 k j) := by
  pointwise [k0_pay1]

theorem fcast_apply (u : Vec Ideal S512x4096 .bf16) (w : Vec Ideal S4096x1024 .bf16) (p : Fin 512) (j : Fin 1024) :
    k0_pay8 (F := Ideal) u w (ix2 p j) = ∑ k : Fin 4096, max (u (ix2 p k)) 0 * max (u (ix2 p k)) 0 * w (ix2 k j) := by
  rw [← f_apply]
  pointwise [k0_pay8]

theorem err_apply (u : Vec Ideal S512x4096 .bf16) (w : Vec Ideal S4096x1024 .bf16) (x : Vec Ideal S512x1024 .f32) (gt : Vec Ideal S1x1024 .f32)
    (tg : Vec Ideal S512x1024 .f32) (p : Fin 512) (j : Fin 1024) :
    k0_pay2 (F := Ideal) u w x gt tg (ix2 p j)
      = x (ix2 p j) + gt (ix2 0 j) * (∑ k : Fin 4096, max (u (ix2 p k)) 0 * max (u (ix2 p k)) 0 * w (ix2 k j)) - tg (ix2 p j) := by
  rw [← f_apply]
  pointwise [k0_pay2]

theorem dx_apply (u : Vec Ideal S512x4096 .bf16) (w : Vec Ideal S4096x1024 .bf16) (x : Vec Ideal S512x1024 .f32) (gt : Vec Ideal S1x1024 .f32)
    (tg : Vec Ideal S512x1024 .f32) (p : Fin 512) (j : Fin 1024) :
    k0_pay3 (F := Ideal) u w x gt tg (ix2 p j)
      = (x (ix2 p j) + gt (ix2 0 j) * (∑ k : Fin 4096, max (u (ix2 p k)) 0 * max (u (ix2 p k)) 0 * w (ix2 k j)) - tg (ix2 p j)) * ((1024⁻¹ : ℝ) : EReal) := by
  rw [← err_apply, ← Layer.perWidth_eq]
  pointwise [k0_pay3]

theorem col_apply (u : Vec Ideal S512x4096 .bf16) (w : Vec Ideal S4096x1024 .bf16) (x : Vec Ideal S512x1024 .f32) (gt : Vec Ideal S1x1024 .f32)
    (tg : Vec Ideal S512x1024 .f32) (j : Fin 1024) :
    k0_pay4 (F := Ideal) u w x gt tg (ix2 0 j) = ∑ p : Fin 512,
      (x (ix2 p j) + gt (ix2 0 j) * (∑ k : Fin 4096, max (u (ix2 p k)) 0 * max (u (ix2 p k)) 0 * w (ix2 k j)) - tg (ix2 p j)) * (x (ix2 p j) + gt (ix2 0 j) * (∑ k : Fin 4096, max (u (ix2 p k)) 0 * max (u (ix2 p k)) 0 * w (ix2 k j)) - tg (ix2 p j)) := by
  pointwise [k0_pay4]
  simp only [err_apply]

theorem first_apply (u : Vec Ideal S512x4096 .bf16) (w : Vec Ideal S4096x1024 .bf16) (x : Vec Ideal S512x1024 .f32) (gt : Vec Ideal S1x1024 .f32)
    (tg : Vec Ideal S512x1024 .f32) (j : Fin 1024) :
    k0_pay5 (F := Ideal) u w x gt tg (ix2 0 j) = k0_pay4 (F := Ideal) u w x gt tg (ix2 0 j) := by
  pointwise [k0_pay5]

theorem later_apply (u : Vec Ideal S512x4096 .bf16) (w : Vec Ideal S4096x1024 .bf16) (x : Vec Ideal S512x1024 .f32) (gt : Vec Ideal S1x1024 .f32)
    (tg : Vec Ideal S512x1024 .f32) (s : Vec Ideal S1x1024 .f32) (j : Fin 1024) :
    k0_pay6 (F := Ideal) u w x gt tg s (ix2 0 j) = s (ix2 0 j) + k0_pay4 (F := Ideal) u w x gt tg (ix2 0 j) := by
  pointwise [k0_pay6]

theorem loss_apply (s : Vec Ideal S1x1024 .f32) :
    k0_pay7 (F := Ideal) s (ix2 0 0) = ((2048⁻¹ : ℝ) : EReal) * ∑ j : Fin 1024, s (ix2 0 j) := by
  rw [← Layer.halfPerWidth_eq]
  pointwise [k0_pay7]

end Cert.Kernel11Ideal.Pay

end
-- ==== Proof.MlpLossValue.lean ====
/-
  The arrays that the forward call `mlp_out_loss` leaves, over the extended reals: the product of the squared ReLU with the
  second weight, the gradient of the loss in the step's last rows, and the loss.
-/
module

public import proofs.«01_k».proof.Proof.MlpLossBlocks
public import proofs.«01_k».proof.Proof.MlpLossPay
public import proofs.«01_k».proof.Proof.Layer
public import proofs.«01_k».proof.Proof.Gen.Kernel11Ideal.Value

@[expose] public section

set_option maxRecDepth 16384

noncomputable section

namespace Cert.Kernel11Ideal.Final

open Cert.Kernel11Ideal Cert.Kernel11Ideal.Gen Cert.Kernel11Ideal.Blocks Cert.Kernel11Ideal.Pay
open Idealize.ShloMosaic Idealize.ShloMosaic.TcCoe Idealize.SL.Sem

variable (m : (ℓ : Loc nD τ sig) → Buf (Elt Ideal) ℓ) (c : Dev nD)

theorem lt_N (t : Fin cfg0.N) : t.val < 8 := by
  have h := t.isLt
  have hN : cfg0.N = 8 := N_0
  omega

/-! ## The matrices the call reads -/

abbrev u : Layer.Mat 4096 4096 := fun r k => V m c main_arg0 (ix2 r k)
abbrev w : Layer.Mat 4096 1024 := fun r k => V m c main_arg1 (ix2 r k)
abbrev x : Layer.Mat 4096 1024 := fun r k => V m c main_arg2 (ix2 r k)
abbrev gt : Fin 1024 → EReal := fun k => V m c main_arg3 (ix2 0 k)
abbrev tg : Layer.Mat 4096 1024 := fun r k => V m c main_arg4 (ix2 r k)
abbrev f : Layer.Mat 4096 1024 := Layer.nn (Layer.sq (u m c)) (w m c)
/-- The error: the gated residual sum less the target. -/
abbrev err : Layer.Mat 4096 1024 := fun r j => Layer.resid (x m c) (gt m c) (f m c) r j - tg m c r j
abbrev dx : Layer.Mat 4096 1024 := fun r j => err m c r j * ((1024⁻¹ : ℝ) : EReal)

/-! ## The blocks as rows of the matrices -/

/-- Row `p` of block `t`. -/
abbrev row (t : Fin cfg0.N) (p : Fin 512) : Fin 4096 :=
  ⟨t.val * 512 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 512) (k : Fin 4096) : iblk m c 0 t (ix2 p k) = u m c (row t p) k := by
  have hi := idx_0 t
  unfold iblk
  rw [View.read_apply]
  show V m c main_arg0 _ = V m c main_arg0 _
  congr 1; funext a; apply Fin.ext
  match a with
  | ⟨0, _⟩ => show win0_0.index t 0 * 512 + 1 * p.val = (t.val) * 512 + p.val; rw [hi.1]; omega
  | ⟨1, _⟩ => show win0_0.index t 1 * 4096 + 1 * k.val = k.val; rw [hi.2]; omega

theorem idx_1 (t : Fin cfg0.N) : win0_1.index t 0 = 0 ∧ win0_1.index t 1 = 0 :=
  (by decide +kernel : ∀ t : Fin grid0.N, win0_1.index t 0 = 0 ∧ win0_1.index t 1 = 0) t

theorem blk_1 (t : Fin cfg0.N) (p : Fin 4096) (k : Fin 1024) : iblk m c 1 t (ix2 p k) = w m c p k := by
  have hi := idx_1 t
  unfold iblk
  rw [View.read_apply]
  show V m c main_arg1 _ = V m c main_arg1 _
  congr 1; funext a; apply Fin.ext
  match a with
  | ⟨0, _⟩ => show win0_1.index t 0 * 4096 + 1 * p.val = p.val; rw [hi.1]; omega
  | ⟨1, _⟩ => show win0_1.index t 1 * 1024 + 1 * k.val = k.val; rw [hi.2]; omega

theorem idx_2 (t : Fin cfg0.N) : win0_2.index t 0 = t.val ∧ win0_2.index t 1 = 0 :=
  (by decide +kernel : ∀ t : Fin grid0.N, win0_2.index t 0 = t.val ∧ win0_2.index t 1 = 0) t

theorem blk_2 (t : Fin cfg0.N) (p : Fin 512) (k : Fin 1024) : iblk m c 2 t (ix2 p k) = x m c (row t p) k := by
  have hi := idx_2 t
  unfold iblk
  rw [View.read_apply]
  show V m c main_arg2 _ = V m c main_arg2 _
  congr 1; funext a; apply Fin.ext
  match a with
  | ⟨0, _⟩ => show win0_2.index t 0 * 512 + 1 * p.val = (t.val) * 512 + p.val; rw [hi.1]; omega
  | ⟨1, _⟩ => show win0_2.index t 1 * 1024 + 1 * k.val = k.val; rw [hi.2]; omega

theorem idx_3 (t : Fin cfg0.N) : win0_3.index t 0 = 0 ∧ win0_3.index t 1 = 0 :=
  (by decide +kernel : ∀ t : Fin grid0.N, win0_3.index t 0 = 0 ∧ win0_3.index t 1 = 0) t

theorem blk_3 (t : Fin cfg0.N) (k : Fin 1024) : iblk m c 3 t (ix2 0 k) = gt m c k := by
  have hi := idx_3 t
  unfold iblk
  rw [View.read_apply]
  show V m c main_arg3 _ = V m c main_arg3 _
  congr 1; funext a; apply Fin.ext
  match a with
  | ⟨0, _⟩ => show win0_3.index t 0 * 1 + 1 * (0 : Fin 1).val = (0 : Fin 1).val; rw [hi.1]; omega
  | ⟨1, _⟩ => show win0_3.index t 1 * 1024 + 1 * k.val = k.val; rw [hi.2]; omega

theorem idx_4 (t : Fin cfg0.N) : win0_4.index t 0 = t.val ∧ win0_4.index t 1 = 0 :=
  (by decide +kernel : ∀ t : Fin grid0.N, win0_4.index t 0 = t.val ∧ win0_4.index t 1 = 0) t

theorem blk_4 (t : Fin cfg0.N) (p : Fin 512) (k : Fin 1024) : iblk m c 4 t (ix2 p k) = tg m c (row t p) k := by
  have hi := idx_4 t
  unfold iblk
  rw [View.read_apply]
  show V m c main_arg4 _ = V m c main_arg4 _
  congr 1; funext a; apply Fin.ext
  match a with
  | ⟨0, _⟩ => show win0_4.index t 0 * 512 + 1 * p.val = (t.val) * 512 + p.val; rw [hi.1]; omega
  | ⟨1, _⟩ => show win0_4.index t 1 * 1024 + 1 * k.val = k.val; rw [hi.2]; omega

/-! ## The arrays left -/

theorem idx_5 (t : Fin cfg0.N) : win0_5.index t 0 = t.val ∧ win0_5.index t 1 = 0 :=
  (by decide +kernel : ∀ t : Fin grid0.N, win0_5.index t 0 = t.val ∧ win0_5.index t 1 = 0) t

theorem pay_5 (t : Fin cfg0.N) (p : Fin 512) (j : Fin 1024) :
    (k0_pay3 (F := Ideal) (iblk m c 0 t) (iblk m c 1 t) (iblk m c 2 t) (iblk m c 3 t) (iblk m c 4 t)) (ix2 p j) = dx m c (row t p) j := by
  rw [dx_apply]
  simp only [blk_0, blk_1, blk_2, blk_3, blk_4]
  rfl

theorem final_5 : (dats m 0 c).arrAt 5 cfg0.N = fun i => dx m c (i 0) (i 1) := by
  refine (dats m 0 c).arrAt_eq_of_cover 5 _ (fun t _ => ?_) (fun i => ?_)
  · have hi := idx_5 t
    rw [Value.flushed5, Blocks.outs_5]
    funext y
    rw [View.read_apply]
    refine (congrArg ((k0_pay3 (F := Ideal) (iblk m c 0 t) (iblk m c 1 t) (iblk m c 2 t) (iblk m c 3 t) (iblk m c 4 t))) (eq_ix2 (show Shape.Idx S512x1024 from y))).trans ((pay_5 m c t (y 0) (y 1)).trans ?_)
    exact congrArg₂ (dx m c)
      (Fin.ext (by show (t.val) * 512 + (y 0).val = win0_5.index t 0 * 512 + 1 * (y 0).val; rw [hi.1]; omega))
      (Fin.ext (by show (y 1).val = win0_5.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_5 t
    have hv : t.val = (i 0).val / 512 := rfl
    refine ⟨t, flush0_5 t, ?_⟩
    show i ∈ ((View.whole main_v0_0).slice (win0_5.rect t)).set
    rw [View.set_slice_whole, Rect.mem_set_unit]
    intro a
    match a with
    | ⟨0, _⟩ => show win0_5.index t 0 * 512 ≤ (i 0).val ∧ (i 0).val < win0_5.index t 0 * 512 + 512; rw [hi.1]; omega
    | ⟨1, _⟩ => show win0_5.index t 1 * 1024 ≤ (i 1).val ∧ (i 1).val < win0_5.index t 1 * 1024 + 1024; rw [hi.2]; omega

theorem idx_6 (t : Fin cfg0.N) : win0_6.index t 0 = t.val ∧ win0_6.index t 1 = 0 :=
  (by decide +kernel : ∀ t : Fin grid0.N, win0_6.index t 0 = t.val ∧ win0_6.index t 1 = 0) t

theorem pay_6 (t : Fin cfg0.N) (p : Fin 512) (j : Fin 1024) :
    (k0_pay8 (F := Ideal) (iblk m c 0 t) (iblk m c 1 t)) (ix2 p j) = f m c (row t p) j := by
  rw [fcast_apply]
  simp only [blk_0, blk_1, blk_2, blk_3, blk_4]
  rfl

theorem final_6 : (dats m 0 c).arrAt 6 cfg0.N = fun i => f m c (i 0) (i 1) := by
  refine (dats m 0 c).arrAt_eq_of_cover 6 _ (fun t _ => ?_) (fun i => ?_)
  · have hi := idx_6 t
    rw [Value.flushed6, Blocks.outs_6]
    funext y
    rw [View.read_apply]
    refine (congrArg ((k0_pay8 (F := Ideal) (iblk m c 0 t) (iblk m c 1 t))) (eq_ix2 (show Shape.Idx S512x1024 from y))).trans ((pay_6 m c t (y 0) (y 1)).trans ?_)
    exact congrArg₂ (f m c)
      (Fin.ext (by show (t.val) * 512 + (y 0).val = win0_6.index t 0 * 512 + 1 * (y 0).val; rw [hi.1]; omega))
      (Fin.ext (by show (y 1).val = win0_6.index t 1 * 1024 + 1 * (y 1).val; rw [hi.2]; omega))
  · have h0 : (i 0).val < 4096 := (i 0).isLt
    have h1 : (i 1).val < 1024 := (i 1).isLt
    have hN : cfg0.N = 8 := N_0
    let t : Fin cfg0.N := ⟨(i 0).val / 512, by omega⟩
    have hi := idx_6 t
    have hv : t.val = (i 0).val / 512 := rfl
    refine ⟨t, flush0_6 t, ?_⟩
    show i ∈ ((View.whole main_v0_1).slice (win0_6.rect t)).set
    rw [View.set_slice_whole, Rect.mem_set_unit]
    intro a
    match a with
    | ⟨0, _⟩ => show win0_6.index t 0 * 512 ≤ (i 0).val ∧ (i 0).val < win0_6.index t 0 * 512 + 512; rw [hi.1]; omega
    | ⟨1, _⟩ => show win0_6.index t 1 * 1024 ≤ (i 1).val ∧ (i 1).val < win0_6.index t 1 * 1024 + 1024; rw [hi.2]; omega

theorem pay_s (t : Fin cfg0.N) (j : Fin 1024) :
    (k0_pay4 (F := Ideal) (iblk m c 0 t) (iblk m c 1 t) (iblk m c 2 t) (iblk m c 3 t) (iblk m c 4 t)) (ix2 0 j) = ∑ p : Fin 512, err m c (row t p) j * err m c (row t p) j := by
  rw [col_apply]
  simp only [blk_0, blk_1, blk_2, blk_3, blk_4]
  rfl

theorem sum_s (t : Fin cfg0.N) (ht : t.val = 7) (j : Fin 1024) :
    (outsAt0 m c t.val t.isLt).2.2.2 (ix2 0 j) = Layer.rows (fun r j => err m c r j * err m c r j) j := by
  have hN : cfg0.N = 8 := N_0
  exact Layer.run_total 8 512 4096 hN rfl (fun r => err m c r j * err m c r j) (fun t h => (outsAt0 m c t h).2.2.2 (ix2 0 j))
    (fun t => (k0_pay4 (F := Ideal) (iblk m c 0 t) (iblk m c 1 t) (iblk m c 2 t) (iblk m c 3 t) (iblk m c 4 t)) (ix2 0 j))
    (fun t _ => pay_s m c t j)
    (fun t h => by
      have h' := congrFun (Blocks.outs_s m c ⟨t, h⟩) (ix2 0 j)
      by_cases hp : t % 8 = 0
      · rw [if_pos hp]
        rw [if_pos hp] at h'
        exact h'.trans (first_apply ..)
      · rw [if_neg hp]
        rw [if_neg hp] at h'
        exact h'.trans (later_apply ..))
    t.val t.isLt (by omega)

theorem idx_7 (t : Fin cfg0.N) : win0_7.index t 0 = 0 ∧ win0_7.index t 1 = 0 :=
  (by decide +kernel : ∀ t : Fin grid0.N, win0_7.index t 0 = 0 ∧ win0_7.index t 1 = 0) t

theorem loss_7 (t : Fin cfg0.N) (ht : t.val = 7) :
    (outsAt0 m c t.val t.isLt).2.2.1 (ix2 0 0) = Layer.loss (err m c) := by
  rw [Blocks.outs_7 m c t (by omega), loss_apply]
  simp only [sum_s m c t ht]
  rfl

theorem final_7 : (dats m 0 c).arrAt 7 cfg0.N = fun _ => Layer.loss (err m c) := by
  have hN : cfg0.N = 8 := N_0
  refine (dats m 0 c).arrAt_eq_of_cover 7 _ (fun t ht => ?_) (fun i => ?_)
  · have hl := lt_N t
    have ht' : t.val = 7 := by have := (flush0_7 t).mp ht; omega
    rw [Value.flushed7]
    funext y
    rw [View.read_apply]
    have hy : (show Shape.Idx S1x1 from y) = ix2 0 0 := by
      funext a
      match a with
      | ⟨0, _⟩ => exact Subsingleton.elim (α := Fin 1) _ _
      | ⟨1, _⟩ => exact Subsingleton.elim (α := Fin 1) _ _
    exact (congrArg ((outsAt0 m c t.val t.isLt).2.2.1) hy).trans (loss_7 m c t ht')
  · have h0 : (i 0).val < 1 := (i 0).isLt
    have h1 : (i 1).val < 1 := (i 1).isLt
    let t : Fin cfg0.N := ⟨7, by omega⟩
    have hi := idx_7 t
    refine ⟨t, (flush0_7 t).mpr rfl, ?_⟩
    show i ∈ ((View.whole main_v0_2).slice (win0_7.rect t)).set
    rw [View.set_slice_whole, Rect.mem_set_unit]
    intro a
    match a with
    | ⟨0, _⟩ => show win0_7.index t 0 * 1 ≤ (i 0).val ∧ (i 0).val < win0_7.index t 0 * 1 + 1; rw [hi.1]; omega
    | ⟨1, _⟩ => show win0_7.index t 1 * 1 ≤ (i 1).val ∧ (i 1).val < win0_7.index t 1 * 1 + 1; rw [hi.2]; omega

end Cert.Kernel11Ideal.Final

end
-- ==== Proof.MlpLossRef.lean ====
/-
  The reference of the forward call `mlp_out_loss`, over the extended reals: its arrays, as the host computes them, are the layer's
  values (`Layer`) as functions of plain matrices.
-/
module

public import proofs.«01_k».proof.Proof.Layer
public import proofs.«01_k».proof.Proof.Gen.Reference11Ideal.Read
public import Idealize.ShloMosaic.Lib.Pointwise

@[expose] public section

set_option maxRecDepth 16384

noncomputable section

namespace Cert.Reference11Ideal.Grad

open Cert.Reference11Ideal Cert.Reference11Ideal.Read Idealize.ShloMosaic

variable (x0 : FVec Ideal S4096x4096 .bf16) (x1 : FVec Ideal S4096x1024 .bf16) (x2 : FVec Ideal S4096x1024 .f32) (x3 : FVec Ideal S1x1024 .f32)
  (x4 : FVec Ideal S4096x1024 .f32)

abbrev U : Layer.Mat 4096 4096 := fun r k => x0 (ix2 r k)
abbrev W : Layer.Mat 4096 1024 := fun r k => x1 (ix2 r k)
abbrev X : Layer.Mat 4096 1024 := fun r k => x2 (ix2 r k)
abbrev GT : Fin 1024 → EReal := fun k => x3 (ix2 0 k)
abbrev TG : Layer.Mat 4096 1024 := fun r k => x4 (ix2 r k)
abbrev F2 : Layer.Mat 4096 1024 := Layer.nn (Layer.sq (U x0)) (W x1)
abbrev ERR : Layer.Mat 4096 1024 := fun r j => Layer.resid (X x2) (GT x3) (F2 x0 x1) r j - TG x4 r j

theorem f_at (r : Fin 4096) (j : Fin 1024) : val_main_v4 (F := Ideal) x0 x1 (ix2 r j) = F2 x0 x1 r j := by
  pointwise [val_main_v4, val_main_v3, val_main_v2, val_main_v1, val_main_v0, val_main_call0_v0, val_main_call0_cst]
  rfl

theorem f_eq : val_main_v23 (F := Ideal) x0 x1 = fun i => F2 x0 x1 (i 0) (i 1) := by
  funext i
  idx_vars i
  pointwise [val_main_v23]
  exact f_at ..

theorem err_at (r : Fin 4096) (j : Fin 1024) : val_main_v8 (F := Ideal) x0 x1 x2 x3 x4 (ix2 r j) = ERR x0 x1 x2 x3 x4 r j := by
  pointwise [val_main_v8, val_main_v7, val_main_v6, val_main_v5]
  rw [f_at]
  rfl

theorem dx_eq : val_main_v22 (F := Ideal) x0 x1 x2 x3 x4
    = fun i => ERR x0 x1 x2 x3 x4 (i 0) (i 1) * ((1024⁻¹ : ℝ) : EReal) := by
  funext i
  idx_vars i
  pointwise [val_main_v22, val_main_v21, val_main_v20, val_main_v19, val_main_v18, val_main_v17, val_main_v11, val_main_v10, val_main_cst, val_main_cst_0, val_main_cst_1, val_main_cst_2, val_main_cst_3, val_main_cst_4, val_main_cst_5, val_main_cst_6]
  rw [err_at, Layer.half_eq, Layer.two_eq, ← mul_assoc, Rows.div_width, mul_comm _ (ERR _ _ _ _ _ _ _)]
  congr 1
  rw [← EReal.coe_mul, show (2 : EReal) = ((2 : ℝ) : EReal) from rfl, ← EReal.coe_mul]
  norm_num

theorem loss_eq : val_main_v24 (F := Ideal) x0 x1 x2 x3 x4 = fun _ => Layer.loss (ERR x0 x1 x2 x3 x4) := by
  funext i
  idx_vars i
  pointwise [val_main_v24, val_main_v16, val_main_v15, val_main_v14, val_main_v13, val_main_v12, val_main_v9, val_main_cst, val_main_cst_0, val_main_cst_1, val_main_cst_2, val_main_cst_3, val_main_cst_4, val_main_cst_5, val_main_cst_6]
  simp only [err_at]
  rw [Layer.half_eq]
  exact Layer.half_means _

end Cert.Reference11Ideal.Grad

end
-- ==== Proof.MlpLossClaims.lean ====
/-
  The claims about the forward call `mlp_out_loss`: the reference's run, and the equality of the call's three arrays with the
  reference's over the extended reals.
-/
module

public import proofs.«01_k».proof.Defs
public import proofs.«01_k».proof.Proof.MlpLossValue
public import proofs.«01_k».proof.Proof.MlpLossRef
public import proofs.«01_k».proof.Proof.Gen.Kernel11.Frame
public import proofs.«01_k».proof.Proof.Gen.Reference11Ideal.Run
public import proofs.«01_k».proof.Proof.Gen.Reference11Ideal.Read
public import Idealize.ShloMosaic.Adequacy
public import Idealize.ShloMosaic.Lib.Quiescent

@[expose] public section

set_option maxRecDepth 16384

noncomputable section

namespace Cert.MlpLoss

open Idealize.ShloMosaic Idealize.ShloMosaic.TcCoe Idealize.SL.Sem

theorem mat_5 (m : (ℓ : Loc Kernel11Ideal.nD Kernel11Ideal.τ Kernel11Ideal.sig) → Buf (Elt Ideal) ℓ) (c : Dev Kernel11Ideal.nD) :
    (fun r j => Reference11Ideal.Grad.ERR (m ((c.tc : Thread Kernel11Ideal.nD Kernel11Ideal.τ).loc Kernel11Ideal.main_arg0)) (m ((c.tc : Thread Kernel11Ideal.nD Kernel11Ideal.τ).loc Kernel11Ideal.main_arg1)) (m ((c.tc : Thread Kernel11Ideal.nD Kernel11Ideal.τ).loc Kernel11Ideal.main_arg2)) (m ((c.tc : Thread Kernel11Ideal.nD Kernel11Ideal.τ).loc Kernel11Ideal.main_arg3)) (m ((c.tc : Thread Kernel11Ideal.nD Kernel11Ideal.τ).loc Kernel11Ideal.main_arg4)) r j * ((1024⁻¹ : ℝ) : EReal)) = Kernel11Ideal.Final.dx m c := by
  simp only [Kernel11Ideal.Gen.V_main_arg0, Kernel11Ideal.Gen.V_main_arg1, Kernel11Ideal.Gen.V_main_arg2, Kernel11Ideal.Gen.V_main_arg3, Kernel11Ideal.Gen.V_main_arg4, Kernel11Ideal.Final.u, Kernel11Ideal.Final.w, Kernel11Ideal.Final.x, Kernel11Ideal.Final.gt, Kernel11Ideal.Final.tg, Kernel11Ideal.Final.f, Kernel11Ideal.Final.err, Kernel11Ideal.Final.dx]
  try rfl

theorem out_5 (m : (ℓ : Loc Kernel11Ideal.nD Kernel11Ideal.τ Kernel11Ideal.sig) → Buf (Elt Ideal) ℓ) (c : Dev Kernel11Ideal.nD)
    {x0 x1 x2 x3 x4} (h0 : x0 = m ((c.tc : Thread Kernel11Ideal.nD Kernel11Ideal.τ).loc Kernel11Ideal.main_arg0)) (h1 : x1 = m ((c.tc : Thread Kernel11Ideal.nD Kernel11Ideal.τ).loc Kernel11Ideal.main_arg1)) (h2 : x2 = m ((c.tc : Thread Kernel11Ideal.nD Kernel11Ideal.τ).loc Kernel11Ideal.main_arg2)) (h3 : x3 = m ((c.tc : Thread Kernel11Ideal.nD Kernel11Ideal.τ).loc Kernel11Ideal.main_arg3)) (h4 : x4 = m ((c.tc : Thread Kernel11Ideal.nD Kernel11Ideal.τ).loc Kernel11Ideal.main_arg4)) :
    Reference11Ideal.Read.val_main_v22 (F := Ideal) x0 x1 x2 x3 x4 = (Kernel11Ideal.Gen.dats m 0 c).arrAt 5 Kernel11Ideal.cfg0.N := by
  subst h0 h1 h2 h3 h4
  refine (Reference11Ideal.Grad.dx_eq _ _ _ _ _).trans (Eq.trans ?_ (Kernel11Ideal.Final.final_5 m c).symm)
  exact congrArg (fun M (i : Shape.Idx Kernel11Ideal.S4096x1024) => M (i 0) (i 1)) (mat_5 m c)

theorem mat_6 (m : (ℓ : Loc Kernel11Ideal.nD Kernel11Ideal.τ Kernel11Ideal.sig) → Buf (Elt Ideal) ℓ) (c : Dev Kernel11Ideal.nD) :
    Reference11Ideal.Grad.F2 (m ((c.tc : Thread Kernel11Ideal.nD Kernel11Ideal.τ).loc Kernel11Ideal.main_arg0)) (m ((c.tc : Thread Kernel11Ideal.nD Kernel11Ideal.τ).loc Kernel11Ideal.main_arg1)) = Kernel11Ideal.Final.f m c := by
  simp only [Kernel11Ideal.Gen.V_main_arg0, Kernel11Ideal.Gen.V_main_arg1, Kernel11Ideal.Gen.V_main_arg2, Kernel11Ideal.Gen.V_main_arg3, Kernel11Ideal.Gen.V_main_arg4, Kernel11Ideal.Final.u, Kernel11Ideal.Final.w, Kernel11Ideal.Final.x, Kernel11Ideal.Final.gt, Kernel11Ideal.Final.tg, Kernel11Ideal.Final.f, Kernel11Ideal.Final.err, Kernel11Ideal.Final.dx]
  try rfl

theorem out_6 (m : (ℓ : Loc Kernel11Ideal.nD Kernel11Ideal.τ Kernel11Ideal.sig) → Buf (Elt Ideal) ℓ) (c : Dev Kernel11Ideal.nD)
    {x0 x1} (h0 : x0 = m ((c.tc : Thread Kernel11Ideal.nD Kernel11Ideal.τ).loc Kernel11Ideal.main_arg0)) (h1 : x1 = m ((c.tc : Thread Kernel11Ideal.nD Kernel11Ideal.τ).loc Kernel11Ideal.main_arg1)) :
    Reference11Ideal.Read.val_main_v23 (F := Ideal) x0 x1 = (Kernel11Ideal.Gen.dats m 0 c).arrAt 6 Kernel11Ideal.cfg0.N := by
  subst h0 h1
  refine (Reference11Ideal.Grad.f_eq _ _).trans (Eq.trans ?_ (Kernel11Ideal.Final.final_6 m c).symm)
  exact congrArg (fun M (i : Shape.Idx Kernel11Ideal.S4096x1024) => M (i 0) (i 1)) (mat_6 m c)

theorem mat_7 (m : (ℓ : Loc Kernel11Ideal.nD Kernel11Ideal.τ Kernel11Ideal.sig) → Buf (Elt Ideal) ℓ) (c : Dev Kernel11Ideal.nD) :
    Layer.loss (Reference11Ideal.Grad.ERR (m ((c.tc : Thread Kernel11Ideal.nD Kernel11Ideal.τ).loc Kernel11Ideal.main_arg0)) (m ((c.tc : Thread Kernel11Ideal.nD Kernel11Ideal.τ).loc Kernel11Ideal.main_arg1)) (m ((c.tc : Thread Kernel11Ideal.nD Kernel11Ideal.τ).loc Kernel11Ideal.main_arg2)) (m ((c.tc : Thread Kernel11Ideal.nD Kernel11Ideal.τ).loc Kernel11Ideal.main_arg3)) (m ((c.tc : Thread Kernel11Ideal.nD Kernel11Ideal.τ).loc Kernel11Ideal.main_arg4))) = Layer.loss (Kernel11Ideal.Final.err m c) := by
  simp only [Kernel11Ideal.Gen.V_main_arg0, Kernel11Ideal.Gen.V_main_arg1, Kernel11Ideal.Gen.V_main_arg2, Kernel11Ideal.Gen.V_main_arg3, Kernel11Ideal.Gen.V_main_arg4, Kernel11Ideal.Final.u, Kernel11Ideal.Final.w, Kernel11Ideal.Final.x, Kernel11Ideal.Final.gt, Kernel11Ideal.Final.tg, Kernel11Ideal.Final.f, Kernel11Ideal.Final.err, Kernel11Ideal.Final.dx]
  try rfl

theorem out_7 (m : (ℓ : Loc Kernel11Ideal.nD Kernel11Ideal.τ Kernel11Ideal.sig) → Buf (Elt Ideal) ℓ) (c : Dev Kernel11Ideal.nD)
    {x0 x1 x2 x3 x4} (h0 : x0 = m ((c.tc : Thread Kernel11Ideal.nD Kernel11Ideal.τ).loc Kernel11Ideal.main_arg0)) (h1 : x1 = m ((c.tc : Thread Kernel11Ideal.nD Kernel11Ideal.τ).loc Kernel11Ideal.main_arg1)) (h2 : x2 = m ((c.tc : Thread Kernel11Ideal.nD Kernel11Ideal.τ).loc Kernel11Ideal.main_arg2)) (h3 : x3 = m ((c.tc : Thread Kernel11Ideal.nD Kernel11Ideal.τ).loc Kernel11Ideal.main_arg3)) (h4 : x4 = m ((c.tc : Thread Kernel11Ideal.nD Kernel11Ideal.τ).loc Kernel11Ideal.main_arg4)) :
    Reference11Ideal.Read.val_main_v24 (F := Ideal) x0 x1 x2 x3 x4 = (Kernel11Ideal.Gen.dats m 0 c).arrAt 7 Kernel11Ideal.cfg0.N := by
  subst h0 h1 h2 h3 h4
  refine (Reference11Ideal.Grad.loss_eq _ _ _ _ _).trans (Eq.trans ?_ (Kernel11Ideal.Final.final_7 m c).symm)
  exact congrArg (fun M (i : Shape.Idx Kernel11Ideal.S1x1) => M ) (mat_7 m c)

/-- The reference runs and leaves its arguments alone. -/
theorem frame_reference : Cert.quiescent_Reference11Ideal := fun m g _ =>
  (θ_run Reference11Ideal.defs _ _).mono (fun r h => ⟨fun c => (h c).2.2.2, sem_eq_zero_of_no_sems (by decide) r.2⟩)
    (Reference11Ideal.Value.run m g)

/-- The call's arrays and the reference's are equal, element by element, over the extended reals. -/
theorem algebraic : Cert.algebraic_Kernel11Ideal_Reference11Ideal := by
  intro m g m' g' _ hargs
  refine ⟨fun c => (Kernel11Ideal.Gen.dats m 0 c).arrAt 5 Kernel11Ideal.cfg0.N, fun c => (Kernel11Ideal.Gen.dats m 0 c).arrAt 6 Kernel11Ideal.cfg0.N, fun c => (Kernel11Ideal.Gen.dats m 0 c).arrAt 7 Kernel11Ideal.cfg0.N,
    Kernel11Ideal.Value.run_blocks m g,
    (θ_run Reference11Ideal.defs _ _).mono (fun r h c => ?_) (Reference11Ideal.Value.run m' g')⟩
  obtain ⟨a0, a1, a2, a3, a4⟩ := hargs c
  have hc := h c
  exact ⟨hc.1.trans ((Reference11Ideal.Read.val_main_v22_eq _ _ _ _ _).trans (out_5 m c a0 a1 a2 a3 a4)),
    hc.2.1.trans ((Reference11Ideal.Read.val_main_v23_eq _ _).trans (out_6 m c a0 a1)),
    hc.2.2.1.trans ((Reference11Ideal.Read.val_main_v24_eq _ _ _ _ _).trans (out_7 m c a0 a1 a2 a3 a4)),
    hc.2.2.2⟩

end Cert.MlpLoss

end
-- ==== Proof.CaFwdBlocks.lean ====
/-
  What the body of the forward call `ca_fwd` leaves in its output block and in the two scratch buffers it carries, as named
  payloads of the point's input blocks, over any float values.
-/
module

public import proofs.«01_k».proof.Proof.Gen.Kernel12Ideal.Frame
public import Idealize.ShloMosaic.Lib.Pipeline.Value
public import Idealize.ShloMosaic.Lib.Pipeline.ValueKit.Acc
public import Idealize.ShloMosaic.Lib.Pipeline.ReadBack
public import Idealize.ShloMosaic.Lib.Tactic

@[expose] public section

set_option maxRecDepth 16384

noncomputable section

namespace Cert.Kernel12Ideal.Blocks

open Cert.Kernel12Ideal Cert.Kernel12Ideal.Gen Idealize.ShloMosaic Idealize.ShloMosaic.TcCoe Idealize.SL.Sem

variable {F : FTy → Type} [FloatOps F] [Named F]
variable (m : (ℓ : Loc nD τ sig) → Buf (Elt F) ℓ)

/-- The output tile of one pair of heads: its two heads' soft maximums over the window, times the window's values, each head in
    its own lanes. -/
def tile (i : BitVec 32) (q : Vec F S128x128 .bf16) (g : Vec F S1x128 .f32) (kb vb : Vec F S1x640x128 .bf16)
    (ba bb : Vec F S1x128x640 .f32) : Vec F S128x128 .bf16 :=
  k0_pay72 k0_pay32 (k0_pay71 (k0_pay63 (k0_pay36 i k0_pay32 (k0_pay33 q g) kb ba)) (k0_pay64 (k0_pay37 i k0_pay32 (k0_pay33 q g) kb bb))) vb

/-- The normalised keys of the four pairs of heads, each below 512 rows of zeros. -/
def keys (x : Vec F S4096x512 .bf16) (g : Vec F S1x128 .f32) : Vec F S4x4608x128 .bf16 :=
  View.canon (Val := Elt F) [⟨Rect.unit ![3, 512, 0] S1x4096x128.size inb_S4x4608x128_S1x4096x128_3_512_0, k0_pay5 (k0_pay1 (View.ld x (Rect.unit ![0, 384] S4096x128.size inb_S4096x512_S4096x128_0_384)) g)⟩,
    ⟨Rect.unit ![3, 0, 0] S1x512x128.size inb_S4x4608x128_S1x512x128_3_0_0, k0_pay2⟩,
    ⟨Rect.unit ![2, 512, 0] S1x4096x128.size inb_S4x4608x128_S1x4096x128_2_512_0, k0_pay5 (k0_pay1 (View.ld x (Rect.unit ![0, 256] S4096x128.size inb_S4096x512_S4096x128_0_256)) g)⟩,
    ⟨Rect.unit ![2, 0, 0] S1x512x128.size inb_S4x4608x128_S1x512x128_2_0_0, k0_pay2⟩,
    ⟨Rect.unit ![1, 512, 0] S1x4096x128.size inb_S4x4608x128_S1x4096x128_1_512_0, k0_pay5 (k0_pay1 (View.ld x (Rect.unit ![0, 128] S4096x128.size inb_S4096x512_S4096x128_0_128)) g)⟩,
    ⟨Rect.unit ![1, 0, 0] S1x512x128.size inb_S4x4608x128_S1x512x128_1_0_0, k0_pay2⟩,
    ⟨Rect.unit ![0, 512, 0] S1x4096x128.size inb_S4x4608x128_S1x4096x128_0_512_0, k0_pay5 (k0_pay1 (View.ld x (Rect.unit ![0, 0] S4096x128.size inb_S4096x512_S4096x128_0_0)) g)⟩,
    ⟨Rect.unit ![0, 0, 0] S1x512x128.size inb_S4x4608x128_S1x512x128_0_0_0, k0_pay2⟩]

/-- The values of the four pairs of heads, each below 512 rows of zeros. -/
def vals (x : Vec F S4096x512 .bf16) : Vec F S4x4608x128 .bf16 :=
  View.canon (Val := Elt F) [⟨Rect.unit ![3, 512, 0] S1x4096x128.size inb_S4x4608x128_S1x4096x128_3_512_0, k0_pay6 (View.ld x (Rect.unit ![0, 384] S4096x128.size inb_S4096x512_S4096x128_0_384))⟩,
    ⟨Rect.unit ![3, 0, 0] S1x512x128.size inb_S4x4608x128_S1x512x128_3_0_0, k0_pay2⟩,
    ⟨Rect.unit ![2, 512, 0] S1x4096x128.size inb_S4x4608x128_S1x4096x128_2_512_0, k0_pay6 (View.ld x (Rect.unit ![0, 256] S4096x128.size inb_S4096x512_S4096x128_0_256))⟩,
    ⟨Rect.unit ![2, 0, 0] S1x512x128.size inb_S4x4608x128_S1x512x128_2_0_0, k0_pay2⟩,
    ⟨Rect.unit ![1, 512, 0] S1x4096x128.size inb_S4x4608x128_S1x4096x128_1_512_0, k0_pay6 (View.ld x (Rect.unit ![0, 128] S4096x128.size inb_S4096x512_S4096x128_0_128))⟩,
    ⟨Rect.unit ![1, 0, 0] S1x512x128.size inb_S4x4608x128_S1x512x128_1_0_0, k0_pay2⟩,
    ⟨Rect.unit ![0, 512, 0] S1x4096x128.size inb_S4x4608x128_S1x4096x128_0_512_0, k0_pay6 (View.ld x (Rect.unit ![0, 0] S4096x128.size inb_S4096x512_S4096x128_0_0))⟩,
    ⟨Rect.unit ![0, 0, 0] S1x512x128.size inb_S4x4608x128_S1x512x128_0_0_0, k0_pay2⟩]

/-- The output block at a point, over the keys and values carried. -/
def out (i : grid0.Coords) (x : Vec F S128x512 .bf16) (b : Vec F S8x128x640 .f32) (g : Vec F S1x128 .f32)
    (K W : Vec F S4x4608x128 .bf16) : Vec F S128x512 .bf16 :=
  View.canon (Val := Elt F) [⟨Rect.unit ![0, 384] S128x128.size inb_S128x512_S128x128_0_384, tile (BitVec.ofNat 32 (i 1).val) (View.ld x (Rect.unit ![0, 384] S128x128.size inb_S128x512_S128x128_0_384)) g (View.ld K (Rect.unit (s := S4x4608x128) (k0_off4 i) S1x640x128.size (k0_off4_inb i))) (View.ld W (Rect.unit (s := S4x4608x128) (k0_off4 i) S1x640x128.size (k0_off4_inb i))) (View.ld b (Rect.unit ![6, 0, 0] S1x128x640.size inb_S8x128x640_S1x128x640_6_0_0)) (View.ld b (Rect.unit ![7, 0, 0] S1x128x640.size inb_S8x128x640_S1x128x640_7_0_0))⟩,
    ⟨Rect.unit ![0, 256] S128x128.size inb_S128x512_S128x128_0_256, tile (BitVec.ofNat 32 (i 1).val) (View.ld x (Rect.unit ![0, 256] S128x128.size inb_S128x512_S128x128_0_256)) g (View.ld K (Rect.unit (s := S4x4608x128) (k0_off3 i) S1x640x128.size (k0_off3_inb i))) (View.ld W (Rect.unit (s := S4x4608x128) (k0_off3 i) S1x640x128.size (k0_off3_inb i))) (View.ld b (Rect.unit ![4, 0, 0] S1x128x640.size inb_S8x128x640_S1x128x640_4_0_0)) (View.ld b (Rect.unit ![5, 0, 0] S1x128x640.size inb_S8x128x640_S1x128x640_5_0_0))⟩,
    ⟨Rect.unit ![0, 128] S128x128.size inb_S128x512_S128x128_0_128, tile (BitVec.ofNat 32 (i 1).val) (View.ld x (Rect.unit ![0, 128] S128x128.size inb_S128x512_S128x128_0_128)) g (View.ld K (Rect.unit (s := S4x4608x128) (k0_off2 i) S1x640x128.size (k0_off2_inb i))) (View.ld W (Rect.unit (s := S4x4608x128) (k0_off2 i) S1x640x128.size (k0_off2_inb i))) (View.ld b (Rect.unit ![2, 0, 0] S1x128x640.size inb_S8x128x640_S1x128x640_2_0_0)) (View.ld b (Rect.unit ![3, 0, 0] S1x128x640.size inb_S8x128x640_S1x128x640_3_0_0))⟩,
    ⟨Rect.unit ![0, 0] S128x128.size inb_S128x512_S128x128_0_0, tile (BitVec.ofNat 32 (i 1).val) (View.ld x (Rect.unit ![0, 0] S128x128.size inb_S128x512_S128x128_0_0)) g (View.ld K (Rect.unit (s := S4x4608x128) (k0_off1 i) S1x640x128.size (k0_off1_inb i))) (View.ld W (Rect.unit (s := S4x4608x128) (k0_off1 i) S1x640x128.size (k0_off1_inb i))) (View.ld b (Rect.unit ![0, 0, 0] S1x128x640.size inb_S8x128x640_S1x128x640_0_0_0)) (View.ld b (Rect.unit ![1, 0, 0] S1x128x640.size inb_S8x128x640_S1x128x640_1_0_0))⟩]

/-- The first point. -/
abbrev t0 : Fin cfg0.N := ⟨0, by rw [show cfg0.N = 32 from N_0]; decide⟩

theorem outA_k (c : Dev nD) (t : Fin cfg0.N) (h0 : t.val % 32 = 0) :
    (outsAt0 m c t.val t.isLt).2.1 = keys (iblk m c 1 t) (iblk m c 5 t) := by
  rw [outsAt0_A m c t h0]
  funext y
  frame_out
  rfl

theorem outA_v (c : Dev nD) (t : Fin cfg0.N) (h0 : t.val % 32 = 0) :
    (outsAt0 m c t.val t.isLt).2.2 = vals (iblk m c 2 t) := by
  rw [outsAt0_A m c t h0]
  funext y
  frame_out
  rfl

theorem outA (c : Dev nD) (t : Fin cfg0.N) (h0 : t.val % 32 = 0) :
    (outsAt0 m c t.val t.isLt).1 = out (grid0.coords t) (iblk m c 0 t) (iblk m c 3 t) (iblk m c 4 t) (keys (iblk m c 1 t) (iblk m c 5 t)) (vals (iblk m c 2 t)) := by
  rw [outsAt0_A m c t h0]
  funext y
  frame_out
  rfl

theorem outB_k (c : Dev nD) (t : Fin cfg0.N) (h0 : ¬t.val % 32 = 0) :
    (outsAt0 m c t.val t.isLt).2.1 = (outsAt0 m c (t.val - 1) (Nat.lt_of_le_of_lt (Nat.sub_le _ _) t.isLt)).2.1 := by
  rw [outsAt0_B m c t h0]
  rfl

theorem outB_v (c : Dev nD) (t : Fin cfg0.N) (h0 : ¬t.val % 32 = 0) :
    (outsAt0 m c t.val t.isLt).2.2 = (outsAt0 m c (t.val - 1) (Nat.lt_of_le_of_lt (Nat.sub_le _ _) t.isLt)).2.2 := by
  rw [outsAt0_B m c t h0]
  rfl

theorem outB (c : Dev nD) (t : Fin cfg0.N) (h0 : ¬t.val % 32 = 0) :
    (outsAt0 m c t.val t.isLt).1 = out (grid0.coords t) (iblk m c 0 t) (iblk m c 3 t) (iblk m c 4 t)
      (outsAt0 m c (t.val - 1) (Nat.lt_of_le_of_lt (Nat.sub_le _ _) t.isLt)).2.1 (outsAt0 m c (t.val - 1) (Nat.lt_of_le_of_lt (Nat.sub_le _ _) t.isLt)).2.2 := by
  rw [outsAt0_B m c t h0]
  funext y
  frame_out
  simp only [read_unread_whole]
  rfl

/-- The carried scratch keeps what the first point put there. -/
theorem carried (c : Dev nD) : ∀ (n : Nat) (hn : n < cfg0.N), (outsAt0 m c n hn).2.1 = keys (iblk m c 1 t0) (iblk m c 5 t0)
    ∧ (outsAt0 m c n hn).2.2 = vals (iblk m c 2 t0) := by
  intro n
  have hN : cfg0.N = 32 := N_0
  induction n with
  | zero => intro hn; exact ⟨outA_k m c ⟨0, hn⟩ (Nat.zero_mod 32), outA_v m c ⟨0, hn⟩ (Nat.zero_mod 32)⟩
  | succ n ih =>
    intro hn
    have h0 : ¬(n + 1) % 32 = 0 := by omega
    have hI := ih (by omega)
    exact ⟨(outB_k m c ⟨n + 1, hn⟩ h0).trans hI.1, (outB_v m c ⟨n + 1, hn⟩ h0).trans hI.2⟩

theorem outs (c : Dev nD) (t : Fin cfg0.N) :
    (outsAt0 m c t.val t.isLt).1 = out (grid0.coords t) (iblk m c 0 t) (iblk m c 3 t) (iblk m c 4 t)
      (keys (iblk m c 1 t0) (iblk m c 5 t0)) (vals (iblk m c 2 t0)) := by
  by_cases h0 : t.val % 32 = 0
  · have hN : cfg0.N = 32 := N_0
    have ht := t.isLt
    have e : t = t0 := by apply Fin.ext; show t.val = 0; omega
    rw [outA m c t h0]
    rw [e]
  · have h := carried m c (t.val - 1) (Nat.lt_of_le_of_lt (Nat.sub_le _ _) t.isLt)
    rw [outB m c t h0, h.1, h.2]

end Cert.Kernel12Ideal.Blocks

end
-- ==== Proof.CaFwdRow.lean ====
/-
  One query row of the chunked attention over the extended reals: the per-head normalisation as the kernel computes it on two
  heads side by side in 128 lanes, and the soft maximum over a 640-key window in which only 576 keys are admitted.
-/
module

public import proofs.«01_k».proof.Proof.Rows
public import Mathlib.Data.EReal.Operations
public import Mathlib.Data.EReal.Inv

@[expose] public section

noncomputable section

namespace Cert.CaRow

open Idealize.ShloMosaic

/-- An extended real that is a real number. -/
def Real1 (x : EReal) : Prop := ∃ r : ℝ, x = (r : EReal)

theorem Real1.ne_top {x : EReal} (h : Real1 x) : x ≠ ⊤ := by obtain ⟨r, rfl⟩ := h; exact EReal.coe_ne_top r
theorem Real1.ne_bot {x : EReal} (h : Real1 x) : x ≠ ⊥ := by obtain ⟨r, rfl⟩ := h; exact EReal.coe_ne_bot r
theorem Real1.add {x y : EReal} (hx : Real1 x) (hy : Real1 y) : Real1 (x + y) := by
  obtain ⟨r, rfl⟩ := hx; obtain ⟨s, rfl⟩ := hy; exact ⟨r + s, (EReal.coe_add r s).symm⟩
theorem Real1.mul {x y : EReal} (hx : Real1 x) (hy : Real1 y) : Real1 (x * y) := by
  obtain ⟨r, rfl⟩ := hx; obtain ⟨s, rfl⟩ := hy; exact ⟨r * s, (EReal.coe_mul r s).symm⟩
theorem Real1.sum {ι : Type} (s : Finset ι) (f : ι → EReal) (h : ∀ i, Real1 (f i)) : Real1 (∑ i ∈ s, f i) := by
  classical
  induction s using Finset.induction_on with
  | empty => exact ⟨0, by simp⟩
  | insert a s ha ih => rw [Finset.sum_insert ha]; exact (h a).add ih

/-- One sixty-fourth, sixty-four and one eighth, as the programs spell them. -/
abbrev cInv : EReal := Ideal.ofBits .f32 0x3C800000#32
abbrev c64 : EReal := Ideal.ofBits .f32 0x42800000#32
abbrev c8 : EReal := Ideal.ofBits .f32 0x3E000000#32

theorem cInv_eq : cInv = ((64⁻¹ : ℝ) : EReal) := by
  simp [cInv, Ideal.ofBits, Ideal.ieee, -EReal.coe_mul]; norm_num
theorem c64_eq : c64 = ((64 : ℝ) : EReal) := by
  simp [c64, Ideal.ofBits, Ideal.ieee, -EReal.coe_mul]; norm_num
theorem c8_eq : c8 = ((8⁻¹ : ℝ) : EReal) := by
  simp [c8, Ideal.ofBits, Ideal.ieee, -EReal.coe_mul]; norm_num
theorem low_eq : Ideal.ofBits .f32 0xFF800000#32 = (⊥ : EReal) := by
  simp [Ideal.ofBits, Ideal.ieee]

theorem div_64 (x : EReal) : Ideal.div x c64 = x * cInv := by
  have h : ((64 : ℝ) : EReal) ≠ 0 := by norm_cast
  rw [c64_eq, cInv_eq, Ideal.div, if_neg h, EReal.coe_inv]

/-- The reciprocal root mean square of one head's row. -/
def inv (x : Fin 64 → EReal) : EReal := Ideal.rsqrt (Ideal.div (∑ k, x k * x k) c64 + Rows.cEps)
/-- One head's normalised row, times its gain. -/
def hn (x g : Fin 64 → EReal) (d : Fin 64) : EReal := x d * inv x * g d

theorem inv_real (x : Fin 64 → EReal) (hx : ∀ k, Real1 (x k)) : Real1 (inv x) := by
  obtain ⟨e, he, hE⟩ := Rows.cEps_pos
  have h0 : (0 : EReal) ≤ ∑ k, x k * x k := Finset.sum_nonneg fun k _ => Rows.square_nonneg (x k)
  obtain ⟨s, hs⟩ := Real1.sum Finset.univ (fun k => x k * x k) fun k => (hx k).mul (hx k)
  rw [hs] at h0
  have hs0 : 0 ≤ s := EReal.coe_nonneg.mp h0
  have hp : 0 < s * 64⁻¹ + e := by positivity
  refine ⟨(Real.sqrt (s * 64⁻¹ + e))⁻¹, ?_⟩
  unfold inv
  rw [hs, div_64, cInv_eq, hE, ← EReal.coe_mul, ← EReal.coe_add, Ideal.rsqrt_coe, if_neg (not_lt.mpr hp.le), if_neg hp.ne']

theorem hn_real (x g : Fin 64 → EReal) (hx : ∀ k, Real1 (x k)) (hg : ∀ k, Real1 (g k)) (d : Fin 64) : Real1 (hn x g d) :=
  ((hx d).mul (inv_real x hx)).mul (hg d)

/-! ### Two heads in 128 lanes -/

theorem lane_lt (l : Fin 128) (a b : EReal) :
    Scalar.select (IntOp.cmpi CmpIPredicate.slt (BitVec.ofNat 32 l.val) 64#32) a b = if l.val < 64 then a else b := by
  have h : (IntOp.cmpi CmpIPredicate.slt (BitVec.ofNat 32 l.val) 64#32) = if l.val < 64 then 1#1 else 0#1 := by
    revert l; decide
  rw [h]
  split <;> rfl

theorem sum_all (f : Fin 128 → EReal) :
    ∑ l, f l = (∑ e : Fin 64, f ⟨e.val, by omega⟩) + ∑ e : Fin 64, f ⟨64 + e.val, by omega⟩ :=
  Fin.sum_univ_add (a := 64) (b := 64) f

theorem sum_lo (f : Fin 128 → EReal) :
    (∑ l : Fin 128, if l.val < 64 then f l else 0) = ∑ e : Fin 64, f ⟨e.val, by omega⟩ := by
  rw [sum_all]
  simp

theorem sum_hi (f : Fin 128 → EReal) :
    (∑ l : Fin 128, if l.val < 64 then 0 else f l) = ∑ e : Fin 64, f ⟨64 + e.val, by omega⟩ := by
  rw [sum_all]
  simp

/-- A sum over the lanes of the first head, and of the second head. -/
def lo (f : Fin 128 → EReal) : EReal := ∑ l : Fin 128, if l.val < 64 then f l else 0
def hi (f : Fin 128 → EReal) : EReal := ∑ l : Fin 128, if l.val < 64 then 0 else f l

/-- The reciprocal root a lane takes, of the head the lane belongs to: the second head's sum of squares is the sum over both heads
    less the first head's. -/
theorem lane_inv (x : Fin 128 → EReal) (hx : ∀ l, Real1 (x l)) (l : Fin 128) (b : Fin 2) (d : Fin 64) (hl : l.val = 64 * b.val + d.val) :
    (if l.val < 64 then Ideal.rsqrt ((∑ k : Fin 128, if k.val < 64 then x k * x k else 0) * cInv + Rows.cEps)
      else Ideal.rsqrt ((∑ k, x k * x k - ∑ k : Fin 128, if k.val < 64 then x k * x k else 0) * cInv + Rows.cEps))
      = inv fun e => x ⟨64 * b.val + e.val, by omega⟩ := by
  unfold inv
  rw [div_64, sum_lo fun k => x k * x k]
  by_cases h : l.val < 64
  · have hb : b = 0 := by apply Fin.ext; simp; omega
    subst hb
    rw [if_pos h]
    simp
  · have hb : b = 1 := by apply Fin.ext; simp; omega
    subst hb
    rw [if_neg h, sum_all fun k => x k * x k]
    obtain ⟨s, hs⟩ := Real1.sum Finset.univ (fun e : Fin 64 => x ⟨e.val, by omega⟩ * x ⟨e.val, by omega⟩) fun e => (hx _).mul (hx _)
    obtain ⟨t, ht⟩ := Real1.sum Finset.univ (fun e : Fin 64 => x ⟨64 + e.val, by omega⟩ * x ⟨64 + e.val, by omega⟩) fun e => (hx _).mul (hx _)
    have e1 : ((s : EReal) + (t : EReal)) - (s : EReal) = (t : EReal) := by
      rw [← EReal.coe_add, ← EReal.coe_sub]; congr 1; ring
    rw [hs, ht, e1, ← ht]
    simp

/-- A head's product of a scaled query row with a key row, over the 128 lanes of its pair of heads. -/
theorem lane_dot (q k : Fin 128 → EReal) (b : Fin 2) :
    (if b.val = 0 then lo (fun l => q l * c8 * k l) else hi (fun l => q l * c8 * k l))
      = (∑ e : Fin 64, q ⟨64 * b.val + e.val, by omega⟩ * k ⟨64 * b.val + e.val, by omega⟩) * c8 := by
  have h8 : (0 : ℝ) ≤ 8⁻¹ := by norm_num
  unfold lo hi
  rw [c8_eq, mul_comm (∑ e : Fin 64, _) _, Rows.mul_sum_real h8]
  by_cases h : b.val = 0
  · have hb : b = 0 := Fin.ext h
    subst hb
    rw [if_pos h, sum_lo fun l => q l * _ * k l]
    refine Finset.sum_congr rfl fun e _ => ?_
    simp only [Fin.val_zero, Nat.mul_zero, Nat.zero_add]
    rw [mul_comm (q _) _, mul_assoc]
  · have hb : b = 1 := by apply Fin.ext; simp; omega
    subst hb
    rw [if_neg h, sum_hi fun l => q l * _ * k l]
    refine Finset.sum_congr rfl fun e _ => ?_
    simp only [Fin.val_one, Nat.mul_one]
    rw [mul_comm (q _) _, mul_assoc]

/-! ### The soft maximum -/

/-- The greatest score, from minus infinity. -/
def top {n : Nat} (s : Fin n → EReal) : EReal := Finset.univ.fold max (⊥ : EReal) s

theorem le_top {n : Nat} (s : Fin n → EReal) (k : Fin n) : s k ≤ top s :=
  (Finset.le_fold_max (s k)).mpr (Or.inr ⟨k, Finset.mem_univ k, le_refl _⟩)

theorem top_le {n : Nat} (s : Fin n → EReal) (m : EReal) (h : ∀ k, s k ≤ m) : top s ≤ m :=
  (Finset.fold_max_le m).mpr ⟨bot_le, fun k _ => h k⟩

theorem top_eq {n : Nat} (s : Fin n → EReal) (k0 : Fin n) (hb : s k0 ≠ ⊥) : ∃ k, s k = top s := by
  have h := (Finset.le_fold_max (b := (⊥ : EReal)) (f := s) (s := Finset.univ) (top s)).mp (le_refl _)
  rcases h with h | ⟨k, _, hk⟩
  · exact absurd (le_bot_iff.mp ((le_top s k0).trans h)) hb
  · exact ⟨k, le_antisymm (le_top s k) hk⟩

/-- Weighted values under the soft maximum of the scores. -/
def soft (s v : Fin 576 → EReal) : EReal :=
  ∑ k, v k * Ideal.div (Ideal.exp (s k - top s)) (∑ j, Ideal.exp (s j - top s))

/-- The same over the 640-key window, with the reciprocal of the sum taken once. -/
def soft640 (s v : Fin 640 → EReal) : EReal :=
  ∑ k, (Ideal.exp (s k - top s) * Ideal.div 1 (∑ j, Ideal.exp (s j - top s))) * v k

theorem exp_nonneg (x : EReal) : 0 ≤ Ideal.exp x := by
  induction x with
  | bot => simp
  | top => simp
  | coe r => rw [Ideal.exp_coe]; exact EReal.coe_nonneg.mpr (Real.exp_pos r).le

/-- Over a window whose further keys are at minus infinity the weighted values are those of the admitted keys. -/
theorem soft640_eq (a : Nat) (ha : a ≤ 64) (S V : Fin 640 → EReal) (s v : Fin 576 → EReal)
    (hin : ∀ k : Fin 576, S ⟨a + k.val, by omega⟩ = s k) (hv : ∀ k : Fin 576, V ⟨a + k.val, by omega⟩ = v k)
    (hout : ∀ w : Fin 640, ¬(a ≤ w.val ∧ w.val < a + 576) → S w = ⊥)
    (hs : ∀ k, s k ≠ ⊤) (k0 : Fin 576) (hk0 : s k0 ≠ ⊥) : soft640 S V = soft s v := by
  have hM : top S = top s := by
    apply le_antisymm
    · refine top_le _ _ fun w => ?_
      by_cases h : a ≤ w.val ∧ w.val < a + 576
      · have e := hin ⟨w.val - a, by omega⟩
        have e2 : (⟨a + (w.val - a), by omega⟩ : Fin 640) = w := Fin.ext (by simp; omega)
        simp only [e2] at e
        rw [e]; exact le_top s _
      · rw [hout w h]; exact bot_le
    · exact top_le _ _ fun k => by rw [← hin k]; exact le_top S _
  obtain ⟨k1, hk1⟩ := top_eq s k0 hk0
  have hMb : top s ≠ ⊥ := fun h => hk0 (le_bot_iff.mp (h ▸ le_top s k0))
  have hMt : top s ≠ ⊤ := hk1 ▸ hs k1
  have hsum : ∀ f : Fin 640 → EReal, (∀ w, ¬(a ≤ w.val ∧ w.val < a + 576) → f w = 0) → ∑ w, f w = ∑ k : Fin 576, f ⟨a + k.val, by omega⟩ := by
    intro f hf
    symm
    refine Finset.sum_of_injOn (fun k : Fin 576 => (⟨a + k.val, by omega⟩ : Fin 640)) ?_ (fun _ _ => Finset.mem_coe.mpr (Finset.mem_univ _)) ?_ fun _ _ => rfl
    · intro k _ k' _ h
      have := congrArg Fin.val h
      apply Fin.ext
      simp at this; omega
    · intro w _ hw
      refine hf w fun h => hw ⟨⟨w.val - a, by omega⟩, Finset.mem_coe.mpr (Finset.mem_univ _), Fin.ext (by simp; omega)⟩
  have hzero : ∀ w : Fin 640, ¬(a ≤ w.val ∧ w.val < a + 576) → Ideal.exp (S w - top s) = 0 := by
    intro w h
    rw [hout w h, EReal.bot_sub]
    rfl
  have hL : (∑ j, Ideal.exp (s j - top s)) ≠ 0 := by
    have h1 : Ideal.exp (s k1 - top s) = 1 := by
      rw [hk1]
      obtain ⟨r, hr⟩ : ∃ r : ℝ, top s = (r : EReal) := ⟨(top s).toReal, (EReal.coe_toReal hMt hMb).symm⟩
      rw [hr, ← EReal.coe_sub, sub_self, Ideal.exp_coe, Real.exp_zero]
      rfl
    have h2 := Finset.single_le_sum (f := fun j => Ideal.exp (s j - top s)) (fun j _ => exp_nonneg _) (Finset.mem_univ k1)
    intro h
    rw [h] at h2
    simp only [h1] at h2
    exact absurd h2 (by simp)
  unfold soft640 soft
  rw [hM, hsum (fun w => Ideal.exp (S w - top s)) hzero]
  simp only [hin]
  rw [hsum _ fun w h => by rw [hzero w h, zero_mul, zero_mul]]
  refine Finset.sum_congr rfl fun k _ => ?_
  rw [hin, hv, Ideal.div, Ideal.div, if_neg hL, if_neg hL, one_mul, mul_comm]

end Cert.CaRow

end
-- ==== Proof.CaFwdPay.lean ====
/-
  The payloads of the forward call `ca_fwd` at an index, over the extended reals: two heads' normalised rows in 128 lanes, their
  scores against the window's keys, and the weighted sums of the window's values.
-/
module

public import proofs.«01_k».proof.Proof.Gen.Kernel12Ideal.Frame
public import proofs.«01_k».proof.Proof.CaFwdRow
public import Idealize.ShloMosaic.Lib.Pointwise

@[expose] public section

set_option maxRecDepth 16384

noncomputable section

namespace Cert.Kernel12Ideal.Pay

open Cert.Kernel12Ideal Cert.Kernel12Ideal.Gen Cert.CaRow Idealize.ShloMosaic

/-- The query rows: lane `l` belongs to head `b` of the pair, at place `d`. -/
theorem query_at (x : FVec Ideal S128x128 .bf16) (g : FVec Ideal S1x128 .f32) (r : Fin 128) (hx : ∀ l, Real1 (x (ix2 r l)))
    (l : Fin 128) (b : Fin 2) (d : Fin 64) (hl : l.val = 64 * b.val + d.val) :
    k0_pay33 (F := Ideal) x g (ix2 r l) = x (ix2 r l) * inv (fun e => x (ix2 r ⟨64 * b.val + e.val, by omega⟩)) * g (ix2 0 l) * c8 := by
  have h := lane_inv (fun k => x (ix2 r k)) hx l b d hl
  pointwise [k0_pay33, k0_pay32]
  simp only [lane_lt, Ideal.ofBits_zero]
  rw [← h]

theorem key_at (x : FVec Ideal S4096x128 .bf16) (g : FVec Ideal S1x128 .f32) (r : Fin 4096) (hx : ∀ l, Real1 (x (ix2 r l)))
    (l : Fin 128) (b : Fin 2) (d : Fin 64) (hl : l.val = 64 * b.val + d.val) :
    k0_pay5 (k0_pay1 (F := Ideal) x g) (ix3 0 r l) = x (ix2 r l) * inv (fun e => x (ix2 r ⟨64 * b.val + e.val, by omega⟩)) * g (ix2 0 l) := by
  have h := lane_inv (fun k => x (ix2 r k)) hx l b d hl
  pointwise [k0_pay1, k0_pay5]
  simp only [lane_lt, Ideal.ofBits_zero]
  rw [← h]

theorem val_at (x : FVec Ideal S4096x128 .bf16) (r : Fin 4096) (l : Fin 128) : k0_pay6 (F := Ideal) x (ix3 0 r l) = x (ix2 r l) := by
  pointwise [k0_pay6]

theorem zero_at (r : Fin 512) (l : Fin 128) : k0_pay2 (F := Ideal) (ix3 0 r l) = 0 := by
  pointwise [k0_pay2]

/-- Whether the window's key `w` at point `i` is one of the sequence, and not of the rows of zeros before it. -/
theorem seen (i : Nat) (h32 : i < 32) (w : Fin 640) (a b : EReal) :
    Scalar.select (IntOp.cmpi CmpIPredicate.sge (IntOp.addi (Scalar.subi (Scalar.muli (BitVec.ofNat 32 i) 128#32) 512#32) (BitVec.ofNat 32 w.val)) 0#32) a b
      = if 512 ≤ i * 128 + w.val then a else b := by
  have h : (IntOp.cmpi CmpIPredicate.sge (IntOp.addi (Scalar.subi (Scalar.muli (BitVec.ofNat 32 i) 128#32) 512#32) (BitVec.ofNat 32 w.val)) 0#32)
      = if 512 ≤ i * 128 + w.val then 1#1 else 0#1 := by
    exact (by decide +kernel : ∀ (i : Fin 32) (w : Fin 640),
      (IntOp.cmpi CmpIPredicate.sge (IntOp.addi (Scalar.subi (Scalar.muli (BitVec.ofNat 32 i.val) 128#32) 512#32) (BitVec.ofNat 32 w.val)) 0#32)
        = if 512 ≤ i.val * 128 + w.val then 1#1 else 0#1) ⟨i, h32⟩ w
  rw [h]
  split <;> rfl

theorem score_a (i : Nat) (h32 : i < 32) (q : FVec Ideal S128x128 .f32) (kb : FVec Ideal S1x640x128 .bf16) (b : FVec Ideal S1x128x640 .f32) (r : Fin 128) (w : Fin 640) :
    k0_pay36 (F := Ideal) (BitVec.ofNat 32 i) k0_pay32 q kb b (ix2 r w)
      = if 512 ≤ i * 128 + w.val then lo (fun l => q (ix2 r l) * kb (ix3 0 w l)) + b (ix3 0 r w) else ⊥ := by
  have e : (Named.named κ "mask" (0xF149F2CA#32 : BitVec (FTy.bits .f32)) : Ideal .f32) = (⊥ : EReal) := rfl
  pointwise [k0_pay36, k0_pay35, k0_pay34, k0_pay32]
  simp only [lane_lt, Ideal.ofBits_zero]
  rw [seen i h32 w, e]
  rfl

theorem score_b (i : Nat) (h32 : i < 32) (q : FVec Ideal S128x128 .f32) (kb : FVec Ideal S1x640x128 .bf16) (b : FVec Ideal S1x128x640 .f32) (r : Fin 128) (w : Fin 640) :
    k0_pay37 (F := Ideal) (BitVec.ofNat 32 i) k0_pay32 q kb b (ix2 r w)
      = if 512 ≤ i * 128 + w.val then hi (fun l => q (ix2 r l) * kb (ix3 0 w l)) + b (ix3 0 r w) else ⊥ := by
  have e : (Named.named κ "mask" (0xF149F2CA#32 : BitVec (FTy.bits .f32)) : Ideal .f32) = (⊥ : EReal) := rfl
  pointwise [k0_pay37, k0_pay35, k0_pay34, k0_pay32]
  simp only [lane_lt, Ideal.ofBits_zero]
  rw [seen i h32 w, e]
  rfl

theorem prob_at (s : FVec Ideal S128x640 .f32) (r : Fin 128) (w : Fin 640) :
    k0_pay63 (F := Ideal) s (ix2 r w)
      = Ideal.exp (s (ix2 r w) - top fun k => s (ix2 r k)) * Ideal.div 1 (∑ j, Ideal.exp (s (ix2 r j) - top fun k => s (ix2 r k))) := by
  pointwise [k0_pay63]
  simp only [low_eq]
  rfl

theorem pair_at (a b : FVec Ideal S128x640 .bf16) (v : FVec Ideal S1x640x128 .bf16) (r l : Fin 128) :
    k0_pay72 (F := Ideal) k0_pay32 (k0_pay71 a b) v (ix2 r l)
      = if l.val < 64 then ∑ w : Fin 640, a (ix2 r w) * v (ix3 0 w l) else ∑ w : Fin 640, b (ix2 r w) * v (ix3 0 w l) := by
  pointwise [k0_pay72, k0_pay71, k0_pay32]
  simp only [lane_lt]

end Cert.Kernel12Ideal.Pay

end
-- ==== Proof.CaFwdTile.lean ====
/-
  One pair of heads at a grid point of the forward call `ca_fwd`, over the extended reals: a query row's result in a lane is the
  soft maximum of its scores over the 640-key window, times the window's values in that lane.
-/
module

public import proofs.«01_k».proof.Proof.CaFwdBlocks
public import proofs.«01_k».proof.Proof.CaFwdPay

@[expose] public section

set_option maxRecDepth 16384

noncomputable section

namespace Cert.Kernel12Ideal.Tile

open Cert.Kernel12Ideal Cert.Kernel12Ideal.Gen Cert.Kernel12Ideal.Blocks Cert.Kernel12Ideal.Pay Cert.CaRow Idealize.ShloMosaic

/-- The lane of place `d` of head `b`. -/
abbrev lane (b : Fin 2) (d : Fin 64) : Fin 128 := ⟨64 * b.val + d.val, by omega⟩

/-- A query row's score against the window's key `w`, in head `b` of the pair. -/
def wide (i : Nat) (x : FVec Ideal S128x128 .bf16) (g : FVec Ideal S1x128 .f32) (kb : FVec Ideal S1x640x128 .bf16)
    (ba : FVec Ideal S1x128x640 .f32) (r : Fin 128) (b : Fin 2) (w : Fin 640) : EReal :=
  if 512 ≤ i * 128 + w.val then
    (∑ e : Fin 64, hn (fun e => x (ix2 r (lane b e))) (fun e => g (ix2 0 (lane b e))) e * kb (ix3 0 w (lane b e))) * c8 + ba (ix3 0 r w)
  else ⊥

theorem dot_at (x : FVec Ideal S128x128 .bf16) (g : FVec Ideal S1x128 .f32) (kb : FVec Ideal S1x640x128 .bf16) (r : Fin 128) (w : Fin 640)
    (hx : ∀ l, Real1 (x (ix2 r l))) (b : Fin 2) :
    (if b.val = 0 then lo (fun l => k0_pay33 (F := Ideal) x g (ix2 r l) * kb (ix3 0 w l)) else hi (fun l => k0_pay33 (F := Ideal) x g (ix2 r l) * kb (ix3 0 w l)))
      = (∑ e : Fin 64, hn (fun e => x (ix2 r (lane b e))) (fun e => g (ix2 0 (lane b e))) e * kb (ix3 0 w (lane b e))) * c8 := by
  have hq : ∀ l : Fin 128, k0_pay33 (F := Ideal) x g (ix2 r l)
      = (x (ix2 r l) * inv (fun e => x (ix2 r ⟨64 * (l.val / 64) + e.val, by omega⟩)) * g (ix2 0 l)) * c8 := fun l =>
    query_at x g r hx l ⟨l.val / 64, by omega⟩ ⟨l.val % 64, by omega⟩ (by show l.val = 64 * (l.val / 64) + l.val % 64; omega)
  simp only [hq]
  rw [lane_dot (fun l => x (ix2 r l) * inv (fun e => x (ix2 r ⟨64 * (l.val / 64) + e.val, by omega⟩)) * g (ix2 0 l)) (fun l => kb (ix3 0 w l)) b]
  refine congrArg (· * c8) (Finset.sum_congr rfl fun e _ => ?_)
  have hb : (64 * b.val + e.val) / 64 = b.val := by omega
  unfold hn
  simp only [hb]

theorem score_0 (i : Nat) (h32 : i < 32) (x : FVec Ideal S128x128 .bf16) (g : FVec Ideal S1x128 .f32) (kb : FVec Ideal S1x640x128 .bf16)
    (ba : FVec Ideal S1x128x640 .f32) (r : Fin 128) (hx : ∀ l, Real1 (x (ix2 r l))) (w : Fin 640) :
    k0_pay36 (F := Ideal) (BitVec.ofNat 32 i) k0_pay32 (k0_pay33 x g) kb ba (ix2 r w) = wide i x g kb ba r 0 w := by
  rw [score_a i h32]
  unfold wide
  rw [← dot_at x g kb r w hx 0]
  rfl

theorem score_1 (i : Nat) (h32 : i < 32) (x : FVec Ideal S128x128 .bf16) (g : FVec Ideal S1x128 .f32) (kb : FVec Ideal S1x640x128 .bf16)
    (ba : FVec Ideal S1x128x640 .f32) (r : Fin 128) (hx : ∀ l, Real1 (x (ix2 r l))) (w : Fin 640) :
    k0_pay37 (F := Ideal) (BitVec.ofNat 32 i) k0_pay32 (k0_pay33 x g) kb ba (ix2 r w) = wide i x g kb ba r 1 w := by
  rw [score_b i h32]
  unfold wide
  rw [← dot_at x g kb r w hx 1]
  rfl

/-- A tile at a row and a lane of its head `b`. -/
theorem tile_at (i : Nat) (h32 : i < 32) (x : FVec Ideal S128x128 .bf16) (g : FVec Ideal S1x128 .f32) (kb vb : FVec Ideal S1x640x128 .bf16)
    (ba bb : FVec Ideal S1x128x640 .f32) (r : Fin 128) (hx : ∀ l, Real1 (x (ix2 r l))) (b : Fin 2) (d : Fin 64) :
    tile (F := Ideal) (BitVec.ofNat 32 i) x g kb vb ba bb (ix2 r (lane b d))
      = soft640 (wide i x g kb (if b.val = 0 then ba else bb) r b) (fun w => vb (ix3 0 w (lane b d))) := by
  unfold tile
  rw [pair_at]
  by_cases h : b.val = 0
  · have hb : b = 0 := Fin.ext h
    subst hb
    rw [if_pos (by show 64 * 0 + d.val < 64; omega)]
    unfold soft640
    refine Finset.sum_congr rfl fun w _ => ?_
    rw [prob_at]
    simp only [score_0 i h32 x g kb ba r hx]
    rfl
  · have hb : b = 1 := by apply Fin.ext; simp; omega
    subst hb
    rw [if_neg (by show ¬(64 * 1 + d.val < 64); omega)]
    unfold soft640
    refine Finset.sum_congr rfl fun w _ => ?_
    rw [show k0_pay64 (F := Ideal) _ = k0_pay63 _ from rfl, prob_at]
    simp only [score_1 i h32 x g kb bb r hx]
    rfl

end Cert.Kernel12Ideal.Tile

end
-- ==== Proof.CaFwdScratch.lean ====
/-
  The scratch and the output block of the forward call `ca_fwd` at an index, over the extended reals: the keys and values of each
  pair of heads below 512 rows of zeros, and a query row's result in a column of its head.
-/
module

public import proofs.«01_k».proof.Proof.CaFwdTile
public import Idealize.ShloMosaic.Lib.Pipeline.ValueKit.Tiles

@[expose] public section

set_option maxRecDepth 16384

noncomputable section

namespace Cert.Kernel12Ideal.Scratch

open Cert.Kernel12Ideal Cert.Kernel12Ideal.Gen Cert.Kernel12Ideal.Blocks Cert.Kernel12Ideal.Pay Cert.Kernel12Ideal.Tile Cert.CaRow Idealize.ShloMosaic

/-- The column of place `d` of head `b` of pair `a`. -/
abbrev col (a : Fin 4) (b : Fin 2) (d : Fin 64) : Fin 512 := ⟨128 * a.val + (64 * b.val + d.val), by omega⟩

/-! ## The scratch -/

/-- A normalised key of pair `a`, below 512 rows of zeros. -/
def keyAt (x : FVec Ideal S4096x512 .bf16) (g : FVec Ideal S1x128 .f32) (a : Fin 4) (p : Nat) (b : Fin 2) (d : Fin 64) : EReal :=
  if hp : 512 ≤ p ∧ p - 512 < 4096 then hn (fun e => x (ix2 ⟨p - 512, hp.2⟩ (col a b e))) (fun e => g (ix2 0 (lane b e))) d else 0

/-- A value of pair `a`, below 512 rows of zeros. -/
def valAt (x : FVec Ideal S4096x512 .bf16) (a : Fin 4) (p : Nat) (b : Fin 2) (d : Fin 64) : EReal :=
  if hp : 512 ≤ p ∧ p - 512 < 4096 then x (ix2 ⟨p - 512, hp.2⟩ (col a b d)) else 0

theorem ld_cols (x : FVec Ideal S4096x512 .bf16) (A : Nat) (inb : ∀ k, (![0, A] : Fin 2 → Nat) k + S4096x128.size k ≤ S4096x512.size k)
    (r : Fin 4096) (l : Fin 128) (j : Fin 512) (hj : j.val = A + l.val) :
    View.ld (Val := Elt Ideal) (e' := .bf16) x (Rect.unit ![0, A] S4096x128.size inb) (ix2 r l) = x (ix2 r j) :=
  View.ld_unit_apply_of (Val := Elt Ideal) (e := .bf16) x _ _ inb (ix2 r l) (ix2 r j) (fun k => match k with
    | ⟨0, _⟩ => (Nat.zero_add _).symm
    | ⟨1, _⟩ => hj)

theorem key_piece (x : FVec Ideal S4096x512 .bf16) (g : FVec Ideal S1x128 .f32) (hx : ∀ i, Real1 (x i)) (a : Fin 4) (A : Nat) (hA : A = 128 * a.val)
    (inb : ∀ k, (![0, A] : Fin 2 → Nat) k + S4096x128.size k ≤ S4096x512.size k) (y : Shape.Idx S1x4096x128) (p : Nat) (b : Fin 2) (d : Fin 64)
    (h1 : p = 512 + (y 1).val) (h2 : (lane b d).val = (y 2).val) :
    k0_pay5 (k0_pay1 (F := Ideal) (View.ld (Val := Elt Ideal) (e' := .bf16) x (Rect.unit ![0, A] S4096x128.size inb)) g) y = keyAt x g a p b d := by
  have hy1 : (y 1).val < 4096 := (y 1).isLt
  have e : y = ix3 (0 : Fin 1) (y 1) (lane b d) := by
    funext k
    match k with
    | ⟨0, _⟩ => exact Fin.ext (by have : (y 0).val < 1 := (y 0).isLt; show (y 0).val = 0; omega)
    | ⟨1, _⟩ => rfl
    | ⟨2, _⟩ => exact Fin.ext (by show (y 2).val = (lane b d).val; omega)
  rw [e]
  refine (key_at _ g (y 1) (fun l => by rw [View.ld_apply]; exact hx _) (lane b d) b d rfl).trans ?_
  unfold keyAt
  subst h1
  rw [dif_pos ⟨by omega, by omega⟩]
  have e2 : (⟨512 + (y 1).val - 512, by omega⟩ : Fin 4096) = y 1 := Fin.ext (by show 512 + (y 1).val - 512 = (y 1).val; omega)
  rw [e2]
  unfold hn
  have hl : ∀ e : Fin 64, View.ld (Val := Elt Ideal) (e' := .bf16) x (Rect.unit ![0, A] S4096x128.size inb) (ix2 (y 1) (lane b e)) = x (ix2 (y 1) (col a b e)) := fun e =>
    ld_cols x A inb (y 1) (lane b e) (col a b e) (by rw [hA])
  simp only [hl]

theorem val_piece (x : FVec Ideal S4096x512 .bf16) (a : Fin 4) (A : Nat) (hA : A = 128 * a.val)
    (inb : ∀ k, (![0, A] : Fin 2 → Nat) k + S4096x128.size k ≤ S4096x512.size k) (y : Shape.Idx S1x4096x128) (p : Nat) (b : Fin 2) (d : Fin 64)
    (h1 : p = 512 + (y 1).val) (h2 : (lane b d).val = (y 2).val) :
    k0_pay6 (F := Ideal) (View.ld (Val := Elt Ideal) (e' := .bf16) x (Rect.unit ![0, A] S4096x128.size inb)) y = valAt x a p b d := by
  have hy1 : (y 1).val < 4096 := (y 1).isLt
  have e : y = ix3 (0 : Fin 1) (y 1) (lane b d) := by
    funext k
    match k with
    | ⟨0, _⟩ => exact Fin.ext (by have : (y 0).val < 1 := (y 0).isLt; show (y 0).val = 0; omega)
    | ⟨1, _⟩ => rfl
    | ⟨2, _⟩ => exact Fin.ext (by show (y 2).val = (lane b d).val; omega)
  rw [e]
  refine (val_at _ (y 1) (lane b d)).trans ?_
  unfold valAt
  subst h1
  rw [dif_pos ⟨by omega, by omega⟩]
  have e2 : (⟨512 + (y 1).val - 512, by omega⟩ : Fin 4096) = y 1 := Fin.ext (by show 512 + (y 1).val - 512 = (y 1).val; omega)
  rw [e2]
  exact ld_cols x A inb (y 1) (lane b d) (col a b d) (by rw [hA])

theorem zero_piece (y : Shape.Idx S1x512x128) : k0_pay2 (F := Ideal) y = 0 := by
  have e : y = ix3 (0 : Fin 1) (y 1) (y 2) := by
    funext k
    match k with
    | ⟨0, _⟩ => exact Fin.ext (by have : (y 0).val < 1 := (y 0).isLt; show (y 0).val = 0; omega)
    | ⟨1, _⟩ => rfl
    | ⟨2, _⟩ => rfl
  rw [e]
  exact zero_at _ _

theorem keyAt_zero (x : FVec Ideal S4096x512 .bf16) (g : FVec Ideal S1x128 .f32) (a : Fin 4) (p : Nat) (hp : p < 512) (b : Fin 2) (d : Fin 64) :
    0 = keyAt x g a p b d := by
  unfold keyAt
  rw [dif_neg (by omega)]

theorem valAt_zero (x : FVec Ideal S4096x512 .bf16) (a : Fin 4) (p : Nat) (hp : p < 512) (b : Fin 2) (d : Fin 64) :
    0 = valAt x a p b d := by
  unfold valAt
  rw [dif_neg (by omega)]

/-- Every index of a scratch array lies in one of the eight rectangles written. -/
theorem covered (X3 X2 X1 X0 : FVec Ideal S1x4096x128 .bf16) (Z : FVec Ideal S1x512x128 .bf16)
    (a : Fin 4) (p : Fin 4608) (l : Fin 128) :
    ∃ q ∈ ([⟨Rect.unit ![3, 512, 0] S1x4096x128.size inb_S4x4608x128_S1x4096x128_3_512_0, X3⟩, ⟨Rect.unit ![3, 0, 0] S1x512x128.size inb_S4x4608x128_S1x512x128_3_0_0, Z⟩,
      ⟨Rect.unit ![2, 512, 0] S1x4096x128.size inb_S4x4608x128_S1x4096x128_2_512_0, X2⟩, ⟨Rect.unit ![2, 0, 0] S1x512x128.size inb_S4x4608x128_S1x512x128_2_0_0, Z⟩,
      ⟨Rect.unit ![1, 512, 0] S1x4096x128.size inb_S4x4608x128_S1x4096x128_1_512_0, X1⟩, ⟨Rect.unit ![1, 0, 0] S1x512x128.size inb_S4x4608x128_S1x512x128_1_0_0, Z⟩,
      ⟨Rect.unit ![0, 512, 0] S1x4096x128.size inb_S4x4608x128_S1x4096x128_0_512_0, X0⟩, ⟨Rect.unit ![0, 0, 0] S1x512x128.size inb_S4x4608x128_S1x512x128_0_0_0, Z⟩]
      : List (Σ q : Rect S4x4608x128, FVec Ideal q.shape .bf16)), ix3 a p l ∈ q.1.set := by
  by_cases h : p.val < 512
  · match a with
    | ⟨0, _⟩ =>
      refine ⟨_, .tail _ (.tail _ (.tail _ (.tail _ (.tail _ (.tail _ (.tail _ (.head _))))))), (Rect.mem_set_unit (inb := inb_S4x4608x128_S1x512x128_0_0_0)).mpr fun k => ?_⟩
      exact match k with
      | ⟨0, _⟩ => by show 0 ≤ 0 ∧ 0 < 0 + 1; omega
      | ⟨1, _⟩ => by show 0 ≤ p.val ∧ p.val < 0 + 512; omega
      | ⟨2, _⟩ => by show 0 ≤ l.val ∧ l.val < 0 + 128; omega
    | ⟨1, _⟩ =>
      refine ⟨_, .tail _ (.tail _ (.tail _ (.tail _ (.tail _ (.head _))))), (Rect.mem_set_unit (inb := inb_S4x4608x128_S1x512x128_1_0_0)).mpr fun k => ?_⟩
      exact match k with
      | ⟨0, _⟩ => by show 1 ≤ 1 ∧ 1 < 1 + 1; omega
      | ⟨1, _⟩ => by show 0 ≤ p.val ∧ p.val < 0 + 512; omega
      | ⟨2, _⟩ => by show 0 ≤ l.val ∧ l.val < 0 + 128; omega
    | ⟨2, _⟩ =>
      refine ⟨_, .tail _ (.tail _ (.tail _ (.head _))), (Rect.mem_set_unit (inb := inb_S4x4608x128_S1x512x128_2_0_0)).mpr fun k => ?_⟩
      exact match k with
      | ⟨0, _⟩ => by show 2 ≤ 2 ∧ 2 < 2 + 1; omega
      | ⟨1, _⟩ => by show 0 ≤ p.val ∧ p.val < 0 + 512; omega
      | ⟨2, _⟩ => by show 0 ≤ l.val ∧ l.val < 0 + 128; omega
    | ⟨3, _⟩ =>
      refine ⟨_, .tail _ (.head _), (Rect.mem_set_unit (inb := inb_S4x4608x128_S1x512x128_3_0_0)).mpr fun k => ?_⟩
      exact match k with
      | ⟨0, _⟩ => by show 3 ≤ 3 ∧ 3 < 3 + 1; omega
      | ⟨1, _⟩ => by show 0 ≤ p.val ∧ p.val < 0 + 512; omega
      | ⟨2, _⟩ => by show 0 ≤ l.val ∧ l.val < 0 + 128; omega
  · match a with
    | ⟨0, _⟩ =>
      refine ⟨_, .tail _ (.tail _ (.tail _ (.tail _ (.tail _ (.tail _ (.head _)))))), (Rect.mem_set_unit (inb := inb_S4x4608x128_S1x4096x128_0_512_0)).mpr fun k => ?_⟩
      exact match k with
      | ⟨0, _⟩ => by show 0 ≤ 0 ∧ 0 < 0 + 1; omega
      | ⟨1, _⟩ => by show 512 ≤ p.val ∧ p.val < 512 + 4096; omega
      | ⟨2, _⟩ => by show 0 ≤ l.val ∧ l.val < 0 + 128; omega
    | ⟨1, _⟩ =>
      refine ⟨_, .tail _ (.tail _ (.tail _ (.tail _ (.head _)))), (Rect.mem_set_unit (inb := inb_S4x4608x128_S1x4096x128_1_512_0)).mpr fun k => ?_⟩
      exact match k with
      | ⟨0, _⟩ => by show 1 ≤ 1 ∧ 1 < 1 + 1; omega
      | ⟨1, _⟩ => by show 512 ≤ p.val ∧ p.val < 512 + 4096; omega
      | ⟨2, _⟩ => by show 0 ≤ l.val ∧ l.val < 0 + 128; omega
    | ⟨2, _⟩ =>
      refine ⟨_, .tail _ (.tail _ (.head _)), (Rect.mem_set_unit (inb := inb_S4x4608x128_S1x4096x128_2_512_0)).mpr fun k => ?_⟩
      exact match k with
      | ⟨0, _⟩ => by show 2 ≤ 2 ∧ 2 < 2 + 1; omega
      | ⟨1, _⟩ => by show 512 ≤ p.val ∧ p.val < 512 + 4096; omega
      | ⟨2, _⟩ => by show 0 ≤ l.val ∧ l.val < 0 + 128; omega
    | ⟨3, _⟩ =>
      refine ⟨_, .head _, (Rect.mem_set_unit (inb := inb_S4x4608x128_S1x4096x128_3_512_0)).mpr fun k => ?_⟩
      exact match k with
      | ⟨0, _⟩ => by show 3 ≤ 3 ∧ 3 < 3 + 1; omega
      | ⟨1, _⟩ => by show 512 ≤ p.val ∧ p.val < 512 + 4096; omega
      | ⟨2, _⟩ => by show 0 ≤ l.val ∧ l.val < 0 + 128; omega

theorem keys_at (x : FVec Ideal S4096x512 .bf16) (g : FVec Ideal S1x128 .f32) (hx : ∀ i, Real1 (x i)) (a : Fin 4) (p : Fin 4608) (b : Fin 2) (d : Fin 64) :
    keys (F := Ideal) x g (ix3 a p (lane b d)) = keyAt x g a p.val b d := by
  unfold keys
  canon_tiles y hy using covered _ _ _ _ _ a p (lane b d)
  case piece0 =>
    have e0 : a.val = _ := hy0
    have e1 : p.val = _ := hy1
    have e2 : (lane b d).val = _ := hy2
    have ea : a = 3 := Fin.ext (by have : (y 0).val < 1 := (y 0).isLt; show a.val = 3; omega)
    subst ea
    exact key_piece x g hx 3 384 rfl _ y _ b d e1 e2
  case piece1 =>
    have e0 : a.val = _ := hy0
    have e1 : p.val = _ := hy1
    have e2 : (lane b d).val = _ := hy2
    exact (zero_piece y).trans (keyAt_zero x g a _ (by have : (y 1).val < 512 := (y 1).isLt; omega) b d)
  case piece2 =>
    have e0 : a.val = _ := hy0
    have e1 : p.val = _ := hy1
    have e2 : (lane b d).val = _ := hy2
    have ea : a = 2 := Fin.ext (by have : (y 0).val < 1 := (y 0).isLt; show a.val = 2; omega)
    subst ea
    exact key_piece x g hx 2 256 rfl _ y _ b d e1 e2
  case piece3 =>
    have e0 : a.val = _ := hy0
    have e1 : p.val = _ := hy1
    have e2 : (lane b d).val = _ := hy2
    exact (zero_piece y).trans (keyAt_zero x g a _ (by have : (y 1).val < 512 := (y 1).isLt; omega) b d)
  case piece4 =>
    have e0 : a.val = _ := hy0
    have e1 : p.val = _ := hy1
    have e2 : (lane b d).val = _ := hy2
    have ea : a = 1 := Fin.ext (by have : (y 0).val < 1 := (y 0).isLt; show a.val = 1; omega)
    subst ea
    exact key_piece x g hx 1 128 rfl _ y _ b d e1 e2
  case piece5 =>
    have e0 : a.val = _ := hy0
    have e1 : p.val = _ := hy1
    have e2 : (lane b d).val = _ := hy2
    exact (zero_piece y).trans (keyAt_zero x g a _ (by have : (y 1).val < 512 := (y 1).isLt; omega) b d)
  case piece6 =>
    have e0 : a.val = _ := hy0
    have e1 : p.val = _ := hy1
    have e2 : (lane b d).val = _ := hy2
    have ea : a = 0 := Fin.ext (by have : (y 0).val < 1 := (y 0).isLt; show a.val = 0; omega)
    subst ea
    exact key_piece x g hx 0 0 rfl _ y _ b d e1 e2
  case piece7 =>
    have e0 : a.val = _ := hy0
    have e1 : p.val = _ := hy1
    have e2 : (lane b d).val = _ := hy2
    exact (zero_piece y).trans (keyAt_zero x g a _ (by have : (y 1).val < 512 := (y 1).isLt; omega) b d)

theorem vals_at (x : FVec Ideal S4096x512 .bf16) (a : Fin 4) (p : Fin 4608) (b : Fin 2) (d : Fin 64) :
    vals (F := Ideal) x (ix3 a p (lane b d)) = valAt x a p.val b d := by
  unfold vals
  canon_tiles y hy using covered _ _ _ _ _ a p (lane b d)
  case piece0 =>
    have e0 : a.val = _ := hy0
    have e1 : p.val = _ := hy1
    have e2 : (lane b d).val = _ := hy2
    have ea : a = 3 := Fin.ext (by have : (y 0).val < 1 := (y 0).isLt; show a.val = 3; omega)
    subst ea
    exact val_piece x 3 384 rfl _ y _ b d e1 e2
  case piece1 =>
    have e0 : a.val = _ := hy0
    have e1 : p.val = _ := hy1
    have e2 : (lane b d).val = _ := hy2
    exact (zero_piece y).trans (valAt_zero x a _ (by have : (y 1).val < 512 := (y 1).isLt; omega) b d)
  case piece2 =>
    have e0 : a.val = _ := hy0
    have e1 : p.val = _ := hy1
    have e2 : (lane b d).val = _ := hy2
    have ea : a = 2 := Fin.ext (by have : (y 0).val < 1 := (y 0).isLt; show a.val = 2; omega)
    subst ea
    exact val_piece x 2 256 rfl _ y _ b d e1 e2
  case piece3 =>
    have e0 : a.val = _ := hy0
    have e1 : p.val = _ := hy1
    have e2 : (lane b d).val = _ := hy2
    exact (zero_piece y).trans (valAt_zero x a _ (by have : (y 1).val < 512 := (y 1).isLt; omega) b d)
  case piece4 =>
    have e0 : a.val = _ := hy0
    have e1 : p.val = _ := hy1
    have e2 : (lane b d).val = _ := hy2
    have ea : a = 1 := Fin.ext (by have : (y 0).val < 1 := (y 0).isLt; show a.val = 1; omega)
    subst ea
    exact val_piece x 1 128 rfl _ y _ b d e1 e2
  case piece5 =>
    have e0 : a.val = _ := hy0
    have e1 : p.val = _ := hy1
    have e2 : (lane b d).val = _ := hy2
    exact (zero_piece y).trans (valAt_zero x a _ (by have : (y 1).val < 512 := (y 1).isLt; omega) b d)
  case piece6 =>
    have e0 : a.val = _ := hy0
    have e1 : p.val = _ := hy1
    have e2 : (lane b d).val = _ := hy2
    have ea : a = 0 := Fin.ext (by have : (y 0).val < 1 := (y 0).isLt; show a.val = 0; omega)
    subst ea
    exact val_piece x 0 0 rfl _ y _ b d e1 e2
  case piece7 =>
    have e0 : a.val = _ := hy0
    have e1 : p.val = _ := hy1
    have e2 : (lane b d).val = _ := hy2
    exact (zero_piece y).trans (valAt_zero x a _ (by have : (y 1).val < 512 := (y 1).isLt; omega) b d)

/-! ## The output block -/

theorem word_off : ∀ n : Fin 32, (Scalar.indexCast (Scalar.muli (BitVec.ofNat 32 n.val) 128#32)).toNat = n.val * 128 := by
  decide +kernel

theorem ld_win (K : FVec Ideal S4x4608x128 .bf16) (off : Fin 3 → Nat) (inb : ∀ k, off k + S1x640x128.size k ≤ S4x4608x128.size k) (a : Fin 4) (n : Nat) (h32 : n < 32)
    (h0 : off 0 = a.val) (h1 : off 1 = n * 128) (h2 : off 2 = 0) (w : Fin 640) (l : Fin 128) :
    View.ld (Val := Elt Ideal) (e' := .bf16) K (Rect.unit (s := S4x4608x128) off S1x640x128.size inb) (ix3 (0 : Fin 1) w l) = K (ix3 a ⟨n * 128 + w.val, by omega⟩ l) :=
  View.ld_unit_apply_of (Val := Elt Ideal) (e := .bf16) K off _ inb (ix3 (0 : Fin 1) w l) (ix3 a ⟨n * 128 + w.val, by omega⟩ l) (fun k => match k with
    | ⟨0, _⟩ => by show a.val = off 0 + 0; omega
    | ⟨1, _⟩ => by show n * 128 + w.val = off 1 + w.val; omega
    | ⟨2, _⟩ => by show l.val = off 2 + l.val; omega)

theorem ld_bias (B : FVec Ideal S8x128x640 .f32) (A : Nat) (inb : ∀ k, (![A, 0, 0] : Fin 3 → Nat) k + S1x128x640.size k ≤ S8x128x640.size k) (h : Fin 8)
    (hA : A = h.val) (r : Fin 128) (w : Fin 640) :
    View.ld (Val := Elt Ideal) (e' := .f32) B (Rect.unit (s := S8x128x640) ![A, 0, 0] S1x128x640.size inb) (ix3 (0 : Fin 1) r w) = B (ix3 h r w) :=
  View.ld_unit_apply_of (Val := Elt Ideal) (e := .f32) B _ _ inb (ix3 (0 : Fin 1) r w) (ix3 h r w) (fun k => match k with
    | ⟨0, _⟩ => hA.symm
    | ⟨1, _⟩ => (Nat.zero_add _).symm
    | ⟨2, _⟩ => (Nat.zero_add _).symm)

theorem ld_qcols (x : FVec Ideal S128x512 .bf16) (A : Nat) (inb : ∀ k, (![0, A] : Fin 2 → Nat) k + S128x128.size k ≤ S128x512.size k)
    (r l : Fin 128) (j : Fin 512) (hj : j.val = A + l.val) :
    View.ld (Val := Elt Ideal) (e' := .bf16) x (Rect.unit ![0, A] S128x128.size inb) (ix2 r l) = x (ix2 r j) :=
  View.ld_unit_apply_of (Val := Elt Ideal) (e := .bf16) x _ _ inb (ix2 r l) (ix2 r j) (fun k => match k with
    | ⟨0, _⟩ => (Nat.zero_add _).symm
    | ⟨1, _⟩ => hj)

/-- The score of row `r` of point `n` against the window's key `w`, in head `b` of pair `a`. -/
def wscore (n : Nat) (h32 : n < 32) (x : FVec Ideal S128x512 .bf16) (B : FVec Ideal S8x128x640 .f32) (g : FVec Ideal S1x128 .f32) (K : FVec Ideal S4x4608x128 .bf16)
    (a : Fin 4) (b : Fin 2) (r : Fin 128) (w : Fin 640) : EReal :=
  if 512 ≤ n * 128 + w.val then
    (∑ e : Fin 64, hn (fun e => x (ix2 r (col a b e))) (fun e => g (ix2 0 (lane b e))) e * K (ix3 a ⟨n * 128 + w.val, by omega⟩ (lane b e))) * c8
      + B (ix3 ⟨2 * a.val + b.val, by omega⟩ r w)
  else ⊥

theorem tile_piece (n : Nat) (h32 : n < 32) (x : FVec Ideal S128x512 .bf16) (B : FVec Ideal S8x128x640 .f32) (g : FVec Ideal S1x128 .f32) (K W : FVec Ideal S4x4608x128 .bf16)
    (hx : ∀ i, Real1 (x i)) (a : Fin 4) (A A0 A1 : Nat) (hA : A = 128 * a.val) (hA0 : A0 = 2 * a.val) (hA1 : A1 = 2 * a.val + 1)
    (inb : ∀ k, (![0, A] : Fin 2 → Nat) k + S128x128.size k ≤ S128x512.size k)
    (inb0 : ∀ k, (![A0, 0, 0] : Fin 3 → Nat) k + S1x128x640.size k ≤ S8x128x640.size k) (inb1 : ∀ k, (![A1, 0, 0] : Fin 3 → Nat) k + S1x128x640.size k ≤ S8x128x640.size k)
    (off : Fin 3 → Nat) (inbw inbw' : ∀ k, off k + S1x640x128.size k ≤ S4x4608x128.size k) (h0 : off 0 = a.val) (h1 : off 1 = n * 128) (h2 : off 2 = 0)
    (y : Shape.Idx S128x128) (r : Fin 128) (b : Fin 2) (d : Fin 64) (hy0 : r.val = (y 0).val) (hy1 : (col a b d).val = A + (y 1).val) :
    tile (F := Ideal) (BitVec.ofNat 32 n) (View.ld (Val := Elt Ideal) (e' := .bf16) x (Rect.unit ![0, A] S128x128.size inb)) g
      (View.ld (Val := Elt Ideal) (e' := .bf16) K (Rect.unit (s := S4x4608x128) off S1x640x128.size inbw)) (View.ld (Val := Elt Ideal) (e' := .bf16) W (Rect.unit (s := S4x4608x128) off S1x640x128.size inbw'))
      (View.ld (Val := Elt Ideal) (e' := .f32) B (Rect.unit (s := S8x128x640) ![A0, 0, 0] S1x128x640.size inb0)) (View.ld (Val := Elt Ideal) (e' := .f32) B (Rect.unit (s := S8x128x640) ![A1, 0, 0] S1x128x640.size inb1)) y
      = soft640 (wscore n h32 x B g K a b r) (fun w => W (ix3 a ⟨n * 128 + w.val, by omega⟩ (lane b d))) := by
  have e : y = ix2 r (lane b d) := by
    funext k
    match k with
    | ⟨0, _⟩ => exact Fin.ext (by show (y 0).val = r.val; omega)
    | ⟨1, _⟩ => exact Fin.ext (by have : 128 * a.val + (64 * b.val + d.val) = A + (y 1).val := hy1; show (y 1).val = 64 * b.val + d.val; omega)
  rw [e, tile_at n h32 _ g _ _ _ _ r (fun l => by rw [View.ld_apply]; exact hx _) b d]
  have hl : ∀ e : Fin 64, View.ld (Val := Elt Ideal) (e' := .bf16) x (Rect.unit ![0, A] S128x128.size inb) (ix2 r (lane b e)) = x (ix2 r (col a b e)) := fun e =>
    ld_qcols x A inb r (lane b e) (col a b e) (by rw [hA])
  congr 1
  · funext w
    unfold wide wscore
    simp only [hl]
    split
    · congr 1
      · refine congrArg (· * c8) (Finset.sum_congr rfl fun e _ => ?_)
        rw [ld_win K off inbw a n h32 h0 h1 h2]
      · by_cases h : b.val = 0
        · rw [if_pos h]
          exact ld_bias B A0 inb0 ⟨2 * a.val + b.val, by omega⟩ (by show A0 = 2 * a.val + b.val; omega) r w
        · rw [if_neg h]
          exact ld_bias B A1 inb1 ⟨2 * a.val + b.val, by omega⟩ (by show A1 = 2 * a.val + b.val; omega) r w
    · rfl
  · funext w
    exact ld_win W off inbw' a n h32 h0 h1 h2 w (lane b d)

theorem out_at (i : grid0.Coords) (n : Nat) (h32 : n < 32) (hi : (i 1).val = n) (x : FVec Ideal S128x512 .bf16) (B : FVec Ideal S8x128x640 .f32) (g : FVec Ideal S1x128 .f32)
    (K W : FVec Ideal S4x4608x128 .bf16) (hx : ∀ i, Real1 (x i)) (r : Fin 128) (a : Fin 4) (b : Fin 2) (d : Fin 64) :
    out (F := Ideal) i x B g K W (ix2 r (col a b d))
      = soft640 (wscore n h32 x B g K a b r) (fun w => W (ix3 a ⟨n * 128 + w.val, by omega⟩ (lane b d))) := by
  have hw : (Scalar.indexCast (Scalar.muli (BitVec.ofNat 32 (i 1).val) 128#32)).toNat = n * 128 := by rw [hi]; exact word_off ⟨n, h32⟩
  unfold out
  rw [hi]
  canon_tiles y hy
  case piece0 =>
    have e0 : r.val = _ := hy0
    have e1 : (col a b d).val = _ := hy1
    have ea : a = 3 := Fin.ext (by have : (y 1).val < 128 := (y 1).isLt; have : 128 * a.val + (64 * b.val + d.val) = 384 + (y 1).val := e1; show a.val = 3; omega)
    subst ea
    exact tile_piece n h32 x B g K W hx 3 384 6 7 rfl rfl rfl _ _ _ (k0_off4 i) _ _ rfl hw rfl y r b d (by omega) (by omega)
  case piece1 =>
    have e0 : r.val = _ := hy0
    have e1 : (col a b d).val = _ := hy1
    have ea : a = 2 := Fin.ext (by have : (y 1).val < 128 := (y 1).isLt; have : 128 * a.val + (64 * b.val + d.val) = 256 + (y 1).val := e1; show a.val = 2; omega)
    subst ea
    exact tile_piece n h32 x B g K W hx 2 256 4 5 rfl rfl rfl _ _ _ (k0_off3 i) _ _ rfl hw rfl y r b d (by omega) (by omega)
  case piece2 =>
    have e0 : r.val = _ := hy0
    have e1 : (col a b d).val = _ := hy1
    have ea : a = 1 := Fin.ext (by have : (y 1).val < 128 := (y 1).isLt; have : 128 * a.val + (64 * b.val + d.val) = 128 + (y 1).val := e1; show a.val = 1; omega)
    subst ea
    exact tile_piece n h32 x B g K W hx 1 128 2 3 rfl rfl rfl _ _ _ (k0_off2 i) _ _ rfl hw rfl y r b d (by omega) (by omega)
  case piece3 =>
    have e0 : r.val = _ := hy0
    have e1 : (col a b d).val = _ := hy1
    have ea : a = 0 := Fin.ext (by have : (y 1).val < 128 := (y 1).isLt; have : 128 * a.val + (64 * b.val + d.val) = (y 1).val := e1; show a.val = 0; omega)
    subst ea
    exact tile_piece n h32 x B g K W hx 0 0 0 1 rfl rfl rfl _ _ _ (k0_off1 i) _ _ rfl hw rfl y r b d (by omega) (by omega)

end Cert.Kernel12Ideal.Scratch

end
-- ==== Proof.CaFwdRef.lean ====
/-
  The reference of the forward call `ca_fwd` read at an index, over the extended reals: every query's soft maximum over the 576
  keys of its band, times the band's values.
-/
module

public import proofs.«01_k».proof.Proof.Gen.Reference12Ideal.Read
public import proofs.«01_k».proof.Proof.CaFwdRow
public import Idealize.ShloMosaic.Lib.Pointwise

@[expose] public section

set_option maxRecDepth 16384

noncomputable section

namespace Cert.Reference12Ideal.Att

open Cert.Reference12Ideal Cert.Reference12Ideal.Facts₀ Cert.Reference12Ideal.Read Cert.CaRow Idealize.ShloMosaic

variable (x0 : FVec Ideal S4096x3072 .bf16) (x1 : FVec Ideal S8x257 .f32) (x2 x3 : FVec Ideal S1x64 .f32)

/-- Column `d` of head `h` in the queries, the keys and the values of the projection. -/
abbrev cq (h : Fin 8) (d : Fin 64) : Fin 3072 := ⟨1536 + (h.val * 64 + d.val), by omega⟩
abbrev ck (h : Fin 8) (d : Fin 64) : Fin 3072 := ⟨1536 + (512 + (h.val * 64 + d.val)), by omega⟩
abbrev cv (h : Fin 8) (d : Fin 64) : Fin 3072 := ⟨1536 + (1024 + (h.val * 64 + d.val)), by omega⟩

def Q (s : Fin 4096) (h : Fin 8) (d : Fin 64) : EReal := hn (fun e => x0 (ix2 s (cq h e))) (fun e => x2 (ix2 0 e)) d
def K (s : Fin 4096) (h : Fin 8) (d : Fin 64) : EReal := hn (fun e => x0 (ix2 s (ck h e))) (fun e => x3 (ix2 0 e)) d
def W (s : Fin 4096) (h : Fin 8) (d : Fin 64) : EReal := x0 (ix2 s (cv h d))

/-- Row `p` of the sequence below 512 rows of zeros. -/
def padded (f : Fin 4096 → Fin 8 → Fin 64 → EReal) (p : Nat) (h : Fin 8) (d : Fin 64) : EReal :=
  if hp : 512 ≤ p ∧ p - 512 < 4096 then f ⟨p - 512, hp.2⟩ h d else 0

theorem q_at (s : Fin 4096) (h : Fin 8) (d : Fin 64) : val_main_v20 (F := Ideal) x0 x2 (ix3 s h d) = Q x0 x2 s h d := by
  pointwise [val_main_v20, val_main_v19, val_main_v18, val_main_v17, val_main_v16, val_main_v15, val_main_v14, val_main_v13, val_main_v12, val_main_v11, val_main_v10, val_main_v9, val_main_v8, val_main_v5, val_main_v2, val_main_v1, val_main_v0, val_main_cst, val_main_cst_0, val_main_cst_1]
  rfl

theorem k_at (s : Fin 4096) (h : Fin 8) (d : Fin 64) : val_main_v33 (F := Ideal) x0 x3 (ix3 s h d) = K x0 x3 s h d := by
  pointwise [val_main_v33, val_main_v32, val_main_v31, val_main_v30, val_main_v29, val_main_v28, val_main_v27, val_main_v26, val_main_v25, val_main_v24, val_main_v23, val_main_v22, val_main_v21, val_main_v6, val_main_v3, val_main_v1, val_main_v0, val_main_cst_2, val_main_cst_3, val_main_cst_4]
  rfl

theorem kv_k (s : Fin 4608) (h : Fin 8) (d : Fin 128) (hd : d.val < 64) :
    val_main_v35 (F := Ideal) x0 x3 (ix3 s h d) = padded (K x0 x3) s.val h ⟨d.val, hd⟩ := by
  pointwise [val_main_v35, val_main_v34, val_main_cst_5, val_main_v7, val_main_v4, val_main_v1, val_main_v0]
  unfold padded
  split
  · exact k_at x0 x3 _ h ⟨d.val, hd⟩
  · rfl

theorem kv_v (s : Fin 4608) (h : Fin 8) (d : Fin 128) (hd : ¬d.val < 64) :
    val_main_v35 (F := Ideal) x0 x3 (ix3 s h d) = padded (W x0) s.val h ⟨d.val - 64, by omega⟩ := by
  pointwise [val_main_v35, val_main_v34, val_main_cst_5, val_main_v7, val_main_v4, val_main_v1, val_main_v0]
  unfold padded
  split
  · rfl
  · rfl

theorem band_at (n : Fin 64) (k : Fin 576) (h : Fin 8) (d : Fin 128) :
    val_main_v46 (F := Ideal) x0 x3 (ix4 n k h d) = val_main_v35 (F := Ideal) x0 x3 (ix3 ⟨n.val * 64 + k.val, by omega⟩ h d) := by
  pointwise [val_main_v46, val_main_v45, val_main_v44, val_main_v43, val_main_v42, val_main_v41, val_main_v40, val_main_v39, val_main_v38, val_main_v37, val_main_v36]
  have e : ∀ (p : Nat) (hp : p < 4608), p = n.val * 64 + k.val → val_main_v35 (F := Ideal) x0 x3 (ix3 ⟨p, hp⟩ h d)
      = val_main_v35 (F := Ideal) x0 x3 (ix3 ⟨n.val * 64 + k.val, by omega⟩ h d) := by
    intro p hp h; subst h; rfl
  split_ifs <;> exact e _ _ (by omega)

theorem valid (n : Fin 64) (k : Fin 576) (a b : EReal) :
    Scalar.select (IntOp.cmpi CmpIPredicate.sge (IntOp.addi (IntOp.muli (BitVec.ofNat 32 n.val) 64#32) (BitVec.ofNat 32 k.val)) 512#32) a b
      = if 512 ≤ n.val * 64 + k.val then a else b := by
  have h := (by decide +kernel : ∀ (n : Fin 64) (k : Fin 576),
    (IntOp.cmpi CmpIPredicate.sge (IntOp.addi (IntOp.muli (BitVec.ofNat 32 n.val) 64#32) (BitVec.ofNat 32 k.val)) 512#32)
      = if 512 ≤ n.val * 64 + k.val then 1#1 else 0#1) n k
  rw [h]
  split <;> rfl

/-- The score of query `q` of chunk `n` against key `k` of its band. -/
def score (n : Fin 64) (h : Fin 8) (q : Fin 64) (k : Fin 576) : EReal :=
  if 512 ≤ n.val * 64 + k.val then
    (∑ d : Fin 64, Q x0 x2 ⟨n.val * 64 + q.val, by omega⟩ h d * padded (K x0 x3) (n.val * 64 + k.val) h d) * c8 + val_main_v67 (F := Ideal) x1 (ix3 h q k)
  else ⊥

theorem score_at (n : Fin 64) (h : Fin 8) (q : Fin 64) (k : Fin 576) :
    val_main_v79 (F := Ideal) x0 x1 x2 x3 (ix4 n h q k) = score x0 x1 x2 x3 n h q k := by
  pointwise [val_main_v79, val_main_call1_v2, val_main_call1_v1, val_main_call1_v0, val_main_cst_14, val_main_v78, val_main_v77, val_main_v76, val_main_v75, val_main_v74, val_main_v73, val_main_v72, val_main_v71, val_main_c_12, val_main_c_13, val_main_v70, val_main_v69, val_main_v68, val_main_v52, val_main_v51, val_main_cst_6, val_main_v50, val_main_v49, val_main_v47]
  rw [valid]
  unfold score
  split
  · congr 2
    refine Finset.sum_congr rfl fun d _ => ?_
    rw [q_at, band_at, kv_k x0 x3 _ h ⟨d.val, by omega⟩ d.isLt]
  · exact low_eq

theorem max_at (X : FVec Ideal S64x8x64x576 .f32) (n : Fin 64) (h : Fin 8) (q : Fin 64) :
    Host.reduce FloatOps.maximumf X (constant (F := Ideal) S_ .f32 0xFF800000#32) reducesTo_S64x8x64x576_S64x8x64_d3 h_S_ (ix3 n h q)
      = top fun k => X (ix4 n h q k) := by
  pointwise []
  rw [low_eq]
  rfl

theorem sum_at (X : FVec Ideal S64x8x64x576 .f32) (n : Fin 64) (h : Fin 8) (q : Fin 64) :
    Host.reduceAdd X (constant (F := Ideal) S_ .f32 0x00000000#32) reducesTo_S64x8x64x576_S64x8x64_d3 h_S_ (ix3 n h q)
      = ∑ k, X (ix4 n h q k) := by
  pointwise []

theorem v80_at (n : Fin 64) (h : Fin 8) (q : Fin 64) :
    val_main_v80 (F := Ideal) x0 x1 x2 x3 (ix3 n h q) = top (score x0 x1 x2 x3 n h q) := by
  have e : (fun k => val_main_v79 (F := Ideal) x0 x1 x2 x3 (ix4 n h q k)) = score x0 x1 x2 x3 n h q := funext fun k => score_at x0 x1 x2 x3 n h q k
  have h := max_at (val_main_v79 (F := Ideal) x0 x1 x2 x3) n h q
  rw [e] at h
  unfold val_main_v80 val_main_cst_15
  exact h

theorem max2_at (X : FVec Ideal S64x8x64 .f32) (n : Fin 64) (h : Fin 8) (q : Fin 64) :
    maximumf (val_main_v81 (F := Ideal)) X (ix3 n h q) = X (ix3 n h q) := by
  have e : maximumf (val_main_v81 (F := Ideal)) X (ix3 n h q) = max (Ideal.ofBits .f32 0xFF800000#32) (X (ix3 n h q)) := by
    pointwise [val_main_v81, val_main_cst_16]
  rw [e, low_eq, max_eq_right bot_le]

theorem top_at (n : Fin 64) (h : Fin 8) (q : Fin 64) :
    val_main_v82 (F := Ideal) x0 x1 x2 x3 (ix3 n h q) = top (score x0 x1 x2 x3 n h q) := by
  have h := (max2_at (val_main_v80 (F := Ideal) x0 x1 x2 x3) n h q).trans (v80_at x0 x1 x2 x3 n h q)
  unfold val_main_v82
  exact h

theorem exp_at (n : Fin 64) (h : Fin 8) (q : Fin 64) (k : Fin 576) :
    val_main_v86 (F := Ideal) x0 x1 x2 x3 (ix4 n h q k) = Ideal.exp (score x0 x1 x2 x3 n h q k - top (score x0 x1 x2 x3 n h q)) := by
  rw [← score_at, ← top_at]
  pointwise [val_main_v86, val_main_v85, val_main_v84, val_main_v83]

theorem tot_at (n : Fin 64) (h : Fin 8) (q : Fin 64) :
    val_main_v87 (F := Ideal) x0 x1 x2 x3 (ix3 n h q) = ∑ k, Ideal.exp (score x0 x1 x2 x3 n h q k - top (score x0 x1 x2 x3 n h q)) :=
  (sum_at (val_main_v86 (F := Ideal) x0 x1 x2 x3) n h q).trans (Finset.sum_congr rfl fun k _ => exp_at x0 x1 x2 x3 n h q k)

theorem prob_at (n : Fin 64) (h : Fin 8) (q : Fin 64) (k : Fin 576) :
    val_main_v90 (F := Ideal) x0 x1 x2 x3 (ix4 n h q k)
      = Ideal.div (Ideal.exp (score x0 x1 x2 x3 n h q k - top (score x0 x1 x2 x3 n h q)))
          (∑ k, Ideal.exp (score x0 x1 x2 x3 n h q k - top (score x0 x1 x2 x3 n h q))) := by
  rw [← exp_at, ← tot_at]
  pointwise [val_main_v90, val_main_v89, val_main_v88]

/-- The result of query `q` of chunk `n` in column `d` of head `h`. -/
def att (n : Fin 64) (q : Fin 64) (h : Fin 8) (d : Fin 64) : EReal :=
  soft (score x0 x1 x2 x3 n h q) fun k => padded (W x0) (n.val * 64 + k.val) h d

theorem out_at (s : Fin 4096) (j : Fin 512) :
    val_main_v94 (F := Ideal) x0 x1 x2 x3 (ix2 s j)
      = ∑ k : Fin 576, padded (W x0) (s.val / 64 * 64 + k.val) ⟨j.val / 64, by omega⟩ ⟨j.val % 64, by omega⟩
          * val_main_v90 (F := Ideal) x0 x1 x2 x3 (ix4 ⟨s.val / 64, by omega⟩ ⟨j.val / 64, by omega⟩ ⟨s.val % 64, by omega⟩ k) := by
  pointwise [val_main_v94, val_main_v93, val_main_v92, val_main_v91, val_main_v48]
  refine Finset.sum_congr rfl fun k _ => ?_
  rw [band_at, kv_v x0 x3 _ _ _ (by simp)]
  congr 1
  simp

theorem out_eq (s : Fin 4096) (j : Fin 512) :
    val_main_v94 (F := Ideal) x0 x1 x2 x3 (ix2 s j)
      = att x0 x1 x2 x3 ⟨s.val / 64, by omega⟩ ⟨s.val % 64, by omega⟩ ⟨j.val / 64, by omega⟩ ⟨j.val % 64, by omega⟩ := by
  rw [out_at]
  unfold att soft
  refine Finset.sum_congr rfl fun k _ => ?_
  rw [prob_at]

end Cert.Reference12Ideal.Att

end
-- ==== Proof.CaFwdValue.lean ====
/-
  The array that the forward call `ca_fwd` leaves, over the extended reals: the attention of each chunk of 64 queries over its
  band of 576 keys, as the reference reads it.
-/
module

public import proofs.«01_k».proof.Proof.CaFwdScratch
public import proofs.«01_k».proof.Proof.CaFwdRef
public import proofs.«01_k».proof.Proof.Gen.Kernel12Ideal.Value

@[expose] public section

set_option maxRecDepth 16384

noncomputable section

namespace Cert.Kernel12Ideal.Final

open Cert.Kernel12Ideal Cert.Kernel12Ideal.Gen Cert.Kernel12Ideal.Blocks Cert.Kernel12Ideal.Tile Cert.Kernel12Ideal.Scratch Cert.CaRow
open Cert.Reference12Ideal.Att (Q K W padded score att)
open Idealize.ShloMosaic Idealize.ShloMosaic.TcCoe Idealize.SL.Sem

variable (m : (ℓ : Loc nD τ sig) → Buf (Elt Ideal) ℓ) (c : Dev nD)

theorem lt_N (t : Fin cfg0.N) : t.val < 32 := by
  have h := t.isLt
  have hN : cfg0.N = 32 := N_0
  omega

theorem coord (t : Fin cfg0.N) : (grid0.coords t 1).val = t.val :=
  (by decide +kernel : ∀ t : Fin grid0.N, (grid0.coords t 1).val = t.val) t

abbrev proj : FVec Ideal S4096x3072 .bf16 := V m c main_arg0

/-! ## The blocks -/

theorem idx_0 (t : Fin cfg0.N) : win0_0.index t 0 = t.val ∧ win0_0.index t 1 = 3 :=
  (by decide +kernel : ∀ t : Fin grid0.N, win0_0.index t 0 = t.val ∧ win0_0.index t 1 = 3) t

theorem blk_0 (t : Fin cfg0.N) (p : Fin 128) (k : Fin 512) : iblk m c 0 t (ix2 p k) = V m c main_arg0 (ix2 ⟨t.val * 128 + p.val, by have := lt_N t; have := p.isLt; omega⟩ ⟨1536 + k.val, by omega⟩) := by
  have hi := idx_0 t
  unfold iblk
  rw [View.read_apply]
  show V m c main_arg0 _ = V m c main_arg0 _
  congr 1; funext a; apply Fin.ext
  match a with
  | ⟨0, _⟩ => show win0_0.index t 0 * 128 + 1 * p.val = t.val * 128 + p.val; rw [hi.1]; omega
  | ⟨1, _⟩ => show win0_0.index t 1 * 512 + 1 * k.val = 1536 + k.val; rw [hi.2]; omega

theorem idx_1 (t : Fin cfg0.N) : win0_1.index t 0 = 0 ∧ win0_1.index t 1 = 4 :=
  (by decide +kernel : ∀ t : Fin grid0.N, win0_1.index t 0 = 0 ∧ win0_1.index t 1 = 4) t

theorem blk_1 (t : Fin cfg0.N) (p : Fin 4096) (k : Fin 512) : iblk m c 1 t (ix2 p k) = V m c main_arg0 (ix2 p ⟨2048 + k.val, by omega⟩) := by
  have hi := idx_1 t
  unfold iblk
  rw [View.read_apply]
  show V m c main_arg0 _ = V m c main_arg0 _
  congr 1; funext a; apply Fin.ext
  match a with
  | ⟨0, _⟩ => show win0_1.index t 0 * 4096 + 1 * p.val = p.val; rw [hi.1]; omega
  | ⟨1, _⟩ => show win0_1.index t 1 * 512 + 1 * k.val = 2048 + k.val; rw [hi.2]; omega

theorem idx_2 (t : Fin cfg0.N) : win0_2.index t 0 = 0 ∧ win0_2.index t 1 = 5 :=
  (by decide +kernel : ∀ t : Fin grid0.N, win0_2.index t 0 = 0 ∧ win0_2.index t 1 = 5) t

theorem blk_2 (t : Fin cfg0.N) (p : Fin 4096) (k : Fin 512) : iblk m c 2 t (ix2 p k) = V m c main_arg0 (ix2 p ⟨2560 + k.val, by omega⟩) := by
  have hi := idx_2 t
  unfold iblk
  rw [View.read_apply]
  show V m c main_arg0 _ = V m c main_arg0 _
  congr 1; funext a; apply Fin.ext
  match a with
  | ⟨0, _⟩ => show win0_2.index t 0 * 4096 + 1 * p.val = p.val; rw [hi.1]; omega
  | ⟨1, _⟩ => show win0_2.index t 1 * 512 + 1 * k.val = 2560 + k.val; rw [hi.2]; omega

theorem idx_3 (t : Fin cfg0.N) : win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0) t

theorem blk_3 (t : Fin cfg0.N) (h : Fin 8) (r : Fin 128) (w : Fin 640) : iblk m c 3 t (ix3 h r w) = V m c main_v17 (ix3 h r w) := by
  have hi := idx_3 t
  unfold iblk
  rw [View.read_apply]
  show V m c main_v17 _ = V m c main_v17 _
  congr 1; funext a; apply Fin.ext
  match a with
  | ⟨0, _⟩ => show win0_3.index t 0 * 8 + 1 * h.val = h.val; rw [hi.1]; omega
  | ⟨1, _⟩ => show win0_3.index t 1 * 128 + 1 * r.val = r.val; rw [hi.2.1]; omega
  | ⟨2, _⟩ => show win0_3.index t 2 * 640 + 1 * w.val = w.val; rw [hi.2.2]; omega

theorem idx_4 (t : Fin cfg0.N) : win0_4.index t 0 = 0 ∧ win0_4.index t 1 = 0 :=
  (by decide +kernel : ∀ t : Fin grid0.N, win0_4.index t 0 = 0 ∧ win0_4.index t 1 = 0) t

theorem blk_4 (t : Fin cfg0.N) (p : Fin 1) (k : Fin 128) : iblk m c 4 t (ix2 p k) = V m c main_v20 (ix2 p k) := by
  have hi := idx_4 t
  unfold iblk
  rw [View.read_apply]
  show V m c main_v20 _ = V m c main_v20 _
  congr 1; funext a; apply Fin.ext
  match a with
  | ⟨0, _⟩ => show win0_4.index t 0 * 1 + 1 * p.val = p.val; rw [hi.1]; omega
  | ⟨1, _⟩ => show win0_4.index t 1 * 128 + 1 * k.val = k.val; rw [hi.2]; omega

theorem idx_5 (t : Fin cfg0.N) : win0_5.index t 0 = 0 ∧ win0_5.index t 1 = 0 :=
  (by decide +kernel : ∀ t : Fin grid0.N, win0_5.index t 0 = 0 ∧ win0_5.index t 1 = 0) t

theorem blk_5 (t : Fin cfg0.N) (p : Fin 1) (k : Fin 128) : iblk m c 5 t (ix2 p k) = V m c main_v23 (ix2 p k) := by
  have hi := idx_5 t
  unfold iblk
  rw [View.read_apply]
  show V m c main_v23 _ = V m c main_v23 _
  congr 1; funext a; apply Fin.ext
  match a with
  | ⟨0, _⟩ => show win0_5.index t 0 * 1 + 1 * p.val = p.val; rw [hi.1]; omega
  | ⟨1, _⟩ => show win0_5.index t 1 * 128 + 1 * k.val = k.val; rw [hi.2]; omega

theorem idx_6 (t : Fin cfg0.N) : win0_6.index t 0 = t.val ∧ win0_6.index t 1 = 0 :=
  (by decide +kernel : ∀ t : Fin grid0.N, win0_6.index t 0 = t.val ∧ win0_6.index t 1 = 0) t

/-! ## The bias a row of a tile reads -/

/-- The relative bias of a row of a tile: its chunk's band within the window of 640 keys, −∞ outside. -/
def bias (x1 : FVec Ideal S8x257 .f32) (h : Fin 8) (r : Fin 128) (w : Fin 640) : EReal :=
  if hw : 64 * (r.val / 64) ≤ w.val ∧ w.val - 64 * (r.val / 64) < 576 then
    Cert.Reference12Ideal.Read.val_main_v67 (F := Ideal) x1 (ix3 h ⟨r.val % 64, Nat.mod_lt _ (by decide)⟩ ⟨w.val - 64 * (r.val / 64), hw.2⟩)
  else ⊥

variable (x1 : FVec Ideal S8x257 .f32) (x2 x3 : FVec Ideal S1x64 .f32)

/-- The head of half `b` of pair `a`. -/
abbrev hd (a : Fin 4) (b : Fin 2) : Fin 8 := ⟨2 * a.val + b.val, by omega⟩

theorem lane_mod (b : Fin 2) (e : Fin 64) : (⟨(lane b e).val % 64, Nat.mod_lt _ (by decide)⟩ : Fin 64) = e :=
  Fin.ext (by show (64 * b.val + e.val) % 64 = e.val; omega)

theorem key_eq (hk : ∀ l : Fin 128, V m c main_v23 (ix2 0 l) = x3 (ix2 0 ⟨l.val % 64, Nat.mod_lt _ (by decide)⟩)) (a : Fin 4) (p : Nat) (b : Fin 2) (d : Fin 64) :
    keyAt (iblk m c 1 t0) (iblk m c 5 t0) a p b d = padded (K (proj m c) x3) p (hd a b) d := by
  unfold keyAt padded
  split
  · unfold K
    have e1 : (fun e : Fin 64 => iblk m c 1 t0 (ix2 ⟨p - 512, (by assumption : 512 ≤ p ∧ p - 512 < 4096).2⟩ (col a b e)))
        = fun e => proj m c (ix2 ⟨p - 512, (by assumption : 512 ≤ p ∧ p - 512 < 4096).2⟩ (Cert.Reference12Ideal.Att.ck (hd a b) e)) := by
      funext e
      rw [blk_1]
      exact congrArg (fun j => proj m c (ix2 _ j)) (Fin.ext (by
        show 2048 + (128 * a.val + (64 * b.val + e.val)) = 1536 + (512 + ((2 * a.val + b.val) * 64 + e.val)); omega))
    have e2 : (fun e : Fin 64 => iblk m c 5 t0 (ix2 0 (lane b e))) = fun e => x3 (ix2 0 e) := by
      funext e
      rw [blk_5, hk, lane_mod]
    exact congrArg₂ (fun f g => hn f g d) e1 e2
  · rfl

theorem val_eq (a : Fin 4) (p : Nat) (b : Fin 2) (d : Fin 64) :
    valAt (iblk m c 2 t0) a p b d = padded (W (proj m c)) p (hd a b) d := by
  unfold valAt padded
  split
  · unfold W
    rw [blk_2]
    exact congrArg (fun j => proj m c (ix2 _ j)) (Fin.ext (by
      show 2560 + (128 * a.val + (64 * b.val + d.val)) = 1536 + (1024 + ((2 * a.val + b.val) * 64 + d.val)); omega))
  · rfl

/-- The chunk of row `r` of tile `t`, and the row within it. -/
abbrev chunk (t : Fin cfg0.N) (r : Fin 128) : Fin 64 := ⟨2 * t.val + r.val / 64, by have := lt_N t; have := r.isLt; omega⟩
abbrev place (r : Fin 128) : Fin 64 := ⟨r.val % 64, Nat.mod_lt _ (by decide)⟩

theorem query_eq (hq : ∀ l : Fin 128, V m c main_v20 (ix2 0 l) = x2 (ix2 0 ⟨l.val % 64, Nat.mod_lt _ (by decide)⟩)) (t : Fin cfg0.N) (r : Fin 128) (a : Fin 4) (b : Fin 2) (d : Fin 64)
    (hs : (chunk t r).val * 64 + (place r).val < 4096) :
    hn (fun e => iblk m c 0 t (ix2 r (col a b e))) (fun e => iblk m c 4 t (ix2 0 (lane b e))) d
      = Q (proj m c) x2 ⟨(chunk t r).val * 64 + (place r).val, hs⟩ (hd a b) d := by
  unfold Q
  have e1 : (fun e : Fin 64 => iblk m c 0 t (ix2 r (col a b e)))
      = fun e => proj m c (ix2 ⟨(chunk t r).val * 64 + (place r).val, hs⟩ (Cert.Reference12Ideal.Att.cq (hd a b) e)) := by
    funext e
    rw [blk_0]
    exact congrArg₂ (fun i j => proj m c (ix2 i j))
      (Fin.ext (by show t.val * 128 + r.val = (2 * t.val + r.val / 64) * 64 + r.val % 64; omega))
      (Fin.ext (by show 1536 + (128 * a.val + (64 * b.val + e.val)) = 1536 + ((2 * a.val + b.val) * 64 + e.val); omega))
  have e2 : (fun e : Fin 64 => iblk m c 4 t (ix2 0 (lane b e))) = fun e => x2 (ix2 0 e) := by
    funext e
    rw [blk_4, hq, lane_mod]
  exact congrArg₂ (fun f g => hn f g d) e1 e2

/-! ## A score is a real number or −∞ -/

theorem padded_real {f : Fin 4096 → Fin 8 → Fin 64 → EReal} (hf : ∀ s h d, Real1 (f s h d)) (p : Nat) (h : Fin 8) (d : Fin 64) : Real1 (padded f p h d) := by
  unfold padded
  split
  · exact hf _ _ _
  · exact ⟨0, rfl⟩

theorem gathered (h1 : ∀ i, Real1 (x1 i)) (i : S8x64x576.Idx) : Real1 (Cert.Reference12Ideal.Read.val_main_v67 (F := Ideal) x1 i) := by
  unfold Cert.Reference12Ideal.Read.val_main_v67 Host.gather
  exact h1 _

theorem score_real (x0 : FVec Ideal S4096x3072 .bf16) (h0 : ∀ i, Real1 (x0 i)) (h1 : ∀ i, Real1 (x1 i)) (h2 : ∀ i, Real1 (x2 i)) (h3 : ∀ i, Real1 (x3 i))
    (n : Fin 64) (h : Fin 8) (q : Fin 64) (k : Fin 576) (hk : 512 ≤ n.val * 64 + k.val) : Real1 (score x0 x1 x2 x3 n h q k) := by
  unfold score
  rw [if_pos hk]
  refine Real1.add (Real1.mul (Real1.sum _ _ fun d => Real1.mul ?_ ?_) ⟨_, c8_eq⟩) (gathered x1 h1 _)
  · exact hn_real _ _ (fun e => h0 _) (fun e => h2 _) d
  · exact padded_real (fun s h d => hn_real _ _ (fun e => h0 _) (fun e => h3 _) d) _ _ _

theorem score_ne_top (x0 : FVec Ideal S4096x3072 .bf16) (h0 : ∀ i, Real1 (x0 i)) (h1 : ∀ i, Real1 (x1 i)) (h2 : ∀ i, Real1 (x2 i)) (h3 : ∀ i, Real1 (x3 i))
    (n : Fin 64) (h : Fin 8) (q : Fin 64) (k : Fin 576) : score x0 x1 x2 x3 n h q k ≠ ⊤ := by
  by_cases hk : 512 ≤ n.val * 64 + k.val
  · exact (score_real x1 x2 x3 x0 h0 h1 h2 h3 n h q k hk).ne_top
  · unfold score
    rw [if_neg hk]
    exact bot_ne_top

/-! ## A row of a tile -/

theorem wscore_eq (t : Nat) (h32 : t < 32) (x : FVec Ideal S128x512 .bf16) (B : FVec Ideal S8x128x640 .f32) (g : FVec Ideal S1x128 .f32) (KK : FVec Ideal S4x4608x128 .bf16)
    (a : Fin 4) (b : Fin 2) (r : Fin 128) (w : Fin 640) (x0 : FVec Ideal S4096x3072 .bf16) (x1 : FVec Ideal S8x257 .f32) (x2 x3 : FVec Ideal S1x64 .f32)
    (n : Fin 64) (h : Fin 8) (q : Fin 64) (k : Fin 576) (hw : t * 128 + w.val = n.val * 64 + k.val)
    (hQ : ∀ e, hn (fun e => x (ix2 r (col a b e))) (fun e => g (ix2 0 (lane b e))) e = Q x0 x2 ⟨n.val * 64 + q.val, by omega⟩ h e)
    (hK : ∀ e, KK (ix3 a ⟨t * 128 + w.val, by omega⟩ (lane b e)) = padded (K x0 x3) (n.val * 64 + k.val) h e)
    (hB : B (ix3 (hd a b) r w) = Cert.Reference12Ideal.Read.val_main_v67 (F := Ideal) x1 (ix3 h q k)) :
    wscore t h32 x B g KK a b r w = score x0 x1 x2 x3 n h q k := by
  unfold wscore score
  by_cases hc : 512 ≤ n.val * 64 + k.val
  · rw [if_pos (by omega), if_pos hc, hB]
    refine congrArg (fun z => z * c8 + _) (Finset.sum_congr rfl fun e _ => ?_)
    rw [hQ, hK]
  · rw [if_neg (by omega), if_neg hc]

theorem wscore_bot (t : Nat) (h32 : t < 32) (x : FVec Ideal S128x512 .bf16) (B : FVec Ideal S8x128x640 .f32) (g : FVec Ideal S1x128 .f32) (KK : FVec Ideal S4x4608x128 .bf16)
    (a : Fin 4) (b : Fin 2) (r : Fin 128) (w : Fin 640) (hB : B (ix3 (hd a b) r w) = ⊥) : wscore t h32 x B g KK a b r w = ⊥ := by
  unfold wscore
  split
  · rw [hB, EReal.add_bot]
  · rfl

theorem row_at (h0 : ∀ i, Real1 (proj m c i)) (h1 : ∀ i, Real1 (x1 i)) (h2 : ∀ i, Real1 (x2 i)) (h3 : ∀ i, Real1 (x3 i))
    (hb : ∀ (h : Fin 8) (r : Fin 128) (w : Fin 640), V m c main_v17 (ix3 h r w) = bias x1 h r w)
    (hq : ∀ l : Fin 128, V m c main_v20 (ix2 0 l) = x2 (ix2 0 ⟨l.val % 64, Nat.mod_lt _ (by decide)⟩))
    (hk : ∀ l : Fin 128, V m c main_v23 (ix2 0 l) = x3 (ix2 0 ⟨l.val % 64, Nat.mod_lt _ (by decide)⟩))
    (t : Fin cfg0.N) (r : Fin 128) (a : Fin 4) (b : Fin 2) (d : Fin 64) :
    out (F := Ideal) (grid0.coords t) (iblk m c 0 t) (iblk m c 3 t) (iblk m c 4 t) (keys (iblk m c 1 t0) (iblk m c 5 t0)) (vals (iblk m c 2 t0)) (ix2 r (col a b d))
      = att (proj m c) x1 x2 x3 (chunk t r) (place r) (hd a b) d := by
  have ht := lt_N t
  have hr := r.isLt
  refine (out_at (grid0.coords t) t.val ht (coord t) (iblk m c 0 t) (iblk m c 3 t) (iblk m c 4 t) _ _ (fun i => ?_) r a b d).trans ?_
  · unfold iblk
    rw [View.read_apply]
    exact h0 _
  unfold att
  have hx1 : ∀ i, Real1 ((iblk m c 1 t0 : FVec Ideal S4096x512 .bf16) i) := fun i => by
    unfold iblk
    rw [View.read_apply]
    exact h0 _
  have hrow : ∀ k : Fin 576, t.val * 128 + (64 * (r.val / 64) + k.val) = (2 * t.val + r.val / 64) * 64 + k.val := fun k => by omega
  refine soft640_eq (64 * (r.val / 64)) (by omega) _ _ _ _ (fun k => ?_) (fun k => ?_) (fun w hw => ?_)
    (fun k => score_ne_top x1 x2 x3 _ h0 h1 h2 h3 _ _ _ _) ⟨512, by decide⟩ (score_real x1 x2 x3 _ h0 h1 h2 h3 _ _ _ _ (Nat.le_add_left _ _)).ne_bot
  · refine wscore_eq t.val ht _ _ _ _ a b r _ (proj m c) x1 x2 x3 (chunk t r) (hd a b) (place r) k (hrow k) (fun e => query_eq m c x2 hq t r a b e _) (fun e => ?_) ?_
    · refine (keys_at _ _ hx1 _ _ _ _).trans ((key_eq m c x3 hk _ _ _ _).trans ?_)
      exact congrArg (fun p => padded (K (proj m c) x3) p (hd a b) e) (hrow k)
    · rw [blk_3, hb]
      unfold bias
      have hk' := k.isLt
      rw [dif_pos ⟨by show 64 * (r.val / 64) ≤ 64 * (r.val / 64) + k.val; omega, by show 64 * (r.val / 64) + k.val - 64 * (r.val / 64) < 576; omega⟩]
      exact congrArg (fun z => Cert.Reference12Ideal.Read.val_main_v67 (F := Ideal) x1 (ix3 _ _ z)) (Fin.ext (by
        show 64 * (r.val / 64) + k.val - 64 * (r.val / 64) = k.val; omega))
  · show vals (F := Ideal) (iblk m c 2 t0) _ = _
    refine (vals_at _ _ _ _ _).trans ((val_eq m c _ _ _ _).trans ?_)
    exact congrArg (fun p => padded (W (proj m c)) p (hd a b) d) (hrow k)
  · refine wscore_bot t.val ht _ _ _ _ a b r w ?_
    rw [blk_3, hb]
    unfold bias
    rw [dif_neg (by omega)]

/-! ## The array left -/

/-- The attention at a row and a column of the result. -/
def attn (i : Fin 4096) (j : Fin 512) : EReal :=
  att (proj m c) x1 x2 x3 ⟨i.val / 64, by omega⟩ ⟨i.val % 64, Nat.mod_lt _ (by decide)⟩ ⟨j.val / 64, by omega⟩ ⟨j.val % 64, Nat.mod_lt _ (by decide)⟩

theorem final_6 (h0 : ∀ i, Real1 (proj m c i)) (h1 : ∀ i, Real1 (x1 i)) (h2 : ∀ i, Real1 (x2 i)) (h3 : ∀ i, Real1 (x3 i))
    (hb : ∀ (h : Fin 8) (r : Fin 128) (w : Fin 640), V m c main_v17 (ix3 h r w) = bias x1 h r w)
    (hq : ∀ l : Fin 128, V m c main_v20 (ix2 0 l) = x2 (ix2 0 ⟨l.val % 64, Nat.mod_lt _ (by decide)⟩))
    (hk : ∀ l : Fin 128, V m c main_v23 (ix2 0 l) = x3 (ix2 0 ⟨l.val % 64, Nat.mod_lt _ (by decide)⟩)) :
    (dats m 0 c).arrAt 6 cfg0.N = fun i => attn m c x1 x2 x3 (i 0) (i 1) := by
  refine (dats m 0 c).arrAt_eq_of_cover 6 _ (fun t _ => ?_) (fun i => ?_)
  · have hi := idx_6 t
    have ht := lt_N t
    rw [Value.flushed6, Blocks.outs]
    funext z
    rw [View.read_apply]
    have z0 : (z 0).val < 128 := (z 0).isLt
    have z1 : (z 1).val < 512 := (z 1).isLt
    have ez : (show Shape.Idx S128x512 from z)
        = ix2 (⟨(z 0).val, z0⟩ : Fin 128) (col ⟨(z 1).val / 128, by omega⟩ ⟨(z 1).val / 64 % 2, by omega⟩ ⟨(z 1).val % 64, by omega⟩) := by
      funext k
      match k with
      | ⟨0, _⟩ => rfl
      | ⟨1, _⟩ => exact Fin.ext (by show (z 1).val = 128 * ((z 1).val / 128) + (64 * ((z 1).val / 64 % 2) + (z 1).val % 64); omega)
    refine (congrArg (out (F := Ideal) (grid0.coords t) (iblk m c 0 t) (iblk m c 3 t) (iblk m c 4 t) (keys (iblk m c 1 t0) (iblk m c 5 t0)) (vals (iblk m c 2 t0))) ez).trans
      ((row_at m c x1 x2 x3 h0 h1 h2 h3 hb hq hk t _ _ _ _).trans ?_)
    have ei : ∀ I : Fin 4096, I.val = t.val * 128 + (z 0).val → ∀ J : Fin 512, J.val = (z 1).val →
        att (proj m c) x1 x2 x3 (chunk t ⟨(z 0).val, z0⟩) (place ⟨(z 0).val, z0⟩) (hd ⟨(z 1).val / 128, by omega⟩ ⟨(z 1).val / 64 % 2, by omega⟩) ⟨(z 1).val % 64, by omega⟩
          = attn m c x1 x2 x3 I J := by
      intro I hI J hJ
      unfold attn
      congr 1
      · exact Fin.ext (by show 2 * t.val + (z 0).val / 64 = I.val / 64; omega)
      · exact Fin.ext (by show (z 0).val % 64 = I.val % 64; omega)
      · exact Fin.ext (by show 2 * ((z 1).val / 128) + (z 1).val / 64 % 2 = J.val / 64; omega)
      · exact Fin.ext (by show (z 1).val % 64 = J.val % 64; omega)
    exact ei _ (by show win0_6.index t 0 * 128 + 1 * (z 0).val = t.val * 128 + (z 0).val; rw [hi.1]; omega) _
      (by show win0_6.index t 1 * 512 + 1 * (z 1).val = (z 1).val; rw [hi.2]; omega)
  · have h0 : (i 0).val < 4096 := (i 0).isLt
    have h1 : (i 1).val < 512 := (i 1).isLt
    have hN : cfg0.N = 32 := N_0
    let t : Fin cfg0.N := ⟨(i 0).val / 128, by omega⟩
    have hi := idx_6 t
    have hv : t.val = (i 0).val / 128 := rfl
    refine ⟨t, flush0_6 t, ?_⟩
    show i ∈ ((View.whole main_v24).slice (win0_6.rect t)).set
    rw [View.set_slice_whole, Rect.mem_set_unit]
    intro k
    match k with
    | ⟨0, _⟩ => show win0_6.index t 0 * 128 ≤ (i 0).val ∧ (i 0).val < win0_6.index t 0 * 128 + 128; rw [hi.1]; omega
    | ⟨1, _⟩ => show win0_6.index t 1 * 512 ≤ (i 1).val ∧ (i 1).val < win0_6.index t 1 * 512 + 512; rw [hi.2]; omega

end Cert.Kernel12Ideal.Final

end
-- ==== Proof.CaFwdHost.lean ====
/-
  What the host leaves for the forward call `ca_fwd` before it: the relative bias of a tile's two chunks, each in its own band
  of the window, and the gains of a pair of heads.
-/
module

public import proofs.«01_k».proof.Proof.CaFwdValue
public import Idealize.ShloMosaic.Lib.StableHlo.ReadAt

@[expose] public section

set_option maxRecDepth 16384

noncomputable section

namespace Cert.Kernel12Ideal.HostRead

open Cert.Kernel12Ideal Cert.Kernel12Ideal.Gen Cert.Kernel12Ideal.Final
open Idealize.ShloMosaic Idealize.ShloMosaic.TcCoe Idealize.SL.Sem

variable (m : (ℓ : Loc nD τ sig) → Buf (Elt Ideal) ℓ) (c : Dev nD)

/-- The relative bias of a tile, as the host builds it: the chunk's band padded with −∞ above it, then below it. -/
def bands (x1 : FVec Ideal S8x257 .f32) : FVec Ideal S8x128x640 .f32 :=
  concatenate S8x128x640 1
    [⟨S8x64x640, pad S8x64x640 ![0, 0, 0] ![0, 0, 64] ![0, 0, 0] (Cert.Reference12Ideal.Read.val_main_v67 (F := Ideal) x1) (constant (F := Ideal) S_ .f32 0xFF800000#32)
      pads_S8x64x576_S8x64x640_000_000_0640 h_S_⟩,
     ⟨S8x64x640, pad S8x64x640 ![0, 0, 64] ![0, 0, 0] ![0, 0, 0] (Cert.Reference12Ideal.Read.val_main_v67 (F := Ideal) x1) (constant (F := Ideal) S_ .f32 0xFF800000#32)
      pads_S8x64x576_S8x64x640_000_000_6400 h_S_⟩]
    concatenates_S8x64x640_S8x64x640_S8x128x640_d1

/-- A gain repeated for the two heads of a pair, as the host builds it. -/
def twice (x : FVec Ideal S1x64 .f32) : FVec Ideal S1x128 .f32 :=
  shapeCast S1x128 (broadcastInDim S1x1x2x64 ![0, 1, 2, 3] bcast_S1x1x1x64_S1x1x2x64_0_1_2_3 (shapeCast S1x1x1x64 x shapeCasts_S1x64_S1x1x1x64)) shapeCasts_S1x1x2x64_S1x128

theorem host_v17 : V m c main_v17 = bands (m ((c.tc : Thread nD τ).loc main_arg1)) := by
  show StableHlo.after (List.flatten [Gen.hostOps0, Gen.hostOps0_1, Gen.hostOps0_2, Gen.hostOps0_3, Gen.hostOps0_4, Gen.hostOps0_5, Gen.hostOps0_6]) (fun b => m (c, b)) (Proc.devRef .tc main_v17) = _
  simp only [List.flatten_cons, List.flatten_nil, List.cons_append, List.nil_append, List.append_nil]
  after_results_simp
  unfold bands
  refine congrArg₂ (fun a b => concatenate S8x128x640 1 [⟨S8x64x640, a⟩, ⟨S8x64x640, b⟩] concatenates_S8x64x640_S8x64x640_S8x128x640_d1) ?_ ?_
  · after_results_simp
    simp -implicitDefEqProofs only [StableHlo.TRef.toBuf, StableHlo.TRef.ofBuf, cast_cast, cast_eq, id_eq]
    rfl
  · after_results_simp
    simp -implicitDefEqProofs only [StableHlo.TRef.toBuf, StableHlo.TRef.ofBuf, cast_cast, cast_eq, id_eq]
    rfl

theorem host_v20 : V m c main_v20 = twice (m ((c.tc : Thread nD τ).loc main_arg2)) := by
  show StableHlo.after (List.flatten [Gen.hostOps0, Gen.hostOps0_1, Gen.hostOps0_2, Gen.hostOps0_3, Gen.hostOps0_4, Gen.hostOps0_5, Gen.hostOps0_6]) (fun b => m (c, b)) (Proc.devRef .tc main_v20) = _
  simp only [List.flatten_cons, List.flatten_nil, List.cons_append, List.nil_append, List.append_nil]
  after_results_simp <;> rfl

theorem host_v23 : V m c main_v23 = twice (m ((c.tc : Thread nD τ).loc main_arg3)) := by
  show StableHlo.after (List.flatten [Gen.hostOps0, Gen.hostOps0_1, Gen.hostOps0_2, Gen.hostOps0_3, Gen.hostOps0_4, Gen.hostOps0_5, Gen.hostOps0_6]) (fun b => m (c, b)) (Proc.devRef .tc main_v23) = _
  simp only [List.flatten_cons, List.flatten_nil, List.cons_append, List.nil_append, List.append_nil]
  after_results_simp <;> rfl

theorem twice_at (x : FVec Ideal S1x64 .f32) (l : Fin 128) : twice x (ix2 0 l) = x (ix2 0 ⟨l.val % 64, Nat.mod_lt _ (by decide)⟩) := by
  pointwise [twice]

theorem bands_at (x1 : FVec Ideal S8x257 .f32) (h : Fin 8) (r : Fin 128) (w : Fin 640) : bands x1 (ix3 h r w) = bias x1 h r w := by
  unfold bias
  unfold bands
  generalize Cert.Reference12Ideal.Read.val_main_v67 (F := Ideal) x1 = X
  by_cases hr : r.val < 64
  · have e0 : r.val / 64 = 0 := by omega
    have e1 : r.val % 64 = r.val := Nat.mod_eq_of_lt hr
    pointwise
    simp only [hr, e0, e1, dif_pos, true_and, Nat.mul_zero, Nat.zero_le, Nat.sub_zero, CaRow.low_eq]
  · have e0 : r.val / 64 = 1 := by omega
    have e1 : r.val % 64 = r.val - 64 := by omega
    have e2 : r.val - 64 < 64 := by omega
    pointwise
    simp only [hr, e0, e1, e2, dif_neg, not_false_iff, true_and, Nat.mul_one, CaRow.low_eq]

end Cert.Kernel12Ideal.HostRead

end
-- ==== Proof.CaFwdClaims.lean ====
/-
  The claims about the forward call `ca_fwd`: the reference's run, and the equality of the call's array with the reference's over
  the extended reals, of finite arguments.
-/
module

public import proofs.«01_k».proof.Defs
public import proofs.«01_k».proof.Proof.CaFwdHost
public import proofs.«01_k».proof.Proof.Gen.Kernel12.Frame
public import proofs.«01_k».proof.Proof.Gen.Pre_finite
public import proofs.«01_k».proof.Proof.Gen.Reference12Ideal.Run
public import proofs.«01_k».proof.Proof.Gen.Reference12Ideal.Read
public import Idealize.ShloMosaic.Adequacy
public import Idealize.ShloMosaic.Lib.Quiescent

@[expose] public section

set_option maxRecDepth 16384

noncomputable section

namespace Cert.CaFwd

open Idealize.ShloMosaic Idealize.ShloMosaic.TcCoe Idealize.SL.Sem

/-! ## Finite arguments -/

theorem high_eq : Ideal.ofBits .f32 0x7F800000#32 = (⊤ : EReal) := by
  simp [Ideal.ofBits, Ideal.ieee]

/-- A number whose absolute value is below +∞ is a real number. -/
theorem real_of (x : EReal) (h : Ideal.cmp .olt (max x (-x)) (Ideal.ofBits .f32 0x7F800000#32) = 1#1) : CaRow.Real1 x := by
  rw [high_eq] at h
  induction x with
  | bot => simp [Ideal.cmp] at h
  | coe r => exact ⟨r, rfl⟩
  | top => simp [Ideal.cmp] at h

theorem real_0 (x0 : FVec Ideal Pre_finite.S4096x3072 .bf16) (x1 x2 x3) (h : (Pre_finite.fn (F := Ideal) x0 x1 x2 x3).1 = fun _ => 1#1) (i : Shape.Idx Pre_finite.S4096x3072) :
    CaRow.Real1 (x0 i) := real_of _ (congrFun h i)

theorem real_1 (x0) (x1 : FVec Ideal Pre_finite.S8x257 .f32) (x2 x3) (h : (Pre_finite.fn (F := Ideal) x0 x1 x2 x3).2.1 = fun _ => 1#1) (i : Shape.Idx Pre_finite.S8x257) :
    CaRow.Real1 (x1 i) := real_of _ (congrFun h i)

theorem real_2 (x0 x1) (x2 : FVec Ideal Pre_finite.S1x64 .f32) (x3) (h : (Pre_finite.fn (F := Ideal) x0 x1 x2 x3).2.2.1 = fun _ => 1#1) (i : Shape.Idx Pre_finite.S1x64) :
    CaRow.Real1 (x2 i) := real_of _ (congrFun h i)

theorem real_3 (x0 x1 x2) (x3 : FVec Ideal Pre_finite.S1x64 .f32) (h : (Pre_finite.fn (F := Ideal) x0 x1 x2 x3).2.2.2 = fun _ => 1#1) (i : Shape.Idx Pre_finite.S1x64) :
    CaRow.Real1 (x3 i) := real_of _ (congrFun h i)

/-! ## The arrays -/

theorem attn_eq (m : (ℓ : Loc Kernel12Ideal.nD Kernel12Ideal.τ Kernel12Ideal.sig) → Buf (Elt Ideal) ℓ) (c : Dev Kernel12Ideal.nD) (x0 : FVec Ideal Kernel12Ideal.S4096x3072 .bf16)
    (x1 : FVec Ideal Kernel12Ideal.S8x257 .f32) (x2 x3 : FVec Ideal Kernel12Ideal.S1x64 .f32) (h0 : Kernel12Ideal.Final.proj m c = x0) (i : Shape.Idx Kernel12Ideal.S4096x512) :
    Reference12Ideal.Read.val_main_v94 (F := Ideal) x0 x1 x2 x3 i = Kernel12Ideal.Final.attn m c x1 x2 x3 (i 0) (i 1) := by
  subst h0
  exact (congrArg (Reference12Ideal.Read.val_main_v94 (F := Ideal) _ x1 x2 x3) (eq_ix2 i)).trans (Reference12Ideal.Att.out_eq _ x1 x2 x3 (i 0) (i 1))

theorem out_6 (m : (ℓ : Loc Kernel12Ideal.nD Kernel12Ideal.τ Kernel12Ideal.sig) → Buf (Elt Ideal) ℓ) (hpre : Cert.Pre_Kernel12Ideal_finite m) (c : Dev Kernel12Ideal.nD)
    {x0 x1 x2 x3} (h0 : x0 = m ((c.tc : Thread Kernel12Ideal.nD Kernel12Ideal.τ).loc Kernel12Ideal.main_arg0)) (h1 : x1 = m ((c.tc : Thread Kernel12Ideal.nD Kernel12Ideal.τ).loc Kernel12Ideal.main_arg1))
    (h2 : x2 = m ((c.tc : Thread Kernel12Ideal.nD Kernel12Ideal.τ).loc Kernel12Ideal.main_arg2)) (h3 : x3 = m ((c.tc : Thread Kernel12Ideal.nD Kernel12Ideal.τ).loc Kernel12Ideal.main_arg3)) :
    Reference12Ideal.Read.val_main_v94 (F := Ideal) x0 x1 x2 x3 = (Kernel12Ideal.Gen.dats m 0 c).arrAt 6 Kernel12Ideal.cfg0.N := by
  subst h0 h1 h2 h3
  obtain ⟨p0, p1, p2, p3⟩ := hpre c
  have hp : Kernel12Ideal.Final.proj m c = m ((c.tc : Thread Kernel12Ideal.nD Kernel12Ideal.τ).loc Kernel12Ideal.main_arg0) := Kernel12Ideal.Gen.V_main_arg0 m c
  rw [Kernel12Ideal.Final.final_6 m c (m ((c.tc : Thread Kernel12Ideal.nD Kernel12Ideal.τ).loc Kernel12Ideal.main_arg1)) (m ((c.tc : Thread Kernel12Ideal.nD Kernel12Ideal.τ).loc Kernel12Ideal.main_arg2))
    (m ((c.tc : Thread Kernel12Ideal.nD Kernel12Ideal.τ).loc Kernel12Ideal.main_arg3))
    (fun i => by rw [hp]; exact real_0 _ _ _ _ p0 i) (real_1 _ _ _ _ p1) (real_2 _ _ _ _ p2) (real_3 _ _ _ _ p3)
    (fun h r w => (congrFun (Kernel12Ideal.HostRead.host_v17 m c) _).trans (Kernel12Ideal.HostRead.bands_at _ h r w))
    (fun l => (congrFun (Kernel12Ideal.HostRead.host_v20 m c) _).trans (Kernel12Ideal.HostRead.twice_at _ l))
    (fun l => (congrFun (Kernel12Ideal.HostRead.host_v23 m c) _).trans (Kernel12Ideal.HostRead.twice_at _ l))]
  funext i
  exact attn_eq m c _ _ _ _ hp i

/-- The reference runs and leaves its arguments alone. -/
theorem frame_reference : Cert.quiescent_Reference12Ideal := fun m g _ =>
  (θ_run Reference12Ideal.defs _ _).mono (fun r h => ⟨fun c => (h c).2, sem_eq_zero_of_no_sems (by decide) r.2⟩)
    (Reference12Ideal.Value.run m g)

/-- The same, of finite arguments. -/
theorem frame_reference_finite : Cert.quiescent_Reference12Ideal_pre_finite := fun m g _ => frame_reference m g trivial

/-- The mask's constant is the one rounded number named. -/
theorem preserves : Cert.preserves_Kernel12_Kernel12Ideal :=
  IdealRules.named_const.statement Kernel12Ideal.κ "mask" .f32 0xF149F2CA#32 ⊥ rfl

/-- The call's array and the reference's are equal, element by element, over the extended reals, of finite arguments. -/
theorem algebraic : Cert.algebraic_Kernel12Ideal_Reference12Ideal_pre_finite := by
  intro m g m' g' hpre hargs
  refine ⟨fun c => (Kernel12Ideal.Gen.dats m 0 c).arrAt 6 Kernel12Ideal.cfg0.N, Kernel12Ideal.Value.run_blocks m g,
    (θ_run Reference12Ideal.defs _ _).mono (fun r h c => ?_) (Reference12Ideal.Value.run m' g')⟩
  obtain ⟨a0, a1, a2, a3⟩ := hargs c
  have hc := h c
  exact ⟨hc.1.trans ((Reference12Ideal.Read.val_main_v94_eq _).trans (out_6 m hpre c a0 a1 a2 a3)), hc.2⟩

end Cert.CaFwd

end
-- ==== Proof.Adam.lean ====
/-
  The optimiser's step on one element, over the extended reals, and the sum of a gradient's four parts.
-/
module

public import Idealize.ShloMosaic.PureOps
public import Idealize.ShloMosaic.Lib.Pointwise

@[expose] public section

noncomputable section

namespace Cert.Adam

open Idealize.ShloMosaic

/-- The number written as an `f32` constant. -/
abbrev num (b : BitVec 32) : EReal := Scalar.ofBits (F := Ideal) .f32 b

/-- The new first moment. -/
def first (g m : EReal) : EReal := num 0x3F666666#32 * m + num 0x3DCCCCCD#32 * g

/-- The new second moment. -/
def second (g v : EReal) : EReal := num 0x3F7FBE77#32 * v + num 0x3A83126F#32 * (g * g)

/-- The weight's change, from the corrected moments. -/
def change (w mh vh : EReal) : EReal :=
  num 0xBA83126F#32 * (Ideal.div mh (Ideal.sqrt vh + num 0x322BCC77#32) + num 0x3C23D70A#32 * w)

/-- The weight's change. -/
def delta (w g m v : EReal) : EReal :=
  change w (Ideal.div (first g m) (num 0x3F26BD02#32)) (Ideal.div (second g v) (num 0x3C231ACC#32))

/-- The sum of a gradient's own part and the three received ones. -/
def total (o : EReal) (r : Fin 3 → EReal) : EReal := o + r 0 + r 1 + r 2

theorem total_eq (o : EReal) (r : Fin 3 → EReal) : o + (0 + ∑ k, r k) = total o r := by
  simp only [total, Fin.sum_univ_three, zero_add, add_assoc]

end Cert.Adam

end
-- ==== Proof.AdamAdaValue.lean ====
/-
  The arrays that the optimiser's call on `w_ada` leaves, over the extended reals: the optimiser's step on each element.
-/
module

public import proofs.«01_k».proof.Proof.Adam
public import proofs.«01_k».proof.Proof.Gen.Kernel13Ideal.Frame
public import proofs.«01_k».proof.Proof.Gen.Kernel13Ideal.Value
public import Idealize.ShloMosaic.Lib.Pipeline.Value
public import Idealize.ShloMosaic.Lib.Pipeline.ValueKit.Tiles
public import Idealize.ShloMosaic.Lib.Pointwise
public import Idealize.ShloMosaic.Lib.Tactic

@[expose] public section

set_option maxRecDepth 16384

noncomputable section

namespace Cert.Kernel13Ideal.Final

open Cert.Kernel13Ideal Cert.Kernel13Ideal.Gen
open Idealize.ShloMosaic Idealize.ShloMosaic.TcCoe Idealize.SL.Sem

theorem first_apply (g x : Vec Ideal S256x768 .f32) (p : Fin 256) (j : Fin 768) :
    k0_pay1 (F := Ideal) g x (ix2 p j) = Adam.first (g (ix2 p j)) (x (ix2 p j)) := rfl

theorem second_apply (g x : Vec Ideal S256x768 .f32) (p : Fin 256) (j : Fin 768) :
    k0_pay2 (F := Ideal) g x (ix2 p j) = Adam.second (g (ix2 p j)) (x (ix2 p j)) := rfl

theorem delta_apply (w g x y : Vec Ideal S256x768 .f32) (p : Fin 256) (j : Fin 768) :
    k0_pay3 (F := Ideal) w g x y (ix2 p j) = Adam.delta (w (ix2 p j)) (g (ix2 p j)) (x (ix2 p j)) (y (ix2 p j)) := rfl

variable (m : (ℓ : Loc nD τ sig) → Buf (Elt Ideal) ℓ) (c : Dev nD)

/-! ## The arrays left, as functions of the arguments -/

abbrev delta (i : Shape.Idx S2048x768) : EReal := Adam.delta (V m c main_arg0 i) (V m c main_arg1 i) (V m c main_arg2 i) (V m c main_arg3 i)
abbrev first (i : Shape.Idx S2048x768) : EReal := Adam.first (V m c main_arg1 i) (V m c main_arg2 i)
abbrev second (i : Shape.Idx S2048x768) : EReal := Adam.second (V m c main_arg1 i) (V m c main_arg3 i)

theorem lt_N (t : Fin cfg0.N) : t.val < 8 := by
  have h := t.isLt
  have hN : cfg0.N = 8 := N_0
  omega

/-- Row `p` of block `t`. -/
abbrev row (t : Fin cfg0.N) (p : Fin 256) : Fin 2048 :=
  ⟨t.val * 256 + p.val, by have := lt_N t; have := p.isLt; omega⟩

theorem idx_0 (t : Fin cfg0.N) : win0_0.index t 0 = t.val ∧ win0_0.index t 1 = 0 :=
  (by decide +kernel : ∀ t : Fin grid0.N, win0_0.index t 0 = t.val ∧ win0_0.index t 1 = 0) t

theorem blk_0 (t : Fin cfg0.N) (p : Fin 256) (k : Fin 768) : iblk m c 0 t (ix2 p k) = V m c main_arg0 (ix2 (row t p) k) := by
  have hi := idx_0 t
  unfold iblk
  rw [View.read_apply]
  show V m c main_arg0 _ = V m c main_arg0 _
  congr 1; funext a; apply Fin.ext
  match a with
  | ⟨0, _⟩ => show win0_0.index t 0 * 256 + 1 * p.val = t.val * 256 + p.val; rw [hi.1]; omega
  | ⟨1, _⟩ => show win0_0.index t 1 * 768 + 1 * k.val = k.val; rw [hi.2]; omega

theorem idx_1 (t : Fin cfg0.N) : win0_1.index t 0 = t.val ∧ win0_1.index t 1 = 0 :=
  (by decide +kernel : ∀ t : Fin grid0.N, win0_1.index t 0 = t.val ∧ win0_1.index t 1 = 0) t

theorem blk_1 (t : Fin cfg0.N) (p : Fin 256) (k : Fin 768) : iblk m c 1 t (ix2 p k) = V m c main_arg1 (ix2 (row t p) k) := by
  have hi := idx_1 t
  unfold iblk
  rw [View.read_apply]
  show V m c main_arg1 _ = V m c main_arg1 _
  congr 1; funext a; apply Fin.ext
  match a with
  | ⟨0, _⟩ => show win0_1.index t 0 * 256 + 1 * p.val = t.val * 256 + p.val; rw [hi.1]; omega
  | ⟨1, _⟩ => show win0_1.index t 1 * 768 + 1 * k.val = k.val; rw [hi.2]; omega

theorem idx_2 (t : Fin cfg0.N) : win0_2.index t 0 = t.val ∧ win0_2.index t 1 = 0 :=
  (by decide +kernel : ∀ t : Fin grid0.N, win0_2.index t 0 = t.val ∧ win0_2.index t 1 = 0) t

theorem blk_2 (t : Fin cfg0.N) (p : Fin 256) (k : Fin 768) : iblk m c 2 t (ix2 p k) = V m c main_arg2 (ix2 (row t p) k) := by
  have hi := idx_2 t
  unfold iblk
  rw [View.read_apply]
  show V m c main_arg2 _ = V m c main_arg2 _
  congr 1; funext a; apply Fin.ext
  match a with
  | ⟨0, _⟩ => show win0_2.index t 0 * 256 + 1 * p.val = t.val * 256 + p.val; rw [hi.1]; omega
  | ⟨1, _⟩ => show win0_2.index t 1 * 768 + 1 * k.val = k.val; rw [hi.2]; omega

theorem idx_3 (t : Fin cfg0.N) : win0_3.index t 0 = t.val ∧ win0_3.index t 1 = 0 :=
  (by decide +kernel : ∀ t : Fin grid0.N, win0_3.index t 0 = t.val ∧ win0_3.index t 1 = 0) t

theorem blk_3 (t : Fin cfg0.N) (p : Fin 256) (k : Fin 768) : iblk m c 3 t (ix2 p k) = V m c main_arg3 (ix2 (row t p) k) := by
  have hi := idx_3 t
  unfold iblk
  rw [View.read_apply]
  show V m c main_arg3 _ = V m c main_arg3 _
  congr 1; funext a; apply Fin.ext
  match a with
  | ⟨0, _⟩ => show win0_3.index t 0 * 256 + 1 * p.val = t.val * 256 + p.val; rw [hi.1]; omega
  | ⟨1, _⟩ => show win0_3.index t 1 * 768 + 1 * k.val = k.val; rw [hi.2]; omega

theorem outs_4 (t : Fin cfg0.N) : out0_4 (iblk m c 0 t) (iblk m c 1 t) (iblk m c 2 t) (iblk m c 3 t) = k0_pay3 (F := Ideal) (iblk m c 0 t) (iblk m c 1 t) (iblk m c 2 t) (iblk m c 3 t) := by
  frame_out

theorem idx_4 (t : Fin cfg0.N) : win0_4.index t 0 = t.val ∧ win0_4.index t 1 = 0 :=
  (by decide +kernel : ∀ t : Fin grid0.N, win0_4.index t 0 = t.val ∧ win0_4.index t 1 = 0) t

theorem pay_4 (t : Fin cfg0.N) (p : Fin 256) (j : Fin 768) : k0_pay3 (F := Ideal) (iblk m c 0 t) (iblk m c 1 t) (iblk m c 2 t) (iblk m c 3 t) (ix2 p j) = delta m c (ix2 (row t p) j) := by
  rw [delta_apply]
  simp only [blk_0, blk_1, blk_2, blk_3]

theorem final_4 : (dats m 0 c).arrAt 4 cfg0.N = delta m c := by
  refine (dats m 0 c).arrAt_eq_of_cover 4 _ (fun t _ => ?_) (fun i => ?_)
  · have hi := idx_4 t
    rw [Value.flushed4, outs_4]
    funext y
    rw [View.read_apply]
    refine (congrArg (k0_pay3 (F := Ideal) (iblk m c 0 t) (iblk m c 1 t) (iblk m c 2 t) (iblk m c 3 t)) (eq_ix2 (show Shape.Idx S256x768 from y))).trans ((pay_4 m c t (y 0) (y 1)).trans ?_)
    refine congrArg (delta m c) (funext fun a => Fin.ext ?_)
    match a with
    | ⟨0, _⟩ => show t.val * 256 + (y 0).val = win0_4.index t 0 * 256 + 1 * (y 0).val; rw [hi.1]; omega
    | ⟨1, _⟩ => show (y 1).val = win0_4.index t 1 * 768 + 1 * (y 1).val; rw [hi.2]; omega
  · have h0 : (i 0).val < 2048 := (i 0).isLt
    have h1 : (i 1).val < 768 := (i 1).isLt
    have hN : cfg0.N = 8 := N_0
    let t : Fin cfg0.N := ⟨(i 0).val / 256, by omega⟩
    have hi := idx_4 t
    have hv : t.val = (i 0).val / 256 := rfl
    refine ⟨t, flush0_4 t, ?_⟩
    show i ∈ ((View.whole main_v0_0).slice (win0_4.rect t)).set
    rw [View.set_slice_whole, Rect.mem_set_unit]
    intro a
    match a with
    | ⟨0, _⟩ => show win0_4.index t 0 * 256 ≤ (i 0).val ∧ (i 0).val < win0_4.index t 0 * 256 + 256; rw [hi.1]; omega
    | ⟨1, _⟩ => show win0_4.index t 1 * 768 ≤ (i 1).val ∧ (i 1).val < win0_4.index t 1 * 768 + 768; rw [hi.2]; omega

theorem outs_5 (t : Fin cfg0.N) : out0_5 (iblk m c 0 t) (iblk m c 1 t) (iblk m c 2 t) (iblk m c 3 t) = k0_pay1 (F := Ideal) (iblk m c 1 t) (iblk m c 2 t) := by
  frame_out

theorem idx_5 (t : Fin cfg0.N) : win0_5.index t 0 = t.val ∧ win0_5.index t 1 = 0 :=
  (by decide +kernel : ∀ t : Fin grid0.N, win0_5.index t 0 = t.val ∧ win0_5.index t 1 = 0) t

theorem pay_5 (t : Fin cfg0.N) (p : Fin 256) (j : Fin 768) : k0_pay1 (F := Ideal) (iblk m c 1 t) (iblk m c 2 t) (ix2 p j) = first m c (ix2 (row t p) j) := by
  rw [first_apply]
  simp only [blk_0, blk_1, blk_2, blk_3]

theorem final_5 : (dats m 0 c).arrAt 5 cfg0.N = first m c := by
  refine (dats m 0 c).arrAt_eq_of_cover 5 _ (fun t _ => ?_) (fun i => ?_)
  · have hi := idx_5 t
    rw [Value.flushed5, outs_5]
    funext y
    rw [View.read_apply]
    refine (congrArg (k0_pay1 (F := Ideal) (iblk m c 1 t) (iblk m c 2 t)) (eq_ix2 (show Shape.Idx S256x768 from y))).trans ((pay_5 m c t (y 0) (y 1)).trans ?_)
    refine congrArg (first m c) (funext fun a => Fin.ext ?_)
    match a with
    | ⟨0, _⟩ => show t.val * 256 + (y 0).val = win0_5.index t 0 * 256 + 1 * (y 0).val; rw [hi.1]; omega
    | ⟨1, _⟩ => show (y 1).val = win0_5.index t 1 * 768 + 1 * (y 1).val; rw [hi.2]; omega
  · have h0 : (i 0).val < 2048 := (i 0).isLt
    have h1 : (i 1).val < 768 := (i 1).isLt
    have hN : cfg0.N = 8 := N_0
    let t : Fin cfg0.N := ⟨(i 0).val / 256, by omega⟩
    have hi := idx_5 t
    have hv : t.val = (i 0).val / 256 := rfl
    refine ⟨t, flush0_5 t, ?_⟩
    show i ∈ ((View.whole main_v0_1).slice (win0_5.rect t)).set
    rw [View.set_slice_whole, Rect.mem_set_unit]
    intro a
    match a with
    | ⟨0, _⟩ => show win0_5.index t 0 * 256 ≤ (i 0).val ∧ (i 0).val < win0_5.index t 0 * 256 + 256; rw [hi.1]; omega
    | ⟨1, _⟩ => show win0_5.index t 1 * 768 ≤ (i 1).val ∧ (i 1).val < win0_5.index t 1 * 768 + 768; rw [hi.2]; omega

theorem outs_6 (t : Fin cfg0.N) : out0_6 (iblk m c 0 t) (iblk m c 1 t) (iblk m c 2 t) (iblk m c 3 t) = k0_pay2 (F := Ideal) (iblk m c 1 t) (iblk m c 3 t) := by
  frame_out

theorem idx_6 (t : Fin cfg0.N) : win0_6.index t 0 = t.val ∧ win0_6.index t 1 = 0 :=
  (by decide +kernel : ∀ t : Fin grid0.N, win0_6.index t 0 = t.val ∧ win0_6.index t 1 = 0) t

theorem pay_6 (t : Fin cfg0.N) (p : Fin 256) (j : Fin 768) : k0_pay2 (F := Ideal) (iblk m c 1 t) (iblk m c 3 t) (ix2 p j) = second m c (ix2 (row t p) j) := by
  rw [second_apply]
  simp only [blk_0, blk_1, blk_2, blk_3]

theorem final_6 : (dats m 0 c).arrAt 6 cfg0.N = second m c := by
  refine (dats m 0 c).arrAt_eq_of_cover 6 _ (fun t _ => ?_) (fun i => ?_)
  · have hi := idx_6 t
    rw [Value.flushed6, outs_6]
    funext y
    rw [View.read_apply]
    refine (congrArg (k0_pay2 (F := Ideal) (iblk m c 1 t) (iblk m c 3 t)) (eq_ix2 (show Shape.Idx S256x768 from y))).trans ((pay_6 m c t (y 0) (y 1)).trans ?_)
    refine congrArg (second m c) (funext fun a => Fin.ext ?_)
    match a with
    | ⟨0, _⟩ => show t.val * 256 + (y 0).val = win0_6.index t 0 * 256 + 1 * (y 0).val; rw [hi.1]; omega
    | ⟨1, _⟩ => show (y 1).val = win0_6.index t 1 * 768 + 1 * (y 1).val; rw [hi.2]; omega
  · have h0 : (i 0).val < 2048 := (i 0).isLt
    have h1 : (i 1).val < 768 := (i 1).isLt
    have hN : cfg0.N = 8 := N_0
    let t : Fin cfg0.N := ⟨(i 0).val / 256, by omega⟩
    have hi := idx_6 t
    have hv : t.val = (i 0).val / 256 := rfl
    refine ⟨t, flush0_6 t, ?_⟩
    show i ∈ ((View.whole main_v0_2).slice (win0_6.rect t)).set
    rw [View.set_slice_whole, Rect.mem_set_unit]
    intro a
    match a with
    | ⟨0, _⟩ => show win0_6.index t 0 * 256 ≤ (i 0).val ∧ (i 0).val < win0_6.index t 0 * 256 + 256; rw [hi.1]; omega
    | ⟨1, _⟩ => show win0_6.index t 1 * 768 ≤ (i 1).val ∧ (i 1).val < win0_6.index t 1 * 768 + 768; rw [hi.2]; omega

end Cert.Kernel13Ideal.Final

end
-- ==== Proof.AdamAdaClaims.lean ====
/-
  The claims about the optimiser's call on `w_ada`: the reference's run, and the equality of the call's arrays with the
  reference's over the extended reals.
-/
module

public import proofs.«01_k».proof.Defs
public import proofs.«01_k».proof.Proof.AdamAdaValue
public import proofs.«01_k».proof.Proof.Gen.Kernel13.Frame
public import proofs.«01_k».proof.Proof.Gen.Reference13Ideal.Run
public import proofs.«01_k».proof.Proof.Gen.Reference13Ideal.Read
public import Idealize.ShloMosaic.Adequacy
public import Idealize.ShloMosaic.Lib.Quiescent

@[expose] public section

set_option maxRecDepth 16384

noncomputable section

namespace Cert.AdamAda

open Idealize.ShloMosaic Idealize.ShloMosaic.TcCoe Idealize.SL.Sem

theorem out_4 (m : (ℓ : Loc Kernel13Ideal.nD Kernel13Ideal.τ Kernel13Ideal.sig) → Buf (Elt Ideal) ℓ) (c : Dev Kernel13Ideal.nD)
    {x0 x1 x2 x3} (h0 : x0 = m ((c.tc : Thread Kernel13Ideal.nD Kernel13Ideal.τ).loc Kernel13Ideal.main_arg0)) (h1 : x1 = m ((c.tc : Thread Kernel13Ideal.nD Kernel13Ideal.τ).loc Kernel13Ideal.main_arg1)) (h2 : x2 = m ((c.tc : Thread Kernel13Ideal.nD Kernel13Ideal.τ).loc Kernel13Ideal.main_arg2)) (h3 : x3 = m ((c.tc : Thread Kernel13Ideal.nD Kernel13Ideal.τ).loc Kernel13Ideal.main_arg3)) :
    Reference13Ideal.Read.val_main_v23 (F := Ideal) x0 x1 x2 x3 = (Kernel13Ideal.Gen.dats m 0 c).arrAt 4 Kernel13Ideal.cfg0.N := by
  subst h0 h1 h2 h3
  refine Eq.trans ?_ (Kernel13Ideal.Final.final_4 m c).symm
  funext i
  rfl

theorem out_5 (m : (ℓ : Loc Kernel13Ideal.nD Kernel13Ideal.τ Kernel13Ideal.sig) → Buf (Elt Ideal) ℓ) (c : Dev Kernel13Ideal.nD)
    {x1 x2} (h1 : x1 = m ((c.tc : Thread Kernel13Ideal.nD Kernel13Ideal.τ).loc Kernel13Ideal.main_arg1)) (h2 : x2 = m ((c.tc : Thread Kernel13Ideal.nD Kernel13Ideal.τ).loc Kernel13Ideal.main_arg2)) :
    Reference13Ideal.Read.val_main_v4 (F := Ideal) x1 x2 = (Kernel13Ideal.Gen.dats m 0 c).arrAt 5 Kernel13Ideal.cfg0.N := by
  subst h1 h2
  refine Eq.trans ?_ (Kernel13Ideal.Final.final_5 m c).symm
  funext i
  rfl

theorem out_6 (m : (ℓ : Loc Kernel13Ideal.nD Kernel13Ideal.τ Kernel13Ideal.sig) → Buf (Elt Ideal) ℓ) (c : Dev Kernel13Ideal.nD)
    {x1 x3} (h1 : x1 = m ((c.tc : Thread Kernel13Ideal.nD Kernel13Ideal.τ).loc Kernel13Ideal.main_arg1)) (h3 : x3 = m ((c.tc : Thread Kernel13Ideal.nD Kernel13Ideal.τ).loc Kernel13Ideal.main_arg3)) :
    Reference13Ideal.Read.val_main_v10 (F := Ideal) x1 x3 = (Kernel13Ideal.Gen.dats m 0 c).arrAt 6 Kernel13Ideal.cfg0.N := by
  subst h1 h3
  refine Eq.trans ?_ (Kernel13Ideal.Final.final_6 m c).symm
  funext i
  rfl

/-- The reference runs and leaves its arguments alone. -/
theorem frame_reference : Cert.quiescent_Reference13Ideal := fun m g _ =>
  (θ_run Reference13Ideal.defs _ _).mono (fun r h => ⟨fun c => (h c).2.2.2, sem_eq_zero_of_no_sems (by decide) r.2⟩)
    (Reference13Ideal.Value.run m g)

/-- The call's arrays and the reference's are equal, element by element, over the extended reals. -/
theorem algebraic : Cert.algebraic_Kernel13Ideal_Reference13Ideal := by
  intro m g m' g' _ hargs
  refine ⟨fun c => (Kernel13Ideal.Gen.dats m 0 c).arrAt 4 Kernel13Ideal.cfg0.N, fun c => (Kernel13Ideal.Gen.dats m 0 c).arrAt 5 Kernel13Ideal.cfg0.N, fun c => (Kernel13Ideal.Gen.dats m 0 c).arrAt 6 Kernel13Ideal.cfg0.N,
    Kernel13Ideal.Value.run_blocks m g,
    (θ_run Reference13Ideal.defs _ _).mono (fun r h c => ?_) (Reference13Ideal.Value.run m' g')⟩
  obtain ⟨a0, a1, a2, a3⟩ := hargs c
  have hc := h c
  exact ⟨hc.1.trans ((Reference13Ideal.Read.val_main_v23_eq _ _ _ _).trans (out_4 m c a0 a1 a2 a3)),
    hc.2.1.trans ((Reference13Ideal.Read.val_main_v4_eq _ _).trans (out_5 m c a1 a2)),
    hc.2.2.1.trans ((Reference13Ideal.Read.val_main_v10_eq _ _).trans (out_6 m c a1 a3)),
    hc.2.2.2⟩

end Cert.AdamAda

end
-- ==== Proof.AdamW1Blocks.lean ====
/-
  What the optimiser's call on `w1` leaves in each of its output windows at a grid point, as the named payloads of the
  point's input blocks, over any float values.
-/
module

public import proofs.«01_k».proof.Proof.Gen.Kernel14Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel14Ideal.Blocks

open Cert.Kernel14Ideal Cert.Kernel14Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

theorem hz3 : (![0, 0, 0] : Fin 3 → Nat) = fun _ => 0 := funext fun a => by fin_cases a <;> rfl

/-- Received part 0 of layer 0, at a grid point. -/
abbrev rv00 (c : Dev nD) (t : Fin cfg0.N) : Vec F S1x256x512 .bf16 :=
  View.ld (iblk m c 2 t) (Rect.unit (s := S3x256x512) ![0, 0, 0] S1x256x512.size inb_S3x256x512_S1x256x512_0_0_0)

/-- Received part 1 of layer 0, at a grid point. -/
abbrev rv01 (c : Dev nD) (t : Fin cfg0.N) : Vec F S1x256x512 .bf16 :=
  View.ld (iblk m c 2 t) (Rect.unit (s := S3x256x512) ![1, 0, 0] S1x256x512.size inb_S3x256x512_S1x256x512_1_0_0)

/-- Received part 2 of layer 0, at a grid point. -/
abbrev rv02 (c : Dev nD) (t : Fin cfg0.N) : Vec F S1x256x512 .bf16 :=
  View.ld (iblk m c 2 t) (Rect.unit (s := S3x256x512) ![2, 0, 0] S1x256x512.size inb_S3x256x512_S1x256x512_2_0_0)

/-- Received part 0 of layer 1, at a grid point. -/
abbrev rv10 (c : Dev nD) (t : Fin cfg0.N) : Vec F S1x256x512 .bf16 :=
  View.ld (iblk m c 3 t) (Rect.unit (s := S3x256x512) ![0, 0, 0] S1x256x512.size inb_S3x256x512_S1x256x512_0_0_0)

/-- Received part 1 of layer 1, at a grid point. -/
abbrev rv11 (c : Dev nD) (t : Fin cfg0.N) : Vec F S1x256x512 .bf16 :=
  View.ld (iblk m c 3 t) (Rect.unit (s := S3x256x512) ![1, 0, 0] S1x256x512.size inb_S3x256x512_S1x256x512_1_0_0)

/-- Received part 2 of layer 1, at a grid point. -/
abbrev rv12 (c : Dev nD) (t : Fin cfg0.N) : Vec F S1x256x512 .bf16 :=
  View.ld (iblk m c 3 t) (Rect.unit (s := S3x256x512) ![2, 0, 0] S1x256x512.size inb_S3x256x512_S1x256x512_2_0_0)

theorem outs_7_A (c : Dev nD) (t : Fin cfg0.N) (h0 : t.val < 4) (h1 : ¬4 ≤ t.val) : (outsAt0 m c t.val t.isLt).1 = k0_pay1 (k0_pay9 (iblk m c 0 t) (rv00 m c t) (rv01 m c t) (rv02 m c t)) := by
  rw [outsAt0_A m c t h0 h1]
  dsimp only
  unfold out0_A_7
  refine (View.read_writes_eq_canon _ _ _ (fun y => cover0_A_7 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_7_B (c : Dev nD) (t : Fin cfg0.N) (h0 : ¬t.val < 4) (h1 : 4 ≤ t.val) : (outsAt0 m c t.val t.isLt).1 = k0_pay5 (k0_pay15 (iblk m c 1 t) (rv10 m c t) (rv11 m c t) (rv12 m c t)) := by
  rw [outsAt0_B m c t h0 h1]
  dsimp only
  unfold out0_B_7
  refine (View.read_writes_eq_canon _ _ _ (fun y => cover0_B_7 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_8_A (c : Dev nD) (t : Fin cfg0.N) (h0 : t.val < 4) (h1 : ¬4 ≤ t.val) : (outsAt0 m c t.val t.isLt).2.1 = k0_pay2 (k0_pay10 (iblk m c 4 t)) (k0_pay13 (iblk m c 0 t) (rv00 m c t) (rv01 m c t) (rv02 m c t) (iblk m c 5 t)) (k0_pay14 (iblk m c 0 t) (rv00 m c t) (rv01 m c t) (rv02 m c t) (iblk m c 6 t)) := by
  rw [outsAt0_A m c t h0 h1]
  dsimp only
  unfold out0_A_8
  refine (View.read_writes_eq_canon _ _ _ (fun y => cover0_A_8 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_8_B (c : Dev nD) (t : Fin cfg0.N) (h0 : ¬t.val < 4) (h1 : 4 ≤ t.val) : (outsAt0 m c t.val t.isLt).2.1 = k0_pay6 (k0_pay16 (iblk m c 4 t)) (k0_pay19 (iblk m c 1 t) (rv10 m c t) (rv11 m c t) (rv12 m c t) (iblk m c 5 t)) (k0_pay20 (iblk m c 1 t) (rv10 m c t) (rv11 m c t) (rv12 m c t) (iblk m c 6 t)) := by
  rw [outsAt0_B m c t h0 h1]
  dsimp only
  unfold out0_B_8
  refine (View.read_writes_eq_canon _ _ _ (fun y => cover0_B_8 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_9_A (c : Dev nD) (t : Fin cfg0.N) (h0 : t.val < 4) (h1 : ¬4 ≤ t.val) : (outsAt0 m c t.val t.isLt).2.2.1 = k0_pay3 (k0_pay11 (iblk m c 0 t) (rv00 m c t) (rv01 m c t) (rv02 m c t) (iblk m c 5 t)) := by
  rw [outsAt0_A m c t h0 h1]
  dsimp only
  unfold out0_A_9
  refine (View.read_writes_eq_canon _ _ _ (fun y => cover0_A_9 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_9_B (c : Dev nD) (t : Fin cfg0.N) (h0 : ¬t.val < 4) (h1 : 4 ≤ t.val) : (outsAt0 m c t.val t.isLt).2.2.1 = k0_pay7 (k0_pay17 (iblk m c 1 t) (rv10 m c t) (rv11 m c t) (rv12 m c t) (iblk m c 5 t)) := by
  rw [outsAt0_B m c t h0 h1]
  dsimp only
  unfold out0_B_9
  refine (View.read_writes_eq_canon _ _ _ (fun y => cover0_B_9 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_10_A (c : Dev nD) (t : Fin cfg0.N) (h0 : t.val < 4) (h1 : ¬4 ≤ t.val) : (outsAt0 m c t.val t.isLt).2.2.2 = k0_pay4 (k0_pay12 (iblk m c 0 t) (rv00 m c t) (rv01 m c t) (rv02 m c t) (iblk m c 6 t)) := by
  rw [outsAt0_A m c t h0 h1]
  dsimp only
  unfold out0_A_10
  refine (View.read_writes_eq_canon _ _ _ (fun y => cover0_A_10 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

theorem outs_10_B (c : Dev nD) (t : Fin cfg0.N) (h0 : ¬t.val < 4) (h1 : 4 ≤ t.val) : (outsAt0 m c t.val t.isLt).2.2.2 = k0_pay8 (k0_pay18 (iblk m c 1 t) (rv10 m c t) (rv11 m c t) (rv12 m c t) (iblk m c 6 t)) := by
  rw [outsAt0_B m c t h0 h1]
  dsimp only
  unfold out0_B_10
  refine (View.read_writes_eq_canon _ _ _ (fun y => cover0_B_10 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x512) hz2, View.ld_unit_zero (S := S1x256x512) hz3]
  rfl

end Cert.Kernel14Ideal.Blocks

end
-- ==== Proof.AdamW1Value.lean ====
/-
  The arrays that the optimiser's call on `w1` leaves, over the extended reals: the sum of the gradient's parts, and the
  optimiser's step on each element.
-/
module

public import proofs.«01_k».proof.Proof.Adam
public import proofs.«01_k».proof.Proof.AdamW1Blocks
public import proofs.«01_k».proof.Proof.Gen.Kernel14Ideal.Value
public import Idealize.ShloMosaic.Lib.Pipeline.ValueKit.Tiles
public import Idealize.ShloMosaic.Lib.Pointwise

@[expose] public section

set_option maxRecDepth 16384

noncomputable section

namespace Cert.Kernel14Ideal.Final

open Cert.Kernel14Ideal Cert.Kernel14Ideal.Gen Cert.Kernel14Ideal.Blocks
open Idealize.ShloMosaic Idealize.ShloMosaic.TcCoe Idealize.SL.Sem

/-! ## The payloads at an index -/

variable (o : Vec Ideal S256x512 .f32) (a b d : Vec Ideal S1x256x512 .bf16) (w x y : Vec Ideal S1x256x512 .f32) (u u1 u2 : FVec Ideal S256x512 .f32) (p : Fin 256) (j : Fin 512)

theorem total_0 : k0_pay9 (F := Ideal) o a b d (ix2 p j) = o (ix2 p j) + a (ix3 0 p j) + b (ix3 0 p j) + d (ix3 0 p j) := by
  pointwise [k0_pay9]

theorem first_0 : k0_pay11 (F := Ideal) o a b d x (ix2 p j) = Adam.first (k0_pay9 (F := Ideal) o a b d (ix2 p j)) (x (ix3 0 p j)) := by
  pointwise [k0_pay11]
  rfl

theorem second_0 : k0_pay12 (F := Ideal) o a b d x (ix2 p j) = Adam.second (k0_pay9 (F := Ideal) o a b d (ix2 p j)) (x (ix3 0 p j)) := by
  pointwise [k0_pay12]
  rfl

theorem store_g_0 : k0_pay1 (F := Ideal) u (ix3 0 p j) = u (ix2 p j) := by
  pointwise [k0_pay1]

theorem store_m_0 : k0_pay3 (F := Ideal) u (ix3 0 p j) = u (ix2 p j) := by
  pointwise [k0_pay3]

theorem store_v_0 : k0_pay4 (F := Ideal) u (ix3 0 p j) = u (ix2 p j) := by
  pointwise [k0_pay4]

theorem weight_0 : k0_pay10 (F := Ideal) w (ix2 p j) = w (ix3 0 p j) := by
  pointwise [k0_pay10]

theorem change_0 : k0_pay2 (F := Ideal) u u1 u2 (ix3 0 p j) = Adam.change (u (ix2 p j)) (u1 (ix2 p j)) (u2 (ix2 p j)) := by
  pointwise [k0_pay2]
  rfl

theorem delta_0 : k0_pay2 (F := Ideal) (k0_pay10 w) (k0_pay13 o a b d x) (k0_pay14 o a b d y) (ix3 0 p j)
    = Adam.delta (w (ix3 0 p j)) (k0_pay9 (F := Ideal) o a b d (ix2 p j)) (x (ix3 0 p j)) (y (ix3 0 p j)) := by
  rw [change_0, weight_0]
  unfold Adam.delta
  rw [← first_0, ← second_0]
  rfl

theorem total_1 : k0_pay15 (F := Ideal) o a b d (ix2 p j) = o (ix2 p j) + a (ix3 0 p j) + b (ix3 0 p j) + d (ix3 0 p j) := by
  pointwise [k0_pay15]

theorem first_1 : k0_pay17 (F := Ideal) o a b d x (ix2 p j) = Adam.first (k0_pay15 (F := Ideal) o a b d (ix2 p j)) (x (ix3 0 p j)) := by
  pointwise [k0_pay17]
  rfl

theorem second_1 : k0_pay18 (F := Ideal) o a b d x (ix2 p j) = Adam.second (k0_pay15 (F := Ideal) o a b d (ix2 p j)) (x (ix3 0 p j)) := by
  pointwise [k0_pay18]
  rfl

theorem store_g_1 : k0_pay5 (F := Ideal) u (ix3 0 p j) = u (ix2 p j) := by
  pointwise [k0_pay5]

theorem store_m_1 : k0_pay7 (F := Ideal) u (ix3 0 p j) = u (ix2 p j) := by
  pointwise [k0_pay7]

theorem store_v_1 : k0_pay8 (F := Ideal) u (ix3 0 p j) = u (ix2 p j) := by
  pointwise [k0_pay8]

theorem weight_1 : k0_pay16 (F := Ideal) w (ix2 p j) = w (ix3 0 p j) := by
  pointwise [k0_pay16]

theorem change_1 : k0_pay6 (F := Ideal) u u1 u2 (ix3 0 p j) = Adam.change (u (ix2 p j)) (u1 (ix2 p j)) (u2 (ix2 p j)) := by
  pointwise [k0_pay6]
  rfl

theorem delta_1 : k0_pay6 (F := Ideal) (k0_pay16 w) (k0_pay19 o a b d x) (k0_pay20 o a b d y) (ix3 0 p j)
    = Adam.delta (w (ix3 0 p j)) (k0_pay15 (F := Ideal) o a b d (ix2 p j)) (x (ix3 0 p j)) (y (ix3 0 p j)) := by
  rw [change_1, weight_1]
  unfold Adam.delta
  rw [← first_1, ← second_1]
  rfl

variable (m : (ℓ : Loc nD τ sig) → Buf (Elt Ideal) ℓ) (c : Dev nD)

theorem lt_N (t : Fin cfg0.N) : t.val < 8 := by
  have h := t.isLt
  have hN : cfg0.N = 8 := N_0
  omega

/-! ## The arrays left, as functions of the arguments -/

def grad (i : Shape.Idx S2x1024x512) : EReal :=
  if (i 0).val < 1 then Adam.total (V m c main_arg0 (ix2 (i 1) (i 2))) fun k => V m c main_arg2 (ix3 k (i 1) (i 2))
  else Adam.total (V m c main_arg1 (ix2 (i 1) (i 2))) fun k => V m c main_arg3 (ix3 k (i 1) (i 2))
def delta (i : Shape.Idx S2x1024x512) : EReal := Adam.delta (V m c main_arg4 i) (grad m c i) (V m c main_arg5 i) (V m c main_arg6 i)
def first (i : Shape.Idx S2x1024x512) : EReal := Adam.first (grad m c i) (V m c main_arg5 i)
def second (i : Shape.Idx S2x1024x512) : EReal := Adam.second (grad m c i) (V m c main_arg6 i)

/-- The layer of a grid point. -/
abbrev layer (t : Fin cfg0.N) : Fin 2 := ⟨t.val / 4, by have := lt_N t; omega⟩

/-- Row `p` of a grid point's block. -/
abbrev row (t : Fin cfg0.N) (p : Fin 256) : Fin 1024 := ⟨t.val % 4 * 256 + p.val, by have := p.isLt; omega⟩

/-! ## The blocks as rows of the arguments -/

theorem idx_0 (t : Fin cfg0.N) (h : t.val < 4) : win0_0.index t 0 = t.val % 4 ∧ win0_0.index t 1 = 0 :=
  (by decide +kernel : ∀ t : Fin grid0.N, t.val < 4 → win0_0.index t 0 = t.val % 4 ∧ win0_0.index t 1 = 0) t h

theorem own_0 (t : Fin cfg0.N) (h : t.val < 4) (p : Fin 256) (k : Fin 512) : iblk m c 0 t (ix2 p k) = V m c main_arg0 (ix2 (row t p) k) := by
  have hi := idx_0 t h
  unfold iblk
  rw [View.read_apply]
  show V m c main_arg0 _ = V m c main_arg0 _
  congr 1; funext a; apply Fin.ext
  match a with
  | ⟨0, _⟩ => show win0_0.index t 0 * 256 + 1 * p.val = t.val % 4 * 256 + p.val; rw [hi.1]; omega
  | ⟨1, _⟩ => show win0_0.index t 1 * 512 + 1 * k.val = k.val; rw [hi.2]; omega

theorem idx_2 (t : Fin cfg0.N) (h : t.val < 4) : win0_2.index t 0 = 0 ∧ win0_2.index t 1 = t.val % 4 ∧ win0_2.index t 2 = 0 :=
  (by decide +kernel : ∀ t : Fin grid0.N, t.val < 4 → win0_2.index t 0 = 0 ∧ win0_2.index t 1 = t.val % 4 ∧ win0_2.index t 2 = 0) t h

theorem rblk_0 (t : Fin cfg0.N) (h : t.val < 4) (q : Fin 3) (p : Fin 256) (k : Fin 512) : iblk m c 2 t (ix3 q p k) = V m c main_arg2 (ix3 q (row t p) k) := by
  have hi := idx_2 t h
  unfold iblk
  rw [View.read_apply]
  show V m c main_arg2 _ = V m c main_arg2 _
  congr 1; funext a; apply Fin.ext
  match a with
  | ⟨0, _⟩ => show win0_2.index t 0 * 3 + 1 * q.val = q.val; rw [hi.1]; omega
  | ⟨1, _⟩ => show win0_2.index t 1 * 256 + 1 * p.val = t.val % 4 * 256 + p.val; rw [hi.2.1]; omega
  | ⟨2, _⟩ => show win0_2.index t 2 * 512 + 1 * k.val = k.val; rw [hi.2.2]; omega

theorem recv_0_0 (t : Fin cfg0.N) (h : t.val < 4) (p : Fin 256) (k : Fin 512) : rv00 m c t (ix3 0 p k) = V m c main_arg2 (ix3 0 (row t p) k) := by
  refine Eq.trans (congrArg (iblk m c 2 t) (funext fun a => Fin.ext ?_)) (rblk_0 m c t h 0 p k)
  match a with
  | ⟨0, _⟩ => rfl
  | ⟨1, _⟩ => show 0 + 1 * p.val = p.val; omega
  | ⟨2, _⟩ => show 0 + 1 * k.val = k.val; omega

theorem recv_0_1 (t : Fin cfg0.N) (h : t.val < 4) (p : Fin 256) (k : Fin 512) : rv01 m c t (ix3 0 p k) = V m c main_arg2 (ix3 1 (row t p) k) := by
  refine Eq.trans (congrArg (iblk m c 2 t) (funext fun a => Fin.ext ?_)) (rblk_0 m c t h 1 p k)
  match a with
  | ⟨0, _⟩ => rfl
  | ⟨1, _⟩ => show 0 + 1 * p.val = p.val; omega
  | ⟨2, _⟩ => show 0 + 1 * k.val = k.val; omega

theorem recv_0_2 (t : Fin cfg0.N) (h : t.val < 4) (p : Fin 256) (k : Fin 512) : rv02 m c t (ix3 0 p k) = V m c main_arg2 (ix3 2 (row t p) k) := by
  refine Eq.trans (congrArg (iblk m c 2 t) (funext fun a => Fin.ext ?_)) (rblk_0 m c t h 2 p k)
  match a with
  | ⟨0, _⟩ => rfl
  | ⟨1, _⟩ => show 0 + 1 * p.val = p.val; omega
  | ⟨2, _⟩ => show 0 + 1 * k.val = k.val; omega

theorem grad_0 (t : Fin cfg0.N) (h : t.val < 4) (p : Fin 256) (k : Fin 512) : k0_pay9 (iblk m c 0 t) (rv00 m c t) (rv01 m c t) (rv02 m c t) (ix2 p k) = grad m c (ix3 (layer t) (row t p) k) := by
  rw [total_0, own_0 m c t h, recv_0_0 m c t h, recv_0_1 m c t h, recv_0_2 m c t h]
  exact (if_pos (show t.val / 4 < 1 by omega)).symm

theorem idx_1 (t : Fin cfg0.N) (h : 4 ≤ t.val) : win0_1.index t 0 = t.val % 4 ∧ win0_1.index t 1 = 0 :=
  (by decide +kernel : ∀ t : Fin grid0.N, 4 ≤ t.val → win0_1.index t 0 = t.val % 4 ∧ win0_1.index t 1 = 0) t h

theorem own_1 (t : Fin cfg0.N) (h : 4 ≤ t.val) (p : Fin 256) (k : Fin 512) : iblk m c 1 t (ix2 p k) = V m c main_arg1 (ix2 (row t p) k) := by
  have hi := idx_1 t h
  unfold iblk
  rw [View.read_apply]
  show V m c main_arg1 _ = V m c main_arg1 _
  congr 1; funext a; apply Fin.ext
  match a with
  | ⟨0, _⟩ => show win0_1.index t 0 * 256 + 1 * p.val = t.val % 4 * 256 + p.val; rw [hi.1]; omega
  | ⟨1, _⟩ => show win0_1.index t 1 * 512 + 1 * k.val = k.val; rw [hi.2]; omega

theorem idx_3 (t : Fin cfg0.N) (h : 4 ≤ t.val) : win0_3.index t 0 = 0 ∧ win0_3.index t 1 = t.val % 4 ∧ win0_3.index t 2 = 0 :=
  (by decide +kernel : ∀ t : Fin grid0.N, 4 ≤ t.val → win0_3.index t 0 = 0 ∧ win0_3.index t 1 = t.val % 4 ∧ win0_3.index t 2 = 0) t h

theorem rblk_1 (t : Fin cfg0.N) (h : 4 ≤ t.val) (q : Fin 3) (p : Fin 256) (k : Fin 512) : iblk m c 3 t (ix3 q p k) = V m c main_arg3 (ix3 q (row t p) k) := by
  have hi := idx_3 t h
  unfold iblk
  rw [View.read_apply]
  show V m c main_arg3 _ = V m c main_arg3 _
  congr 1; funext a; apply Fin.ext
  match a with
  | ⟨0, _⟩ => show win0_3.index t 0 * 3 + 1 * q.val = q.val; rw [hi.1]; omega
  | ⟨1, _⟩ => show win0_3.index t 1 * 256 + 1 * p.val = t.val % 4 * 256 + p.val; rw [hi.2.1]; omega
  | ⟨2, _⟩ => show win0_3.index t 2 * 512 + 1 * k.val = k.val; rw [hi.2.2]; omega

theorem recv_1_0 (t : Fin cfg0.N) (h : 4 ≤ t.val) (p : Fin 256) (k : Fin 512) : rv10 m c t (ix3 0 p k) = V m c main_arg3 (ix3 0 (row t p) k) := by
  refine Eq.trans (congrArg (iblk m c 3 t) (funext fun a => Fin.ext ?_)) (rblk_1 m c t h 0 p k)
  match a with
  | ⟨0, _⟩ => rfl
  | ⟨1, _⟩ => show 0 + 1 * p.val = p.val; omega
  | ⟨2, _⟩ => show 0 + 1 * k.val = k.val; omega

theorem recv_1_1 (t : Fin cfg0.N) (h : 4 ≤ t.val) (p : Fin 256) (k : Fin 512) : rv11 m c t (ix3 0 p k) = V m c main_arg3 (ix3 1 (row t p) k) := by
  refine Eq.trans (congrArg (iblk m c 3 t) (funext fun a => Fin.ext ?_)) (rblk_1 m c t h 1 p k)
  match a with
  | ⟨0, _⟩ => rfl
  | ⟨1, _⟩ => show 0 + 1 * p.val = p.val; omega
  | ⟨2, _⟩ => show 0 + 1 * k.val = k.val; omega

theorem recv_1_2 (t : Fin cfg0.N) (h : 4 ≤ t.val) (p : Fin 256) (k : Fin 512) : rv12 m c t (ix3 0 p k) = V m c main_arg3 (ix3 2 (row t p) k) := by
  refine Eq.trans (congrArg (iblk m c 3 t) (funext fun a => Fin.ext ?_)) (rblk_1 m c t h 2 p k)
  match a with
  | ⟨0, _⟩ => rfl
  | ⟨1, _⟩ => show 0 + 1 * p.val = p.val; omega
  | ⟨2, _⟩ => show 0 + 1 * k.val = k.val; omega

theorem grad_1 (t : Fin cfg0.N) (h : 4 ≤ t.val) (p : Fin 256) (k : Fin 512) : k0_pay15 (iblk m c 1 t) (rv10 m c t) (rv11 m c t) (rv12 m c t) (ix2 p k) = grad m c (ix3 (layer t) (row t p) k) := by
  rw [total_1, own_1 m c t h, recv_1_0 m c t h, recv_1_1 m c t h, recv_1_2 m c t h]
  exact (if_neg (show ¬t.val / 4 < 1 by omega)).symm

theorem idx_4 (t : Fin cfg0.N) : win0_4.index t 0 = t.val / 4 ∧ win0_4.index t 1 = t.val % 4 ∧ win0_4.index t 2 = 0 :=
  (by decide +kernel : ∀ t : Fin grid0.N, win0_4.index t 0 = t.val / 4 ∧ win0_4.index t 1 = t.val % 4 ∧ win0_4.index t 2 = 0) t

/-- Where a block of a layered array lies: windows 4 to 10 have the same blocks. -/
theorem place (t : Fin cfg0.N) (y : Shape.Idx S1x256x512) (a : Fin 3) :
    (ix3 (layer t) (row t (y 1)) (y 2) a).val = win0_4.index t a * S1x256x512.size a + 1 * (y a).val := by
  have hi := idx_4 t
  have h0 : (y 0).val < 1 := (y 0).isLt
  match a with
  | ⟨0, _⟩ => show t.val / 4 = win0_4.index t 0 * 1 + 1 * (y 0).val; rw [hi.1]; omega
  | ⟨1, _⟩ => show t.val % 4 * 256 + (y 1).val = win0_4.index t 1 * 256 + 1 * (y 1).val; rw [hi.2.1]; omega
  | ⟨2, _⟩ => show (y 2).val = win0_4.index t 2 * 512 + 1 * (y 2).val; rw [hi.2.2]; omega

/-- The grid point whose block holds an index. -/
abbrev point (i : Shape.Idx S2x1024x512) : Fin cfg0.N := ⟨(i 0).val * 4 + (i 1).val / 256, by
  have h0 : (i 0).val < 2 := (i 0).isLt
  have h1 : (i 1).val < 1024 := (i 1).isLt
  have hN : cfg0.N = 8 := N_0
  omega⟩

theorem holds (i : Shape.Idx S2x1024x512) (a : Fin 3) :
    win0_4.index (point i) a * S1x256x512.size a ≤ (i a).val ∧ (i a).val < win0_4.index (point i) a * S1x256x512.size a + S1x256x512.size a := by
  have hi := idx_4 (point i)
  have h0 : (i 0).val < 2 := (i 0).isLt
  have h1 : (i 1).val < 1024 := (i 1).isLt
  have h2 : (i 2).val < 512 := (i 2).isLt
  have hv : (point i).val = (i 0).val * 4 + (i 1).val / 256 := rfl
  match a with
  | ⟨0, _⟩ => show win0_4.index (point i) 0 * 1 ≤ (i 0).val ∧ (i 0).val < win0_4.index (point i) 0 * 1 + 1; rw [hi.1]; omega
  | ⟨1, _⟩ => show win0_4.index (point i) 1 * 256 ≤ (i 1).val ∧ (i 1).val < win0_4.index (point i) 1 * 256 + 256; rw [hi.2.1]; omega
  | ⟨2, _⟩ => show win0_4.index (point i) 2 * 512 ≤ (i 2).val ∧ (i 2).val < win0_4.index (point i) 2 * 512 + 512; rw [hi.2.2]; omega

theorem blk_4 (t : Fin cfg0.N) (p : Fin 256) (k : Fin 512) : iblk m c 4 t (ix3 0 p k) = V m c main_arg4 (ix3 (layer t) (row t p) k) := by
  unfold iblk
  rw [View.read_apply]
  exact congrArg (V m c main_arg4) (funext fun a => Fin.ext (place t (ix3 0 p k) a).symm)

theorem blk_5 (t : Fin cfg0.N) (p : Fin 256) (k : Fin 512) : iblk m c 5 t (ix3 0 p k) = V m c main_arg5 (ix3 (layer t) (row t p) k) := by
  unfold iblk
  rw [View.read_apply]
  exact congrArg (V m c main_arg5) (funext fun a => Fin.ext (place t (ix3 0 p k) a).symm)

theorem blk_6 (t : Fin cfg0.N) (p : Fin 256) (k : Fin 512) : iblk m c 6 t (ix3 0 p k) = V m c main_arg6 (ix3 (layer t) (row t p) k) := by
  unfold iblk
  rw [View.read_apply]
  exact congrArg (V m c main_arg6) (funext fun a => Fin.ext (place t (ix3 0 p k) a).symm)

/-! ## The arrays left -/

theorem part_7 (t : Fin cfg0.N) (y : Shape.Idx S1x256x512) : (outsAt0 m c t.val t.isLt).1 y = grad m c (ix3 (layer t) (row t (y 1)) (y 2)) := by
  have hN := lt_N t
  obtain ⟨z, p, r, rfl⟩ : ∃ (z : Fin 1) (p : Fin 256) (r : Fin 512), y = ix3 z p r := ⟨_, _, _, eq_ix3 y⟩
  obtain rfl : z = 0 := Subsingleton.elim _ _
  by_cases h : t.val < 4
  · rw [outs_7_A m c t (by omega) (by omega), store_g_0, grad_0 m c t h]
    rfl
  · rw [outs_7_B m c t (by omega) (by omega), store_g_1, grad_1 m c t (by omega)]
    rfl

theorem final_7 : (dats m 0 c).arrAt 7 cfg0.N = grad m c := by
  refine (dats m 0 c).arrAt_eq_of_cover 7 _ (fun t _ => ?_) (fun i => ?_)
  · rw [Value.flushed7]
    funext y
    rw [View.read_apply]
    exact (part_7 m c t y).trans (congrArg (grad m c) (funext fun a => Fin.ext (place t y a)))
  · refine ⟨point i, flush0_7 (point i), ?_⟩
    show i ∈ ((View.whole main_v0_0).slice (win0_7.rect (point i))).set
    rw [View.set_slice_whole, Rect.mem_set_unit]
    exact holds i

theorem part_8 (t : Fin cfg0.N) (y : Shape.Idx S1x256x512) : (outsAt0 m c t.val t.isLt).2.1 y = delta m c (ix3 (layer t) (row t (y 1)) (y 2)) := by
  have hN := lt_N t
  obtain ⟨z, p, r, rfl⟩ : ∃ (z : Fin 1) (p : Fin 256) (r : Fin 512), y = ix3 z p r := ⟨_, _, _, eq_ix3 y⟩
  obtain rfl : z = 0 := Subsingleton.elim _ _
  by_cases h : t.val < 4
  · rw [outs_8_A m c t (by omega) (by omega), delta_0, grad_0 m c t h, blk_4, blk_5, blk_6]
    rfl
  · rw [outs_8_B m c t (by omega) (by omega), delta_1, grad_1 m c t (by omega), blk_4, blk_5, blk_6]
    rfl

theorem final_8 : (dats m 0 c).arrAt 8 cfg0.N = delta m c := by
  refine (dats m 0 c).arrAt_eq_of_cover 8 _ (fun t _ => ?_) (fun i => ?_)
  · rw [Value.flushed8]
    funext y
    rw [View.read_apply]
    exact (part_8 m c t y).trans (congrArg (delta m c) (funext fun a => Fin.ext (place t y a)))
  · refine ⟨point i, flush0_8 (point i), ?_⟩
    show i ∈ ((View.whole main_v0_1).slice (win0_8.rect (point i))).set
    rw [View.set_slice_whole, Rect.mem_set_unit]
    exact holds i

theorem part_9 (t : Fin cfg0.N) (y : Shape.Idx S1x256x512) : (outsAt0 m c t.val t.isLt).2.2.1 y = first m c (ix3 (layer t) (row t (y 1)) (y 2)) := by
  have hN := lt_N t
  obtain ⟨z, p, r, rfl⟩ : ∃ (z : Fin 1) (p : Fin 256) (r : Fin 512), y = ix3 z p r := ⟨_, _, _, eq_ix3 y⟩
  obtain rfl : z = 0 := Subsingleton.elim _ _
  by_cases h : t.val < 4
  · rw [outs_9_A m c t (by omega) (by omega), store_m_0, first_0, grad_0 m c t h, blk_5]
    rfl
  · rw [outs_9_B m c t (by omega) (by omega), store_m_1, first_1, grad_1 m c t (by omega), blk_5]
    rfl

theorem final_9 : (dats m 0 c).arrAt 9 cfg0.N = first m c := by
  refine (dats m 0 c).arrAt_eq_of_cover 9 _ (fun t _ => ?_) (fun i => ?_)
  · rw [Value.flushed9]
    funext y
    rw [View.read_apply]
    exact (part_9 m c t y).trans (congrArg (first m c) (funext fun a => Fin.ext (place t y a)))
  · refine ⟨point i, flush0_9 (point i), ?_⟩
    show i ∈ ((View.whole main_v0_2).slice (win0_9.rect (point i))).set
    rw [View.set_slice_whole, Rect.mem_set_unit]
    exact holds i

theorem part_10 (t : Fin cfg0.N) (y : Shape.Idx S1x256x512) : (outsAt0 m c t.val t.isLt).2.2.2 y = second m c (ix3 (layer t) (row t (y 1)) (y 2)) := by
  have hN := lt_N t
  obtain ⟨z, p, r, rfl⟩ : ∃ (z : Fin 1) (p : Fin 256) (r : Fin 512), y = ix3 z p r := ⟨_, _, _, eq_ix3 y⟩
  obtain rfl : z = 0 := Subsingleton.elim _ _
  by_cases h : t.val < 4
  · rw [outs_10_A m c t (by omega) (by omega), store_v_0, second_0, grad_0 m c t h, blk_6]
    rfl
  · rw [outs_10_B m c t (by omega) (by omega), store_v_1, second_1, grad_1 m c t (by omega), blk_6]
    rfl

theorem final_10 : (dats m 0 c).arrAt 10 cfg0.N = second m c := by
  refine (dats m 0 c).arrAt_eq_of_cover 10 _ (fun t _ => ?_) (fun i => ?_)
  · rw [Value.flushed10]
    funext y
    rw [View.read_apply]
    exact (part_10 m c t y).trans (congrArg (second m c) (funext fun a => Fin.ext (place t y a)))
  · refine ⟨point i, flush0_10 (point i), ?_⟩
    show i ∈ ((View.whole main_v0_3).slice (win0_10.rect (point i))).set
    rw [View.set_slice_whole, Rect.mem_set_unit]
    exact holds i

end Cert.Kernel14Ideal.Final

end
-- ==== Proof.AdamW1Claims.lean ====
/-
  The claims about the optimiser's call on `w1`: the reference's run, and the equality of the call's arrays with the
  reference's over the extended reals.
-/
module

public import proofs.«01_k».proof.Defs
public import proofs.«01_k».proof.Proof.AdamW1Value
public import proofs.«01_k».proof.Proof.Gen.Kernel14.Frame
public import proofs.«01_k».proof.Proof.Gen.Reference14Ideal.Run
public import proofs.«01_k».proof.Proof.Gen.Reference14Ideal.Read
public import Idealize.ShloMosaic.Lib.IdealHost
public import Idealize.ShloMosaic.Adequacy
public import Idealize.ShloMosaic.Lib.Quiescent

@[expose] public section

set_option maxRecDepth 16384

noncomputable section

namespace Cert.Reference14Ideal.Grad

open Cert.Reference14Ideal Cert.Reference14Ideal.Read Idealize.ShloMosaic

theorem zero_0 : val_main_cst (F := Ideal) (Shape.Idx.first Gen.h_S_) = 0 := Ideal.ofBits_zero_f32

theorem zero_1 : val_main_cst_0 (F := Ideal) (Shape.Idx.first Gen.h_S_) = 0 := Ideal.ofBits_zero_f32

/-- The reference's gradient, at an index. -/
theorem grad_at (x0 x1 : FVec Ideal S1024x512 .f32) (x2 x3 : FVec Ideal S3x1024x512 .bf16) (i : Shape.Idx S2x1024x512) :
    val_main_v8 (F := Ideal) x0 x1 x2 x3 i
      = if (i 0).val < 1 then Adam.total (x0 (ix2 (i 1) (i 2))) fun k => x2 (ix3 k (i 1) (i 2))
        else Adam.total (x1 (ix2 (i 1) (i 2))) fun k => x3 (ix3 k (i 1) (i 2)) := by
  idx_vars i
  pointwise [val_main_v8, val_main_v7, val_main_v6, val_main_v5, val_main_v4, val_main_v3, val_main_v2, val_main_v1, val_main_v0]
  simp only [zero_0, zero_1, ← Adam.total_eq]
  rfl

end Cert.Reference14Ideal.Grad

namespace Cert.AdamW1

open Kernel14Ideal Kernel14Ideal.Gen Idealize.ShloMosaic Idealize.ShloMosaic.TcCoe Idealize.SL.Sem

theorem out_7 (m : (ℓ : Loc nD τ sig) → Buf (Elt Ideal) ℓ) (c : Dev nD)
    {x0 x1 x2 x3} (h0 : x0 = V m c main_arg0) (h1 : x1 = V m c main_arg1) (h2 : x2 = V m c main_arg2) (h3 : x3 = V m c main_arg3) :
    Reference14Ideal.Read.val_main_v8 (F := Ideal) x0 x1 x2 x3 = (dats m 0 c).arrAt 7 cfg0.N := by
  subst h0 h1 h2 h3
  refine Eq.trans ?_ (Kernel14Ideal.Final.final_7 m c).symm
  funext i
  exact Reference14Ideal.Grad.grad_at (V m c main_arg0) (V m c main_arg1) (V m c main_arg2) (V m c main_arg3) i

theorem out_8 (m : (ℓ : Loc nD τ sig) → Buf (Elt Ideal) ℓ) (c : Dev nD)
    {x0 x1 x2 x3 x4 x5 x6} (h0 : x0 = V m c main_arg0) (h1 : x1 = V m c main_arg1) (h2 : x2 = V m c main_arg2) (h3 : x3 = V m c main_arg3) (h4 : x4 = V m c main_arg4) (h5 : x5 = V m c main_arg5) (h6 : x6 = V m c main_arg6) :
    Reference14Ideal.Read.val_main_v32 (F := Ideal) x0 x1 x2 x3 x4 x5 x6 = (dats m 0 c).arrAt 8 cfg0.N := by
  subst h0 h1 h2 h3 h4 h5 h6
  refine Eq.trans ?_ (Kernel14Ideal.Final.final_8 m c).symm
  funext i
  exact congrArg (fun g => Adam.delta (V m c main_arg4 i) g (V m c main_arg5 i) (V m c main_arg6 i)) (Reference14Ideal.Grad.grad_at (V m c main_arg0) (V m c main_arg1) (V m c main_arg2) (V m c main_arg3) i)

theorem out_9 (m : (ℓ : Loc nD τ sig) → Buf (Elt Ideal) ℓ) (c : Dev nD)
    {x0 x1 x2 x3 x5} (h0 : x0 = V m c main_arg0) (h1 : x1 = V m c main_arg1) (h2 : x2 = V m c main_arg2) (h3 : x3 = V m c main_arg3) (h5 : x5 = V m c main_arg5) :
    Reference14Ideal.Read.val_main_v13 (F := Ideal) x0 x1 x2 x3 x5 = (dats m 0 c).arrAt 9 cfg0.N := by
  subst h0 h1 h2 h3 h5
  refine Eq.trans ?_ (Kernel14Ideal.Final.final_9 m c).symm
  funext i
  exact congrArg (fun g => Adam.first g (V m c main_arg5 i)) (Reference14Ideal.Grad.grad_at (V m c main_arg0) (V m c main_arg1) (V m c main_arg2) (V m c main_arg3) i)

theorem out_10 (m : (ℓ : Loc nD τ sig) → Buf (Elt Ideal) ℓ) (c : Dev nD)
    {x0 x1 x2 x3 x6} (h0 : x0 = V m c main_arg0) (h1 : x1 = V m c main_arg1) (h2 : x2 = V m c main_arg2) (h3 : x3 = V m c main_arg3) (h6 : x6 = V m c main_arg6) :
    Reference14Ideal.Read.val_main_v19 (F := Ideal) x0 x1 x2 x3 x6 = (dats m 0 c).arrAt 10 cfg0.N := by
  subst h0 h1 h2 h3 h6
  refine Eq.trans ?_ (Kernel14Ideal.Final.final_10 m c).symm
  funext i
  exact congrArg (fun g => Adam.second g (V m c main_arg6 i)) (Reference14Ideal.Grad.grad_at (V m c main_arg0) (V m c main_arg1) (V m c main_arg2) (V m c main_arg3) i)

/-- The reference runs and leaves its arguments alone. -/
theorem frame_reference : Cert.quiescent_Reference14Ideal := fun m g _ =>
  (θ_run Reference14Ideal.defs _ _).mono (fun r h => ⟨fun c => (h c).2.2.2.2, sem_eq_zero_of_no_sems (by decide) r.2⟩)
    (Reference14Ideal.Value.run m g)

/-- The call's arrays and the reference's are equal, element by element, over the extended reals. -/
theorem algebraic : Cert.algebraic_Kernel14Ideal_Reference14Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N,
    Kernel14Ideal.Value.run_blocks m g,
    (θ_run Reference14Ideal.defs _ _).mono (fun r h c => ?_) (Reference14Ideal.Value.run m' g')⟩
  obtain ⟨a0, a1, a2, a3, a4, a5, a6⟩ := hargs c
  have hc := h c
  exact ⟨hc.1.trans ((Reference14Ideal.Read.val_main_v8_eq _ _ _ _).trans (out_7 m c a0 a1 a2 a3)),
    hc.2.1.trans ((Reference14Ideal.Read.val_main_v32_eq _ _ _ _ _ _ _).trans (out_8 m c a0 a1 a2 a3 a4 a5 a6)),
    hc.2.2.1.trans ((Reference14Ideal.Read.val_main_v13_eq _ _ _ _ _).trans (out_9 m c a0 a1 a2 a3 a5)),
    hc.2.2.2.1.trans ((Reference14Ideal.Read.val_main_v19_eq _ _ _ _ _).trans (out_10 m c a0 a1 a2 a3 a6)),
    hc.2.2.2.2⟩

end Cert.AdamW1

end
-- ==== Proof.AdamW2Blocks.lean ====
/-
  What the optimiser's call on `w2` leaves in each of its output windows at a grid point, as the named payloads of the
  point's input blocks, over any float values.
-/
module

public import proofs.«01_k».proof.Proof.Gen.Kernel15Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel15Ideal.Blocks

open Cert.Kernel15Ideal Cert.Kernel15Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

theorem hz3 : (![0, 0, 0] : Fin 3 → Nat) = fun _ => 0 := funext fun a => by fin_cases a <;> rfl

/-- Received part 0 of layer 0, at a grid point. -/
abbrev rv00 (c : Dev nD) (t : Fin cfg0.N) : Vec F S1x256x1024 .bf16 :=
  View.ld (iblk m c 2 t) (Rect.unit (s := S3x256x1024) ![0, 0, 0] S1x256x1024.size inb_S3x256x1024_S1x256x1024_0_0_0)

/-- Received part 1 of layer 0, at a grid point. -/
abbrev rv01 (c : Dev nD) (t : Fin cfg0.N) : Vec F S1x256x1024 .bf16 :=
  View.ld (iblk m c 2 t) (Rect.unit (s := S3x256x1024) ![1, 0, 0] S1x256x1024.size inb_S3x256x1024_S1x256x1024_1_0_0)

/-- Received part 2 of layer 0, at a grid point. -/
abbrev rv02 (c : Dev nD) (t : Fin cfg0.N) : Vec F S1x256x1024 .bf16 :=
  View.ld (iblk m c 2 t) (Rect.unit (s := S3x256x1024) ![2, 0, 0] S1x256x1024.size inb_S3x256x1024_S1x256x1024_2_0_0)

/-- Received part 0 of layer 1, at a grid point. -/
abbrev rv10 (c : Dev nD) (t : Fin cfg0.N) : Vec F S1x256x1024 .bf16 :=
  View.ld (iblk m c 3 t) (Rect.unit (s := S3x256x1024) ![0, 0, 0] S1x256x1024.size inb_S3x256x1024_S1x256x1024_0_0_0)

/-- Received part 1 of layer 1, at a grid point. -/
abbrev rv11 (c : Dev nD) (t : Fin cfg0.N) : Vec F S1x256x1024 .bf16 :=
  View.ld (iblk m c 3 t) (Rect.unit (s := S3x256x1024) ![1, 0, 0] S1x256x1024.size inb_S3x256x1024_S1x256x1024_1_0_0)

/-- Received part 2 of layer 1, at a grid point. -/
abbrev rv12 (c : Dev nD) (t : Fin cfg0.N) : Vec F S1x256x1024 .bf16 :=
  View.ld (iblk m c 3 t) (Rect.unit (s := S3x256x1024) ![2, 0, 0] S1x256x1024.size inb_S3x256x1024_S1x256x1024_2_0_0)

theorem outs_7_A (c : Dev nD) (t : Fin cfg0.N) (h0 : t.val < 2) (h1 : ¬2 ≤ t.val) : (outsAt0 m c t.val t.isLt).1 = k0_pay1 (k0_pay9 (iblk m c 0 t) (rv00 m c t) (rv01 m c t) (rv02 m c t)) := by
  rw [outsAt0_A m c t h0 h1]
  dsimp only
  unfold out0_A_7
  refine (View.read_writes_eq_canon _ _ _ (fun y => cover0_A_7 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_7_B (c : Dev nD) (t : Fin cfg0.N) (h0 : ¬t.val < 2) (h1 : 2 ≤ t.val) : (outsAt0 m c t.val t.isLt).1 = k0_pay5 (k0_pay15 (iblk m c 1 t) (rv10 m c t) (rv11 m c t) (rv12 m c t)) := by
  rw [outsAt0_B m c t h0 h1]
  dsimp only
  unfold out0_B_7
  refine (View.read_writes_eq_canon _ _ _ (fun y => cover0_B_7 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_8_A (c : Dev nD) (t : Fin cfg0.N) (h0 : t.val < 2) (h1 : ¬2 ≤ t.val) : (outsAt0 m c t.val t.isLt).2.1 = k0_pay2 (k0_pay10 (iblk m c 4 t)) (k0_pay13 (iblk m c 0 t) (rv00 m c t) (rv01 m c t) (rv02 m c t) (iblk m c 5 t)) (k0_pay14 (iblk m c 0 t) (rv00 m c t) (rv01 m c t) (rv02 m c t) (iblk m c 6 t)) := by
  rw [outsAt0_A m c t h0 h1]
  dsimp only
  unfold out0_A_8
  refine (View.read_writes_eq_canon _ _ _ (fun y => cover0_A_8 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_8_B (c : Dev nD) (t : Fin cfg0.N) (h0 : ¬t.val < 2) (h1 : 2 ≤ t.val) : (outsAt0 m c t.val t.isLt).2.1 = k0_pay6 (k0_pay16 (iblk m c 4 t)) (k0_pay19 (iblk m c 1 t) (rv10 m c t) (rv11 m c t) (rv12 m c t) (iblk m c 5 t)) (k0_pay20 (iblk m c 1 t) (rv10 m c t) (rv11 m c t) (rv12 m c t) (iblk m c 6 t)) := by
  rw [outsAt0_B m c t h0 h1]
  dsimp only
  unfold out0_B_8
  refine (View.read_writes_eq_canon _ _ _ (fun y => cover0_B_8 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_9_A (c : Dev nD) (t : Fin cfg0.N) (h0 : t.val < 2) (h1 : ¬2 ≤ t.val) : (outsAt0 m c t.val t.isLt).2.2.1 = k0_pay3 (k0_pay11 (iblk m c 0 t) (rv00 m c t) (rv01 m c t) (rv02 m c t) (iblk m c 5 t)) := by
  rw [outsAt0_A m c t h0 h1]
  dsimp only
  unfold out0_A_9
  refine (View.read_writes_eq_canon _ _ _ (fun y => cover0_A_9 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_9_B (c : Dev nD) (t : Fin cfg0.N) (h0 : ¬t.val < 2) (h1 : 2 ≤ t.val) : (outsAt0 m c t.val t.isLt).2.2.1 = k0_pay7 (k0_pay17 (iblk m c 1 t) (rv10 m c t) (rv11 m c t) (rv12 m c t) (iblk m c 5 t)) := by
  rw [outsAt0_B m c t h0 h1]
  dsimp only
  unfold out0_B_9
  refine (View.read_writes_eq_canon _ _ _ (fun y => cover0_B_9 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_10_A (c : Dev nD) (t : Fin cfg0.N) (h0 : t.val < 2) (h1 : ¬2 ≤ t.val) : (outsAt0 m c t.val t.isLt).2.2.2 = k0_pay4 (k0_pay12 (iblk m c 0 t) (rv00 m c t) (rv01 m c t) (rv02 m c t) (iblk m c 6 t)) := by
  rw [outsAt0_A m c t h0 h1]
  dsimp only
  unfold out0_A_10
  refine (View.read_writes_eq_canon _ _ _ (fun y => cover0_A_10 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

theorem outs_10_B (c : Dev nD) (t : Fin cfg0.N) (h0 : ¬t.val < 2) (h1 : 2 ≤ t.val) : (outsAt0 m c t.val t.isLt).2.2.2 = k0_pay8 (k0_pay18 (iblk m c 1 t) (rv10 m c t) (rv11 m c t) (rv12 m c t) (iblk m c 6 t)) := by
  rw [outsAt0_B m c t h0 h1]
  dsimp only
  unfold out0_B_10
  refine (View.read_writes_eq_canon _ _ _ (fun y => cover0_B_10 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x1024) hz2, View.ld_unit_zero (S := S1x256x1024) hz3]
  rfl

end Cert.Kernel15Ideal.Blocks

end
-- ==== Proof.AdamW2Value.lean ====
/-
  The arrays that the optimiser's call on `w2` leaves, over the extended reals: the sum of the gradient's parts, and the
  optimiser's step on each element.
-/
module

public import proofs.«01_k».proof.Proof.Adam
public import proofs.«01_k».proof.Proof.AdamW2Blocks
public import proofs.«01_k».proof.Proof.Gen.Kernel15Ideal.Value
public import Idealize.ShloMosaic.Lib.Pipeline.ValueKit.Tiles
public import Idealize.ShloMosaic.Lib.Pointwise

@[expose] public section

set_option maxRecDepth 16384

noncomputable section

namespace Cert.Kernel15Ideal.Final

open Cert.Kernel15Ideal Cert.Kernel15Ideal.Gen Cert.Kernel15Ideal.Blocks
open Idealize.ShloMosaic Idealize.ShloMosaic.TcCoe Idealize.SL.Sem

/-! ## The payloads at an index -/

variable (o : Vec Ideal S256x1024 .f32) (a b d : Vec Ideal S1x256x1024 .bf16) (w x y : Vec Ideal S1x256x1024 .f32) (u u1 u2 : FVec Ideal S256x1024 .f32) (p : Fin 256) (j : Fin 1024)

theorem total_0 : k0_pay9 (F := Ideal) o a b d (ix2 p j) = o (ix2 p j) + a (ix3 0 p j) + b (ix3 0 p j) + d (ix3 0 p j) := by
  pointwise [k0_pay9]

theorem first_0 : k0_pay11 (F := Ideal) o a b d x (ix2 p j) = Adam.first (k0_pay9 (F := Ideal) o a b d (ix2 p j)) (x (ix3 0 p j)) := by
  pointwise [k0_pay11]
  rfl

theorem second_0 : k0_pay12 (F := Ideal) o a b d x (ix2 p j) = Adam.second (k0_pay9 (F := Ideal) o a b d (ix2 p j)) (x (ix3 0 p j)) := by
  pointwise [k0_pay12]
  rfl

theorem store_g_0 : k0_pay1 (F := Ideal) u (ix3 0 p j) = u (ix2 p j) := by
  pointwise [k0_pay1]

theorem store_m_0 : k0_pay3 (F := Ideal) u (ix3 0 p j) = u (ix2 p j) := by
  pointwise [k0_pay3]

theorem store_v_0 : k0_pay4 (F := Ideal) u (ix3 0 p j) = u (ix2 p j) := by
  pointwise [k0_pay4]

theorem weight_0 : k0_pay10 (F := Ideal) w (ix2 p j) = w (ix3 0 p j) := by
  pointwise [k0_pay10]

theorem change_0 : k0_pay2 (F := Ideal) u u1 u2 (ix3 0 p j) = Adam.change (u (ix2 p j)) (u1 (ix2 p j)) (u2 (ix2 p j)) := by
  pointwise [k0_pay2]
  rfl

theorem delta_0 : k0_pay2 (F := Ideal) (k0_pay10 w) (k0_pay13 o a b d x) (k0_pay14 o a b d y) (ix3 0 p j)
    = Adam.delta (w (ix3 0 p j)) (k0_pay9 (F := Ideal) o a b d (ix2 p j)) (x (ix3 0 p j)) (y (ix3 0 p j)) := by
  rw [change_0, weight_0]
  unfold Adam.delta
  rw [← first_0, ← second_0]
  rfl

theorem total_1 : k0_pay15 (F := Ideal) o a b d (ix2 p j) = o (ix2 p j) + a (ix3 0 p j) + b (ix3 0 p j) + d (ix3 0 p j) := by
  pointwise [k0_pay15]

theorem first_1 : k0_pay17 (F := Ideal) o a b d x (ix2 p j) = Adam.first (k0_pay15 (F := Ideal) o a b d (ix2 p j)) (x (ix3 0 p j)) := by
  pointwise [k0_pay17]
  rfl

theorem second_1 : k0_pay18 (F := Ideal) o a b d x (ix2 p j) = Adam.second (k0_pay15 (F := Ideal) o a b d (ix2 p j)) (x (ix3 0 p j)) := by
  pointwise [k0_pay18]
  rfl

theorem store_g_1 : k0_pay5 (F := Ideal) u (ix3 0 p j) = u (ix2 p j) := by
  pointwise [k0_pay5]

theorem store_m_1 : k0_pay7 (F := Ideal) u (ix3 0 p j) = u (ix2 p j) := by
  pointwise [k0_pay7]

theorem store_v_1 : k0_pay8 (F := Ideal) u (ix3 0 p j) = u (ix2 p j) := by
  pointwise [k0_pay8]

theorem weight_1 : k0_pay16 (F := Ideal) w (ix2 p j) = w (ix3 0 p j) := by
  pointwise [k0_pay16]

theorem change_1 : k0_pay6 (F := Ideal) u u1 u2 (ix3 0 p j) = Adam.change (u (ix2 p j)) (u1 (ix2 p j)) (u2 (ix2 p j)) := by
  pointwise [k0_pay6]
  rfl

theorem delta_1 : k0_pay6 (F := Ideal) (k0_pay16 w) (k0_pay19 o a b d x) (k0_pay20 o a b d y) (ix3 0 p j)
    = Adam.delta (w (ix3 0 p j)) (k0_pay15 (F := Ideal) o a b d (ix2 p j)) (x (ix3 0 p j)) (y (ix3 0 p j)) := by
  rw [change_1, weight_1]
  unfold Adam.delta
  rw [← first_1, ← second_1]
  rfl

variable (m : (ℓ : Loc nD τ sig) → Buf (Elt Ideal) ℓ) (c : Dev nD)

theorem lt_N (t : Fin cfg0.N) : t.val < 4 := by
  have h := t.isLt
  have hN : cfg0.N = 4 := N_0
  omega

/-! ## The arrays left, as functions of the arguments -/

def grad (i : Shape.Idx S2x512x1024) : EReal :=
  if (i 0).val < 1 then Adam.total (V m c main_arg0 (ix2 (i 1) (i 2))) fun k => V m c main_arg2 (ix3 k (i 1) (i 2))
  else Adam.total (V m c main_arg1 (ix2 (i 1) (i 2))) fun k => V m c main_arg3 (ix3 k (i 1) (i 2))
def delta (i : Shape.Idx S2x512x1024) : EReal := Adam.delta (V m c main_arg4 i) (grad m c i) (V m c main_arg5 i) (V m c main_arg6 i)
def first (i : Shape.Idx S2x512x1024) : EReal := Adam.first (grad m c i) (V m c main_arg5 i)
def second (i : Shape.Idx S2x512x1024) : EReal := Adam.second (grad m c i) (V m c main_arg6 i)

/-- The layer of a grid point. -/
abbrev layer (t : Fin cfg0.N) : Fin 2 := ⟨t.val / 2, by have := lt_N t; omega⟩

/-- Row `p` of a grid point's block. -/
abbrev row (t : Fin cfg0.N) (p : Fin 256) : Fin 512 := ⟨t.val % 2 * 256 + p.val, by have := p.isLt; omega⟩

/-! ## The blocks as rows of the arguments -/

theorem idx_0 (t : Fin cfg0.N) (h : t.val < 2) : win0_0.index t 0 = t.val % 2 ∧ win0_0.index t 1 = 0 :=
  (by decide +kernel : ∀ t : Fin grid0.N, t.val < 2 → win0_0.index t 0 = t.val % 2 ∧ win0_0.index t 1 = 0) t h

theorem own_0 (t : Fin cfg0.N) (h : t.val < 2) (p : Fin 256) (k : Fin 1024) : iblk m c 0 t (ix2 p k) = V m c main_arg0 (ix2 (row t p) k) := by
  have hi := idx_0 t h
  unfold iblk
  rw [View.read_apply]
  show V m c main_arg0 _ = V m c main_arg0 _
  congr 1; funext a; apply Fin.ext
  match a with
  | ⟨0, _⟩ => show win0_0.index t 0 * 256 + 1 * p.val = t.val % 2 * 256 + p.val; rw [hi.1]; omega
  | ⟨1, _⟩ => show win0_0.index t 1 * 1024 + 1 * k.val = k.val; rw [hi.2]; omega

theorem idx_2 (t : Fin cfg0.N) (h : t.val < 2) : win0_2.index t 0 = 0 ∧ win0_2.index t 1 = t.val % 2 ∧ win0_2.index t 2 = 0 :=
  (by decide +kernel : ∀ t : Fin grid0.N, t.val < 2 → win0_2.index t 0 = 0 ∧ win0_2.index t 1 = t.val % 2 ∧ win0_2.index t 2 = 0) t h

theorem rblk_0 (t : Fin cfg0.N) (h : t.val < 2) (q : Fin 3) (p : Fin 256) (k : Fin 1024) : iblk m c 2 t (ix3 q p k) = V m c main_arg2 (ix3 q (row t p) k) := by
  have hi := idx_2 t h
  unfold iblk
  rw [View.read_apply]
  show V m c main_arg2 _ = V m c main_arg2 _
  congr 1; funext a; apply Fin.ext
  match a with
  | ⟨0, _⟩ => show win0_2.index t 0 * 3 + 1 * q.val = q.val; rw [hi.1]; omega
  | ⟨1, _⟩ => show win0_2.index t 1 * 256 + 1 * p.val = t.val % 2 * 256 + p.val; rw [hi.2.1]; omega
  | ⟨2, _⟩ => show win0_2.index t 2 * 1024 + 1 * k.val = k.val; rw [hi.2.2]; omega

theorem recv_0_0 (t : Fin cfg0.N) (h : t.val < 2) (p : Fin 256) (k : Fin 1024) : rv00 m c t (ix3 0 p k) = V m c main_arg2 (ix3 0 (row t p) k) := by
  refine Eq.trans (congrArg (iblk m c 2 t) (funext fun a => Fin.ext ?_)) (rblk_0 m c t h 0 p k)
  match a with
  | ⟨0, _⟩ => rfl
  | ⟨1, _⟩ => show 0 + 1 * p.val = p.val; omega
  | ⟨2, _⟩ => show 0 + 1 * k.val = k.val; omega

theorem recv_0_1 (t : Fin cfg0.N) (h : t.val < 2) (p : Fin 256) (k : Fin 1024) : rv01 m c t (ix3 0 p k) = V m c main_arg2 (ix3 1 (row t p) k) := by
  refine Eq.trans (congrArg (iblk m c 2 t) (funext fun a => Fin.ext ?_)) (rblk_0 m c t h 1 p k)
  match a with
  | ⟨0, _⟩ => rfl
  | ⟨1, _⟩ => show 0 + 1 * p.val = p.val; omega
  | ⟨2, _⟩ => show 0 + 1 * k.val = k.val; omega

theorem recv_0_2 (t : Fin cfg0.N) (h : t.val < 2) (p : Fin 256) (k : Fin 1024) : rv02 m c t (ix3 0 p k) = V m c main_arg2 (ix3 2 (row t p) k) := by
  refine Eq.trans (congrArg (iblk m c 2 t) (funext fun a => Fin.ext ?_)) (rblk_0 m c t h 2 p k)
  match a with
  | ⟨0, _⟩ => rfl
  | ⟨1, _⟩ => show 0 + 1 * p.val = p.val; omega
  | ⟨2, _⟩ => show 0 + 1 * k.val = k.val; omega

theorem grad_0 (t : Fin cfg0.N) (h : t.val < 2) (p : Fin 256) (k : Fin 1024) : k0_pay9 (iblk m c 0 t) (rv00 m c t) (rv01 m c t) (rv02 m c t) (ix2 p k) = grad m c (ix3 (layer t) (row t p) k) := by
  rw [total_0, own_0 m c t h, recv_0_0 m c t h, recv_0_1 m c t h, recv_0_2 m c t h]
  exact (if_pos (show t.val / 2 < 1 by omega)).symm

theorem idx_1 (t : Fin cfg0.N) (h : 2 ≤ t.val) : win0_1.index t 0 = t.val % 2 ∧ win0_1.index t 1 = 0 :=
  (by decide +kernel : ∀ t : Fin grid0.N, 2 ≤ t.val → win0_1.index t 0 = t.val % 2 ∧ win0_1.index t 1 = 0) t h

theorem own_1 (t : Fin cfg0.N) (h : 2 ≤ t.val) (p : Fin 256) (k : Fin 1024) : iblk m c 1 t (ix2 p k) = V m c main_arg1 (ix2 (row t p) k) := by
  have hi := idx_1 t h
  unfold iblk
  rw [View.read_apply]
  show V m c main_arg1 _ = V m c main_arg1 _
  congr 1; funext a; apply Fin.ext
  match a with
  | ⟨0, _⟩ => show win0_1.index t 0 * 256 + 1 * p.val = t.val % 2 * 256 + p.val; rw [hi.1]; omega
  | ⟨1, _⟩ => show win0_1.index t 1 * 1024 + 1 * k.val = k.val; rw [hi.2]; omega

theorem idx_3 (t : Fin cfg0.N) (h : 2 ≤ t.val) : win0_3.index t 0 = 0 ∧ win0_3.index t 1 = t.val % 2 ∧ win0_3.index t 2 = 0 :=
  (by decide +kernel : ∀ t : Fin grid0.N, 2 ≤ t.val → win0_3.index t 0 = 0 ∧ win0_3.index t 1 = t.val % 2 ∧ win0_3.index t 2 = 0) t h

theorem rblk_1 (t : Fin cfg0.N) (h : 2 ≤ t.val) (q : Fin 3) (p : Fin 256) (k : Fin 1024) : iblk m c 3 t (ix3 q p k) = V m c main_arg3 (ix3 q (row t p) k) := by
  have hi := idx_3 t h
  unfold iblk
  rw [View.read_apply]
  show V m c main_arg3 _ = V m c main_arg3 _
  congr 1; funext a; apply Fin.ext
  match a with
  | ⟨0, _⟩ => show win0_3.index t 0 * 3 + 1 * q.val = q.val; rw [hi.1]; omega
  | ⟨1, _⟩ => show win0_3.index t 1 * 256 + 1 * p.val = t.val % 2 * 256 + p.val; rw [hi.2.1]; omega
  | ⟨2, _⟩ => show win0_3.index t 2 * 1024 + 1 * k.val = k.val; rw [hi.2.2]; omega

theorem recv_1_0 (t : Fin cfg0.N) (h : 2 ≤ t.val) (p : Fin 256) (k : Fin 1024) : rv10 m c t (ix3 0 p k) = V m c main_arg3 (ix3 0 (row t p) k) := by
  refine Eq.trans (congrArg (iblk m c 3 t) (funext fun a => Fin.ext ?_)) (rblk_1 m c t h 0 p k)
  match a with
  | ⟨0, _⟩ => rfl
  | ⟨1, _⟩ => show 0 + 1 * p.val = p.val; omega
  | ⟨2, _⟩ => show 0 + 1 * k.val = k.val; omega

theorem recv_1_1 (t : Fin cfg0.N) (h : 2 ≤ t.val) (p : Fin 256) (k : Fin 1024) : rv11 m c t (ix3 0 p k) = V m c main_arg3 (ix3 1 (row t p) k) := by
  refine Eq.trans (congrArg (iblk m c 3 t) (funext fun a => Fin.ext ?_)) (rblk_1 m c t h 1 p k)
  match a with
  | ⟨0, _⟩ => rfl
  | ⟨1, _⟩ => show 0 + 1 * p.val = p.val; omega
  | ⟨2, _⟩ => show 0 + 1 * k.val = k.val; omega

theorem recv_1_2 (t : Fin cfg0.N) (h : 2 ≤ t.val) (p : Fin 256) (k : Fin 1024) : rv12 m c t (ix3 0 p k) = V m c main_arg3 (ix3 2 (row t p) k) := by
  refine Eq.trans (congrArg (iblk m c 3 t) (funext fun a => Fin.ext ?_)) (rblk_1 m c t h 2 p k)
  match a with
  | ⟨0, _⟩ => rfl
  | ⟨1, _⟩ => show 0 + 1 * p.val = p.val; omega
  | ⟨2, _⟩ => show 0 + 1 * k.val = k.val; omega

theorem grad_1 (t : Fin cfg0.N) (h : 2 ≤ t.val) (p : Fin 256) (k : Fin 1024) : k0_pay15 (iblk m c 1 t) (rv10 m c t) (rv11 m c t) (rv12 m c t) (ix2 p k) = grad m c (ix3 (layer t) (row t p) k) := by
  rw [total_1, own_1 m c t h, recv_1_0 m c t h, recv_1_1 m c t h, recv_1_2 m c t h]
  exact (if_neg (show ¬t.val / 2 < 1 by omega)).symm

theorem idx_4 (t : Fin cfg0.N) : win0_4.index t 0 = t.val / 2 ∧ win0_4.index t 1 = t.val % 2 ∧ win0_4.index t 2 = 0 :=
  (by decide +kernel : ∀ t : Fin grid0.N, win0_4.index t 0 = t.val / 2 ∧ win0_4.index t 1 = t.val % 2 ∧ win0_4.index t 2 = 0) t

/-- Where a block of a layered array lies: windows 4 to 10 have the same blocks. -/
theorem place (t : Fin cfg0.N) (y : Shape.Idx S1x256x1024) (a : Fin 3) :
    (ix3 (layer t) (row t (y 1)) (y 2) a).val = win0_4.index t a * S1x256x1024.size a + 1 * (y a).val := by
  have hi := idx_4 t
  have h0 : (y 0).val < 1 := (y 0).isLt
  match a with
  | ⟨0, _⟩ => show t.val / 2 = win0_4.index t 0 * 1 + 1 * (y 0).val; rw [hi.1]; omega
  | ⟨1, _⟩ => show t.val % 2 * 256 + (y 1).val = win0_4.index t 1 * 256 + 1 * (y 1).val; rw [hi.2.1]; omega
  | ⟨2, _⟩ => show (y 2).val = win0_4.index t 2 * 1024 + 1 * (y 2).val; rw [hi.2.2]; omega

/-- The grid point whose block holds an index. -/
abbrev point (i : Shape.Idx S2x512x1024) : Fin cfg0.N := ⟨(i 0).val * 2 + (i 1).val / 256, by
  have h0 : (i 0).val < 2 := (i 0).isLt
  have h1 : (i 1).val < 512 := (i 1).isLt
  have hN : cfg0.N = 4 := N_0
  omega⟩

theorem holds (i : Shape.Idx S2x512x1024) (a : Fin 3) :
    win0_4.index (point i) a * S1x256x1024.size a ≤ (i a).val ∧ (i a).val < win0_4.index (point i) a * S1x256x1024.size a + S1x256x1024.size a := by
  have hi := idx_4 (point i)
  have h0 : (i 0).val < 2 := (i 0).isLt
  have h1 : (i 1).val < 512 := (i 1).isLt
  have h2 : (i 2).val < 1024 := (i 2).isLt
  have hv : (point i).val = (i 0).val * 2 + (i 1).val / 256 := rfl
  match a with
  | ⟨0, _⟩ => show win0_4.index (point i) 0 * 1 ≤ (i 0).val ∧ (i 0).val < win0_4.index (point i) 0 * 1 + 1; rw [hi.1]; omega
  | ⟨1, _⟩ => show win0_4.index (point i) 1 * 256 ≤ (i 1).val ∧ (i 1).val < win0_4.index (point i) 1 * 256 + 256; rw [hi.2.1]; omega
  | ⟨2, _⟩ => show win0_4.index (point i) 2 * 1024 ≤ (i 2).val ∧ (i 2).val < win0_4.index (point i) 2 * 1024 + 1024; rw [hi.2.2]; omega

theorem blk_4 (t : Fin cfg0.N) (p : Fin 256) (k : Fin 1024) : iblk m c 4 t (ix3 0 p k) = V m c main_arg4 (ix3 (layer t) (row t p) k) := by
  unfold iblk
  rw [View.read_apply]
  exact congrArg (V m c main_arg4) (funext fun a => Fin.ext (place t (ix3 0 p k) a).symm)

theorem blk_5 (t : Fin cfg0.N) (p : Fin 256) (k : Fin 1024) : iblk m c 5 t (ix3 0 p k) = V m c main_arg5 (ix3 (layer t) (row t p) k) := by
  unfold iblk
  rw [View.read_apply]
  exact congrArg (V m c main_arg5) (funext fun a => Fin.ext (place t (ix3 0 p k) a).symm)

theorem blk_6 (t : Fin cfg0.N) (p : Fin 256) (k : Fin 1024) : iblk m c 6 t (ix3 0 p k) = V m c main_arg6 (ix3 (layer t) (row t p) k) := by
  unfold iblk
  rw [View.read_apply]
  exact congrArg (V m c main_arg6) (funext fun a => Fin.ext (place t (ix3 0 p k) a).symm)

/-! ## The arrays left -/

theorem part_7 (t : Fin cfg0.N) (y : Shape.Idx S1x256x1024) : (outsAt0 m c t.val t.isLt).1 y = grad m c (ix3 (layer t) (row t (y 1)) (y 2)) := by
  have hN := lt_N t
  obtain ⟨z, p, r, rfl⟩ : ∃ (z : Fin 1) (p : Fin 256) (r : Fin 1024), y = ix3 z p r := ⟨_, _, _, eq_ix3 y⟩
  obtain rfl : z = 0 := Subsingleton.elim _ _
  by_cases h : t.val < 2
  · rw [outs_7_A m c t (by omega) (by omega), store_g_0, grad_0 m c t h]
    rfl
  · rw [outs_7_B m c t (by omega) (by omega), store_g_1, grad_1 m c t (by omega)]
    rfl

theorem final_7 : (dats m 0 c).arrAt 7 cfg0.N = grad m c := by
  refine (dats m 0 c).arrAt_eq_of_cover 7 _ (fun t _ => ?_) (fun i => ?_)
  · rw [Value.flushed7]
    funext y
    rw [View.read_apply]
    exact (part_7 m c t y).trans (congrArg (grad m c) (funext fun a => Fin.ext (place t y a)))
  · refine ⟨point i, flush0_7 (point i), ?_⟩
    show i ∈ ((View.whole main_v0_0).slice (win0_7.rect (point i))).set
    rw [View.set_slice_whole, Rect.mem_set_unit]
    exact holds i

theorem part_8 (t : Fin cfg0.N) (y : Shape.Idx S1x256x1024) : (outsAt0 m c t.val t.isLt).2.1 y = delta m c (ix3 (layer t) (row t (y 1)) (y 2)) := by
  have hN := lt_N t
  obtain ⟨z, p, r, rfl⟩ : ∃ (z : Fin 1) (p : Fin 256) (r : Fin 1024), y = ix3 z p r := ⟨_, _, _, eq_ix3 y⟩
  obtain rfl : z = 0 := Subsingleton.elim _ _
  by_cases h : t.val < 2
  · rw [outs_8_A m c t (by omega) (by omega), delta_0, grad_0 m c t h, blk_4, blk_5, blk_6]
    rfl
  · rw [outs_8_B m c t (by omega) (by omega), delta_1, grad_1 m c t (by omega), blk_4, blk_5, blk_6]
    rfl

theorem final_8 : (dats m 0 c).arrAt 8 cfg0.N = delta m c := by
  refine (dats m 0 c).arrAt_eq_of_cover 8 _ (fun t _ => ?_) (fun i => ?_)
  · rw [Value.flushed8]
    funext y
    rw [View.read_apply]
    exact (part_8 m c t y).trans (congrArg (delta m c) (funext fun a => Fin.ext (place t y a)))
  · refine ⟨point i, flush0_8 (point i), ?_⟩
    show i ∈ ((View.whole main_v0_1).slice (win0_8.rect (point i))).set
    rw [View.set_slice_whole, Rect.mem_set_unit]
    exact holds i

theorem part_9 (t : Fin cfg0.N) (y : Shape.Idx S1x256x1024) : (outsAt0 m c t.val t.isLt).2.2.1 y = first m c (ix3 (layer t) (row t (y 1)) (y 2)) := by
  have hN := lt_N t
  obtain ⟨z, p, r, rfl⟩ : ∃ (z : Fin 1) (p : Fin 256) (r : Fin 1024), y = ix3 z p r := ⟨_, _, _, eq_ix3 y⟩
  obtain rfl : z = 0 := Subsingleton.elim _ _
  by_cases h : t.val < 2
  · rw [outs_9_A m c t (by omega) (by omega), store_m_0, first_0, grad_0 m c t h, blk_5]
    rfl
  · rw [outs_9_B m c t (by omega) (by omega), store_m_1, first_1, grad_1 m c t (by omega), blk_5]
    rfl

theorem final_9 : (dats m 0 c).arrAt 9 cfg0.N = first m c := by
  refine (dats m 0 c).arrAt_eq_of_cover 9 _ (fun t _ => ?_) (fun i => ?_)
  · rw [Value.flushed9]
    funext y
    rw [View.read_apply]
    exact (part_9 m c t y).trans (congrArg (first m c) (funext fun a => Fin.ext (place t y a)))
  · refine ⟨point i, flush0_9 (point i), ?_⟩
    show i ∈ ((View.whole main_v0_2).slice (win0_9.rect (point i))).set
    rw [View.set_slice_whole, Rect.mem_set_unit]
    exact holds i

theorem part_10 (t : Fin cfg0.N) (y : Shape.Idx S1x256x1024) : (outsAt0 m c t.val t.isLt).2.2.2 y = second m c (ix3 (layer t) (row t (y 1)) (y 2)) := by
  have hN := lt_N t
  obtain ⟨z, p, r, rfl⟩ : ∃ (z : Fin 1) (p : Fin 256) (r : Fin 1024), y = ix3 z p r := ⟨_, _, _, eq_ix3 y⟩
  obtain rfl : z = 0 := Subsingleton.elim _ _
  by_cases h : t.val < 2
  · rw [outs_10_A m c t (by omega) (by omega), store_v_0, second_0, grad_0 m c t h, blk_6]
    rfl
  · rw [outs_10_B m c t (by omega) (by omega), store_v_1, second_1, grad_1 m c t (by omega), blk_6]
    rfl

theorem final_10 : (dats m 0 c).arrAt 10 cfg0.N = second m c := by
  refine (dats m 0 c).arrAt_eq_of_cover 10 _ (fun t _ => ?_) (fun i => ?_)
  · rw [Value.flushed10]
    funext y
    rw [View.read_apply]
    exact (part_10 m c t y).trans (congrArg (second m c) (funext fun a => Fin.ext (place t y a)))
  · refine ⟨point i, flush0_10 (point i), ?_⟩
    show i ∈ ((View.whole main_v0_3).slice (win0_10.rect (point i))).set
    rw [View.set_slice_whole, Rect.mem_set_unit]
    exact holds i

end Cert.Kernel15Ideal.Final

end
-- ==== Proof.AdamW2Claims.lean ====
/-
  The claims about the optimiser's call on `w2`: the reference's run, and the equality of the call's arrays with the
  reference's over the extended reals.
-/
module

public import proofs.«01_k».proof.Defs
public import proofs.«01_k».proof.Proof.AdamW2Value
public import proofs.«01_k».proof.Proof.Gen.Kernel15.Frame
public import proofs.«01_k».proof.Proof.Gen.Reference15Ideal.Run
public import proofs.«01_k».proof.Proof.Gen.Reference15Ideal.Read
public import Idealize.ShloMosaic.Lib.IdealHost
public import Idealize.ShloMosaic.Adequacy
public import Idealize.ShloMosaic.Lib.Quiescent

@[expose] public section

set_option maxRecDepth 16384

noncomputable section

namespace Cert.Reference15Ideal.Grad

open Cert.Reference15Ideal Cert.Reference15Ideal.Read Idealize.ShloMosaic

theorem zero_0 : val_main_cst (F := Ideal) (Shape.Idx.first Gen.h_S_) = 0 := Ideal.ofBits_zero_f32

theorem zero_1 : val_main_cst_0 (F := Ideal) (Shape.Idx.first Gen.h_S_) = 0 := Ideal.ofBits_zero_f32

/-- The reference's gradient, at an index. -/
theorem grad_at (x0 x1 : FVec Ideal S512x1024 .f32) (x2 x3 : FVec Ideal S3x512x1024 .bf16) (i : Shape.Idx S2x512x1024) :
    val_main_v8 (F := Ideal) x0 x1 x2 x3 i
      = if (i 0).val < 1 then Adam.total (x0 (ix2 (i 1) (i 2))) fun k => x2 (ix3 k (i 1) (i 2))
        else Adam.total (x1 (ix2 (i 1) (i 2))) fun k => x3 (ix3 k (i 1) (i 2)) := by
  idx_vars i
  pointwise [val_main_v8, val_main_v7, val_main_v6, val_main_v5, val_main_v4, val_main_v3, val_main_v2, val_main_v1, val_main_v0]
  simp only [zero_0, zero_1, ← Adam.total_eq]
  rfl

end Cert.Reference15Ideal.Grad

namespace Cert.AdamW2

open Kernel15Ideal Kernel15Ideal.Gen Idealize.ShloMosaic Idealize.ShloMosaic.TcCoe Idealize.SL.Sem

theorem out_7 (m : (ℓ : Loc nD τ sig) → Buf (Elt Ideal) ℓ) (c : Dev nD)
    {x0 x1 x2 x3} (h0 : x0 = V m c main_arg0) (h1 : x1 = V m c main_arg1) (h2 : x2 = V m c main_arg2) (h3 : x3 = V m c main_arg3) :
    Reference15Ideal.Read.val_main_v8 (F := Ideal) x0 x1 x2 x3 = (dats m 0 c).arrAt 7 cfg0.N := by
  subst h0 h1 h2 h3
  refine Eq.trans ?_ (Kernel15Ideal.Final.final_7 m c).symm
  funext i
  exact Reference15Ideal.Grad.grad_at (V m c main_arg0) (V m c main_arg1) (V m c main_arg2) (V m c main_arg3) i

theorem out_8 (m : (ℓ : Loc nD τ sig) → Buf (Elt Ideal) ℓ) (c : Dev nD)
    {x0 x1 x2 x3 x4 x5 x6} (h0 : x0 = V m c main_arg0) (h1 : x1 = V m c main_arg1) (h2 : x2 = V m c main_arg2) (h3 : x3 = V m c main_arg3) (h4 : x4 = V m c main_arg4) (h5 : x5 = V m c main_arg5) (h6 : x6 = V m c main_arg6) :
    Reference15Ideal.Read.val_main_v32 (F := Ideal) x0 x1 x2 x3 x4 x5 x6 = (dats m 0 c).arrAt 8 cfg0.N := by
  subst h0 h1 h2 h3 h4 h5 h6
  refine Eq.trans ?_ (Kernel15Ideal.Final.final_8 m c).symm
  funext i
  exact congrArg (fun g => Adam.delta (V m c main_arg4 i) g (V m c main_arg5 i) (V m c main_arg6 i)) (Reference15Ideal.Grad.grad_at (V m c main_arg0) (V m c main_arg1) (V m c main_arg2) (V m c main_arg3) i)

theorem out_9 (m : (ℓ : Loc nD τ sig) → Buf (Elt Ideal) ℓ) (c : Dev nD)
    {x0 x1 x2 x3 x5} (h0 : x0 = V m c main_arg0) (h1 : x1 = V m c main_arg1) (h2 : x2 = V m c main_arg2) (h3 : x3 = V m c main_arg3) (h5 : x5 = V m c main_arg5) :
    Reference15Ideal.Read.val_main_v13 (F := Ideal) x0 x1 x2 x3 x5 = (dats m 0 c).arrAt 9 cfg0.N := by
  subst h0 h1 h2 h3 h5
  refine Eq.trans ?_ (Kernel15Ideal.Final.final_9 m c).symm
  funext i
  exact congrArg (fun g => Adam.first g (V m c main_arg5 i)) (Reference15Ideal.Grad.grad_at (V m c main_arg0) (V m c main_arg1) (V m c main_arg2) (V m c main_arg3) i)

theorem out_10 (m : (ℓ : Loc nD τ sig) → Buf (Elt Ideal) ℓ) (c : Dev nD)
    {x0 x1 x2 x3 x6} (h0 : x0 = V m c main_arg0) (h1 : x1 = V m c main_arg1) (h2 : x2 = V m c main_arg2) (h3 : x3 = V m c main_arg3) (h6 : x6 = V m c main_arg6) :
    Reference15Ideal.Read.val_main_v19 (F := Ideal) x0 x1 x2 x3 x6 = (dats m 0 c).arrAt 10 cfg0.N := by
  subst h0 h1 h2 h3 h6
  refine Eq.trans ?_ (Kernel15Ideal.Final.final_10 m c).symm
  funext i
  exact congrArg (fun g => Adam.second g (V m c main_arg6 i)) (Reference15Ideal.Grad.grad_at (V m c main_arg0) (V m c main_arg1) (V m c main_arg2) (V m c main_arg3) i)

/-- The reference runs and leaves its arguments alone. -/
theorem frame_reference : Cert.quiescent_Reference15Ideal := fun m g _ =>
  (θ_run Reference15Ideal.defs _ _).mono (fun r h => ⟨fun c => (h c).2.2.2.2, sem_eq_zero_of_no_sems (by decide) r.2⟩)
    (Reference15Ideal.Value.run m g)

/-- The call's arrays and the reference's are equal, element by element, over the extended reals. -/
theorem algebraic : Cert.algebraic_Kernel15Ideal_Reference15Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N,
    Kernel15Ideal.Value.run_blocks m g,
    (θ_run Reference15Ideal.defs _ _).mono (fun r h c => ?_) (Reference15Ideal.Value.run m' g')⟩
  obtain ⟨a0, a1, a2, a3, a4, a5, a6⟩ := hargs c
  have hc := h c
  exact ⟨hc.1.trans ((Reference15Ideal.Read.val_main_v8_eq _ _ _ _).trans (out_7 m c a0 a1 a2 a3)),
    hc.2.1.trans ((Reference15Ideal.Read.val_main_v32_eq _ _ _ _ _ _ _).trans (out_8 m c a0 a1 a2 a3 a4 a5 a6)),
    hc.2.2.1.trans ((Reference15Ideal.Read.val_main_v13_eq _ _ _ _ _).trans (out_9 m c a0 a1 a2 a3 a5)),
    hc.2.2.2.1.trans ((Reference15Ideal.Read.val_main_v19_eq _ _ _ _ _).trans (out_10 m c a0 a1 a2 a3 a6)),
    hc.2.2.2.2⟩

end Cert.AdamW2

end
-- ==== Proof.AdamWinBlocks.lean ====
/-
  What the optimiser's call on `w_in` leaves in each of its output windows at a grid point, as the named payloads of the
  point's input blocks, over any float values.
-/
module

public import proofs.«01_k».proof.Proof.Gen.Kernel16Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel16Ideal.Blocks

open Cert.Kernel16Ideal Cert.Kernel16Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

theorem hz3 : (![0, 0, 0] : Fin 3 → Nat) = fun _ => 0 := funext fun a => by fin_cases a <;> rfl

/-- Received part 0 of layer 0, at a grid point. -/
abbrev rv00 (c : Dev nD) (t : Fin cfg0.N) : Vec F S1x256x384 .bf16 :=
  View.ld (iblk m c 2 t) (Rect.unit (s := S3x256x384) ![0, 0, 0] S1x256x384.size inb_S3x256x384_S1x256x384_0_0_0)

/-- Received part 1 of layer 0, at a grid point. -/
abbrev rv01 (c : Dev nD) (t : Fin cfg0.N) : Vec F S1x256x384 .bf16 :=
  View.ld (iblk m c 2 t) (Rect.unit (s := S3x256x384) ![1, 0, 0] S1x256x384.size inb_S3x256x384_S1x256x384_1_0_0)

/-- Received part 2 of layer 0, at a grid point. -/
abbrev rv02 (c : Dev nD) (t : Fin cfg0.N) : Vec F S1x256x384 .bf16 :=
  View.ld (iblk m c 2 t) (Rect.unit (s := S3x256x384) ![2, 0, 0] S1x256x384.size inb_S3x256x384_S1x256x384_2_0_0)

/-- Received part 0 of layer 1, at a grid point. -/
abbrev rv10 (c : Dev nD) (t : Fin cfg0.N) : Vec F S1x256x384 .bf16 :=
  View.ld (iblk m c 3 t) (Rect.unit (s := S3x256x384) ![0, 0, 0] S1x256x384.size inb_S3x256x384_S1x256x384_0_0_0)

/-- Received part 1 of layer 1, at a grid point. -/
abbrev rv11 (c : Dev nD) (t : Fin cfg0.N) : Vec F S1x256x384 .bf16 :=
  View.ld (iblk m c 3 t) (Rect.unit (s := S3x256x384) ![1, 0, 0] S1x256x384.size inb_S3x256x384_S1x256x384_1_0_0)

/-- Received part 2 of layer 1, at a grid point. -/
abbrev rv12 (c : Dev nD) (t : Fin cfg0.N) : Vec F S1x256x384 .bf16 :=
  View.ld (iblk m c 3 t) (Rect.unit (s := S3x256x384) ![2, 0, 0] S1x256x384.size inb_S3x256x384_S1x256x384_2_0_0)

theorem outs_7_A (c : Dev nD) (t : Fin cfg0.N) (h0 : t.val < 4) (h1 : ¬4 ≤ t.val) : (outsAt0 m c t.val t.isLt).1 = k0_pay1 (k0_pay9 (iblk m c 0 t) (rv00 m c t) (rv01 m c t) (rv02 m c t)) := by
  rw [outsAt0_A m c t h0 h1]
  dsimp only
  unfold out0_A_7
  refine (View.read_writes_eq_canon _ _ _ (fun y => cover0_A_7 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_7_B (c : Dev nD) (t : Fin cfg0.N) (h0 : ¬t.val < 4) (h1 : 4 ≤ t.val) : (outsAt0 m c t.val t.isLt).1 = k0_pay5 (k0_pay15 (iblk m c 1 t) (rv10 m c t) (rv11 m c t) (rv12 m c t)) := by
  rw [outsAt0_B m c t h0 h1]
  dsimp only
  unfold out0_B_7
  refine (View.read_writes_eq_canon _ _ _ (fun y => cover0_B_7 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_8_A (c : Dev nD) (t : Fin cfg0.N) (h0 : t.val < 4) (h1 : ¬4 ≤ t.val) : (outsAt0 m c t.val t.isLt).2.1 = k0_pay2 (k0_pay10 (iblk m c 4 t)) (k0_pay13 (iblk m c 0 t) (rv00 m c t) (rv01 m c t) (rv02 m c t) (iblk m c 5 t)) (k0_pay14 (iblk m c 0 t) (rv00 m c t) (rv01 m c t) (rv02 m c t) (iblk m c 6 t)) := by
  rw [outsAt0_A m c t h0 h1]
  dsimp only
  unfold out0_A_8
  refine (View.read_writes_eq_canon _ _ _ (fun y => cover0_A_8 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_8_B (c : Dev nD) (t : Fin cfg0.N) (h0 : ¬t.val < 4) (h1 : 4 ≤ t.val) : (outsAt0 m c t.val t.isLt).2.1 = k0_pay6 (k0_pay16 (iblk m c 4 t)) (k0_pay19 (iblk m c 1 t) (rv10 m c t) (rv11 m c t) (rv12 m c t) (iblk m c 5 t)) (k0_pay20 (iblk m c 1 t) (rv10 m c t) (rv11 m c t) (rv12 m c t) (iblk m c 6 t)) := by
  rw [outsAt0_B m c t h0 h1]
  dsimp only
  unfold out0_B_8
  refine (View.read_writes_eq_canon _ _ _ (fun y => cover0_B_8 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_9_A (c : Dev nD) (t : Fin cfg0.N) (h0 : t.val < 4) (h1 : ¬4 ≤ t.val) : (outsAt0 m c t.val t.isLt).2.2.1 = k0_pay3 (k0_pay11 (iblk m c 0 t) (rv00 m c t) (rv01 m c t) (rv02 m c t) (iblk m c 5 t)) := by
  rw [outsAt0_A m c t h0 h1]
  dsimp only
  unfold out0_A_9
  refine (View.read_writes_eq_canon _ _ _ (fun y => cover0_A_9 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_9_B (c : Dev nD) (t : Fin cfg0.N) (h0 : ¬t.val < 4) (h1 : 4 ≤ t.val) : (outsAt0 m c t.val t.isLt).2.2.1 = k0_pay7 (k0_pay17 (iblk m c 1 t) (rv10 m c t) (rv11 m c t) (rv12 m c t) (iblk m c 5 t)) := by
  rw [outsAt0_B m c t h0 h1]
  dsimp only
  unfold out0_B_9
  refine (View.read_writes_eq_canon _ _ _ (fun y => cover0_B_9 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_10_A (c : Dev nD) (t : Fin cfg0.N) (h0 : t.val < 4) (h1 : ¬4 ≤ t.val) : (outsAt0 m c t.val t.isLt).2.2.2 = k0_pay4 (k0_pay12 (iblk m c 0 t) (rv00 m c t) (rv01 m c t) (rv02 m c t) (iblk m c 6 t)) := by
  rw [outsAt0_A m c t h0 h1]
  dsimp only
  unfold out0_A_10
  refine (View.read_writes_eq_canon _ _ _ (fun y => cover0_A_10 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

theorem outs_10_B (c : Dev nD) (t : Fin cfg0.N) (h0 : ¬t.val < 4) (h1 : 4 ≤ t.val) : (outsAt0 m c t.val t.isLt).2.2.2 = k0_pay8 (k0_pay18 (iblk m c 1 t) (rv10 m c t) (rv11 m c t) (rv12 m c t) (iblk m c 6 t)) := by
  rw [outsAt0_B m c t h0 h1]
  dsimp only
  unfold out0_B_10
  refine (View.read_writes_eq_canon _ _ _ (fun y => cover0_B_10 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S256x384) hz2, View.ld_unit_zero (S := S1x256x384) hz3]
  rfl

end Cert.Kernel16Ideal.Blocks

end
-- ==== Proof.AdamWinValue.lean ====
/-
  The arrays that the optimiser's call on `w_in` leaves, over the extended reals: the sum of the gradient's parts, and the
  optimiser's step on each element.
-/
module

public import proofs.«01_k».proof.Proof.Adam
public import proofs.«01_k».proof.Proof.AdamWinBlocks
public import proofs.«01_k».proof.Proof.Gen.Kernel16Ideal.Value
public import Idealize.ShloMosaic.Lib.Pipeline.ValueKit.Tiles
public import Idealize.ShloMosaic.Lib.Pointwise

@[expose] public section

set_option maxRecDepth 16384

noncomputable section

namespace Cert.Kernel16Ideal.Final

open Cert.Kernel16Ideal Cert.Kernel16Ideal.Gen Cert.Kernel16Ideal.Blocks
open Idealize.ShloMosaic Idealize.ShloMosaic.TcCoe Idealize.SL.Sem

/-! ## The payloads at an index -/

variable (o : Vec Ideal S256x384 .f32) (a b d : Vec Ideal S1x256x384 .bf16) (w x y : Vec Ideal S1x256x384 .f32) (u u1 u2 : FVec Ideal S256x384 .f32) (p : Fin 256) (j : Fin 384)

theorem total_0 : k0_pay9 (F := Ideal) o a b d (ix2 p j) = o (ix2 p j) + a (ix3 0 p j) + b (ix3 0 p j) + d (ix3 0 p j) := by
  pointwise [k0_pay9]

theorem first_0 : k0_pay11 (F := Ideal) o a b d x (ix2 p j) = Adam.first (k0_pay9 (F := Ideal) o a b d (ix2 p j)) (x (ix3 0 p j)) := by
  pointwise [k0_pay11]
  rfl

theorem second_0 : k0_pay12 (F := Ideal) o a b d x (ix2 p j) = Adam.second (k0_pay9 (F := Ideal) o a b d (ix2 p j)) (x (ix3 0 p j)) := by
  pointwise [k0_pay12]
  rfl

theorem store_g_0 : k0_pay1 (F := Ideal) u (ix3 0 p j) = u (ix2 p j) := by
  pointwise [k0_pay1]

theorem store_m_0 : k0_pay3 (F := Ideal) u (ix3 0 p j) = u (ix2 p j) := by
  pointwise [k0_pay3]

theorem store_v_0 : k0_pay4 (F := Ideal) u (ix3 0 p j) = u (ix2 p j) := by
  pointwise [k0_pay4]

theorem weight_0 : k0_pay10 (F := Ideal) w (ix2 p j) = w (ix3 0 p j) := by
  pointwise [k0_pay10]

theorem change_0 : k0_pay2 (F := Ideal) u u1 u2 (ix3 0 p j) = Adam.change (u (ix2 p j)) (u1 (ix2 p j)) (u2 (ix2 p j)) := by
  pointwise [k0_pay2]
  rfl

theorem delta_0 : k0_pay2 (F := Ideal) (k0_pay10 w) (k0_pay13 o a b d x) (k0_pay14 o a b d y) (ix3 0 p j)
    = Adam.delta (w (ix3 0 p j)) (k0_pay9 (F := Ideal) o a b d (ix2 p j)) (x (ix3 0 p j)) (y (ix3 0 p j)) := by
  rw [change_0, weight_0]
  unfold Adam.delta
  rw [← first_0, ← second_0]
  rfl

theorem total_1 : k0_pay15 (F := Ideal) o a b d (ix2 p j) = o (ix2 p j) + a (ix3 0 p j) + b (ix3 0 p j) + d (ix3 0 p j) := by
  pointwise [k0_pay15]

theorem first_1 : k0_pay17 (F := Ideal) o a b d x (ix2 p j) = Adam.first (k0_pay15 (F := Ideal) o a b d (ix2 p j)) (x (ix3 0 p j)) := by
  pointwise [k0_pay17]
  rfl

theorem second_1 : k0_pay18 (F := Ideal) o a b d x (ix2 p j) = Adam.second (k0_pay15 (F := Ideal) o a b d (ix2 p j)) (x (ix3 0 p j)) := by
  pointwise [k0_pay18]
  rfl

theorem store_g_1 : k0_pay5 (F := Ideal) u (ix3 0 p j) = u (ix2 p j) := by
  pointwise [k0_pay5]

theorem store_m_1 : k0_pay7 (F := Ideal) u (ix3 0 p j) = u (ix2 p j) := by
  pointwise [k0_pay7]

theorem store_v_1 : k0_pay8 (F := Ideal) u (ix3 0 p j) = u (ix2 p j) := by
  pointwise [k0_pay8]

theorem weight_1 : k0_pay16 (F := Ideal) w (ix2 p j) = w (ix3 0 p j) := by
  pointwise [k0_pay16]

theorem change_1 : k0_pay6 (F := Ideal) u u1 u2 (ix3 0 p j) = Adam.change (u (ix2 p j)) (u1 (ix2 p j)) (u2 (ix2 p j)) := by
  pointwise [k0_pay6]
  rfl

theorem delta_1 : k0_pay6 (F := Ideal) (k0_pay16 w) (k0_pay19 o a b d x) (k0_pay20 o a b d y) (ix3 0 p j)
    = Adam.delta (w (ix3 0 p j)) (k0_pay15 (F := Ideal) o a b d (ix2 p j)) (x (ix3 0 p j)) (y (ix3 0 p j)) := by
  rw [change_1, weight_1]
  unfold Adam.delta
  rw [← first_1, ← second_1]
  rfl

variable (m : (ℓ : Loc nD τ sig) → Buf (Elt Ideal) ℓ) (c : Dev nD)

theorem lt_N (t : Fin cfg0.N) : t.val < 8 := by
  have h := t.isLt
  have hN : cfg0.N = 8 := N_0
  omega

/-! ## The arrays left, as functions of the arguments -/

def grad (i : Shape.Idx S2x1024x384) : EReal :=
  if (i 0).val < 1 then Adam.total (V m c main_arg0 (ix2 (i 1) (i 2))) fun k => V m c main_arg2 (ix3 k (i 1) (i 2))
  else Adam.total (V m c main_arg1 (ix2 (i 1) (i 2))) fun k => V m c main_arg3 (ix3 k (i 1) (i 2))
def delta (i : Shape.Idx S2x1024x384) : EReal := Adam.delta (V m c main_arg4 i) (grad m c i) (V m c main_arg5 i) (V m c main_arg6 i)
def first (i : Shape.Idx S2x1024x384) : EReal := Adam.first (grad m c i) (V m c main_arg5 i)
def second (i : Shape.Idx S2x1024x384) : EReal := Adam.second (grad m c i) (V m c main_arg6 i)

/-- The layer of a grid point. -/
abbrev layer (t : Fin cfg0.N) : Fin 2 := ⟨t.val / 4, by have := lt_N t; omega⟩

/-- Row `p` of a grid point's block. -/
abbrev row (t : Fin cfg0.N) (p : Fin 256) : Fin 1024 := ⟨t.val % 4 * 256 + p.val, by have := p.isLt; omega⟩

/-! ## The blocks as rows of the arguments -/

theorem idx_0 (t : Fin cfg0.N) (h : t.val < 4) : win0_0.index t 0 = t.val % 4 ∧ win0_0.index t 1 = 0 :=
  (by decide +kernel : ∀ t : Fin grid0.N, t.val < 4 → win0_0.index t 0 = t.val % 4 ∧ win0_0.index t 1 = 0) t h

theorem own_0 (t : Fin cfg0.N) (h : t.val < 4) (p : Fin 256) (k : Fin 384) : iblk m c 0 t (ix2 p k) = V m c main_arg0 (ix2 (row t p) k) := by
  have hi := idx_0 t h
  unfold iblk
  rw [View.read_apply]
  show V m c main_arg0 _ = V m c main_arg0 _
  congr 1; funext a; apply Fin.ext
  match a with
  | ⟨0, _⟩ => show win0_0.index t 0 * 256 + 1 * p.val = t.val % 4 * 256 + p.val; rw [hi.1]; omega
  | ⟨1, _⟩ => show win0_0.index t 1 * 384 + 1 * k.val = k.val; rw [hi.2]; omega

theorem idx_2 (t : Fin cfg0.N) (h : t.val < 4) : win0_2.index t 0 = 0 ∧ win0_2.index t 1 = t.val % 4 ∧ win0_2.index t 2 = 0 :=
  (by decide +kernel : ∀ t : Fin grid0.N, t.val < 4 → win0_2.index t 0 = 0 ∧ win0_2.index t 1 = t.val % 4 ∧ win0_2.index t 2 = 0) t h

theorem rblk_0 (t : Fin cfg0.N) (h : t.val < 4) (q : Fin 3) (p : Fin 256) (k : Fin 384) : iblk m c 2 t (ix3 q p k) = V m c main_arg2 (ix3 q (row t p) k) := by
  have hi := idx_2 t h
  unfold iblk
  rw [View.read_apply]
  show V m c main_arg2 _ = V m c main_arg2 _
  congr 1; funext a; apply Fin.ext
  match a with
  | ⟨0, _⟩ => show win0_2.index t 0 * 3 + 1 * q.val = q.val; rw [hi.1]; omega
  | ⟨1, _⟩ => show win0_2.index t 1 * 256 + 1 * p.val = t.val % 4 * 256 + p.val; rw [hi.2.1]; omega
  | ⟨2, _⟩ => show win0_2.index t 2 * 384 + 1 * k.val = k.val; rw [hi.2.2]; omega

theorem recv_0_0 (t : Fin cfg0.N) (h : t.val < 4) (p : Fin 256) (k : Fin 384) : rv00 m c t (ix3 0 p k) = V m c main_arg2 (ix3 0 (row t p) k) := by
  refine Eq.trans (congrArg (iblk m c 2 t) (funext fun a => Fin.ext ?_)) (rblk_0 m c t h 0 p k)
  match a with
  | ⟨0, _⟩ => rfl
  | ⟨1, _⟩ => show 0 + 1 * p.val = p.val; omega
  | ⟨2, _⟩ => show 0 + 1 * k.val = k.val; omega

theorem recv_0_1 (t : Fin cfg0.N) (h : t.val < 4) (p : Fin 256) (k : Fin 384) : rv01 m c t (ix3 0 p k) = V m c main_arg2 (ix3 1 (row t p) k) := by
  refine Eq.trans (congrArg (iblk m c 2 t) (funext fun a => Fin.ext ?_)) (rblk_0 m c t h 1 p k)
  match a with
  | ⟨0, _⟩ => rfl
  | ⟨1, _⟩ => show 0 + 1 * p.val = p.val; omega
  | ⟨2, _⟩ => show 0 + 1 * k.val = k.val; omega

theorem recv_0_2 (t : Fin cfg0.N) (h : t.val < 4) (p : Fin 256) (k : Fin 384) : rv02 m c t (ix3 0 p k) = V m c main_arg2 (ix3 2 (row t p) k) := by
  refine Eq.trans (congrArg (iblk m c 2 t) (funext fun a => Fin.ext ?_)) (rblk_0 m c t h 2 p k)
  match a with
  | ⟨0, _⟩ => rfl
  | ⟨1, _⟩ => show 0 + 1 * p.val = p.val; omega
  | ⟨2, _⟩ => show 0 + 1 * k.val = k.val; omega

theorem grad_0 (t : Fin cfg0.N) (h : t.val < 4) (p : Fin 256) (k : Fin 384) : k0_pay9 (iblk m c 0 t) (rv00 m c t) (rv01 m c t) (rv02 m c t) (ix2 p k) = grad m c (ix3 (layer t) (row t p) k) := by
  rw [total_0, own_0 m c t h, recv_0_0 m c t h, recv_0_1 m c t h, recv_0_2 m c t h]
  exact (if_pos (show t.val / 4 < 1 by omega)).symm

theorem idx_1 (t : Fin cfg0.N) (h : 4 ≤ t.val) : win0_1.index t 0 = t.val % 4 ∧ win0_1.index t 1 = 0 :=
  (by decide +kernel : ∀ t : Fin grid0.N, 4 ≤ t.val → win0_1.index t 0 = t.val % 4 ∧ win0_1.index t 1 = 0) t h

theorem own_1 (t : Fin cfg0.N) (h : 4 ≤ t.val) (p : Fin 256) (k : Fin 384) : iblk m c 1 t (ix2 p k) = V m c main_arg1 (ix2 (row t p) k) := by
  have hi := idx_1 t h
  unfold iblk
  rw [View.read_apply]
  show V m c main_arg1 _ = V m c main_arg1 _
  congr 1; funext a; apply Fin.ext
  match a with
  | ⟨0, _⟩ => show win0_1.index t 0 * 256 + 1 * p.val = t.val % 4 * 256 + p.val; rw [hi.1]; omega
  | ⟨1, _⟩ => show win0_1.index t 1 * 384 + 1 * k.val = k.val; rw [hi.2]; omega

theorem idx_3 (t : Fin cfg0.N) (h : 4 ≤ t.val) : win0_3.index t 0 = 0 ∧ win0_3.index t 1 = t.val % 4 ∧ win0_3.index t 2 = 0 :=
  (by decide +kernel : ∀ t : Fin grid0.N, 4 ≤ t.val → win0_3.index t 0 = 0 ∧ win0_3.index t 1 = t.val % 4 ∧ win0_3.index t 2 = 0) t h

theorem rblk_1 (t : Fin cfg0.N) (h : 4 ≤ t.val) (q : Fin 3) (p : Fin 256) (k : Fin 384) : iblk m c 3 t (ix3 q p k) = V m c main_arg3 (ix3 q (row t p) k) := by
  have hi := idx_3 t h
  unfold iblk
  rw [View.read_apply]
  show V m c main_arg3 _ = V m c main_arg3 _
  congr 1; funext a; apply Fin.ext
  match a with
  | ⟨0, _⟩ => show win0_3.index t 0 * 3 + 1 * q.val = q.val; rw [hi.1]; omega
  | ⟨1, _⟩ => show win0_3.index t 1 * 256 + 1 * p.val = t.val % 4 * 256 + p.val; rw [hi.2.1]; omega
  | ⟨2, _⟩ => show win0_3.index t 2 * 384 + 1 * k.val = k.val; rw [hi.2.2]; omega

theorem recv_1_0 (t : Fin cfg0.N) (h : 4 ≤ t.val) (p : Fin 256) (k : Fin 384) : rv10 m c t (ix3 0 p k) = V m c main_arg3 (ix3 0 (row t p) k) := by
  refine Eq.trans (congrArg (iblk m c 3 t) (funext fun a => Fin.ext ?_)) (rblk_1 m c t h 0 p k)
  match a with
  | ⟨0, _⟩ => rfl
  | ⟨1, _⟩ => show 0 + 1 * p.val = p.val; omega
  | ⟨2, _⟩ => show 0 + 1 * k.val = k.val; omega

theorem recv_1_1 (t : Fin cfg0.N) (h : 4 ≤ t.val) (p : Fin 256) (k : Fin 384) : rv11 m c t (ix3 0 p k) = V m c main_arg3 (ix3 1 (row t p) k) := by
  refine Eq.trans (congrArg (iblk m c 3 t) (funext fun a => Fin.ext ?_)) (rblk_1 m c t h 1 p k)
  match a with
  | ⟨0, _⟩ => rfl
  | ⟨1, _⟩ => show 0 + 1 * p.val = p.val; omega
  | ⟨2, _⟩ => show 0 + 1 * k.val = k.val; omega

theorem recv_1_2 (t : Fin cfg0.N) (h : 4 ≤ t.val) (p : Fin 256) (k : Fin 384) : rv12 m c t (ix3 0 p k) = V m c main_arg3 (ix3 2 (row t p) k) := by
  refine Eq.trans (congrArg (iblk m c 3 t) (funext fun a => Fin.ext ?_)) (rblk_1 m c t h 2 p k)
  match a with
  | ⟨0, _⟩ => rfl
  | ⟨1, _⟩ => show 0 + 1 * p.val = p.val; omega
  | ⟨2, _⟩ => show 0 + 1 * k.val = k.val; omega

theorem grad_1 (t : Fin cfg0.N) (h : 4 ≤ t.val) (p : Fin 256) (k : Fin 384) : k0_pay15 (iblk m c 1 t) (rv10 m c t) (rv11 m c t) (rv12 m c t) (ix2 p k) = grad m c (ix3 (layer t) (row t p) k) := by
  rw [total_1, own_1 m c t h, recv_1_0 m c t h, recv_1_1 m c t h, recv_1_2 m c t h]
  exact (if_neg (show ¬t.val / 4 < 1 by omega)).symm

theorem idx_4 (t : Fin cfg0.N) : win0_4.index t 0 = t.val / 4 ∧ win0_4.index t 1 = t.val % 4 ∧ win0_4.index t 2 = 0 :=
  (by decide +kernel : ∀ t : Fin grid0.N, win0_4.index t 0 = t.val / 4 ∧ win0_4.index t 1 = t.val % 4 ∧ win0_4.index t 2 = 0) t

/-- Where a block of a layered array lies: windows 4 to 10 have the same blocks. -/
theorem place (t : Fin cfg0.N) (y : Shape.Idx S1x256x384) (a : Fin 3) :
    (ix3 (layer t) (row t (y 1)) (y 2) a).val = win0_4.index t a * S1x256x384.size a + 1 * (y a).val := by
  have hi := idx_4 t
  have h0 : (y 0).val < 1 := (y 0).isLt
  match a with
  | ⟨0, _⟩ => show t.val / 4 = win0_4.index t 0 * 1 + 1 * (y 0).val; rw [hi.1]; omega
  | ⟨1, _⟩ => show t.val % 4 * 256 + (y 1).val = win0_4.index t 1 * 256 + 1 * (y 1).val; rw [hi.2.1]; omega
  | ⟨2, _⟩ => show (y 2).val = win0_4.index t 2 * 384 + 1 * (y 2).val; rw [hi.2.2]; omega

/-- The grid point whose block holds an index. -/
abbrev point (i : Shape.Idx S2x1024x384) : Fin cfg0.N := ⟨(i 0).val * 4 + (i 1).val / 256, by
  have h0 : (i 0).val < 2 := (i 0).isLt
  have h1 : (i 1).val < 1024 := (i 1).isLt
  have hN : cfg0.N = 8 := N_0
  omega⟩

theorem holds (i : Shape.Idx S2x1024x384) (a : Fin 3) :
    win0_4.index (point i) a * S1x256x384.size a ≤ (i a).val ∧ (i a).val < win0_4.index (point i) a * S1x256x384.size a + S1x256x384.size a := by
  have hi := idx_4 (point i)
  have h0 : (i 0).val < 2 := (i 0).isLt
  have h1 : (i 1).val < 1024 := (i 1).isLt
  have h2 : (i 2).val < 384 := (i 2).isLt
  have hv : (point i).val = (i 0).val * 4 + (i 1).val / 256 := rfl
  match a with
  | ⟨0, _⟩ => show win0_4.index (point i) 0 * 1 ≤ (i 0).val ∧ (i 0).val < win0_4.index (point i) 0 * 1 + 1; rw [hi.1]; omega
  | ⟨1, _⟩ => show win0_4.index (point i) 1 * 256 ≤ (i 1).val ∧ (i 1).val < win0_4.index (point i) 1 * 256 + 256; rw [hi.2.1]; omega
  | ⟨2, _⟩ => show win0_4.index (point i) 2 * 384 ≤ (i 2).val ∧ (i 2).val < win0_4.index (point i) 2 * 384 + 384; rw [hi.2.2]; omega

theorem blk_4 (t : Fin cfg0.N) (p : Fin 256) (k : Fin 384) : iblk m c 4 t (ix3 0 p k) = V m c main_arg4 (ix3 (layer t) (row t p) k) := by
  unfold iblk
  rw [View.read_apply]
  exact congrArg (V m c main_arg4) (funext fun a => Fin.ext (place t (ix3 0 p k) a).symm)

theorem blk_5 (t : Fin cfg0.N) (p : Fin 256) (k : Fin 384) : iblk m c 5 t (ix3 0 p k) = V m c main_arg5 (ix3 (layer t) (row t p) k) := by
  unfold iblk
  rw [View.read_apply]
  exact congrArg (V m c main_arg5) (funext fun a => Fin.ext (place t (ix3 0 p k) a).symm)

theorem blk_6 (t : Fin cfg0.N) (p : Fin 256) (k : Fin 384) : iblk m c 6 t (ix3 0 p k) = V m c main_arg6 (ix3 (layer t) (row t p) k) := by
  unfold iblk
  rw [View.read_apply]
  exact congrArg (V m c main_arg6) (funext fun a => Fin.ext (place t (ix3 0 p k) a).symm)

/-! ## The arrays left -/

theorem part_7 (t : Fin cfg0.N) (y : Shape.Idx S1x256x384) : (outsAt0 m c t.val t.isLt).1 y = grad m c (ix3 (layer t) (row t (y 1)) (y 2)) := by
  have hN := lt_N t
  obtain ⟨z, p, r, rfl⟩ : ∃ (z : Fin 1) (p : Fin 256) (r : Fin 384), y = ix3 z p r := ⟨_, _, _, eq_ix3 y⟩
  obtain rfl : z = 0 := Subsingleton.elim _ _
  by_cases h : t.val < 4
  · rw [outs_7_A m c t (by omega) (by omega), store_g_0, grad_0 m c t h]
    rfl
  · rw [outs_7_B m c t (by omega) (by omega), store_g_1, grad_1 m c t (by omega)]
    rfl

theorem final_7 : (dats m 0 c).arrAt 7 cfg0.N = grad m c := by
  refine (dats m 0 c).arrAt_eq_of_cover 7 _ (fun t _ => ?_) (fun i => ?_)
  · rw [Value.flushed7]
    funext y
    rw [View.read_apply]
    exact (part_7 m c t y).trans (congrArg (grad m c) (funext fun a => Fin.ext (place t y a)))
  · refine ⟨point i, flush0_7 (point i), ?_⟩
    show i ∈ ((View.whole main_v0_0).slice (win0_7.rect (point i))).set
    rw [View.set_slice_whole, Rect.mem_set_unit]
    exact holds i

theorem part_8 (t : Fin cfg0.N) (y : Shape.Idx S1x256x384) : (outsAt0 m c t.val t.isLt).2.1 y = delta m c (ix3 (layer t) (row t (y 1)) (y 2)) := by
  have hN := lt_N t
  obtain ⟨z, p, r, rfl⟩ : ∃ (z : Fin 1) (p : Fin 256) (r : Fin 384), y = ix3 z p r := ⟨_, _, _, eq_ix3 y⟩
  obtain rfl : z = 0 := Subsingleton.elim _ _
  by_cases h : t.val < 4
  · rw [outs_8_A m c t (by omega) (by omega), delta_0, grad_0 m c t h, blk_4, blk_5, blk_6]
    rfl
  · rw [outs_8_B m c t (by omega) (by omega), delta_1, grad_1 m c t (by omega), blk_4, blk_5, blk_6]
    rfl

theorem final_8 : (dats m 0 c).arrAt 8 cfg0.N = delta m c := by
  refine (dats m 0 c).arrAt_eq_of_cover 8 _ (fun t _ => ?_) (fun i => ?_)
  · rw [Value.flushed8]
    funext y
    rw [View.read_apply]
    exact (part_8 m c t y).trans (congrArg (delta m c) (funext fun a => Fin.ext (place t y a)))
  · refine ⟨point i, flush0_8 (point i), ?_⟩
    show i ∈ ((View.whole main_v0_1).slice (win0_8.rect (point i))).set
    rw [View.set_slice_whole, Rect.mem_set_unit]
    exact holds i

theorem part_9 (t : Fin cfg0.N) (y : Shape.Idx S1x256x384) : (outsAt0 m c t.val t.isLt).2.2.1 y = first m c (ix3 (layer t) (row t (y 1)) (y 2)) := by
  have hN := lt_N t
  obtain ⟨z, p, r, rfl⟩ : ∃ (z : Fin 1) (p : Fin 256) (r : Fin 384), y = ix3 z p r := ⟨_, _, _, eq_ix3 y⟩
  obtain rfl : z = 0 := Subsingleton.elim _ _
  by_cases h : t.val < 4
  · rw [outs_9_A m c t (by omega) (by omega), store_m_0, first_0, grad_0 m c t h, blk_5]
    rfl
  · rw [outs_9_B m c t (by omega) (by omega), store_m_1, first_1, grad_1 m c t (by omega), blk_5]
    rfl

theorem final_9 : (dats m 0 c).arrAt 9 cfg0.N = first m c := by
  refine (dats m 0 c).arrAt_eq_of_cover 9 _ (fun t _ => ?_) (fun i => ?_)
  · rw [Value.flushed9]
    funext y
    rw [View.read_apply]
    exact (part_9 m c t y).trans (congrArg (first m c) (funext fun a => Fin.ext (place t y a)))
  · refine ⟨point i, flush0_9 (point i), ?_⟩
    show i ∈ ((View.whole main_v0_2).slice (win0_9.rect (point i))).set
    rw [View.set_slice_whole, Rect.mem_set_unit]
    exact holds i

theorem part_10 (t : Fin cfg0.N) (y : Shape.Idx S1x256x384) : (outsAt0 m c t.val t.isLt).2.2.2 y = second m c (ix3 (layer t) (row t (y 1)) (y 2)) := by
  have hN := lt_N t
  obtain ⟨z, p, r, rfl⟩ : ∃ (z : Fin 1) (p : Fin 256) (r : Fin 384), y = ix3 z p r := ⟨_, _, _, eq_ix3 y⟩
  obtain rfl : z = 0 := Subsingleton.elim _ _
  by_cases h : t.val < 4
  · rw [outs_10_A m c t (by omega) (by omega), store_v_0, second_0, grad_0 m c t h, blk_6]
    rfl
  · rw [outs_10_B m c t (by omega) (by omega), store_v_1, second_1, grad_1 m c t (by omega), blk_6]
    rfl

theorem final_10 : (dats m 0 c).arrAt 10 cfg0.N = second m c := by
  refine (dats m 0 c).arrAt_eq_of_cover 10 _ (fun t _ => ?_) (fun i => ?_)
  · rw [Value.flushed10]
    funext y
    rw [View.read_apply]
    exact (part_10 m c t y).trans (congrArg (second m c) (funext fun a => Fin.ext (place t y a)))
  · refine ⟨point i, flush0_10 (point i), ?_⟩
    show i ∈ ((View.whole main_v0_3).slice (win0_10.rect (point i))).set
    rw [View.set_slice_whole, Rect.mem_set_unit]
    exact holds i

end Cert.Kernel16Ideal.Final

end
-- ==== Proof.AdamWinClaims.lean ====
/-
  The claims about the optimiser's call on `w_in`: the reference's run, and the equality of the call's arrays with the
  reference's over the extended reals.
-/
module

public import proofs.«01_k».proof.Defs
public import proofs.«01_k».proof.Proof.AdamWinValue
public import proofs.«01_k».proof.Proof.Gen.Kernel16.Frame
public import proofs.«01_k».proof.Proof.Gen.Reference16Ideal.Run
public import proofs.«01_k».proof.Proof.Gen.Reference16Ideal.Read
public import Idealize.ShloMosaic.Lib.IdealHost
public import Idealize.ShloMosaic.Adequacy
public import Idealize.ShloMosaic.Lib.Quiescent

@[expose] public section

set_option maxRecDepth 16384

noncomputable section

namespace Cert.Reference16Ideal.Grad

open Cert.Reference16Ideal Cert.Reference16Ideal.Read Idealize.ShloMosaic

theorem zero_0 : val_main_cst (F := Ideal) (Shape.Idx.first Gen.h_S_) = 0 := Ideal.ofBits_zero_f32

theorem zero_1 : val_main_cst_0 (F := Ideal) (Shape.Idx.first Gen.h_S_) = 0 := Ideal.ofBits_zero_f32

/-- The reference's gradient, at an index. -/
theorem grad_at (x0 x1 : FVec Ideal S1024x384 .f32) (x2 x3 : FVec Ideal S3x1024x384 .bf16) (i : Shape.Idx S2x1024x384) :
    val_main_v8 (F := Ideal) x0 x1 x2 x3 i
      = if (i 0).val < 1 then Adam.total (x0 (ix2 (i 1) (i 2))) fun k => x2 (ix3 k (i 1) (i 2))
        else Adam.total (x1 (ix2 (i 1) (i 2))) fun k => x3 (ix3 k (i 1) (i 2)) := by
  idx_vars i
  pointwise [val_main_v8, val_main_v7, val_main_v6, val_main_v5, val_main_v4, val_main_v3, val_main_v2, val_main_v1, val_main_v0]
  simp only [zero_0, zero_1, ← Adam.total_eq]
  rfl

end Cert.Reference16Ideal.Grad

namespace Cert.AdamWin

open Kernel16Ideal Kernel16Ideal.Gen Idealize.ShloMosaic Idealize.ShloMosaic.TcCoe Idealize.SL.Sem

theorem out_7 (m : (ℓ : Loc nD τ sig) → Buf (Elt Ideal) ℓ) (c : Dev nD)
    {x0 x1 x2 x3} (h0 : x0 = V m c main_arg0) (h1 : x1 = V m c main_arg1) (h2 : x2 = V m c main_arg2) (h3 : x3 = V m c main_arg3) :
    Reference16Ideal.Read.val_main_v8 (F := Ideal) x0 x1 x2 x3 = (dats m 0 c).arrAt 7 cfg0.N := by
  subst h0 h1 h2 h3
  refine Eq.trans ?_ (Kernel16Ideal.Final.final_7 m c).symm
  funext i
  exact Reference16Ideal.Grad.grad_at (V m c main_arg0) (V m c main_arg1) (V m c main_arg2) (V m c main_arg3) i

theorem out_8 (m : (ℓ : Loc nD τ sig) → Buf (Elt Ideal) ℓ) (c : Dev nD)
    {x0 x1 x2 x3 x4 x5 x6} (h0 : x0 = V m c main_arg0) (h1 : x1 = V m c main_arg1) (h2 : x2 = V m c main_arg2) (h3 : x3 = V m c main_arg3) (h4 : x4 = V m c main_arg4) (h5 : x5 = V m c main_arg5) (h6 : x6 = V m c main_arg6) :
    Reference16Ideal.Read.val_main_v32 (F := Ideal) x0 x1 x2 x3 x4 x5 x6 = (dats m 0 c).arrAt 8 cfg0.N := by
  subst h0 h1 h2 h3 h4 h5 h6
  refine Eq.trans ?_ (Kernel16Ideal.Final.final_8 m c).symm
  funext i
  exact congrArg (fun g => Adam.delta (V m c main_arg4 i) g (V m c main_arg5 i) (V m c main_arg6 i)) (Reference16Ideal.Grad.grad_at (V m c main_arg0) (V m c main_arg1) (V m c main_arg2) (V m c main_arg3) i)

theorem out_9 (m : (ℓ : Loc nD τ sig) → Buf (Elt Ideal) ℓ) (c : Dev nD)
    {x0 x1 x2 x3 x5} (h0 : x0 = V m c main_arg0) (h1 : x1 = V m c main_arg1) (h2 : x2 = V m c main_arg2) (h3 : x3 = V m c main_arg3) (h5 : x5 = V m c main_arg5) :
    Reference16Ideal.Read.val_main_v13 (F := Ideal) x0 x1 x2 x3 x5 = (dats m 0 c).arrAt 9 cfg0.N := by
  subst h0 h1 h2 h3 h5
  refine Eq.trans ?_ (Kernel16Ideal.Final.final_9 m c).symm
  funext i
  exact congrArg (fun g => Adam.first g (V m c main_arg5 i)) (Reference16Ideal.Grad.grad_at (V m c main_arg0) (V m c main_arg1) (V m c main_arg2) (V m c main_arg3) i)

theorem out_10 (m : (ℓ : Loc nD τ sig) → Buf (Elt Ideal) ℓ) (c : Dev nD)
    {x0 x1 x2 x3 x6} (h0 : x0 = V m c main_arg0) (h1 : x1 = V m c main_arg1) (h2 : x2 = V m c main_arg2) (h3 : x3 = V m c main_arg3) (h6 : x6 = V m c main_arg6) :
    Reference16Ideal.Read.val_main_v19 (F := Ideal) x0 x1 x2 x3 x6 = (dats m 0 c).arrAt 10 cfg0.N := by
  subst h0 h1 h2 h3 h6
  refine Eq.trans ?_ (Kernel16Ideal.Final.final_10 m c).symm
  funext i
  exact congrArg (fun g => Adam.second g (V m c main_arg6 i)) (Reference16Ideal.Grad.grad_at (V m c main_arg0) (V m c main_arg1) (V m c main_arg2) (V m c main_arg3) i)

/-- The reference runs and leaves its arguments alone. -/
theorem frame_reference : Cert.quiescent_Reference16Ideal := fun m g _ =>
  (θ_run Reference16Ideal.defs _ _).mono (fun r h => ⟨fun c => (h c).2.2.2.2, sem_eq_zero_of_no_sems (by decide) r.2⟩)
    (Reference16Ideal.Value.run m g)

/-- The call's arrays and the reference's are equal, element by element, over the extended reals. -/
theorem algebraic : Cert.algebraic_Kernel16Ideal_Reference16Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N,
    Kernel16Ideal.Value.run_blocks m g,
    (θ_run Reference16Ideal.defs _ _).mono (fun r h c => ?_) (Reference16Ideal.Value.run m' g')⟩
  obtain ⟨a0, a1, a2, a3, a4, a5, a6⟩ := hargs c
  have hc := h c
  exact ⟨hc.1.trans ((Reference16Ideal.Read.val_main_v8_eq _ _ _ _).trans (out_7 m c a0 a1 a2 a3)),
    hc.2.1.trans ((Reference16Ideal.Read.val_main_v32_eq _ _ _ _ _ _ _).trans (out_8 m c a0 a1 a2 a3 a4 a5 a6)),
    hc.2.2.1.trans ((Reference16Ideal.Read.val_main_v13_eq _ _ _ _ _).trans (out_9 m c a0 a1 a2 a3 a5)),
    hc.2.2.2.1.trans ((Reference16Ideal.Read.val_main_v19_eq _ _ _ _ _).trans (out_10 m c a0 a1 a2 a3 a6)),
    hc.2.2.2.2⟩

end Cert.AdamWin

end
-- ==== Proof.AdamWoBlocks.lean ====
/-
  What the optimiser's call on `w_o` leaves in each of its output windows at a grid point, as the named payloads of the
  point's input blocks, over any float values.
-/
module

public import proofs.«01_k».proof.Proof.Gen.Kernel17Ideal.Frame
public import Idealize.ShloMosaic.Lib.Pipeline.Value
public import Idealize.ShloMosaic.Lib.Pipeline.ValueKit.Acc
public import Idealize.ShloMosaic.Lib.Tactic

@[expose] public section

set_option maxRecDepth 16384

noncomputable section

namespace Cert.Kernel17Ideal.Blocks

open Cert.Kernel17Ideal Cert.Kernel17Ideal.Gen Idealize.ShloMosaic Idealize.ShloMosaic.TcCoe Idealize.SL.Sem

variable {F : FTy → Type} [FloatOps F]
variable (m : (ℓ : Loc nD τ sig) → Buf (Elt F) ℓ)

theorem hz2 : (![0, 0] : Fin 2 → Nat) = fun _ => 0 := funext fun a => by fin_cases a <;> rfl

theorem hz3 : (![0, 0, 0] : Fin 3 → Nat) = fun _ => 0 := funext fun a => by fin_cases a <;> rfl

/-- Received part 0 of layer 0, at a grid point. -/
abbrev rv00 (c : Dev nD) (t : Fin cfg0.N) : Vec F S1x128x1024 .bf16 :=
  View.ld (iblk m c 2 t) (Rect.unit (s := S3x128x1024) ![0, 0, 0] S1x128x1024.size inb_S3x128x1024_S1x128x1024_0_0_0)

/-- Received part 1 of layer 0, at a grid point. -/
abbrev rv01 (c : Dev nD) (t : Fin cfg0.N) : Vec F S1x128x1024 .bf16 :=
  View.ld (iblk m c 2 t) (Rect.unit (s := S3x128x1024) ![1, 0, 0] S1x128x1024.size inb_S3x128x1024_S1x128x1024_1_0_0)

/-- Received part 2 of layer 0, at a grid point. -/
abbrev rv02 (c : Dev nD) (t : Fin cfg0.N) : Vec F S1x128x1024 .bf16 :=
  View.ld (iblk m c 2 t) (Rect.unit (s := S3x128x1024) ![2, 0, 0] S1x128x1024.size inb_S3x128x1024_S1x128x1024_2_0_0)

/-- Received part 0 of layer 1, at a grid point. -/
abbrev rv10 (c : Dev nD) (t : Fin cfg0.N) : Vec F S1x128x1024 .bf16 :=
  View.ld (iblk m c 3 t) (Rect.unit (s := S3x128x1024) ![0, 0, 0] S1x128x1024.size inb_S3x128x1024_S1x128x1024_0_0_0)

/-- Received part 1 of layer 1, at a grid point. -/
abbrev rv11 (c : Dev nD) (t : Fin cfg0.N) : Vec F S1x128x1024 .bf16 :=
  View.ld (iblk m c 3 t) (Rect.unit (s := S3x128x1024) ![1, 0, 0] S1x128x1024.size inb_S3x128x1024_S1x128x1024_1_0_0)

/-- Received part 2 of layer 1, at a grid point. -/
abbrev rv12 (c : Dev nD) (t : Fin cfg0.N) : Vec F S1x128x1024 .bf16 :=
  View.ld (iblk m c 3 t) (Rect.unit (s := S3x128x1024) ![2, 0, 0] S1x128x1024.size inb_S3x128x1024_S1x128x1024_2_0_0)

theorem outs_7_A (c : Dev nD) (t : Fin cfg0.N) (h0 : t.val % 2 = 0) (h1 : ¬t.val % 2 = 1) : (outsAt0 m c t.val t.isLt).1 = k0_pay1 (k0_pay9 (iblk m c 0 t) (rv00 m c t) (rv01 m c t) (rv02 m c t)) := by
  rw [outsAt0_A m c t h0 h1]
  dsimp only
  unfold out0_A_7
  refine (View.read_writes_eq_canon _ _ _ (fun y => cover0_A_7 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_7_B (c : Dev nD) (t : Fin cfg0.N) (h0 : ¬t.val % 2 = 0) (h1 : t.val % 2 = 1) : (outsAt0 m c t.val t.isLt).1 = k0_pay5 (k0_pay15 (iblk m c 1 t) (rv10 m c t) (rv11 m c t) (rv12 m c t)) := by
  rw [outsAt0_B m c t h0 h1]
  dsimp only
  unfold out0_B_7
  refine (View.read_writes_eq_canon _ _ _ (fun y => cover0_B_7 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_8_A (c : Dev nD) (t : Fin cfg0.N) (h0 : t.val % 2 = 0) (h1 : ¬t.val % 2 = 1) : (outsAt0 m c t.val t.isLt).2.1 = k0_pay2 (k0_pay10 (iblk m c 4 t)) (k0_pay13 (iblk m c 0 t) (rv00 m c t) (rv01 m c t) (rv02 m c t) (iblk m c 5 t)) (k0_pay14 (iblk m c 0 t) (rv00 m c t) (rv01 m c t) (rv02 m c t) (iblk m c 6 t)) := by
  rw [outsAt0_A m c t h0 h1]
  dsimp only
  unfold out0_A_8
  refine (View.read_writes_eq_canon _ _ _ (fun y => cover0_A_8 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_8_B (c : Dev nD) (t : Fin cfg0.N) (h0 : ¬t.val % 2 = 0) (h1 : t.val % 2 = 1) : (outsAt0 m c t.val t.isLt).2.1 = k0_pay6 (k0_pay16 (iblk m c 4 t)) (k0_pay19 (iblk m c 1 t) (rv10 m c t) (rv11 m c t) (rv12 m c t) (iblk m c 5 t)) (k0_pay20 (iblk m c 1 t) (rv10 m c t) (rv11 m c t) (rv12 m c t) (iblk m c 6 t)) := by
  rw [outsAt0_B m c t h0 h1]
  dsimp only
  unfold out0_B_8
  refine (View.read_writes_eq_canon _ _ _ (fun y => cover0_B_8 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_9_A (c : Dev nD) (t : Fin cfg0.N) (h0 : t.val % 2 = 0) (h1 : ¬t.val % 2 = 1) : (outsAt0 m c t.val t.isLt).2.2.1 = k0_pay3 (k0_pay11 (iblk m c 0 t) (rv00 m c t) (rv01 m c t) (rv02 m c t) (iblk m c 5 t)) := by
  rw [outsAt0_A m c t h0 h1]
  dsimp only
  unfold out0_A_9
  refine (View.read_writes_eq_canon _ _ _ (fun y => cover0_A_9 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_9_B (c : Dev nD) (t : Fin cfg0.N) (h0 : ¬t.val % 2 = 0) (h1 : t.val % 2 = 1) : (outsAt0 m c t.val t.isLt).2.2.1 = k0_pay7 (k0_pay17 (iblk m c 1 t) (rv10 m c t) (rv11 m c t) (rv12 m c t) (iblk m c 5 t)) := by
  rw [outsAt0_B m c t h0 h1]
  dsimp only
  unfold out0_B_9
  refine (View.read_writes_eq_canon _ _ _ (fun y => cover0_B_9 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_10_A (c : Dev nD) (t : Fin cfg0.N) (h0 : t.val % 2 = 0) (h1 : ¬t.val % 2 = 1) : (outsAt0 m c t.val t.isLt).2.2.2 = k0_pay4 (k0_pay12 (iblk m c 0 t) (rv00 m c t) (rv01 m c t) (rv02 m c t) (iblk m c 6 t)) := by
  rw [outsAt0_A m c t h0 h1]
  dsimp only
  unfold out0_A_10
  refine (View.read_writes_eq_canon _ _ _ (fun y => cover0_A_10 (F := F) (y := y) ..)).trans ?_
  unfold kernelRun0_A
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

theorem outs_10_B (c : Dev nD) (t : Fin cfg0.N) (h0 : ¬t.val % 2 = 0) (h1 : t.val % 2 = 1) : (outsAt0 m c t.val t.isLt).2.2.2 = k0_pay8 (k0_pay18 (iblk m c 1 t) (rv10 m c t) (rv11 m c t) (rv12 m c t) (iblk m c 6 t)) := by
  rw [outsAt0_B m c t h0 h1]
  dsimp only
  unfold out0_B_10
  refine (View.read_writes_eq_canon _ _ _ (fun y => cover0_B_10 (F := F) (y := y) ..)).trans ?_
  unfold kernelRun0_B
  dsimp only
  sl_unfold_words
  rw [View.canon_unit_zero hz3]
  simp only [View.readAt_eq_ld, (hs0_0 t).read_unread, (hs0_1 t).read_unread, (hs0_2 t).read_unread, (hs0_3 t).read_unread, (hs0_4 t).read_unread, (hs0_5 t).read_unread, (hs0_6 t).read_unread, (hs0_7 t).read_unread, View.ld_unit_zero (S := S128x1024) hz2, View.ld_unit_zero (S := S1x128x1024) hz3]
  rfl

end Cert.Kernel17Ideal.Blocks

end
-- ==== Proof.AdamWoValue.lean ====
/-
  The arrays that the optimiser's call on `w_o` leaves, over the extended reals: the sum of the gradient's parts, and the
  optimiser's step on each element.
-/
module

public import proofs.«01_k».proof.Proof.Adam
public import proofs.«01_k».proof.Proof.AdamWoBlocks
public import proofs.«01_k».proof.Proof.Gen.Kernel17Ideal.Value
public import Idealize.ShloMosaic.Lib.Pipeline.ValueKit.Tiles
public import Idealize.ShloMosaic.Lib.Pointwise

@[expose] public section

set_option maxRecDepth 16384

noncomputable section

namespace Cert.Kernel17Ideal.Final

open Cert.Kernel17Ideal Cert.Kernel17Ideal.Gen Cert.Kernel17Ideal.Blocks
open Idealize.ShloMosaic Idealize.ShloMosaic.TcCoe Idealize.SL.Sem

/-! ## The payloads at an index -/

variable (o : Vec Ideal S128x1024 .f32) (a b d : Vec Ideal S1x128x1024 .bf16) (w x y : Vec Ideal S1x128x1024 .f32) (u u1 u2 : FVec Ideal S128x1024 .f32) (p : Fin 128) (j : Fin 1024)

theorem total_0 : k0_pay9 (F := Ideal) o a b d (ix2 p j) = o (ix2 p j) + a (ix3 0 p j) + b (ix3 0 p j) + d (ix3 0 p j) := by
  pointwise [k0_pay9]

theorem first_0 : k0_pay11 (F := Ideal) o a b d x (ix2 p j) = Adam.first (k0_pay9 (F := Ideal) o a b d (ix2 p j)) (x (ix3 0 p j)) := by
  pointwise [k0_pay11]
  rfl

theorem second_0 : k0_pay12 (F := Ideal) o a b d x (ix2 p j) = Adam.second (k0_pay9 (F := Ideal) o a b d (ix2 p j)) (x (ix3 0 p j)) := by
  pointwise [k0_pay12]
  rfl

theorem store_g_0 : k0_pay1 (F := Ideal) u (ix3 0 p j) = u (ix2 p j) := by
  pointwise [k0_pay1]

theorem store_m_0 : k0_pay3 (F := Ideal) u (ix3 0 p j) = u (ix2 p j) := by
  pointwise [k0_pay3]

theorem store_v_0 : k0_pay4 (F := Ideal) u (ix3 0 p j) = u (ix2 p j) := by
  pointwise [k0_pay4]

theorem weight_0 : k0_pay10 (F := Ideal) w (ix2 p j) = w (ix3 0 p j) := by
  pointwise [k0_pay10]

theorem change_0 : k0_pay2 (F := Ideal) u u1 u2 (ix3 0 p j) = Adam.change (u (ix2 p j)) (u1 (ix2 p j)) (u2 (ix2 p j)) := by
  pointwise [k0_pay2]
  rfl

theorem delta_0 : k0_pay2 (F := Ideal) (k0_pay10 w) (k0_pay13 o a b d x) (k0_pay14 o a b d y) (ix3 0 p j)
    = Adam.delta (w (ix3 0 p j)) (k0_pay9 (F := Ideal) o a b d (ix2 p j)) (x (ix3 0 p j)) (y (ix3 0 p j)) := by
  rw [change_0, weight_0]
  unfold Adam.delta
  rw [← first_0, ← second_0]
  rfl

theorem total_1 : k0_pay15 (F := Ideal) o a b d (ix2 p j) = o (ix2 p j) + a (ix3 0 p j) + b (ix3 0 p j) + d (ix3 0 p j) := by
  pointwise [k0_pay15]

theorem first_1 : k0_pay17 (F := Ideal) o a b d x (ix2 p j) = Adam.first (k0_pay15 (F := Ideal) o a b d (ix2 p j)) (x (ix3 0 p j)) := by
  pointwise [k0_pay17]
  rfl

theorem second_1 : k0_pay18 (F := Ideal) o a b d x (ix2 p j) = Adam.second (k0_pay15 (F := Ideal) o a b d (ix2 p j)) (x (ix3 0 p j)) := by
  pointwise [k0_pay18]
  rfl

theorem store_g_1 : k0_pay5 (F := Ideal) u (ix3 0 p j) = u (ix2 p j) := by
  pointwise [k0_pay5]

theorem store_m_1 : k0_pay7 (F := Ideal) u (ix3 0 p j) = u (ix2 p j) := by
  pointwise [k0_pay7]

theorem store_v_1 : k0_pay8 (F := Ideal) u (ix3 0 p j) = u (ix2 p j) := by
  pointwise [k0_pay8]

theorem weight_1 : k0_pay16 (F := Ideal) w (ix2 p j) = w (ix3 0 p j) := by
  pointwise [k0_pay16]

theorem change_1 : k0_pay6 (F := Ideal) u u1 u2 (ix3 0 p j) = Adam.change (u (ix2 p j)) (u1 (ix2 p j)) (u2 (ix2 p j)) := by
  pointwise [k0_pay6]
  rfl

theorem delta_1 : k0_pay6 (F := Ideal) (k0_pay16 w) (k0_pay19 o a b d x) (k0_pay20 o a b d y) (ix3 0 p j)
    = Adam.delta (w (ix3 0 p j)) (k0_pay15 (F := Ideal) o a b d (ix2 p j)) (x (ix3 0 p j)) (y (ix3 0 p j)) := by
  rw [change_1, weight_1]
  unfold Adam.delta
  rw [← first_1, ← second_1]
  rfl

variable (m : (ℓ : Loc nD τ sig) → Buf (Elt Ideal) ℓ) (c : Dev nD)

theorem lt_N (t : Fin cfg0.N) : t.val < 2 := by
  have h := t.isLt
  have hN : cfg0.N = 2 := N_0
  omega

/-! ## The arrays left, as functions of the arguments -/

def grad (i : Shape.Idx S2x128x1024) : EReal :=
  if (i 0).val < 1 then Adam.total (V m c main_arg0 (ix2 (i 1) (i 2))) fun k => V m c main_arg2 (ix3 k (i 1) (i 2))
  else Adam.total (V m c main_arg1 (ix2 (i 1) (i 2))) fun k => V m c main_arg3 (ix3 k (i 1) (i 2))
def delta (i : Shape.Idx S2x128x1024) : EReal := Adam.delta (V m c main_arg4 i) (grad m c i) (V m c main_arg5 i) (V m c main_arg6 i)
def first (i : Shape.Idx S2x128x1024) : EReal := Adam.first (grad m c i) (V m c main_arg5 i)
def second (i : Shape.Idx S2x128x1024) : EReal := Adam.second (grad m c i) (V m c main_arg6 i)

/-- The layer of a grid point. -/
abbrev layer (t : Fin cfg0.N) : Fin 2 := ⟨t.val / 1, by have := lt_N t; omega⟩

/-- Row `p` of a grid point's block. -/
abbrev row (t : Fin cfg0.N) (p : Fin 128) : Fin 128 := ⟨t.val % 1 * 128 + p.val, by have := p.isLt; omega⟩

/-! ## The blocks as rows of the arguments -/

theorem idx_0 (t : Fin cfg0.N) (h : t.val < 1) : win0_0.index t 0 = t.val % 1 ∧ win0_0.index t 1 = 0 :=
  (by decide +kernel : ∀ t : Fin grid0.N, t.val < 1 → win0_0.index t 0 = t.val % 1 ∧ win0_0.index t 1 = 0) t h

theorem own_0 (t : Fin cfg0.N) (h : t.val < 1) (p : Fin 128) (k : Fin 1024) : iblk m c 0 t (ix2 p k) = V m c main_arg0 (ix2 (row t p) k) := by
  have hi := idx_0 t h
  unfold iblk
  rw [View.read_apply]
  show V m c main_arg0 _ = V m c main_arg0 _
  congr 1; funext a; apply Fin.ext
  match a with
  | ⟨0, _⟩ => show win0_0.index t 0 * 128 + 1 * p.val = t.val % 1 * 128 + p.val; rw [hi.1]; omega
  | ⟨1, _⟩ => show win0_0.index t 1 * 1024 + 1 * k.val = k.val; rw [hi.2]; omega

theorem idx_2 (t : Fin cfg0.N) (h : t.val < 1) : win0_2.index t 0 = 0 ∧ win0_2.index t 1 = t.val % 1 ∧ win0_2.index t 2 = 0 :=
  (by decide +kernel : ∀ t : Fin grid0.N, t.val < 1 → win0_2.index t 0 = 0 ∧ win0_2.index t 1 = t.val % 1 ∧ win0_2.index t 2 = 0) t h

theorem rblk_0 (t : Fin cfg0.N) (h : t.val < 1) (q : Fin 3) (p : Fin 128) (k : Fin 1024) : iblk m c 2 t (ix3 q p k) = V m c main_arg2 (ix3 q (row t p) k) := by
  have hi := idx_2 t h
  unfold iblk
  rw [View.read_apply]
  show V m c main_arg2 _ = V m c main_arg2 _
  congr 1; funext a; apply Fin.ext
  match a with
  | ⟨0, _⟩ => show win0_2.index t 0 * 3 + 1 * q.val = q.val; rw [hi.1]; omega
  | ⟨1, _⟩ => show win0_2.index t 1 * 128 + 1 * p.val = t.val % 1 * 128 + p.val; rw [hi.2.1]; omega
  | ⟨2, _⟩ => show win0_2.index t 2 * 1024 + 1 * k.val = k.val; rw [hi.2.2]; omega

theorem recv_0_0 (t : Fin cfg0.N) (h : t.val < 1) (p : Fin 128) (k : Fin 1024) : rv00 m c t (ix3 0 p k) = V m c main_arg2 (ix3 0 (row t p) k) := by
  refine Eq.trans (congrArg (iblk m c 2 t) (funext fun a => Fin.ext ?_)) (rblk_0 m c t h 0 p k)
  match a with
  | ⟨0, _⟩ => rfl
  | ⟨1, _⟩ => show 0 + 1 * p.val = p.val; omega
  | ⟨2, _⟩ => show 0 + 1 * k.val = k.val; omega

theorem recv_0_1 (t : Fin cfg0.N) (h : t.val < 1) (p : Fin 128) (k : Fin 1024) : rv01 m c t (ix3 0 p k) = V m c main_arg2 (ix3 1 (row t p) k) := by
  refine Eq.trans (congrArg (iblk m c 2 t) (funext fun a => Fin.ext ?_)) (rblk_0 m c t h 1 p k)
  match a with
  | ⟨0, _⟩ => rfl
  | ⟨1, _⟩ => show 0 + 1 * p.val = p.val; omega
  | ⟨2, _⟩ => show 0 + 1 * k.val = k.val; omega

theorem recv_0_2 (t : Fin cfg0.N) (h : t.val < 1) (p : Fin 128) (k : Fin 1024) : rv02 m c t (ix3 0 p k) = V m c main_arg2 (ix3 2 (row t p) k) := by
  refine Eq.trans (congrArg (iblk m c 2 t) (funext fun a => Fin.ext ?_)) (rblk_0 m c t h 2 p k)
  match a with
  | ⟨0, _⟩ => rfl
  | ⟨1, _⟩ => show 0 + 1 * p.val = p.val; omega
  | ⟨2, _⟩ => show 0 + 1 * k.val = k.val; omega

theorem grad_0 (t : Fin cfg0.N) (h : t.val < 1) (p : Fin 128) (k : Fin 1024) : k0_pay9 (iblk m c 0 t) (rv00 m c t) (rv01 m c t) (rv02 m c t) (ix2 p k) = grad m c (ix3 (layer t) (row t p) k) := by
  rw [total_0, own_0 m c t h, recv_0_0 m c t h, recv_0_1 m c t h, recv_0_2 m c t h]
  exact (if_pos (show t.val / 1 < 1 by omega)).symm

theorem idx_1 (t : Fin cfg0.N) (h : 1 ≤ t.val) : win0_1.index t 0 = t.val % 1 ∧ win0_1.index t 1 = 0 :=
  (by decide +kernel : ∀ t : Fin grid0.N, 1 ≤ t.val → win0_1.index t 0 = t.val % 1 ∧ win0_1.index t 1 = 0) t h

theorem own_1 (t : Fin cfg0.N) (h : 1 ≤ t.val) (p : Fin 128) (k : Fin 1024) : iblk m c 1 t (ix2 p k) = V m c main_arg1 (ix2 (row t p) k) := by
  have hi := idx_1 t h
  unfold iblk
  rw [View.read_apply]
  show V m c main_arg1 _ = V m c main_arg1 _
  congr 1; funext a; apply Fin.ext
  match a with
  | ⟨0, _⟩ => show win0_1.index t 0 * 128 + 1 * p.val = t.val % 1 * 128 + p.val; rw [hi.1]; omega
  | ⟨1, _⟩ => show win0_1.index t 1 * 1024 + 1 * k.val = k.val; rw [hi.2]; omega

theorem idx_3 (t : Fin cfg0.N) (h : 1 ≤ t.val) : win0_3.index t 0 = 0 ∧ win0_3.index t 1 = t.val % 1 ∧ win0_3.index t 2 = 0 :=
  (by decide +kernel : ∀ t : Fin grid0.N, 1 ≤ t.val → win0_3.index t 0 = 0 ∧ win0_3.index t 1 = t.val % 1 ∧ win0_3.index t 2 = 0) t h

theorem rblk_1 (t : Fin cfg0.N) (h : 1 ≤ t.val) (q : Fin 3) (p : Fin 128) (k : Fin 1024) : iblk m c 3 t (ix3 q p k) = V m c main_arg3 (ix3 q (row t p) k) := by
  have hi := idx_3 t h
  unfold iblk
  rw [View.read_apply]
  show V m c main_arg3 _ = V m c main_arg3 _
  congr 1; funext a; apply Fin.ext
  match a with
  | ⟨0, _⟩ => show win0_3.index t 0 * 3 + 1 * q.val = q.val; rw [hi.1]; omega
  | ⟨1, _⟩ => show win0_3.index t 1 * 128 + 1 * p.val = t.val % 1 * 128 + p.val; rw [hi.2.1]; omega
  | ⟨2, _⟩ => show win0_3.index t 2 * 1024 + 1 * k.val = k.val; rw [hi.2.2]; omega

theorem recv_1_0 (t : Fin cfg0.N) (h : 1 ≤ t.val) (p : Fin 128) (k : Fin 1024) : rv10 m c t (ix3 0 p k) = V m c main_arg3 (ix3 0 (row t p) k) := by
  refine Eq.trans (congrArg (iblk m c 3 t) (funext fun a => Fin.ext ?_)) (rblk_1 m c t h 0 p k)
  match a with
  | ⟨0, _⟩ => rfl
  | ⟨1, _⟩ => show 0 + 1 * p.val = p.val; omega
  | ⟨2, _⟩ => show 0 + 1 * k.val = k.val; omega

theorem recv_1_1 (t : Fin cfg0.N) (h : 1 ≤ t.val) (p : Fin 128) (k : Fin 1024) : rv11 m c t (ix3 0 p k) = V m c main_arg3 (ix3 1 (row t p) k) := by
  refine Eq.trans (congrArg (iblk m c 3 t) (funext fun a => Fin.ext ?_)) (rblk_1 m c t h 1 p k)
  match a with
  | ⟨0, _⟩ => rfl
  | ⟨1, _⟩ => show 0 + 1 * p.val = p.val; omega
  | ⟨2, _⟩ => show 0 + 1 * k.val = k.val; omega

theorem recv_1_2 (t : Fin cfg0.N) (h : 1 ≤ t.val) (p : Fin 128) (k : Fin 1024) : rv12 m c t (ix3 0 p k) = V m c main_arg3 (ix3 2 (row t p) k) := by
  refine Eq.trans (congrArg (iblk m c 3 t) (funext fun a => Fin.ext ?_)) (rblk_1 m c t h 2 p k)
  match a with
  | ⟨0, _⟩ => rfl
  | ⟨1, _⟩ => show 0 + 1 * p.val = p.val; omega
  | ⟨2, _⟩ => show 0 + 1 * k.val = k.val; omega

theorem grad_1 (t : Fin cfg0.N) (h : 1 ≤ t.val) (p : Fin 128) (k : Fin 1024) : k0_pay15 (iblk m c 1 t) (rv10 m c t) (rv11 m c t) (rv12 m c t) (ix2 p k) = grad m c (ix3 (layer t) (row t p) k) := by
  rw [total_1, own_1 m c t h, recv_1_0 m c t h, recv_1_1 m c t h, recv_1_2 m c t h]
  exact (if_neg (show ¬t.val / 1 < 1 by omega)).symm

theorem idx_4 (t : Fin cfg0.N) : win0_4.index t 0 = t.val / 1 ∧ win0_4.index t 1 = t.val % 1 ∧ win0_4.index t 2 = 0 :=
  (by decide +kernel : ∀ t : Fin grid0.N, win0_4.index t 0 = t.val / 1 ∧ win0_4.index t 1 = t.val % 1 ∧ win0_4.index t 2 = 0) t

/-- Where a block of a layered array lies: windows 4 to 10 have the same blocks. -/
theorem place (t : Fin cfg0.N) (y : Shape.Idx S1x128x1024) (a : Fin 3) :
    (ix3 (layer t) (row t (y 1)) (y 2) a).val = win0_4.index t a * S1x128x1024.size a + 1 * (y a).val := by
  have hi := idx_4 t
  have h0 : (y 0).val < 1 := (y 0).isLt
  match a with
  | ⟨0, _⟩ => show t.val / 1 = win0_4.index t 0 * 1 + 1 * (y 0).val; rw [hi.1]; omega
  | ⟨1, _⟩ => show t.val % 1 * 128 + (y 1).val = win0_4.index t 1 * 128 + 1 * (y 1).val; rw [hi.2.1]; omega
  | ⟨2, _⟩ => show (y 2).val = win0_4.index t 2 * 1024 + 1 * (y 2).val; rw [hi.2.2]; omega

/-- The grid point whose block holds an index. -/
abbrev point (i : Shape.Idx S2x128x1024) : Fin cfg0.N := ⟨(i 0).val * 1 + (i 1).val / 128, by
  have h0 : (i 0).val < 2 := (i 0).isLt
  have h1 : (i 1).val < 128 := (i 1).isLt
  have hN : cfg0.N = 2 := N_0
  omega⟩

theorem holds (i : Shape.Idx S2x128x1024) (a : Fin 3) :
    win0_4.index (point i) a * S1x128x1024.size a ≤ (i a).val ∧ (i a).val < win0_4.index (point i) a * S1x128x1024.size a + S1x128x1024.size a := by
  have hi := idx_4 (point i)
  have h0 : (i 0).val < 2 := (i 0).isLt
  have h1 : (i 1).val < 128 := (i 1).isLt
  have h2 : (i 2).val < 1024 := (i 2).isLt
  have hv : (point i).val = (i 0).val * 1 + (i 1).val / 128 := rfl
  match a with
  | ⟨0, _⟩ => show win0_4.index (point i) 0 * 1 ≤ (i 0).val ∧ (i 0).val < win0_4.index (point i) 0 * 1 + 1; rw [hi.1]; omega
  | ⟨1, _⟩ => show win0_4.index (point i) 1 * 128 ≤ (i 1).val ∧ (i 1).val < win0_4.index (point i) 1 * 128 + 128; rw [hi.2.1]; omega
  | ⟨2, _⟩ => show win0_4.index (point i) 2 * 1024 ≤ (i 2).val ∧ (i 2).val < win0_4.index (point i) 2 * 1024 + 1024; rw [hi.2.2]; omega

theorem blk_4 (t : Fin cfg0.N) (p : Fin 128) (k : Fin 1024) : iblk m c 4 t (ix3 0 p k) = V m c main_arg4 (ix3 (layer t) (row t p) k) := by
  unfold iblk
  rw [View.read_apply]
  exact congrArg (V m c main_arg4) (funext fun a => Fin.ext (place t (ix3 0 p k) a).symm)

theorem blk_5 (t : Fin cfg0.N) (p : Fin 128) (k : Fin 1024) : iblk m c 5 t (ix3 0 p k) = V m c main_arg5 (ix3 (layer t) (row t p) k) := by
  unfold iblk
  rw [View.read_apply]
  exact congrArg (V m c main_arg5) (funext fun a => Fin.ext (place t (ix3 0 p k) a).symm)

theorem blk_6 (t : Fin cfg0.N) (p : Fin 128) (k : Fin 1024) : iblk m c 6 t (ix3 0 p k) = V m c main_arg6 (ix3 (layer t) (row t p) k) := by
  unfold iblk
  rw [View.read_apply]
  exact congrArg (V m c main_arg6) (funext fun a => Fin.ext (place t (ix3 0 p k) a).symm)

/-! ## The arrays left -/

theorem part_7 (t : Fin cfg0.N) (y : Shape.Idx S1x128x1024) : (outsAt0 m c t.val t.isLt).1 y = grad m c (ix3 (layer t) (row t (y 1)) (y 2)) := by
  have hN := lt_N t
  obtain ⟨z, p, r, rfl⟩ : ∃ (z : Fin 1) (p : Fin 128) (r : Fin 1024), y = ix3 z p r := ⟨_, _, _, eq_ix3 y⟩
  obtain rfl : z = 0 := Subsingleton.elim _ _
  by_cases h : t.val < 1
  · rw [outs_7_A m c t (by omega) (by omega), store_g_0, grad_0 m c t h]
    rfl
  · rw [outs_7_B m c t (by omega) (by omega), store_g_1, grad_1 m c t (by omega)]
    rfl

theorem final_7 : (dats m 0 c).arrAt 7 cfg0.N = grad m c := by
  refine (dats m 0 c).arrAt_eq_of_cover 7 _ (fun t _ => ?_) (fun i => ?_)
  · rw [Value.flushed7]
    funext y
    rw [View.read_apply]
    exact (part_7 m c t y).trans (congrArg (grad m c) (funext fun a => Fin.ext (place t y a)))
  · refine ⟨point i, flush0_7 (point i), ?_⟩
    show i ∈ ((View.whole main_v0_0).slice (win0_7.rect (point i))).set
    rw [View.set_slice_whole, Rect.mem_set_unit]
    exact holds i

theorem part_8 (t : Fin cfg0.N) (y : Shape.Idx S1x128x1024) : (outsAt0 m c t.val t.isLt).2.1 y = delta m c (ix3 (layer t) (row t (y 1)) (y 2)) := by
  have hN := lt_N t
  obtain ⟨z, p, r, rfl⟩ : ∃ (z : Fin 1) (p : Fin 128) (r : Fin 1024), y = ix3 z p r := ⟨_, _, _, eq_ix3 y⟩
  obtain rfl : z = 0 := Subsingleton.elim _ _
  by_cases h : t.val < 1
  · rw [outs_8_A m c t (by omega) (by omega), delta_0, grad_0 m c t h, blk_4, blk_5, blk_6]
    rfl
  · rw [outs_8_B m c t (by omega) (by omega), delta_1, grad_1 m c t (by omega), blk_4, blk_5, blk_6]
    rfl

theorem final_8 : (dats m 0 c).arrAt 8 cfg0.N = delta m c := by
  refine (dats m 0 c).arrAt_eq_of_cover 8 _ (fun t _ => ?_) (fun i => ?_)
  · rw [Value.flushed8]
    funext y
    rw [View.read_apply]
    exact (part_8 m c t y).trans (congrArg (delta m c) (funext fun a => Fin.ext (place t y a)))
  · refine ⟨point i, flush0_8 (point i), ?_⟩
    show i ∈ ((View.whole main_v0_1).slice (win0_8.rect (point i))).set
    rw [View.set_slice_whole, Rect.mem_set_unit]
    exact holds i

theorem part_9 (t : Fin cfg0.N) (y : Shape.Idx S1x128x1024) : (outsAt0 m c t.val t.isLt).2.2.1 y = first m c (ix3 (layer t) (row t (y 1)) (y 2)) := by
  have hN := lt_N t
  obtain ⟨z, p, r, rfl⟩ : ∃ (z : Fin 1) (p : Fin 128) (r : Fin 1024), y = ix3 z p r := ⟨_, _, _, eq_ix3 y⟩
  obtain rfl : z = 0 := Subsingleton.elim _ _
  by_cases h : t.val < 1
  · rw [outs_9_A m c t (by omega) (by omega), store_m_0, first_0, grad_0 m c t h, blk_5]
    rfl
  · rw [outs_9_B m c t (by omega) (by omega), store_m_1, first_1, grad_1 m c t (by omega), blk_5]
    rfl

theorem final_9 : (dats m 0 c).arrAt 9 cfg0.N = first m c := by
  refine (dats m 0 c).arrAt_eq_of_cover 9 _ (fun t _ => ?_) (fun i => ?_)
  · rw [Value.flushed9]
    funext y
    rw [View.read_apply]
    exact (part_9 m c t y).trans (congrArg (first m c) (funext fun a => Fin.ext (place t y a)))
  · refine ⟨point i, flush0_9 (point i), ?_⟩
    show i ∈ ((View.whole main_v0_2).slice (win0_9.rect (point i))).set
    rw [View.set_slice_whole, Rect.mem_set_unit]
    exact holds i

theorem part_10 (t : Fin cfg0.N) (y : Shape.Idx S1x128x1024) : (outsAt0 m c t.val t.isLt).2.2.2 y = second m c (ix3 (layer t) (row t (y 1)) (y 2)) := by
  have hN := lt_N t
  obtain ⟨z, p, r, rfl⟩ : ∃ (z : Fin 1) (p : Fin 128) (r : Fin 1024), y = ix3 z p r := ⟨_, _, _, eq_ix3 y⟩
  obtain rfl : z = 0 := Subsingleton.elim _ _
  by_cases h : t.val < 1
  · rw [outs_10_A m c t (by omega) (by omega), store_v_0, second_0, grad_0 m c t h, blk_6]
    rfl
  · rw [outs_10_B m c t (by omega) (by omega), store_v_1, second_1, grad_1 m c t (by omega), blk_6]
    rfl

theorem final_10 : (dats m 0 c).arrAt 10 cfg0.N = second m c := by
  refine (dats m 0 c).arrAt_eq_of_cover 10 _ (fun t _ => ?_) (fun i => ?_)
  · rw [Value.flushed10]
    funext y
    rw [View.read_apply]
    exact (part_10 m c t y).trans (congrArg (second m c) (funext fun a => Fin.ext (place t y a)))
  · refine ⟨point i, flush0_10 (point i), ?_⟩
    show i ∈ ((View.whole main_v0_3).slice (win0_10.rect (point i))).set
    rw [View.set_slice_whole, Rect.mem_set_unit]
    exact holds i

end Cert.Kernel17Ideal.Final

end
-- ==== Proof.AdamWoClaims.lean ====
/-
  The claims about the optimiser's call on `w_o`: the reference's run, and the equality of the call's arrays with the
  reference's over the extended reals.
-/
module

public import proofs.«01_k».proof.Defs
public import proofs.«01_k».proof.Proof.AdamWoValue
public import proofs.«01_k».proof.Proof.Gen.Kernel17.Frame
public import proofs.«01_k».proof.Proof.Gen.Reference17Ideal.Run
public import proofs.«01_k».proof.Proof.Gen.Reference17Ideal.Read
public import Idealize.ShloMosaic.Lib.IdealHost
public import Idealize.ShloMosaic.Adequacy
public import Idealize.ShloMosaic.Lib.Quiescent

@[expose] public section

set_option maxRecDepth 16384

noncomputable section

namespace Cert.Reference17Ideal.Grad

open Cert.Reference17Ideal Cert.Reference17Ideal.Read Idealize.ShloMosaic

theorem zero_0 : val_main_cst (F := Ideal) (Shape.Idx.first Gen.h_S_) = 0 := Ideal.ofBits_zero_f32

theorem zero_1 : val_main_cst_0 (F := Ideal) (Shape.Idx.first Gen.h_S_) = 0 := Ideal.ofBits_zero_f32

/-- The reference's gradient, at an index. -/
theorem grad_at (x0 x1 : FVec Ideal S128x1024 .f32) (x2 x3 : FVec Ideal S3x128x1024 .bf16) (i : Shape.Idx S2x128x1024) :
    val_main_v8 (F := Ideal) x0 x1 x2 x3 i
      = if (i 0).val < 1 then Adam.total (x0 (ix2 (i 1) (i 2))) fun k => x2 (ix3 k (i 1) (i 2))
        else Adam.total (x1 (ix2 (i 1) (i 2))) fun k => x3 (ix3 k (i 1) (i 2)) := by
  idx_vars i
  pointwise [val_main_v8, val_main_v7, val_main_v6, val_main_v5, val_main_v4, val_main_v3, val_main_v2, val_main_v1, val_main_v0]
  simp only [zero_0, zero_1, ← Adam.total_eq]
  rfl

end Cert.Reference17Ideal.Grad

namespace Cert.AdamWo

open Kernel17Ideal Kernel17Ideal.Gen Idealize.ShloMosaic Idealize.ShloMosaic.TcCoe Idealize.SL.Sem

theorem out_7 (m : (ℓ : Loc nD τ sig) → Buf (Elt Ideal) ℓ) (c : Dev nD)
    {x0 x1 x2 x3} (h0 : x0 = V m c main_arg0) (h1 : x1 = V m c main_arg1) (h2 : x2 = V m c main_arg2) (h3 : x3 = V m c main_arg3) :
    Reference17Ideal.Read.val_main_v8 (F := Ideal) x0 x1 x2 x3 = (dats m 0 c).arrAt 7 cfg0.N := by
  subst h0 h1 h2 h3
  refine Eq.trans ?_ (Kernel17Ideal.Final.final_7 m c).symm
  funext i
  exact Reference17Ideal.Grad.grad_at (V m c main_arg0) (V m c main_arg1) (V m c main_arg2) (V m c main_arg3) i

theorem out_8 (m : (ℓ : Loc nD τ sig) → Buf (Elt Ideal) ℓ) (c : Dev nD)
    {x0 x1 x2 x3 x4 x5 x6} (h0 : x0 = V m c main_arg0) (h1 : x1 = V m c main_arg1) (h2 : x2 = V m c main_arg2) (h3 : x3 = V m c main_arg3) (h4 : x4 = V m c main_arg4) (h5 : x5 = V m c main_arg5) (h6 : x6 = V m c main_arg6) :
    Reference17Ideal.Read.val_main_v32 (F := Ideal) x0 x1 x2 x3 x4 x5 x6 = (dats m 0 c).arrAt 8 cfg0.N := by
  subst h0 h1 h2 h3 h4 h5 h6
  refine Eq.trans ?_ (Kernel17Ideal.Final.final_8 m c).symm
  funext i
  exact congrArg (fun g => Adam.delta (V m c main_arg4 i) g (V m c main_arg5 i) (V m c main_arg6 i)) (Reference17Ideal.Grad.grad_at (V m c main_arg0) (V m c main_arg1) (V m c main_arg2) (V m c main_arg3) i)

theorem out_9 (m : (ℓ : Loc nD τ sig) → Buf (Elt Ideal) ℓ) (c : Dev nD)
    {x0 x1 x2 x3 x5} (h0 : x0 = V m c main_arg0) (h1 : x1 = V m c main_arg1) (h2 : x2 = V m c main_arg2) (h3 : x3 = V m c main_arg3) (h5 : x5 = V m c main_arg5) :
    Reference17Ideal.Read.val_main_v13 (F := Ideal) x0 x1 x2 x3 x5 = (dats m 0 c).arrAt 9 cfg0.N := by
  subst h0 h1 h2 h3 h5
  refine Eq.trans ?_ (Kernel17Ideal.Final.final_9 m c).symm
  funext i
  exact congrArg (fun g => Adam.first g (V m c main_arg5 i)) (Reference17Ideal.Grad.grad_at (V m c main_arg0) (V m c main_arg1) (V m c main_arg2) (V m c main_arg3) i)

theorem out_10 (m : (ℓ : Loc nD τ sig) → Buf (Elt Ideal) ℓ) (c : Dev nD)
    {x0 x1 x2 x3 x6} (h0 : x0 = V m c main_arg0) (h1 : x1 = V m c main_arg1) (h2 : x2 = V m c main_arg2) (h3 : x3 = V m c main_arg3) (h6 : x6 = V m c main_arg6) :
    Reference17Ideal.Read.val_main_v19 (F := Ideal) x0 x1 x2 x3 x6 = (dats m 0 c).arrAt 10 cfg0.N := by
  subst h0 h1 h2 h3 h6
  refine Eq.trans ?_ (Kernel17Ideal.Final.final_10 m c).symm
  funext i
  exact congrArg (fun g => Adam.second g (V m c main_arg6 i)) (Reference17Ideal.Grad.grad_at (V m c main_arg0) (V m c main_arg1) (V m c main_arg2) (V m c main_arg3) i)

/-- The reference runs and leaves its arguments alone. -/
theorem frame_reference : Cert.quiescent_Reference17Ideal := fun m g _ =>
  (θ_run Reference17Ideal.defs _ _).mono (fun r h => ⟨fun c => (h c).2.2.2.2, sem_eq_zero_of_no_sems (by decide) r.2⟩)
    (Reference17Ideal.Value.run m g)

/-- The call's arrays and the reference's are equal, element by element, over the extended reals. -/
theorem algebraic : Cert.algebraic_Kernel17Ideal_Reference17Ideal := by
  intro m g m' g' _ hargs
  refine ⟨fun c => (dats m 0 c).arrAt 7 cfg0.N, fun c => (dats m 0 c).arrAt 8 cfg0.N, fun c => (dats m 0 c).arrAt 9 cfg0.N, fun c => (dats m 0 c).arrAt 10 cfg0.N,
    Kernel17Ideal.Value.run_blocks m g,
    (θ_run Reference17Ideal.defs _ _).mono (fun r h c => ?_) (Reference17Ideal.Value.run m' g')⟩
  obtain ⟨a0, a1, a2, a3, a4, a5, a6⟩ := hargs c
  have hc := h c
  exact ⟨hc.1.trans ((Reference17Ideal.Read.val_main_v8_eq _ _ _ _).trans (out_7 m c a0 a1 a2 a3)),
    hc.2.1.trans ((Reference17Ideal.Read.val_main_v32_eq _ _ _ _ _ _ _).trans (out_8 m c a0 a1 a2 a3 a4 a5 a6)),
    hc.2.2.1.trans ((Reference17Ideal.Read.val_main_v13_eq _ _ _ _ _).trans (out_9 m c a0 a1 a2 a3 a5)),
    hc.2.2.2.1.trans ((Reference17Ideal.Read.val_main_v19_eq _ _ _ _ _).trans (out_10 m c a0 a1 a2 a3 a6)),
    hc.2.2.2.2⟩

end Cert.AdamWo

end
-- ==== Proof.lean ====
/-
  The proof of `Cert.Claim` (proofs.«01_k».proof.Defs): the frames of the kernels' and the references' runs, and the equality of
  the kernels' arrays with the references' over the extended reals.
-/
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.AttnBwdClaims
public import proofs.«01_k».proof.Proof.GateBwdClaims
public import proofs.«01_k».proof.Proof.NormBwdClaims
public import proofs.«01_k».proof.Proof.GradW2Claims
public import proofs.«01_k».proof.Proof.GradW1Claims
public import proofs.«01_k».proof.Proof.GradWinClaims
public import proofs.«01_k».proof.Proof.GradWoClaims
public import proofs.«01_k».proof.Proof.NormInClaims
public import proofs.«01_k».proof.Proof.AttnOutClaims
public import proofs.«01_k».proof.Proof.MlpOutClaims
public import proofs.«01_k».proof.Proof.MlpLossClaims
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Pre_finite
public import proofs.«01_k».proof.Proof.CaFwdClaims
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.AdamAdaClaims
public import proofs.«01_k».proof.Proof.AdamW1Claims
public import proofs.«01_k».proof.Proof.AdamW2Claims
public import proofs.«01_k».proof.Proof.AdamWinClaims
public import proofs.«01_k».proof.Proof.AdamWoClaims
public import Idealize.ShloMosaic.Adequacy
public import Idealize.ShloMosaic.Init

@[expose] public section

noncomputable section

namespace Cert.Proof

open Idealize.ShloMosaic Idealize.SL.Sem Cert.Kernel

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel17.Gen.facts, Cert.Kernel17Ideal.Gen.facts, Cert.Reference17Ideal.Gen.facts, Cert.Pre_finite.Gen.facts,
  fun m ρ _ => Cert.Kernel.Gen.frame m ρ,
  fun m ρ _ => Cert.KernelIdeal.Gen.frame m ρ,
  AttnBwd.frame_reference,
  fun m ρ _ => Cert.Kernel2.Gen.frame m ρ,
  fun m ρ _ => Cert.Kernel2Ideal.Gen.frame m ρ,
  GateBwd.frame_reference,
  fun m ρ _ => Cert.Kernel3.Gen.frame m ρ,
  fun m ρ _ => Cert.Kernel3Ideal.Gen.frame m ρ,
  NormBwd.frame_reference,
  fun m ρ _ => Cert.Kernel4.Gen.frame m ρ,
  fun m ρ _ => Cert.Kernel4Ideal.Gen.frame m ρ,
  GradW2.frame_reference,
  fun m ρ _ => Cert.Kernel5.Gen.frame m ρ,
  fun m ρ _ => Cert.Kernel5Ideal.Gen.frame m ρ,
  GradW1.frame_reference,
  fun m ρ _ => Cert.Kernel6.Gen.frame m ρ,
  fun m ρ _ => Cert.Kernel6Ideal.Gen.frame m ρ,
  GradWin.frame_reference,
  fun m ρ _ => Cert.Kernel7.Gen.frame m ρ,
  fun m ρ _ => Cert.Kernel7Ideal.Gen.frame m ρ,
  GradWo.frame_reference,
  fun m ρ _ => Cert.Kernel8.Gen.frame m ρ,
  fun m ρ _ => Cert.Kernel8Ideal.Gen.frame m ρ,
  NormIn.frame_reference,
  fun m ρ _ => Cert.Kernel9.Gen.frame m ρ,
  fun m ρ _ => Cert.Kernel9Ideal.Gen.frame m ρ,
  AttnOut.frame_reference,
  fun m ρ _ => Cert.Kernel10.Gen.frame m ρ,
  fun m ρ _ => Cert.Kernel10Ideal.Gen.frame m ρ,
  MlpOut.frame_reference,
  fun m ρ _ => Cert.Kernel11.Gen.frame m ρ,
  fun m ρ _ => Cert.Kernel11Ideal.Gen.frame m ρ,
  MlpLoss.frame_reference,
  fun m ρ _ => Cert.Kernel12.Gen.frame m ρ,
  fun m ρ _ => Cert.Kernel12Ideal.Gen.frame m ρ,
  fun m ρ _ => Cert.Kernel12Ideal.Gen.frame m ρ,
  CaFwd.frame_reference,
  CaFwd.frame_reference_finite,
  fun m ρ _ => Cert.Kernel13.Gen.frame m ρ,
  fun m ρ _ => Cert.Kernel13Ideal.Gen.frame m ρ,
  AdamAda.frame_reference,
  fun m ρ _ => Cert.Kernel14.Gen.frame m ρ,
  fun m ρ _ => Cert.Kernel14Ideal.Gen.frame m ρ,
  AdamW1.frame_reference,
  fun m ρ _ => Cert.Kernel15.Gen.frame m ρ,
  fun m ρ _ => Cert.Kernel15Ideal.Gen.frame m ρ,
  AdamW2.frame_reference,
  fun m ρ _ => Cert.Kernel16.Gen.frame m ρ,
  fun m ρ _ => Cert.Kernel16Ideal.Gen.frame m ρ,
  AdamWin.frame_reference,
  fun m ρ _ => Cert.Kernel17.Gen.frame m ρ,
  fun m ρ _ => Cert.Kernel17Ideal.Gen.frame m ρ,
  AdamWo.frame_reference,
  trivial, AttnBwd.algebraic,
  trivial, GateBwd.algebraic,
  trivial, NormBwd.algebraic,
  trivial, GradW2.algebraic,
  trivial, GradW1.algebraic,
  trivial, GradWin.algebraic,
  trivial, GradWo.algebraic,
  trivial, NormIn.algebraic,
  trivial, AttnOut.algebraic,
  trivial, MlpOut.algebraic,
  trivial, MlpLoss.algebraic,
  CaFwd.preserves, CaFwd.algebraic,
  trivial, AdamAda.algebraic,
  trivial, AdamW1.algebraic,
  trivial, AdamW2.algebraic,
  trivial, AdamWin.algebraic,
  trivial, AdamWo.algebraic⟩

end Cert.Proof

end
